-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_DownAct (m : (ℓ : Loc Cert.DownAct.nD Cert.DownAct.τ Cert.DownAct.sig) → Buf (Elt Bits) ℓ) : Prop :=
  True

def Pre_DownActIdeal (m : (ℓ : Loc Cert.DownActIdeal.nD Cert.DownActIdeal.τ Cert.DownActIdeal.sig) → Buf (Elt Ideal) ℓ) : Prop :=
  True

def Pre_DownActReferenceIdeal (m : (ℓ : Loc Cert.DownActReferenceIdeal.nD Cert.DownActReferenceIdeal.τ Cert.DownActReferenceIdeal.sig) → Buf (Elt Ideal) ℓ) : Prop :=
  True

def Pre_DownWeight (m : (ℓ : Loc Cert.DownWeight.nD Cert.DownWeight.τ Cert.DownWeight.sig) → Buf (Elt Bits) ℓ) : Prop :=
  True

def Pre_DownWeightIdeal (m : (ℓ : Loc Cert.DownWeightIdeal.nD Cert.DownWeightIdeal.τ Cert.DownWeightIdeal.sig) → Buf (Elt Ideal) ℓ) : Prop :=
  True

def Pre_DownWeightReferenceIdeal (m : (ℓ : Loc Cert.DownWeightReferenceIdeal.nD Cert.DownWeightReferenceIdeal.τ Cert.DownWeightReferenceIdeal.sig) → Buf (Elt Ideal) ℓ) : Prop :=
  True

def Pre_UpAct (m : (ℓ : Loc Cert.UpAct.nD Cert.UpAct.τ Cert.UpAct.sig) → Buf (Elt Bits) ℓ) : Prop :=
  True

def Pre_UpActIdeal (m : (ℓ : Loc Cert.UpActIdeal.nD Cert.UpActIdeal.τ Cert.UpActIdeal.sig) → Buf (Elt Ideal) ℓ) : Prop :=
  True

def Pre_UpActReferenceIdeal (m : (ℓ : Loc Cert.UpActReferenceIdeal.nD Cert.UpActReferenceIdeal.τ Cert.UpActReferenceIdeal.sig) → Buf (Elt Ideal) ℓ) : Prop :=
  True

def Pre_UpGate (m : (ℓ : Loc Cert.UpGate.nD Cert.UpGate.τ Cert.UpGate.sig) → Buf (Elt Bits) ℓ) : Prop :=
  True

def Pre_UpGateIdeal (m : (ℓ : Loc Cert.UpGateIdeal.nD Cert.UpGateIdeal.τ Cert.UpGateIdeal.sig) → Buf (Elt Ideal) ℓ) : Prop :=
  True

def Pre_UpGateReferenceIdeal (m : (ℓ : Loc Cert.UpGateReferenceIdeal.nD Cert.UpGateReferenceIdeal.τ Cert.UpGateReferenceIdeal.sig) → Buf (Elt Ideal) ℓ) : Prop :=
  True

def Pre_UpValue (m : (ℓ : Loc Cert.UpValue.nD Cert.UpValue.τ Cert.UpValue.sig) → Buf (Elt Bits) ℓ) : Prop :=
  True

def Pre_UpValueIdeal (m : (ℓ : Loc Cert.UpValueIdeal.nD Cert.UpValueIdeal.τ Cert.UpValueIdeal.sig) → Buf (Elt Ideal) ℓ) : Prop :=
  True

def Pre_UpValueReferenceIdeal (m : (ℓ : Loc Cert.UpValueReferenceIdeal.nD Cert.UpValueReferenceIdeal.τ Cert.UpValueReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_InA (m : (ℓ : Loc Cert.InA.nD Cert.InA.τ Cert.InA.sig) → Buf (Elt Bits) ℓ) : Prop :=
  True

def Pre_InAIdeal (m : (ℓ : Loc Cert.InAIdeal.nD Cert.InAIdeal.τ Cert.InAIdeal.sig) → Buf (Elt Ideal) ℓ) : Prop :=
  True

def Pre_InAReferenceIdeal (m : (ℓ : Loc Cert.InAReferenceIdeal.nD Cert.InAReferenceIdeal.τ Cert.InAReferenceIdeal.sig) → Buf (Elt Ideal) ℓ) : Prop :=
  True

def Pre_InB (m : (ℓ : Loc Cert.InB.nD Cert.InB.τ Cert.InB.sig) → Buf (Elt Bits) ℓ) : Prop :=
  True

def Pre_InBIdeal (m : (ℓ : Loc Cert.InBIdeal.nD Cert.InBIdeal.τ Cert.InBIdeal.sig) → Buf (Elt Ideal) ℓ) : Prop :=
  True

def Pre_InBReferenceIdeal (m : (ℓ : Loc Cert.InBReferenceIdeal.nD Cert.InBReferenceIdeal.τ Cert.InBReferenceIdeal.sig) → Buf (Elt Ideal) ℓ) : Prop :=
  True

def Pre_InC (m : (ℓ : Loc Cert.InC.nD Cert.InC.τ Cert.InC.sig) → Buf (Elt Bits) ℓ) : Prop :=
  True

def Pre_InCIdeal (m : (ℓ : Loc Cert.InCIdeal.nD Cert.InCIdeal.τ Cert.InCIdeal.sig) → Buf (Elt Ideal) ℓ) : Prop :=
  True

def Pre_InCReferenceIdeal (m : (ℓ : Loc Cert.InCReferenceIdeal.nD Cert.InCReferenceIdeal.τ Cert.InCReferenceIdeal.sig) → Buf (Elt Ideal) ℓ) : Prop :=
  True

def Pre_InD (m : (ℓ : Loc Cert.InD.nD Cert.InD.τ Cert.InD.sig) → Buf (Elt Bits) ℓ) : Prop :=
  True

def Pre_InDIdeal (m : (ℓ : Loc Cert.InDIdeal.nD Cert.InDIdeal.τ Cert.InDIdeal.sig) → Buf (Elt Ideal) ℓ) : Prop :=
  True

def Pre_InDReferenceIdeal (m : (ℓ : Loc Cert.InDReferenceIdeal.nD Cert.InDReferenceIdeal.τ Cert.InDReferenceIdeal.sig) → Buf (Elt Ideal) ℓ) : Prop :=
  True

def Pre_InActA (m : (ℓ : Loc Cert.InActA.nD Cert.InActA.τ Cert.InActA.sig) → Buf (Elt Bits) ℓ) : Prop :=
  True

def Pre_InActAIdeal (m : (ℓ : Loc Cert.InActAIdeal.nD Cert.InActAIdeal.τ Cert.InActAIdeal.sig) → Buf (Elt Ideal) ℓ) : Prop :=
  True

def Pre_InActAReferenceIdeal (m : (ℓ : Loc Cert.InActAReferenceIdeal.nD Cert.InActAReferenceIdeal.τ Cert.InActAReferenceIdeal.sig) → Buf (Elt Ideal) ℓ) : Prop :=
  True

def Pre_InActB (m : (ℓ : Loc Cert.InActB.nD Cert.InActB.τ Cert.InActB.sig) → Buf (Elt Bits) ℓ) : Prop :=
  True

def Pre_InActBIdeal (m : (ℓ : Loc Cert.InActBIdeal.nD Cert.InActBIdeal.τ Cert.InActBIdeal.sig) → Buf (Elt Ideal) ℓ) : Prop :=
  True

def Pre_InActBReferenceIdeal (m : (ℓ : Loc Cert.InActBReferenceIdeal.nD Cert.InActBReferenceIdeal.τ Cert.InActBReferenceIdeal.sig) → Buf (Elt Ideal) ℓ) : Prop :=
  True

def Pre_InActC (m : (ℓ : Loc Cert.InActC.nD Cert.InActC.τ Cert.InActC.sig) → Buf (Elt Bits) ℓ) : Prop :=
  True

def Pre_InActCIdeal (m : (ℓ : Loc Cert.InActCIdeal.nD Cert.InActCIdeal.τ Cert.InActCIdeal.sig) → Buf (Elt Ideal) ℓ) : Prop :=
  True

def Pre_InActCReferenceIdeal (m : (ℓ : Loc Cert.InActCReferenceIdeal.nD Cert.InActCReferenceIdeal.τ Cert.InActCReferenceIdeal.sig) → Buf (Elt Ideal) ℓ) : Prop :=
  True

def Pre_InActD (m : (ℓ : Loc Cert.InActD.nD Cert.InActD.τ Cert.InActD.sig) → Buf (Elt Bits) ℓ) : Prop :=
  True

def Pre_InActDIdeal (m : (ℓ : Loc Cert.InActDIdeal.nD Cert.InActDIdeal.τ Cert.InActDIdeal.sig) → Buf (Elt Ideal) ℓ) : Prop :=
  True

def Pre_InActDReferenceIdeal (m : (ℓ : Loc Cert.InActDReferenceIdeal.nD Cert.InActDReferenceIdeal.τ Cert.InActDReferenceIdeal.sig) → Buf (Elt Ideal) ℓ) : Prop :=
  True

def Pre_InWeightQ (m : (ℓ : Loc Cert.InWeightQ.nD Cert.InWeightQ.τ Cert.InWeightQ.sig) → Buf (Elt Bits) ℓ) : Prop :=
  True

def Pre_InWeightQIdeal (m : (ℓ : Loc Cert.InWeightQIdeal.nD Cert.InWeightQIdeal.τ Cert.InWeightQIdeal.sig) → Buf (Elt Ideal) ℓ) : Prop :=
  True

def Pre_InWeightQReferenceIdeal (m : (ℓ : Loc Cert.InWeightQReferenceIdeal.nD Cert.InWeightQReferenceIdeal.τ Cert.InWeightQReferenceIdeal.sig) → Buf (Elt Ideal) ℓ) : Prop :=
  True

def Pre_InWeightV (m : (ℓ : Loc Cert.InWeightV.nD Cert.InWeightV.τ Cert.InWeightV.sig) → Buf (Elt Bits) ℓ) : Prop :=
  True

def Pre_InWeightVIdeal (m : (ℓ : Loc Cert.InWeightVIdeal.nD Cert.InWeightVIdeal.τ Cert.InWeightVIdeal.sig) → Buf (Elt Ideal) ℓ) : Prop :=
  True

def Pre_InWeightVReferenceIdeal (m : (ℓ : Loc Cert.InWeightVReferenceIdeal.nD Cert.InWeightVReferenceIdeal.τ Cert.InWeightVReferenceIdeal.sig) → Buf (Elt Ideal) ℓ) : Prop :=
  True

def Pre_InWeightF (m : (ℓ : Loc Cert.InWeightF.nD Cert.InWeightF.τ Cert.InWeightF.sig) → Buf (Elt Bits) ℓ) : Prop :=
  True

def Pre_InWeightFIdeal (m : (ℓ : Loc Cert.InWeightFIdeal.nD Cert.InWeightFIdeal.τ Cert.InWeightFIdeal.sig) → Buf (Elt Ideal) ℓ) : Prop :=
  True

def Pre_InWeightFReferenceIdeal (m : (ℓ : Loc Cert.InWeightFReferenceIdeal.nD Cert.InWeightFReferenceIdeal.τ Cert.InWeightFReferenceIdeal.sig) → Buf (Elt Ideal) ℓ) : Prop :=
  True

def Pre_InWeightI (m : (ℓ : Loc Cert.InWeightI.nD Cert.InWeightI.τ Cert.InWeightI.sig) → Buf (Elt Bits) ℓ) : Prop :=
  True

def Pre_InWeightIIdeal (m : (ℓ : Loc Cert.InWeightIIdeal.nD Cert.InWeightIIdeal.τ Cert.InWeightIIdeal.sig) → Buf (Elt Ideal) ℓ) : Prop :=
  True

def Pre_InWeightIReferenceIdeal (m : (ℓ : Loc Cert.InWeightIReferenceIdeal.nD Cert.InWeightIReferenceIdeal.τ Cert.InWeightIReferenceIdeal.sig) → Buf (Elt Ideal) ℓ) : Prop :=
  True

def Pre_InWeightX (m : (ℓ : Loc Cert.InWeightX.nD Cert.InWeightX.τ Cert.InWeightX.sig) → Buf (Elt Bits) ℓ) : Prop :=
  True

def Pre_InWeightXIdeal (m : (ℓ : Loc Cert.InWeightXIdeal.nD Cert.InWeightXIdeal.τ Cert.InWeightXIdeal.sig) → Buf (Elt Ideal) ℓ) : Prop :=
  True

def Pre_InWeightXReferenceIdeal (m : (ℓ : Loc Cert.InWeightXReferenceIdeal.nD Cert.InWeightXReferenceIdeal.τ Cert.InWeightXReferenceIdeal.sig) → Buf (Elt Ideal) ℓ) : Prop :=
  True

def Pre_InWeightK (m : (ℓ : Loc Cert.InWeightK.nD Cert.InWeightK.τ Cert.InWeightK.sig) → Buf (Elt Bits) ℓ) : Prop :=
  True

def Pre_InWeightKIdeal (m : (ℓ : Loc Cert.InWeightKIdeal.nD Cert.InWeightKIdeal.τ Cert.InWeightKIdeal.sig) → Buf (Elt Ideal) ℓ) : Prop :=
  True

def Pre_InWeightKReferenceIdeal (m : (ℓ : Loc Cert.InWeightKReferenceIdeal.nD Cert.InWeightKReferenceIdeal.τ Cert.InWeightKReferenceIdeal.sig) → Buf (Elt Ideal) ℓ) : Prop :=
  True

def Pre_InWeightO (m : (ℓ : Loc Cert.InWeightO.nD Cert.InWeightO.τ Cert.InWeightO.sig) → Buf (Elt Bits) ℓ) : Prop :=
  True

def Pre_InWeightOIdeal (m : (ℓ : Loc Cert.InWeightOIdeal.nD Cert.InWeightOIdeal.τ Cert.InWeightOIdeal.sig) → Buf (Elt Ideal) ℓ) : Prop :=
  True

def Pre_InWeightOReferenceIdeal (m : (ℓ : Loc Cert.InWeightOReferenceIdeal.nD Cert.InWeightOReferenceIdeal.τ Cert.InWeightOReferenceIdeal.sig) → Buf (Elt Ideal) ℓ) : Prop :=
  True

def Pre_InWeightC (m : (ℓ : Loc Cert.InWeightC.nD Cert.InWeightC.τ Cert.InWeightC.sig) → Buf (Elt Bits) ℓ) : Prop :=
  True

def Pre_InWeightCIdeal (m : (ℓ : Loc Cert.InWeightCIdeal.nD Cert.InWeightCIdeal.τ Cert.InWeightCIdeal.sig) → Buf (Elt Ideal) ℓ) : Prop :=
  True

def Pre_InWeightCReferenceIdeal (m : (ℓ : Loc Cert.InWeightCReferenceIdeal.nD Cert.InWeightCReferenceIdeal.τ Cert.InWeightCReferenceIdeal.sig) → Buf (Elt Ideal) ℓ) : Prop :=
  True

def Pre_OutA (m : (ℓ : Loc Cert.OutA.nD Cert.OutA.τ Cert.OutA.sig) → Buf (Elt Bits) ℓ) : Prop :=
  True

def Pre_OutAIdeal (m : (ℓ : Loc Cert.OutAIdeal.nD Cert.OutAIdeal.τ Cert.OutAIdeal.sig) → Buf (Elt Ideal) ℓ) : Prop :=
  True

def Pre_OutAReferenceIdeal (m : (ℓ : Loc Cert.OutAReferenceIdeal.nD Cert.OutAReferenceIdeal.τ Cert.OutAReferenceIdeal.sig) → Buf (Elt Ideal) ℓ) : Prop :=
  True

def Pre_OutB (m : (ℓ : Loc Cert.OutB.nD Cert.OutB.τ Cert.OutB.sig) → Buf (Elt Bits) ℓ) : Prop :=
  True

def Pre_OutBIdeal (m : (ℓ : Loc Cert.OutBIdeal.nD Cert.OutBIdeal.τ Cert.OutBIdeal.sig) → Buf (Elt Ideal) ℓ) : Prop :=
  True

def Pre_OutBReferenceIdeal (m : (ℓ : Loc Cert.OutBReferenceIdeal.nD Cert.OutBReferenceIdeal.τ Cert.OutBReferenceIdeal.sig) → Buf (Elt Ideal) ℓ) : Prop :=
  True

def Pre_OutC (m : (ℓ : Loc Cert.OutC.nD Cert.OutC.τ Cert.OutC.sig) → Buf (Elt Bits) ℓ) : Prop :=
  True

def Pre_OutCIdeal (m : (ℓ : Loc Cert.OutCIdeal.nD Cert.OutCIdeal.τ Cert.OutCIdeal.sig) → Buf (Elt Ideal) ℓ) : Prop :=
  True

def Pre_OutCReferenceIdeal (m : (ℓ : Loc Cert.OutCReferenceIdeal.nD Cert.OutCReferenceIdeal.τ Cert.OutCReferenceIdeal.sig) → Buf (Elt Ideal) ℓ) : Prop :=
  True

def Pre_OutD (m : (ℓ : Loc Cert.OutD.nD Cert.OutD.τ Cert.OutD.sig) → Buf (Elt Bits) ℓ) : Prop :=
  True

def Pre_OutDIdeal (m : (ℓ : Loc Cert.OutDIdeal.nD Cert.OutDIdeal.τ Cert.OutDIdeal.sig) → Buf (Elt Ideal) ℓ) : Prop :=
  True

def Pre_OutDReferenceIdeal (m : (ℓ : Loc Cert.OutDReferenceIdeal.nD Cert.OutDReferenceIdeal.τ Cert.OutDReferenceIdeal.sig) → Buf (Elt Ideal) ℓ) : Prop :=
  True

def Pre_OutActA (m : (ℓ : Loc Cert.OutActA.nD Cert.OutActA.τ Cert.OutActA.sig) → Buf (Elt Bits) ℓ) : Prop :=
  True

def Pre_OutActAIdeal (m : (ℓ : Loc Cert.OutActAIdeal.nD Cert.OutActAIdeal.τ Cert.OutActAIdeal.sig) → Buf (Elt Ideal) ℓ) : Prop :=
  True

def Pre_OutActAReferenceIdeal (m : (ℓ : Loc Cert.OutActAReferenceIdeal.nD Cert.OutActAReferenceIdeal.τ Cert.OutActAReferenceIdeal.sig) → Buf (Elt Ideal) ℓ) : Prop :=
  True

def Pre_OutActB (m : (ℓ : Loc Cert.OutActB.nD Cert.OutActB.τ Cert.OutActB.sig) → Buf (Elt Bits) ℓ) : Prop :=
  True

def Pre_OutActBIdeal (m : (ℓ : Loc Cert.OutActBIdeal.nD Cert.OutActBIdeal.τ Cert.OutActBIdeal.sig) → Buf (Elt Ideal) ℓ) : Prop :=
  True

def Pre_OutActBReferenceIdeal (m : (ℓ : Loc Cert.OutActBReferenceIdeal.nD Cert.OutActBReferenceIdeal.τ Cert.OutActBReferenceIdeal.sig) → Buf (Elt Ideal) ℓ) : Prop :=
  True

def Pre_OutActC (m : (ℓ : Loc Cert.OutActC.nD Cert.OutActC.τ Cert.OutActC.sig) → Buf (Elt Bits) ℓ) : Prop :=
  True

def Pre_OutActCIdeal (m : (ℓ : Loc Cert.OutActCIdeal.nD Cert.OutActCIdeal.τ Cert.OutActCIdeal.sig) → Buf (Elt Ideal) ℓ) : Prop :=
  True

def Pre_OutActCReferenceIdeal (m : (ℓ : Loc Cert.OutActCReferenceIdeal.nD Cert.OutActCReferenceIdeal.τ Cert.OutActCReferenceIdeal.sig) → Buf (Elt Ideal) ℓ) : Prop :=
  True

def Pre_OutActD (m : (ℓ : Loc Cert.OutActD.nD Cert.OutActD.τ Cert.OutActD.sig) → Buf (Elt Bits) ℓ) : Prop :=
  True

def Pre_OutActDIdeal (m : (ℓ : Loc Cert.OutActDIdeal.nD Cert.OutActDIdeal.τ Cert.OutActDIdeal.sig) → Buf (Elt Ideal) ℓ) : Prop :=
  True

def Pre_OutActDReferenceIdeal (m : (ℓ : Loc Cert.OutActDReferenceIdeal.nD Cert.OutActDReferenceIdeal.τ Cert.OutActDReferenceIdeal.sig) → Buf (Elt Ideal) ℓ) : Prop :=
  True

def Pre_OutWeightA (m : (ℓ : Loc Cert.OutWeightA.nD Cert.OutWeightA.τ Cert.OutWeightA.sig) → Buf (Elt Bits) ℓ) : Prop :=
  True

def Pre_OutWeightAIdeal (m : (ℓ : Loc Cert.OutWeightAIdeal.nD Cert.OutWeightAIdeal.τ Cert.OutWeightAIdeal.sig) → Buf (Elt Ideal) ℓ) : Prop :=
  True

def Pre_OutWeightAReferenceIdeal (m : (ℓ : Loc Cert.OutWeightAReferenceIdeal.nD Cert.OutWeightAReferenceIdeal.τ Cert.OutWeightAReferenceIdeal.sig) → Buf (Elt Ideal) ℓ) : Prop :=
  True

def Pre_OutWeightB (m : (ℓ : Loc Cert.OutWeightB.nD Cert.OutWeightB.τ Cert.OutWeightB.sig) → Buf (Elt Bits) ℓ) : Prop :=
  True

def Pre_OutWeightBIdeal (m : (ℓ : Loc Cert.OutWeightBIdeal.nD Cert.OutWeightBIdeal.τ Cert.OutWeightBIdeal.sig) → Buf (Elt Ideal) ℓ) : Prop :=
  True

def Pre_OutWeightBReferenceIdeal (m : (ℓ : Loc Cert.OutWeightBReferenceIdeal.nD Cert.OutWeightBReferenceIdeal.τ Cert.OutWeightBReferenceIdeal.sig) → Buf (Elt Ideal) ℓ) : Prop :=
  True

def Pre_OutWeightC (m : (ℓ : Loc Cert.OutWeightC.nD Cert.OutWeightC.τ Cert.OutWeightC.sig) → Buf (Elt Bits) ℓ) : Prop :=
  True

def Pre_OutWeightCIdeal (m : (ℓ : Loc Cert.OutWeightCIdeal.nD Cert.OutWeightCIdeal.τ Cert.OutWeightCIdeal.sig) → Buf (Elt Ideal) ℓ) : Prop :=
  True

def Pre_OutWeightCReferenceIdeal (m : (ℓ : Loc Cert.OutWeightCReferenceIdeal.nD Cert.OutWeightCReferenceIdeal.τ Cert.OutWeightCReferenceIdeal.sig) → Buf (Elt Ideal) ℓ) : Prop :=
  True

def Pre_OutWeightD (m : (ℓ : Loc Cert.OutWeightD.nD Cert.OutWeightD.τ Cert.OutWeightD.sig) → Buf (Elt Bits) ℓ) : Prop :=
  True

def Pre_OutWeightDIdeal (m : (ℓ : Loc Cert.OutWeightDIdeal.nD Cert.OutWeightDIdeal.τ Cert.OutWeightDIdeal.sig) → Buf (Elt Ideal) ℓ) : Prop :=
  True

def Pre_OutWeightDReferenceIdeal (m : (ℓ : Loc Cert.OutWeightDReferenceIdeal.nD Cert.OutWeightDReferenceIdeal.τ Cert.OutWeightDReferenceIdeal.sig) → Buf (Elt Ideal) ℓ) : Prop :=
  True

def Pre_NormGrad (m : (ℓ : Loc Cert.NormGrad.nD Cert.NormGrad.τ Cert.NormGrad.sig) → Buf (Elt Bits) ℓ) : Prop :=
  True

def Pre_NormGradIdeal (m : (ℓ : Loc Cert.NormGradIdeal.nD Cert.NormGradIdeal.τ Cert.NormGradIdeal.sig) → Buf (Elt Ideal) ℓ) : Prop :=
  True

def Pre_NormGradReferenceIdeal (m : (ℓ : Loc Cert.NormGradReferenceIdeal.nD Cert.NormGradReferenceIdeal.τ Cert.NormGradReferenceIdeal.sig) → Buf (Elt Ideal) ℓ) : Prop :=
  True

def Pre_InWeightG (m : (ℓ : Loc Cert.InWeightG.nD Cert.InWeightG.τ Cert.InWeightG.sig) → Buf (Elt Bits) ℓ) : Prop :=
  True

def Pre_InWeightGIdeal (m : (ℓ : Loc Cert.InWeightGIdeal.nD Cert.InWeightGIdeal.τ Cert.InWeightGIdeal.sig) → Buf (Elt Ideal) ℓ) : Prop :=
  True

def Pre_InWeightGReferenceIdeal (m : (ℓ : Loc Cert.InWeightGReferenceIdeal.nD Cert.InWeightGReferenceIdeal.τ Cert.InWeightGReferenceIdeal.sig) → Buf (Elt Ideal) ℓ) : Prop :=
  True

def Pre_InWeightT (m : (ℓ : Loc Cert.InWeightT.nD Cert.InWeightT.τ Cert.InWeightT.sig) → Buf (Elt Bits) ℓ) : Prop :=
  True

def Pre_InWeightTIdeal (m : (ℓ : Loc Cert.InWeightTIdeal.nD Cert.InWeightTIdeal.τ Cert.InWeightTIdeal.sig) → Buf (Elt Ideal) ℓ) : Prop :=
  True

def Pre_InWeightTReferenceIdeal (m : (ℓ : Loc Cert.InWeightTReferenceIdeal.nD Cert.InWeightTReferenceIdeal.τ Cert.InWeightTReferenceIdeal.sig) → Buf (Elt Ideal) ℓ) : Prop :=
  True

def Pre_Mem (m : (ℓ : Loc Cert.Mem.nD Cert.Mem.τ Cert.Mem.sig) → Buf (Elt Bits) ℓ) : Prop :=
  True

def Pre_MemIdeal (m : (ℓ : Loc Cert.MemIdeal.nD Cert.MemIdeal.τ Cert.MemIdeal.sig) → Buf (Elt Ideal) ℓ) : Prop :=
  True

def Pre_MemReferenceIdeal (m : (ℓ : Loc Cert.MemReferenceIdeal.nD Cert.MemReferenceIdeal.τ Cert.MemReferenceIdeal.sig) → Buf (Elt Ideal) ℓ) : Prop :=
  True

def Pre_MemAct (m : (ℓ : Loc Cert.MemAct.nD Cert.MemAct.τ Cert.MemAct.sig) → Buf (Elt Bits) ℓ) : Prop :=
  True

def Pre_MemActIdeal (m : (ℓ : Loc Cert.MemActIdeal.nD Cert.MemActIdeal.τ Cert.MemActIdeal.sig) → Buf (Elt Ideal) ℓ) : Prop :=
  True

def Pre_MemActReferenceIdeal (m : (ℓ : Loc Cert.MemActReferenceIdeal.nD Cert.MemActReferenceIdeal.τ Cert.MemActReferenceIdeal.sig) → Buf (Elt Ideal) ℓ) : Prop :=
  True

def Pre_MemWeight (m : (ℓ : Loc Cert.MemWeight.nD Cert.MemWeight.τ Cert.MemWeight.sig) → Buf (Elt Bits) ℓ) : Prop :=
  True

def Pre_MemWeightIdeal (m : (ℓ : Loc Cert.MemWeightIdeal.nD Cert.MemWeightIdeal.τ Cert.MemWeightIdeal.sig) → Buf (Elt Ideal) ℓ) : Prop :=
  True

def Pre_MemWeightReferenceIdeal (m : (ℓ : Loc Cert.MemWeightReferenceIdeal.nD Cert.MemWeightReferenceIdeal.τ Cert.MemWeightReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_DownAct [hDownAct : Cert.DownAct.Facts] : Prop :=
  ∀ (m : (ℓ : Loc Cert.DownAct.nD Cert.DownAct.τ Cert.DownAct.sig) → Buf (Elt Bits) ℓ) (g : Dev Cert.DownAct.nD → PrngReg), Pre_DownAct m →
    θ_run (Cert.DownAct.defs (F := Bits)) (onTc (τ := Cert.DownAct.τ) (Cert.DownAct.main (F := Bits))) ⟨m, fun _ => 0, g⟩ (fun r => (∀ c : Dev Cert.DownAct.nD,
      r.2.mem ((c.tc : Thread Cert.DownAct.nD Cert.DownAct.τ).loc Cert.DownAct.main_arg0) = m ((c.tc : Thread Cert.DownAct.nD Cert.DownAct.τ).loc Cert.DownAct.main_arg0)
      ∧ r.2.mem ((c.tc : Thread Cert.DownAct.nD Cert.DownAct.τ).loc Cert.DownAct.main_arg1) = m ((c.tc : Thread Cert.DownAct.nD Cert.DownAct.τ).loc Cert.DownAct.main_arg1))
      ∧ r.2.sem = fun _ => 0)

def quiescent_DownActIdeal [hDownActIdeal : Cert.DownActIdeal.Facts] : Prop :=
  ∀ (m : (ℓ : Loc Cert.DownActIdeal.nD Cert.DownActIdeal.τ Cert.DownActIdeal.sig) → Buf (Elt Ideal) ℓ) (g : Dev Cert.DownActIdeal.nD → PrngReg), Pre_DownActIdeal m →
    θ_run (Cert.DownActIdeal.defs (F := Ideal)) (onTc (τ := Cert.DownActIdeal.τ) (Cert.DownActIdeal.main (F := Ideal))) ⟨m, fun _ => 0, g⟩ (fun r => (∀ c : Dev Cert.DownActIdeal.nD,
      r.2.mem ((c.tc : Thread Cert.DownActIdeal.nD Cert.DownActIdeal.τ).loc Cert.DownActIdeal.main_arg0) = m ((c.tc : Thread Cert.DownActIdeal.nD Cert.DownActIdeal.τ).loc Cert.DownActIdeal.main_arg0)
      ∧ r.2.mem ((c.tc : Thread Cert.DownActIdeal.nD Cert.DownActIdeal.τ).loc Cert.DownActIdeal.main_arg1) = m ((c.tc : Thread Cert.DownActIdeal.nD Cert.DownActIdeal.τ).loc Cert.DownActIdeal.main_arg1))
      ∧ r.2.sem = fun _ => 0)

def quiescent_DownActReferenceIdeal [hDownActReferenceIdeal : Cert.DownActReferenceIdeal.Facts] : Prop :=
  ∀ (m : (ℓ : Loc Cert.DownActReferenceIdeal.nD Cert.DownActReferenceIdeal.τ Cert.DownActReferenceIdeal.sig) → Buf (Elt Ideal) ℓ) (g : Dev Cert.DownActReferenceIdeal.nD → PrngReg), Pre_DownActReferenceIdeal m →
    θ_run (Cert.DownActReferenceIdeal.defs (F := Ideal)) (onTc (τ := Cert.DownActReferenceIdeal.τ) (Cert.DownActReferenceIdeal.main (F := Ideal))) ⟨m, fun _ => 0, g⟩ (fun r => (∀ c : Dev Cert.DownActReferenceIdeal.nD,
      r.2.mem ((c.tc : Thread Cert.DownActReferenceIdeal.nD Cert.DownActReferenceIdeal.τ).loc Cert.DownActReferenceIdeal.main_arg0) = m ((c.tc : Thread Cert.DownActReferenceIdeal.nD Cert.DownActReferenceIdeal.τ).loc Cert.DownActReferenceIdeal.main_arg0)
      ∧ r.2.mem ((c.tc : Thread Cert.DownActReferenceIdeal.nD Cert.DownActReferenceIdeal.τ).loc Cert.DownActReferenceIdeal.main_arg1) = m ((c.tc : Thread Cert.DownActReferenceIdeal.nD Cert.DownActReferenceIdeal.τ).loc Cert.DownActReferenceIdeal.main_arg1))
      ∧ r.2.sem = fun _ => 0)

def quiescent_DownWeight [hDownWeight : Cert.DownWeight.Facts] : Prop :=
  ∀ (m : (ℓ : Loc Cert.DownWeight.nD Cert.DownWeight.τ Cert.DownWeight.sig) → Buf (Elt Bits) ℓ) (g : Dev Cert.DownWeight.nD → PrngReg), Pre_DownWeight m →
    θ_run (Cert.DownWeight.defs (F := Bits)) (onTc (τ := Cert.DownWeight.τ) (Cert.DownWeight.main (F := Bits))) ⟨m, fun _ => 0, g⟩ (fun r => (∀ c : Dev Cert.DownWeight.nD,
      r.2.mem ((c.tc : Thread Cert.DownWeight.nD Cert.DownWeight.τ).loc Cert.DownWeight.main_arg0) = m ((c.tc : Thread Cert.DownWeight.nD Cert.DownWeight.τ).loc Cert.DownWeight.main_arg0)
      ∧ r.2.mem ((c.tc : Thread Cert.DownWeight.nD Cert.DownWeight.τ).loc Cert.DownWeight.main_arg1) = m ((c.tc : Thread Cert.DownWeight.nD Cert.DownWeight.τ).loc Cert.DownWeight.main_arg1))
      ∧ r.2.sem = fun _ => 0)

def quiescent_DownWeightIdeal [hDownWeightIdeal : Cert.DownWeightIdeal.Facts] : Prop :=
  ∀ (m : (ℓ : Loc Cert.DownWeightIdeal.nD Cert.DownWeightIdeal.τ Cert.DownWeightIdeal.sig) → Buf (Elt Ideal) ℓ) (g : Dev Cert.DownWeightIdeal.nD → PrngReg), Pre_DownWeightIdeal m →
    θ_run (Cert.DownWeightIdeal.defs (F := Ideal)) (onTc (τ := Cert.DownWeightIdeal.τ) (Cert.DownWeightIdeal.main (F := Ideal))) ⟨m, fun _ => 0, g⟩ (fun r => (∀ c : Dev Cert.DownWeightIdeal.nD,
      r.2.mem ((c.tc : Thread Cert.DownWeightIdeal.nD Cert.DownWeightIdeal.τ).loc Cert.DownWeightIdeal.main_arg0) = m ((c.tc : Thread Cert.DownWeightIdeal.nD Cert.DownWeightIdeal.τ).loc Cert.DownWeightIdeal.main_arg0)
      ∧ r.2.mem ((c.tc : Thread Cert.DownWeightIdeal.nD Cert.DownWeightIdeal.τ).loc Cert.DownWeightIdeal.main_arg1) = m ((c.tc : Thread Cert.DownWeightIdeal.nD Cert.DownWeightIdeal.τ).loc Cert.DownWeightIdeal.main_arg1))
      ∧ r.2.sem = fun _ => 0)

def quiescent_DownWeightReferenceIdeal [hDownWeightReferenceIdeal : Cert.DownWeightReferenceIdeal.Facts] : Prop :=
  ∀ (m : (ℓ : Loc Cert.DownWeightReferenceIdeal.nD Cert.DownWeightReferenceIdeal.τ Cert.DownWeightReferenceIdeal.sig) → Buf (Elt Ideal) ℓ) (g : Dev Cert.DownWeightReferenceIdeal.nD → PrngReg), Pre_DownWeightReferenceIdeal m →
    θ_run (Cert.DownWeightReferenceIdeal.defs (F := Ideal)) (onTc (τ := Cert.DownWeightReferenceIdeal.τ) (Cert.DownWeightReferenceIdeal.main (F := Ideal))) ⟨m, fun _ => 0, g⟩ (fun r => (∀ c : Dev Cert.DownWeightReferenceIdeal.nD,
      r.2.mem ((c.tc : Thread Cert.DownWeightReferenceIdeal.nD Cert.DownWeightReferenceIdeal.τ).loc Cert.DownWeightReferenceIdeal.main_arg0) = m ((c.tc : Thread Cert.DownWeightReferenceIdeal.nD Cert.DownWeightReferenceIdeal.τ).loc Cert.DownWeightReferenceIdeal.main_arg0)
      ∧ r.2.mem ((c.tc : Thread Cert.DownWeightReferenceIdeal.nD Cert.DownWeightReferenceIdeal.τ).loc Cert.DownWeightReferenceIdeal.main_arg1) = m ((c.tc : Thread Cert.DownWeightReferenceIdeal.nD Cert.DownWeightReferenceIdeal.τ).loc Cert.DownWeightReferenceIdeal.main_arg1))
      ∧ r.2.sem = fun _ => 0)

def quiescent_UpAct [hUpAct : Cert.UpAct.Facts] : Prop :=
  ∀ (m : (ℓ : Loc Cert.UpAct.nD Cert.UpAct.τ Cert.UpAct.sig) → Buf (Elt Bits) ℓ) (g : Dev Cert.UpAct.nD → PrngReg), Pre_UpAct m →
    θ_run (Cert.UpAct.defs (F := Bits)) (onTc (τ := Cert.UpAct.τ) (Cert.UpAct.main (F := Bits))) ⟨m, fun _ => 0, g⟩ (fun r => (∀ c : Dev Cert.UpAct.nD,
      r.2.mem ((c.tc : Thread Cert.UpAct.nD Cert.UpAct.τ).loc Cert.UpAct.main_arg0) = m ((c.tc : Thread Cert.UpAct.nD Cert.UpAct.τ).loc Cert.UpAct.main_arg0)
      ∧ r.2.mem ((c.tc : Thread Cert.UpAct.nD Cert.UpAct.τ).loc Cert.UpAct.main_arg1) = m ((c.tc : Thread Cert.UpAct.nD Cert.UpAct.τ).loc Cert.UpAct.main_arg1)
      ∧ r.2.mem ((c.tc : Thread Cert.UpAct.nD Cert.UpAct.τ).loc Cert.UpAct.main_arg2) = m ((c.tc : Thread Cert.UpAct.nD Cert.UpAct.τ).loc Cert.UpAct.main_arg2))
      ∧ r.2.sem = fun _ => 0)

def quiescent_UpActIdeal [hUpActIdeal : Cert.UpActIdeal.Facts] : Prop :=
  ∀ (m : (ℓ : Loc Cert.UpActIdeal.nD Cert.UpActIdeal.τ Cert.UpActIdeal.sig) → Buf (Elt Ideal) ℓ) (g : Dev Cert.UpActIdeal.nD → PrngReg), Pre_UpActIdeal m →
    θ_run (Cert.UpActIdeal.defs (F := Ideal)) (onTc (τ := Cert.UpActIdeal.τ) (Cert.UpActIdeal.main (F := Ideal))) ⟨m, fun _ => 0, g⟩ (fun r => (∀ c : Dev Cert.UpActIdeal.nD,
      r.2.mem ((c.tc : Thread Cert.UpActIdeal.nD Cert.UpActIdeal.τ).loc Cert.UpActIdeal.main_arg0) = m ((c.tc : Thread Cert.UpActIdeal.nD Cert.UpActIdeal.τ).loc Cert.UpActIdeal.main_arg0)
      ∧ r.2.mem ((c.tc : Thread Cert.UpActIdeal.nD Cert.UpActIdeal.τ).loc Cert.UpActIdeal.main_arg1) = m ((c.tc : Thread Cert.UpActIdeal.nD Cert.UpActIdeal.τ).loc Cert.UpActIdeal.main_arg1)
      ∧ r.2.mem ((c.tc : Thread Cert.UpActIdeal.nD Cert.UpActIdeal.τ).loc Cert.UpActIdeal.main_arg2) = m ((c.tc : Thread Cert.UpActIdeal.nD Cert.UpActIdeal.τ).loc Cert.UpActIdeal.main_arg2))
      ∧ r.2.sem = fun _ => 0)

def quiescent_UpActReferenceIdeal [hUpActReferenceIdeal : Cert.UpActReferenceIdeal.Facts] : Prop :=
  ∀ (m : (ℓ : Loc Cert.UpActReferenceIdeal.nD Cert.UpActReferenceIdeal.τ Cert.UpActReferenceIdeal.sig) → Buf (Elt Ideal) ℓ) (g : Dev Cert.UpActReferenceIdeal.nD → PrngReg), Pre_UpActReferenceIdeal m →
    θ_run (Cert.UpActReferenceIdeal.defs (F := Ideal)) (onTc (τ := Cert.UpActReferenceIdeal.τ) (Cert.UpActReferenceIdeal.main (F := Ideal))) ⟨m, fun _ => 0, g⟩ (fun r => (∀ c : Dev Cert.UpActReferenceIdeal.nD,
      r.2.mem ((c.tc : Thread Cert.UpActReferenceIdeal.nD Cert.UpActReferenceIdeal.τ).loc Cert.UpActReferenceIdeal.main_arg0) = m ((c.tc : Thread Cert.UpActReferenceIdeal.nD Cert.UpActReferenceIdeal.τ).loc Cert.UpActReferenceIdeal.main_arg0)
      ∧ r.2.mem ((c.tc : Thread Cert.UpActReferenceIdeal.nD Cert.UpActReferenceIdeal.τ).loc Cert.UpActReferenceIdeal.main_arg1) = m ((c.tc : Thread Cert.UpActReferenceIdeal.nD Cert.UpActReferenceIdeal.τ).loc Cert.UpActReferenceIdeal.main_arg1)
      ∧ r.2.mem ((c.tc : Thread Cert.UpActReferenceIdeal.nD Cert.UpActReferenceIdeal.τ).loc Cert.UpActReferenceIdeal.main_arg2) = m ((c.tc : Thread Cert.UpActReferenceIdeal.nD Cert.UpActReferenceIdeal.τ).loc Cert.UpActReferenceIdeal.main_arg2))
      ∧ r.2.sem = fun _ => 0)

def quiescent_UpGate [hUpGate : Cert.UpGate.Facts] : Prop :=
  ∀ (m : (ℓ : Loc Cert.UpGate.nD Cert.UpGate.τ Cert.UpGate.sig) → Buf (Elt Bits) ℓ) (g : Dev Cert.UpGate.nD → PrngReg), Pre_UpGate m →
    θ_run (Cert.UpGate.defs (F := Bits)) (onTc (τ := Cert.UpGate.τ) (Cert.UpGate.main (F := Bits))) ⟨m, fun _ => 0, g⟩ (fun r => (∀ c : Dev Cert.UpGate.nD,
      r.2.mem ((c.tc : Thread Cert.UpGate.nD Cert.UpGate.τ).loc Cert.UpGate.main_arg0) = m ((c.tc : Thread Cert.UpGate.nD Cert.UpGate.τ).loc Cert.UpGate.main_arg0)
      ∧ r.2.mem ((c.tc : Thread Cert.UpGate.nD Cert.UpGate.τ).loc Cert.UpGate.main_arg1) = m ((c.tc : Thread Cert.UpGate.nD Cert.UpGate.τ).loc Cert.UpGate.main_arg1)
      ∧ r.2.mem ((c.tc : Thread Cert.UpGate.nD Cert.UpGate.τ).loc Cert.UpGate.main_arg2) = m ((c.tc : Thread Cert.UpGate.nD Cert.UpGate.τ).loc Cert.UpGate.main_arg2))
      ∧ r.2.sem = fun _ => 0)

def quiescent_UpGateIdeal [hUpGateIdeal : Cert.UpGateIdeal.Facts] : Prop :=
  ∀ (m : (ℓ : Loc Cert.UpGateIdeal.nD Cert.UpGateIdeal.τ Cert.UpGateIdeal.sig) → Buf (Elt Ideal) ℓ) (g : Dev Cert.UpGateIdeal.nD → PrngReg), Pre_UpGateIdeal m →
    θ_run (Cert.UpGateIdeal.defs (F := Ideal)) (onTc (τ := Cert.UpGateIdeal.τ) (Cert.UpGateIdeal.main (F := Ideal))) ⟨m, fun _ => 0, g⟩ (fun r => (∀ c : Dev Cert.UpGateIdeal.nD,
      r.2.mem ((c.tc : Thread Cert.UpGateIdeal.nD Cert.UpGateIdeal.τ).loc Cert.UpGateIdeal.main_arg0) = m ((c.tc : Thread Cert.UpGateIdeal.nD Cert.UpGateIdeal.τ).loc Cert.UpGateIdeal.main_arg0)
      ∧ r.2.mem ((c.tc : Thread Cert.UpGateIdeal.nD Cert.UpGateIdeal.τ).loc Cert.UpGateIdeal.main_arg1) = m ((c.tc : Thread Cert.UpGateIdeal.nD Cert.UpGateIdeal.τ).loc Cert.UpGateIdeal.main_arg1)
      ∧ r.2.mem ((c.tc : Thread Cert.UpGateIdeal.nD Cert.UpGateIdeal.τ).loc Cert.UpGateIdeal.main_arg2) = m ((c.tc : Thread Cert.UpGateIdeal.nD Cert.UpGateIdeal.τ).loc Cert.UpGateIdeal.main_arg2))
      ∧ r.2.sem = fun _ => 0)

def quiescent_UpGateReferenceIdeal [hUpGateReferenceIdeal : Cert.UpGateReferenceIdeal.Facts] : Prop :=
  ∀ (m : (ℓ : Loc Cert.UpGateReferenceIdeal.nD Cert.UpGateReferenceIdeal.τ Cert.UpGateReferenceIdeal.sig) → Buf (Elt Ideal) ℓ) (g : Dev Cert.UpGateReferenceIdeal.nD → PrngReg), Pre_UpGateReferenceIdeal m →
    θ_run (Cert.UpGateReferenceIdeal.defs (F := Ideal)) (onTc (τ := Cert.UpGateReferenceIdeal.τ) (Cert.UpGateReferenceIdeal.main (F := Ideal))) ⟨m, fun _ => 0, g⟩ (fun r => (∀ c : Dev Cert.UpGateReferenceIdeal.nD,
      r.2.mem ((c.tc : Thread Cert.UpGateReferenceIdeal.nD Cert.UpGateReferenceIdeal.τ).loc Cert.UpGateReferenceIdeal.main_arg0) = m ((c.tc : Thread Cert.UpGateReferenceIdeal.nD Cert.UpGateReferenceIdeal.τ).loc Cert.UpGateReferenceIdeal.main_arg0)
      ∧ r.2.mem ((c.tc : Thread Cert.UpGateReferenceIdeal.nD Cert.UpGateReferenceIdeal.τ).loc Cert.UpGateReferenceIdeal.main_arg1) = m ((c.tc : Thread Cert.UpGateReferenceIdeal.nD Cert.UpGateReferenceIdeal.τ).loc Cert.UpGateReferenceIdeal.main_arg1)
      ∧ r.2.mem ((c.tc : Thread Cert.UpGateReferenceIdeal.nD Cert.UpGateReferenceIdeal.τ).loc Cert.UpGateReferenceIdeal.main_arg2) = m ((c.tc : Thread Cert.UpGateReferenceIdeal.nD Cert.UpGateReferenceIdeal.τ).loc Cert.UpGateReferenceIdeal.main_arg2))
      ∧ r.2.sem = fun _ => 0)

def quiescent_UpValue [hUpValue : Cert.UpValue.Facts] : Prop :=
  ∀ (m : (ℓ : Loc Cert.UpValue.nD Cert.UpValue.τ Cert.UpValue.sig) → Buf (Elt Bits) ℓ) (g : Dev Cert.UpValue.nD → PrngReg), Pre_UpValue m →
    θ_run (Cert.UpValue.defs (F := Bits)) (onTc (τ := Cert.UpValue.τ) (Cert.UpValue.main (F := Bits))) ⟨m, fun _ => 0, g⟩ (fun r => (∀ c : Dev Cert.UpValue.nD,
      r.2.mem ((c.tc : Thread Cert.UpValue.nD Cert.UpValue.τ).loc Cert.UpValue.main_arg0) = m ((c.tc : Thread Cert.UpValue.nD Cert.UpValue.τ).loc Cert.UpValue.main_arg0)
      ∧ r.2.mem ((c.tc : Thread Cert.UpValue.nD Cert.UpValue.τ).loc Cert.UpValue.main_arg1) = m ((c.tc : Thread Cert.UpValue.nD Cert.UpValue.τ).loc Cert.UpValue.main_arg1)
      ∧ r.2.mem ((c.tc : Thread Cert.UpValue.nD Cert.UpValue.τ).loc Cert.UpValue.main_arg2) = m ((c.tc : Thread Cert.UpValue.nD Cert.UpValue.τ).loc Cert.UpValue.main_arg2))
      ∧ r.2.sem = fun _ => 0)

def quiescent_UpValueIdeal [hUpValueIdeal : Cert.UpValueIdeal.Facts] : Prop :=
  ∀ (m : (ℓ : Loc Cert.UpValueIdeal.nD Cert.UpValueIdeal.τ Cert.UpValueIdeal.sig) → Buf (Elt Ideal) ℓ) (g : Dev Cert.UpValueIdeal.nD → PrngReg), Pre_UpValueIdeal m →
    θ_run (Cert.UpValueIdeal.defs (F := Ideal)) (onTc (τ := Cert.UpValueIdeal.τ) (Cert.UpValueIdeal.main (F := Ideal))) ⟨m, fun _ => 0, g⟩ (fun r => (∀ c : Dev Cert.UpValueIdeal.nD,
      r.2.mem ((c.tc : Thread Cert.UpValueIdeal.nD Cert.UpValueIdeal.τ).loc Cert.UpValueIdeal.main_arg0) = m ((c.tc : Thread Cert.UpValueIdeal.nD Cert.UpValueIdeal.τ).loc Cert.UpValueIdeal.main_arg0)
      ∧ r.2.mem ((c.tc : Thread Cert.UpValueIdeal.nD Cert.UpValueIdeal.τ).loc Cert.UpValueIdeal.main_arg1) = m ((c.tc : Thread Cert.UpValueIdeal.nD Cert.UpValueIdeal.τ).loc Cert.UpValueIdeal.main_arg1)
      ∧ r.2.mem ((c.tc : Thread Cert.UpValueIdeal.nD Cert.UpValueIdeal.τ).loc Cert.UpValueIdeal.main_arg2) = m ((c.tc : Thread Cert.UpValueIdeal.nD Cert.UpValueIdeal.τ).loc Cert.UpValueIdeal.main_arg2))
      ∧ r.2.sem = fun _ => 0)

def quiescent_UpValueReferenceIdeal [hUpValueReferenceIdeal : Cert.UpValueReferenceIdeal.Facts] : Prop :=
  ∀ (m : (ℓ : Loc Cert.UpValueReferenceIdeal.nD Cert.UpValueReferenceIdeal.τ Cert.UpValueReferenceIdeal.sig) → Buf (Elt Ideal) ℓ) (g : Dev Cert.UpValueReferenceIdeal.nD → PrngReg), Pre_UpValueReferenceIdeal m →
    θ_run (Cert.UpValueReferenceIdeal.defs (F := Ideal)) (onTc (τ := Cert.UpValueReferenceIdeal.τ) (Cert.UpValueReferenceIdeal.main (F := Ideal))) ⟨m, fun _ => 0, g⟩ (fun r => (∀ c : Dev Cert.UpValueReferenceIdeal.nD,
      r.2.mem ((c.tc : Thread Cert.UpValueReferenceIdeal.nD Cert.UpValueReferenceIdeal.τ).loc Cert.UpValueReferenceIdeal.main_arg0) = m ((c.tc : Thread Cert.UpValueReferenceIdeal.nD Cert.UpValueReferenceIdeal.τ).loc Cert.UpValueReferenceIdeal.main_arg0)
      ∧ r.2.mem ((c.tc : Thread Cert.UpValueReferenceIdeal.nD Cert.UpValueReferenceIdeal.τ).loc Cert.UpValueReferenceIdeal.main_arg1) = m ((c.tc : Thread Cert.UpValueReferenceIdeal.nD Cert.UpValueReferenceIdeal.τ).loc Cert.UpValueReferenceIdeal.main_arg1)
      ∧ r.2.mem ((c.tc : Thread Cert.UpValueReferenceIdeal.nD Cert.UpValueReferenceIdeal.τ).loc Cert.UpValueReferenceIdeal.main_arg2) = m ((c.tc : Thread Cert.UpValueReferenceIdeal.nD Cert.UpValueReferenceIdeal.τ).loc Cert.UpValueReferenceIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_InA [hInA : Cert.InA.Facts] : Prop :=
  ∀ (m : (ℓ : Loc Cert.InA.nD Cert.InA.τ Cert.InA.sig) → Buf (Elt Bits) ℓ) (g : Dev Cert.InA.nD → PrngReg), Pre_InA m →
    θ_run (Cert.InA.defs (F := Bits)) (onTc (τ := Cert.InA.τ) (Cert.InA.main (F := Bits))) ⟨m, fun _ => 0, g⟩ (fun r => (∀ c : Dev Cert.InA.nD,
      r.2.mem ((c.tc : Thread Cert.InA.nD Cert.InA.τ).loc Cert.InA.main_arg0) = m ((c.tc : Thread Cert.InA.nD Cert.InA.τ).loc Cert.InA.main_arg0)
      ∧ r.2.mem ((c.tc : Thread Cert.InA.nD Cert.InA.τ).loc Cert.InA.main_arg1) = m ((c.tc : Thread Cert.InA.nD Cert.InA.τ).loc Cert.InA.main_arg1)
      ∧ r.2.mem ((c.tc : Thread Cert.InA.nD Cert.InA.τ).loc Cert.InA.main_arg2) = m ((c.tc : Thread Cert.InA.nD Cert.InA.τ).loc Cert.InA.main_arg2)
      ∧ r.2.mem ((c.tc : Thread Cert.InA.nD Cert.InA.τ).loc Cert.InA.main_arg3) = m ((c.tc : Thread Cert.InA.nD Cert.InA.τ).loc Cert.InA.main_arg3)
      ∧ r.2.mem ((c.tc : Thread Cert.InA.nD Cert.InA.τ).loc Cert.InA.main_arg4) = m ((c.tc : Thread Cert.InA.nD Cert.InA.τ).loc Cert.InA.main_arg4)
      ∧ r.2.mem ((c.tc : Thread Cert.InA.nD Cert.InA.τ).loc Cert.InA.main_arg5) = m ((c.tc : Thread Cert.InA.nD Cert.InA.τ).loc Cert.InA.main_arg5)
      ∧ r.2.mem ((c.tc : Thread Cert.InA.nD Cert.InA.τ).loc Cert.InA.main_arg6) = m ((c.tc : Thread Cert.InA.nD Cert.InA.τ).loc Cert.InA.main_arg6))
      ∧ r.2.sem = fun _ => 0)

def quiescent_InAIdeal [hInAIdeal : Cert.InAIdeal.Facts] : Prop :=
  ∀ (m : (ℓ : Loc Cert.InAIdeal.nD Cert.InAIdeal.τ Cert.InAIdeal.sig) → Buf (Elt Ideal) ℓ) (g : Dev Cert.InAIdeal.nD → PrngReg), Pre_InAIdeal m →
    θ_run (Cert.InAIdeal.defs (F := Ideal)) (onTc (τ := Cert.InAIdeal.τ) (Cert.InAIdeal.main (F := Ideal))) ⟨m, fun _ => 0, g⟩ (fun r => (∀ c : Dev Cert.InAIdeal.nD,
      r.2.mem ((c.tc : Thread Cert.InAIdeal.nD Cert.InAIdeal.τ).loc Cert.InAIdeal.main_arg0) = m ((c.tc : Thread Cert.InAIdeal.nD Cert.InAIdeal.τ).loc Cert.InAIdeal.main_arg0)
      ∧ r.2.mem ((c.tc : Thread Cert.InAIdeal.nD Cert.InAIdeal.τ).loc Cert.InAIdeal.main_arg1) = m ((c.tc : Thread Cert.InAIdeal.nD Cert.InAIdeal.τ).loc Cert.InAIdeal.main_arg1)
      ∧ r.2.mem ((c.tc : Thread Cert.InAIdeal.nD Cert.InAIdeal.τ).loc Cert.InAIdeal.main_arg2) = m ((c.tc : Thread Cert.InAIdeal.nD Cert.InAIdeal.τ).loc Cert.InAIdeal.main_arg2)
      ∧ r.2.mem ((c.tc : Thread Cert.InAIdeal.nD Cert.InAIdeal.τ).loc Cert.InAIdeal.main_arg3) = m ((c.tc : Thread Cert.InAIdeal.nD Cert.InAIdeal.τ).loc Cert.InAIdeal.main_arg3)
      ∧ r.2.mem ((c.tc : Thread Cert.InAIdeal.nD Cert.InAIdeal.τ).loc Cert.InAIdeal.main_arg4) = m ((c.tc : Thread Cert.InAIdeal.nD Cert.InAIdeal.τ).loc Cert.InAIdeal.main_arg4)
      ∧ r.2.mem ((c.tc : Thread Cert.InAIdeal.nD Cert.InAIdeal.τ).loc Cert.InAIdeal.main_arg5) = m ((c.tc : Thread Cert.InAIdeal.nD Cert.InAIdeal.τ).loc Cert.InAIdeal.main_arg5)
      ∧ r.2.mem ((c.tc : Thread Cert.InAIdeal.nD Cert.InAIdeal.τ).loc Cert.InAIdeal.main_arg6) = m ((c.tc : Thread Cert.InAIdeal.nD Cert.InAIdeal.τ).loc Cert.InAIdeal.main_arg6))
      ∧ r.2.sem = fun _ => 0)

def quiescent_InAReferenceIdeal [hInAReferenceIdeal : Cert.InAReferenceIdeal.Facts] : Prop :=
  ∀ (m : (ℓ : Loc Cert.InAReferenceIdeal.nD Cert.InAReferenceIdeal.τ Cert.InAReferenceIdeal.sig) → Buf (Elt Ideal) ℓ) (g : Dev Cert.InAReferenceIdeal.nD → PrngReg), Pre_InAReferenceIdeal m →
    θ_run (Cert.InAReferenceIdeal.defs (F := Ideal)) (onTc (τ := Cert.InAReferenceIdeal.τ) (Cert.InAReferenceIdeal.main (F := Ideal))) ⟨m, fun _ => 0, g⟩ (fun r => (∀ c : Dev Cert.InAReferenceIdeal.nD,
      r.2.mem ((c.tc : Thread Cert.InAReferenceIdeal.nD Cert.InAReferenceIdeal.τ).loc Cert.InAReferenceIdeal.main_arg0) = m ((c.tc : Thread Cert.InAReferenceIdeal.nD Cert.InAReferenceIdeal.τ).loc Cert.InAReferenceIdeal.main_arg0)
      ∧ r.2.mem ((c.tc : Thread Cert.InAReferenceIdeal.nD Cert.InAReferenceIdeal.τ).loc Cert.InAReferenceIdeal.main_arg1) = m ((c.tc : Thread Cert.InAReferenceIdeal.nD Cert.InAReferenceIdeal.τ).loc Cert.InAReferenceIdeal.main_arg1)
      ∧ r.2.mem ((c.tc : Thread Cert.InAReferenceIdeal.nD Cert.InAReferenceIdeal.τ).loc Cert.InAReferenceIdeal.main_arg2) = m ((c.tc : Thread Cert.InAReferenceIdeal.nD Cert.InAReferenceIdeal.τ).loc Cert.InAReferenceIdeal.main_arg2)
      ∧ r.2.mem ((c.tc : Thread Cert.InAReferenceIdeal.nD Cert.InAReferenceIdeal.τ).loc Cert.InAReferenceIdeal.main_arg3) = m ((c.tc : Thread Cert.InAReferenceIdeal.nD Cert.InAReferenceIdeal.τ).loc Cert.InAReferenceIdeal.main_arg3)
      ∧ r.2.mem ((c.tc : Thread Cert.InAReferenceIdeal.nD Cert.InAReferenceIdeal.τ).loc Cert.InAReferenceIdeal.main_arg4) = m ((c.tc : Thread Cert.InAReferenceIdeal.nD Cert.InAReferenceIdeal.τ).loc Cert.InAReferenceIdeal.main_arg4)
      ∧ r.2.mem ((c.tc : Thread Cert.InAReferenceIdeal.nD Cert.InAReferenceIdeal.τ).loc Cert.InAReferenceIdeal.main_arg5) = m ((c.tc : Thread Cert.InAReferenceIdeal.nD Cert.InAReferenceIdeal.τ).loc Cert.InAReferenceIdeal.main_arg5)
      ∧ r.2.mem ((c.tc : Thread Cert.InAReferenceIdeal.nD Cert.InAReferenceIdeal.τ).loc Cert.InAReferenceIdeal.main_arg6) = m ((c.tc : Thread Cert.InAReferenceIdeal.nD Cert.InAReferenceIdeal.τ).loc Cert.InAReferenceIdeal.main_arg6))
      ∧ r.2.sem = fun _ => 0)

def quiescent_InB [hInB : Cert.InB.Facts] : Prop :=
  ∀ (m : (ℓ : Loc Cert.InB.nD Cert.InB.τ Cert.InB.sig) → Buf (Elt Bits) ℓ) (g : Dev Cert.InB.nD → PrngReg), Pre_InB m →
    θ_run (Cert.InB.defs (F := Bits)) (onTc (τ := Cert.InB.τ) (Cert.InB.main (F := Bits))) ⟨m, fun _ => 0, g⟩ (fun r => (∀ c : Dev Cert.InB.nD,
      r.2.mem ((c.tc : Thread Cert.InB.nD Cert.InB.τ).loc Cert.InB.main_arg0) = m ((c.tc : Thread Cert.InB.nD Cert.InB.τ).loc Cert.InB.main_arg0)
      ∧ r.2.mem ((c.tc : Thread Cert.InB.nD Cert.InB.τ).loc Cert.InB.main_arg1) = m ((c.tc : Thread Cert.InB.nD Cert.InB.τ).loc Cert.InB.main_arg1)
      ∧ r.2.mem ((c.tc : Thread Cert.InB.nD Cert.InB.τ).loc Cert.InB.main_arg2) = m ((c.tc : Thread Cert.InB.nD Cert.InB.τ).loc Cert.InB.main_arg2)
      ∧ r.2.mem ((c.tc : Thread Cert.InB.nD Cert.InB.τ).loc Cert.InB.main_arg3) = m ((c.tc : Thread Cert.InB.nD Cert.InB.τ).loc Cert.InB.main_arg3)
      ∧ r.2.mem ((c.tc : Thread Cert.InB.nD Cert.InB.τ).loc Cert.InB.main_arg4) = m ((c.tc : Thread Cert.InB.nD Cert.InB.τ).loc Cert.InB.main_arg4))
      ∧ r.2.sem = fun _ => 0)

def quiescent_InBIdeal [hInBIdeal : Cert.InBIdeal.Facts] : Prop :=
  ∀ (m : (ℓ : Loc Cert.InBIdeal.nD Cert.InBIdeal.τ Cert.InBIdeal.sig) → Buf (Elt Ideal) ℓ) (g : Dev Cert.InBIdeal.nD → PrngReg), Pre_InBIdeal m →
    θ_run (Cert.InBIdeal.defs (F := Ideal)) (onTc (τ := Cert.InBIdeal.τ) (Cert.InBIdeal.main (F := Ideal))) ⟨m, fun _ => 0, g⟩ (fun r => (∀ c : Dev Cert.InBIdeal.nD,
      r.2.mem ((c.tc : Thread Cert.InBIdeal.nD Cert.InBIdeal.τ).loc Cert.InBIdeal.main_arg0) = m ((c.tc : Thread Cert.InBIdeal.nD Cert.InBIdeal.τ).loc Cert.InBIdeal.main_arg0)
      ∧ r.2.mem ((c.tc : Thread Cert.InBIdeal.nD Cert.InBIdeal.τ).loc Cert.InBIdeal.main_arg1) = m ((c.tc : Thread Cert.InBIdeal.nD Cert.InBIdeal.τ).loc Cert.InBIdeal.main_arg1)
      ∧ r.2.mem ((c.tc : Thread Cert.InBIdeal.nD Cert.InBIdeal.τ).loc Cert.InBIdeal.main_arg2) = m ((c.tc : Thread Cert.InBIdeal.nD Cert.InBIdeal.τ).loc Cert.InBIdeal.main_arg2)
      ∧ r.2.mem ((c.tc : Thread Cert.InBIdeal.nD Cert.InBIdeal.τ).loc Cert.InBIdeal.main_arg3) = m ((c.tc : Thread Cert.InBIdeal.nD Cert.InBIdeal.τ).loc Cert.InBIdeal.main_arg3)
      ∧ r.2.mem ((c.tc : Thread Cert.InBIdeal.nD Cert.InBIdeal.τ).loc Cert.InBIdeal.main_arg4) = m ((c.tc : Thread Cert.InBIdeal.nD Cert.InBIdeal.τ).loc Cert.InBIdeal.main_arg4))
      ∧ r.2.sem = fun _ => 0)

def quiescent_InBReferenceIdeal [hInBReferenceIdeal : Cert.InBReferenceIdeal.Facts] : Prop :=
  ∀ (m : (ℓ : Loc Cert.InBReferenceIdeal.nD Cert.InBReferenceIdeal.τ Cert.InBReferenceIdeal.sig) → Buf (Elt Ideal) ℓ) (g : Dev Cert.InBReferenceIdeal.nD → PrngReg), Pre_InBReferenceIdeal m →
    θ_run (Cert.InBReferenceIdeal.defs (F := Ideal)) (onTc (τ := Cert.InBReferenceIdeal.τ) (Cert.InBReferenceIdeal.main (F := Ideal))) ⟨m, fun _ => 0, g⟩ (fun r => (∀ c : Dev Cert.InBReferenceIdeal.nD,
      r.2.mem ((c.tc : Thread Cert.InBReferenceIdeal.nD Cert.InBReferenceIdeal.τ).loc Cert.InBReferenceIdeal.main_arg0) = m ((c.tc : Thread Cert.InBReferenceIdeal.nD Cert.InBReferenceIdeal.τ).loc Cert.InBReferenceIdeal.main_arg0)
      ∧ r.2.mem ((c.tc : Thread Cert.InBReferenceIdeal.nD Cert.InBReferenceIdeal.τ).loc Cert.InBReferenceIdeal.main_arg1) = m ((c.tc : Thread Cert.InBReferenceIdeal.nD Cert.InBReferenceIdeal.τ).loc Cert.InBReferenceIdeal.main_arg1)
      ∧ r.2.mem ((c.tc : Thread Cert.InBReferenceIdeal.nD Cert.InBReferenceIdeal.τ).loc Cert.InBReferenceIdeal.main_arg2) = m ((c.tc : Thread Cert.InBReferenceIdeal.nD Cert.InBReferenceIdeal.τ).loc Cert.InBReferenceIdeal.main_arg2)
      ∧ r.2.mem ((c.tc : Thread Cert.InBReferenceIdeal.nD Cert.InBReferenceIdeal.τ).loc Cert.InBReferenceIdeal.main_arg3) = m ((c.tc : Thread Cert.InBReferenceIdeal.nD Cert.InBReferenceIdeal.τ).loc Cert.InBReferenceIdeal.main_arg3)
      ∧ r.2.mem ((c.tc : Thread Cert.InBReferenceIdeal.nD Cert.InBReferenceIdeal.τ).loc Cert.InBReferenceIdeal.main_arg4) = m ((c.tc : Thread Cert.InBReferenceIdeal.nD Cert.InBReferenceIdeal.τ).loc Cert.InBReferenceIdeal.main_arg4))
      ∧ r.2.sem = fun _ => 0)

def quiescent_InC [hInC : Cert.InC.Facts] : Prop :=
  ∀ (m : (ℓ : Loc Cert.InC.nD Cert.InC.τ Cert.InC.sig) → Buf (Elt Bits) ℓ) (g : Dev Cert.InC.nD → PrngReg), Pre_InC m →
    θ_run (Cert.InC.defs (F := Bits)) (onTc (τ := Cert.InC.τ) (Cert.InC.main (F := Bits))) ⟨m, fun _ => 0, g⟩ (fun r => (∀ c : Dev Cert.InC.nD,
      r.2.mem ((c.tc : Thread Cert.InC.nD Cert.InC.τ).loc Cert.InC.main_arg0) = m ((c.tc : Thread Cert.InC.nD Cert.InC.τ).loc Cert.InC.main_arg0)
      ∧ r.2.mem ((c.tc : Thread Cert.InC.nD Cert.InC.τ).loc Cert.InC.main_arg1) = m ((c.tc : Thread Cert.InC.nD Cert.InC.τ).loc Cert.InC.main_arg1)
      ∧ r.2.mem ((c.tc : Thread Cert.InC.nD Cert.InC.τ).loc Cert.InC.main_arg2) = m ((c.tc : Thread Cert.InC.nD Cert.InC.τ).loc Cert.InC.main_arg2)
      ∧ r.2.mem ((c.tc : Thread Cert.InC.nD Cert.InC.τ).loc Cert.InC.main_arg3) = m ((c.tc : Thread Cert.InC.nD Cert.InC.τ).loc Cert.InC.main_arg3)
      ∧ r.2.mem ((c.tc : Thread Cert.InC.nD Cert.InC.τ).loc Cert.InC.main_arg4) = m ((c.tc : Thread Cert.InC.nD Cert.InC.τ).loc Cert.InC.main_arg4))
      ∧ r.2.sem = fun _ => 0)

def quiescent_InCIdeal [hInCIdeal : Cert.InCIdeal.Facts] : Prop :=
  ∀ (m : (ℓ : Loc Cert.InCIdeal.nD Cert.InCIdeal.τ Cert.InCIdeal.sig) → Buf (Elt Ideal) ℓ) (g : Dev Cert.InCIdeal.nD → PrngReg), Pre_InCIdeal m →
    θ_run (Cert.InCIdeal.defs (F := Ideal)) (onTc (τ := Cert.InCIdeal.τ) (Cert.InCIdeal.main (F := Ideal))) ⟨m, fun _ => 0, g⟩ (fun r => (∀ c : Dev Cert.InCIdeal.nD,
      r.2.mem ((c.tc : Thread Cert.InCIdeal.nD Cert.InCIdeal.τ).loc Cert.InCIdeal.main_arg0) = m ((c.tc : Thread Cert.InCIdeal.nD Cert.InCIdeal.τ).loc Cert.InCIdeal.main_arg0)
      ∧ r.2.mem ((c.tc : Thread Cert.InCIdeal.nD Cert.InCIdeal.τ).loc Cert.InCIdeal.main_arg1) = m ((c.tc : Thread Cert.InCIdeal.nD Cert.InCIdeal.τ).loc Cert.InCIdeal.main_arg1)
      ∧ r.2.mem ((c.tc : Thread Cert.InCIdeal.nD Cert.InCIdeal.τ).loc Cert.InCIdeal.main_arg2) = m ((c.tc : Thread Cert.InCIdeal.nD Cert.InCIdeal.τ).loc Cert.InCIdeal.main_arg2)
      ∧ r.2.mem ((c.tc : Thread Cert.InCIdeal.nD Cert.InCIdeal.τ).loc Cert.InCIdeal.main_arg3) = m ((c.tc : Thread Cert.InCIdeal.nD Cert.InCIdeal.τ).loc Cert.InCIdeal.main_arg3)
      ∧ r.2.mem ((c.tc : Thread Cert.InCIdeal.nD Cert.InCIdeal.τ).loc Cert.InCIdeal.main_arg4) = m ((c.tc : Thread Cert.InCIdeal.nD Cert.InCIdeal.τ).loc Cert.InCIdeal.main_arg4))
      ∧ r.2.sem = fun _ => 0)

def quiescent_InCReferenceIdeal [hInCReferenceIdeal : Cert.InCReferenceIdeal.Facts] : Prop :=
  ∀ (m : (ℓ : Loc Cert.InCReferenceIdeal.nD Cert.InCReferenceIdeal.τ Cert.InCReferenceIdeal.sig) → Buf (Elt Ideal) ℓ) (g : Dev Cert.InCReferenceIdeal.nD → PrngReg), Pre_InCReferenceIdeal m →
    θ_run (Cert.InCReferenceIdeal.defs (F := Ideal)) (onTc (τ := Cert.InCReferenceIdeal.τ) (Cert.InCReferenceIdeal.main (F := Ideal))) ⟨m, fun _ => 0, g⟩ (fun r => (∀ c : Dev Cert.InCReferenceIdeal.nD,
      r.2.mem ((c.tc : Thread Cert.InCReferenceIdeal.nD Cert.InCReferenceIdeal.τ).loc Cert.InCReferenceIdeal.main_arg0) = m ((c.tc : Thread Cert.InCReferenceIdeal.nD Cert.InCReferenceIdeal.τ).loc Cert.InCReferenceIdeal.main_arg0)
      ∧ r.2.mem ((c.tc : Thread Cert.InCReferenceIdeal.nD Cert.InCReferenceIdeal.τ).loc Cert.InCReferenceIdeal.main_arg1) = m ((c.tc : Thread Cert.InCReferenceIdeal.nD Cert.InCReferenceIdeal.τ).loc Cert.InCReferenceIdeal.main_arg1)
      ∧ r.2.mem ((c.tc : Thread Cert.InCReferenceIdeal.nD Cert.InCReferenceIdeal.τ).loc Cert.InCReferenceIdeal.main_arg2) = m ((c.tc : Thread Cert.InCReferenceIdeal.nD Cert.InCReferenceIdeal.τ).loc Cert.InCReferenceIdeal.main_arg2)
      ∧ r.2.mem ((c.tc : Thread Cert.InCReferenceIdeal.nD Cert.InCReferenceIdeal.τ).loc Cert.InCReferenceIdeal.main_arg3) = m ((c.tc : Thread Cert.InCReferenceIdeal.nD Cert.InCReferenceIdeal.τ).loc Cert.InCReferenceIdeal.main_arg3)
      ∧ r.2.mem ((c.tc : Thread Cert.InCReferenceIdeal.nD Cert.InCReferenceIdeal.τ).loc Cert.InCReferenceIdeal.main_arg4) = m ((c.tc : Thread Cert.InCReferenceIdeal.nD Cert.InCReferenceIdeal.τ).loc Cert.InCReferenceIdeal.main_arg4))
      ∧ r.2.sem = fun _ => 0)

def quiescent_InD [hInD : Cert.InD.Facts] : Prop :=
  ∀ (m : (ℓ : Loc Cert.InD.nD Cert.InD.τ Cert.InD.sig) → Buf (Elt Bits) ℓ) (g : Dev Cert.InD.nD → PrngReg), Pre_InD m →
    θ_run (Cert.InD.defs (F := Bits)) (onTc (τ := Cert.InD.τ) (Cert.InD.main (F := Bits))) ⟨m, fun _ => 0, g⟩ (fun r => (∀ c : Dev Cert.InD.nD,
      r.2.mem ((c.tc : Thread Cert.InD.nD Cert.InD.τ).loc Cert.InD.main_arg0) = m ((c.tc : Thread Cert.InD.nD Cert.InD.τ).loc Cert.InD.main_arg0)
      ∧ r.2.mem ((c.tc : Thread Cert.InD.nD Cert.InD.τ).loc Cert.InD.main_arg1) = m ((c.tc : Thread Cert.InD.nD Cert.InD.τ).loc Cert.InD.main_arg1)
      ∧ r.2.mem ((c.tc : Thread Cert.InD.nD Cert.InD.τ).loc Cert.InD.main_arg2) = m ((c.tc : Thread Cert.InD.nD Cert.InD.τ).loc Cert.InD.main_arg2)
      ∧ r.2.mem ((c.tc : Thread Cert.InD.nD Cert.InD.τ).loc Cert.InD.main_arg3) = m ((c.tc : Thread Cert.InD.nD Cert.InD.τ).loc Cert.InD.main_arg3)
      ∧ r.2.mem ((c.tc : Thread Cert.InD.nD Cert.InD.τ).loc Cert.InD.main_arg4) = m ((c.tc : Thread Cert.InD.nD Cert.InD.τ).loc Cert.InD.main_arg4)
      ∧ r.2.mem ((c.tc : Thread Cert.InD.nD Cert.InD.τ).loc Cert.InD.main_arg5) = m ((c.tc : Thread Cert.InD.nD Cert.InD.τ).loc Cert.InD.main_arg5))
      ∧ r.2.sem = fun _ => 0)

def quiescent_InDIdeal [hInDIdeal : Cert.InDIdeal.Facts] : Prop :=
  ∀ (m : (ℓ : Loc Cert.InDIdeal.nD Cert.InDIdeal.τ Cert.InDIdeal.sig) → Buf (Elt Ideal) ℓ) (g : Dev Cert.InDIdeal.nD → PrngReg), Pre_InDIdeal m →
    θ_run (Cert.InDIdeal.defs (F := Ideal)) (onTc (τ := Cert.InDIdeal.τ) (Cert.InDIdeal.main (F := Ideal))) ⟨m, fun _ => 0, g⟩ (fun r => (∀ c : Dev Cert.InDIdeal.nD,
      r.2.mem ((c.tc : Thread Cert.InDIdeal.nD Cert.InDIdeal.τ).loc Cert.InDIdeal.main_arg0) = m ((c.tc : Thread Cert.InDIdeal.nD Cert.InDIdeal.τ).loc Cert.InDIdeal.main_arg0)
      ∧ r.2.mem ((c.tc : Thread Cert.InDIdeal.nD Cert.InDIdeal.τ).loc Cert.InDIdeal.main_arg1) = m ((c.tc : Thread Cert.InDIdeal.nD Cert.InDIdeal.τ).loc Cert.InDIdeal.main_arg1)
      ∧ r.2.mem ((c.tc : Thread Cert.InDIdeal.nD Cert.InDIdeal.τ).loc Cert.InDIdeal.main_arg2) = m ((c.tc : Thread Cert.InDIdeal.nD Cert.InDIdeal.τ).loc Cert.InDIdeal.main_arg2)
      ∧ r.2.mem ((c.tc : Thread Cert.InDIdeal.nD Cert.InDIdeal.τ).loc Cert.InDIdeal.main_arg3) = m ((c.tc : Thread Cert.InDIdeal.nD Cert.InDIdeal.τ).loc Cert.InDIdeal.main_arg3)
      ∧ r.2.mem ((c.tc : Thread Cert.InDIdeal.nD Cert.InDIdeal.τ).loc Cert.InDIdeal.main_arg4) = m ((c.tc : Thread Cert.InDIdeal.nD Cert.InDIdeal.τ).loc Cert.InDIdeal.main_arg4)
      ∧ r.2.mem ((c.tc : Thread Cert.InDIdeal.nD Cert.InDIdeal.τ).loc Cert.InDIdeal.main_arg5) = m ((c.tc : Thread Cert.InDIdeal.nD Cert.InDIdeal.τ).loc Cert.InDIdeal.main_arg5))
      ∧ r.2.sem = fun _ => 0)

def quiescent_InDReferenceIdeal [hInDReferenceIdeal : Cert.InDReferenceIdeal.Facts] : Prop :=
  ∀ (m : (ℓ : Loc Cert.InDReferenceIdeal.nD Cert.InDReferenceIdeal.τ Cert.InDReferenceIdeal.sig) → Buf (Elt Ideal) ℓ) (g : Dev Cert.InDReferenceIdeal.nD → PrngReg), Pre_InDReferenceIdeal m →
    θ_run (Cert.InDReferenceIdeal.defs (F := Ideal)) (onTc (τ := Cert.InDReferenceIdeal.τ) (Cert.InDReferenceIdeal.main (F := Ideal))) ⟨m, fun _ => 0, g⟩ (fun r => (∀ c : Dev Cert.InDReferenceIdeal.nD,
      r.2.mem ((c.tc : Thread Cert.InDReferenceIdeal.nD Cert.InDReferenceIdeal.τ).loc Cert.InDReferenceIdeal.main_arg0) = m ((c.tc : Thread Cert.InDReferenceIdeal.nD Cert.InDReferenceIdeal.τ).loc Cert.InDReferenceIdeal.main_arg0)
      ∧ r.2.mem ((c.tc : Thread Cert.InDReferenceIdeal.nD Cert.InDReferenceIdeal.τ).loc Cert.InDReferenceIdeal.main_arg1) = m ((c.tc : Thread Cert.InDReferenceIdeal.nD Cert.InDReferenceIdeal.τ).loc Cert.InDReferenceIdeal.main_arg1)
      ∧ r.2.mem ((c.tc : Thread Cert.InDReferenceIdeal.nD Cert.InDReferenceIdeal.τ).loc Cert.InDReferenceIdeal.main_arg2) = m ((c.tc : Thread Cert.InDReferenceIdeal.nD Cert.InDReferenceIdeal.τ).loc Cert.InDReferenceIdeal.main_arg2)
      ∧ r.2.mem ((c.tc : Thread Cert.InDReferenceIdeal.nD Cert.InDReferenceIdeal.τ).loc Cert.InDReferenceIdeal.main_arg3) = m ((c.tc : Thread Cert.InDReferenceIdeal.nD Cert.InDReferenceIdeal.τ).loc Cert.InDReferenceIdeal.main_arg3)
      ∧ r.2.mem ((c.tc : Thread Cert.InDReferenceIdeal.nD Cert.InDReferenceIdeal.τ).loc Cert.InDReferenceIdeal.main_arg4) = m ((c.tc : Thread Cert.InDReferenceIdeal.nD Cert.InDReferenceIdeal.τ).loc Cert.InDReferenceIdeal.main_arg4)
      ∧ r.2.mem ((c.tc : Thread Cert.InDReferenceIdeal.nD Cert.InDReferenceIdeal.τ).loc Cert.InDReferenceIdeal.main_arg5) = m ((c.tc : Thread Cert.InDReferenceIdeal.nD Cert.InDReferenceIdeal.τ).loc Cert.InDReferenceIdeal.main_arg5))
      ∧ r.2.sem = fun _ => 0)

def quiescent_InActA [hInActA : Cert.InActA.Facts] : Prop :=
  ∀ (m : (ℓ : Loc Cert.InActA.nD Cert.InActA.τ Cert.InActA.sig) → Buf (Elt Bits) ℓ) (g : Dev Cert.InActA.nD → PrngReg), Pre_InActA m →
    θ_run (Cert.InActA.defs (F := Bits)) (onTc (τ := Cert.InActA.τ) (Cert.InActA.main (F := Bits))) ⟨m, fun _ => 0, g⟩ (fun r => (∀ c : Dev Cert.InActA.nD,
      r.2.mem ((c.tc : Thread Cert.InActA.nD Cert.InActA.τ).loc Cert.InActA.main_arg0) = m ((c.tc : Thread Cert.InActA.nD Cert.InActA.τ).loc Cert.InActA.main_arg0)
      ∧ r.2.mem ((c.tc : Thread Cert.InActA.nD Cert.InActA.τ).loc Cert.InActA.main_arg1) = m ((c.tc : Thread Cert.InActA.nD Cert.InActA.τ).loc Cert.InActA.main_arg1)
      ∧ r.2.mem ((c.tc : Thread Cert.InActA.nD Cert.InActA.τ).loc Cert.InActA.main_arg2) = m ((c.tc : Thread Cert.InActA.nD Cert.InActA.τ).loc Cert.InActA.main_arg2)
      ∧ r.2.mem ((c.tc : Thread Cert.InActA.nD Cert.InActA.τ).loc Cert.InActA.main_arg3) = m ((c.tc : Thread Cert.InActA.nD Cert.InActA.τ).loc Cert.InActA.main_arg3)
      ∧ r.2.mem ((c.tc : Thread Cert.InActA.nD Cert.InActA.τ).loc Cert.InActA.main_arg4) = m ((c.tc : Thread Cert.InActA.nD Cert.InActA.τ).loc Cert.InActA.main_arg4)
      ∧ r.2.mem ((c.tc : Thread Cert.InActA.nD Cert.InActA.τ).loc Cert.InActA.main_arg5) = m ((c.tc : Thread Cert.InActA.nD Cert.InActA.τ).loc Cert.InActA.main_arg5)
      ∧ r.2.mem ((c.tc : Thread Cert.InActA.nD Cert.InActA.τ).loc Cert.InActA.main_arg6) = m ((c.tc : Thread Cert.InActA.nD Cert.InActA.τ).loc Cert.InActA.main_arg6)
      ∧ r.2.mem ((c.tc : Thread Cert.InActA.nD Cert.InActA.τ).loc Cert.InActA.main_arg7) = m ((c.tc : Thread Cert.InActA.nD Cert.InActA.τ).loc Cert.InActA.main_arg7)
      ∧ r.2.mem ((c.tc : Thread Cert.InActA.nD Cert.InActA.τ).loc Cert.InActA.main_arg8) = m ((c.tc : Thread Cert.InActA.nD Cert.InActA.τ).loc Cert.InActA.main_arg8)
      ∧ r.2.mem ((c.tc : Thread Cert.InActA.nD Cert.InActA.τ).loc Cert.InActA.main_arg9) = m ((c.tc : Thread Cert.InActA.nD Cert.InActA.τ).loc Cert.InActA.main_arg9)
      ∧ r.2.mem ((c.tc : Thread Cert.InActA.nD Cert.InActA.τ).loc Cert.InActA.main_arg10) = m ((c.tc : Thread Cert.InActA.nD Cert.InActA.τ).loc Cert.InActA.main_arg10)
      ∧ r.2.mem ((c.tc : Thread Cert.InActA.nD Cert.InActA.τ).loc Cert.InActA.main_arg11) = m ((c.tc : Thread Cert.InActA.nD Cert.InActA.τ).loc Cert.InActA.main_arg11))
      ∧ r.2.sem = fun _ => 0)

def quiescent_InActAIdeal [hInActAIdeal : Cert.InActAIdeal.Facts] : Prop :=
  ∀ (m : (ℓ : Loc Cert.InActAIdeal.nD Cert.InActAIdeal.τ Cert.InActAIdeal.sig) → Buf (Elt Ideal) ℓ) (g : Dev Cert.InActAIdeal.nD → PrngReg), Pre_InActAIdeal m →
    θ_run (Cert.InActAIdeal.defs (F := Ideal)) (onTc (τ := Cert.InActAIdeal.τ) (Cert.InActAIdeal.main (F := Ideal))) ⟨m, fun _ => 0, g⟩ (fun r => (∀ c : Dev Cert.InActAIdeal.nD,
      r.2.mem ((c.tc : Thread Cert.InActAIdeal.nD Cert.InActAIdeal.τ).loc Cert.InActAIdeal.main_arg0) = m ((c.tc : Thread Cert.InActAIdeal.nD Cert.InActAIdeal.τ).loc Cert.InActAIdeal.main_arg0)
      ∧ r.2.mem ((c.tc : Thread Cert.InActAIdeal.nD Cert.InActAIdeal.τ).loc Cert.InActAIdeal.main_arg1) = m ((c.tc : Thread Cert.InActAIdeal.nD Cert.InActAIdeal.τ).loc Cert.InActAIdeal.main_arg1)
      ∧ r.2.mem ((c.tc : Thread Cert.InActAIdeal.nD Cert.InActAIdeal.τ).loc Cert.InActAIdeal.main_arg2) = m ((c.tc : Thread Cert.InActAIdeal.nD Cert.InActAIdeal.τ).loc Cert.InActAIdeal.main_arg2)
      ∧ r.2.mem ((c.tc : Thread Cert.InActAIdeal.nD Cert.InActAIdeal.τ).loc Cert.InActAIdeal.main_arg3) = m ((c.tc : Thread Cert.InActAIdeal.nD Cert.InActAIdeal.τ).loc Cert.InActAIdeal.main_arg3)
      ∧ r.2.mem ((c.tc : Thread Cert.InActAIdeal.nD Cert.InActAIdeal.τ).loc Cert.InActAIdeal.main_arg4) = m ((c.tc : Thread Cert.InActAIdeal.nD Cert.InActAIdeal.τ).loc Cert.InActAIdeal.main_arg4)
      ∧ r.2.mem ((c.tc : Thread Cert.InActAIdeal.nD Cert.InActAIdeal.τ).loc Cert.InActAIdeal.main_arg5) = m ((c.tc : Thread Cert.InActAIdeal.nD Cert.InActAIdeal.τ).loc Cert.InActAIdeal.main_arg5)
      ∧ r.2.mem ((c.tc : Thread Cert.InActAIdeal.nD Cert.InActAIdeal.τ).loc Cert.InActAIdeal.main_arg6) = m ((c.tc : Thread Cert.InActAIdeal.nD Cert.InActAIdeal.τ).loc Cert.InActAIdeal.main_arg6)
      ∧ r.2.mem ((c.tc : Thread Cert.InActAIdeal.nD Cert.InActAIdeal.τ).loc Cert.InActAIdeal.main_arg7) = m ((c.tc : Thread Cert.InActAIdeal.nD Cert.InActAIdeal.τ).loc Cert.InActAIdeal.main_arg7)
      ∧ r.2.mem ((c.tc : Thread Cert.InActAIdeal.nD Cert.InActAIdeal.τ).loc Cert.InActAIdeal.main_arg8) = m ((c.tc : Thread Cert.InActAIdeal.nD Cert.InActAIdeal.τ).loc Cert.InActAIdeal.main_arg8)
      ∧ r.2.mem ((c.tc : Thread Cert.InActAIdeal.nD Cert.InActAIdeal.τ).loc Cert.InActAIdeal.main_arg9) = m ((c.tc : Thread Cert.InActAIdeal.nD Cert.InActAIdeal.τ).loc Cert.InActAIdeal.main_arg9)
      ∧ r.2.mem ((c.tc : Thread Cert.InActAIdeal.nD Cert.InActAIdeal.τ).loc Cert.InActAIdeal.main_arg10) = m ((c.tc : Thread Cert.InActAIdeal.nD Cert.InActAIdeal.τ).loc Cert.InActAIdeal.main_arg10)
      ∧ r.2.mem ((c.tc : Thread Cert.InActAIdeal.nD Cert.InActAIdeal.τ).loc Cert.InActAIdeal.main_arg11) = m ((c.tc : Thread Cert.InActAIdeal.nD Cert.InActAIdeal.τ).loc Cert.InActAIdeal.main_arg11))
      ∧ r.2.sem = fun _ => 0)

def quiescent_InActAReferenceIdeal [hInActAReferenceIdeal : Cert.InActAReferenceIdeal.Facts] : Prop :=
  ∀ (m : (ℓ : Loc Cert.InActAReferenceIdeal.nD Cert.InActAReferenceIdeal.τ Cert.InActAReferenceIdeal.sig) → Buf (Elt Ideal) ℓ) (g : Dev Cert.InActAReferenceIdeal.nD → PrngReg), Pre_InActAReferenceIdeal m →
    θ_run (Cert.InActAReferenceIdeal.defs (F := Ideal)) (onTc (τ := Cert.InActAReferenceIdeal.τ) (Cert.InActAReferenceIdeal.main (F := Ideal))) ⟨m, fun _ => 0, g⟩ (fun r => (∀ c : Dev Cert.InActAReferenceIdeal.nD,
      r.2.mem ((c.tc : Thread Cert.InActAReferenceIdeal.nD Cert.InActAReferenceIdeal.τ).loc Cert.InActAReferenceIdeal.main_arg0) = m ((c.tc : Thread Cert.InActAReferenceIdeal.nD Cert.InActAReferenceIdeal.τ).loc Cert.InActAReferenceIdeal.main_arg0)
      ∧ r.2.mem ((c.tc : Thread Cert.InActAReferenceIdeal.nD Cert.InActAReferenceIdeal.τ).loc Cert.InActAReferenceIdeal.main_arg1) = m ((c.tc : Thread Cert.InActAReferenceIdeal.nD Cert.InActAReferenceIdeal.τ).loc Cert.InActAReferenceIdeal.main_arg1)
      ∧ r.2.mem ((c.tc : Thread Cert.InActAReferenceIdeal.nD Cert.InActAReferenceIdeal.τ).loc Cert.InActAReferenceIdeal.main_arg2) = m ((c.tc : Thread Cert.InActAReferenceIdeal.nD Cert.InActAReferenceIdeal.τ).loc Cert.InActAReferenceIdeal.main_arg2)
      ∧ r.2.mem ((c.tc : Thread Cert.InActAReferenceIdeal.nD Cert.InActAReferenceIdeal.τ).loc Cert.InActAReferenceIdeal.main_arg3) = m ((c.tc : Thread Cert.InActAReferenceIdeal.nD Cert.InActAReferenceIdeal.τ).loc Cert.InActAReferenceIdeal.main_arg3)
      ∧ r.2.mem ((c.tc : Thread Cert.InActAReferenceIdeal.nD Cert.InActAReferenceIdeal.τ).loc Cert.InActAReferenceIdeal.main_arg4) = m ((c.tc : Thread Cert.InActAReferenceIdeal.nD Cert.InActAReferenceIdeal.τ).loc Cert.InActAReferenceIdeal.main_arg4)
      ∧ r.2.mem ((c.tc : Thread Cert.InActAReferenceIdeal.nD Cert.InActAReferenceIdeal.τ).loc Cert.InActAReferenceIdeal.main_arg5) = m ((c.tc : Thread Cert.InActAReferenceIdeal.nD Cert.InActAReferenceIdeal.τ).loc Cert.InActAReferenceIdeal.main_arg5)
      ∧ r.2.mem ((c.tc : Thread Cert.InActAReferenceIdeal.nD Cert.InActAReferenceIdeal.τ).loc Cert.InActAReferenceIdeal.main_arg6) = m ((c.tc : Thread Cert.InActAReferenceIdeal.nD Cert.InActAReferenceIdeal.τ).loc Cert.InActAReferenceIdeal.main_arg6)
      ∧ r.2.mem ((c.tc : Thread Cert.InActAReferenceIdeal.nD Cert.InActAReferenceIdeal.τ).loc Cert.InActAReferenceIdeal.main_arg7) = m ((c.tc : Thread Cert.InActAReferenceIdeal.nD Cert.InActAReferenceIdeal.τ).loc Cert.InActAReferenceIdeal.main_arg7)
      ∧ r.2.mem ((c.tc : Thread Cert.InActAReferenceIdeal.nD Cert.InActAReferenceIdeal.τ).loc Cert.InActAReferenceIdeal.main_arg8) = m ((c.tc : Thread Cert.InActAReferenceIdeal.nD Cert.InActAReferenceIdeal.τ).loc Cert.InActAReferenceIdeal.main_arg8)
      ∧ r.2.mem ((c.tc : Thread Cert.InActAReferenceIdeal.nD Cert.InActAReferenceIdeal.τ).loc Cert.InActAReferenceIdeal.main_arg9) = m ((c.tc : Thread Cert.InActAReferenceIdeal.nD Cert.InActAReferenceIdeal.τ).loc Cert.InActAReferenceIdeal.main_arg9)
      ∧ r.2.mem ((c.tc : Thread Cert.InActAReferenceIdeal.nD Cert.InActAReferenceIdeal.τ).loc Cert.InActAReferenceIdeal.main_arg10) = m ((c.tc : Thread Cert.InActAReferenceIdeal.nD Cert.InActAReferenceIdeal.τ).loc Cert.InActAReferenceIdeal.main_arg10)
      ∧ r.2.mem ((c.tc : Thread Cert.InActAReferenceIdeal.nD Cert.InActAReferenceIdeal.τ).loc Cert.InActAReferenceIdeal.main_arg11) = m ((c.tc : Thread Cert.InActAReferenceIdeal.nD Cert.InActAReferenceIdeal.τ).loc Cert.InActAReferenceIdeal.main_arg11))
      ∧ r.2.sem = fun _ => 0)

def quiescent_InActB [hInActB : Cert.InActB.Facts] : Prop :=
  ∀ (m : (ℓ : Loc Cert.InActB.nD Cert.InActB.τ Cert.InActB.sig) → Buf (Elt Bits) ℓ) (g : Dev Cert.InActB.nD → PrngReg), Pre_InActB m →
    θ_run (Cert.InActB.defs (F := Bits)) (onTc (τ := Cert.InActB.τ) (Cert.InActB.main (F := Bits))) ⟨m, fun _ => 0, g⟩ (fun r => (∀ c : Dev Cert.InActB.nD,
      r.2.mem ((c.tc : Thread Cert.InActB.nD Cert.InActB.τ).loc Cert.InActB.main_arg0) = m ((c.tc : Thread Cert.InActB.nD Cert.InActB.τ).loc Cert.InActB.main_arg0)
      ∧ r.2.mem ((c.tc : Thread Cert.InActB.nD Cert.InActB.τ).loc Cert.InActB.main_arg1) = m ((c.tc : Thread Cert.InActB.nD Cert.InActB.τ).loc Cert.InActB.main_arg1)
      ∧ r.2.mem ((c.tc : Thread Cert.InActB.nD Cert.InActB.τ).loc Cert.InActB.main_arg2) = m ((c.tc : Thread Cert.InActB.nD Cert.InActB.τ).loc Cert.InActB.main_arg2)
      ∧ r.2.mem ((c.tc : Thread Cert.InActB.nD Cert.InActB.τ).loc Cert.InActB.main_arg3) = m ((c.tc : Thread Cert.InActB.nD Cert.InActB.τ).loc Cert.InActB.main_arg3)
      ∧ r.2.mem ((c.tc : Thread Cert.InActB.nD Cert.InActB.τ).loc Cert.InActB.main_arg4) = m ((c.tc : Thread Cert.InActB.nD Cert.InActB.τ).loc Cert.InActB.main_arg4)
      ∧ r.2.mem ((c.tc : Thread Cert.InActB.nD Cert.InActB.τ).loc Cert.InActB.main_arg5) = m ((c.tc : Thread Cert.InActB.nD Cert.InActB.τ).loc Cert.InActB.main_arg5)
      ∧ r.2.mem ((c.tc : Thread Cert.InActB.nD Cert.InActB.τ).loc Cert.InActB.main_arg6) = m ((c.tc : Thread Cert.InActB.nD Cert.InActB.τ).loc Cert.InActB.main_arg6)
      ∧ r.2.mem ((c.tc : Thread Cert.InActB.nD Cert.InActB.τ).loc Cert.InActB.main_arg7) = m ((c.tc : Thread Cert.InActB.nD Cert.InActB.τ).loc Cert.InActB.main_arg7))
      ∧ r.2.sem = fun _ => 0)

def quiescent_InActBIdeal [hInActBIdeal : Cert.InActBIdeal.Facts] : Prop :=
  ∀ (m : (ℓ : Loc Cert.InActBIdeal.nD Cert.InActBIdeal.τ Cert.InActBIdeal.sig) → Buf (Elt Ideal) ℓ) (g : Dev Cert.InActBIdeal.nD → PrngReg), Pre_InActBIdeal m →
    θ_run (Cert.InActBIdeal.defs (F := Ideal)) (onTc (τ := Cert.InActBIdeal.τ) (Cert.InActBIdeal.main (F := Ideal))) ⟨m, fun _ => 0, g⟩ (fun r => (∀ c : Dev Cert.InActBIdeal.nD,
      r.2.mem ((c.tc : Thread Cert.InActBIdeal.nD Cert.InActBIdeal.τ).loc Cert.InActBIdeal.main_arg0) = m ((c.tc : Thread Cert.InActBIdeal.nD Cert.InActBIdeal.τ).loc Cert.InActBIdeal.main_arg0)
      ∧ r.2.mem ((c.tc : Thread Cert.InActBIdeal.nD Cert.InActBIdeal.τ).loc Cert.InActBIdeal.main_arg1) = m ((c.tc : Thread Cert.InActBIdeal.nD Cert.InActBIdeal.τ).loc Cert.InActBIdeal.main_arg1)
      ∧ r.2.mem ((c.tc : Thread Cert.InActBIdeal.nD Cert.InActBIdeal.τ).loc Cert.InActBIdeal.main_arg2) = m ((c.tc : Thread Cert.InActBIdeal.nD Cert.InActBIdeal.τ).loc Cert.InActBIdeal.main_arg2)
      ∧ r.2.mem ((c.tc : Thread Cert.InActBIdeal.nD Cert.InActBIdeal.τ).loc Cert.InActBIdeal.main_arg3) = m ((c.tc : Thread Cert.InActBIdeal.nD Cert.InActBIdeal.τ).loc Cert.InActBIdeal.main_arg3)
      ∧ r.2.mem ((c.tc : Thread Cert.InActBIdeal.nD Cert.InActBIdeal.τ).loc Cert.InActBIdeal.main_arg4) = m ((c.tc : Thread Cert.InActBIdeal.nD Cert.InActBIdeal.τ).loc Cert.InActBIdeal.main_arg4)
      ∧ r.2.mem ((c.tc : Thread Cert.InActBIdeal.nD Cert.InActBIdeal.τ).loc Cert.InActBIdeal.main_arg5) = m ((c.tc : Thread Cert.InActBIdeal.nD Cert.InActBIdeal.τ).loc Cert.InActBIdeal.main_arg5)
      ∧ r.2.mem ((c.tc : Thread Cert.InActBIdeal.nD Cert.InActBIdeal.τ).loc Cert.InActBIdeal.main_arg6) = m ((c.tc : Thread Cert.InActBIdeal.nD Cert.InActBIdeal.τ).loc Cert.InActBIdeal.main_arg6)
      ∧ r.2.mem ((c.tc : Thread Cert.InActBIdeal.nD Cert.InActBIdeal.τ).loc Cert.InActBIdeal.main_arg7) = m ((c.tc : Thread Cert.InActBIdeal.nD Cert.InActBIdeal.τ).loc Cert.InActBIdeal.main_arg7))
      ∧ r.2.sem = fun _ => 0)

def quiescent_InActBReferenceIdeal [hInActBReferenceIdeal : Cert.InActBReferenceIdeal.Facts] : Prop :=
  ∀ (m : (ℓ : Loc Cert.InActBReferenceIdeal.nD Cert.InActBReferenceIdeal.τ Cert.InActBReferenceIdeal.sig) → Buf (Elt Ideal) ℓ) (g : Dev Cert.InActBReferenceIdeal.nD → PrngReg), Pre_InActBReferenceIdeal m →
    θ_run (Cert.InActBReferenceIdeal.defs (F := Ideal)) (onTc (τ := Cert.InActBReferenceIdeal.τ) (Cert.InActBReferenceIdeal.main (F := Ideal))) ⟨m, fun _ => 0, g⟩ (fun r => (∀ c : Dev Cert.InActBReferenceIdeal.nD,
      r.2.mem ((c.tc : Thread Cert.InActBReferenceIdeal.nD Cert.InActBReferenceIdeal.τ).loc Cert.InActBReferenceIdeal.main_arg0) = m ((c.tc : Thread Cert.InActBReferenceIdeal.nD Cert.InActBReferenceIdeal.τ).loc Cert.InActBReferenceIdeal.main_arg0)
      ∧ r.2.mem ((c.tc : Thread Cert.InActBReferenceIdeal.nD Cert.InActBReferenceIdeal.τ).loc Cert.InActBReferenceIdeal.main_arg1) = m ((c.tc : Thread Cert.InActBReferenceIdeal.nD Cert.InActBReferenceIdeal.τ).loc Cert.InActBReferenceIdeal.main_arg1)
      ∧ r.2.mem ((c.tc : Thread Cert.InActBReferenceIdeal.nD Cert.InActBReferenceIdeal.τ).loc Cert.InActBReferenceIdeal.main_arg2) = m ((c.tc : Thread Cert.InActBReferenceIdeal.nD Cert.InActBReferenceIdeal.τ).loc Cert.InActBReferenceIdeal.main_arg2)
      ∧ r.2.mem ((c.tc : Thread Cert.InActBReferenceIdeal.nD Cert.InActBReferenceIdeal.τ).loc Cert.InActBReferenceIdeal.main_arg3) = m ((c.tc : Thread Cert.InActBReferenceIdeal.nD Cert.InActBReferenceIdeal.τ).loc Cert.InActBReferenceIdeal.main_arg3)
      ∧ r.2.mem ((c.tc : Thread Cert.InActBReferenceIdeal.nD Cert.InActBReferenceIdeal.τ).loc Cert.InActBReferenceIdeal.main_arg4) = m ((c.tc : Thread Cert.InActBReferenceIdeal.nD Cert.InActBReferenceIdeal.τ).loc Cert.InActBReferenceIdeal.main_arg4)
      ∧ r.2.mem ((c.tc : Thread Cert.InActBReferenceIdeal.nD Cert.InActBReferenceIdeal.τ).loc Cert.InActBReferenceIdeal.main_arg5) = m ((c.tc : Thread Cert.InActBReferenceIdeal.nD Cert.InActBReferenceIdeal.τ).loc Cert.InActBReferenceIdeal.main_arg5)
      ∧ r.2.mem ((c.tc : Thread Cert.InActBReferenceIdeal.nD Cert.InActBReferenceIdeal.τ).loc Cert.InActBReferenceIdeal.main_arg6) = m ((c.tc : Thread Cert.InActBReferenceIdeal.nD Cert.InActBReferenceIdeal.τ).loc Cert.InActBReferenceIdeal.main_arg6)
      ∧ r.2.mem ((c.tc : Thread Cert.InActBReferenceIdeal.nD Cert.InActBReferenceIdeal.τ).loc Cert.InActBReferenceIdeal.main_arg7) = m ((c.tc : Thread Cert.InActBReferenceIdeal.nD Cert.InActBReferenceIdeal.τ).loc Cert.InActBReferenceIdeal.main_arg7))
      ∧ r.2.sem = fun _ => 0)

def quiescent_InActC [hInActC : Cert.InActC.Facts] : Prop :=
  ∀ (m : (ℓ : Loc Cert.InActC.nD Cert.InActC.τ Cert.InActC.sig) → Buf (Elt Bits) ℓ) (g : Dev Cert.InActC.nD → PrngReg), Pre_InActC m →
    θ_run (Cert.InActC.defs (F := Bits)) (onTc (τ := Cert.InActC.τ) (Cert.InActC.main (F := Bits))) ⟨m, fun _ => 0, g⟩ (fun r => (∀ c : Dev Cert.InActC.nD,
      r.2.mem ((c.tc : Thread Cert.InActC.nD Cert.InActC.τ).loc Cert.InActC.main_arg0) = m ((c.tc : Thread Cert.InActC.nD Cert.InActC.τ).loc Cert.InActC.main_arg0)
      ∧ r.2.mem ((c.tc : Thread Cert.InActC.nD Cert.InActC.τ).loc Cert.InActC.main_arg1) = m ((c.tc : Thread Cert.InActC.nD Cert.InActC.τ).loc Cert.InActC.main_arg1)
      ∧ r.2.mem ((c.tc : Thread Cert.InActC.nD Cert.InActC.τ).loc Cert.InActC.main_arg2) = m ((c.tc : Thread Cert.InActC.nD Cert.InActC.τ).loc Cert.InActC.main_arg2)
      ∧ r.2.mem ((c.tc : Thread Cert.InActC.nD Cert.InActC.τ).loc Cert.InActC.main_arg3) = m ((c.tc : Thread Cert.InActC.nD Cert.InActC.τ).loc Cert.InActC.main_arg3)
      ∧ r.2.mem ((c.tc : Thread Cert.InActC.nD Cert.InActC.τ).loc Cert.InActC.main_arg4) = m ((c.tc : Thread Cert.InActC.nD Cert.InActC.τ).loc Cert.InActC.main_arg4)
      ∧ r.2.mem ((c.tc : Thread Cert.InActC.nD Cert.InActC.τ).loc Cert.InActC.main_arg5) = m ((c.tc : Thread Cert.InActC.nD Cert.InActC.τ).loc Cert.InActC.main_arg5)
      ∧ r.2.mem ((c.tc : Thread Cert.InActC.nD Cert.InActC.τ).loc Cert.InActC.main_arg6) = m ((c.tc : Thread Cert.InActC.nD Cert.InActC.τ).loc Cert.InActC.main_arg6)
      ∧ r.2.mem ((c.tc : Thread Cert.InActC.nD Cert.InActC.τ).loc Cert.InActC.main_arg7) = m ((c.tc : Thread Cert.InActC.nD Cert.InActC.τ).loc Cert.InActC.main_arg7))
      ∧ r.2.sem = fun _ => 0)

def quiescent_InActCIdeal [hInActCIdeal : Cert.InActCIdeal.Facts] : Prop :=
  ∀ (m : (ℓ : Loc Cert.InActCIdeal.nD Cert.InActCIdeal.τ Cert.InActCIdeal.sig) → Buf (Elt Ideal) ℓ) (g : Dev Cert.InActCIdeal.nD → PrngReg), Pre_InActCIdeal m →
    θ_run (Cert.InActCIdeal.defs (F := Ideal)) (onTc (τ := Cert.InActCIdeal.τ) (Cert.InActCIdeal.main (F := Ideal))) ⟨m, fun _ => 0, g⟩ (fun r => (∀ c : Dev Cert.InActCIdeal.nD,
      r.2.mem ((c.tc : Thread Cert.InActCIdeal.nD Cert.InActCIdeal.τ).loc Cert.InActCIdeal.main_arg0) = m ((c.tc : Thread Cert.InActCIdeal.nD Cert.InActCIdeal.τ).loc Cert.InActCIdeal.main_arg0)
      ∧ r.2.mem ((c.tc : Thread Cert.InActCIdeal.nD Cert.InActCIdeal.τ).loc Cert.InActCIdeal.main_arg1) = m ((c.tc : Thread Cert.InActCIdeal.nD Cert.InActCIdeal.τ).loc Cert.InActCIdeal.main_arg1)
      ∧ r.2.mem ((c.tc : Thread Cert.InActCIdeal.nD Cert.InActCIdeal.τ).loc Cert.InActCIdeal.main_arg2) = m ((c.tc : Thread Cert.InActCIdeal.nD Cert.InActCIdeal.τ).loc Cert.InActCIdeal.main_arg2)
      ∧ r.2.mem ((c.tc : Thread Cert.InActCIdeal.nD Cert.InActCIdeal.τ).loc Cert.InActCIdeal.main_arg3) = m ((c.tc : Thread Cert.InActCIdeal.nD Cert.InActCIdeal.τ).loc Cert.InActCIdeal.main_arg3)
      ∧ r.2.mem ((c.tc : Thread Cert.InActCIdeal.nD Cert.InActCIdeal.τ).loc Cert.InActCIdeal.main_arg4) = m ((c.tc : Thread Cert.InActCIdeal.nD Cert.InActCIdeal.τ).loc Cert.InActCIdeal.main_arg4)
      ∧ r.2.mem ((c.tc : Thread Cert.InActCIdeal.nD Cert.InActCIdeal.τ).loc Cert.InActCIdeal.main_arg5) = m ((c.tc : Thread Cert.InActCIdeal.nD Cert.InActCIdeal.τ).loc Cert.InActCIdeal.main_arg5)
      ∧ r.2.mem ((c.tc : Thread Cert.InActCIdeal.nD Cert.InActCIdeal.τ).loc Cert.InActCIdeal.main_arg6) = m ((c.tc : Thread Cert.InActCIdeal.nD Cert.InActCIdeal.τ).loc Cert.InActCIdeal.main_arg6)
      ∧ r.2.mem ((c.tc : Thread Cert.InActCIdeal.nD Cert.InActCIdeal.τ).loc Cert.InActCIdeal.main_arg7) = m ((c.tc : Thread Cert.InActCIdeal.nD Cert.InActCIdeal.τ).loc Cert.InActCIdeal.main_arg7))
      ∧ r.2.sem = fun _ => 0)

def quiescent_InActCReferenceIdeal [hInActCReferenceIdeal : Cert.InActCReferenceIdeal.Facts] : Prop :=
  ∀ (m : (ℓ : Loc Cert.InActCReferenceIdeal.nD Cert.InActCReferenceIdeal.τ Cert.InActCReferenceIdeal.sig) → Buf (Elt Ideal) ℓ) (g : Dev Cert.InActCReferenceIdeal.nD → PrngReg), Pre_InActCReferenceIdeal m →
    θ_run (Cert.InActCReferenceIdeal.defs (F := Ideal)) (onTc (τ := Cert.InActCReferenceIdeal.τ) (Cert.InActCReferenceIdeal.main (F := Ideal))) ⟨m, fun _ => 0, g⟩ (fun r => (∀ c : Dev Cert.InActCReferenceIdeal.nD,
      r.2.mem ((c.tc : Thread Cert.InActCReferenceIdeal.nD Cert.InActCReferenceIdeal.τ).loc Cert.InActCReferenceIdeal.main_arg0) = m ((c.tc : Thread Cert.InActCReferenceIdeal.nD Cert.InActCReferenceIdeal.τ).loc Cert.InActCReferenceIdeal.main_arg0)
      ∧ r.2.mem ((c.tc : Thread Cert.InActCReferenceIdeal.nD Cert.InActCReferenceIdeal.τ).loc Cert.InActCReferenceIdeal.main_arg1) = m ((c.tc : Thread Cert.InActCReferenceIdeal.nD Cert.InActCReferenceIdeal.τ).loc Cert.InActCReferenceIdeal.main_arg1)
      ∧ r.2.mem ((c.tc : Thread Cert.InActCReferenceIdeal.nD Cert.InActCReferenceIdeal.τ).loc Cert.InActCReferenceIdeal.main_arg2) = m ((c.tc : Thread Cert.InActCReferenceIdeal.nD Cert.InActCReferenceIdeal.τ).loc Cert.InActCReferenceIdeal.main_arg2)
      ∧ r.2.mem ((c.tc : Thread Cert.InActCReferenceIdeal.nD Cert.InActCReferenceIdeal.τ).loc Cert.InActCReferenceIdeal.main_arg3) = m ((c.tc : Thread Cert.InActCReferenceIdeal.nD Cert.InActCReferenceIdeal.τ).loc Cert.InActCReferenceIdeal.main_arg3)
      ∧ r.2.mem ((c.tc : Thread Cert.InActCReferenceIdeal.nD Cert.InActCReferenceIdeal.τ).loc Cert.InActCReferenceIdeal.main_arg4) = m ((c.tc : Thread Cert.InActCReferenceIdeal.nD Cert.InActCReferenceIdeal.τ).loc Cert.InActCReferenceIdeal.main_arg4)
      ∧ r.2.mem ((c.tc : Thread Cert.InActCReferenceIdeal.nD Cert.InActCReferenceIdeal.τ).loc Cert.InActCReferenceIdeal.main_arg5) = m ((c.tc : Thread Cert.InActCReferenceIdeal.nD Cert.InActCReferenceIdeal.τ).loc Cert.InActCReferenceIdeal.main_arg5)
      ∧ r.2.mem ((c.tc : Thread Cert.InActCReferenceIdeal.nD Cert.InActCReferenceIdeal.τ).loc Cert.InActCReferenceIdeal.main_arg6) = m ((c.tc : Thread Cert.InActCReferenceIdeal.nD Cert.InActCReferenceIdeal.τ).loc Cert.InActCReferenceIdeal.main_arg6)
      ∧ r.2.mem ((c.tc : Thread Cert.InActCReferenceIdeal.nD Cert.InActCReferenceIdeal.τ).loc Cert.InActCReferenceIdeal.main_arg7) = m ((c.tc : Thread Cert.InActCReferenceIdeal.nD Cert.InActCReferenceIdeal.τ).loc Cert.InActCReferenceIdeal.main_arg7))
      ∧ r.2.sem = fun _ => 0)

def quiescent_InActD [hInActD : Cert.InActD.Facts] : Prop :=
  ∀ (m : (ℓ : Loc Cert.InActD.nD Cert.InActD.τ Cert.InActD.sig) → Buf (Elt Bits) ℓ) (g : Dev Cert.InActD.nD → PrngReg), Pre_InActD m →
    θ_run (Cert.InActD.defs (F := Bits)) (onTc (τ := Cert.InActD.τ) (Cert.InActD.main (F := Bits))) ⟨m, fun _ => 0, g⟩ (fun r => (∀ c : Dev Cert.InActD.nD,
      r.2.mem ((c.tc : Thread Cert.InActD.nD Cert.InActD.τ).loc Cert.InActD.main_arg0) = m ((c.tc : Thread Cert.InActD.nD Cert.InActD.τ).loc Cert.InActD.main_arg0)
      ∧ r.2.mem ((c.tc : Thread Cert.InActD.nD Cert.InActD.τ).loc Cert.InActD.main_arg1) = m ((c.tc : Thread Cert.InActD.nD Cert.InActD.τ).loc Cert.InActD.main_arg1)
      ∧ r.2.mem ((c.tc : Thread Cert.InActD.nD Cert.InActD.τ).loc Cert.InActD.main_arg2) = m ((c.tc : Thread Cert.InActD.nD Cert.InActD.τ).loc Cert.InActD.main_arg2)
      ∧ r.2.mem ((c.tc : Thread Cert.InActD.nD Cert.InActD.τ).loc Cert.InActD.main_arg3) = m ((c.tc : Thread Cert.InActD.nD Cert.InActD.τ).loc Cert.InActD.main_arg3)
      ∧ r.2.mem ((c.tc : Thread Cert.InActD.nD Cert.InActD.τ).loc Cert.InActD.main_arg4) = m ((c.tc : Thread Cert.InActD.nD Cert.InActD.τ).loc Cert.InActD.main_arg4)
      ∧ r.2.mem ((c.tc : Thread Cert.InActD.nD Cert.InActD.τ).loc Cert.InActD.main_arg5) = m ((c.tc : Thread Cert.InActD.nD Cert.InActD.τ).loc Cert.InActD.main_arg5)
      ∧ r.2.mem ((c.tc : Thread Cert.InActD.nD Cert.InActD.τ).loc Cert.InActD.main_arg6) = m ((c.tc : Thread Cert.InActD.nD Cert.InActD.τ).loc Cert.InActD.main_arg6)
      ∧ r.2.mem ((c.tc : Thread Cert.InActD.nD Cert.InActD.τ).loc Cert.InActD.main_arg7) = m ((c.tc : Thread Cert.InActD.nD Cert.InActD.τ).loc Cert.InActD.main_arg7)
      ∧ r.2.mem ((c.tc : Thread Cert.InActD.nD Cert.InActD.τ).loc Cert.InActD.main_arg8) = m ((c.tc : Thread Cert.InActD.nD Cert.InActD.τ).loc Cert.InActD.main_arg8)
      ∧ r.2.mem ((c.tc : Thread Cert.InActD.nD Cert.InActD.τ).loc Cert.InActD.main_arg9) = m ((c.tc : Thread Cert.InActD.nD Cert.InActD.τ).loc Cert.InActD.main_arg9))
      ∧ r.2.sem = fun _ => 0)

def quiescent_InActDIdeal [hInActDIdeal : Cert.InActDIdeal.Facts] : Prop :=
  ∀ (m : (ℓ : Loc Cert.InActDIdeal.nD Cert.InActDIdeal.τ Cert.InActDIdeal.sig) → Buf (Elt Ideal) ℓ) (g : Dev Cert.InActDIdeal.nD → PrngReg), Pre_InActDIdeal m →
    θ_run (Cert.InActDIdeal.defs (F := Ideal)) (onTc (τ := Cert.InActDIdeal.τ) (Cert.InActDIdeal.main (F := Ideal))) ⟨m, fun _ => 0, g⟩ (fun r => (∀ c : Dev Cert.InActDIdeal.nD,
      r.2.mem ((c.tc : Thread Cert.InActDIdeal.nD Cert.InActDIdeal.τ).loc Cert.InActDIdeal.main_arg0) = m ((c.tc : Thread Cert.InActDIdeal.nD Cert.InActDIdeal.τ).loc Cert.InActDIdeal.main_arg0)
      ∧ r.2.mem ((c.tc : Thread Cert.InActDIdeal.nD Cert.InActDIdeal.τ).loc Cert.InActDIdeal.main_arg1) = m ((c.tc : Thread Cert.InActDIdeal.nD Cert.InActDIdeal.τ).loc Cert.InActDIdeal.main_arg1)
      ∧ r.2.mem ((c.tc : Thread Cert.InActDIdeal.nD Cert.InActDIdeal.τ).loc Cert.InActDIdeal.main_arg2) = m ((c.tc : Thread Cert.InActDIdeal.nD Cert.InActDIdeal.τ).loc Cert.InActDIdeal.main_arg2)
      ∧ r.2.mem ((c.tc : Thread Cert.InActDIdeal.nD Cert.InActDIdeal.τ).loc Cert.InActDIdeal.main_arg3) = m ((c.tc : Thread Cert.InActDIdeal.nD Cert.InActDIdeal.τ).loc Cert.InActDIdeal.main_arg3)
      ∧ r.2.mem ((c.tc : Thread Cert.InActDIdeal.nD Cert.InActDIdeal.τ).loc Cert.InActDIdeal.main_arg4) = m ((c.tc : Thread Cert.InActDIdeal.nD Cert.InActDIdeal.τ).loc Cert.InActDIdeal.main_arg4)
      ∧ r.2.mem ((c.tc : Thread Cert.InActDIdeal.nD Cert.InActDIdeal.τ).loc Cert.InActDIdeal.main_arg5) = m ((c.tc : Thread Cert.InActDIdeal.nD Cert.InActDIdeal.τ).loc Cert.InActDIdeal.main_arg5)
      ∧ r.2.mem ((c.tc : Thread Cert.InActDIdeal.nD Cert.InActDIdeal.τ).loc Cert.InActDIdeal.main_arg6) = m ((c.tc : Thread Cert.InActDIdeal.nD Cert.InActDIdeal.τ).loc Cert.InActDIdeal.main_arg6)
      ∧ r.2.mem ((c.tc : Thread Cert.InActDIdeal.nD Cert.InActDIdeal.τ).loc Cert.InActDIdeal.main_arg7) = m ((c.tc : Thread Cert.InActDIdeal.nD Cert.InActDIdeal.τ).loc Cert.InActDIdeal.main_arg7)
      ∧ r.2.mem ((c.tc : Thread Cert.InActDIdeal.nD Cert.InActDIdeal.τ).loc Cert.InActDIdeal.main_arg8) = m ((c.tc : Thread Cert.InActDIdeal.nD Cert.InActDIdeal.τ).loc Cert.InActDIdeal.main_arg8)
      ∧ r.2.mem ((c.tc : Thread Cert.InActDIdeal.nD Cert.InActDIdeal.τ).loc Cert.InActDIdeal.main_arg9) = m ((c.tc : Thread Cert.InActDIdeal.nD Cert.InActDIdeal.τ).loc Cert.InActDIdeal.main_arg9))
      ∧ r.2.sem = fun _ => 0)

def quiescent_InActDReferenceIdeal [hInActDReferenceIdeal : Cert.InActDReferenceIdeal.Facts] : Prop :=
  ∀ (m : (ℓ : Loc Cert.InActDReferenceIdeal.nD Cert.InActDReferenceIdeal.τ Cert.InActDReferenceIdeal.sig) → Buf (Elt Ideal) ℓ) (g : Dev Cert.InActDReferenceIdeal.nD → PrngReg), Pre_InActDReferenceIdeal m →
    θ_run (Cert.InActDReferenceIdeal.defs (F := Ideal)) (onTc (τ := Cert.InActDReferenceIdeal.τ) (Cert.InActDReferenceIdeal.main (F := Ideal))) ⟨m, fun _ => 0, g⟩ (fun r => (∀ c : Dev Cert.InActDReferenceIdeal.nD,
      r.2.mem ((c.tc : Thread Cert.InActDReferenceIdeal.nD Cert.InActDReferenceIdeal.τ).loc Cert.InActDReferenceIdeal.main_arg0) = m ((c.tc : Thread Cert.InActDReferenceIdeal.nD Cert.InActDReferenceIdeal.τ).loc Cert.InActDReferenceIdeal.main_arg0)
      ∧ r.2.mem ((c.tc : Thread Cert.InActDReferenceIdeal.nD Cert.InActDReferenceIdeal.τ).loc Cert.InActDReferenceIdeal.main_arg1) = m ((c.tc : Thread Cert.InActDReferenceIdeal.nD Cert.InActDReferenceIdeal.τ).loc Cert.InActDReferenceIdeal.main_arg1)
      ∧ r.2.mem ((c.tc : Thread Cert.InActDReferenceIdeal.nD Cert.InActDReferenceIdeal.τ).loc Cert.InActDReferenceIdeal.main_arg2) = m ((c.tc : Thread Cert.InActDReferenceIdeal.nD Cert.InActDReferenceIdeal.τ).loc Cert.InActDReferenceIdeal.main_arg2)
      ∧ r.2.mem ((c.tc : Thread Cert.InActDReferenceIdeal.nD Cert.InActDReferenceIdeal.τ).loc Cert.InActDReferenceIdeal.main_arg3) = m ((c.tc : Thread Cert.InActDReferenceIdeal.nD Cert.InActDReferenceIdeal.τ).loc Cert.InActDReferenceIdeal.main_arg3)
      ∧ r.2.mem ((c.tc : Thread Cert.InActDReferenceIdeal.nD Cert.InActDReferenceIdeal.τ).loc Cert.InActDReferenceIdeal.main_arg4) = m ((c.tc : Thread Cert.InActDReferenceIdeal.nD Cert.InActDReferenceIdeal.τ).loc Cert.InActDReferenceIdeal.main_arg4)
      ∧ r.2.mem ((c.tc : Thread Cert.InActDReferenceIdeal.nD Cert.InActDReferenceIdeal.τ).loc Cert.InActDReferenceIdeal.main_arg5) = m ((c.tc : Thread Cert.InActDReferenceIdeal.nD Cert.InActDReferenceIdeal.τ).loc Cert.InActDReferenceIdeal.main_arg5)
      ∧ r.2.mem ((c.tc : Thread Cert.InActDReferenceIdeal.nD Cert.InActDReferenceIdeal.τ).loc Cert.InActDReferenceIdeal.main_arg6) = m ((c.tc : Thread Cert.InActDReferenceIdeal.nD Cert.InActDReferenceIdeal.τ).loc Cert.InActDReferenceIdeal.main_arg6)
      ∧ r.2.mem ((c.tc : Thread Cert.InActDReferenceIdeal.nD Cert.InActDReferenceIdeal.τ).loc Cert.InActDReferenceIdeal.main_arg7) = m ((c.tc : Thread Cert.InActDReferenceIdeal.nD Cert.InActDReferenceIdeal.τ).loc Cert.InActDReferenceIdeal.main_arg7)
      ∧ r.2.mem ((c.tc : Thread Cert.InActDReferenceIdeal.nD Cert.InActDReferenceIdeal.τ).loc Cert.InActDReferenceIdeal.main_arg8) = m ((c.tc : Thread Cert.InActDReferenceIdeal.nD Cert.InActDReferenceIdeal.τ).loc Cert.InActDReferenceIdeal.main_arg8)
      ∧ r.2.mem ((c.tc : Thread Cert.InActDReferenceIdeal.nD Cert.InActDReferenceIdeal.τ).loc Cert.InActDReferenceIdeal.main_arg9) = m ((c.tc : Thread Cert.InActDReferenceIdeal.nD Cert.InActDReferenceIdeal.τ).loc Cert.InActDReferenceIdeal.main_arg9))
      ∧ r.2.sem = fun _ => 0)

def quiescent_InWeightQ [hInWeightQ : Cert.InWeightQ.Facts] : Prop :=
  ∀ (m : (ℓ : Loc Cert.InWeightQ.nD Cert.InWeightQ.τ Cert.InWeightQ.sig) → Buf (Elt Bits) ℓ) (g : Dev Cert.InWeightQ.nD → PrngReg), Pre_InWeightQ m →
    θ_run (Cert.InWeightQ.defs (F := Bits)) (onTc (τ := Cert.InWeightQ.τ) (Cert.InWeightQ.main (F := Bits))) ⟨m, fun _ => 0, g⟩ (fun r => (∀ c : Dev Cert.InWeightQ.nD,
      r.2.mem ((c.tc : Thread Cert.InWeightQ.nD Cert.InWeightQ.τ).loc Cert.InWeightQ.main_arg0) = m ((c.tc : Thread Cert.InWeightQ.nD Cert.InWeightQ.τ).loc Cert.InWeightQ.main_arg0)
      ∧ r.2.mem ((c.tc : Thread Cert.InWeightQ.nD Cert.InWeightQ.τ).loc Cert.InWeightQ.main_arg1) = m ((c.tc : Thread Cert.InWeightQ.nD Cert.InWeightQ.τ).loc Cert.InWeightQ.main_arg1))
      ∧ r.2.sem = fun _ => 0)

def quiescent_InWeightQIdeal [hInWeightQIdeal : Cert.InWeightQIdeal.Facts] : Prop :=
  ∀ (m : (ℓ : Loc Cert.InWeightQIdeal.nD Cert.InWeightQIdeal.τ Cert.InWeightQIdeal.sig) → Buf (Elt Ideal) ℓ) (g : Dev Cert.InWeightQIdeal.nD → PrngReg), Pre_InWeightQIdeal m →
    θ_run (Cert.InWeightQIdeal.defs (F := Ideal)) (onTc (τ := Cert.InWeightQIdeal.τ) (Cert.InWeightQIdeal.main (F := Ideal))) ⟨m, fun _ => 0, g⟩ (fun r => (∀ c : Dev Cert.InWeightQIdeal.nD,
      r.2.mem ((c.tc : Thread Cert.InWeightQIdeal.nD Cert.InWeightQIdeal.τ).loc Cert.InWeightQIdeal.main_arg0) = m ((c.tc : Thread Cert.InWeightQIdeal.nD Cert.InWeightQIdeal.τ).loc Cert.InWeightQIdeal.main_arg0)
      ∧ r.2.mem ((c.tc : Thread Cert.InWeightQIdeal.nD Cert.InWeightQIdeal.τ).loc Cert.InWeightQIdeal.main_arg1) = m ((c.tc : Thread Cert.InWeightQIdeal.nD Cert.InWeightQIdeal.τ).loc Cert.InWeightQIdeal.main_arg1))
      ∧ r.2.sem = fun _ => 0)

def quiescent_InWeightQReferenceIdeal [hInWeightQReferenceIdeal : Cert.InWeightQReferenceIdeal.Facts] : Prop :=
  ∀ (m : (ℓ : Loc Cert.InWeightQReferenceIdeal.nD Cert.InWeightQReferenceIdeal.τ Cert.InWeightQReferenceIdeal.sig) → Buf (Elt Ideal) ℓ) (g : Dev Cert.InWeightQReferenceIdeal.nD → PrngReg), Pre_InWeightQReferenceIdeal m →
    θ_run (Cert.InWeightQReferenceIdeal.defs (F := Ideal)) (onTc (τ := Cert.InWeightQReferenceIdeal.τ) (Cert.InWeightQReferenceIdeal.main (F := Ideal))) ⟨m, fun _ => 0, g⟩ (fun r => (∀ c : Dev Cert.InWeightQReferenceIdeal.nD,
      r.2.mem ((c.tc : Thread Cert.InWeightQReferenceIdeal.nD Cert.InWeightQReferenceIdeal.τ).loc Cert.InWeightQReferenceIdeal.main_arg0) = m ((c.tc : Thread Cert.InWeightQReferenceIdeal.nD Cert.InWeightQReferenceIdeal.τ).loc Cert.InWeightQReferenceIdeal.main_arg0)
      ∧ r.2.mem ((c.tc : Thread Cert.InWeightQReferenceIdeal.nD Cert.InWeightQReferenceIdeal.τ).loc Cert.InWeightQReferenceIdeal.main_arg1) = m ((c.tc : Thread Cert.InWeightQReferenceIdeal.nD Cert.InWeightQReferenceIdeal.τ).loc Cert.InWeightQReferenceIdeal.main_arg1))
      ∧ r.2.sem = fun _ => 0)

def quiescent_InWeightV [hInWeightV : Cert.InWeightV.Facts] : Prop :=
  ∀ (m : (ℓ : Loc Cert.InWeightV.nD Cert.InWeightV.τ Cert.InWeightV.sig) → Buf (Elt Bits) ℓ) (g : Dev Cert.InWeightV.nD → PrngReg), Pre_InWeightV m →
    θ_run (Cert.InWeightV.defs (F := Bits)) (onTc (τ := Cert.InWeightV.τ) (Cert.InWeightV.main (F := Bits))) ⟨m, fun _ => 0, g⟩ (fun r => (∀ c : Dev Cert.InWeightV.nD,
      r.2.mem ((c.tc : Thread Cert.InWeightV.nD Cert.InWeightV.τ).loc Cert.InWeightV.main_arg0) = m ((c.tc : Thread Cert.InWeightV.nD Cert.InWeightV.τ).loc Cert.InWeightV.main_arg0)
      ∧ r.2.mem ((c.tc : Thread Cert.InWeightV.nD Cert.InWeightV.τ).loc Cert.InWeightV.main_arg1) = m ((c.tc : Thread Cert.InWeightV.nD Cert.InWeightV.τ).loc Cert.InWeightV.main_arg1))
      ∧ r.2.sem = fun _ => 0)

def quiescent_InWeightVIdeal [hInWeightVIdeal : Cert.InWeightVIdeal.Facts] : Prop :=
  ∀ (m : (ℓ : Loc Cert.InWeightVIdeal.nD Cert.InWeightVIdeal.τ Cert.InWeightVIdeal.sig) → Buf (Elt Ideal) ℓ) (g : Dev Cert.InWeightVIdeal.nD → PrngReg), Pre_InWeightVIdeal m →
    θ_run (Cert.InWeightVIdeal.defs (F := Ideal)) (onTc (τ := Cert.InWeightVIdeal.τ) (Cert.InWeightVIdeal.main (F := Ideal))) ⟨m, fun _ => 0, g⟩ (fun r => (∀ c : Dev Cert.InWeightVIdeal.nD,
      r.2.mem ((c.tc : Thread Cert.InWeightVIdeal.nD Cert.InWeightVIdeal.τ).loc Cert.InWeightVIdeal.main_arg0) = m ((c.tc : Thread Cert.InWeightVIdeal.nD Cert.InWeightVIdeal.τ).loc Cert.InWeightVIdeal.main_arg0)
      ∧ r.2.mem ((c.tc : Thread Cert.InWeightVIdeal.nD Cert.InWeightVIdeal.τ).loc Cert.InWeightVIdeal.main_arg1) = m ((c.tc : Thread Cert.InWeightVIdeal.nD Cert.InWeightVIdeal.τ).loc Cert.InWeightVIdeal.main_arg1))
      ∧ r.2.sem = fun _ => 0)

def quiescent_InWeightVReferenceIdeal [hInWeightVReferenceIdeal : Cert.InWeightVReferenceIdeal.Facts] : Prop :=
  ∀ (m : (ℓ : Loc Cert.InWeightVReferenceIdeal.nD Cert.InWeightVReferenceIdeal.τ Cert.InWeightVReferenceIdeal.sig) → Buf (Elt Ideal) ℓ) (g : Dev Cert.InWeightVReferenceIdeal.nD → PrngReg), Pre_InWeightVReferenceIdeal m →
    θ_run (Cert.InWeightVReferenceIdeal.defs (F := Ideal)) (onTc (τ := Cert.InWeightVReferenceIdeal.τ) (Cert.InWeightVReferenceIdeal.main (F := Ideal))) ⟨m, fun _ => 0, g⟩ (fun r => (∀ c : Dev Cert.InWeightVReferenceIdeal.nD,
      r.2.mem ((c.tc : Thread Cert.InWeightVReferenceIdeal.nD Cert.InWeightVReferenceIdeal.τ).loc Cert.InWeightVReferenceIdeal.main_arg0) = m ((c.tc : Thread Cert.InWeightVReferenceIdeal.nD Cert.InWeightVReferenceIdeal.τ).loc Cert.InWeightVReferenceIdeal.main_arg0)
      ∧ r.2.mem ((c.tc : Thread Cert.InWeightVReferenceIdeal.nD Cert.InWeightVReferenceIdeal.τ).loc Cert.InWeightVReferenceIdeal.main_arg1) = m ((c.tc : Thread Cert.InWeightVReferenceIdeal.nD Cert.InWeightVReferenceIdeal.τ).loc Cert.InWeightVReferenceIdeal.main_arg1))
      ∧ r.2.sem = fun _ => 0)

def quiescent_InWeightF [hInWeightF : Cert.InWeightF.Facts] : Prop :=
  ∀ (m : (ℓ : Loc Cert.InWeightF.nD Cert.InWeightF.τ Cert.InWeightF.sig) → Buf (Elt Bits) ℓ) (g : Dev Cert.InWeightF.nD → PrngReg), Pre_InWeightF m →
    θ_run (Cert.InWeightF.defs (F := Bits)) (onTc (τ := Cert.InWeightF.τ) (Cert.InWeightF.main (F := Bits))) ⟨m, fun _ => 0, g⟩ (fun r => (∀ c : Dev Cert.InWeightF.nD,
      r.2.mem ((c.tc : Thread Cert.InWeightF.nD Cert.InWeightF.τ).loc Cert.InWeightF.main_arg0) = m ((c.tc : Thread Cert.InWeightF.nD Cert.InWeightF.τ).loc Cert.InWeightF.main_arg0)
      ∧ r.2.mem ((c.tc : Thread Cert.InWeightF.nD Cert.InWeightF.τ).loc Cert.InWeightF.main_arg1) = m ((c.tc : Thread Cert.InWeightF.nD Cert.InWeightF.τ).loc Cert.InWeightF.main_arg1))
      ∧ r.2.sem = fun _ => 0)

def quiescent_InWeightFIdeal [hInWeightFIdeal : Cert.InWeightFIdeal.Facts] : Prop :=
  ∀ (m : (ℓ : Loc Cert.InWeightFIdeal.nD Cert.InWeightFIdeal.τ Cert.InWeightFIdeal.sig) → Buf (Elt Ideal) ℓ) (g : Dev Cert.InWeightFIdeal.nD → PrngReg), Pre_InWeightFIdeal m →
    θ_run (Cert.InWeightFIdeal.defs (F := Ideal)) (onTc (τ := Cert.InWeightFIdeal.τ) (Cert.InWeightFIdeal.main (F := Ideal))) ⟨m, fun _ => 0, g⟩ (fun r => (∀ c : Dev Cert.InWeightFIdeal.nD,
      r.2.mem ((c.tc : Thread Cert.InWeightFIdeal.nD Cert.InWeightFIdeal.τ).loc Cert.InWeightFIdeal.main_arg0) = m ((c.tc : Thread Cert.InWeightFIdeal.nD Cert.InWeightFIdeal.τ).loc Cert.InWeightFIdeal.main_arg0)
      ∧ r.2.mem ((c.tc : Thread Cert.InWeightFIdeal.nD Cert.InWeightFIdeal.τ).loc Cert.InWeightFIdeal.main_arg1) = m ((c.tc : Thread Cert.InWeightFIdeal.nD Cert.InWeightFIdeal.τ).loc Cert.InWeightFIdeal.main_arg1))
      ∧ r.2.sem = fun _ => 0)

def quiescent_InWeightFReferenceIdeal [hInWeightFReferenceIdeal : Cert.InWeightFReferenceIdeal.Facts] : Prop :=
  ∀ (m : (ℓ : Loc Cert.InWeightFReferenceIdeal.nD Cert.InWeightFReferenceIdeal.τ Cert.InWeightFReferenceIdeal.sig) → Buf (Elt Ideal) ℓ) (g : Dev Cert.InWeightFReferenceIdeal.nD → PrngReg), Pre_InWeightFReferenceIdeal m →
    θ_run (Cert.InWeightFReferenceIdeal.defs (F := Ideal)) (onTc (τ := Cert.InWeightFReferenceIdeal.τ) (Cert.InWeightFReferenceIdeal.main (F := Ideal))) ⟨m, fun _ => 0, g⟩ (fun r => (∀ c : Dev Cert.InWeightFReferenceIdeal.nD,
      r.2.mem ((c.tc : Thread Cert.InWeightFReferenceIdeal.nD Cert.InWeightFReferenceIdeal.τ).loc Cert.InWeightFReferenceIdeal.main_arg0) = m ((c.tc : Thread Cert.InWeightFReferenceIdeal.nD Cert.InWeightFReferenceIdeal.τ).loc Cert.InWeightFReferenceIdeal.main_arg0)
      ∧ r.2.mem ((c.tc : Thread Cert.InWeightFReferenceIdeal.nD Cert.InWeightFReferenceIdeal.τ).loc Cert.InWeightFReferenceIdeal.main_arg1) = m ((c.tc : Thread Cert.InWeightFReferenceIdeal.nD Cert.InWeightFReferenceIdeal.τ).loc Cert.InWeightFReferenceIdeal.main_arg1))
      ∧ r.2.sem = fun _ => 0)

def quiescent_InWeightI [hInWeightI : Cert.InWeightI.Facts] : Prop :=
  ∀ (m : (ℓ : Loc Cert.InWeightI.nD Cert.InWeightI.τ Cert.InWeightI.sig) → Buf (Elt Bits) ℓ) (g : Dev Cert.InWeightI.nD → PrngReg), Pre_InWeightI m →
    θ_run (Cert.InWeightI.defs (F := Bits)) (onTc (τ := Cert.InWeightI.τ) (Cert.InWeightI.main (F := Bits))) ⟨m, fun _ => 0, g⟩ (fun r => (∀ c : Dev Cert.InWeightI.nD,
      r.2.mem ((c.tc : Thread Cert.InWeightI.nD Cert.InWeightI.τ).loc Cert.InWeightI.main_arg0) = m ((c.tc : Thread Cert.InWeightI.nD Cert.InWeightI.τ).loc Cert.InWeightI.main_arg0)
      ∧ r.2.mem ((c.tc : Thread Cert.InWeightI.nD Cert.InWeightI.τ).loc Cert.InWeightI.main_arg1) = m ((c.tc : Thread Cert.InWeightI.nD Cert.InWeightI.τ).loc Cert.InWeightI.main_arg1))
      ∧ r.2.sem = fun _ => 0)

def quiescent_InWeightIIdeal [hInWeightIIdeal : Cert.InWeightIIdeal.Facts] : Prop :=
  ∀ (m : (ℓ : Loc Cert.InWeightIIdeal.nD Cert.InWeightIIdeal.τ Cert.InWeightIIdeal.sig) → Buf (Elt Ideal) ℓ) (g : Dev Cert.InWeightIIdeal.nD → PrngReg), Pre_InWeightIIdeal m →
    θ_run (Cert.InWeightIIdeal.defs (F := Ideal)) (onTc (τ := Cert.InWeightIIdeal.τ) (Cert.InWeightIIdeal.main (F := Ideal))) ⟨m, fun _ => 0, g⟩ (fun r => (∀ c : Dev Cert.InWeightIIdeal.nD,
      r.2.mem ((c.tc : Thread Cert.InWeightIIdeal.nD Cert.InWeightIIdeal.τ).loc Cert.InWeightIIdeal.main_arg0) = m ((c.tc : Thread Cert.InWeightIIdeal.nD Cert.InWeightIIdeal.τ).loc Cert.InWeightIIdeal.main_arg0)
      ∧ r.2.mem ((c.tc : Thread Cert.InWeightIIdeal.nD Cert.InWeightIIdeal.τ).loc Cert.InWeightIIdeal.main_arg1) = m ((c.tc : Thread Cert.InWeightIIdeal.nD Cert.InWeightIIdeal.τ).loc Cert.InWeightIIdeal.main_arg1))
      ∧ r.2.sem = fun _ => 0)

def quiescent_InWeightIReferenceIdeal [hInWeightIReferenceIdeal : Cert.InWeightIReferenceIdeal.Facts] : Prop :=
  ∀ (m : (ℓ : Loc Cert.InWeightIReferenceIdeal.nD Cert.InWeightIReferenceIdeal.τ Cert.InWeightIReferenceIdeal.sig) → Buf (Elt Ideal) ℓ) (g : Dev Cert.InWeightIReferenceIdeal.nD → PrngReg), Pre_InWeightIReferenceIdeal m →
    θ_run (Cert.InWeightIReferenceIdeal.defs (F := Ideal)) (onTc (τ := Cert.InWeightIReferenceIdeal.τ) (Cert.InWeightIReferenceIdeal.main (F := Ideal))) ⟨m, fun _ => 0, g⟩ (fun r => (∀ c : Dev Cert.InWeightIReferenceIdeal.nD,
      r.2.mem ((c.tc : Thread Cert.InWeightIReferenceIdeal.nD Cert.InWeightIReferenceIdeal.τ).loc Cert.InWeightIReferenceIdeal.main_arg0) = m ((c.tc : Thread Cert.InWeightIReferenceIdeal.nD Cert.InWeightIReferenceIdeal.τ).loc Cert.InWeightIReferenceIdeal.main_arg0)
      ∧ r.2.mem ((c.tc : Thread Cert.InWeightIReferenceIdeal.nD Cert.InWeightIReferenceIdeal.τ).loc Cert.InWeightIReferenceIdeal.main_arg1) = m ((c.tc : Thread Cert.InWeightIReferenceIdeal.nD Cert.InWeightIReferenceIdeal.τ).loc Cert.InWeightIReferenceIdeal.main_arg1))
      ∧ r.2.sem = fun _ => 0)

def quiescent_InWeightX [hInWeightX : Cert.InWeightX.Facts] : Prop :=
  ∀ (m : (ℓ : Loc Cert.InWeightX.nD Cert.InWeightX.τ Cert.InWeightX.sig) → Buf (Elt Bits) ℓ) (g : Dev Cert.InWeightX.nD → PrngReg), Pre_InWeightX m →
    θ_run (Cert.InWeightX.defs (F := Bits)) (onTc (τ := Cert.InWeightX.τ) (Cert.InWeightX.main (F := Bits))) ⟨m, fun _ => 0, g⟩ (fun r => (∀ c : Dev Cert.InWeightX.nD,
      r.2.mem ((c.tc : Thread Cert.InWeightX.nD Cert.InWeightX.τ).loc Cert.InWeightX.main_arg0) = m ((c.tc : Thread Cert.InWeightX.nD Cert.InWeightX.τ).loc Cert.InWeightX.main_arg0)
      ∧ r.2.mem ((c.tc : Thread Cert.InWeightX.nD Cert.InWeightX.τ).loc Cert.InWeightX.main_arg1) = m ((c.tc : Thread Cert.InWeightX.nD Cert.InWeightX.τ).loc Cert.InWeightX.main_arg1))
      ∧ r.2.sem = fun _ => 0)

def quiescent_InWeightXIdeal [hInWeightXIdeal : Cert.InWeightXIdeal.Facts] : Prop :=
  ∀ (m : (ℓ : Loc Cert.InWeightXIdeal.nD Cert.InWeightXIdeal.τ Cert.InWeightXIdeal.sig) → Buf (Elt Ideal) ℓ) (g : Dev Cert.InWeightXIdeal.nD → PrngReg), Pre_InWeightXIdeal m →
    θ_run (Cert.InWeightXIdeal.defs (F := Ideal)) (onTc (τ := Cert.InWeightXIdeal.τ) (Cert.InWeightXIdeal.main (F := Ideal))) ⟨m, fun _ => 0, g⟩ (fun r => (∀ c : Dev Cert.InWeightXIdeal.nD,
      r.2.mem ((c.tc : Thread Cert.InWeightXIdeal.nD Cert.InWeightXIdeal.τ).loc Cert.InWeightXIdeal.main_arg0) = m ((c.tc : Thread Cert.InWeightXIdeal.nD Cert.InWeightXIdeal.τ).loc Cert.InWeightXIdeal.main_arg0)
      ∧ r.2.mem ((c.tc : Thread Cert.InWeightXIdeal.nD Cert.InWeightXIdeal.τ).loc Cert.InWeightXIdeal.main_arg1) = m ((c.tc : Thread Cert.InWeightXIdeal.nD Cert.InWeightXIdeal.τ).loc Cert.InWeightXIdeal.main_arg1))
      ∧ r.2.sem = fun _ => 0)

def quiescent_InWeightXReferenceIdeal [hInWeightXReferenceIdeal : Cert.InWeightXReferenceIdeal.Facts] : Prop :=
  ∀ (m : (ℓ : Loc Cert.InWeightXReferenceIdeal.nD Cert.InWeightXReferenceIdeal.τ Cert.InWeightXReferenceIdeal.sig) → Buf (Elt Ideal) ℓ) (g : Dev Cert.InWeightXReferenceIdeal.nD → PrngReg), Pre_InWeightXReferenceIdeal m →
    θ_run (Cert.InWeightXReferenceIdeal.defs (F := Ideal)) (onTc (τ := Cert.InWeightXReferenceIdeal.τ) (Cert.InWeightXReferenceIdeal.main (F := Ideal))) ⟨m, fun _ => 0, g⟩ (fun r => (∀ c : Dev Cert.InWeightXReferenceIdeal.nD,
      r.2.mem ((c.tc : Thread Cert.InWeightXReferenceIdeal.nD Cert.InWeightXReferenceIdeal.τ).loc Cert.InWeightXReferenceIdeal.main_arg0) = m ((c.tc : Thread Cert.InWeightXReferenceIdeal.nD Cert.InWeightXReferenceIdeal.τ).loc Cert.InWeightXReferenceIdeal.main_arg0)
      ∧ r.2.mem ((c.tc : Thread Cert.InWeightXReferenceIdeal.nD Cert.InWeightXReferenceIdeal.τ).loc Cert.InWeightXReferenceIdeal.main_arg1) = m ((c.tc : Thread Cert.InWeightXReferenceIdeal.nD Cert.InWeightXReferenceIdeal.τ).loc Cert.InWeightXReferenceIdeal.main_arg1))
      ∧ r.2.sem = fun _ => 0)

def quiescent_InWeightK [hInWeightK : Cert.InWeightK.Facts] : Prop :=
  ∀ (m : (ℓ : Loc Cert.InWeightK.nD Cert.InWeightK.τ Cert.InWeightK.sig) → Buf (Elt Bits) ℓ) (g : Dev Cert.InWeightK.nD → PrngReg), Pre_InWeightK m →
    θ_run (Cert.InWeightK.defs (F := Bits)) (onTc (τ := Cert.InWeightK.τ) (Cert.InWeightK.main (F := Bits))) ⟨m, fun _ => 0, g⟩ (fun r => (∀ c : Dev Cert.InWeightK.nD,
      r.2.mem ((c.tc : Thread Cert.InWeightK.nD Cert.InWeightK.τ).loc Cert.InWeightK.main_arg0) = m ((c.tc : Thread Cert.InWeightK.nD Cert.InWeightK.τ).loc Cert.InWeightK.main_arg0)
      ∧ r.2.mem ((c.tc : Thread Cert.InWeightK.nD Cert.InWeightK.τ).loc Cert.InWeightK.main_arg1) = m ((c.tc : Thread Cert.InWeightK.nD Cert.InWeightK.τ).loc Cert.InWeightK.main_arg1))
      ∧ r.2.sem = fun _ => 0)

def quiescent_InWeightKIdeal [hInWeightKIdeal : Cert.InWeightKIdeal.Facts] : Prop :=
  ∀ (m : (ℓ : Loc Cert.InWeightKIdeal.nD Cert.InWeightKIdeal.τ Cert.InWeightKIdeal.sig) → Buf (Elt Ideal) ℓ) (g : Dev Cert.InWeightKIdeal.nD → PrngReg), Pre_InWeightKIdeal m →
    θ_run (Cert.InWeightKIdeal.defs (F := Ideal)) (onTc (τ := Cert.InWeightKIdeal.τ) (Cert.InWeightKIdeal.main (F := Ideal))) ⟨m, fun _ => 0, g⟩ (fun r => (∀ c : Dev Cert.InWeightKIdeal.nD,
      r.2.mem ((c.tc : Thread Cert.InWeightKIdeal.nD Cert.InWeightKIdeal.τ).loc Cert.InWeightKIdeal.main_arg0) = m ((c.tc : Thread Cert.InWeightKIdeal.nD Cert.InWeightKIdeal.τ).loc Cert.InWeightKIdeal.main_arg0)
      ∧ r.2.mem ((c.tc : Thread Cert.InWeightKIdeal.nD Cert.InWeightKIdeal.τ).loc Cert.InWeightKIdeal.main_arg1) = m ((c.tc : Thread Cert.InWeightKIdeal.nD Cert.InWeightKIdeal.τ).loc Cert.InWeightKIdeal.main_arg1))
      ∧ r.2.sem = fun _ => 0)

def quiescent_InWeightKReferenceIdeal [hInWeightKReferenceIdeal : Cert.InWeightKReferenceIdeal.Facts] : Prop :=
  ∀ (m : (ℓ : Loc Cert.InWeightKReferenceIdeal.nD Cert.InWeightKReferenceIdeal.τ Cert.InWeightKReferenceIdeal.sig) → Buf (Elt Ideal) ℓ) (g : Dev Cert.InWeightKReferenceIdeal.nD → PrngReg), Pre_InWeightKReferenceIdeal m →
    θ_run (Cert.InWeightKReferenceIdeal.defs (F := Ideal)) (onTc (τ := Cert.InWeightKReferenceIdeal.τ) (Cert.InWeightKReferenceIdeal.main (F := Ideal))) ⟨m, fun _ => 0, g⟩ (fun r => (∀ c : Dev Cert.InWeightKReferenceIdeal.nD,
      r.2.mem ((c.tc : Thread Cert.InWeightKReferenceIdeal.nD Cert.InWeightKReferenceIdeal.τ).loc Cert.InWeightKReferenceIdeal.main_arg0) = m ((c.tc : Thread Cert.InWeightKReferenceIdeal.nD Cert.InWeightKReferenceIdeal.τ).loc Cert.InWeightKReferenceIdeal.main_arg0)
      ∧ r.2.mem ((c.tc : Thread Cert.InWeightKReferenceIdeal.nD Cert.InWeightKReferenceIdeal.τ).loc Cert.InWeightKReferenceIdeal.main_arg1) = m ((c.tc : Thread Cert.InWeightKReferenceIdeal.nD Cert.InWeightKReferenceIdeal.τ).loc Cert.InWeightKReferenceIdeal.main_arg1))
      ∧ r.2.sem = fun _ => 0)

def quiescent_InWeightO [hInWeightO : Cert.InWeightO.Facts] : Prop :=
  ∀ (m : (ℓ : Loc Cert.InWeightO.nD Cert.InWeightO.τ Cert.InWeightO.sig) → Buf (Elt Bits) ℓ) (g : Dev Cert.InWeightO.nD → PrngReg), Pre_InWeightO m →
    θ_run (Cert.InWeightO.defs (F := Bits)) (onTc (τ := Cert.InWeightO.τ) (Cert.InWeightO.main (F := Bits))) ⟨m, fun _ => 0, g⟩ (fun r => (∀ c : Dev Cert.InWeightO.nD,
      r.2.mem ((c.tc : Thread Cert.InWeightO.nD Cert.InWeightO.τ).loc Cert.InWeightO.main_arg0) = m ((c.tc : Thread Cert.InWeightO.nD Cert.InWeightO.τ).loc Cert.InWeightO.main_arg0)
      ∧ r.2.mem ((c.tc : Thread Cert.InWeightO.nD Cert.InWeightO.τ).loc Cert.InWeightO.main_arg1) = m ((c.tc : Thread Cert.InWeightO.nD Cert.InWeightO.τ).loc Cert.InWeightO.main_arg1))
      ∧ r.2.sem = fun _ => 0)

def quiescent_InWeightOIdeal [hInWeightOIdeal : Cert.InWeightOIdeal.Facts] : Prop :=
  ∀ (m : (ℓ : Loc Cert.InWeightOIdeal.nD Cert.InWeightOIdeal.τ Cert.InWeightOIdeal.sig) → Buf (Elt Ideal) ℓ) (g : Dev Cert.InWeightOIdeal.nD → PrngReg), Pre_InWeightOIdeal m →
    θ_run (Cert.InWeightOIdeal.defs (F := Ideal)) (onTc (τ := Cert.InWeightOIdeal.τ) (Cert.InWeightOIdeal.main (F := Ideal))) ⟨m, fun _ => 0, g⟩ (fun r => (∀ c : Dev Cert.InWeightOIdeal.nD,
      r.2.mem ((c.tc : Thread Cert.InWeightOIdeal.nD Cert.InWeightOIdeal.τ).loc Cert.InWeightOIdeal.main_arg0) = m ((c.tc : Thread Cert.InWeightOIdeal.nD Cert.InWeightOIdeal.τ).loc Cert.InWeightOIdeal.main_arg0)
      ∧ r.2.mem ((c.tc : Thread Cert.InWeightOIdeal.nD Cert.InWeightOIdeal.τ).loc Cert.InWeightOIdeal.main_arg1) = m ((c.tc : Thread Cert.InWeightOIdeal.nD Cert.InWeightOIdeal.τ).loc Cert.InWeightOIdeal.main_arg1))
      ∧ r.2.sem = fun _ => 0)

def quiescent_InWeightOReferenceIdeal [hInWeightOReferenceIdeal : Cert.InWeightOReferenceIdeal.Facts] : Prop :=
  ∀ (m : (ℓ : Loc Cert.InWeightOReferenceIdeal.nD Cert.InWeightOReferenceIdeal.τ Cert.InWeightOReferenceIdeal.sig) → Buf (Elt Ideal) ℓ) (g : Dev Cert.InWeightOReferenceIdeal.nD → PrngReg), Pre_InWeightOReferenceIdeal m →
    θ_run (Cert.InWeightOReferenceIdeal.defs (F := Ideal)) (onTc (τ := Cert.InWeightOReferenceIdeal.τ) (Cert.InWeightOReferenceIdeal.main (F := Ideal))) ⟨m, fun _ => 0, g⟩ (fun r => (∀ c : Dev Cert.InWeightOReferenceIdeal.nD,
      r.2.mem ((c.tc : Thread Cert.InWeightOReferenceIdeal.nD Cert.InWeightOReferenceIdeal.τ).loc Cert.InWeightOReferenceIdeal.main_arg0) = m ((c.tc : Thread Cert.InWeightOReferenceIdeal.nD Cert.InWeightOReferenceIdeal.τ).loc Cert.InWeightOReferenceIdeal.main_arg0)
      ∧ r.2.mem ((c.tc : Thread Cert.InWeightOReferenceIdeal.nD Cert.InWeightOReferenceIdeal.τ).loc Cert.InWeightOReferenceIdeal.main_arg1) = m ((c.tc : Thread Cert.InWeightOReferenceIdeal.nD Cert.InWeightOReferenceIdeal.τ).loc Cert.InWeightOReferenceIdeal.main_arg1))
      ∧ r.2.sem = fun _ => 0)

def quiescent_InWeightC [hInWeightC : Cert.InWeightC.Facts] : Prop :=
  ∀ (m : (ℓ : Loc Cert.InWeightC.nD Cert.InWeightC.τ Cert.InWeightC.sig) → Buf (Elt Bits) ℓ) (g : Dev Cert.InWeightC.nD → PrngReg), Pre_InWeightC m →
    θ_run (Cert.InWeightC.defs (F := Bits)) (onTc (τ := Cert.InWeightC.τ) (Cert.InWeightC.main (F := Bits))) ⟨m, fun _ => 0, g⟩ (fun r => (∀ c : Dev Cert.InWeightC.nD,
      r.2.mem ((c.tc : Thread Cert.InWeightC.nD Cert.InWeightC.τ).loc Cert.InWeightC.main_arg0) = m ((c.tc : Thread Cert.InWeightC.nD Cert.InWeightC.τ).loc Cert.InWeightC.main_arg0)
      ∧ r.2.mem ((c.tc : Thread Cert.InWeightC.nD Cert.InWeightC.τ).loc Cert.InWeightC.main_arg1) = m ((c.tc : Thread Cert.InWeightC.nD Cert.InWeightC.τ).loc Cert.InWeightC.main_arg1))
      ∧ r.2.sem = fun _ => 0)

def quiescent_InWeightCIdeal [hInWeightCIdeal : Cert.InWeightCIdeal.Facts] : Prop :=
  ∀ (m : (ℓ : Loc Cert.InWeightCIdeal.nD Cert.InWeightCIdeal.τ Cert.InWeightCIdeal.sig) → Buf (Elt Ideal) ℓ) (g : Dev Cert.InWeightCIdeal.nD → PrngReg), Pre_InWeightCIdeal m →
    θ_run (Cert.InWeightCIdeal.defs (F := Ideal)) (onTc (τ := Cert.InWeightCIdeal.τ) (Cert.InWeightCIdeal.main (F := Ideal))) ⟨m, fun _ => 0, g⟩ (fun r => (∀ c : Dev Cert.InWeightCIdeal.nD,
      r.2.mem ((c.tc : Thread Cert.InWeightCIdeal.nD Cert.InWeightCIdeal.τ).loc Cert.InWeightCIdeal.main_arg0) = m ((c.tc : Thread Cert.InWeightCIdeal.nD Cert.InWeightCIdeal.τ).loc Cert.InWeightCIdeal.main_arg0)
      ∧ r.2.mem ((c.tc : Thread Cert.InWeightCIdeal.nD Cert.InWeightCIdeal.τ).loc Cert.InWeightCIdeal.main_arg1) = m ((c.tc : Thread Cert.InWeightCIdeal.nD Cert.InWeightCIdeal.τ).loc Cert.InWeightCIdeal.main_arg1))
      ∧ r.2.sem = fun _ => 0)

def quiescent_InWeightCReferenceIdeal [hInWeightCReferenceIdeal : Cert.InWeightCReferenceIdeal.Facts] : Prop :=
  ∀ (m : (ℓ : Loc Cert.InWeightCReferenceIdeal.nD Cert.InWeightCReferenceIdeal.τ Cert.InWeightCReferenceIdeal.sig) → Buf (Elt Ideal) ℓ) (g : Dev Cert.InWeightCReferenceIdeal.nD → PrngReg), Pre_InWeightCReferenceIdeal m →
    θ_run (Cert.InWeightCReferenceIdeal.defs (F := Ideal)) (onTc (τ := Cert.InWeightCReferenceIdeal.τ) (Cert.InWeightCReferenceIdeal.main (F := Ideal))) ⟨m, fun _ => 0, g⟩ (fun r => (∀ c : Dev Cert.InWeightCReferenceIdeal.nD,
      r.2.mem ((c.tc : Thread Cert.InWeightCReferenceIdeal.nD Cert.InWeightCReferenceIdeal.τ).loc Cert.InWeightCReferenceIdeal.main_arg0) = m ((c.tc : Thread Cert.InWeightCReferenceIdeal.nD Cert.InWeightCReferenceIdeal.τ).loc Cert.InWeightCReferenceIdeal.main_arg0)
      ∧ r.2.mem ((c.tc : Thread Cert.InWeightCReferenceIdeal.nD Cert.InWeightCReferenceIdeal.τ).loc Cert.InWeightCReferenceIdeal.main_arg1) = m ((c.tc : Thread Cert.InWeightCReferenceIdeal.nD Cert.InWeightCReferenceIdeal.τ).loc Cert.InWeightCReferenceIdeal.main_arg1))
      ∧ r.2.sem = fun _ => 0)

def quiescent_OutA [hOutA : Cert.OutA.Facts] : Prop :=
  ∀ (m : (ℓ : Loc Cert.OutA.nD Cert.OutA.τ Cert.OutA.sig) → Buf (Elt Bits) ℓ) (g : Dev Cert.OutA.nD → PrngReg), Pre_OutA m →
    θ_run (Cert.OutA.defs (F := Bits)) (onTc (τ := Cert.OutA.τ) (Cert.OutA.main (F := Bits))) ⟨m, fun _ => 0, g⟩ (fun r => (∀ c : Dev Cert.OutA.nD,
      r.2.mem ((c.tc : Thread Cert.OutA.nD Cert.OutA.τ).loc Cert.OutA.main_arg0) = m ((c.tc : Thread Cert.OutA.nD Cert.OutA.τ).loc Cert.OutA.main_arg0)
      ∧ r.2.mem ((c.tc : Thread Cert.OutA.nD Cert.OutA.τ).loc Cert.OutA.main_arg1) = m ((c.tc : Thread Cert.OutA.nD Cert.OutA.τ).loc Cert.OutA.main_arg1)
      ∧ r.2.mem ((c.tc : Thread Cert.OutA.nD Cert.OutA.τ).loc Cert.OutA.main_arg2) = m ((c.tc : Thread Cert.OutA.nD Cert.OutA.τ).loc Cert.OutA.main_arg2)
      ∧ r.2.mem ((c.tc : Thread Cert.OutA.nD Cert.OutA.τ).loc Cert.OutA.main_arg3) = m ((c.tc : Thread Cert.OutA.nD Cert.OutA.τ).loc Cert.OutA.main_arg3)
      ∧ r.2.mem ((c.tc : Thread Cert.OutA.nD Cert.OutA.τ).loc Cert.OutA.main_arg4) = m ((c.tc : Thread Cert.OutA.nD Cert.OutA.τ).loc Cert.OutA.main_arg4))
      ∧ r.2.sem = fun _ => 0)

def quiescent_OutAIdeal [hOutAIdeal : Cert.OutAIdeal.Facts] : Prop :=
  ∀ (m : (ℓ : Loc Cert.OutAIdeal.nD Cert.OutAIdeal.τ Cert.OutAIdeal.sig) → Buf (Elt Ideal) ℓ) (g : Dev Cert.OutAIdeal.nD → PrngReg), Pre_OutAIdeal m →
    θ_run (Cert.OutAIdeal.defs (F := Ideal)) (onTc (τ := Cert.OutAIdeal.τ) (Cert.OutAIdeal.main (F := Ideal))) ⟨m, fun _ => 0, g⟩ (fun r => (∀ c : Dev Cert.OutAIdeal.nD,
      r.2.mem ((c.tc : Thread Cert.OutAIdeal.nD Cert.OutAIdeal.τ).loc Cert.OutAIdeal.main_arg0) = m ((c.tc : Thread Cert.OutAIdeal.nD Cert.OutAIdeal.τ).loc Cert.OutAIdeal.main_arg0)
      ∧ r.2.mem ((c.tc : Thread Cert.OutAIdeal.nD Cert.OutAIdeal.τ).loc Cert.OutAIdeal.main_arg1) = m ((c.tc : Thread Cert.OutAIdeal.nD Cert.OutAIdeal.τ).loc Cert.OutAIdeal.main_arg1)
      ∧ r.2.mem ((c.tc : Thread Cert.OutAIdeal.nD Cert.OutAIdeal.τ).loc Cert.OutAIdeal.main_arg2) = m ((c.tc : Thread Cert.OutAIdeal.nD Cert.OutAIdeal.τ).loc Cert.OutAIdeal.main_arg2)
      ∧ r.2.mem ((c.tc : Thread Cert.OutAIdeal.nD Cert.OutAIdeal.τ).loc Cert.OutAIdeal.main_arg3) = m ((c.tc : Thread Cert.OutAIdeal.nD Cert.OutAIdeal.τ).loc Cert.OutAIdeal.main_arg3)
      ∧ r.2.mem ((c.tc : Thread Cert.OutAIdeal.nD Cert.OutAIdeal.τ).loc Cert.OutAIdeal.main_arg4) = m ((c.tc : Thread Cert.OutAIdeal.nD Cert.OutAIdeal.τ).loc Cert.OutAIdeal.main_arg4))
      ∧ r.2.sem = fun _ => 0)

def quiescent_OutAReferenceIdeal [hOutAReferenceIdeal : Cert.OutAReferenceIdeal.Facts] : Prop :=
  ∀ (m : (ℓ : Loc Cert.OutAReferenceIdeal.nD Cert.OutAReferenceIdeal.τ Cert.OutAReferenceIdeal.sig) → Buf (Elt Ideal) ℓ) (g : Dev Cert.OutAReferenceIdeal.nD → PrngReg), Pre_OutAReferenceIdeal m →
    θ_run (Cert.OutAReferenceIdeal.defs (F := Ideal)) (onTc (τ := Cert.OutAReferenceIdeal.τ) (Cert.OutAReferenceIdeal.main (F := Ideal))) ⟨m, fun _ => 0, g⟩ (fun r => (∀ c : Dev Cert.OutAReferenceIdeal.nD,
      r.2.mem ((c.tc : Thread Cert.OutAReferenceIdeal.nD Cert.OutAReferenceIdeal.τ).loc Cert.OutAReferenceIdeal.main_arg0) = m ((c.tc : Thread Cert.OutAReferenceIdeal.nD Cert.OutAReferenceIdeal.τ).loc Cert.OutAReferenceIdeal.main_arg0)
      ∧ r.2.mem ((c.tc : Thread Cert.OutAReferenceIdeal.nD Cert.OutAReferenceIdeal.τ).loc Cert.OutAReferenceIdeal.main_arg1) = m ((c.tc : Thread Cert.OutAReferenceIdeal.nD Cert.OutAReferenceIdeal.τ).loc Cert.OutAReferenceIdeal.main_arg1)
      ∧ r.2.mem ((c.tc : Thread Cert.OutAReferenceIdeal.nD Cert.OutAReferenceIdeal.τ).loc Cert.OutAReferenceIdeal.main_arg2) = m ((c.tc : Thread Cert.OutAReferenceIdeal.nD Cert.OutAReferenceIdeal.τ).loc Cert.OutAReferenceIdeal.main_arg2)
      ∧ r.2.mem ((c.tc : Thread Cert.OutAReferenceIdeal.nD Cert.OutAReferenceIdeal.τ).loc Cert.OutAReferenceIdeal.main_arg3) = m ((c.tc : Thread Cert.OutAReferenceIdeal.nD Cert.OutAReferenceIdeal.τ).loc Cert.OutAReferenceIdeal.main_arg3)
      ∧ r.2.mem ((c.tc : Thread Cert.OutAReferenceIdeal.nD Cert.OutAReferenceIdeal.τ).loc Cert.OutAReferenceIdeal.main_arg4) = m ((c.tc : Thread Cert.OutAReferenceIdeal.nD Cert.OutAReferenceIdeal.τ).loc Cert.OutAReferenceIdeal.main_arg4))
      ∧ r.2.sem = fun _ => 0)

def quiescent_OutB [hOutB : Cert.OutB.Facts] : Prop :=
  ∀ (m : (ℓ : Loc Cert.OutB.nD Cert.OutB.τ Cert.OutB.sig) → Buf (Elt Bits) ℓ) (g : Dev Cert.OutB.nD → PrngReg), Pre_OutB m →
    θ_run (Cert.OutB.defs (F := Bits)) (onTc (τ := Cert.OutB.τ) (Cert.OutB.main (F := Bits))) ⟨m, fun _ => 0, g⟩ (fun r => (∀ c : Dev Cert.OutB.nD,
      r.2.mem ((c.tc : Thread Cert.OutB.nD Cert.OutB.τ).loc Cert.OutB.main_arg0) = m ((c.tc : Thread Cert.OutB.nD Cert.OutB.τ).loc Cert.OutB.main_arg0)
      ∧ r.2.mem ((c.tc : Thread Cert.OutB.nD Cert.OutB.τ).loc Cert.OutB.main_arg1) = m ((c.tc : Thread Cert.OutB.nD Cert.OutB.τ).loc Cert.OutB.main_arg1)
      ∧ r.2.mem ((c.tc : Thread Cert.OutB.nD Cert.OutB.τ).loc Cert.OutB.main_arg2) = m ((c.tc : Thread Cert.OutB.nD Cert.OutB.τ).loc Cert.OutB.main_arg2)
      ∧ r.2.mem ((c.tc : Thread Cert.OutB.nD Cert.OutB.τ).loc Cert.OutB.main_arg3) = m ((c.tc : Thread Cert.OutB.nD Cert.OutB.τ).loc Cert.OutB.main_arg3)
      ∧ r.2.mem ((c.tc : Thread Cert.OutB.nD Cert.OutB.τ).loc Cert.OutB.main_arg4) = m ((c.tc : Thread Cert.OutB.nD Cert.OutB.τ).loc Cert.OutB.main_arg4))
      ∧ r.2.sem = fun _ => 0)

def quiescent_OutBIdeal [hOutBIdeal : Cert.OutBIdeal.Facts] : Prop :=
  ∀ (m : (ℓ : Loc Cert.OutBIdeal.nD Cert.OutBIdeal.τ Cert.OutBIdeal.sig) → Buf (Elt Ideal) ℓ) (g : Dev Cert.OutBIdeal.nD → PrngReg), Pre_OutBIdeal m →
    θ_run (Cert.OutBIdeal.defs (F := Ideal)) (onTc (τ := Cert.OutBIdeal.τ) (Cert.OutBIdeal.main (F := Ideal))) ⟨m, fun _ => 0, g⟩ (fun r => (∀ c : Dev Cert.OutBIdeal.nD,
      r.2.mem ((c.tc : Thread Cert.OutBIdeal.nD Cert.OutBIdeal.τ).loc Cert.OutBIdeal.main_arg0) = m ((c.tc : Thread Cert.OutBIdeal.nD Cert.OutBIdeal.τ).loc Cert.OutBIdeal.main_arg0)
      ∧ r.2.mem ((c.tc : Thread Cert.OutBIdeal.nD Cert.OutBIdeal.τ).loc Cert.OutBIdeal.main_arg1) = m ((c.tc : Thread Cert.OutBIdeal.nD Cert.OutBIdeal.τ).loc Cert.OutBIdeal.main_arg1)
      ∧ r.2.mem ((c.tc : Thread Cert.OutBIdeal.nD Cert.OutBIdeal.τ).loc Cert.OutBIdeal.main_arg2) = m ((c.tc : Thread Cert.OutBIdeal.nD Cert.OutBIdeal.τ).loc Cert.OutBIdeal.main_arg2)
      ∧ r.2.mem ((c.tc : Thread Cert.OutBIdeal.nD Cert.OutBIdeal.τ).loc Cert.OutBIdeal.main_arg3) = m ((c.tc : Thread Cert.OutBIdeal.nD Cert.OutBIdeal.τ).loc Cert.OutBIdeal.main_arg3)
      ∧ r.2.mem ((c.tc : Thread Cert.OutBIdeal.nD Cert.OutBIdeal.τ).loc Cert.OutBIdeal.main_arg4) = m ((c.tc : Thread Cert.OutBIdeal.nD Cert.OutBIdeal.τ).loc Cert.OutBIdeal.main_arg4))
      ∧ r.2.sem = fun _ => 0)

def quiescent_OutBReferenceIdeal [hOutBReferenceIdeal : Cert.OutBReferenceIdeal.Facts] : Prop :=
  ∀ (m : (ℓ : Loc Cert.OutBReferenceIdeal.nD Cert.OutBReferenceIdeal.τ Cert.OutBReferenceIdeal.sig) → Buf (Elt Ideal) ℓ) (g : Dev Cert.OutBReferenceIdeal.nD → PrngReg), Pre_OutBReferenceIdeal m →
    θ_run (Cert.OutBReferenceIdeal.defs (F := Ideal)) (onTc (τ := Cert.OutBReferenceIdeal.τ) (Cert.OutBReferenceIdeal.main (F := Ideal))) ⟨m, fun _ => 0, g⟩ (fun r => (∀ c : Dev Cert.OutBReferenceIdeal.nD,
      r.2.mem ((c.tc : Thread Cert.OutBReferenceIdeal.nD Cert.OutBReferenceIdeal.τ).loc Cert.OutBReferenceIdeal.main_arg0) = m ((c.tc : Thread Cert.OutBReferenceIdeal.nD Cert.OutBReferenceIdeal.τ).loc Cert.OutBReferenceIdeal.main_arg0)
      ∧ r.2.mem ((c.tc : Thread Cert.OutBReferenceIdeal.nD Cert.OutBReferenceIdeal.τ).loc Cert.OutBReferenceIdeal.main_arg1) = m ((c.tc : Thread Cert.OutBReferenceIdeal.nD Cert.OutBReferenceIdeal.τ).loc Cert.OutBReferenceIdeal.main_arg1)
      ∧ r.2.mem ((c.tc : Thread Cert.OutBReferenceIdeal.nD Cert.OutBReferenceIdeal.τ).loc Cert.OutBReferenceIdeal.main_arg2) = m ((c.tc : Thread Cert.OutBReferenceIdeal.nD Cert.OutBReferenceIdeal.τ).loc Cert.OutBReferenceIdeal.main_arg2)
      ∧ r.2.mem ((c.tc : Thread Cert.OutBReferenceIdeal.nD Cert.OutBReferenceIdeal.τ).loc Cert.OutBReferenceIdeal.main_arg3) = m ((c.tc : Thread Cert.OutBReferenceIdeal.nD Cert.OutBReferenceIdeal.τ).loc Cert.OutBReferenceIdeal.main_arg3)
      ∧ r.2.mem ((c.tc : Thread Cert.OutBReferenceIdeal.nD Cert.OutBReferenceIdeal.τ).loc Cert.OutBReferenceIdeal.main_arg4) = m ((c.tc : Thread Cert.OutBReferenceIdeal.nD Cert.OutBReferenceIdeal.τ).loc Cert.OutBReferenceIdeal.main_arg4))
      ∧ r.2.sem = fun _ => 0)

def quiescent_OutC [hOutC : Cert.OutC.Facts] : Prop :=
  ∀ (m : (ℓ : Loc Cert.OutC.nD Cert.OutC.τ Cert.OutC.sig) → Buf (Elt Bits) ℓ) (g : Dev Cert.OutC.nD → PrngReg), Pre_OutC m →
    θ_run (Cert.OutC.defs (F := Bits)) (onTc (τ := Cert.OutC.τ) (Cert.OutC.main (F := Bits))) ⟨m, fun _ => 0, g⟩ (fun r => (∀ c : Dev Cert.OutC.nD,
      r.2.mem ((c.tc : Thread Cert.OutC.nD Cert.OutC.τ).loc Cert.OutC.main_arg0) = m ((c.tc : Thread Cert.OutC.nD Cert.OutC.τ).loc Cert.OutC.main_arg0)
      ∧ r.2.mem ((c.tc : Thread Cert.OutC.nD Cert.OutC.τ).loc Cert.OutC.main_arg1) = m ((c.tc : Thread Cert.OutC.nD Cert.OutC.τ).loc Cert.OutC.main_arg1)
      ∧ r.2.mem ((c.tc : Thread Cert.OutC.nD Cert.OutC.τ).loc Cert.OutC.main_arg2) = m ((c.tc : Thread Cert.OutC.nD Cert.OutC.τ).loc Cert.OutC.main_arg2)
      ∧ r.2.mem ((c.tc : Thread Cert.OutC.nD Cert.OutC.τ).loc Cert.OutC.main_arg3) = m ((c.tc : Thread Cert.OutC.nD Cert.OutC.τ).loc Cert.OutC.main_arg3)
      ∧ r.2.mem ((c.tc : Thread Cert.OutC.nD Cert.OutC.τ).loc Cert.OutC.main_arg4) = m ((c.tc : Thread Cert.OutC.nD Cert.OutC.τ).loc Cert.OutC.main_arg4))
      ∧ r.2.sem = fun _ => 0)

def quiescent_OutCIdeal [hOutCIdeal : Cert.OutCIdeal.Facts] : Prop :=
  ∀ (m : (ℓ : Loc Cert.OutCIdeal.nD Cert.OutCIdeal.τ Cert.OutCIdeal.sig) → Buf (Elt Ideal) ℓ) (g : Dev Cert.OutCIdeal.nD → PrngReg), Pre_OutCIdeal m →
    θ_run (Cert.OutCIdeal.defs (F := Ideal)) (onTc (τ := Cert.OutCIdeal.τ) (Cert.OutCIdeal.main (F := Ideal))) ⟨m, fun _ => 0, g⟩ (fun r => (∀ c : Dev Cert.OutCIdeal.nD,
      r.2.mem ((c.tc : Thread Cert.OutCIdeal.nD Cert.OutCIdeal.τ).loc Cert.OutCIdeal.main_arg0) = m ((c.tc : Thread Cert.OutCIdeal.nD Cert.OutCIdeal.τ).loc Cert.OutCIdeal.main_arg0)
      ∧ r.2.mem ((c.tc : Thread Cert.OutCIdeal.nD Cert.OutCIdeal.τ).loc Cert.OutCIdeal.main_arg1) = m ((c.tc : Thread Cert.OutCIdeal.nD Cert.OutCIdeal.τ).loc Cert.OutCIdeal.main_arg1)
      ∧ r.2.mem ((c.tc : Thread Cert.OutCIdeal.nD Cert.OutCIdeal.τ).loc Cert.OutCIdeal.main_arg2) = m ((c.tc : Thread Cert.OutCIdeal.nD Cert.OutCIdeal.τ).loc Cert.OutCIdeal.main_arg2)
      ∧ r.2.mem ((c.tc : Thread Cert.OutCIdeal.nD Cert.OutCIdeal.τ).loc Cert.OutCIdeal.main_arg3) = m ((c.tc : Thread Cert.OutCIdeal.nD Cert.OutCIdeal.τ).loc Cert.OutCIdeal.main_arg3)
      ∧ r.2.mem ((c.tc : Thread Cert.OutCIdeal.nD Cert.OutCIdeal.τ).loc Cert.OutCIdeal.main_arg4) = m ((c.tc : Thread Cert.OutCIdeal.nD Cert.OutCIdeal.τ).loc Cert.OutCIdeal.main_arg4))
      ∧ r.2.sem = fun _ => 0)

def quiescent_OutCReferenceIdeal [hOutCReferenceIdeal : Cert.OutCReferenceIdeal.Facts] : Prop :=
  ∀ (m : (ℓ : Loc Cert.OutCReferenceIdeal.nD Cert.OutCReferenceIdeal.τ Cert.OutCReferenceIdeal.sig) → Buf (Elt Ideal) ℓ) (g : Dev Cert.OutCReferenceIdeal.nD → PrngReg), Pre_OutCReferenceIdeal m →
    θ_run (Cert.OutCReferenceIdeal.defs (F := Ideal)) (onTc (τ := Cert.OutCReferenceIdeal.τ) (Cert.OutCReferenceIdeal.main (F := Ideal))) ⟨m, fun _ => 0, g⟩ (fun r => (∀ c : Dev Cert.OutCReferenceIdeal.nD,
      r.2.mem ((c.tc : Thread Cert.OutCReferenceIdeal.nD Cert.OutCReferenceIdeal.τ).loc Cert.OutCReferenceIdeal.main_arg0) = m ((c.tc : Thread Cert.OutCReferenceIdeal.nD Cert.OutCReferenceIdeal.τ).loc Cert.OutCReferenceIdeal.main_arg0)
      ∧ r.2.mem ((c.tc : Thread Cert.OutCReferenceIdeal.nD Cert.OutCReferenceIdeal.τ).loc Cert.OutCReferenceIdeal.main_arg1) = m ((c.tc : Thread Cert.OutCReferenceIdeal.nD Cert.OutCReferenceIdeal.τ).loc Cert.OutCReferenceIdeal.main_arg1)
      ∧ r.2.mem ((c.tc : Thread Cert.OutCReferenceIdeal.nD Cert.OutCReferenceIdeal.τ).loc Cert.OutCReferenceIdeal.main_arg2) = m ((c.tc : Thread Cert.OutCReferenceIdeal.nD Cert.OutCReferenceIdeal.τ).loc Cert.OutCReferenceIdeal.main_arg2)
      ∧ r.2.mem ((c.tc : Thread Cert.OutCReferenceIdeal.nD Cert.OutCReferenceIdeal.τ).loc Cert.OutCReferenceIdeal.main_arg3) = m ((c.tc : Thread Cert.OutCReferenceIdeal.nD Cert.OutCReferenceIdeal.τ).loc Cert.OutCReferenceIdeal.main_arg3)
      ∧ r.2.mem ((c.tc : Thread Cert.OutCReferenceIdeal.nD Cert.OutCReferenceIdeal.τ).loc Cert.OutCReferenceIdeal.main_arg4) = m ((c.tc : Thread Cert.OutCReferenceIdeal.nD Cert.OutCReferenceIdeal.τ).loc Cert.OutCReferenceIdeal.main_arg4))
      ∧ r.2.sem = fun _ => 0)

def quiescent_OutD [hOutD : Cert.OutD.Facts] : Prop :=
  ∀ (m : (ℓ : Loc Cert.OutD.nD Cert.OutD.τ Cert.OutD.sig) → Buf (Elt Bits) ℓ) (g : Dev Cert.OutD.nD → PrngReg), Pre_OutD m →
    θ_run (Cert.OutD.defs (F := Bits)) (onTc (τ := Cert.OutD.τ) (Cert.OutD.main (F := Bits))) ⟨m, fun _ => 0, g⟩ (fun r => (∀ c : Dev Cert.OutD.nD,
      r.2.mem ((c.tc : Thread Cert.OutD.nD Cert.OutD.τ).loc Cert.OutD.main_arg0) = m ((c.tc : Thread Cert.OutD.nD Cert.OutD.τ).loc Cert.OutD.main_arg0)
      ∧ r.2.mem ((c.tc : Thread Cert.OutD.nD Cert.OutD.τ).loc Cert.OutD.main_arg1) = m ((c.tc : Thread Cert.OutD.nD Cert.OutD.τ).loc Cert.OutD.main_arg1)
      ∧ r.2.mem ((c.tc : Thread Cert.OutD.nD Cert.OutD.τ).loc Cert.OutD.main_arg2) = m ((c.tc : Thread Cert.OutD.nD Cert.OutD.τ).loc Cert.OutD.main_arg2)
      ∧ r.2.mem ((c.tc : Thread Cert.OutD.nD Cert.OutD.τ).loc Cert.OutD.main_arg3) = m ((c.tc : Thread Cert.OutD.nD Cert.OutD.τ).loc Cert.OutD.main_arg3)
      ∧ r.2.mem ((c.tc : Thread Cert.OutD.nD Cert.OutD.τ).loc Cert.OutD.main_arg4) = m ((c.tc : Thread Cert.OutD.nD Cert.OutD.τ).loc Cert.OutD.main_arg4))
      ∧ r.2.sem = fun _ => 0)

def quiescent_OutDIdeal [hOutDIdeal : Cert.OutDIdeal.Facts] : Prop :=
  ∀ (m : (ℓ : Loc Cert.OutDIdeal.nD Cert.OutDIdeal.τ Cert.OutDIdeal.sig) → Buf (Elt Ideal) ℓ) (g : Dev Cert.OutDIdeal.nD → PrngReg), Pre_OutDIdeal m →
    θ_run (Cert.OutDIdeal.defs (F := Ideal)) (onTc (τ := Cert.OutDIdeal.τ) (Cert.OutDIdeal.main (F := Ideal))) ⟨m, fun _ => 0, g⟩ (fun r => (∀ c : Dev Cert.OutDIdeal.nD,
      r.2.mem ((c.tc : Thread Cert.OutDIdeal.nD Cert.OutDIdeal.τ).loc Cert.OutDIdeal.main_arg0) = m ((c.tc : Thread Cert.OutDIdeal.nD Cert.OutDIdeal.τ).loc Cert.OutDIdeal.main_arg0)
      ∧ r.2.mem ((c.tc : Thread Cert.OutDIdeal.nD Cert.OutDIdeal.τ).loc Cert.OutDIdeal.main_arg1) = m ((c.tc : Thread Cert.OutDIdeal.nD Cert.OutDIdeal.τ).loc Cert.OutDIdeal.main_arg1)
      ∧ r.2.mem ((c.tc : Thread Cert.OutDIdeal.nD Cert.OutDIdeal.τ).loc Cert.OutDIdeal.main_arg2) = m ((c.tc : Thread Cert.OutDIdeal.nD Cert.OutDIdeal.τ).loc Cert.OutDIdeal.main_arg2)
      ∧ r.2.mem ((c.tc : Thread Cert.OutDIdeal.nD Cert.OutDIdeal.τ).loc Cert.OutDIdeal.main_arg3) = m ((c.tc : Thread Cert.OutDIdeal.nD Cert.OutDIdeal.τ).loc Cert.OutDIdeal.main_arg3)
      ∧ r.2.mem ((c.tc : Thread Cert.OutDIdeal.nD Cert.OutDIdeal.τ).loc Cert.OutDIdeal.main_arg4) = m ((c.tc : Thread Cert.OutDIdeal.nD Cert.OutDIdeal.τ).loc Cert.OutDIdeal.main_arg4))
      ∧ r.2.sem = fun _ => 0)

def quiescent_OutDReferenceIdeal [hOutDReferenceIdeal : Cert.OutDReferenceIdeal.Facts] : Prop :=
  ∀ (m : (ℓ : Loc Cert.OutDReferenceIdeal.nD Cert.OutDReferenceIdeal.τ Cert.OutDReferenceIdeal.sig) → Buf (Elt Ideal) ℓ) (g : Dev Cert.OutDReferenceIdeal.nD → PrngReg), Pre_OutDReferenceIdeal m →
    θ_run (Cert.OutDReferenceIdeal.defs (F := Ideal)) (onTc (τ := Cert.OutDReferenceIdeal.τ) (Cert.OutDReferenceIdeal.main (F := Ideal))) ⟨m, fun _ => 0, g⟩ (fun r => (∀ c : Dev Cert.OutDReferenceIdeal.nD,
      r.2.mem ((c.tc : Thread Cert.OutDReferenceIdeal.nD Cert.OutDReferenceIdeal.τ).loc Cert.OutDReferenceIdeal.main_arg0) = m ((c.tc : Thread Cert.OutDReferenceIdeal.nD Cert.OutDReferenceIdeal.τ).loc Cert.OutDReferenceIdeal.main_arg0)
      ∧ r.2.mem ((c.tc : Thread Cert.OutDReferenceIdeal.nD Cert.OutDReferenceIdeal.τ).loc Cert.OutDReferenceIdeal.main_arg1) = m ((c.tc : Thread Cert.OutDReferenceIdeal.nD Cert.OutDReferenceIdeal.τ).loc Cert.OutDReferenceIdeal.main_arg1)
      ∧ r.2.mem ((c.tc : Thread Cert.OutDReferenceIdeal.nD Cert.OutDReferenceIdeal.τ).loc Cert.OutDReferenceIdeal.main_arg2) = m ((c.tc : Thread Cert.OutDReferenceIdeal.nD Cert.OutDReferenceIdeal.τ).loc Cert.OutDReferenceIdeal.main_arg2)
      ∧ r.2.mem ((c.tc : Thread Cert.OutDReferenceIdeal.nD Cert.OutDReferenceIdeal.τ).loc Cert.OutDReferenceIdeal.main_arg3) = m ((c.tc : Thread Cert.OutDReferenceIdeal.nD Cert.OutDReferenceIdeal.τ).loc Cert.OutDReferenceIdeal.main_arg3)
      ∧ r.2.mem ((c.tc : Thread Cert.OutDReferenceIdeal.nD Cert.OutDReferenceIdeal.τ).loc Cert.OutDReferenceIdeal.main_arg4) = m ((c.tc : Thread Cert.OutDReferenceIdeal.nD Cert.OutDReferenceIdeal.τ).loc Cert.OutDReferenceIdeal.main_arg4))
      ∧ r.2.sem = fun _ => 0)

def quiescent_OutActA [hOutActA : Cert.OutActA.Facts] : Prop :=
  ∀ (m : (ℓ : Loc Cert.OutActA.nD Cert.OutActA.τ Cert.OutActA.sig) → Buf (Elt Bits) ℓ) (g : Dev Cert.OutActA.nD → PrngReg), Pre_OutActA m →
    θ_run (Cert.OutActA.defs (F := Bits)) (onTc (τ := Cert.OutActA.τ) (Cert.OutActA.main (F := Bits))) ⟨m, fun _ => 0, g⟩ (fun r => (∀ c : Dev Cert.OutActA.nD,
      r.2.mem ((c.tc : Thread Cert.OutActA.nD Cert.OutActA.τ).loc Cert.OutActA.main_arg0) = m ((c.tc : Thread Cert.OutActA.nD Cert.OutActA.τ).loc Cert.OutActA.main_arg0)
      ∧ r.2.mem ((c.tc : Thread Cert.OutActA.nD Cert.OutActA.τ).loc Cert.OutActA.main_arg1) = m ((c.tc : Thread Cert.OutActA.nD Cert.OutActA.τ).loc Cert.OutActA.main_arg1))
      ∧ r.2.sem = fun _ => 0)

def quiescent_OutActAIdeal [hOutActAIdeal : Cert.OutActAIdeal.Facts] : Prop :=
  ∀ (m : (ℓ : Loc Cert.OutActAIdeal.nD Cert.OutActAIdeal.τ Cert.OutActAIdeal.sig) → Buf (Elt Ideal) ℓ) (g : Dev Cert.OutActAIdeal.nD → PrngReg), Pre_OutActAIdeal m →
    θ_run (Cert.OutActAIdeal.defs (F := Ideal)) (onTc (τ := Cert.OutActAIdeal.τ) (Cert.OutActAIdeal.main (F := Ideal))) ⟨m, fun _ => 0, g⟩ (fun r => (∀ c : Dev Cert.OutActAIdeal.nD,
      r.2.mem ((c.tc : Thread Cert.OutActAIdeal.nD Cert.OutActAIdeal.τ).loc Cert.OutActAIdeal.main_arg0) = m ((c.tc : Thread Cert.OutActAIdeal.nD Cert.OutActAIdeal.τ).loc Cert.OutActAIdeal.main_arg0)
      ∧ r.2.mem ((c.tc : Thread Cert.OutActAIdeal.nD Cert.OutActAIdeal.τ).loc Cert.OutActAIdeal.main_arg1) = m ((c.tc : Thread Cert.OutActAIdeal.nD Cert.OutActAIdeal.τ).loc Cert.OutActAIdeal.main_arg1))
      ∧ r.2.sem = fun _ => 0)

def quiescent_OutActAReferenceIdeal [hOutActAReferenceIdeal : Cert.OutActAReferenceIdeal.Facts] : Prop :=
  ∀ (m : (ℓ : Loc Cert.OutActAReferenceIdeal.nD Cert.OutActAReferenceIdeal.τ Cert.OutActAReferenceIdeal.sig) → Buf (Elt Ideal) ℓ) (g : Dev Cert.OutActAReferenceIdeal.nD → PrngReg), Pre_OutActAReferenceIdeal m →
    θ_run (Cert.OutActAReferenceIdeal.defs (F := Ideal)) (onTc (τ := Cert.OutActAReferenceIdeal.τ) (Cert.OutActAReferenceIdeal.main (F := Ideal))) ⟨m, fun _ => 0, g⟩ (fun r => (∀ c : Dev Cert.OutActAReferenceIdeal.nD,
      r.2.mem ((c.tc : Thread Cert.OutActAReferenceIdeal.nD Cert.OutActAReferenceIdeal.τ).loc Cert.OutActAReferenceIdeal.main_arg0) = m ((c.tc : Thread Cert.OutActAReferenceIdeal.nD Cert.OutActAReferenceIdeal.τ).loc Cert.OutActAReferenceIdeal.main_arg0)
      ∧ r.2.mem ((c.tc : Thread Cert.OutActAReferenceIdeal.nD Cert.OutActAReferenceIdeal.τ).loc Cert.OutActAReferenceIdeal.main_arg1) = m ((c.tc : Thread Cert.OutActAReferenceIdeal.nD Cert.OutActAReferenceIdeal.τ).loc Cert.OutActAReferenceIdeal.main_arg1))
      ∧ r.2.sem = fun _ => 0)

def quiescent_OutActB [hOutActB : Cert.OutActB.Facts] : Prop :=
  ∀ (m : (ℓ : Loc Cert.OutActB.nD Cert.OutActB.τ Cert.OutActB.sig) → Buf (Elt Bits) ℓ) (g : Dev Cert.OutActB.nD → PrngReg), Pre_OutActB m →
    θ_run (Cert.OutActB.defs (F := Bits)) (onTc (τ := Cert.OutActB.τ) (Cert.OutActB.main (F := Bits))) ⟨m, fun _ => 0, g⟩ (fun r => (∀ c : Dev Cert.OutActB.nD,
      r.2.mem ((c.tc : Thread Cert.OutActB.nD Cert.OutActB.τ).loc Cert.OutActB.main_arg0) = m ((c.tc : Thread Cert.OutActB.nD Cert.OutActB.τ).loc Cert.OutActB.main_arg0)
      ∧ r.2.mem ((c.tc : Thread Cert.OutActB.nD Cert.OutActB.τ).loc Cert.OutActB.main_arg1) = m ((c.tc : Thread Cert.OutActB.nD Cert.OutActB.τ).loc Cert.OutActB.main_arg1))
      ∧ r.2.sem = fun _ => 0)

def quiescent_OutActBIdeal [hOutActBIdeal : Cert.OutActBIdeal.Facts] : Prop :=
  ∀ (m : (ℓ : Loc Cert.OutActBIdeal.nD Cert.OutActBIdeal.τ Cert.OutActBIdeal.sig) → Buf (Elt Ideal) ℓ) (g : Dev Cert.OutActBIdeal.nD → PrngReg), Pre_OutActBIdeal m →
    θ_run (Cert.OutActBIdeal.defs (F := Ideal)) (onTc (τ := Cert.OutActBIdeal.τ) (Cert.OutActBIdeal.main (F := Ideal))) ⟨m, fun _ => 0, g⟩ (fun r => (∀ c : Dev Cert.OutActBIdeal.nD,
      r.2.mem ((c.tc : Thread Cert.OutActBIdeal.nD Cert.OutActBIdeal.τ).loc Cert.OutActBIdeal.main_arg0) = m ((c.tc : Thread Cert.OutActBIdeal.nD Cert.OutActBIdeal.τ).loc Cert.OutActBIdeal.main_arg0)
      ∧ r.2.mem ((c.tc : Thread Cert.OutActBIdeal.nD Cert.OutActBIdeal.τ).loc Cert.OutActBIdeal.main_arg1) = m ((c.tc : Thread Cert.OutActBIdeal.nD Cert.OutActBIdeal.τ).loc Cert.OutActBIdeal.main_arg1))
      ∧ r.2.sem = fun _ => 0)

def quiescent_OutActBReferenceIdeal [hOutActBReferenceIdeal : Cert.OutActBReferenceIdeal.Facts] : Prop :=
  ∀ (m : (ℓ : Loc Cert.OutActBReferenceIdeal.nD Cert.OutActBReferenceIdeal.τ Cert.OutActBReferenceIdeal.sig) → Buf (Elt Ideal) ℓ) (g : Dev Cert.OutActBReferenceIdeal.nD → PrngReg), Pre_OutActBReferenceIdeal m →
    θ_run (Cert.OutActBReferenceIdeal.defs (F := Ideal)) (onTc (τ := Cert.OutActBReferenceIdeal.τ) (Cert.OutActBReferenceIdeal.main (F := Ideal))) ⟨m, fun _ => 0, g⟩ (fun r => (∀ c : Dev Cert.OutActBReferenceIdeal.nD,
      r.2.mem ((c.tc : Thread Cert.OutActBReferenceIdeal.nD Cert.OutActBReferenceIdeal.τ).loc Cert.OutActBReferenceIdeal.main_arg0) = m ((c.tc : Thread Cert.OutActBReferenceIdeal.nD Cert.OutActBReferenceIdeal.τ).loc Cert.OutActBReferenceIdeal.main_arg0)
      ∧ r.2.mem ((c.tc : Thread Cert.OutActBReferenceIdeal.nD Cert.OutActBReferenceIdeal.τ).loc Cert.OutActBReferenceIdeal.main_arg1) = m ((c.tc : Thread Cert.OutActBReferenceIdeal.nD Cert.OutActBReferenceIdeal.τ).loc Cert.OutActBReferenceIdeal.main_arg1))
      ∧ r.2.sem = fun _ => 0)

def quiescent_OutActC [hOutActC : Cert.OutActC.Facts] : Prop :=
  ∀ (m : (ℓ : Loc Cert.OutActC.nD Cert.OutActC.τ Cert.OutActC.sig) → Buf (Elt Bits) ℓ) (g : Dev Cert.OutActC.nD → PrngReg), Pre_OutActC m →
    θ_run (Cert.OutActC.defs (F := Bits)) (onTc (τ := Cert.OutActC.τ) (Cert.OutActC.main (F := Bits))) ⟨m, fun _ => 0, g⟩ (fun r => (∀ c : Dev Cert.OutActC.nD,
      r.2.mem ((c.tc : Thread Cert.OutActC.nD Cert.OutActC.τ).loc Cert.OutActC.main_arg0) = m ((c.tc : Thread Cert.OutActC.nD Cert.OutActC.τ).loc Cert.OutActC.main_arg0)
      ∧ r.2.mem ((c.tc : Thread Cert.OutActC.nD Cert.OutActC.τ).loc Cert.OutActC.main_arg1) = m ((c.tc : Thread Cert.OutActC.nD Cert.OutActC.τ).loc Cert.OutActC.main_arg1))
      ∧ r.2.sem = fun _ => 0)

def quiescent_OutActCIdeal [hOutActCIdeal : Cert.OutActCIdeal.Facts] : Prop :=
  ∀ (m : (ℓ : Loc Cert.OutActCIdeal.nD Cert.OutActCIdeal.τ Cert.OutActCIdeal.sig) → Buf (Elt Ideal) ℓ) (g : Dev Cert.OutActCIdeal.nD → PrngReg), Pre_OutActCIdeal m →
    θ_run (Cert.OutActCIdeal.defs (F := Ideal)) (onTc (τ := Cert.OutActCIdeal.τ) (Cert.OutActCIdeal.main (F := Ideal))) ⟨m, fun _ => 0, g⟩ (fun r => (∀ c : Dev Cert.OutActCIdeal.nD,
      r.2.mem ((c.tc : Thread Cert.OutActCIdeal.nD Cert.OutActCIdeal.τ).loc Cert.OutActCIdeal.main_arg0) = m ((c.tc : Thread Cert.OutActCIdeal.nD Cert.OutActCIdeal.τ).loc Cert.OutActCIdeal.main_arg0)
      ∧ r.2.mem ((c.tc : Thread Cert.OutActCIdeal.nD Cert.OutActCIdeal.τ).loc Cert.OutActCIdeal.main_arg1) = m ((c.tc : Thread Cert.OutActCIdeal.nD Cert.OutActCIdeal.τ).loc Cert.OutActCIdeal.main_arg1))
      ∧ r.2.sem = fun _ => 0)

def quiescent_OutActCReferenceIdeal [hOutActCReferenceIdeal : Cert.OutActCReferenceIdeal.Facts] : Prop :=
  ∀ (m : (ℓ : Loc Cert.OutActCReferenceIdeal.nD Cert.OutActCReferenceIdeal.τ Cert.OutActCReferenceIdeal.sig) → Buf (Elt Ideal) ℓ) (g : Dev Cert.OutActCReferenceIdeal.nD → PrngReg), Pre_OutActCReferenceIdeal m →
    θ_run (Cert.OutActCReferenceIdeal.defs (F := Ideal)) (onTc (τ := Cert.OutActCReferenceIdeal.τ) (Cert.OutActCReferenceIdeal.main (F := Ideal))) ⟨m, fun _ => 0, g⟩ (fun r => (∀ c : Dev Cert.OutActCReferenceIdeal.nD,
      r.2.mem ((c.tc : Thread Cert.OutActCReferenceIdeal.nD Cert.OutActCReferenceIdeal.τ).loc Cert.OutActCReferenceIdeal.main_arg0) = m ((c.tc : Thread Cert.OutActCReferenceIdeal.nD Cert.OutActCReferenceIdeal.τ).loc Cert.OutActCReferenceIdeal.main_arg0)
      ∧ r.2.mem ((c.tc : Thread Cert.OutActCReferenceIdeal.nD Cert.OutActCReferenceIdeal.τ).loc Cert.OutActCReferenceIdeal.main_arg1) = m ((c.tc : Thread Cert.OutActCReferenceIdeal.nD Cert.OutActCReferenceIdeal.τ).loc Cert.OutActCReferenceIdeal.main_arg1))
      ∧ r.2.sem = fun _ => 0)

def quiescent_OutActD [hOutActD : Cert.OutActD.Facts] : Prop :=
  ∀ (m : (ℓ : Loc Cert.OutActD.nD Cert.OutActD.τ Cert.OutActD.sig) → Buf (Elt Bits) ℓ) (g : Dev Cert.OutActD.nD → PrngReg), Pre_OutActD m →
    θ_run (Cert.OutActD.defs (F := Bits)) (onTc (τ := Cert.OutActD.τ) (Cert.OutActD.main (F := Bits))) ⟨m, fun _ => 0, g⟩ (fun r => (∀ c : Dev Cert.OutActD.nD,
      r.2.mem ((c.tc : Thread Cert.OutActD.nD Cert.OutActD.τ).loc Cert.OutActD.main_arg0) = m ((c.tc : Thread Cert.OutActD.nD Cert.OutActD.τ).loc Cert.OutActD.main_arg0)
      ∧ r.2.mem ((c.tc : Thread Cert.OutActD.nD Cert.OutActD.τ).loc Cert.OutActD.main_arg1) = m ((c.tc : Thread Cert.OutActD.nD Cert.OutActD.τ).loc Cert.OutActD.main_arg1))
      ∧ r.2.sem = fun _ => 0)

def quiescent_OutActDIdeal [hOutActDIdeal : Cert.OutActDIdeal.Facts] : Prop :=
  ∀ (m : (ℓ : Loc Cert.OutActDIdeal.nD Cert.OutActDIdeal.τ Cert.OutActDIdeal.sig) → Buf (Elt Ideal) ℓ) (g : Dev Cert.OutActDIdeal.nD → PrngReg), Pre_OutActDIdeal m →
    θ_run (Cert.OutActDIdeal.defs (F := Ideal)) (onTc (τ := Cert.OutActDIdeal.τ) (Cert.OutActDIdeal.main (F := Ideal))) ⟨m, fun _ => 0, g⟩ (fun r => (∀ c : Dev Cert.OutActDIdeal.nD,
      r.2.mem ((c.tc : Thread Cert.OutActDIdeal.nD Cert.OutActDIdeal.τ).loc Cert.OutActDIdeal.main_arg0) = m ((c.tc : Thread Cert.OutActDIdeal.nD Cert.OutActDIdeal.τ).loc Cert.OutActDIdeal.main_arg0)
      ∧ r.2.mem ((c.tc : Thread Cert.OutActDIdeal.nD Cert.OutActDIdeal.τ).loc Cert.OutActDIdeal.main_arg1) = m ((c.tc : Thread Cert.OutActDIdeal.nD Cert.OutActDIdeal.τ).loc Cert.OutActDIdeal.main_arg1))
      ∧ r.2.sem = fun _ => 0)

def quiescent_OutActDReferenceIdeal [hOutActDReferenceIdeal : Cert.OutActDReferenceIdeal.Facts] : Prop :=
  ∀ (m : (ℓ : Loc Cert.OutActDReferenceIdeal.nD Cert.OutActDReferenceIdeal.τ Cert.OutActDReferenceIdeal.sig) → Buf (Elt Ideal) ℓ) (g : Dev Cert.OutActDReferenceIdeal.nD → PrngReg), Pre_OutActDReferenceIdeal m →
    θ_run (Cert.OutActDReferenceIdeal.defs (F := Ideal)) (onTc (τ := Cert.OutActDReferenceIdeal.τ) (Cert.OutActDReferenceIdeal.main (F := Ideal))) ⟨m, fun _ => 0, g⟩ (fun r => (∀ c : Dev Cert.OutActDReferenceIdeal.nD,
      r.2.mem ((c.tc : Thread Cert.OutActDReferenceIdeal.nD Cert.OutActDReferenceIdeal.τ).loc Cert.OutActDReferenceIdeal.main_arg0) = m ((c.tc : Thread Cert.OutActDReferenceIdeal.nD Cert.OutActDReferenceIdeal.τ).loc Cert.OutActDReferenceIdeal.main_arg0)
      ∧ r.2.mem ((c.tc : Thread Cert.OutActDReferenceIdeal.nD Cert.OutActDReferenceIdeal.τ).loc Cert.OutActDReferenceIdeal.main_arg1) = m ((c.tc : Thread Cert.OutActDReferenceIdeal.nD Cert.OutActDReferenceIdeal.τ).loc Cert.OutActDReferenceIdeal.main_arg1))
      ∧ r.2.sem = fun _ => 0)

def quiescent_OutWeightA [hOutWeightA : Cert.OutWeightA.Facts] : Prop :=
  ∀ (m : (ℓ : Loc Cert.OutWeightA.nD Cert.OutWeightA.τ Cert.OutWeightA.sig) → Buf (Elt Bits) ℓ) (g : Dev Cert.OutWeightA.nD → PrngReg), Pre_OutWeightA m →
    θ_run (Cert.OutWeightA.defs (F := Bits)) (onTc (τ := Cert.OutWeightA.τ) (Cert.OutWeightA.main (F := Bits))) ⟨m, fun _ => 0, g⟩ (fun r => (∀ c : Dev Cert.OutWeightA.nD,
      r.2.mem ((c.tc : Thread Cert.OutWeightA.nD Cert.OutWeightA.τ).loc Cert.OutWeightA.main_arg0) = m ((c.tc : Thread Cert.OutWeightA.nD Cert.OutWeightA.τ).loc Cert.OutWeightA.main_arg0)
      ∧ r.2.mem ((c.tc : Thread Cert.OutWeightA.nD Cert.OutWeightA.τ).loc Cert.OutWeightA.main_arg1) = m ((c.tc : Thread Cert.OutWeightA.nD Cert.OutWeightA.τ).loc Cert.OutWeightA.main_arg1))
      ∧ r.2.sem = fun _ => 0)

def quiescent_OutWeightAIdeal [hOutWeightAIdeal : Cert.OutWeightAIdeal.Facts] : Prop :=
  ∀ (m : (ℓ : Loc Cert.OutWeightAIdeal.nD Cert.OutWeightAIdeal.τ Cert.OutWeightAIdeal.sig) → Buf (Elt Ideal) ℓ) (g : Dev Cert.OutWeightAIdeal.nD → PrngReg), Pre_OutWeightAIdeal m →
    θ_run (Cert.OutWeightAIdeal.defs (F := Ideal)) (onTc (τ := Cert.OutWeightAIdeal.τ) (Cert.OutWeightAIdeal.main (F := Ideal))) ⟨m, fun _ => 0, g⟩ (fun r => (∀ c : Dev Cert.OutWeightAIdeal.nD,
      r.2.mem ((c.tc : Thread Cert.OutWeightAIdeal.nD Cert.OutWeightAIdeal.τ).loc Cert.OutWeightAIdeal.main_arg0) = m ((c.tc : Thread Cert.OutWeightAIdeal.nD Cert.OutWeightAIdeal.τ).loc Cert.OutWeightAIdeal.main_arg0)
      ∧ r.2.mem ((c.tc : Thread Cert.OutWeightAIdeal.nD Cert.OutWeightAIdeal.τ).loc Cert.OutWeightAIdeal.main_arg1) = m ((c.tc : Thread Cert.OutWeightAIdeal.nD Cert.OutWeightAIdeal.τ).loc Cert.OutWeightAIdeal.main_arg1))
      ∧ r.2.sem = fun _ => 0)

def quiescent_OutWeightAReferenceIdeal [hOutWeightAReferenceIdeal : Cert.OutWeightAReferenceIdeal.Facts] : Prop :=
  ∀ (m : (ℓ : Loc Cert.OutWeightAReferenceIdeal.nD Cert.OutWeightAReferenceIdeal.τ Cert.OutWeightAReferenceIdeal.sig) → Buf (Elt Ideal) ℓ) (g : Dev Cert.OutWeightAReferenceIdeal.nD → PrngReg), Pre_OutWeightAReferenceIdeal m →
    θ_run (Cert.OutWeightAReferenceIdeal.defs (F := Ideal)) (onTc (τ := Cert.OutWeightAReferenceIdeal.τ) (Cert.OutWeightAReferenceIdeal.main (F := Ideal))) ⟨m, fun _ => 0, g⟩ (fun r => (∀ c : Dev Cert.OutWeightAReferenceIdeal.nD,
      r.2.mem ((c.tc : Thread Cert.OutWeightAReferenceIdeal.nD Cert.OutWeightAReferenceIdeal.τ).loc Cert.OutWeightAReferenceIdeal.main_arg0) = m ((c.tc : Thread Cert.OutWeightAReferenceIdeal.nD Cert.OutWeightAReferenceIdeal.τ).loc Cert.OutWeightAReferenceIdeal.main_arg0)
      ∧ r.2.mem ((c.tc : Thread Cert.OutWeightAReferenceIdeal.nD Cert.OutWeightAReferenceIdeal.τ).loc Cert.OutWeightAReferenceIdeal.main_arg1) = m ((c.tc : Thread Cert.OutWeightAReferenceIdeal.nD Cert.OutWeightAReferenceIdeal.τ).loc Cert.OutWeightAReferenceIdeal.main_arg1))
      ∧ r.2.sem = fun _ => 0)

def quiescent_OutWeightB [hOutWeightB : Cert.OutWeightB.Facts] : Prop :=
  ∀ (m : (ℓ : Loc Cert.OutWeightB.nD Cert.OutWeightB.τ Cert.OutWeightB.sig) → Buf (Elt Bits) ℓ) (g : Dev Cert.OutWeightB.nD → PrngReg), Pre_OutWeightB m →
    θ_run (Cert.OutWeightB.defs (F := Bits)) (onTc (τ := Cert.OutWeightB.τ) (Cert.OutWeightB.main (F := Bits))) ⟨m, fun _ => 0, g⟩ (fun r => (∀ c : Dev Cert.OutWeightB.nD,
      r.2.mem ((c.tc : Thread Cert.OutWeightB.nD Cert.OutWeightB.τ).loc Cert.OutWeightB.main_arg0) = m ((c.tc : Thread Cert.OutWeightB.nD Cert.OutWeightB.τ).loc Cert.OutWeightB.main_arg0)
      ∧ r.2.mem ((c.tc : Thread Cert.OutWeightB.nD Cert.OutWeightB.τ).loc Cert.OutWeightB.main_arg1) = m ((c.tc : Thread Cert.OutWeightB.nD Cert.OutWeightB.τ).loc Cert.OutWeightB.main_arg1))
      ∧ r.2.sem = fun _ => 0)

def quiescent_OutWeightBIdeal [hOutWeightBIdeal : Cert.OutWeightBIdeal.Facts] : Prop :=
  ∀ (m : (ℓ : Loc Cert.OutWeightBIdeal.nD Cert.OutWeightBIdeal.τ Cert.OutWeightBIdeal.sig) → Buf (Elt Ideal) ℓ) (g : Dev Cert.OutWeightBIdeal.nD → PrngReg), Pre_OutWeightBIdeal m →
    θ_run (Cert.OutWeightBIdeal.defs (F := Ideal)) (onTc (τ := Cert.OutWeightBIdeal.τ) (Cert.OutWeightBIdeal.main (F := Ideal))) ⟨m, fun _ => 0, g⟩ (fun r => (∀ c : Dev Cert.OutWeightBIdeal.nD,
      r.2.mem ((c.tc : Thread Cert.OutWeightBIdeal.nD Cert.OutWeightBIdeal.τ).loc Cert.OutWeightBIdeal.main_arg0) = m ((c.tc : Thread Cert.OutWeightBIdeal.nD Cert.OutWeightBIdeal.τ).loc Cert.OutWeightBIdeal.main_arg0)
      ∧ r.2.mem ((c.tc : Thread Cert.OutWeightBIdeal.nD Cert.OutWeightBIdeal.τ).loc Cert.OutWeightBIdeal.main_arg1) = m ((c.tc : Thread Cert.OutWeightBIdeal.nD Cert.OutWeightBIdeal.τ).loc Cert.OutWeightBIdeal.main_arg1))
      ∧ r.2.sem = fun _ => 0)

def quiescent_OutWeightBReferenceIdeal [hOutWeightBReferenceIdeal : Cert.OutWeightBReferenceIdeal.Facts] : Prop :=
  ∀ (m : (ℓ : Loc Cert.OutWeightBReferenceIdeal.nD Cert.OutWeightBReferenceIdeal.τ Cert.OutWeightBReferenceIdeal.sig) → Buf (Elt Ideal) ℓ) (g : Dev Cert.OutWeightBReferenceIdeal.nD → PrngReg), Pre_OutWeightBReferenceIdeal m →
    θ_run (Cert.OutWeightBReferenceIdeal.defs (F := Ideal)) (onTc (τ := Cert.OutWeightBReferenceIdeal.τ) (Cert.OutWeightBReferenceIdeal.main (F := Ideal))) ⟨m, fun _ => 0, g⟩ (fun r => (∀ c : Dev Cert.OutWeightBReferenceIdeal.nD,
      r.2.mem ((c.tc : Thread Cert.OutWeightBReferenceIdeal.nD Cert.OutWeightBReferenceIdeal.τ).loc Cert.OutWeightBReferenceIdeal.main_arg0) = m ((c.tc : Thread Cert.OutWeightBReferenceIdeal.nD Cert.OutWeightBReferenceIdeal.τ).loc Cert.OutWeightBReferenceIdeal.main_arg0)
      ∧ r.2.mem ((c.tc : Thread Cert.OutWeightBReferenceIdeal.nD Cert.OutWeightBReferenceIdeal.τ).loc Cert.OutWeightBReferenceIdeal.main_arg1) = m ((c.tc : Thread Cert.OutWeightBReferenceIdeal.nD Cert.OutWeightBReferenceIdeal.τ).loc Cert.OutWeightBReferenceIdeal.main_arg1))
      ∧ r.2.sem = fun _ => 0)

def quiescent_OutWeightC [hOutWeightC : Cert.OutWeightC.Facts] : Prop :=
  ∀ (m : (ℓ : Loc Cert.OutWeightC.nD Cert.OutWeightC.τ Cert.OutWeightC.sig) → Buf (Elt Bits) ℓ) (g : Dev Cert.OutWeightC.nD → PrngReg), Pre_OutWeightC m →
    θ_run (Cert.OutWeightC.defs (F := Bits)) (onTc (τ := Cert.OutWeightC.τ) (Cert.OutWeightC.main (F := Bits))) ⟨m, fun _ => 0, g⟩ (fun r => (∀ c : Dev Cert.OutWeightC.nD,
      r.2.mem ((c.tc : Thread Cert.OutWeightC.nD Cert.OutWeightC.τ).loc Cert.OutWeightC.main_arg0) = m ((c.tc : Thread Cert.OutWeightC.nD Cert.OutWeightC.τ).loc Cert.OutWeightC.main_arg0)
      ∧ r.2.mem ((c.tc : Thread Cert.OutWeightC.nD Cert.OutWeightC.τ).loc Cert.OutWeightC.main_arg1) = m ((c.tc : Thread Cert.OutWeightC.nD Cert.OutWeightC.τ).loc Cert.OutWeightC.main_arg1))
      ∧ r.2.sem = fun _ => 0)

def quiescent_OutWeightCIdeal [hOutWeightCIdeal : Cert.OutWeightCIdeal.Facts] : Prop :=
  ∀ (m : (ℓ : Loc Cert.OutWeightCIdeal.nD Cert.OutWeightCIdeal.τ Cert.OutWeightCIdeal.sig) → Buf (Elt Ideal) ℓ) (g : Dev Cert.OutWeightCIdeal.nD → PrngReg), Pre_OutWeightCIdeal m →
    θ_run (Cert.OutWeightCIdeal.defs (F := Ideal)) (onTc (τ := Cert.OutWeightCIdeal.τ) (Cert.OutWeightCIdeal.main (F := Ideal))) ⟨m, fun _ => 0, g⟩ (fun r => (∀ c : Dev Cert.OutWeightCIdeal.nD,
      r.2.mem ((c.tc : Thread Cert.OutWeightCIdeal.nD Cert.OutWeightCIdeal.τ).loc Cert.OutWeightCIdeal.main_arg0) = m ((c.tc : Thread Cert.OutWeightCIdeal.nD Cert.OutWeightCIdeal.τ).loc Cert.OutWeightCIdeal.main_arg0)
      ∧ r.2.mem ((c.tc : Thread Cert.OutWeightCIdeal.nD Cert.OutWeightCIdeal.τ).loc Cert.OutWeightCIdeal.main_arg1) = m ((c.tc : Thread Cert.OutWeightCIdeal.nD Cert.OutWeightCIdeal.τ).loc Cert.OutWeightCIdeal.main_arg1))
      ∧ r.2.sem = fun _ => 0)

def quiescent_OutWeightCReferenceIdeal [hOutWeightCReferenceIdeal : Cert.OutWeightCReferenceIdeal.Facts] : Prop :=
  ∀ (m : (ℓ : Loc Cert.OutWeightCReferenceIdeal.nD Cert.OutWeightCReferenceIdeal.τ Cert.OutWeightCReferenceIdeal.sig) → Buf (Elt Ideal) ℓ) (g : Dev Cert.OutWeightCReferenceIdeal.nD → PrngReg), Pre_OutWeightCReferenceIdeal m →
    θ_run (Cert.OutWeightCReferenceIdeal.defs (F := Ideal)) (onTc (τ := Cert.OutWeightCReferenceIdeal.τ) (Cert.OutWeightCReferenceIdeal.main (F := Ideal))) ⟨m, fun _ => 0, g⟩ (fun r => (∀ c : Dev Cert.OutWeightCReferenceIdeal.nD,
      r.2.mem ((c.tc : Thread Cert.OutWeightCReferenceIdeal.nD Cert.OutWeightCReferenceIdeal.τ).loc Cert.OutWeightCReferenceIdeal.main_arg0) = m ((c.tc : Thread Cert.OutWeightCReferenceIdeal.nD Cert.OutWeightCReferenceIdeal.τ).loc Cert.OutWeightCReferenceIdeal.main_arg0)
      ∧ r.2.mem ((c.tc : Thread Cert.OutWeightCReferenceIdeal.nD Cert.OutWeightCReferenceIdeal.τ).loc Cert.OutWeightCReferenceIdeal.main_arg1) = m ((c.tc : Thread Cert.OutWeightCReferenceIdeal.nD Cert.OutWeightCReferenceIdeal.τ).loc Cert.OutWeightCReferenceIdeal.main_arg1))
      ∧ r.2.sem = fun _ => 0)

def quiescent_OutWeightD [hOutWeightD : Cert.OutWeightD.Facts] : Prop :=
  ∀ (m : (ℓ : Loc Cert.OutWeightD.nD Cert.OutWeightD.τ Cert.OutWeightD.sig) → Buf (Elt Bits) ℓ) (g : Dev Cert.OutWeightD.nD → PrngReg), Pre_OutWeightD m →
    θ_run (Cert.OutWeightD.defs (F := Bits)) (onTc (τ := Cert.OutWeightD.τ) (Cert.OutWeightD.main (F := Bits))) ⟨m, fun _ => 0, g⟩ (fun r => (∀ c : Dev Cert.OutWeightD.nD,
      r.2.mem ((c.tc : Thread Cert.OutWeightD.nD Cert.OutWeightD.τ).loc Cert.OutWeightD.main_arg0) = m ((c.tc : Thread Cert.OutWeightD.nD Cert.OutWeightD.τ).loc Cert.OutWeightD.main_arg0)
      ∧ r.2.mem ((c.tc : Thread Cert.OutWeightD.nD Cert.OutWeightD.τ).loc Cert.OutWeightD.main_arg1) = m ((c.tc : Thread Cert.OutWeightD.nD Cert.OutWeightD.τ).loc Cert.OutWeightD.main_arg1))
      ∧ r.2.sem = fun _ => 0)

def quiescent_OutWeightDIdeal [hOutWeightDIdeal : Cert.OutWeightDIdeal.Facts] : Prop :=
  ∀ (m : (ℓ : Loc Cert.OutWeightDIdeal.nD Cert.OutWeightDIdeal.τ Cert.OutWeightDIdeal.sig) → Buf (Elt Ideal) ℓ) (g : Dev Cert.OutWeightDIdeal.nD → PrngReg), Pre_OutWeightDIdeal m →
    θ_run (Cert.OutWeightDIdeal.defs (F := Ideal)) (onTc (τ := Cert.OutWeightDIdeal.τ) (Cert.OutWeightDIdeal.main (F := Ideal))) ⟨m, fun _ => 0, g⟩ (fun r => (∀ c : Dev Cert.OutWeightDIdeal.nD,
      r.2.mem ((c.tc : Thread Cert.OutWeightDIdeal.nD Cert.OutWeightDIdeal.τ).loc Cert.OutWeightDIdeal.main_arg0) = m ((c.tc : Thread Cert.OutWeightDIdeal.nD Cert.OutWeightDIdeal.τ).loc Cert.OutWeightDIdeal.main_arg0)
      ∧ r.2.mem ((c.tc : Thread Cert.OutWeightDIdeal.nD Cert.OutWeightDIdeal.τ).loc Cert.OutWeightDIdeal.main_arg1) = m ((c.tc : Thread Cert.OutWeightDIdeal.nD Cert.OutWeightDIdeal.τ).loc Cert.OutWeightDIdeal.main_arg1))
      ∧ r.2.sem = fun _ => 0)

def quiescent_OutWeightDReferenceIdeal [hOutWeightDReferenceIdeal : Cert.OutWeightDReferenceIdeal.Facts] : Prop :=
  ∀ (m : (ℓ : Loc Cert.OutWeightDReferenceIdeal.nD Cert.OutWeightDReferenceIdeal.τ Cert.OutWeightDReferenceIdeal.sig) → Buf (Elt Ideal) ℓ) (g : Dev Cert.OutWeightDReferenceIdeal.nD → PrngReg), Pre_OutWeightDReferenceIdeal m →
    θ_run (Cert.OutWeightDReferenceIdeal.defs (F := Ideal)) (onTc (τ := Cert.OutWeightDReferenceIdeal.τ) (Cert.OutWeightDReferenceIdeal.main (F := Ideal))) ⟨m, fun _ => 0, g⟩ (fun r => (∀ c : Dev Cert.OutWeightDReferenceIdeal.nD,
      r.2.mem ((c.tc : Thread Cert.OutWeightDReferenceIdeal.nD Cert.OutWeightDReferenceIdeal.τ).loc Cert.OutWeightDReferenceIdeal.main_arg0) = m ((c.tc : Thread Cert.OutWeightDReferenceIdeal.nD Cert.OutWeightDReferenceIdeal.τ).loc Cert.OutWeightDReferenceIdeal.main_arg0)
      ∧ r.2.mem ((c.tc : Thread Cert.OutWeightDReferenceIdeal.nD Cert.OutWeightDReferenceIdeal.τ).loc Cert.OutWeightDReferenceIdeal.main_arg1) = m ((c.tc : Thread Cert.OutWeightDReferenceIdeal.nD Cert.OutWeightDReferenceIdeal.τ).loc Cert.OutWeightDReferenceIdeal.main_arg1))
      ∧ r.2.sem = fun _ => 0)

def quiescent_NormGrad [hNormGrad : Cert.NormGrad.Facts] : Prop :=
  ∀ (m : (ℓ : Loc Cert.NormGrad.nD Cert.NormGrad.τ Cert.NormGrad.sig) → Buf (Elt Bits) ℓ) (g : Dev Cert.NormGrad.nD → PrngReg), Pre_NormGrad m →
    θ_run (Cert.NormGrad.defs (F := Bits)) (onTc (τ := Cert.NormGrad.τ) (Cert.NormGrad.main (F := Bits))) ⟨m, fun _ => 0, g⟩ (fun r => (∀ c : Dev Cert.NormGrad.nD,
      r.2.mem ((c.tc : Thread Cert.NormGrad.nD Cert.NormGrad.τ).loc Cert.NormGrad.main_arg0) = m ((c.tc : Thread Cert.NormGrad.nD Cert.NormGrad.τ).loc Cert.NormGrad.main_arg0)
      ∧ r.2.mem ((c.tc : Thread Cert.NormGrad.nD Cert.NormGrad.τ).loc Cert.NormGrad.main_arg1) = m ((c.tc : Thread Cert.NormGrad.nD Cert.NormGrad.τ).loc Cert.NormGrad.main_arg1)
      ∧ r.2.mem ((c.tc : Thread Cert.NormGrad.nD Cert.NormGrad.τ).loc Cert.NormGrad.main_arg2) = m ((c.tc : Thread Cert.NormGrad.nD Cert.NormGrad.τ).loc Cert.NormGrad.main_arg2)
      ∧ r.2.mem ((c.tc : Thread Cert.NormGrad.nD Cert.NormGrad.τ).loc Cert.NormGrad.main_arg3) = m ((c.tc : Thread Cert.NormGrad.nD Cert.NormGrad.τ).loc Cert.NormGrad.main_arg3))
      ∧ r.2.sem = fun _ => 0)

def quiescent_NormGradIdeal [hNormGradIdeal : Cert.NormGradIdeal.Facts] : Prop :=
  ∀ (m : (ℓ : Loc Cert.NormGradIdeal.nD Cert.NormGradIdeal.τ Cert.NormGradIdeal.sig) → Buf (Elt Ideal) ℓ) (g : Dev Cert.NormGradIdeal.nD → PrngReg), Pre_NormGradIdeal m →
    θ_run (Cert.NormGradIdeal.defs (F := Ideal)) (onTc (τ := Cert.NormGradIdeal.τ) (Cert.NormGradIdeal.main (F := Ideal))) ⟨m, fun _ => 0, g⟩ (fun r => (∀ c : Dev Cert.NormGradIdeal.nD,
      r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
      ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
      ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
      ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3))
      ∧ r.2.sem = fun _ => 0)

def quiescent_NormGradReferenceIdeal [hNormGradReferenceIdeal : Cert.NormGradReferenceIdeal.Facts] : Prop :=
  ∀ (m : (ℓ : Loc Cert.NormGradReferenceIdeal.nD Cert.NormGradReferenceIdeal.τ Cert.NormGradReferenceIdeal.sig) → Buf (Elt Ideal) ℓ) (g : Dev Cert.NormGradReferenceIdeal.nD → PrngReg), Pre_NormGradReferenceIdeal m →
    θ_run (Cert.NormGradReferenceIdeal.defs (F := Ideal)) (onTc (τ := Cert.NormGradReferenceIdeal.τ) (Cert.NormGradReferenceIdeal.main (F := Ideal))) ⟨m, fun _ => 0, g⟩ (fun r => (∀ c : Dev Cert.NormGradReferenceIdeal.nD,
      r.2.mem ((c.tc : Thread Cert.NormGradReferenceIdeal.nD Cert.NormGradReferenceIdeal.τ).loc Cert.NormGradReferenceIdeal.main_arg0) = m ((c.tc : Thread Cert.NormGradReferenceIdeal.nD Cert.NormGradReferenceIdeal.τ).loc Cert.NormGradReferenceIdeal.main_arg0)
      ∧ r.2.mem ((c.tc : Thread Cert.NormGradReferenceIdeal.nD Cert.NormGradReferenceIdeal.τ).loc Cert.NormGradReferenceIdeal.main_arg1) = m ((c.tc : Thread Cert.NormGradReferenceIdeal.nD Cert.NormGradReferenceIdeal.τ).loc Cert.NormGradReferenceIdeal.main_arg1)
      ∧ r.2.mem ((c.tc : Thread Cert.NormGradReferenceIdeal.nD Cert.NormGradReferenceIdeal.τ).loc Cert.NormGradReferenceIdeal.main_arg2) = m ((c.tc : Thread Cert.NormGradReferenceIdeal.nD Cert.NormGradReferenceIdeal.τ).loc Cert.NormGradReferenceIdeal.main_arg2)
      ∧ r.2.mem ((c.tc : Thread Cert.NormGradReferenceIdeal.nD Cert.NormGradReferenceIdeal.τ).loc Cert.NormGradReferenceIdeal.main_arg3) = m ((c.tc : Thread Cert.NormGradReferenceIdeal.nD Cert.NormGradReferenceIdeal.τ).loc Cert.NormGradReferenceIdeal.main_arg3))
      ∧ r.2.sem = fun _ => 0)

def quiescent_InWeightG [hInWeightG : Cert.InWeightG.Facts] : Prop :=
  ∀ (m : (ℓ : Loc Cert.InWeightG.nD Cert.InWeightG.τ Cert.InWeightG.sig) → Buf (Elt Bits) ℓ) (g : Dev Cert.InWeightG.nD → PrngReg), Pre_InWeightG m →
    θ_run (Cert.InWeightG.defs (F := Bits)) (onTc (τ := Cert.InWeightG.τ) (Cert.InWeightG.main (F := Bits))) ⟨m, fun _ => 0, g⟩ (fun r => (∀ c : Dev Cert.InWeightG.nD,
      r.2.mem ((c.tc : Thread Cert.InWeightG.nD Cert.InWeightG.τ).loc Cert.InWeightG.main_arg0) = m ((c.tc : Thread Cert.InWeightG.nD Cert.InWeightG.τ).loc Cert.InWeightG.main_arg0)
      ∧ r.2.mem ((c.tc : Thread Cert.InWeightG.nD Cert.InWeightG.τ).loc Cert.InWeightG.main_arg1) = m ((c.tc : Thread Cert.InWeightG.nD Cert.InWeightG.τ).loc Cert.InWeightG.main_arg1))
      ∧ r.2.sem = fun _ => 0)

def quiescent_InWeightGIdeal [hInWeightGIdeal : Cert.InWeightGIdeal.Facts] : Prop :=
  ∀ (m : (ℓ : Loc Cert.InWeightGIdeal.nD Cert.InWeightGIdeal.τ Cert.InWeightGIdeal.sig) → Buf (Elt Ideal) ℓ) (g : Dev Cert.InWeightGIdeal.nD → PrngReg), Pre_InWeightGIdeal m →
    θ_run (Cert.InWeightGIdeal.defs (F := Ideal)) (onTc (τ := Cert.InWeightGIdeal.τ) (Cert.InWeightGIdeal.main (F := Ideal))) ⟨m, fun _ => 0, g⟩ (fun r => (∀ c : Dev Cert.InWeightGIdeal.nD,
      r.2.mem ((c.tc : Thread Cert.InWeightGIdeal.nD Cert.InWeightGIdeal.τ).loc Cert.InWeightGIdeal.main_arg0) = m ((c.tc : Thread Cert.InWeightGIdeal.nD Cert.InWeightGIdeal.τ).loc Cert.InWeightGIdeal.main_arg0)
      ∧ r.2.mem ((c.tc : Thread Cert.InWeightGIdeal.nD Cert.InWeightGIdeal.τ).loc Cert.InWeightGIdeal.main_arg1) = m ((c.tc : Thread Cert.InWeightGIdeal.nD Cert.InWeightGIdeal.τ).loc Cert.InWeightGIdeal.main_arg1))
      ∧ r.2.sem = fun _ => 0)

def quiescent_InWeightGReferenceIdeal [hInWeightGReferenceIdeal : Cert.InWeightGReferenceIdeal.Facts] : Prop :=
  ∀ (m : (ℓ : Loc Cert.InWeightGReferenceIdeal.nD Cert.InWeightGReferenceIdeal.τ Cert.InWeightGReferenceIdeal.sig) → Buf (Elt Ideal) ℓ) (g : Dev Cert.InWeightGReferenceIdeal.nD → PrngReg), Pre_InWeightGReferenceIdeal m →
    θ_run (Cert.InWeightGReferenceIdeal.defs (F := Ideal)) (onTc (τ := Cert.InWeightGReferenceIdeal.τ) (Cert.InWeightGReferenceIdeal.main (F := Ideal))) ⟨m, fun _ => 0, g⟩ (fun r => (∀ c : Dev Cert.InWeightGReferenceIdeal.nD,
      r.2.mem ((c.tc : Thread Cert.InWeightGReferenceIdeal.nD Cert.InWeightGReferenceIdeal.τ).loc Cert.InWeightGReferenceIdeal.main_arg0) = m ((c.tc : Thread Cert.InWeightGReferenceIdeal.nD Cert.InWeightGReferenceIdeal.τ).loc Cert.InWeightGReferenceIdeal.main_arg0)
      ∧ r.2.mem ((c.tc : Thread Cert.InWeightGReferenceIdeal.nD Cert.InWeightGReferenceIdeal.τ).loc Cert.InWeightGReferenceIdeal.main_arg1) = m ((c.tc : Thread Cert.InWeightGReferenceIdeal.nD Cert.InWeightGReferenceIdeal.τ).loc Cert.InWeightGReferenceIdeal.main_arg1))
      ∧ r.2.sem = fun _ => 0)

def quiescent_InWeightT [hInWeightT : Cert.InWeightT.Facts] : Prop :=
  ∀ (m : (ℓ : Loc Cert.InWeightT.nD Cert.InWeightT.τ Cert.InWeightT.sig) → Buf (Elt Bits) ℓ) (g : Dev Cert.InWeightT.nD → PrngReg), Pre_InWeightT m →
    θ_run (Cert.InWeightT.defs (F := Bits)) (onTc (τ := Cert.InWeightT.τ) (Cert.InWeightT.main (F := Bits))) ⟨m, fun _ => 0, g⟩ (fun r => (∀ c : Dev Cert.InWeightT.nD,
      r.2.mem ((c.tc : Thread Cert.InWeightT.nD Cert.InWeightT.τ).loc Cert.InWeightT.main_arg0) = m ((c.tc : Thread Cert.InWeightT.nD Cert.InWeightT.τ).loc Cert.InWeightT.main_arg0)
      ∧ r.2.mem ((c.tc : Thread Cert.InWeightT.nD Cert.InWeightT.τ).loc Cert.InWeightT.main_arg1) = m ((c.tc : Thread Cert.InWeightT.nD Cert.InWeightT.τ).loc Cert.InWeightT.main_arg1))
      ∧ r.2.sem = fun _ => 0)

def quiescent_InWeightTIdeal [hInWeightTIdeal : Cert.InWeightTIdeal.Facts] : Prop :=
  ∀ (m : (ℓ : Loc Cert.InWeightTIdeal.nD Cert.InWeightTIdeal.τ Cert.InWeightTIdeal.sig) → Buf (Elt Ideal) ℓ) (g : Dev Cert.InWeightTIdeal.nD → PrngReg), Pre_InWeightTIdeal m →
    θ_run (Cert.InWeightTIdeal.defs (F := Ideal)) (onTc (τ := Cert.InWeightTIdeal.τ) (Cert.InWeightTIdeal.main (F := Ideal))) ⟨m, fun _ => 0, g⟩ (fun r => (∀ c : Dev Cert.InWeightTIdeal.nD,
      r.2.mem ((c.tc : Thread Cert.InWeightTIdeal.nD Cert.InWeightTIdeal.τ).loc Cert.InWeightTIdeal.main_arg0) = m ((c.tc : Thread Cert.InWeightTIdeal.nD Cert.InWeightTIdeal.τ).loc Cert.InWeightTIdeal.main_arg0)
      ∧ r.2.mem ((c.tc : Thread Cert.InWeightTIdeal.nD Cert.InWeightTIdeal.τ).loc Cert.InWeightTIdeal.main_arg1) = m ((c.tc : Thread Cert.InWeightTIdeal.nD Cert.InWeightTIdeal.τ).loc Cert.InWeightTIdeal.main_arg1))
      ∧ r.2.sem = fun _ => 0)

def quiescent_InWeightTReferenceIdeal [hInWeightTReferenceIdeal : Cert.InWeightTReferenceIdeal.Facts] : Prop :=
  ∀ (m : (ℓ : Loc Cert.InWeightTReferenceIdeal.nD Cert.InWeightTReferenceIdeal.τ Cert.InWeightTReferenceIdeal.sig) → Buf (Elt Ideal) ℓ) (g : Dev Cert.InWeightTReferenceIdeal.nD → PrngReg), Pre_InWeightTReferenceIdeal m →
    θ_run (Cert.InWeightTReferenceIdeal.defs (F := Ideal)) (onTc (τ := Cert.InWeightTReferenceIdeal.τ) (Cert.InWeightTReferenceIdeal.main (F := Ideal))) ⟨m, fun _ => 0, g⟩ (fun r => (∀ c : Dev Cert.InWeightTReferenceIdeal.nD,
      r.2.mem ((c.tc : Thread Cert.InWeightTReferenceIdeal.nD Cert.InWeightTReferenceIdeal.τ).loc Cert.InWeightTReferenceIdeal.main_arg0) = m ((c.tc : Thread Cert.InWeightTReferenceIdeal.nD Cert.InWeightTReferenceIdeal.τ).loc Cert.InWeightTReferenceIdeal.main_arg0)
      ∧ r.2.mem ((c.tc : Thread Cert.InWeightTReferenceIdeal.nD Cert.InWeightTReferenceIdeal.τ).loc Cert.InWeightTReferenceIdeal.main_arg1) = m ((c.tc : Thread Cert.InWeightTReferenceIdeal.nD Cert.InWeightTReferenceIdeal.τ).loc Cert.InWeightTReferenceIdeal.main_arg1))
      ∧ r.2.sem = fun _ => 0)

def quiescent_Mem [hMem : Cert.Mem.Facts] : Prop :=
  ∀ (m : (ℓ : Loc Cert.Mem.nD Cert.Mem.τ Cert.Mem.sig) → Buf (Elt Bits) ℓ) (g : Dev Cert.Mem.nD → PrngReg), Pre_Mem m →
    θ_run (Cert.Mem.defs (F := Bits)) (onTc (τ := Cert.Mem.τ) (Cert.Mem.main (F := Bits))) ⟨m, fun _ => 0, g⟩ (fun r => (∀ c : Dev Cert.Mem.nD,
      r.2.mem ((c.tc : Thread Cert.Mem.nD Cert.Mem.τ).loc Cert.Mem.main_arg0) = m ((c.tc : Thread Cert.Mem.nD Cert.Mem.τ).loc Cert.Mem.main_arg0)
      ∧ r.2.mem ((c.tc : Thread Cert.Mem.nD Cert.Mem.τ).loc Cert.Mem.main_arg1) = m ((c.tc : Thread Cert.Mem.nD Cert.Mem.τ).loc Cert.Mem.main_arg1))
      ∧ r.2.sem = fun _ => 0)

def quiescent_MemIdeal [hMemIdeal : Cert.MemIdeal.Facts] : Prop :=
  ∀ (m : (ℓ : Loc Cert.MemIdeal.nD Cert.MemIdeal.τ Cert.MemIdeal.sig) → Buf (Elt Ideal) ℓ) (g : Dev Cert.MemIdeal.nD → PrngReg), Pre_MemIdeal m →
    θ_run (Cert.MemIdeal.defs (F := Ideal)) (onTc (τ := Cert.MemIdeal.τ) (Cert.MemIdeal.main (F := Ideal))) ⟨m, fun _ => 0, g⟩ (fun r => (∀ c : Dev Cert.MemIdeal.nD,
      r.2.mem ((c.tc : Thread Cert.MemIdeal.nD Cert.MemIdeal.τ).loc Cert.MemIdeal.main_arg0) = m ((c.tc : Thread Cert.MemIdeal.nD Cert.MemIdeal.τ).loc Cert.MemIdeal.main_arg0)
      ∧ r.2.mem ((c.tc : Thread Cert.MemIdeal.nD Cert.MemIdeal.τ).loc Cert.MemIdeal.main_arg1) = m ((c.tc : Thread Cert.MemIdeal.nD Cert.MemIdeal.τ).loc Cert.MemIdeal.main_arg1))
      ∧ r.2.sem = fun _ => 0)

def quiescent_MemReferenceIdeal [hMemReferenceIdeal : Cert.MemReferenceIdeal.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1))
      ∧ r.2.sem = fun _ => 0)

def quiescent_MemAct [hMemAct : Cert.MemAct.Facts] : Prop :=
  ∀ (m : (ℓ : Loc Cert.MemAct.nD Cert.MemAct.τ Cert.MemAct.sig) → Buf (Elt Bits) ℓ) (g : Dev Cert.MemAct.nD → PrngReg), Pre_MemAct m →
    θ_run (Cert.MemAct.defs (F := Bits)) (onTc (τ := Cert.MemAct.τ) (Cert.MemAct.main (F := Bits))) ⟨m, fun _ => 0, g⟩ (fun r => (∀ c : Dev Cert.MemAct.nD,
      r.2.mem ((c.tc : Thread Cert.MemAct.nD Cert.MemAct.τ).loc Cert.MemAct.main_arg0) = m ((c.tc : Thread Cert.MemAct.nD Cert.MemAct.τ).loc Cert.MemAct.main_arg0)
      ∧ r.2.mem ((c.tc : Thread Cert.MemAct.nD Cert.MemAct.τ).loc Cert.MemAct.main_arg1) = m ((c.tc : Thread Cert.MemAct.nD Cert.MemAct.τ).loc Cert.MemAct.main_arg1)
      ∧ r.2.mem ((c.tc : Thread Cert.MemAct.nD Cert.MemAct.τ).loc Cert.MemAct.main_arg2) = m ((c.tc : Thread Cert.MemAct.nD Cert.MemAct.τ).loc Cert.MemAct.main_arg2))
      ∧ r.2.sem = fun _ => 0)

def quiescent_MemActIdeal [hMemActIdeal : Cert.MemActIdeal.Facts] : Prop :=
  ∀ (m : (ℓ : Loc Cert.MemActIdeal.nD Cert.MemActIdeal.τ Cert.MemActIdeal.sig) → Buf (Elt Ideal) ℓ) (g : Dev Cert.MemActIdeal.nD → PrngReg), Pre_MemActIdeal m →
    θ_run (Cert.MemActIdeal.defs (F := Ideal)) (onTc (τ := Cert.MemActIdeal.τ) (Cert.MemActIdeal.main (F := Ideal))) ⟨m, fun _ => 0, g⟩ (fun r => (∀ c : Dev Cert.MemActIdeal.nD,
      r.2.mem ((c.tc : Thread Cert.MemActIdeal.nD Cert.MemActIdeal.τ).loc Cert.MemActIdeal.main_arg0) = m ((c.tc : Thread Cert.MemActIdeal.nD Cert.MemActIdeal.τ).loc Cert.MemActIdeal.main_arg0)
      ∧ r.2.mem ((c.tc : Thread Cert.MemActIdeal.nD Cert.MemActIdeal.τ).loc Cert.MemActIdeal.main_arg1) = m ((c.tc : Thread Cert.MemActIdeal.nD Cert.MemActIdeal.τ).loc Cert.MemActIdeal.main_arg1)
      ∧ r.2.mem ((c.tc : Thread Cert.MemActIdeal.nD Cert.MemActIdeal.τ).loc Cert.MemActIdeal.main_arg2) = m ((c.tc : Thread Cert.MemActIdeal.nD Cert.MemActIdeal.τ).loc Cert.MemActIdeal.main_arg2))
      ∧ r.2.sem = fun _ => 0)

def quiescent_MemActReferenceIdeal [hMemActReferenceIdeal : Cert.MemActReferenceIdeal.Facts] : Prop :=
  ∀ (m : (ℓ : Loc Cert.MemActReferenceIdeal.nD Cert.MemActReferenceIdeal.τ Cert.MemActReferenceIdeal.sig) → Buf (Elt Ideal) ℓ) (g : Dev Cert.MemActReferenceIdeal.nD → PrngReg), Pre_MemActReferenceIdeal m →
    θ_run (Cert.MemActReferenceIdeal.defs (F := Ideal)) (onTc (τ := Cert.MemActReferenceIdeal.τ) (Cert.MemActReferenceIdeal.main (F := Ideal))) ⟨m, fun _ => 0, g⟩ (fun r => (∀ c : Dev Cert.MemActReferenceIdeal.nD,
      r.2.mem ((c.tc : Thread Cert.MemActReferenceIdeal.nD Cert.MemActReferenceIdeal.τ).loc Cert.MemActReferenceIdeal.main_arg0) = m ((c.tc : Thread Cert.MemActReferenceIdeal.nD Cert.MemActReferenceIdeal.τ).loc Cert.MemActReferenceIdeal.main_arg0)
      ∧ r.2.mem ((c.tc : Thread Cert.MemActReferenceIdeal.nD Cert.MemActReferenceIdeal.τ).loc Cert.MemActReferenceIdeal.main_arg1) = m ((c.tc : Thread Cert.MemActReferenceIdeal.nD Cert.MemActReferenceIdeal.τ).loc Cert.MemActReferenceIdeal.main_arg1)
      ∧ r.2.mem ((c.tc : Thread Cert.MemActReferenceIdeal.nD Cert.MemActReferenceIdeal.τ).loc Cert.MemActReferenceIdeal.main_arg2) = m ((c.tc : Thread Cert.MemActReferenceIdeal.nD Cert.MemActReferenceIdeal.τ).loc Cert.MemActReferenceIdeal.main_arg2))
      ∧ r.2.sem = fun _ => 0)

def quiescent_MemWeight [hMemWeight : Cert.MemWeight.Facts] : Prop :=
  ∀ (m : (ℓ : Loc Cert.MemWeight.nD Cert.MemWeight.τ Cert.MemWeight.sig) → Buf (Elt Bits) ℓ) (g : Dev Cert.MemWeight.nD → PrngReg), Pre_MemWeight m →
    θ_run (Cert.MemWeight.defs (F := Bits)) (onTc (τ := Cert.MemWeight.τ) (Cert.MemWeight.main (F := Bits))) ⟨m, fun _ => 0, g⟩ (fun r => (∀ c : Dev Cert.MemWeight.nD,
      r.2.mem ((c.tc : Thread Cert.MemWeight.nD Cert.MemWeight.τ).loc Cert.MemWeight.main_arg0) = m ((c.tc : Thread Cert.MemWeight.nD Cert.MemWeight.τ).loc Cert.MemWeight.main_arg0)
      ∧ r.2.mem ((c.tc : Thread Cert.MemWeight.nD Cert.MemWeight.τ).loc Cert.MemWeight.main_arg1) = m ((c.tc : Thread Cert.MemWeight.nD Cert.MemWeight.τ).loc Cert.MemWeight.main_arg1))
      ∧ r.2.sem = fun _ => 0)

def quiescent_MemWeightIdeal [hMemWeightIdeal : Cert.MemWeightIdeal.Facts] : Prop :=
  ∀ (m : (ℓ : Loc Cert.MemWeightIdeal.nD Cert.MemWeightIdeal.τ Cert.MemWeightIdeal.sig) → Buf (Elt Ideal) ℓ) (g : Dev Cert.MemWeightIdeal.nD → PrngReg), Pre_MemWeightIdeal m →
    θ_run (Cert.MemWeightIdeal.defs (F := Ideal)) (onTc (τ := Cert.MemWeightIdeal.τ) (Cert.MemWeightIdeal.main (F := Ideal))) ⟨m, fun _ => 0, g⟩ (fun r => (∀ c : Dev Cert.MemWeightIdeal.nD,
      r.2.mem ((c.tc : Thread Cert.MemWeightIdeal.nD Cert.MemWeightIdeal.τ).loc Cert.MemWeightIdeal.main_arg0) = m ((c.tc : Thread Cert.MemWeightIdeal.nD Cert.MemWeightIdeal.τ).loc Cert.MemWeightIdeal.main_arg0)
      ∧ r.2.mem ((c.tc : Thread Cert.MemWeightIdeal.nD Cert.MemWeightIdeal.τ).loc Cert.MemWeightIdeal.main_arg1) = m ((c.tc : Thread Cert.MemWeightIdeal.nD Cert.MemWeightIdeal.τ).loc Cert.MemWeightIdeal.main_arg1))
      ∧ r.2.sem = fun _ => 0)

def quiescent_MemWeightReferenceIdeal [hMemWeightReferenceIdeal : Cert.MemWeightReferenceIdeal.Facts] : Prop :=
  ∀ (m : (ℓ : Loc Cert.MemWeightReferenceIdeal.nD Cert.MemWeightReferenceIdeal.τ Cert.MemWeightReferenceIdeal.sig) → Buf (Elt Ideal) ℓ) (g : Dev Cert.MemWeightReferenceIdeal.nD → PrngReg), Pre_MemWeightReferenceIdeal m →
    θ_run (Cert.MemWeightReferenceIdeal.defs (F := Ideal)) (onTc (τ := Cert.MemWeightReferenceIdeal.τ) (Cert.MemWeightReferenceIdeal.main (F := Ideal))) ⟨m, fun _ => 0, g⟩ (fun r => (∀ c : Dev Cert.MemWeightReferenceIdeal.nD,
      r.2.mem ((c.tc : Thread Cert.MemWeightReferenceIdeal.nD Cert.MemWeightReferenceIdeal.τ).loc Cert.MemWeightReferenceIdeal.main_arg0) = m ((c.tc : Thread Cert.MemWeightReferenceIdeal.nD Cert.MemWeightReferenceIdeal.τ).loc Cert.MemWeightReferenceIdeal.main_arg0)
      ∧ r.2.mem ((c.tc : Thread Cert.MemWeightReferenceIdeal.nD Cert.MemWeightReferenceIdeal.τ).loc Cert.MemWeightReferenceIdeal.main_arg1) = m ((c.tc : Thread Cert.MemWeightReferenceIdeal.nD Cert.MemWeightReferenceIdeal.τ).loc Cert.MemWeightReferenceIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_v163) = v1 c
          ∧ r.2.mem ((c.tc : Thread Cert.ReferenceIdeal.nD Cert.ReferenceIdeal.τ).loc Cert.ReferenceIdeal.main_v162) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_DownAct_DownActIdeal : Prop :=
  True

def algebraic_DownActIdeal_DownActReferenceIdeal [hDownActIdeal : Cert.DownActIdeal.Facts] [hDownActReferenceIdeal : Cert.DownActReferenceIdeal.Facts] : Prop :=
  ∀ (m : (ℓ : Loc Cert.DownActIdeal.nD Cert.DownActIdeal.τ Cert.DownActIdeal.sig) → Buf (Elt Ideal) ℓ) (g : Dev Cert.DownActIdeal.nD → PrngReg)
    (m' : (ℓ : Loc Cert.DownActReferenceIdeal.nD Cert.DownActReferenceIdeal.τ Cert.DownActReferenceIdeal.sig) → Buf (Elt Ideal) ℓ) (g' : Dev Cert.DownActReferenceIdeal.nD → PrngReg), Pre_DownActIdeal m →
    (∀ c : Dev Cert.DownActIdeal.nD,
      m' ((c.tc : Thread Cert.DownActReferenceIdeal.nD Cert.DownActReferenceIdeal.τ).loc Cert.DownActReferenceIdeal.main_arg0) = m ((c.tc : Thread Cert.DownActIdeal.nD Cert.DownActIdeal.τ).loc Cert.DownActIdeal.main_arg0)
      ∧ m' ((c.tc : Thread Cert.DownActReferenceIdeal.nD Cert.DownActReferenceIdeal.τ).loc Cert.DownActReferenceIdeal.main_arg1) = m ((c.tc : Thread Cert.DownActIdeal.nD Cert.DownActIdeal.τ).loc Cert.DownActIdeal.main_arg1)) →
    ∃ (v0 : (c : Dev Cert.DownActIdeal.nD) → Buf (Elt Ideal) ((c.tc : Thread Cert.DownActIdeal.nD Cert.DownActIdeal.τ).loc Cert.DownActIdeal.main_v0)),
      θ_run (Cert.DownActIdeal.defs (F := Ideal)) (onTc (τ := Cert.DownActIdeal.τ) (Cert.DownActIdeal.main (F := Ideal))) ⟨m, fun _ => 0, g⟩ (fun r => ∀ c : Dev Cert.DownActIdeal.nD,
          r.2.mem ((c.tc : Thread Cert.DownActIdeal.nD Cert.DownActIdeal.τ).loc Cert.DownActIdeal.main_v0) = v0 c
          ∧ r.2.mem ((c.tc : Thread Cert.DownActIdeal.nD Cert.DownActIdeal.τ).loc Cert.DownActIdeal.main_arg0) = m ((c.tc : Thread Cert.DownActIdeal.nD Cert.DownActIdeal.τ).loc Cert.DownActIdeal.main_arg0)
          ∧ r.2.mem ((c.tc : Thread Cert.DownActIdeal.nD Cert.DownActIdeal.τ).loc Cert.DownActIdeal.main_arg1) = m ((c.tc : Thread Cert.DownActIdeal.nD Cert.DownActIdeal.τ).loc Cert.DownActIdeal.main_arg1))
      ∧ θ_run (Cert.DownActReferenceIdeal.defs (F := Ideal)) (onTc (τ := Cert.DownActReferenceIdeal.τ) (Cert.DownActReferenceIdeal.main (F := Ideal))) ⟨m', fun _ => 0, g'⟩ (fun r => ∀ c : Dev Cert.DownActReferenceIdeal.nD,
          r.2.mem ((c.tc : Thread Cert.DownActReferenceIdeal.nD Cert.DownActReferenceIdeal.τ).loc Cert.DownActReferenceIdeal.main_v4) = v0 c
          ∧ r.2.mem ((c.tc : Thread Cert.DownActReferenceIdeal.nD Cert.DownActReferenceIdeal.τ).loc Cert.DownActReferenceIdeal.main_arg0) = m' ((c.tc : Thread Cert.DownActReferenceIdeal.nD Cert.DownActReferenceIdeal.τ).loc Cert.DownActReferenceIdeal.main_arg0)
          ∧ r.2.mem ((c.tc : Thread Cert.DownActReferenceIdeal.nD Cert.DownActReferenceIdeal.τ).loc Cert.DownActReferenceIdeal.main_arg1) = m' ((c.tc : Thread Cert.DownActReferenceIdeal.nD Cert.DownActReferenceIdeal.τ).loc Cert.DownActReferenceIdeal.main_arg1))

def preserves_DownWeight_DownWeightIdeal : Prop :=
  True

def algebraic_DownWeightIdeal_DownWeightReferenceIdeal [hDownWeightIdeal : Cert.DownWeightIdeal.Facts] [hDownWeightReferenceIdeal : Cert.DownWeightReferenceIdeal.Facts] : Prop :=
  ∀ (m : (ℓ : Loc Cert.DownWeightIdeal.nD Cert.DownWeightIdeal.τ Cert.DownWeightIdeal.sig) → Buf (Elt Ideal) ℓ) (g : Dev Cert.DownWeightIdeal.nD → PrngReg)
    (m' : (ℓ : Loc Cert.DownWeightReferenceIdeal.nD Cert.DownWeightReferenceIdeal.τ Cert.DownWeightReferenceIdeal.sig) → Buf (Elt Ideal) ℓ) (g' : Dev Cert.DownWeightReferenceIdeal.nD → PrngReg), Pre_DownWeightIdeal m →
    (∀ c : Dev Cert.DownWeightIdeal.nD,
      m' ((c.tc : Thread Cert.DownWeightReferenceIdeal.nD Cert.DownWeightReferenceIdeal.τ).loc Cert.DownWeightReferenceIdeal.main_arg0) = m ((c.tc : Thread Cert.DownWeightIdeal.nD Cert.DownWeightIdeal.τ).loc Cert.DownWeightIdeal.main_arg0)
      ∧ m' ((c.tc : Thread Cert.DownWeightReferenceIdeal.nD Cert.DownWeightReferenceIdeal.τ).loc Cert.DownWeightReferenceIdeal.main_arg1) = m ((c.tc : Thread Cert.DownWeightIdeal.nD Cert.DownWeightIdeal.τ).loc Cert.DownWeightIdeal.main_arg1)) →
    ∃ (v0 : (c : Dev Cert.DownWeightIdeal.nD) → Buf (Elt Ideal) ((c.tc : Thread Cert.DownWeightIdeal.nD Cert.DownWeightIdeal.τ).loc Cert.DownWeightIdeal.main_v0)),
      θ_run (Cert.DownWeightIdeal.defs (F := Ideal)) (onTc (τ := Cert.DownWeightIdeal.τ) (Cert.DownWeightIdeal.main (F := Ideal))) ⟨m, fun _ => 0, g⟩ (fun r => ∀ c : Dev Cert.DownWeightIdeal.nD,
          r.2.mem ((c.tc : Thread Cert.DownWeightIdeal.nD Cert.DownWeightIdeal.τ).loc Cert.DownWeightIdeal.main_v0) = v0 c
          ∧ r.2.mem ((c.tc : Thread Cert.DownWeightIdeal.nD Cert.DownWeightIdeal.τ).loc Cert.DownWeightIdeal.main_arg0) = m ((c.tc : Thread Cert.DownWeightIdeal.nD Cert.DownWeightIdeal.τ).loc Cert.DownWeightIdeal.main_arg0)
          ∧ r.2.mem ((c.tc : Thread Cert.DownWeightIdeal.nD Cert.DownWeightIdeal.τ).loc Cert.DownWeightIdeal.main_arg1) = m ((c.tc : Thread Cert.DownWeightIdeal.nD Cert.DownWeightIdeal.τ).loc Cert.DownWeightIdeal.main_arg1))
      ∧ θ_run (Cert.DownWeightReferenceIdeal.defs (F := Ideal)) (onTc (τ := Cert.DownWeightReferenceIdeal.τ) (Cert.DownWeightReferenceIdeal.main (F := Ideal))) ⟨m', fun _ => 0, g'⟩ (fun r => ∀ c : Dev Cert.DownWeightReferenceIdeal.nD,
          r.2.mem ((c.tc : Thread Cert.DownWeightReferenceIdeal.nD Cert.DownWeightReferenceIdeal.τ).loc Cert.DownWeightReferenceIdeal.main_v5) = v0 c
          ∧ r.2.mem ((c.tc : Thread Cert.DownWeightReferenceIdeal.nD Cert.DownWeightReferenceIdeal.τ).loc Cert.DownWeightReferenceIdeal.main_arg0) = m' ((c.tc : Thread Cert.DownWeightReferenceIdeal.nD Cert.DownWeightReferenceIdeal.τ).loc Cert.DownWeightReferenceIdeal.main_arg0)
          ∧ r.2.mem ((c.tc : Thread Cert.DownWeightReferenceIdeal.nD Cert.DownWeightReferenceIdeal.τ).loc Cert.DownWeightReferenceIdeal.main_arg1) = m' ((c.tc : Thread Cert.DownWeightReferenceIdeal.nD Cert.DownWeightReferenceIdeal.τ).loc Cert.DownWeightReferenceIdeal.main_arg1))

def preserves_UpAct_UpActIdeal : Prop :=
  True

def algebraic_UpActIdeal_UpActReferenceIdeal [hUpActIdeal : Cert.UpActIdeal.Facts] [hUpActReferenceIdeal : Cert.UpActReferenceIdeal.Facts] : Prop :=
  ∀ (m : (ℓ : Loc Cert.UpActIdeal.nD Cert.UpActIdeal.τ Cert.UpActIdeal.sig) → Buf (Elt Ideal) ℓ) (g : Dev Cert.UpActIdeal.nD → PrngReg)
    (m' : (ℓ : Loc Cert.UpActReferenceIdeal.nD Cert.UpActReferenceIdeal.τ Cert.UpActReferenceIdeal.sig) → Buf (Elt Ideal) ℓ) (g' : Dev Cert.UpActReferenceIdeal.nD → PrngReg), Pre_UpActIdeal m →
    (∀ c : Dev Cert.UpActIdeal.nD,
      m' ((c.tc : Thread Cert.UpActReferenceIdeal.nD Cert.UpActReferenceIdeal.τ).loc Cert.UpActReferenceIdeal.main_arg0) = m ((c.tc : Thread Cert.UpActIdeal.nD Cert.UpActIdeal.τ).loc Cert.UpActIdeal.main_arg0)
      ∧ m' ((c.tc : Thread Cert.UpActReferenceIdeal.nD Cert.UpActReferenceIdeal.τ).loc Cert.UpActReferenceIdeal.main_arg1) = m ((c.tc : Thread Cert.UpActIdeal.nD Cert.UpActIdeal.τ).loc Cert.UpActIdeal.main_arg1)
      ∧ m' ((c.tc : Thread Cert.UpActReferenceIdeal.nD Cert.UpActReferenceIdeal.τ).loc Cert.UpActReferenceIdeal.main_arg2) = m ((c.tc : Thread Cert.UpActIdeal.nD Cert.UpActIdeal.τ).loc Cert.UpActIdeal.main_arg2)) →
    ∃ (v0 : (c : Dev Cert.UpActIdeal.nD) → Buf (Elt Ideal) ((c.tc : Thread Cert.UpActIdeal.nD Cert.UpActIdeal.τ).loc Cert.UpActIdeal.main_v0)),
      θ_run (Cert.UpActIdeal.defs (F := Ideal)) (onTc (τ := Cert.UpActIdeal.τ) (Cert.UpActIdeal.main (F := Ideal))) ⟨m, fun _ => 0, g⟩ (fun r => ∀ c : Dev Cert.UpActIdeal.nD,
          r.2.mem ((c.tc : Thread Cert.UpActIdeal.nD Cert.UpActIdeal.τ).loc Cert.UpActIdeal.main_v0) = v0 c
          ∧ r.2.mem ((c.tc : Thread Cert.UpActIdeal.nD Cert.UpActIdeal.τ).loc Cert.UpActIdeal.main_arg0) = m ((c.tc : Thread Cert.UpActIdeal.nD Cert.UpActIdeal.τ).loc Cert.UpActIdeal.main_arg0)
          ∧ r.2.mem ((c.tc : Thread Cert.UpActIdeal.nD Cert.UpActIdeal.τ).loc Cert.UpActIdeal.main_arg1) = m ((c.tc : Thread Cert.UpActIdeal.nD Cert.UpActIdeal.τ).loc Cert.UpActIdeal.main_arg1)
          ∧ r.2.mem ((c.tc : Thread Cert.UpActIdeal.nD Cert.UpActIdeal.τ).loc Cert.UpActIdeal.main_arg2) = m ((c.tc : Thread Cert.UpActIdeal.nD Cert.UpActIdeal.τ).loc Cert.UpActIdeal.main_arg2))
      ∧ θ_run (Cert.UpActReferenceIdeal.defs (F := Ideal)) (onTc (τ := Cert.UpActReferenceIdeal.τ) (Cert.UpActReferenceIdeal.main (F := Ideal))) ⟨m', fun _ => 0, g'⟩ (fun r => ∀ c : Dev Cert.UpActReferenceIdeal.nD,
          r.2.mem ((c.tc : Thread Cert.UpActReferenceIdeal.nD Cert.UpActReferenceIdeal.τ).loc Cert.UpActReferenceIdeal.main_v8) = v0 c
          ∧ r.2.mem ((c.tc : Thread Cert.UpActReferenceIdeal.nD Cert.UpActReferenceIdeal.τ).loc Cert.UpActReferenceIdeal.main_arg0) = m' ((c.tc : Thread Cert.UpActReferenceIdeal.nD Cert.UpActReferenceIdeal.τ).loc Cert.UpActReferenceIdeal.main_arg0)
          ∧ r.2.mem ((c.tc : Thread Cert.UpActReferenceIdeal.nD Cert.UpActReferenceIdeal.τ).loc Cert.UpActReferenceIdeal.main_arg1) = m' ((c.tc : Thread Cert.UpActReferenceIdeal.nD Cert.UpActReferenceIdeal.τ).loc Cert.UpActReferenceIdeal.main_arg1)
          ∧ r.2.mem ((c.tc : Thread Cert.UpActReferenceIdeal.nD Cert.UpActReferenceIdeal.τ).loc Cert.UpActReferenceIdeal.main_arg2) = m' ((c.tc : Thread Cert.UpActReferenceIdeal.nD Cert.UpActReferenceIdeal.τ).loc Cert.UpActReferenceIdeal.main_arg2))

def preserves_UpGate_UpGateIdeal : Prop :=
  True

def algebraic_UpGateIdeal_UpGateReferenceIdeal [hUpGateIdeal : Cert.UpGateIdeal.Facts] [hUpGateReferenceIdeal : Cert.UpGateReferenceIdeal.Facts] : Prop :=
  ∀ (m : (ℓ : Loc Cert.UpGateIdeal.nD Cert.UpGateIdeal.τ Cert.UpGateIdeal.sig) → Buf (Elt Ideal) ℓ) (g : Dev Cert.UpGateIdeal.nD → PrngReg)
    (m' : (ℓ : Loc Cert.UpGateReferenceIdeal.nD Cert.UpGateReferenceIdeal.τ Cert.UpGateReferenceIdeal.sig) → Buf (Elt Ideal) ℓ) (g' : Dev Cert.UpGateReferenceIdeal.nD → PrngReg), Pre_UpGateIdeal m →
    (∀ c : Dev Cert.UpGateIdeal.nD,
      m' ((c.tc : Thread Cert.UpGateReferenceIdeal.nD Cert.UpGateReferenceIdeal.τ).loc Cert.UpGateReferenceIdeal.main_arg0) = m ((c.tc : Thread Cert.UpGateIdeal.nD Cert.UpGateIdeal.τ).loc Cert.UpGateIdeal.main_arg0)
      ∧ m' ((c.tc : Thread Cert.UpGateReferenceIdeal.nD Cert.UpGateReferenceIdeal.τ).loc Cert.UpGateReferenceIdeal.main_arg1) = m ((c.tc : Thread Cert.UpGateIdeal.nD Cert.UpGateIdeal.τ).loc Cert.UpGateIdeal.main_arg1)
      ∧ m' ((c.tc : Thread Cert.UpGateReferenceIdeal.nD Cert.UpGateReferenceIdeal.τ).loc Cert.UpGateReferenceIdeal.main_arg2) = m ((c.tc : Thread Cert.UpGateIdeal.nD Cert.UpGateIdeal.τ).loc Cert.UpGateIdeal.main_arg2)) →
    ∃ (v0 : (c : Dev Cert.UpGateIdeal.nD) → Buf (Elt Ideal) ((c.tc : Thread Cert.UpGateIdeal.nD Cert.UpGateIdeal.τ).loc Cert.UpGateIdeal.main_v0)),
      θ_run (Cert.UpGateIdeal.defs (F := Ideal)) (onTc (τ := Cert.UpGateIdeal.τ) (Cert.UpGateIdeal.main (F := Ideal))) ⟨m, fun _ => 0, g⟩ (fun r => ∀ c : Dev Cert.UpGateIdeal.nD,
          r.2.mem ((c.tc : Thread Cert.UpGateIdeal.nD Cert.UpGateIdeal.τ).loc Cert.UpGateIdeal.main_v0) = v0 c
          ∧ r.2.mem ((c.tc : Thread Cert.UpGateIdeal.nD Cert.UpGateIdeal.τ).loc Cert.UpGateIdeal.main_arg0) = m ((c.tc : Thread Cert.UpGateIdeal.nD Cert.UpGateIdeal.τ).loc Cert.UpGateIdeal.main_arg0)
          ∧ r.2.mem ((c.tc : Thread Cert.UpGateIdeal.nD Cert.UpGateIdeal.τ).loc Cert.UpGateIdeal.main_arg1) = m ((c.tc : Thread Cert.UpGateIdeal.nD Cert.UpGateIdeal.τ).loc Cert.UpGateIdeal.main_arg1)
          ∧ r.2.mem ((c.tc : Thread Cert.UpGateIdeal.nD Cert.UpGateIdeal.τ).loc Cert.UpGateIdeal.main_arg2) = m ((c.tc : Thread Cert.UpGateIdeal.nD Cert.UpGateIdeal.τ).loc Cert.UpGateIdeal.main_arg2))
      ∧ θ_run (Cert.UpGateReferenceIdeal.defs (F := Ideal)) (onTc (τ := Cert.UpGateReferenceIdeal.τ) (Cert.UpGateReferenceIdeal.main (F := Ideal))) ⟨m', fun _ => 0, g'⟩ (fun r => ∀ c : Dev Cert.UpGateReferenceIdeal.nD,
          r.2.mem ((c.tc : Thread Cert.UpGateReferenceIdeal.nD Cert.UpGateReferenceIdeal.τ).loc Cert.UpGateReferenceIdeal.main_v8) = v0 c
          ∧ r.2.mem ((c.tc : Thread Cert.UpGateReferenceIdeal.nD Cert.UpGateReferenceIdeal.τ).loc Cert.UpGateReferenceIdeal.main_arg0) = m' ((c.tc : Thread Cert.UpGateReferenceIdeal.nD Cert.UpGateReferenceIdeal.τ).loc Cert.UpGateReferenceIdeal.main_arg0)
          ∧ r.2.mem ((c.tc : Thread Cert.UpGateReferenceIdeal.nD Cert.UpGateReferenceIdeal.τ).loc Cert.UpGateReferenceIdeal.main_arg1) = m' ((c.tc : Thread Cert.UpGateReferenceIdeal.nD Cert.UpGateReferenceIdeal.τ).loc Cert.UpGateReferenceIdeal.main_arg1)
          ∧ r.2.mem ((c.tc : Thread Cert.UpGateReferenceIdeal.nD Cert.UpGateReferenceIdeal.τ).loc Cert.UpGateReferenceIdeal.main_arg2) = m' ((c.tc : Thread Cert.UpGateReferenceIdeal.nD Cert.UpGateReferenceIdeal.τ).loc Cert.UpGateReferenceIdeal.main_arg2))

def preserves_UpValue_UpValueIdeal : Prop :=
  True

def algebraic_UpValueIdeal_UpValueReferenceIdeal [hUpValueIdeal : Cert.UpValueIdeal.Facts] [hUpValueReferenceIdeal : Cert.UpValueReferenceIdeal.Facts] : Prop :=
  ∀ (m : (ℓ : Loc Cert.UpValueIdeal.nD Cert.UpValueIdeal.τ Cert.UpValueIdeal.sig) → Buf (Elt Ideal) ℓ) (g : Dev Cert.UpValueIdeal.nD → PrngReg)
    (m' : (ℓ : Loc Cert.UpValueReferenceIdeal.nD Cert.UpValueReferenceIdeal.τ Cert.UpValueReferenceIdeal.sig) → Buf (Elt Ideal) ℓ) (g' : Dev Cert.UpValueReferenceIdeal.nD → PrngReg), Pre_UpValueIdeal m →
    (∀ c : Dev Cert.UpValueIdeal.nD,
      m' ((c.tc : Thread Cert.UpValueReferenceIdeal.nD Cert.UpValueReferenceIdeal.τ).loc Cert.UpValueReferenceIdeal.main_arg0) = m ((c.tc : Thread Cert.UpValueIdeal.nD Cert.UpValueIdeal.τ).loc Cert.UpValueIdeal.main_arg0)
      ∧ m' ((c.tc : Thread Cert.UpValueReferenceIdeal.nD Cert.UpValueReferenceIdeal.τ).loc Cert.UpValueReferenceIdeal.main_arg1) = m ((c.tc : Thread Cert.UpValueIdeal.nD Cert.UpValueIdeal.τ).loc Cert.UpValueIdeal.main_arg1)
      ∧ m' ((c.tc : Thread Cert.UpValueReferenceIdeal.nD Cert.UpValueReferenceIdeal.τ).loc Cert.UpValueReferenceIdeal.main_arg2) = m ((c.tc : Thread Cert.UpValueIdeal.nD Cert.UpValueIdeal.τ).loc Cert.UpValueIdeal.main_arg2)) →
    ∃ (v0 : (c : Dev Cert.UpValueIdeal.nD) → Buf (Elt Ideal) ((c.tc : Thread Cert.UpValueIdeal.nD Cert.UpValueIdeal.τ).loc Cert.UpValueIdeal.main_v0)),
      θ_run (Cert.UpValueIdeal.defs (F := Ideal)) (onTc (τ := Cert.UpValueIdeal.τ) (Cert.UpValueIdeal.main (F := Ideal))) ⟨m, fun _ => 0, g⟩ (fun r => ∀ c : Dev Cert.UpValueIdeal.nD,
          r.2.mem ((c.tc : Thread Cert.UpValueIdeal.nD Cert.UpValueIdeal.τ).loc Cert.UpValueIdeal.main_v0) = v0 c
          ∧ r.2.mem ((c.tc : Thread Cert.UpValueIdeal.nD Cert.UpValueIdeal.τ).loc Cert.UpValueIdeal.main_arg0) = m ((c.tc : Thread Cert.UpValueIdeal.nD Cert.UpValueIdeal.τ).loc Cert.UpValueIdeal.main_arg0)
          ∧ r.2.mem ((c.tc : Thread Cert.UpValueIdeal.nD Cert.UpValueIdeal.τ).loc Cert.UpValueIdeal.main_arg1) = m ((c.tc : Thread Cert.UpValueIdeal.nD Cert.UpValueIdeal.τ).loc Cert.UpValueIdeal.main_arg1)
          ∧ r.2.mem ((c.tc : Thread Cert.UpValueIdeal.nD Cert.UpValueIdeal.τ).loc Cert.UpValueIdeal.main_arg2) = m ((c.tc : Thread Cert.UpValueIdeal.nD Cert.UpValueIdeal.τ).loc Cert.UpValueIdeal.main_arg2))
      ∧ θ_run (Cert.UpValueReferenceIdeal.defs (F := Ideal)) (onTc (τ := Cert.UpValueReferenceIdeal.τ) (Cert.UpValueReferenceIdeal.main (F := Ideal))) ⟨m', fun _ => 0, g'⟩ (fun r => ∀ c : Dev Cert.UpValueReferenceIdeal.nD,
          r.2.mem ((c.tc : Thread Cert.UpValueReferenceIdeal.nD Cert.UpValueReferenceIdeal.τ).loc Cert.UpValueReferenceIdeal.main_v8) = v0 c
          ∧ r.2.mem ((c.tc : Thread Cert.UpValueReferenceIdeal.nD Cert.UpValueReferenceIdeal.τ).loc Cert.UpValueReferenceIdeal.main_arg0) = m' ((c.tc : Thread Cert.UpValueReferenceIdeal.nD Cert.UpValueReferenceIdeal.τ).loc Cert.UpValueReferenceIdeal.main_arg0)
          ∧ r.2.mem ((c.tc : Thread Cert.UpValueReferenceIdeal.nD Cert.UpValueReferenceIdeal.τ).loc Cert.UpValueReferenceIdeal.main_arg1) = m' ((c.tc : Thread Cert.UpValueReferenceIdeal.nD Cert.UpValueReferenceIdeal.τ).loc Cert.UpValueReferenceIdeal.main_arg1)
          ∧ r.2.mem ((c.tc : Thread Cert.UpValueReferenceIdeal.nD Cert.UpValueReferenceIdeal.τ).loc Cert.UpValueReferenceIdeal.main_arg2) = m' ((c.tc : Thread Cert.UpValueReferenceIdeal.nD Cert.UpValueReferenceIdeal.τ).loc Cert.UpValueReferenceIdeal.main_arg2))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v2) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v3) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_InA_InAIdeal : Prop :=
  True

def algebraic_InAIdeal_InAReferenceIdeal [hInAIdeal : Cert.InAIdeal.Facts] [hInAReferenceIdeal : Cert.InAReferenceIdeal.Facts] : Prop :=
  ∀ (m : (ℓ : Loc Cert.InAIdeal.nD Cert.InAIdeal.τ Cert.InAIdeal.sig) → Buf (Elt Ideal) ℓ) (g : Dev Cert.InAIdeal.nD → PrngReg)
    (m' : (ℓ : Loc Cert.InAReferenceIdeal.nD Cert.InAReferenceIdeal.τ Cert.InAReferenceIdeal.sig) → Buf (Elt Ideal) ℓ) (g' : Dev Cert.InAReferenceIdeal.nD → PrngReg), Pre_InAIdeal m →
    (∀ c : Dev Cert.InAIdeal.nD,
      m' ((c.tc : Thread Cert.InAReferenceIdeal.nD Cert.InAReferenceIdeal.τ).loc Cert.InAReferenceIdeal.main_arg0) = m ((c.tc : Thread Cert.InAIdeal.nD Cert.InAIdeal.τ).loc Cert.InAIdeal.main_arg0)
      ∧ m' ((c.tc : Thread Cert.InAReferenceIdeal.nD Cert.InAReferenceIdeal.τ).loc Cert.InAReferenceIdeal.main_arg1) = m ((c.tc : Thread Cert.InAIdeal.nD Cert.InAIdeal.τ).loc Cert.InAIdeal.main_arg1)
      ∧ m' ((c.tc : Thread Cert.InAReferenceIdeal.nD Cert.InAReferenceIdeal.τ).loc Cert.InAReferenceIdeal.main_arg2) = m ((c.tc : Thread Cert.InAIdeal.nD Cert.InAIdeal.τ).loc Cert.InAIdeal.main_arg2)
      ∧ m' ((c.tc : Thread Cert.InAReferenceIdeal.nD Cert.InAReferenceIdeal.τ).loc Cert.InAReferenceIdeal.main_arg3) = m ((c.tc : Thread Cert.InAIdeal.nD Cert.InAIdeal.τ).loc Cert.InAIdeal.main_arg3)
      ∧ m' ((c.tc : Thread Cert.InAReferenceIdeal.nD Cert.InAReferenceIdeal.τ).loc Cert.InAReferenceIdeal.main_arg4) = m ((c.tc : Thread Cert.InAIdeal.nD Cert.InAIdeal.τ).loc Cert.InAIdeal.main_arg4)
      ∧ m' ((c.tc : Thread Cert.InAReferenceIdeal.nD Cert.InAReferenceIdeal.τ).loc Cert.InAReferenceIdeal.main_arg5) = m ((c.tc : Thread Cert.InAIdeal.nD Cert.InAIdeal.τ).loc Cert.InAIdeal.main_arg5)
      ∧ m' ((c.tc : Thread Cert.InAReferenceIdeal.nD Cert.InAReferenceIdeal.τ).loc Cert.InAReferenceIdeal.main_arg6) = m ((c.tc : Thread Cert.InAIdeal.nD Cert.InAIdeal.τ).loc Cert.InAIdeal.main_arg6)) →
    ∃ (v0 : (c : Dev Cert.InAIdeal.nD) → Buf (Elt Ideal) ((c.tc : Thread Cert.InAIdeal.nD Cert.InAIdeal.τ).loc Cert.InAIdeal.main_v0_0)) (v1 : (c : Dev Cert.InAIdeal.nD) → Buf (Elt Ideal) ((c.tc : Thread Cert.InAIdeal.nD Cert.InAIdeal.τ).loc Cert.InAIdeal.main_v0_1)) (v2 : (c : Dev Cert.InAIdeal.nD) → Buf (Elt Ideal) ((c.tc : Thread Cert.InAIdeal.nD Cert.InAIdeal.τ).loc Cert.InAIdeal.main_v0_2)) (v3 : (c : Dev Cert.InAIdeal.nD) → Buf (Elt Ideal) ((c.tc : Thread Cert.InAIdeal.nD Cert.InAIdeal.τ).loc Cert.InAIdeal.main_v0_3)) (v4 : (c : Dev Cert.InAIdeal.nD) → Buf (Elt Ideal) ((c.tc : Thread Cert.InAIdeal.nD Cert.InAIdeal.τ).loc Cert.InAIdeal.main_v0_4)) (v5 : (c : Dev Cert.InAIdeal.nD) → Buf (Elt Ideal) ((c.tc : Thread Cert.InAIdeal.nD Cert.InAIdeal.τ).loc Cert.InAIdeal.main_v0_5)),
      θ_run (Cert.InAIdeal.defs (F := Ideal)) (onTc (τ := Cert.InAIdeal.τ) (Cert.InAIdeal.main (F := Ideal))) ⟨m, fun _ => 0, g⟩ (fun r => ∀ c : Dev Cert.InAIdeal.nD,
          r.2.mem ((c.tc : Thread Cert.InAIdeal.nD Cert.InAIdeal.τ).loc Cert.InAIdeal.main_v0_0) = v0 c
          ∧ r.2.mem ((c.tc : Thread Cert.InAIdeal.nD Cert.InAIdeal.τ).loc Cert.InAIdeal.main_v0_1) = v1 c
          ∧ r.2.mem ((c.tc : Thread Cert.InAIdeal.nD Cert.InAIdeal.τ).loc Cert.InAIdeal.main_v0_2) = v2 c
          ∧ r.2.mem ((c.tc : Thread Cert.InAIdeal.nD Cert.InAIdeal.τ).loc Cert.InAIdeal.main_v0_3) = v3 c
          ∧ r.2.mem ((c.tc : Thread Cert.InAIdeal.nD Cert.InAIdeal.τ).loc Cert.InAIdeal.main_v0_4) = v4 c
          ∧ r.2.mem ((c.tc : Thread Cert.InAIdeal.nD Cert.InAIdeal.τ).loc Cert.InAIdeal.main_v0_5) = v5 c
          ∧ r.2.mem ((c.tc : Thread Cert.InAIdeal.nD Cert.InAIdeal.τ).loc Cert.InAIdeal.main_arg0) = m ((c.tc : Thread Cert.InAIdeal.nD Cert.InAIdeal.τ).loc Cert.InAIdeal.main_arg0)
          ∧ r.2.mem ((c.tc : Thread Cert.InAIdeal.nD Cert.InAIdeal.τ).loc Cert.InAIdeal.main_arg1) = m ((c.tc : Thread Cert.InAIdeal.nD Cert.InAIdeal.τ).loc Cert.InAIdeal.main_arg1)
          ∧ r.2.mem ((c.tc : Thread Cert.InAIdeal.nD Cert.InAIdeal.τ).loc Cert.InAIdeal.main_arg2) = m ((c.tc : Thread Cert.InAIdeal.nD Cert.InAIdeal.τ).loc Cert.InAIdeal.main_arg2)
          ∧ r.2.mem ((c.tc : Thread Cert.InAIdeal.nD Cert.InAIdeal.τ).loc Cert.InAIdeal.main_arg3) = m ((c.tc : Thread Cert.InAIdeal.nD Cert.InAIdeal.τ).loc Cert.InAIdeal.main_arg3)
          ∧ r.2.mem ((c.tc : Thread Cert.InAIdeal.nD Cert.InAIdeal.τ).loc Cert.InAIdeal.main_arg4) = m ((c.tc : Thread Cert.InAIdeal.nD Cert.InAIdeal.τ).loc Cert.InAIdeal.main_arg4)
          ∧ r.2.mem ((c.tc : Thread Cert.InAIdeal.nD Cert.InAIdeal.τ).loc Cert.InAIdeal.main_arg5) = m ((c.tc : Thread Cert.InAIdeal.nD Cert.InAIdeal.τ).loc Cert.InAIdeal.main_arg5)
          ∧ r.2.mem ((c.tc : Thread Cert.InAIdeal.nD Cert.InAIdeal.τ).loc Cert.InAIdeal.main_arg6) = m ((c.tc : Thread Cert.InAIdeal.nD Cert.InAIdeal.τ).loc Cert.InAIdeal.main_arg6))
      ∧ θ_run (Cert.InAReferenceIdeal.defs (F := Ideal)) (onTc (τ := Cert.InAReferenceIdeal.τ) (Cert.InAReferenceIdeal.main (F := Ideal))) ⟨m', fun _ => 0, g'⟩ (fun r => ∀ c : Dev Cert.InAReferenceIdeal.nD,
          r.2.mem ((c.tc : Thread Cert.InAReferenceIdeal.nD Cert.InAReferenceIdeal.τ).loc Cert.InAReferenceIdeal.main_v2) = v0 c
          ∧ r.2.mem ((c.tc : Thread Cert.InAReferenceIdeal.nD Cert.InAReferenceIdeal.τ).loc Cert.InAReferenceIdeal.main_v5) = v1 c
          ∧ r.2.mem ((c.tc : Thread Cert.InAReferenceIdeal.nD Cert.InAReferenceIdeal.τ).loc Cert.InAReferenceIdeal.main_v8) = v2 c
          ∧ r.2.mem ((c.tc : Thread Cert.InAReferenceIdeal.nD Cert.InAReferenceIdeal.τ).loc Cert.InAReferenceIdeal.main_v11) = v3 c
          ∧ r.2.mem ((c.tc : Thread Cert.InAReferenceIdeal.nD Cert.InAReferenceIdeal.τ).loc Cert.InAReferenceIdeal.main_v14) = v4 c
          ∧ r.2.mem ((c.tc : Thread Cert.InAReferenceIdeal.nD Cert.InAReferenceIdeal.τ).loc Cert.InAReferenceIdeal.main_v17) = v5 c
          ∧ r.2.mem ((c.tc : Thread Cert.InAReferenceIdeal.nD Cert.InAReferenceIdeal.τ).loc Cert.InAReferenceIdeal.main_arg0) = m' ((c.tc : Thread Cert.InAReferenceIdeal.nD Cert.InAReferenceIdeal.τ).loc Cert.InAReferenceIdeal.main_arg0)
          ∧ r.2.mem ((c.tc : Thread Cert.InAReferenceIdeal.nD Cert.InAReferenceIdeal.τ).loc Cert.InAReferenceIdeal.main_arg1) = m' ((c.tc : Thread Cert.InAReferenceIdeal.nD Cert.InAReferenceIdeal.τ).loc Cert.InAReferenceIdeal.main_arg1)
          ∧ r.2.mem ((c.tc : Thread Cert.InAReferenceIdeal.nD Cert.InAReferenceIdeal.τ).loc Cert.InAReferenceIdeal.main_arg2) = m' ((c.tc : Thread Cert.InAReferenceIdeal.nD Cert.InAReferenceIdeal.τ).loc Cert.InAReferenceIdeal.main_arg2)
          ∧ r.2.mem ((c.tc : Thread Cert.InAReferenceIdeal.nD Cert.InAReferenceIdeal.τ).loc Cert.InAReferenceIdeal.main_arg3) = m' ((c.tc : Thread Cert.InAReferenceIdeal.nD Cert.InAReferenceIdeal.τ).loc Cert.InAReferenceIdeal.main_arg3)
          ∧ r.2.mem ((c.tc : Thread Cert.InAReferenceIdeal.nD Cert.InAReferenceIdeal.τ).loc Cert.InAReferenceIdeal.main_arg4) = m' ((c.tc : Thread Cert.InAReferenceIdeal.nD Cert.InAReferenceIdeal.τ).loc Cert.InAReferenceIdeal.main_arg4)
          ∧ r.2.mem ((c.tc : Thread Cert.InAReferenceIdeal.nD Cert.InAReferenceIdeal.τ).loc Cert.InAReferenceIdeal.main_arg5) = m' ((c.tc : Thread Cert.InAReferenceIdeal.nD Cert.InAReferenceIdeal.τ).loc Cert.InAReferenceIdeal.main_arg5)
          ∧ r.2.mem ((c.tc : Thread Cert.InAReferenceIdeal.nD Cert.InAReferenceIdeal.τ).loc Cert.InAReferenceIdeal.main_arg6) = m' ((c.tc : Thread Cert.InAReferenceIdeal.nD Cert.InAReferenceIdeal.τ).loc Cert.InAReferenceIdeal.main_arg6))

def preserves_InB_InBIdeal : Prop :=
  True

def algebraic_InBIdeal_InBReferenceIdeal [hInBIdeal : Cert.InBIdeal.Facts] [hInBReferenceIdeal : Cert.InBReferenceIdeal.Facts] : Prop :=
  ∀ (m : (ℓ : Loc Cert.InBIdeal.nD Cert.InBIdeal.τ Cert.InBIdeal.sig) → Buf (Elt Ideal) ℓ) (g : Dev Cert.InBIdeal.nD → PrngReg)
    (m' : (ℓ : Loc Cert.InBReferenceIdeal.nD Cert.InBReferenceIdeal.τ Cert.InBReferenceIdeal.sig) → Buf (Elt Ideal) ℓ) (g' : Dev Cert.InBReferenceIdeal.nD → PrngReg), Pre_InBIdeal m →
    (∀ c : Dev Cert.InBIdeal.nD,
      m' ((c.tc : Thread Cert.InBReferenceIdeal.nD Cert.InBReferenceIdeal.τ).loc Cert.InBReferenceIdeal.main_arg0) = m ((c.tc : Thread Cert.InBIdeal.nD Cert.InBIdeal.τ).loc Cert.InBIdeal.main_arg0)
      ∧ m' ((c.tc : Thread Cert.InBReferenceIdeal.nD Cert.InBReferenceIdeal.τ).loc Cert.InBReferenceIdeal.main_arg1) = m ((c.tc : Thread Cert.InBIdeal.nD Cert.InBIdeal.τ).loc Cert.InBIdeal.main_arg1)
      ∧ m' ((c.tc : Thread Cert.InBReferenceIdeal.nD Cert.InBReferenceIdeal.τ).loc Cert.InBReferenceIdeal.main_arg2) = m ((c.tc : Thread Cert.InBIdeal.nD Cert.InBIdeal.τ).loc Cert.InBIdeal.main_arg2)
      ∧ m' ((c.tc : Thread Cert.InBReferenceIdeal.nD Cert.InBReferenceIdeal.τ).loc Cert.InBReferenceIdeal.main_arg3) = m ((c.tc : Thread Cert.InBIdeal.nD Cert.InBIdeal.τ).loc Cert.InBIdeal.main_arg3)
      ∧ m' ((c.tc : Thread Cert.InBReferenceIdeal.nD Cert.InBReferenceIdeal.τ).loc Cert.InBReferenceIdeal.main_arg4) = m ((c.tc : Thread Cert.InBIdeal.nD Cert.InBIdeal.τ).loc Cert.InBIdeal.main_arg4)) →
    ∃ (v0 : (c : Dev Cert.InBIdeal.nD) → Buf (Elt Ideal) ((c.tc : Thread Cert.InBIdeal.nD Cert.InBIdeal.τ).loc Cert.InBIdeal.main_v0_0)) (v1 : (c : Dev Cert.InBIdeal.nD) → Buf (Elt Ideal) ((c.tc : Thread Cert.InBIdeal.nD Cert.InBIdeal.τ).loc Cert.InBIdeal.main_v0_1)) (v2 : (c : Dev Cert.InBIdeal.nD) → Buf (Elt Ideal) ((c.tc : Thread Cert.InBIdeal.nD Cert.InBIdeal.τ).loc Cert.InBIdeal.main_v0_2)) (v3 : (c : Dev Cert.InBIdeal.nD) → Buf (Elt Ideal) ((c.tc : Thread Cert.InBIdeal.nD Cert.InBIdeal.τ).loc Cert.InBIdeal.main_v0_3)),
      θ_run (Cert.InBIdeal.defs (F := Ideal)) (onTc (τ := Cert.InBIdeal.τ) (Cert.InBIdeal.main (F := Ideal))) ⟨m, fun _ => 0, g⟩ (fun r => ∀ c : Dev Cert.InBIdeal.nD,
          r.2.mem ((c.tc : Thread Cert.InBIdeal.nD Cert.InBIdeal.τ).loc Cert.InBIdeal.main_v0_0) = v0 c
          ∧ r.2.mem ((c.tc : Thread Cert.InBIdeal.nD Cert.InBIdeal.τ).loc Cert.InBIdeal.main_v0_1) = v1 c
          ∧ r.2.mem ((c.tc : Thread Cert.InBIdeal.nD Cert.InBIdeal.τ).loc Cert.InBIdeal.main_v0_2) = v2 c
          ∧ r.2.mem ((c.tc : Thread Cert.InBIdeal.nD Cert.InBIdeal.τ).loc Cert.InBIdeal.main_v0_3) = v3 c
          ∧ r.2.mem ((c.tc : Thread Cert.InBIdeal.nD Cert.InBIdeal.τ).loc Cert.InBIdeal.main_arg0) = m ((c.tc : Thread Cert.InBIdeal.nD Cert.InBIdeal.τ).loc Cert.InBIdeal.main_arg0)
          ∧ r.2.mem ((c.tc : Thread Cert.InBIdeal.nD Cert.InBIdeal.τ).loc Cert.InBIdeal.main_arg1) = m ((c.tc : Thread Cert.InBIdeal.nD Cert.InBIdeal.τ).loc Cert.InBIdeal.main_arg1)
          ∧ r.2.mem ((c.tc : Thread Cert.InBIdeal.nD Cert.InBIdeal.τ).loc Cert.InBIdeal.main_arg2) = m ((c.tc : Thread Cert.InBIdeal.nD Cert.InBIdeal.τ).loc Cert.InBIdeal.main_arg2)
          ∧ r.2.mem ((c.tc : Thread Cert.InBIdeal.nD Cert.InBIdeal.τ).loc Cert.InBIdeal.main_arg3) = m ((c.tc : Thread Cert.InBIdeal.nD Cert.InBIdeal.τ).loc Cert.InBIdeal.main_arg3)
          ∧ r.2.mem ((c.tc : Thread Cert.InBIdeal.nD Cert.InBIdeal.τ).loc Cert.InBIdeal.main_arg4) = m ((c.tc : Thread Cert.InBIdeal.nD Cert.InBIdeal.τ).loc Cert.InBIdeal.main_arg4))
      ∧ θ_run (Cert.InBReferenceIdeal.defs (F := Ideal)) (onTc (τ := Cert.InBReferenceIdeal.τ) (Cert.InBReferenceIdeal.main (F := Ideal))) ⟨m', fun _ => 0, g'⟩ (fun r => ∀ c : Dev Cert.InBReferenceIdeal.nD,
          r.2.mem ((c.tc : Thread Cert.InBReferenceIdeal.nD Cert.InBReferenceIdeal.τ).loc Cert.InBReferenceIdeal.main_v2) = v0 c
          ∧ r.2.mem ((c.tc : Thread Cert.InBReferenceIdeal.nD Cert.InBReferenceIdeal.τ).loc Cert.InBReferenceIdeal.main_v5) = v1 c
          ∧ r.2.mem ((c.tc : Thread Cert.InBReferenceIdeal.nD Cert.InBReferenceIdeal.τ).loc Cert.InBReferenceIdeal.main_v8) = v2 c
          ∧ r.2.mem ((c.tc : Thread Cert.InBReferenceIdeal.nD Cert.InBReferenceIdeal.τ).loc Cert.InBReferenceIdeal.main_v11) = v3 c
          ∧ r.2.mem ((c.tc : Thread Cert.InBReferenceIdeal.nD Cert.InBReferenceIdeal.τ).loc Cert.InBReferenceIdeal.main_arg0) = m' ((c.tc : Thread Cert.InBReferenceIdeal.nD Cert.InBReferenceIdeal.τ).loc Cert.InBReferenceIdeal.main_arg0)
          ∧ r.2.mem ((c.tc : Thread Cert.InBReferenceIdeal.nD Cert.InBReferenceIdeal.τ).loc Cert.InBReferenceIdeal.main_arg1) = m' ((c.tc : Thread Cert.InBReferenceIdeal.nD Cert.InBReferenceIdeal.τ).loc Cert.InBReferenceIdeal.main_arg1)
          ∧ r.2.mem ((c.tc : Thread Cert.InBReferenceIdeal.nD Cert.InBReferenceIdeal.τ).loc Cert.InBReferenceIdeal.main_arg2) = m' ((c.tc : Thread Cert.InBReferenceIdeal.nD Cert.InBReferenceIdeal.τ).loc Cert.InBReferenceIdeal.main_arg2)
          ∧ r.2.mem ((c.tc : Thread Cert.InBReferenceIdeal.nD Cert.InBReferenceIdeal.τ).loc Cert.InBReferenceIdeal.main_arg3) = m' ((c.tc : Thread Cert.InBReferenceIdeal.nD Cert.InBReferenceIdeal.τ).loc Cert.InBReferenceIdeal.main_arg3)
          ∧ r.2.mem ((c.tc : Thread Cert.InBReferenceIdeal.nD Cert.InBReferenceIdeal.τ).loc Cert.InBReferenceIdeal.main_arg4) = m' ((c.tc : Thread Cert.InBReferenceIdeal.nD Cert.InBReferenceIdeal.τ).loc Cert.InBReferenceIdeal.main_arg4))

def preserves_InC_InCIdeal : Prop :=
  True

def algebraic_InCIdeal_InCReferenceIdeal [hInCIdeal : Cert.InCIdeal.Facts] [hInCReferenceIdeal : Cert.InCReferenceIdeal.Facts] : Prop :=
  ∀ (m : (ℓ : Loc Cert.InCIdeal.nD Cert.InCIdeal.τ Cert.InCIdeal.sig) → Buf (Elt Ideal) ℓ) (g : Dev Cert.InCIdeal.nD → PrngReg)
    (m' : (ℓ : Loc Cert.InCReferenceIdeal.nD Cert.InCReferenceIdeal.τ Cert.InCReferenceIdeal.sig) → Buf (Elt Ideal) ℓ) (g' : Dev Cert.InCReferenceIdeal.nD → PrngReg), Pre_InCIdeal m →
    (∀ c : Dev Cert.InCIdeal.nD,
      m' ((c.tc : Thread Cert.InCReferenceIdeal.nD Cert.InCReferenceIdeal.τ).loc Cert.InCReferenceIdeal.main_arg0) = m ((c.tc : Thread Cert.InCIdeal.nD Cert.InCIdeal.τ).loc Cert.InCIdeal.main_arg0)
      ∧ m' ((c.tc : Thread Cert.InCReferenceIdeal.nD Cert.InCReferenceIdeal.τ).loc Cert.InCReferenceIdeal.main_arg1) = m ((c.tc : Thread Cert.InCIdeal.nD Cert.InCIdeal.τ).loc Cert.InCIdeal.main_arg1)
      ∧ m' ((c.tc : Thread Cert.InCReferenceIdeal.nD Cert.InCReferenceIdeal.τ).loc Cert.InCReferenceIdeal.main_arg2) = m ((c.tc : Thread Cert.InCIdeal.nD Cert.InCIdeal.τ).loc Cert.InCIdeal.main_arg2)
      ∧ m' ((c.tc : Thread Cert.InCReferenceIdeal.nD Cert.InCReferenceIdeal.τ).loc Cert.InCReferenceIdeal.main_arg3) = m ((c.tc : Thread Cert.InCIdeal.nD Cert.InCIdeal.τ).loc Cert.InCIdeal.main_arg3)
      ∧ m' ((c.tc : Thread Cert.InCReferenceIdeal.nD Cert.InCReferenceIdeal.τ).loc Cert.InCReferenceIdeal.main_arg4) = m ((c.tc : Thread Cert.InCIdeal.nD Cert.InCIdeal.τ).loc Cert.InCIdeal.main_arg4)) →
    ∃ (v0 : (c : Dev Cert.InCIdeal.nD) → Buf (Elt Ideal) ((c.tc : Thread Cert.InCIdeal.nD Cert.InCIdeal.τ).loc Cert.InCIdeal.main_v0_0)) (v1 : (c : Dev Cert.InCIdeal.nD) → Buf (Elt Ideal) ((c.tc : Thread Cert.InCIdeal.nD Cert.InCIdeal.τ).loc Cert.InCIdeal.main_v0_1)) (v2 : (c : Dev Cert.InCIdeal.nD) → Buf (Elt Ideal) ((c.tc : Thread Cert.InCIdeal.nD Cert.InCIdeal.τ).loc Cert.InCIdeal.main_v0_2)) (v3 : (c : Dev Cert.InCIdeal.nD) → Buf (Elt Ideal) ((c.tc : Thread Cert.InCIdeal.nD Cert.InCIdeal.τ).loc Cert.InCIdeal.main_v0_3)),
      θ_run (Cert.InCIdeal.defs (F := Ideal)) (onTc (τ := Cert.InCIdeal.τ) (Cert.InCIdeal.main (F := Ideal))) ⟨m, fun _ => 0, g⟩ (fun r => ∀ c : Dev Cert.InCIdeal.nD,
          r.2.mem ((c.tc : Thread Cert.InCIdeal.nD Cert.InCIdeal.τ).loc Cert.InCIdeal.main_v0_0) = v0 c
          ∧ r.2.mem ((c.tc : Thread Cert.InCIdeal.nD Cert.InCIdeal.τ).loc Cert.InCIdeal.main_v0_1) = v1 c
          ∧ r.2.mem ((c.tc : Thread Cert.InCIdeal.nD Cert.InCIdeal.τ).loc Cert.InCIdeal.main_v0_2) = v2 c
          ∧ r.2.mem ((c.tc : Thread Cert.InCIdeal.nD Cert.InCIdeal.τ).loc Cert.InCIdeal.main_v0_3) = v3 c
          ∧ r.2.mem ((c.tc : Thread Cert.InCIdeal.nD Cert.InCIdeal.τ).loc Cert.InCIdeal.main_arg0) = m ((c.tc : Thread Cert.InCIdeal.nD Cert.InCIdeal.τ).loc Cert.InCIdeal.main_arg0)
          ∧ r.2.mem ((c.tc : Thread Cert.InCIdeal.nD Cert.InCIdeal.τ).loc Cert.InCIdeal.main_arg1) = m ((c.tc : Thread Cert.InCIdeal.nD Cert.InCIdeal.τ).loc Cert.InCIdeal.main_arg1)
          ∧ r.2.mem ((c.tc : Thread Cert.InCIdeal.nD Cert.InCIdeal.τ).loc Cert.InCIdeal.main_arg2) = m ((c.tc : Thread Cert.InCIdeal.nD Cert.InCIdeal.τ).loc Cert.InCIdeal.main_arg2)
          ∧ r.2.mem ((c.tc : Thread Cert.InCIdeal.nD Cert.InCIdeal.τ).loc Cert.InCIdeal.main_arg3) = m ((c.tc : Thread Cert.InCIdeal.nD Cert.InCIdeal.τ).loc Cert.InCIdeal.main_arg3)
          ∧ r.2.mem ((c.tc : Thread Cert.InCIdeal.nD Cert.InCIdeal.τ).loc Cert.InCIdeal.main_arg4) = m ((c.tc : Thread Cert.InCIdeal.nD Cert.InCIdeal.τ).loc Cert.InCIdeal.main_arg4))
      ∧ θ_run (Cert.InCReferenceIdeal.defs (F := Ideal)) (onTc (τ := Cert.InCReferenceIdeal.τ) (Cert.InCReferenceIdeal.main (F := Ideal))) ⟨m', fun _ => 0, g'⟩ (fun r => ∀ c : Dev Cert.InCReferenceIdeal.nD,
          r.2.mem ((c.tc : Thread Cert.InCReferenceIdeal.nD Cert.InCReferenceIdeal.τ).loc Cert.InCReferenceIdeal.main_v2) = v0 c
          ∧ r.2.mem ((c.tc : Thread Cert.InCReferenceIdeal.nD Cert.InCReferenceIdeal.τ).loc Cert.InCReferenceIdeal.main_v5) = v1 c
          ∧ r.2.mem ((c.tc : Thread Cert.InCReferenceIdeal.nD Cert.InCReferenceIdeal.τ).loc Cert.InCReferenceIdeal.main_v8) = v2 c
          ∧ r.2.mem ((c.tc : Thread Cert.InCReferenceIdeal.nD Cert.InCReferenceIdeal.τ).loc Cert.InCReferenceIdeal.main_v11) = v3 c
          ∧ r.2.mem ((c.tc : Thread Cert.InCReferenceIdeal.nD Cert.InCReferenceIdeal.τ).loc Cert.InCReferenceIdeal.main_arg0) = m' ((c.tc : Thread Cert.InCReferenceIdeal.nD Cert.InCReferenceIdeal.τ).loc Cert.InCReferenceIdeal.main_arg0)
          ∧ r.2.mem ((c.tc : Thread Cert.InCReferenceIdeal.nD Cert.InCReferenceIdeal.τ).loc Cert.InCReferenceIdeal.main_arg1) = m' ((c.tc : Thread Cert.InCReferenceIdeal.nD Cert.InCReferenceIdeal.τ).loc Cert.InCReferenceIdeal.main_arg1)
          ∧ r.2.mem ((c.tc : Thread Cert.InCReferenceIdeal.nD Cert.InCReferenceIdeal.τ).loc Cert.InCReferenceIdeal.main_arg2) = m' ((c.tc : Thread Cert.InCReferenceIdeal.nD Cert.InCReferenceIdeal.τ).loc Cert.InCReferenceIdeal.main_arg2)
          ∧ r.2.mem ((c.tc : Thread Cert.InCReferenceIdeal.nD Cert.InCReferenceIdeal.τ).loc Cert.InCReferenceIdeal.main_arg3) = m' ((c.tc : Thread Cert.InCReferenceIdeal.nD Cert.InCReferenceIdeal.τ).loc Cert.InCReferenceIdeal.main_arg3)
          ∧ r.2.mem ((c.tc : Thread Cert.InCReferenceIdeal.nD Cert.InCReferenceIdeal.τ).loc Cert.InCReferenceIdeal.main_arg4) = m' ((c.tc : Thread Cert.InCReferenceIdeal.nD Cert.InCReferenceIdeal.τ).loc Cert.InCReferenceIdeal.main_arg4))

def preserves_InD_InDIdeal : Prop :=
  True

def algebraic_InDIdeal_InDReferenceIdeal [hInDIdeal : Cert.InDIdeal.Facts] [hInDReferenceIdeal : Cert.InDReferenceIdeal.Facts] : Prop :=
  ∀ (m : (ℓ : Loc Cert.InDIdeal.nD Cert.InDIdeal.τ Cert.InDIdeal.sig) → Buf (Elt Ideal) ℓ) (g : Dev Cert.InDIdeal.nD → PrngReg)
    (m' : (ℓ : Loc Cert.InDReferenceIdeal.nD Cert.InDReferenceIdeal.τ Cert.InDReferenceIdeal.sig) → Buf (Elt Ideal) ℓ) (g' : Dev Cert.InDReferenceIdeal.nD → PrngReg), Pre_InDIdeal m →
    (∀ c : Dev Cert.InDIdeal.nD,
      m' ((c.tc : Thread Cert.InDReferenceIdeal.nD Cert.InDReferenceIdeal.τ).loc Cert.InDReferenceIdeal.main_arg0) = m ((c.tc : Thread Cert.InDIdeal.nD Cert.InDIdeal.τ).loc Cert.InDIdeal.main_arg0)
      ∧ m' ((c.tc : Thread Cert.InDReferenceIdeal.nD Cert.InDReferenceIdeal.τ).loc Cert.InDReferenceIdeal.main_arg1) = m ((c.tc : Thread Cert.InDIdeal.nD Cert.InDIdeal.τ).loc Cert.InDIdeal.main_arg1)
      ∧ m' ((c.tc : Thread Cert.InDReferenceIdeal.nD Cert.InDReferenceIdeal.τ).loc Cert.InDReferenceIdeal.main_arg2) = m ((c.tc : Thread Cert.InDIdeal.nD Cert.InDIdeal.τ).loc Cert.InDIdeal.main_arg2)
      ∧ m' ((c.tc : Thread Cert.InDReferenceIdeal.nD Cert.InDReferenceIdeal.τ).loc Cert.InDReferenceIdeal.main_arg3) = m ((c.tc : Thread Cert.InDIdeal.nD Cert.InDIdeal.τ).loc Cert.InDIdeal.main_arg3)
      ∧ m' ((c.tc : Thread Cert.InDReferenceIdeal.nD Cert.InDReferenceIdeal.τ).loc Cert.InDReferenceIdeal.main_arg4) = m ((c.tc : Thread Cert.InDIdeal.nD Cert.InDIdeal.τ).loc Cert.InDIdeal.main_arg4)
      ∧ m' ((c.tc : Thread Cert.InDReferenceIdeal.nD Cert.InDReferenceIdeal.τ).loc Cert.InDReferenceIdeal.main_arg5) = m ((c.tc : Thread Cert.InDIdeal.nD Cert.InDIdeal.τ).loc Cert.InDIdeal.main_arg5)) →
    ∃ (v0 : (c : Dev Cert.InDIdeal.nD) → Buf (Elt Ideal) ((c.tc : Thread Cert.InDIdeal.nD Cert.InDIdeal.τ).loc Cert.InDIdeal.main_v0_0)) (v1 : (c : Dev Cert.InDIdeal.nD) → Buf (Elt Ideal) ((c.tc : Thread Cert.InDIdeal.nD Cert.InDIdeal.τ).loc Cert.InDIdeal.main_v0_1)) (v2 : (c : Dev Cert.InDIdeal.nD) → Buf (Elt Ideal) ((c.tc : Thread Cert.InDIdeal.nD Cert.InDIdeal.τ).loc Cert.InDIdeal.main_v0_2)) (v3 : (c : Dev Cert.InDIdeal.nD) → Buf (Elt Ideal) ((c.tc : Thread Cert.InDIdeal.nD Cert.InDIdeal.τ).loc Cert.InDIdeal.main_v0_3)) (v4 : (c : Dev Cert.InDIdeal.nD) → Buf (Elt Ideal) ((c.tc : Thread Cert.InDIdeal.nD Cert.InDIdeal.τ).loc Cert.InDIdeal.main_v0_4)),
      θ_run (Cert.InDIdeal.defs (F := Ideal)) (onTc (τ := Cert.InDIdeal.τ) (Cert.InDIdeal.main (F := Ideal))) ⟨m, fun _ => 0, g⟩ (fun r => ∀ c : Dev Cert.InDIdeal.nD,
          r.2.mem ((c.tc : Thread Cert.InDIdeal.nD Cert.InDIdeal.τ).loc Cert.InDIdeal.main_v0_0) = v0 c
          ∧ r.2.mem ((c.tc : Thread Cert.InDIdeal.nD Cert.InDIdeal.τ).loc Cert.InDIdeal.main_v0_1) = v1 c
          ∧ r.2.mem ((c.tc : Thread Cert.InDIdeal.nD Cert.InDIdeal.τ).loc Cert.InDIdeal.main_v0_2) = v2 c
          ∧ r.2.mem ((c.tc : Thread Cert.InDIdeal.nD Cert.InDIdeal.τ).loc Cert.InDIdeal.main_v0_3) = v3 c
          ∧ r.2.mem ((c.tc : Thread Cert.InDIdeal.nD Cert.InDIdeal.τ).loc Cert.InDIdeal.main_v0_4) = v4 c
          ∧ r.2.mem ((c.tc : Thread Cert.InDIdeal.nD Cert.InDIdeal.τ).loc Cert.InDIdeal.main_arg0) = m ((c.tc : Thread Cert.InDIdeal.nD Cert.InDIdeal.τ).loc Cert.InDIdeal.main_arg0)
          ∧ r.2.mem ((c.tc : Thread Cert.InDIdeal.nD Cert.InDIdeal.τ).loc Cert.InDIdeal.main_arg1) = m ((c.tc : Thread Cert.InDIdeal.nD Cert.InDIdeal.τ).loc Cert.InDIdeal.main_arg1)
          ∧ r.2.mem ((c.tc : Thread Cert.InDIdeal.nD Cert.InDIdeal.τ).loc Cert.InDIdeal.main_arg2) = m ((c.tc : Thread Cert.InDIdeal.nD Cert.InDIdeal.τ).loc Cert.InDIdeal.main_arg2)
          ∧ r.2.mem ((c.tc : Thread Cert.InDIdeal.nD Cert.InDIdeal.τ).loc Cert.InDIdeal.main_arg3) = m ((c.tc : Thread Cert.InDIdeal.nD Cert.InDIdeal.τ).loc Cert.InDIdeal.main_arg3)
          ∧ r.2.mem ((c.tc : Thread Cert.InDIdeal.nD Cert.InDIdeal.τ).loc Cert.InDIdeal.main_arg4) = m ((c.tc : Thread Cert.InDIdeal.nD Cert.InDIdeal.τ).loc Cert.InDIdeal.main_arg4)
          ∧ r.2.mem ((c.tc : Thread Cert.InDIdeal.nD Cert.InDIdeal.τ).loc Cert.InDIdeal.main_arg5) = m ((c.tc : Thread Cert.InDIdeal.nD Cert.InDIdeal.τ).loc Cert.InDIdeal.main_arg5))
      ∧ θ_run (Cert.InDReferenceIdeal.defs (F := Ideal)) (onTc (τ := Cert.InDReferenceIdeal.τ) (Cert.InDReferenceIdeal.main (F := Ideal))) ⟨m', fun _ => 0, g'⟩ (fun r => ∀ c : Dev Cert.InDReferenceIdeal.nD,
          r.2.mem ((c.tc : Thread Cert.InDReferenceIdeal.nD Cert.InDReferenceIdeal.τ).loc Cert.InDReferenceIdeal.main_v2) = v0 c
          ∧ r.2.mem ((c.tc : Thread Cert.InDReferenceIdeal.nD Cert.InDReferenceIdeal.τ).loc Cert.InDReferenceIdeal.main_v5) = v1 c
          ∧ r.2.mem ((c.tc : Thread Cert.InDReferenceIdeal.nD Cert.InDReferenceIdeal.τ).loc Cert.InDReferenceIdeal.main_v8) = v2 c
          ∧ r.2.mem ((c.tc : Thread Cert.InDReferenceIdeal.nD Cert.InDReferenceIdeal.τ).loc Cert.InDReferenceIdeal.main_v11) = v3 c
          ∧ r.2.mem ((c.tc : Thread Cert.InDReferenceIdeal.nD Cert.InDReferenceIdeal.τ).loc Cert.InDReferenceIdeal.main_v14) = v4 c
          ∧ r.2.mem ((c.tc : Thread Cert.InDReferenceIdeal.nD Cert.InDReferenceIdeal.τ).loc Cert.InDReferenceIdeal.main_arg0) = m' ((c.tc : Thread Cert.InDReferenceIdeal.nD Cert.InDReferenceIdeal.τ).loc Cert.InDReferenceIdeal.main_arg0)
          ∧ r.2.mem ((c.tc : Thread Cert.InDReferenceIdeal.nD Cert.InDReferenceIdeal.τ).loc Cert.InDReferenceIdeal.main_arg1) = m' ((c.tc : Thread Cert.InDReferenceIdeal.nD Cert.InDReferenceIdeal.τ).loc Cert.InDReferenceIdeal.main_arg1)
          ∧ r.2.mem ((c.tc : Thread Cert.InDReferenceIdeal.nD Cert.InDReferenceIdeal.τ).loc Cert.InDReferenceIdeal.main_arg2) = m' ((c.tc : Thread Cert.InDReferenceIdeal.nD Cert.InDReferenceIdeal.τ).loc Cert.InDReferenceIdeal.main_arg2)
          ∧ r.2.mem ((c.tc : Thread Cert.InDReferenceIdeal.nD Cert.InDReferenceIdeal.τ).loc Cert.InDReferenceIdeal.main_arg3) = m' ((c.tc : Thread Cert.InDReferenceIdeal.nD Cert.InDReferenceIdeal.τ).loc Cert.InDReferenceIdeal.main_arg3)
          ∧ r.2.mem ((c.tc : Thread Cert.InDReferenceIdeal.nD Cert.InDReferenceIdeal.τ).loc Cert.InDReferenceIdeal.main_arg4) = m' ((c.tc : Thread Cert.InDReferenceIdeal.nD Cert.InDReferenceIdeal.τ).loc Cert.InDReferenceIdeal.main_arg4)
          ∧ r.2.mem ((c.tc : Thread Cert.InDReferenceIdeal.nD Cert.InDReferenceIdeal.τ).loc Cert.InDReferenceIdeal.main_arg5) = m' ((c.tc : Thread Cert.InDReferenceIdeal.nD Cert.InDReferenceIdeal.τ).loc Cert.InDReferenceIdeal.main_arg5))

def preserves_InActA_InActAIdeal : Prop :=
  True

def algebraic_InActAIdeal_InActAReferenceIdeal [hInActAIdeal : Cert.InActAIdeal.Facts] [hInActAReferenceIdeal : Cert.InActAReferenceIdeal.Facts] : Prop :=
  ∀ (m : (ℓ : Loc Cert.InActAIdeal.nD Cert.InActAIdeal.τ Cert.InActAIdeal.sig) → Buf (Elt Ideal) ℓ) (g : Dev Cert.InActAIdeal.nD → PrngReg)
    (m' : (ℓ : Loc Cert.InActAReferenceIdeal.nD Cert.InActAReferenceIdeal.τ Cert.InActAReferenceIdeal.sig) → Buf (Elt Ideal) ℓ) (g' : Dev Cert.InActAReferenceIdeal.nD → PrngReg), Pre_InActAIdeal m →
    (∀ c : Dev Cert.InActAIdeal.nD,
      m' ((c.tc : Thread Cert.InActAReferenceIdeal.nD Cert.InActAReferenceIdeal.τ).loc Cert.InActAReferenceIdeal.main_arg0) = m ((c.tc : Thread Cert.InActAIdeal.nD Cert.InActAIdeal.τ).loc Cert.InActAIdeal.main_arg0)
      ∧ m' ((c.tc : Thread Cert.InActAReferenceIdeal.nD Cert.InActAReferenceIdeal.τ).loc Cert.InActAReferenceIdeal.main_arg1) = m ((c.tc : Thread Cert.InActAIdeal.nD Cert.InActAIdeal.τ).loc Cert.InActAIdeal.main_arg1)
      ∧ m' ((c.tc : Thread Cert.InActAReferenceIdeal.nD Cert.InActAReferenceIdeal.τ).loc Cert.InActAReferenceIdeal.main_arg2) = m ((c.tc : Thread Cert.InActAIdeal.nD Cert.InActAIdeal.τ).loc Cert.InActAIdeal.main_arg2)
      ∧ m' ((c.tc : Thread Cert.InActAReferenceIdeal.nD Cert.InActAReferenceIdeal.τ).loc Cert.InActAReferenceIdeal.main_arg3) = m ((c.tc : Thread Cert.InActAIdeal.nD Cert.InActAIdeal.τ).loc Cert.InActAIdeal.main_arg3)
      ∧ m' ((c.tc : Thread Cert.InActAReferenceIdeal.nD Cert.InActAReferenceIdeal.τ).loc Cert.InActAReferenceIdeal.main_arg4) = m ((c.tc : Thread Cert.InActAIdeal.nD Cert.InActAIdeal.τ).loc Cert.InActAIdeal.main_arg4)
      ∧ m' ((c.tc : Thread Cert.InActAReferenceIdeal.nD Cert.InActAReferenceIdeal.τ).loc Cert.InActAReferenceIdeal.main_arg5) = m ((c.tc : Thread Cert.InActAIdeal.nD Cert.InActAIdeal.τ).loc Cert.InActAIdeal.main_arg5)
      ∧ m' ((c.tc : Thread Cert.InActAReferenceIdeal.nD Cert.InActAReferenceIdeal.τ).loc Cert.InActAReferenceIdeal.main_arg6) = m ((c.tc : Thread Cert.InActAIdeal.nD Cert.InActAIdeal.τ).loc Cert.InActAIdeal.main_arg6)
      ∧ m' ((c.tc : Thread Cert.InActAReferenceIdeal.nD Cert.InActAReferenceIdeal.τ).loc Cert.InActAReferenceIdeal.main_arg7) = m ((c.tc : Thread Cert.InActAIdeal.nD Cert.InActAIdeal.τ).loc Cert.InActAIdeal.main_arg7)
      ∧ m' ((c.tc : Thread Cert.InActAReferenceIdeal.nD Cert.InActAReferenceIdeal.τ).loc Cert.InActAReferenceIdeal.main_arg8) = m ((c.tc : Thread Cert.InActAIdeal.nD Cert.InActAIdeal.τ).loc Cert.InActAIdeal.main_arg8)
      ∧ m' ((c.tc : Thread Cert.InActAReferenceIdeal.nD Cert.InActAReferenceIdeal.τ).loc Cert.InActAReferenceIdeal.main_arg9) = m ((c.tc : Thread Cert.InActAIdeal.nD Cert.InActAIdeal.τ).loc Cert.InActAIdeal.main_arg9)
      ∧ m' ((c.tc : Thread Cert.InActAReferenceIdeal.nD Cert.InActAReferenceIdeal.τ).loc Cert.InActAReferenceIdeal.main_arg10) = m ((c.tc : Thread Cert.InActAIdeal.nD Cert.InActAIdeal.τ).loc Cert.InActAIdeal.main_arg10)
      ∧ m' ((c.tc : Thread Cert.InActAReferenceIdeal.nD Cert.InActAReferenceIdeal.τ).loc Cert.InActAReferenceIdeal.main_arg11) = m ((c.tc : Thread Cert.InActAIdeal.nD Cert.InActAIdeal.τ).loc Cert.InActAIdeal.main_arg11)) →
    ∃ (v0 : (c : Dev Cert.InActAIdeal.nD) → Buf (Elt Ideal) ((c.tc : Thread Cert.InActAIdeal.nD Cert.InActAIdeal.τ).loc Cert.InActAIdeal.main_v0)),
      θ_run (Cert.InActAIdeal.defs (F := Ideal)) (onTc (τ := Cert.InActAIdeal.τ) (Cert.InActAIdeal.main (F := Ideal))) ⟨m, fun _ => 0, g⟩ (fun r => ∀ c : Dev Cert.InActAIdeal.nD,
          r.2.mem ((c.tc : Thread Cert.InActAIdeal.nD Cert.InActAIdeal.τ).loc Cert.InActAIdeal.main_v0) = v0 c
          ∧ r.2.mem ((c.tc : Thread Cert.InActAIdeal.nD Cert.InActAIdeal.τ).loc Cert.InActAIdeal.main_arg0) = m ((c.tc : Thread Cert.InActAIdeal.nD Cert.InActAIdeal.τ).loc Cert.InActAIdeal.main_arg0)
          ∧ r.2.mem ((c.tc : Thread Cert.InActAIdeal.nD Cert.InActAIdeal.τ).loc Cert.InActAIdeal.main_arg1) = m ((c.tc : Thread Cert.InActAIdeal.nD Cert.InActAIdeal.τ).loc Cert.InActAIdeal.main_arg1)
          ∧ r.2.mem ((c.tc : Thread Cert.InActAIdeal.nD Cert.InActAIdeal.τ).loc Cert.InActAIdeal.main_arg2) = m ((c.tc : Thread Cert.InActAIdeal.nD Cert.InActAIdeal.τ).loc Cert.InActAIdeal.main_arg2)
          ∧ r.2.mem ((c.tc : Thread Cert.InActAIdeal.nD Cert.InActAIdeal.τ).loc Cert.InActAIdeal.main_arg3) = m ((c.tc : Thread Cert.InActAIdeal.nD Cert.InActAIdeal.τ).loc Cert.InActAIdeal.main_arg3)
          ∧ r.2.mem ((c.tc : Thread Cert.InActAIdeal.nD Cert.InActAIdeal.τ).loc Cert.InActAIdeal.main_arg4) = m ((c.tc : Thread Cert.InActAIdeal.nD Cert.InActAIdeal.τ).loc Cert.InActAIdeal.main_arg4)
          ∧ r.2.mem ((c.tc : Thread Cert.InActAIdeal.nD Cert.InActAIdeal.τ).loc Cert.InActAIdeal.main_arg5) = m ((c.tc : Thread Cert.InActAIdeal.nD Cert.InActAIdeal.τ).loc Cert.InActAIdeal.main_arg5)
          ∧ r.2.mem ((c.tc : Thread Cert.InActAIdeal.nD Cert.InActAIdeal.τ).loc Cert.InActAIdeal.main_arg6) = m ((c.tc : Thread Cert.InActAIdeal.nD Cert.InActAIdeal.τ).loc Cert.InActAIdeal.main_arg6)
          ∧ r.2.mem ((c.tc : Thread Cert.InActAIdeal.nD Cert.InActAIdeal.τ).loc Cert.InActAIdeal.main_arg7) = m ((c.tc : Thread Cert.InActAIdeal.nD Cert.InActAIdeal.τ).loc Cert.InActAIdeal.main_arg7)
          ∧ r.2.mem ((c.tc : Thread Cert.InActAIdeal.nD Cert.InActAIdeal.τ).loc Cert.InActAIdeal.main_arg8) = m ((c.tc : Thread Cert.InActAIdeal.nD Cert.InActAIdeal.τ).loc Cert.InActAIdeal.main_arg8)
          ∧ r.2.mem ((c.tc : Thread Cert.InActAIdeal.nD Cert.InActAIdeal.τ).loc Cert.InActAIdeal.main_arg9) = m ((c.tc : Thread Cert.InActAIdeal.nD Cert.InActAIdeal.τ).loc Cert.InActAIdeal.main_arg9)
          ∧ r.2.mem ((c.tc : Thread Cert.InActAIdeal.nD Cert.InActAIdeal.τ).loc Cert.InActAIdeal.main_arg10) = m ((c.tc : Thread Cert.InActAIdeal.nD Cert.InActAIdeal.τ).loc Cert.InActAIdeal.main_arg10)
          ∧ r.2.mem ((c.tc : Thread Cert.InActAIdeal.nD Cert.InActAIdeal.τ).loc Cert.InActAIdeal.main_arg11) = m ((c.tc : Thread Cert.InActAIdeal.nD Cert.InActAIdeal.τ).loc Cert.InActAIdeal.main_arg11))
      ∧ θ_run (Cert.InActAReferenceIdeal.defs (F := Ideal)) (onTc (τ := Cert.InActAReferenceIdeal.τ) (Cert.InActAReferenceIdeal.main (F := Ideal))) ⟨m', fun _ => 0, g'⟩ (fun r => ∀ c : Dev Cert.InActAReferenceIdeal.nD,
          r.2.mem ((c.tc : Thread Cert.InActAReferenceIdeal.nD Cert.InActAReferenceIdeal.τ).loc Cert.InActAReferenceIdeal.main_v25) = v0 c
          ∧ r.2.mem ((c.tc : Thread Cert.InActAReferenceIdeal.nD Cert.InActAReferenceIdeal.τ).loc Cert.InActAReferenceIdeal.main_arg0) = m' ((c.tc : Thread Cert.InActAReferenceIdeal.nD Cert.InActAReferenceIdeal.τ).loc Cert.InActAReferenceIdeal.main_arg0)
          ∧ r.2.mem ((c.tc : Thread Cert.InActAReferenceIdeal.nD Cert.InActAReferenceIdeal.τ).loc Cert.InActAReferenceIdeal.main_arg1) = m' ((c.tc : Thread Cert.InActAReferenceIdeal.nD Cert.InActAReferenceIdeal.τ).loc Cert.InActAReferenceIdeal.main_arg1)
          ∧ r.2.mem ((c.tc : Thread Cert.InActAReferenceIdeal.nD Cert.InActAReferenceIdeal.τ).loc Cert.InActAReferenceIdeal.main_arg2) = m' ((c.tc : Thread Cert.InActAReferenceIdeal.nD Cert.InActAReferenceIdeal.τ).loc Cert.InActAReferenceIdeal.main_arg2)
          ∧ r.2.mem ((c.tc : Thread Cert.InActAReferenceIdeal.nD Cert.InActAReferenceIdeal.τ).loc Cert.InActAReferenceIdeal.main_arg3) = m' ((c.tc : Thread Cert.InActAReferenceIdeal.nD Cert.InActAReferenceIdeal.τ).loc Cert.InActAReferenceIdeal.main_arg3)
          ∧ r.2.mem ((c.tc : Thread Cert.InActAReferenceIdeal.nD Cert.InActAReferenceIdeal.τ).loc Cert.InActAReferenceIdeal.main_arg4) = m' ((c.tc : Thread Cert.InActAReferenceIdeal.nD Cert.InActAReferenceIdeal.τ).loc Cert.InActAReferenceIdeal.main_arg4)
          ∧ r.2.mem ((c.tc : Thread Cert.InActAReferenceIdeal.nD Cert.InActAReferenceIdeal.τ).loc Cert.InActAReferenceIdeal.main_arg5) = m' ((c.tc : Thread Cert.InActAReferenceIdeal.nD Cert.InActAReferenceIdeal.τ).loc Cert.InActAReferenceIdeal.main_arg5)
          ∧ r.2.mem ((c.tc : Thread Cert.InActAReferenceIdeal.nD Cert.InActAReferenceIdeal.τ).loc Cert.InActAReferenceIdeal.main_arg6) = m' ((c.tc : Thread Cert.InActAReferenceIdeal.nD Cert.InActAReferenceIdeal.τ).loc Cert.InActAReferenceIdeal.main_arg6)
          ∧ r.2.mem ((c.tc : Thread Cert.InActAReferenceIdeal.nD Cert.InActAReferenceIdeal.τ).loc Cert.InActAReferenceIdeal.main_arg7) = m' ((c.tc : Thread Cert.InActAReferenceIdeal.nD Cert.InActAReferenceIdeal.τ).loc Cert.InActAReferenceIdeal.main_arg7)
          ∧ r.2.mem ((c.tc : Thread Cert.InActAReferenceIdeal.nD Cert.InActAReferenceIdeal.τ).loc Cert.InActAReferenceIdeal.main_arg8) = m' ((c.tc : Thread Cert.InActAReferenceIdeal.nD Cert.InActAReferenceIdeal.τ).loc Cert.InActAReferenceIdeal.main_arg8)
          ∧ r.2.mem ((c.tc : Thread Cert.InActAReferenceIdeal.nD Cert.InActAReferenceIdeal.τ).loc Cert.InActAReferenceIdeal.main_arg9) = m' ((c.tc : Thread Cert.InActAReferenceIdeal.nD Cert.InActAReferenceIdeal.τ).loc Cert.InActAReferenceIdeal.main_arg9)
          ∧ r.2.mem ((c.tc : Thread Cert.InActAReferenceIdeal.nD Cert.InActAReferenceIdeal.τ).loc Cert.InActAReferenceIdeal.main_arg10) = m' ((c.tc : Thread Cert.InActAReferenceIdeal.nD Cert.InActAReferenceIdeal.τ).loc Cert.InActAReferenceIdeal.main_arg10)
          ∧ r.2.mem ((c.tc : Thread Cert.InActAReferenceIdeal.nD Cert.InActAReferenceIdeal.τ).loc Cert.InActAReferenceIdeal.main_arg11) = m' ((c.tc : Thread Cert.InActAReferenceIdeal.nD Cert.InActAReferenceIdeal.τ).loc Cert.InActAReferenceIdeal.main_arg11))

def preserves_InActB_InActBIdeal : Prop :=
  True

def algebraic_InActBIdeal_InActBReferenceIdeal [hInActBIdeal : Cert.InActBIdeal.Facts] [hInActBReferenceIdeal : Cert.InActBReferenceIdeal.Facts] : Prop :=
  ∀ (m : (ℓ : Loc Cert.InActBIdeal.nD Cert.InActBIdeal.τ Cert.InActBIdeal.sig) → Buf (Elt Ideal) ℓ) (g : Dev Cert.InActBIdeal.nD → PrngReg)
    (m' : (ℓ : Loc Cert.InActBReferenceIdeal.nD Cert.InActBReferenceIdeal.τ Cert.InActBReferenceIdeal.sig) → Buf (Elt Ideal) ℓ) (g' : Dev Cert.InActBReferenceIdeal.nD → PrngReg), Pre_InActBIdeal m →
    (∀ c : Dev Cert.InActBIdeal.nD,
      m' ((c.tc : Thread Cert.InActBReferenceIdeal.nD Cert.InActBReferenceIdeal.τ).loc Cert.InActBReferenceIdeal.main_arg0) = m ((c.tc : Thread Cert.InActBIdeal.nD Cert.InActBIdeal.τ).loc Cert.InActBIdeal.main_arg0)
      ∧ m' ((c.tc : Thread Cert.InActBReferenceIdeal.nD Cert.InActBReferenceIdeal.τ).loc Cert.InActBReferenceIdeal.main_arg1) = m ((c.tc : Thread Cert.InActBIdeal.nD Cert.InActBIdeal.τ).loc Cert.InActBIdeal.main_arg1)
      ∧ m' ((c.tc : Thread Cert.InActBReferenceIdeal.nD Cert.InActBReferenceIdeal.τ).loc Cert.InActBReferenceIdeal.main_arg2) = m ((c.tc : Thread Cert.InActBIdeal.nD Cert.InActBIdeal.τ).loc Cert.InActBIdeal.main_arg2)
      ∧ m' ((c.tc : Thread Cert.InActBReferenceIdeal.nD Cert.InActBReferenceIdeal.τ).loc Cert.InActBReferenceIdeal.main_arg3) = m ((c.tc : Thread Cert.InActBIdeal.nD Cert.InActBIdeal.τ).loc Cert.InActBIdeal.main_arg3)
      ∧ m' ((c.tc : Thread Cert.InActBReferenceIdeal.nD Cert.InActBReferenceIdeal.τ).loc Cert.InActBReferenceIdeal.main_arg4) = m ((c.tc : Thread Cert.InActBIdeal.nD Cert.InActBIdeal.τ).loc Cert.InActBIdeal.main_arg4)
      ∧ m' ((c.tc : Thread Cert.InActBReferenceIdeal.nD Cert.InActBReferenceIdeal.τ).loc Cert.InActBReferenceIdeal.main_arg5) = m ((c.tc : Thread Cert.InActBIdeal.nD Cert.InActBIdeal.τ).loc Cert.InActBIdeal.main_arg5)
      ∧ m' ((c.tc : Thread Cert.InActBReferenceIdeal.nD Cert.InActBReferenceIdeal.τ).loc Cert.InActBReferenceIdeal.main_arg6) = m ((c.tc : Thread Cert.InActBIdeal.nD Cert.InActBIdeal.τ).loc Cert.InActBIdeal.main_arg6)
      ∧ m' ((c.tc : Thread Cert.InActBReferenceIdeal.nD Cert.InActBReferenceIdeal.τ).loc Cert.InActBReferenceIdeal.main_arg7) = m ((c.tc : Thread Cert.InActBIdeal.nD Cert.InActBIdeal.τ).loc Cert.InActBIdeal.main_arg7)) →
    ∃ (v0 : (c : Dev Cert.InActBIdeal.nD) → Buf (Elt Ideal) ((c.tc : Thread Cert.InActBIdeal.nD Cert.InActBIdeal.τ).loc Cert.InActBIdeal.main_v0)),
      θ_run (Cert.InActBIdeal.defs (F := Ideal)) (onTc (τ := Cert.InActBIdeal.τ) (Cert.InActBIdeal.main (F := Ideal))) ⟨m, fun _ => 0, g⟩ (fun r => ∀ c : Dev Cert.InActBIdeal.nD,
          r.2.mem ((c.tc : Thread Cert.InActBIdeal.nD Cert.InActBIdeal.τ).loc Cert.InActBIdeal.main_v0) = v0 c
          ∧ r.2.mem ((c.tc : Thread Cert.InActBIdeal.nD Cert.InActBIdeal.τ).loc Cert.InActBIdeal.main_arg0) = m ((c.tc : Thread Cert.InActBIdeal.nD Cert.InActBIdeal.τ).loc Cert.InActBIdeal.main_arg0)
          ∧ r.2.mem ((c.tc : Thread Cert.InActBIdeal.nD Cert.InActBIdeal.τ).loc Cert.InActBIdeal.main_arg1) = m ((c.tc : Thread Cert.InActBIdeal.nD Cert.InActBIdeal.τ).loc Cert.InActBIdeal.main_arg1)
          ∧ r.2.mem ((c.tc : Thread Cert.InActBIdeal.nD Cert.InActBIdeal.τ).loc Cert.InActBIdeal.main_arg2) = m ((c.tc : Thread Cert.InActBIdeal.nD Cert.InActBIdeal.τ).loc Cert.InActBIdeal.main_arg2)
          ∧ r.2.mem ((c.tc : Thread Cert.InActBIdeal.nD Cert.InActBIdeal.τ).loc Cert.InActBIdeal.main_arg3) = m ((c.tc : Thread Cert.InActBIdeal.nD Cert.InActBIdeal.τ).loc Cert.InActBIdeal.main_arg3)
          ∧ r.2.mem ((c.tc : Thread Cert.InActBIdeal.nD Cert.InActBIdeal.τ).loc Cert.InActBIdeal.main_arg4) = m ((c.tc : Thread Cert.InActBIdeal.nD Cert.InActBIdeal.τ).loc Cert.InActBIdeal.main_arg4)
          ∧ r.2.mem ((c.tc : Thread Cert.InActBIdeal.nD Cert.InActBIdeal.τ).loc Cert.InActBIdeal.main_arg5) = m ((c.tc : Thread Cert.InActBIdeal.nD Cert.InActBIdeal.τ).loc Cert.InActBIdeal.main_arg5)
          ∧ r.2.mem ((c.tc : Thread Cert.InActBIdeal.nD Cert.InActBIdeal.τ).loc Cert.InActBIdeal.main_arg6) = m ((c.tc : Thread Cert.InActBIdeal.nD Cert.InActBIdeal.τ).loc Cert.InActBIdeal.main_arg6)
          ∧ r.2.mem ((c.tc : Thread Cert.InActBIdeal.nD Cert.InActBIdeal.τ).loc Cert.InActBIdeal.main_arg7) = m ((c.tc : Thread Cert.InActBIdeal.nD Cert.InActBIdeal.τ).loc Cert.InActBIdeal.main_arg7))
      ∧ θ_run (Cert.InActBReferenceIdeal.defs (F := Ideal)) (onTc (τ := Cert.InActBReferenceIdeal.τ) (Cert.InActBReferenceIdeal.main (F := Ideal))) ⟨m', fun _ => 0, g'⟩ (fun r => ∀ c : Dev Cert.InActBReferenceIdeal.nD,
          r.2.mem ((c.tc : Thread Cert.InActBReferenceIdeal.nD Cert.InActBReferenceIdeal.τ).loc Cert.InActBReferenceIdeal.main_v18) = v0 c
          ∧ r.2.mem ((c.tc : Thread Cert.InActBReferenceIdeal.nD Cert.InActBReferenceIdeal.τ).loc Cert.InActBReferenceIdeal.main_arg0) = m' ((c.tc : Thread Cert.InActBReferenceIdeal.nD Cert.InActBReferenceIdeal.τ).loc Cert.InActBReferenceIdeal.main_arg0)
          ∧ r.2.mem ((c.tc : Thread Cert.InActBReferenceIdeal.nD Cert.InActBReferenceIdeal.τ).loc Cert.InActBReferenceIdeal.main_arg1) = m' ((c.tc : Thread Cert.InActBReferenceIdeal.nD Cert.InActBReferenceIdeal.τ).loc Cert.InActBReferenceIdeal.main_arg1)
          ∧ r.2.mem ((c.tc : Thread Cert.InActBReferenceIdeal.nD Cert.InActBReferenceIdeal.τ).loc Cert.InActBReferenceIdeal.main_arg2) = m' ((c.tc : Thread Cert.InActBReferenceIdeal.nD Cert.InActBReferenceIdeal.τ).loc Cert.InActBReferenceIdeal.main_arg2)
          ∧ r.2.mem ((c.tc : Thread Cert.InActBReferenceIdeal.nD Cert.InActBReferenceIdeal.τ).loc Cert.InActBReferenceIdeal.main_arg3) = m' ((c.tc : Thread Cert.InActBReferenceIdeal.nD Cert.InActBReferenceIdeal.τ).loc Cert.InActBReferenceIdeal.main_arg3)
          ∧ r.2.mem ((c.tc : Thread Cert.InActBReferenceIdeal.nD Cert.InActBReferenceIdeal.τ).loc Cert.InActBReferenceIdeal.main_arg4) = m' ((c.tc : Thread Cert.InActBReferenceIdeal.nD Cert.InActBReferenceIdeal.τ).loc Cert.InActBReferenceIdeal.main_arg4)
          ∧ r.2.mem ((c.tc : Thread Cert.InActBReferenceIdeal.nD Cert.InActBReferenceIdeal.τ).loc Cert.InActBReferenceIdeal.main_arg5) = m' ((c.tc : Thread Cert.InActBReferenceIdeal.nD Cert.InActBReferenceIdeal.τ).loc Cert.InActBReferenceIdeal.main_arg5)
          ∧ r.2.mem ((c.tc : Thread Cert.InActBReferenceIdeal.nD Cert.InActBReferenceIdeal.τ).loc Cert.InActBReferenceIdeal.main_arg6) = m' ((c.tc : Thread Cert.InActBReferenceIdeal.nD Cert.InActBReferenceIdeal.τ).loc Cert.InActBReferenceIdeal.main_arg6)
          ∧ r.2.mem ((c.tc : Thread Cert.InActBReferenceIdeal.nD Cert.InActBReferenceIdeal.τ).loc Cert.InActBReferenceIdeal.main_arg7) = m' ((c.tc : Thread Cert.InActBReferenceIdeal.nD Cert.InActBReferenceIdeal.τ).loc Cert.InActBReferenceIdeal.main_arg7))

def preserves_InActC_InActCIdeal : Prop :=
  True

def algebraic_InActCIdeal_InActCReferenceIdeal [hInActCIdeal : Cert.InActCIdeal.Facts] [hInActCReferenceIdeal : Cert.InActCReferenceIdeal.Facts] : Prop :=
  ∀ (m : (ℓ : Loc Cert.InActCIdeal.nD Cert.InActCIdeal.τ Cert.InActCIdeal.sig) → Buf (Elt Ideal) ℓ) (g : Dev Cert.InActCIdeal.nD → PrngReg)
    (m' : (ℓ : Loc Cert.InActCReferenceIdeal.nD Cert.InActCReferenceIdeal.τ Cert.InActCReferenceIdeal.sig) → Buf (Elt Ideal) ℓ) (g' : Dev Cert.InActCReferenceIdeal.nD → PrngReg), Pre_InActCIdeal m →
    (∀ c : Dev Cert.InActCIdeal.nD,
      m' ((c.tc : Thread Cert.InActCReferenceIdeal.nD Cert.InActCReferenceIdeal.τ).loc Cert.InActCReferenceIdeal.main_arg0) = m ((c.tc : Thread Cert.InActCIdeal.nD Cert.InActCIdeal.τ).loc Cert.InActCIdeal.main_arg0)
      ∧ m' ((c.tc : Thread Cert.InActCReferenceIdeal.nD Cert.InActCReferenceIdeal.τ).loc Cert.InActCReferenceIdeal.main_arg1) = m ((c.tc : Thread Cert.InActCIdeal.nD Cert.InActCIdeal.τ).loc Cert.InActCIdeal.main_arg1)
      ∧ m' ((c.tc : Thread Cert.InActCReferenceIdeal.nD Cert.InActCReferenceIdeal.τ).loc Cert.InActCReferenceIdeal.main_arg2) = m ((c.tc : Thread Cert.InActCIdeal.nD Cert.InActCIdeal.τ).loc Cert.InActCIdeal.main_arg2)
      ∧ m' ((c.tc : Thread Cert.InActCReferenceIdeal.nD Cert.InActCReferenceIdeal.τ).loc Cert.InActCReferenceIdeal.main_arg3) = m ((c.tc : Thread Cert.InActCIdeal.nD Cert.InActCIdeal.τ).loc Cert.InActCIdeal.main_arg3)
      ∧ m' ((c.tc : Thread Cert.InActCReferenceIdeal.nD Cert.InActCReferenceIdeal.τ).loc Cert.InActCReferenceIdeal.main_arg4) = m ((c.tc : Thread Cert.InActCIdeal.nD Cert.InActCIdeal.τ).loc Cert.InActCIdeal.main_arg4)
      ∧ m' ((c.tc : Thread Cert.InActCReferenceIdeal.nD Cert.InActCReferenceIdeal.τ).loc Cert.InActCReferenceIdeal.main_arg5) = m ((c.tc : Thread Cert.InActCIdeal.nD Cert.InActCIdeal.τ).loc Cert.InActCIdeal.main_arg5)
      ∧ m' ((c.tc : Thread Cert.InActCReferenceIdeal.nD Cert.InActCReferenceIdeal.τ).loc Cert.InActCReferenceIdeal.main_arg6) = m ((c.tc : Thread Cert.InActCIdeal.nD Cert.InActCIdeal.τ).loc Cert.InActCIdeal.main_arg6)
      ∧ m' ((c.tc : Thread Cert.InActCReferenceIdeal.nD Cert.InActCReferenceIdeal.τ).loc Cert.InActCReferenceIdeal.main_arg7) = m ((c.tc : Thread Cert.InActCIdeal.nD Cert.InActCIdeal.τ).loc Cert.InActCIdeal.main_arg7)) →
    ∃ (v0 : (c : Dev Cert.InActCIdeal.nD) → Buf (Elt Ideal) ((c.tc : Thread Cert.InActCIdeal.nD Cert.InActCIdeal.τ).loc Cert.InActCIdeal.main_v0)),
      θ_run (Cert.InActCIdeal.defs (F := Ideal)) (onTc (τ := Cert.InActCIdeal.τ) (Cert.InActCIdeal.main (F := Ideal))) ⟨m, fun _ => 0, g⟩ (fun r => ∀ c : Dev Cert.InActCIdeal.nD,
          r.2.mem ((c.tc : Thread Cert.InActCIdeal.nD Cert.InActCIdeal.τ).loc Cert.InActCIdeal.main_v0) = v0 c
          ∧ r.2.mem ((c.tc : Thread Cert.InActCIdeal.nD Cert.InActCIdeal.τ).loc Cert.InActCIdeal.main_arg0) = m ((c.tc : Thread Cert.InActCIdeal.nD Cert.InActCIdeal.τ).loc Cert.InActCIdeal.main_arg0)
          ∧ r.2.mem ((c.tc : Thread Cert.InActCIdeal.nD Cert.InActCIdeal.τ).loc Cert.InActCIdeal.main_arg1) = m ((c.tc : Thread Cert.InActCIdeal.nD Cert.InActCIdeal.τ).loc Cert.InActCIdeal.main_arg1)
          ∧ r.2.mem ((c.tc : Thread Cert.InActCIdeal.nD Cert.InActCIdeal.τ).loc Cert.InActCIdeal.main_arg2) = m ((c.tc : Thread Cert.InActCIdeal.nD Cert.InActCIdeal.τ).loc Cert.InActCIdeal.main_arg2)
          ∧ r.2.mem ((c.tc : Thread Cert.InActCIdeal.nD Cert.InActCIdeal.τ).loc Cert.InActCIdeal.main_arg3) = m ((c.tc : Thread Cert.InActCIdeal.nD Cert.InActCIdeal.τ).loc Cert.InActCIdeal.main_arg3)
          ∧ r.2.mem ((c.tc : Thread Cert.InActCIdeal.nD Cert.InActCIdeal.τ).loc Cert.InActCIdeal.main_arg4) = m ((c.tc : Thread Cert.InActCIdeal.nD Cert.InActCIdeal.τ).loc Cert.InActCIdeal.main_arg4)
          ∧ r.2.mem ((c.tc : Thread Cert.InActCIdeal.nD Cert.InActCIdeal.τ).loc Cert.InActCIdeal.main_arg5) = m ((c.tc : Thread Cert.InActCIdeal.nD Cert.InActCIdeal.τ).loc Cert.InActCIdeal.main_arg5)
          ∧ r.2.mem ((c.tc : Thread Cert.InActCIdeal.nD Cert.InActCIdeal.τ).loc Cert.InActCIdeal.main_arg6) = m ((c.tc : Thread Cert.InActCIdeal.nD Cert.InActCIdeal.τ).loc Cert.InActCIdeal.main_arg6)
          ∧ r.2.mem ((c.tc : Thread Cert.InActCIdeal.nD Cert.InActCIdeal.τ).loc Cert.InActCIdeal.main_arg7) = m ((c.tc : Thread Cert.InActCIdeal.nD Cert.InActCIdeal.τ).loc Cert.InActCIdeal.main_arg7))
      ∧ θ_run (Cert.InActCReferenceIdeal.defs (F := Ideal)) (onTc (τ := Cert.InActCReferenceIdeal.τ) (Cert.InActCReferenceIdeal.main (F := Ideal))) ⟨m', fun _ => 0, g'⟩ (fun r => ∀ c : Dev Cert.InActCReferenceIdeal.nD,
          r.2.mem ((c.tc : Thread Cert.InActCReferenceIdeal.nD Cert.InActCReferenceIdeal.τ).loc Cert.InActCReferenceIdeal.main_v17) = v0 c
          ∧ r.2.mem ((c.tc : Thread Cert.InActCReferenceIdeal.nD Cert.InActCReferenceIdeal.τ).loc Cert.InActCReferenceIdeal.main_arg0) = m' ((c.tc : Thread Cert.InActCReferenceIdeal.nD Cert.InActCReferenceIdeal.τ).loc Cert.InActCReferenceIdeal.main_arg0)
          ∧ r.2.mem ((c.tc : Thread Cert.InActCReferenceIdeal.nD Cert.InActCReferenceIdeal.τ).loc Cert.InActCReferenceIdeal.main_arg1) = m' ((c.tc : Thread Cert.InActCReferenceIdeal.nD Cert.InActCReferenceIdeal.τ).loc Cert.InActCReferenceIdeal.main_arg1)
          ∧ r.2.mem ((c.tc : Thread Cert.InActCReferenceIdeal.nD Cert.InActCReferenceIdeal.τ).loc Cert.InActCReferenceIdeal.main_arg2) = m' ((c.tc : Thread Cert.InActCReferenceIdeal.nD Cert.InActCReferenceIdeal.τ).loc Cert.InActCReferenceIdeal.main_arg2)
          ∧ r.2.mem ((c.tc : Thread Cert.InActCReferenceIdeal.nD Cert.InActCReferenceIdeal.τ).loc Cert.InActCReferenceIdeal.main_arg3) = m' ((c.tc : Thread Cert.InActCReferenceIdeal.nD Cert.InActCReferenceIdeal.τ).loc Cert.InActCReferenceIdeal.main_arg3)
          ∧ r.2.mem ((c.tc : Thread Cert.InActCReferenceIdeal.nD Cert.InActCReferenceIdeal.τ).loc Cert.InActCReferenceIdeal.main_arg4) = m' ((c.tc : Thread Cert.InActCReferenceIdeal.nD Cert.InActCReferenceIdeal.τ).loc Cert.InActCReferenceIdeal.main_arg4)
          ∧ r.2.mem ((c.tc : Thread Cert.InActCReferenceIdeal.nD Cert.InActCReferenceIdeal.τ).loc Cert.InActCReferenceIdeal.main_arg5) = m' ((c.tc : Thread Cert.InActCReferenceIdeal.nD Cert.InActCReferenceIdeal.τ).loc Cert.InActCReferenceIdeal.main_arg5)
          ∧ r.2.mem ((c.tc : Thread Cert.InActCReferenceIdeal.nD Cert.InActCReferenceIdeal.τ).loc Cert.InActCReferenceIdeal.main_arg6) = m' ((c.tc : Thread Cert.InActCReferenceIdeal.nD Cert.InActCReferenceIdeal.τ).loc Cert.InActCReferenceIdeal.main_arg6)
          ∧ r.2.mem ((c.tc : Thread Cert.InActCReferenceIdeal.nD Cert.InActCReferenceIdeal.τ).loc Cert.InActCReferenceIdeal.main_arg7) = m' ((c.tc : Thread Cert.InActCReferenceIdeal.nD Cert.InActCReferenceIdeal.τ).loc Cert.InActCReferenceIdeal.main_arg7))

def preserves_InActD_InActDIdeal : Prop :=
  True

def algebraic_InActDIdeal_InActDReferenceIdeal [hInActDIdeal : Cert.InActDIdeal.Facts] [hInActDReferenceIdeal : Cert.InActDReferenceIdeal.Facts] : Prop :=
  ∀ (m : (ℓ : Loc Cert.InActDIdeal.nD Cert.InActDIdeal.τ Cert.InActDIdeal.sig) → Buf (Elt Ideal) ℓ) (g : Dev Cert.InActDIdeal.nD → PrngReg)
    (m' : (ℓ : Loc Cert.InActDReferenceIdeal.nD Cert.InActDReferenceIdeal.τ Cert.InActDReferenceIdeal.sig) → Buf (Elt Ideal) ℓ) (g' : Dev Cert.InActDReferenceIdeal.nD → PrngReg), Pre_InActDIdeal m →
    (∀ c : Dev Cert.InActDIdeal.nD,
      m' ((c.tc : Thread Cert.InActDReferenceIdeal.nD Cert.InActDReferenceIdeal.τ).loc Cert.InActDReferenceIdeal.main_arg0) = m ((c.tc : Thread Cert.InActDIdeal.nD Cert.InActDIdeal.τ).loc Cert.InActDIdeal.main_arg0)
      ∧ m' ((c.tc : Thread Cert.InActDReferenceIdeal.nD Cert.InActDReferenceIdeal.τ).loc Cert.InActDReferenceIdeal.main_arg1) = m ((c.tc : Thread Cert.InActDIdeal.nD Cert.InActDIdeal.τ).loc Cert.InActDIdeal.main_arg1)
      ∧ m' ((c.tc : Thread Cert.InActDReferenceIdeal.nD Cert.InActDReferenceIdeal.τ).loc Cert.InActDReferenceIdeal.main_arg2) = m ((c.tc : Thread Cert.InActDIdeal.nD Cert.InActDIdeal.τ).loc Cert.InActDIdeal.main_arg2)
      ∧ m' ((c.tc : Thread Cert.InActDReferenceIdeal.nD Cert.InActDReferenceIdeal.τ).loc Cert.InActDReferenceIdeal.main_arg3) = m ((c.tc : Thread Cert.InActDIdeal.nD Cert.InActDIdeal.τ).loc Cert.InActDIdeal.main_arg3)
      ∧ m' ((c.tc : Thread Cert.InActDReferenceIdeal.nD Cert.InActDReferenceIdeal.τ).loc Cert.InActDReferenceIdeal.main_arg4) = m ((c.tc : Thread Cert.InActDIdeal.nD Cert.InActDIdeal.τ).loc Cert.InActDIdeal.main_arg4)
      ∧ m' ((c.tc : Thread Cert.InActDReferenceIdeal.nD Cert.InActDReferenceIdeal.τ).loc Cert.InActDReferenceIdeal.main_arg5) = m ((c.tc : Thread Cert.InActDIdeal.nD Cert.InActDIdeal.τ).loc Cert.InActDIdeal.main_arg5)
      ∧ m' ((c.tc : Thread Cert.InActDReferenceIdeal.nD Cert.InActDReferenceIdeal.τ).loc Cert.InActDReferenceIdeal.main_arg6) = m ((c.tc : Thread Cert.InActDIdeal.nD Cert.InActDIdeal.τ).loc Cert.InActDIdeal.main_arg6)
      ∧ m' ((c.tc : Thread Cert.InActDReferenceIdeal.nD Cert.InActDReferenceIdeal.τ).loc Cert.InActDReferenceIdeal.main_arg7) = m ((c.tc : Thread Cert.InActDIdeal.nD Cert.InActDIdeal.τ).loc Cert.InActDIdeal.main_arg7)
      ∧ m' ((c.tc : Thread Cert.InActDReferenceIdeal.nD Cert.InActDReferenceIdeal.τ).loc Cert.InActDReferenceIdeal.main_arg8) = m ((c.tc : Thread Cert.InActDIdeal.nD Cert.InActDIdeal.τ).loc Cert.InActDIdeal.main_arg8)
      ∧ m' ((c.tc : Thread Cert.InActDReferenceIdeal.nD Cert.InActDReferenceIdeal.τ).loc Cert.InActDReferenceIdeal.main_arg9) = m ((c.tc : Thread Cert.InActDIdeal.nD Cert.InActDIdeal.τ).loc Cert.InActDIdeal.main_arg9)) →
    ∃ (v0 : (c : Dev Cert.InActDIdeal.nD) → Buf (Elt Ideal) ((c.tc : Thread Cert.InActDIdeal.nD Cert.InActDIdeal.τ).loc Cert.InActDIdeal.main_v0)),
      θ_run (Cert.InActDIdeal.defs (F := Ideal)) (onTc (τ := Cert.InActDIdeal.τ) (Cert.InActDIdeal.main (F := Ideal))) ⟨m, fun _ => 0, g⟩ (fun r => ∀ c : Dev Cert.InActDIdeal.nD,
          r.2.mem ((c.tc : Thread Cert.InActDIdeal.nD Cert.InActDIdeal.τ).loc Cert.InActDIdeal.main_v0) = v0 c
          ∧ r.2.mem ((c.tc : Thread Cert.InActDIdeal.nD Cert.InActDIdeal.τ).loc Cert.InActDIdeal.main_arg0) = m ((c.tc : Thread Cert.InActDIdeal.nD Cert.InActDIdeal.τ).loc Cert.InActDIdeal.main_arg0)
          ∧ r.2.mem ((c.tc : Thread Cert.InActDIdeal.nD Cert.InActDIdeal.τ).loc Cert.InActDIdeal.main_arg1) = m ((c.tc : Thread Cert.InActDIdeal.nD Cert.InActDIdeal.τ).loc Cert.InActDIdeal.main_arg1)
          ∧ r.2.mem ((c.tc : Thread Cert.InActDIdeal.nD Cert.InActDIdeal.τ).loc Cert.InActDIdeal.main_arg2) = m ((c.tc : Thread Cert.InActDIdeal.nD Cert.InActDIdeal.τ).loc Cert.InActDIdeal.main_arg2)
          ∧ r.2.mem ((c.tc : Thread Cert.InActDIdeal.nD Cert.InActDIdeal.τ).loc Cert.InActDIdeal.main_arg3) = m ((c.tc : Thread Cert.InActDIdeal.nD Cert.InActDIdeal.τ).loc Cert.InActDIdeal.main_arg3)
          ∧ r.2.mem ((c.tc : Thread Cert.InActDIdeal.nD Cert.InActDIdeal.τ).loc Cert.InActDIdeal.main_arg4) = m ((c.tc : Thread Cert.InActDIdeal.nD Cert.InActDIdeal.τ).loc Cert.InActDIdeal.main_arg4)
          ∧ r.2.mem ((c.tc : Thread Cert.InActDIdeal.nD Cert.InActDIdeal.τ).loc Cert.InActDIdeal.main_arg5) = m ((c.tc : Thread Cert.InActDIdeal.nD Cert.InActDIdeal.τ).loc Cert.InActDIdeal.main_arg5)
          ∧ r.2.mem ((c.tc : Thread Cert.InActDIdeal.nD Cert.InActDIdeal.τ).loc Cert.InActDIdeal.main_arg6) = m ((c.tc : Thread Cert.InActDIdeal.nD Cert.InActDIdeal.τ).loc Cert.InActDIdeal.main_arg6)
          ∧ r.2.mem ((c.tc : Thread Cert.InActDIdeal.nD Cert.InActDIdeal.τ).loc Cert.InActDIdeal.main_arg7) = m ((c.tc : Thread Cert.InActDIdeal.nD Cert.InActDIdeal.τ).loc Cert.InActDIdeal.main_arg7)
          ∧ r.2.mem ((c.tc : Thread Cert.InActDIdeal.nD Cert.InActDIdeal.τ).loc Cert.InActDIdeal.main_arg8) = m ((c.tc : Thread Cert.InActDIdeal.nD Cert.InActDIdeal.τ).loc Cert.InActDIdeal.main_arg8)
          ∧ r.2.mem ((c.tc : Thread Cert.InActDIdeal.nD Cert.InActDIdeal.τ).loc Cert.InActDIdeal.main_arg9) = m ((c.tc : Thread Cert.InActDIdeal.nD Cert.InActDIdeal.τ).loc Cert.InActDIdeal.main_arg9))
      ∧ θ_run (Cert.InActDReferenceIdeal.defs (F := Ideal)) (onTc (τ := Cert.InActDReferenceIdeal.τ) (Cert.InActDReferenceIdeal.main (F := Ideal))) ⟨m', fun _ => 0, g'⟩ (fun r => ∀ c : Dev Cert.InActDReferenceIdeal.nD,
          r.2.mem ((c.tc : Thread Cert.InActDReferenceIdeal.nD Cert.InActDReferenceIdeal.τ).loc Cert.InActDReferenceIdeal.main_v22) = v0 c
          ∧ r.2.mem ((c.tc : Thread Cert.InActDReferenceIdeal.nD Cert.InActDReferenceIdeal.τ).loc Cert.InActDReferenceIdeal.main_arg0) = m' ((c.tc : Thread Cert.InActDReferenceIdeal.nD Cert.InActDReferenceIdeal.τ).loc Cert.InActDReferenceIdeal.main_arg0)
          ∧ r.2.mem ((c.tc : Thread Cert.InActDReferenceIdeal.nD Cert.InActDReferenceIdeal.τ).loc Cert.InActDReferenceIdeal.main_arg1) = m' ((c.tc : Thread Cert.InActDReferenceIdeal.nD Cert.InActDReferenceIdeal.τ).loc Cert.InActDReferenceIdeal.main_arg1)
          ∧ r.2.mem ((c.tc : Thread Cert.InActDReferenceIdeal.nD Cert.InActDReferenceIdeal.τ).loc Cert.InActDReferenceIdeal.main_arg2) = m' ((c.tc : Thread Cert.InActDReferenceIdeal.nD Cert.InActDReferenceIdeal.τ).loc Cert.InActDReferenceIdeal.main_arg2)
          ∧ r.2.mem ((c.tc : Thread Cert.InActDReferenceIdeal.nD Cert.InActDReferenceIdeal.τ).loc Cert.InActDReferenceIdeal.main_arg3) = m' ((c.tc : Thread Cert.InActDReferenceIdeal.nD Cert.InActDReferenceIdeal.τ).loc Cert.InActDReferenceIdeal.main_arg3)
          ∧ r.2.mem ((c.tc : Thread Cert.InActDReferenceIdeal.nD Cert.InActDReferenceIdeal.τ).loc Cert.InActDReferenceIdeal.main_arg4) = m' ((c.tc : Thread Cert.InActDReferenceIdeal.nD Cert.InActDReferenceIdeal.τ).loc Cert.InActDReferenceIdeal.main_arg4)
          ∧ r.2.mem ((c.tc : Thread Cert.InActDReferenceIdeal.nD Cert.InActDReferenceIdeal.τ).loc Cert.InActDReferenceIdeal.main_arg5) = m' ((c.tc : Thread Cert.InActDReferenceIdeal.nD Cert.InActDReferenceIdeal.τ).loc Cert.InActDReferenceIdeal.main_arg5)
          ∧ r.2.mem ((c.tc : Thread Cert.InActDReferenceIdeal.nD Cert.InActDReferenceIdeal.τ).loc Cert.InActDReferenceIdeal.main_arg6) = m' ((c.tc : Thread Cert.InActDReferenceIdeal.nD Cert.InActDReferenceIdeal.τ).loc Cert.InActDReferenceIdeal.main_arg6)
          ∧ r.2.mem ((c.tc : Thread Cert.InActDReferenceIdeal.nD Cert.InActDReferenceIdeal.τ).loc Cert.InActDReferenceIdeal.main_arg7) = m' ((c.tc : Thread Cert.InActDReferenceIdeal.nD Cert.InActDReferenceIdeal.τ).loc Cert.InActDReferenceIdeal.main_arg7)
          ∧ r.2.mem ((c.tc : Thread Cert.InActDReferenceIdeal.nD Cert.InActDReferenceIdeal.τ).loc Cert.InActDReferenceIdeal.main_arg8) = m' ((c.tc : Thread Cert.InActDReferenceIdeal.nD Cert.InActDReferenceIdeal.τ).loc Cert.InActDReferenceIdeal.main_arg8)
          ∧ r.2.mem ((c.tc : Thread Cert.InActDReferenceIdeal.nD Cert.InActDReferenceIdeal.τ).loc Cert.InActDReferenceIdeal.main_arg9) = m' ((c.tc : Thread Cert.InActDReferenceIdeal.nD Cert.InActDReferenceIdeal.τ).loc Cert.InActDReferenceIdeal.main_arg9))

def preserves_InWeightQ_InWeightQIdeal : Prop :=
  True

def algebraic_InWeightQIdeal_InWeightQReferenceIdeal [hInWeightQIdeal : Cert.InWeightQIdeal.Facts] [hInWeightQReferenceIdeal : Cert.InWeightQReferenceIdeal.Facts] : Prop :=
  ∀ (m : (ℓ : Loc Cert.InWeightQIdeal.nD Cert.InWeightQIdeal.τ Cert.InWeightQIdeal.sig) → Buf (Elt Ideal) ℓ) (g : Dev Cert.InWeightQIdeal.nD → PrngReg)
    (m' : (ℓ : Loc Cert.InWeightQReferenceIdeal.nD Cert.InWeightQReferenceIdeal.τ Cert.InWeightQReferenceIdeal.sig) → Buf (Elt Ideal) ℓ) (g' : Dev Cert.InWeightQReferenceIdeal.nD → PrngReg), Pre_InWeightQIdeal m →
    (∀ c : Dev Cert.InWeightQIdeal.nD,
      m' ((c.tc : Thread Cert.InWeightQReferenceIdeal.nD Cert.InWeightQReferenceIdeal.τ).loc Cert.InWeightQReferenceIdeal.main_arg0) = m ((c.tc : Thread Cert.InWeightQIdeal.nD Cert.InWeightQIdeal.τ).loc Cert.InWeightQIdeal.main_arg0)
      ∧ m' ((c.tc : Thread Cert.InWeightQReferenceIdeal.nD Cert.InWeightQReferenceIdeal.τ).loc Cert.InWeightQReferenceIdeal.main_arg1) = m ((c.tc : Thread Cert.InWeightQIdeal.nD Cert.InWeightQIdeal.τ).loc Cert.InWeightQIdeal.main_arg1)) →
    ∃ (v0 : (c : Dev Cert.InWeightQIdeal.nD) → Buf (Elt Ideal) ((c.tc : Thread Cert.InWeightQIdeal.nD Cert.InWeightQIdeal.τ).loc Cert.InWeightQIdeal.main_v0)),
      θ_run (Cert.InWeightQIdeal.defs (F := Ideal)) (onTc (τ := Cert.InWeightQIdeal.τ) (Cert.InWeightQIdeal.main (F := Ideal))) ⟨m, fun _ => 0, g⟩ (fun r => ∀ c : Dev Cert.InWeightQIdeal.nD,
          r.2.mem ((c.tc : Thread Cert.InWeightQIdeal.nD Cert.InWeightQIdeal.τ).loc Cert.InWeightQIdeal.main_v0) = v0 c
          ∧ r.2.mem ((c.tc : Thread Cert.InWeightQIdeal.nD Cert.InWeightQIdeal.τ).loc Cert.InWeightQIdeal.main_arg0) = m ((c.tc : Thread Cert.InWeightQIdeal.nD Cert.InWeightQIdeal.τ).loc Cert.InWeightQIdeal.main_arg0)
          ∧ r.2.mem ((c.tc : Thread Cert.InWeightQIdeal.nD Cert.InWeightQIdeal.τ).loc Cert.InWeightQIdeal.main_arg1) = m ((c.tc : Thread Cert.InWeightQIdeal.nD Cert.InWeightQIdeal.τ).loc Cert.InWeightQIdeal.main_arg1))
      ∧ θ_run (Cert.InWeightQReferenceIdeal.defs (F := Ideal)) (onTc (τ := Cert.InWeightQReferenceIdeal.τ) (Cert.InWeightQReferenceIdeal.main (F := Ideal))) ⟨m', fun _ => 0, g'⟩ (fun r => ∀ c : Dev Cert.InWeightQReferenceIdeal.nD,
          r.2.mem ((c.tc : Thread Cert.InWeightQReferenceIdeal.nD Cert.InWeightQReferenceIdeal.τ).loc Cert.InWeightQReferenceIdeal.main_v5) = v0 c
          ∧ r.2.mem ((c.tc : Thread Cert.InWeightQReferenceIdeal.nD Cert.InWeightQReferenceIdeal.τ).loc Cert.InWeightQReferenceIdeal.main_arg0) = m' ((c.tc : Thread Cert.InWeightQReferenceIdeal.nD Cert.InWeightQReferenceIdeal.τ).loc Cert.InWeightQReferenceIdeal.main_arg0)
          ∧ r.2.mem ((c.tc : Thread Cert.InWeightQReferenceIdeal.nD Cert.InWeightQReferenceIdeal.τ).loc Cert.InWeightQReferenceIdeal.main_arg1) = m' ((c.tc : Thread Cert.InWeightQReferenceIdeal.nD Cert.InWeightQReferenceIdeal.τ).loc Cert.InWeightQReferenceIdeal.main_arg1))

def preserves_InWeightV_InWeightVIdeal : Prop :=
  True

def algebraic_InWeightVIdeal_InWeightVReferenceIdeal [hInWeightVIdeal : Cert.InWeightVIdeal.Facts] [hInWeightVReferenceIdeal : Cert.InWeightVReferenceIdeal.Facts] : Prop :=
  ∀ (m : (ℓ : Loc Cert.InWeightVIdeal.nD Cert.InWeightVIdeal.τ Cert.InWeightVIdeal.sig) → Buf (Elt Ideal) ℓ) (g : Dev Cert.InWeightVIdeal.nD → PrngReg)
    (m' : (ℓ : Loc Cert.InWeightVReferenceIdeal.nD Cert.InWeightVReferenceIdeal.τ Cert.InWeightVReferenceIdeal.sig) → Buf (Elt Ideal) ℓ) (g' : Dev Cert.InWeightVReferenceIdeal.nD → PrngReg), Pre_InWeightVIdeal m →
    (∀ c : Dev Cert.InWeightVIdeal.nD,
      m' ((c.tc : Thread Cert.InWeightVReferenceIdeal.nD Cert.InWeightVReferenceIdeal.τ).loc Cert.InWeightVReferenceIdeal.main_arg0) = m ((c.tc : Thread Cert.InWeightVIdeal.nD Cert.InWeightVIdeal.τ).loc Cert.InWeightVIdeal.main_arg0)
      ∧ m' ((c.tc : Thread Cert.InWeightVReferenceIdeal.nD Cert.InWeightVReferenceIdeal.τ).loc Cert.InWeightVReferenceIdeal.main_arg1) = m ((c.tc : Thread Cert.InWeightVIdeal.nD Cert.InWeightVIdeal.τ).loc Cert.InWeightVIdeal.main_arg1)) →
    ∃ (v0 : (c : Dev Cert.InWeightVIdeal.nD) → Buf (Elt Ideal) ((c.tc : Thread Cert.InWeightVIdeal.nD Cert.InWeightVIdeal.τ).loc Cert.InWeightVIdeal.main_v0)),
      θ_run (Cert.InWeightVIdeal.defs (F := Ideal)) (onTc (τ := Cert.InWeightVIdeal.τ) (Cert.InWeightVIdeal.main (F := Ideal))) ⟨m, fun _ => 0, g⟩ (fun r => ∀ c : Dev Cert.InWeightVIdeal.nD,
          r.2.mem ((c.tc : Thread Cert.InWeightVIdeal.nD Cert.InWeightVIdeal.τ).loc Cert.InWeightVIdeal.main_v0) = v0 c
          ∧ r.2.mem ((c.tc : Thread Cert.InWeightVIdeal.nD Cert.InWeightVIdeal.τ).loc Cert.InWeightVIdeal.main_arg0) = m ((c.tc : Thread Cert.InWeightVIdeal.nD Cert.InWeightVIdeal.τ).loc Cert.InWeightVIdeal.main_arg0)
          ∧ r.2.mem ((c.tc : Thread Cert.InWeightVIdeal.nD Cert.InWeightVIdeal.τ).loc Cert.InWeightVIdeal.main_arg1) = m ((c.tc : Thread Cert.InWeightVIdeal.nD Cert.InWeightVIdeal.τ).loc Cert.InWeightVIdeal.main_arg1))
      ∧ θ_run (Cert.InWeightVReferenceIdeal.defs (F := Ideal)) (onTc (τ := Cert.InWeightVReferenceIdeal.τ) (Cert.InWeightVReferenceIdeal.main (F := Ideal))) ⟨m', fun _ => 0, g'⟩ (fun r => ∀ c : Dev Cert.InWeightVReferenceIdeal.nD,
          r.2.mem ((c.tc : Thread Cert.InWeightVReferenceIdeal.nD Cert.InWeightVReferenceIdeal.τ).loc Cert.InWeightVReferenceIdeal.main_v4) = v0 c
          ∧ r.2.mem ((c.tc : Thread Cert.InWeightVReferenceIdeal.nD Cert.InWeightVReferenceIdeal.τ).loc Cert.InWeightVReferenceIdeal.main_arg0) = m' ((c.tc : Thread Cert.InWeightVReferenceIdeal.nD Cert.InWeightVReferenceIdeal.τ).loc Cert.InWeightVReferenceIdeal.main_arg0)
          ∧ r.2.mem ((c.tc : Thread Cert.InWeightVReferenceIdeal.nD Cert.InWeightVReferenceIdeal.τ).loc Cert.InWeightVReferenceIdeal.main_arg1) = m' ((c.tc : Thread Cert.InWeightVReferenceIdeal.nD Cert.InWeightVReferenceIdeal.τ).loc Cert.InWeightVReferenceIdeal.main_arg1))

def preserves_InWeightF_InWeightFIdeal : Prop :=
  True

def algebraic_InWeightFIdeal_InWeightFReferenceIdeal [hInWeightFIdeal : Cert.InWeightFIdeal.Facts] [hInWeightFReferenceIdeal : Cert.InWeightFReferenceIdeal.Facts] : Prop :=
  ∀ (m : (ℓ : Loc Cert.InWeightFIdeal.nD Cert.InWeightFIdeal.τ Cert.InWeightFIdeal.sig) → Buf (Elt Ideal) ℓ) (g : Dev Cert.InWeightFIdeal.nD → PrngReg)
    (m' : (ℓ : Loc Cert.InWeightFReferenceIdeal.nD Cert.InWeightFReferenceIdeal.τ Cert.InWeightFReferenceIdeal.sig) → Buf (Elt Ideal) ℓ) (g' : Dev Cert.InWeightFReferenceIdeal.nD → PrngReg), Pre_InWeightFIdeal m →
    (∀ c : Dev Cert.InWeightFIdeal.nD,
      m' ((c.tc : Thread Cert.InWeightFReferenceIdeal.nD Cert.InWeightFReferenceIdeal.τ).loc Cert.InWeightFReferenceIdeal.main_arg0) = m ((c.tc : Thread Cert.InWeightFIdeal.nD Cert.InWeightFIdeal.τ).loc Cert.InWeightFIdeal.main_arg0)
      ∧ m' ((c.tc : Thread Cert.InWeightFReferenceIdeal.nD Cert.InWeightFReferenceIdeal.τ).loc Cert.InWeightFReferenceIdeal.main_arg1) = m ((c.tc : Thread Cert.InWeightFIdeal.nD Cert.InWeightFIdeal.τ).loc Cert.InWeightFIdeal.main_arg1)) →
    ∃ (v0 : (c : Dev Cert.InWeightFIdeal.nD) → Buf (Elt Ideal) ((c.tc : Thread Cert.InWeightFIdeal.nD Cert.InWeightFIdeal.τ).loc Cert.InWeightFIdeal.main_v0)),
      θ_run (Cert.InWeightFIdeal.defs (F := Ideal)) (onTc (τ := Cert.InWeightFIdeal.τ) (Cert.InWeightFIdeal.main (F := Ideal))) ⟨m, fun _ => 0, g⟩ (fun r => ∀ c : Dev Cert.InWeightFIdeal.nD,
          r.2.mem ((c.tc : Thread Cert.InWeightFIdeal.nD Cert.InWeightFIdeal.τ).loc Cert.InWeightFIdeal.main_v0) = v0 c
          ∧ r.2.mem ((c.tc : Thread Cert.InWeightFIdeal.nD Cert.InWeightFIdeal.τ).loc Cert.InWeightFIdeal.main_arg0) = m ((c.tc : Thread Cert.InWeightFIdeal.nD Cert.InWeightFIdeal.τ).loc Cert.InWeightFIdeal.main_arg0)
          ∧ r.2.mem ((c.tc : Thread Cert.InWeightFIdeal.nD Cert.InWeightFIdeal.τ).loc Cert.InWeightFIdeal.main_arg1) = m ((c.tc : Thread Cert.InWeightFIdeal.nD Cert.InWeightFIdeal.τ).loc Cert.InWeightFIdeal.main_arg1))
      ∧ θ_run (Cert.InWeightFReferenceIdeal.defs (F := Ideal)) (onTc (τ := Cert.InWeightFReferenceIdeal.τ) (Cert.InWeightFReferenceIdeal.main (F := Ideal))) ⟨m', fun _ => 0, g'⟩ (fun r => ∀ c : Dev Cert.InWeightFReferenceIdeal.nD,
          r.2.mem ((c.tc : Thread Cert.InWeightFReferenceIdeal.nD Cert.InWeightFReferenceIdeal.τ).loc Cert.InWeightFReferenceIdeal.main_v5) = v0 c
          ∧ r.2.mem ((c.tc : Thread Cert.InWeightFReferenceIdeal.nD Cert.InWeightFReferenceIdeal.τ).loc Cert.InWeightFReferenceIdeal.main_arg0) = m' ((c.tc : Thread Cert.InWeightFReferenceIdeal.nD Cert.InWeightFReferenceIdeal.τ).loc Cert.InWeightFReferenceIdeal.main_arg0)
          ∧ r.2.mem ((c.tc : Thread Cert.InWeightFReferenceIdeal.nD Cert.InWeightFReferenceIdeal.τ).loc Cert.InWeightFReferenceIdeal.main_arg1) = m' ((c.tc : Thread Cert.InWeightFReferenceIdeal.nD Cert.InWeightFReferenceIdeal.τ).loc Cert.InWeightFReferenceIdeal.main_arg1))

def preserves_InWeightI_InWeightIIdeal : Prop :=
  True

def algebraic_InWeightIIdeal_InWeightIReferenceIdeal [hInWeightIIdeal : Cert.InWeightIIdeal.Facts] [hInWeightIReferenceIdeal : Cert.InWeightIReferenceIdeal.Facts] : Prop :=
  ∀ (m : (ℓ : Loc Cert.InWeightIIdeal.nD Cert.InWeightIIdeal.τ Cert.InWeightIIdeal.sig) → Buf (Elt Ideal) ℓ) (g : Dev Cert.InWeightIIdeal.nD → PrngReg)
    (m' : (ℓ : Loc Cert.InWeightIReferenceIdeal.nD Cert.InWeightIReferenceIdeal.τ Cert.InWeightIReferenceIdeal.sig) → Buf (Elt Ideal) ℓ) (g' : Dev Cert.InWeightIReferenceIdeal.nD → PrngReg), Pre_InWeightIIdeal m →
    (∀ c : Dev Cert.InWeightIIdeal.nD,
      m' ((c.tc : Thread Cert.InWeightIReferenceIdeal.nD Cert.InWeightIReferenceIdeal.τ).loc Cert.InWeightIReferenceIdeal.main_arg0) = m ((c.tc : Thread Cert.InWeightIIdeal.nD Cert.InWeightIIdeal.τ).loc Cert.InWeightIIdeal.main_arg0)
      ∧ m' ((c.tc : Thread Cert.InWeightIReferenceIdeal.nD Cert.InWeightIReferenceIdeal.τ).loc Cert.InWeightIReferenceIdeal.main_arg1) = m ((c.tc : Thread Cert.InWeightIIdeal.nD Cert.InWeightIIdeal.τ).loc Cert.InWeightIIdeal.main_arg1)) →
    ∃ (v0 : (c : Dev Cert.InWeightIIdeal.nD) → Buf (Elt Ideal) ((c.tc : Thread Cert.InWeightIIdeal.nD Cert.InWeightIIdeal.τ).loc Cert.InWeightIIdeal.main_v0)),
      θ_run (Cert.InWeightIIdeal.defs (F := Ideal)) (onTc (τ := Cert.InWeightIIdeal.τ) (Cert.InWeightIIdeal.main (F := Ideal))) ⟨m, fun _ => 0, g⟩ (fun r => ∀ c : Dev Cert.InWeightIIdeal.nD,
          r.2.mem ((c.tc : Thread Cert.InWeightIIdeal.nD Cert.InWeightIIdeal.τ).loc Cert.InWeightIIdeal.main_v0) = v0 c
          ∧ r.2.mem ((c.tc : Thread Cert.InWeightIIdeal.nD Cert.InWeightIIdeal.τ).loc Cert.InWeightIIdeal.main_arg0) = m ((c.tc : Thread Cert.InWeightIIdeal.nD Cert.InWeightIIdeal.τ).loc Cert.InWeightIIdeal.main_arg0)
          ∧ r.2.mem ((c.tc : Thread Cert.InWeightIIdeal.nD Cert.InWeightIIdeal.τ).loc Cert.InWeightIIdeal.main_arg1) = m ((c.tc : Thread Cert.InWeightIIdeal.nD Cert.InWeightIIdeal.τ).loc Cert.InWeightIIdeal.main_arg1))
      ∧ θ_run (Cert.InWeightIReferenceIdeal.defs (F := Ideal)) (onTc (τ := Cert.InWeightIReferenceIdeal.τ) (Cert.InWeightIReferenceIdeal.main (F := Ideal))) ⟨m', fun _ => 0, g'⟩ (fun r => ∀ c : Dev Cert.InWeightIReferenceIdeal.nD,
          r.2.mem ((c.tc : Thread Cert.InWeightIReferenceIdeal.nD Cert.InWeightIReferenceIdeal.τ).loc Cert.InWeightIReferenceIdeal.main_v4) = v0 c
          ∧ r.2.mem ((c.tc : Thread Cert.InWeightIReferenceIdeal.nD Cert.InWeightIReferenceIdeal.τ).loc Cert.InWeightIReferenceIdeal.main_arg0) = m' ((c.tc : Thread Cert.InWeightIReferenceIdeal.nD Cert.InWeightIReferenceIdeal.τ).loc Cert.InWeightIReferenceIdeal.main_arg0)
          ∧ r.2.mem ((c.tc : Thread Cert.InWeightIReferenceIdeal.nD Cert.InWeightIReferenceIdeal.τ).loc Cert.InWeightIReferenceIdeal.main_arg1) = m' ((c.tc : Thread Cert.InWeightIReferenceIdeal.nD Cert.InWeightIReferenceIdeal.τ).loc Cert.InWeightIReferenceIdeal.main_arg1))

def preserves_InWeightX_InWeightXIdeal : Prop :=
  True

def algebraic_InWeightXIdeal_InWeightXReferenceIdeal [hInWeightXIdeal : Cert.InWeightXIdeal.Facts] [hInWeightXReferenceIdeal : Cert.InWeightXReferenceIdeal.Facts] : Prop :=
  ∀ (m : (ℓ : Loc Cert.InWeightXIdeal.nD Cert.InWeightXIdeal.τ Cert.InWeightXIdeal.sig) → Buf (Elt Ideal) ℓ) (g : Dev Cert.InWeightXIdeal.nD → PrngReg)
    (m' : (ℓ : Loc Cert.InWeightXReferenceIdeal.nD Cert.InWeightXReferenceIdeal.τ Cert.InWeightXReferenceIdeal.sig) → Buf (Elt Ideal) ℓ) (g' : Dev Cert.InWeightXReferenceIdeal.nD → PrngReg), Pre_InWeightXIdeal m →
    (∀ c : Dev Cert.InWeightXIdeal.nD,
      m' ((c.tc : Thread Cert.InWeightXReferenceIdeal.nD Cert.InWeightXReferenceIdeal.τ).loc Cert.InWeightXReferenceIdeal.main_arg0) = m ((c.tc : Thread Cert.InWeightXIdeal.nD Cert.InWeightXIdeal.τ).loc Cert.InWeightXIdeal.main_arg0)
      ∧ m' ((c.tc : Thread Cert.InWeightXReferenceIdeal.nD Cert.InWeightXReferenceIdeal.τ).loc Cert.InWeightXReferenceIdeal.main_arg1) = m ((c.tc : Thread Cert.InWeightXIdeal.nD Cert.InWeightXIdeal.τ).loc Cert.InWeightXIdeal.main_arg1)) →
    ∃ (v0 : (c : Dev Cert.InWeightXIdeal.nD) → Buf (Elt Ideal) ((c.tc : Thread Cert.InWeightXIdeal.nD Cert.InWeightXIdeal.τ).loc Cert.InWeightXIdeal.main_v0)),
      θ_run (Cert.InWeightXIdeal.defs (F := Ideal)) (onTc (τ := Cert.InWeightXIdeal.τ) (Cert.InWeightXIdeal.main (F := Ideal))) ⟨m, fun _ => 0, g⟩ (fun r => ∀ c : Dev Cert.InWeightXIdeal.nD,
          r.2.mem ((c.tc : Thread Cert.InWeightXIdeal.nD Cert.InWeightXIdeal.τ).loc Cert.InWeightXIdeal.main_v0) = v0 c
          ∧ r.2.mem ((c.tc : Thread Cert.InWeightXIdeal.nD Cert.InWeightXIdeal.τ).loc Cert.InWeightXIdeal.main_arg0) = m ((c.tc : Thread Cert.InWeightXIdeal.nD Cert.InWeightXIdeal.τ).loc Cert.InWeightXIdeal.main_arg0)
          ∧ r.2.mem ((c.tc : Thread Cert.InWeightXIdeal.nD Cert.InWeightXIdeal.τ).loc Cert.InWeightXIdeal.main_arg1) = m ((c.tc : Thread Cert.InWeightXIdeal.nD Cert.InWeightXIdeal.τ).loc Cert.InWeightXIdeal.main_arg1))
      ∧ θ_run (Cert.InWeightXReferenceIdeal.defs (F := Ideal)) (onTc (τ := Cert.InWeightXReferenceIdeal.τ) (Cert.InWeightXReferenceIdeal.main (F := Ideal))) ⟨m', fun _ => 0, g'⟩ (fun r => ∀ c : Dev Cert.InWeightXReferenceIdeal.nD,
          r.2.mem ((c.tc : Thread Cert.InWeightXReferenceIdeal.nD Cert.InWeightXReferenceIdeal.τ).loc Cert.InWeightXReferenceIdeal.main_v5) = v0 c
          ∧ r.2.mem ((c.tc : Thread Cert.InWeightXReferenceIdeal.nD Cert.InWeightXReferenceIdeal.τ).loc Cert.InWeightXReferenceIdeal.main_arg0) = m' ((c.tc : Thread Cert.InWeightXReferenceIdeal.nD Cert.InWeightXReferenceIdeal.τ).loc Cert.InWeightXReferenceIdeal.main_arg0)
          ∧ r.2.mem ((c.tc : Thread Cert.InWeightXReferenceIdeal.nD Cert.InWeightXReferenceIdeal.τ).loc Cert.InWeightXReferenceIdeal.main_arg1) = m' ((c.tc : Thread Cert.InWeightXReferenceIdeal.nD Cert.InWeightXReferenceIdeal.τ).loc Cert.InWeightXReferenceIdeal.main_arg1))

def preserves_InWeightK_InWeightKIdeal : Prop :=
  True

def algebraic_InWeightKIdeal_InWeightKReferenceIdeal [hInWeightKIdeal : Cert.InWeightKIdeal.Facts] [hInWeightKReferenceIdeal : Cert.InWeightKReferenceIdeal.Facts] : Prop :=
  ∀ (m : (ℓ : Loc Cert.InWeightKIdeal.nD Cert.InWeightKIdeal.τ Cert.InWeightKIdeal.sig) → Buf (Elt Ideal) ℓ) (g : Dev Cert.InWeightKIdeal.nD → PrngReg)
    (m' : (ℓ : Loc Cert.InWeightKReferenceIdeal.nD Cert.InWeightKReferenceIdeal.τ Cert.InWeightKReferenceIdeal.sig) → Buf (Elt Ideal) ℓ) (g' : Dev Cert.InWeightKReferenceIdeal.nD → PrngReg), Pre_InWeightKIdeal m →
    (∀ c : Dev Cert.InWeightKIdeal.nD,
      m' ((c.tc : Thread Cert.InWeightKReferenceIdeal.nD Cert.InWeightKReferenceIdeal.τ).loc Cert.InWeightKReferenceIdeal.main_arg0) = m ((c.tc : Thread Cert.InWeightKIdeal.nD Cert.InWeightKIdeal.τ).loc Cert.InWeightKIdeal.main_arg0)
      ∧ m' ((c.tc : Thread Cert.InWeightKReferenceIdeal.nD Cert.InWeightKReferenceIdeal.τ).loc Cert.InWeightKReferenceIdeal.main_arg1) = m ((c.tc : Thread Cert.InWeightKIdeal.nD Cert.InWeightKIdeal.τ).loc Cert.InWeightKIdeal.main_arg1)) →
    ∃ (v0 : (c : Dev Cert.InWeightKIdeal.nD) → Buf (Elt Ideal) ((c.tc : Thread Cert.InWeightKIdeal.nD Cert.InWeightKIdeal.τ).loc Cert.InWeightKIdeal.main_v0)),
      θ_run (Cert.InWeightKIdeal.defs (F := Ideal)) (onTc (τ := Cert.InWeightKIdeal.τ) (Cert.InWeightKIdeal.main (F := Ideal))) ⟨m, fun _ => 0, g⟩ (fun r => ∀ c : Dev Cert.InWeightKIdeal.nD,
          r.2.mem ((c.tc : Thread Cert.InWeightKIdeal.nD Cert.InWeightKIdeal.τ).loc Cert.InWeightKIdeal.main_v0) = v0 c
          ∧ r.2.mem ((c.tc : Thread Cert.InWeightKIdeal.nD Cert.InWeightKIdeal.τ).loc Cert.InWeightKIdeal.main_arg0) = m ((c.tc : Thread Cert.InWeightKIdeal.nD Cert.InWeightKIdeal.τ).loc Cert.InWeightKIdeal.main_arg0)
          ∧ r.2.mem ((c.tc : Thread Cert.InWeightKIdeal.nD Cert.InWeightKIdeal.τ).loc Cert.InWeightKIdeal.main_arg1) = m ((c.tc : Thread Cert.InWeightKIdeal.nD Cert.InWeightKIdeal.τ).loc Cert.InWeightKIdeal.main_arg1))
      ∧ θ_run (Cert.InWeightKReferenceIdeal.defs (F := Ideal)) (onTc (τ := Cert.InWeightKReferenceIdeal.τ) (Cert.InWeightKReferenceIdeal.main (F := Ideal))) ⟨m', fun _ => 0, g'⟩ (fun r => ∀ c : Dev Cert.InWeightKReferenceIdeal.nD,
          r.2.mem ((c.tc : Thread Cert.InWeightKReferenceIdeal.nD Cert.InWeightKReferenceIdeal.τ).loc Cert.InWeightKReferenceIdeal.main_v4) = v0 c
          ∧ r.2.mem ((c.tc : Thread Cert.InWeightKReferenceIdeal.nD Cert.InWeightKReferenceIdeal.τ).loc Cert.InWeightKReferenceIdeal.main_arg0) = m' ((c.tc : Thread Cert.InWeightKReferenceIdeal.nD Cert.InWeightKReferenceIdeal.τ).loc Cert.InWeightKReferenceIdeal.main_arg0)
          ∧ r.2.mem ((c.tc : Thread Cert.InWeightKReferenceIdeal.nD Cert.InWeightKReferenceIdeal.τ).loc Cert.InWeightKReferenceIdeal.main_arg1) = m' ((c.tc : Thread Cert.InWeightKReferenceIdeal.nD Cert.InWeightKReferenceIdeal.τ).loc Cert.InWeightKReferenceIdeal.main_arg1))

def preserves_InWeightO_InWeightOIdeal : Prop :=
  True

def algebraic_InWeightOIdeal_InWeightOReferenceIdeal [hInWeightOIdeal : Cert.InWeightOIdeal.Facts] [hInWeightOReferenceIdeal : Cert.InWeightOReferenceIdeal.Facts] : Prop :=
  ∀ (m : (ℓ : Loc Cert.InWeightOIdeal.nD Cert.InWeightOIdeal.τ Cert.InWeightOIdeal.sig) → Buf (Elt Ideal) ℓ) (g : Dev Cert.InWeightOIdeal.nD → PrngReg)
    (m' : (ℓ : Loc Cert.InWeightOReferenceIdeal.nD Cert.InWeightOReferenceIdeal.τ Cert.InWeightOReferenceIdeal.sig) → Buf (Elt Ideal) ℓ) (g' : Dev Cert.InWeightOReferenceIdeal.nD → PrngReg), Pre_InWeightOIdeal m →
    (∀ c : Dev Cert.InWeightOIdeal.nD,
      m' ((c.tc : Thread Cert.InWeightOReferenceIdeal.nD Cert.InWeightOReferenceIdeal.τ).loc Cert.InWeightOReferenceIdeal.main_arg0) = m ((c.tc : Thread Cert.InWeightOIdeal.nD Cert.InWeightOIdeal.τ).loc Cert.InWeightOIdeal.main_arg0)
      ∧ m' ((c.tc : Thread Cert.InWeightOReferenceIdeal.nD Cert.InWeightOReferenceIdeal.τ).loc Cert.InWeightOReferenceIdeal.main_arg1) = m ((c.tc : Thread Cert.InWeightOIdeal.nD Cert.InWeightOIdeal.τ).loc Cert.InWeightOIdeal.main_arg1)) →
    ∃ (v0 : (c : Dev Cert.InWeightOIdeal.nD) → Buf (Elt Ideal) ((c.tc : Thread Cert.InWeightOIdeal.nD Cert.InWeightOIdeal.τ).loc Cert.InWeightOIdeal.main_v0)),
      θ_run (Cert.InWeightOIdeal.defs (F := Ideal)) (onTc (τ := Cert.InWeightOIdeal.τ) (Cert.InWeightOIdeal.main (F := Ideal))) ⟨m, fun _ => 0, g⟩ (fun r => ∀ c : Dev Cert.InWeightOIdeal.nD,
          r.2.mem ((c.tc : Thread Cert.InWeightOIdeal.nD Cert.InWeightOIdeal.τ).loc Cert.InWeightOIdeal.main_v0) = v0 c
          ∧ r.2.mem ((c.tc : Thread Cert.InWeightOIdeal.nD Cert.InWeightOIdeal.τ).loc Cert.InWeightOIdeal.main_arg0) = m ((c.tc : Thread Cert.InWeightOIdeal.nD Cert.InWeightOIdeal.τ).loc Cert.InWeightOIdeal.main_arg0)
          ∧ r.2.mem ((c.tc : Thread Cert.InWeightOIdeal.nD Cert.InWeightOIdeal.τ).loc Cert.InWeightOIdeal.main_arg1) = m ((c.tc : Thread Cert.InWeightOIdeal.nD Cert.InWeightOIdeal.τ).loc Cert.InWeightOIdeal.main_arg1))
      ∧ θ_run (Cert.InWeightOReferenceIdeal.defs (F := Ideal)) (onTc (τ := Cert.InWeightOReferenceIdeal.τ) (Cert.InWeightOReferenceIdeal.main (F := Ideal))) ⟨m', fun _ => 0, g'⟩ (fun r => ∀ c : Dev Cert.InWeightOReferenceIdeal.nD,
          r.2.mem ((c.tc : Thread Cert.InWeightOReferenceIdeal.nD Cert.InWeightOReferenceIdeal.τ).loc Cert.InWeightOReferenceIdeal.main_v4) = v0 c
          ∧ r.2.mem ((c.tc : Thread Cert.InWeightOReferenceIdeal.nD Cert.InWeightOReferenceIdeal.τ).loc Cert.InWeightOReferenceIdeal.main_arg0) = m' ((c.tc : Thread Cert.InWeightOReferenceIdeal.nD Cert.InWeightOReferenceIdeal.τ).loc Cert.InWeightOReferenceIdeal.main_arg0)
          ∧ r.2.mem ((c.tc : Thread Cert.InWeightOReferenceIdeal.nD Cert.InWeightOReferenceIdeal.τ).loc Cert.InWeightOReferenceIdeal.main_arg1) = m' ((c.tc : Thread Cert.InWeightOReferenceIdeal.nD Cert.InWeightOReferenceIdeal.τ).loc Cert.InWeightOReferenceIdeal.main_arg1))

def preserves_InWeightC_InWeightCIdeal : Prop :=
  True

def algebraic_InWeightCIdeal_InWeightCReferenceIdeal [hInWeightCIdeal : Cert.InWeightCIdeal.Facts] [hInWeightCReferenceIdeal : Cert.InWeightCReferenceIdeal.Facts] : Prop :=
  ∀ (m : (ℓ : Loc Cert.InWeightCIdeal.nD Cert.InWeightCIdeal.τ Cert.InWeightCIdeal.sig) → Buf (Elt Ideal) ℓ) (g : Dev Cert.InWeightCIdeal.nD → PrngReg)
    (m' : (ℓ : Loc Cert.InWeightCReferenceIdeal.nD Cert.InWeightCReferenceIdeal.τ Cert.InWeightCReferenceIdeal.sig) → Buf (Elt Ideal) ℓ) (g' : Dev Cert.InWeightCReferenceIdeal.nD → PrngReg), Pre_InWeightCIdeal m →
    (∀ c : Dev Cert.InWeightCIdeal.nD,
      m' ((c.tc : Thread Cert.InWeightCReferenceIdeal.nD Cert.InWeightCReferenceIdeal.τ).loc Cert.InWeightCReferenceIdeal.main_arg0) = m ((c.tc : Thread Cert.InWeightCIdeal.nD Cert.InWeightCIdeal.τ).loc Cert.InWeightCIdeal.main_arg0)
      ∧ m' ((c.tc : Thread Cert.InWeightCReferenceIdeal.nD Cert.InWeightCReferenceIdeal.τ).loc Cert.InWeightCReferenceIdeal.main_arg1) = m ((c.tc : Thread Cert.InWeightCIdeal.nD Cert.InWeightCIdeal.τ).loc Cert.InWeightCIdeal.main_arg1)) →
    ∃ (v0 : (c : Dev Cert.InWeightCIdeal.nD) → Buf (Elt Ideal) ((c.tc : Thread Cert.InWeightCIdeal.nD Cert.InWeightCIdeal.τ).loc Cert.InWeightCIdeal.main_v0)),
      θ_run (Cert.InWeightCIdeal.defs (F := Ideal)) (onTc (τ := Cert.InWeightCIdeal.τ) (Cert.InWeightCIdeal.main (F := Ideal))) ⟨m, fun _ => 0, g⟩ (fun r => ∀ c : Dev Cert.InWeightCIdeal.nD,
          r.2.mem ((c.tc : Thread Cert.InWeightCIdeal.nD Cert.InWeightCIdeal.τ).loc Cert.InWeightCIdeal.main_v0) = v0 c
          ∧ r.2.mem ((c.tc : Thread Cert.InWeightCIdeal.nD Cert.InWeightCIdeal.τ).loc Cert.InWeightCIdeal.main_arg0) = m ((c.tc : Thread Cert.InWeightCIdeal.nD Cert.InWeightCIdeal.τ).loc Cert.InWeightCIdeal.main_arg0)
          ∧ r.2.mem ((c.tc : Thread Cert.InWeightCIdeal.nD Cert.InWeightCIdeal.τ).loc Cert.InWeightCIdeal.main_arg1) = m ((c.tc : Thread Cert.InWeightCIdeal.nD Cert.InWeightCIdeal.τ).loc Cert.InWeightCIdeal.main_arg1))
      ∧ θ_run (Cert.InWeightCReferenceIdeal.defs (F := Ideal)) (onTc (τ := Cert.InWeightCReferenceIdeal.τ) (Cert.InWeightCReferenceIdeal.main (F := Ideal))) ⟨m', fun _ => 0, g'⟩ (fun r => ∀ c : Dev Cert.InWeightCReferenceIdeal.nD,
          r.2.mem ((c.tc : Thread Cert.InWeightCReferenceIdeal.nD Cert.InWeightCReferenceIdeal.τ).loc Cert.InWeightCReferenceIdeal.main_v5) = v0 c
          ∧ r.2.mem ((c.tc : Thread Cert.InWeightCReferenceIdeal.nD Cert.InWeightCReferenceIdeal.τ).loc Cert.InWeightCReferenceIdeal.main_arg0) = m' ((c.tc : Thread Cert.InWeightCReferenceIdeal.nD Cert.InWeightCReferenceIdeal.τ).loc Cert.InWeightCReferenceIdeal.main_arg0)
          ∧ r.2.mem ((c.tc : Thread Cert.InWeightCReferenceIdeal.nD Cert.InWeightCReferenceIdeal.τ).loc Cert.InWeightCReferenceIdeal.main_arg1) = m' ((c.tc : Thread Cert.InWeightCReferenceIdeal.nD Cert.InWeightCReferenceIdeal.τ).loc Cert.InWeightCReferenceIdeal.main_arg1))

def preserves_OutA_OutAIdeal : Prop :=
  True

def algebraic_OutAIdeal_OutAReferenceIdeal [hOutAIdeal : Cert.OutAIdeal.Facts] [hOutAReferenceIdeal : Cert.OutAReferenceIdeal.Facts] : Prop :=
  ∀ (m : (ℓ : Loc Cert.OutAIdeal.nD Cert.OutAIdeal.τ Cert.OutAIdeal.sig) → Buf (Elt Ideal) ℓ) (g : Dev Cert.OutAIdeal.nD → PrngReg)
    (m' : (ℓ : Loc Cert.OutAReferenceIdeal.nD Cert.OutAReferenceIdeal.τ Cert.OutAReferenceIdeal.sig) → Buf (Elt Ideal) ℓ) (g' : Dev Cert.OutAReferenceIdeal.nD → PrngReg), Pre_OutAIdeal m →
    (∀ c : Dev Cert.OutAIdeal.nD,
      m' ((c.tc : Thread Cert.OutAReferenceIdeal.nD Cert.OutAReferenceIdeal.τ).loc Cert.OutAReferenceIdeal.main_arg0) = m ((c.tc : Thread Cert.OutAIdeal.nD Cert.OutAIdeal.τ).loc Cert.OutAIdeal.main_arg0)
      ∧ m' ((c.tc : Thread Cert.OutAReferenceIdeal.nD Cert.OutAReferenceIdeal.τ).loc Cert.OutAReferenceIdeal.main_arg1) = m ((c.tc : Thread Cert.OutAIdeal.nD Cert.OutAIdeal.τ).loc Cert.OutAIdeal.main_arg1)
      ∧ m' ((c.tc : Thread Cert.OutAReferenceIdeal.nD Cert.OutAReferenceIdeal.τ).loc Cert.OutAReferenceIdeal.main_arg2) = m ((c.tc : Thread Cert.OutAIdeal.nD Cert.OutAIdeal.τ).loc Cert.OutAIdeal.main_arg2)
      ∧ m' ((c.tc : Thread Cert.OutAReferenceIdeal.nD Cert.OutAReferenceIdeal.τ).loc Cert.OutAReferenceIdeal.main_arg3) = m ((c.tc : Thread Cert.OutAIdeal.nD Cert.OutAIdeal.τ).loc Cert.OutAIdeal.main_arg3)
      ∧ m' ((c.tc : Thread Cert.OutAReferenceIdeal.nD Cert.OutAReferenceIdeal.τ).loc Cert.OutAReferenceIdeal.main_arg4) = m ((c.tc : Thread Cert.OutAIdeal.nD Cert.OutAIdeal.τ).loc Cert.OutAIdeal.main_arg4)) →
    ∃ (v0 : (c : Dev Cert.OutAIdeal.nD) → Buf (Elt Ideal) ((c.tc : Thread Cert.OutAIdeal.nD Cert.OutAIdeal.τ).loc Cert.OutAIdeal.main_v0)),
      θ_run (Cert.OutAIdeal.defs (F := Ideal)) (onTc (τ := Cert.OutAIdeal.τ) (Cert.OutAIdeal.main (F := Ideal))) ⟨m, fun _ => 0, g⟩ (fun r => ∀ c : Dev Cert.OutAIdeal.nD,
          r.2.mem ((c.tc : Thread Cert.OutAIdeal.nD Cert.OutAIdeal.τ).loc Cert.OutAIdeal.main_v0) = v0 c
          ∧ r.2.mem ((c.tc : Thread Cert.OutAIdeal.nD Cert.OutAIdeal.τ).loc Cert.OutAIdeal.main_arg0) = m ((c.tc : Thread Cert.OutAIdeal.nD Cert.OutAIdeal.τ).loc Cert.OutAIdeal.main_arg0)
          ∧ r.2.mem ((c.tc : Thread Cert.OutAIdeal.nD Cert.OutAIdeal.τ).loc Cert.OutAIdeal.main_arg1) = m ((c.tc : Thread Cert.OutAIdeal.nD Cert.OutAIdeal.τ).loc Cert.OutAIdeal.main_arg1)
          ∧ r.2.mem ((c.tc : Thread Cert.OutAIdeal.nD Cert.OutAIdeal.τ).loc Cert.OutAIdeal.main_arg2) = m ((c.tc : Thread Cert.OutAIdeal.nD Cert.OutAIdeal.τ).loc Cert.OutAIdeal.main_arg2)
          ∧ r.2.mem ((c.tc : Thread Cert.OutAIdeal.nD Cert.OutAIdeal.τ).loc Cert.OutAIdeal.main_arg3) = m ((c.tc : Thread Cert.OutAIdeal.nD Cert.OutAIdeal.τ).loc Cert.OutAIdeal.main_arg3)
          ∧ r.2.mem ((c.tc : Thread Cert.OutAIdeal.nD Cert.OutAIdeal.τ).loc Cert.OutAIdeal.main_arg4) = m ((c.tc : Thread Cert.OutAIdeal.nD Cert.OutAIdeal.τ).loc Cert.OutAIdeal.main_arg4))
      ∧ θ_run (Cert.OutAReferenceIdeal.defs (F := Ideal)) (onTc (τ := Cert.OutAReferenceIdeal.τ) (Cert.OutAReferenceIdeal.main (F := Ideal))) ⟨m', fun _ => 0, g'⟩ (fun r => ∀ c : Dev Cert.OutAReferenceIdeal.nD,
          r.2.mem ((c.tc : Thread Cert.OutAReferenceIdeal.nD Cert.OutAReferenceIdeal.τ).loc Cert.OutAReferenceIdeal.main_v7) = v0 c
          ∧ r.2.mem ((c.tc : Thread Cert.OutAReferenceIdeal.nD Cert.OutAReferenceIdeal.τ).loc Cert.OutAReferenceIdeal.main_arg0) = m' ((c.tc : Thread Cert.OutAReferenceIdeal.nD Cert.OutAReferenceIdeal.τ).loc Cert.OutAReferenceIdeal.main_arg0)
          ∧ r.2.mem ((c.tc : Thread Cert.OutAReferenceIdeal.nD Cert.OutAReferenceIdeal.τ).loc Cert.OutAReferenceIdeal.main_arg1) = m' ((c.tc : Thread Cert.OutAReferenceIdeal.nD Cert.OutAReferenceIdeal.τ).loc Cert.OutAReferenceIdeal.main_arg1)
          ∧ r.2.mem ((c.tc : Thread Cert.OutAReferenceIdeal.nD Cert.OutAReferenceIdeal.τ).loc Cert.OutAReferenceIdeal.main_arg2) = m' ((c.tc : Thread Cert.OutAReferenceIdeal.nD Cert.OutAReferenceIdeal.τ).loc Cert.OutAReferenceIdeal.main_arg2)
          ∧ r.2.mem ((c.tc : Thread Cert.OutAReferenceIdeal.nD Cert.OutAReferenceIdeal.τ).loc Cert.OutAReferenceIdeal.main_arg3) = m' ((c.tc : Thread Cert.OutAReferenceIdeal.nD Cert.OutAReferenceIdeal.τ).loc Cert.OutAReferenceIdeal.main_arg3)
          ∧ r.2.mem ((c.tc : Thread Cert.OutAReferenceIdeal.nD Cert.OutAReferenceIdeal.τ).loc Cert.OutAReferenceIdeal.main_arg4) = m' ((c.tc : Thread Cert.OutAReferenceIdeal.nD Cert.OutAReferenceIdeal.τ).loc Cert.OutAReferenceIdeal.main_arg4))

def preserves_OutB_OutBIdeal : Prop :=
  True

def algebraic_OutBIdeal_OutBReferenceIdeal [hOutBIdeal : Cert.OutBIdeal.Facts] [hOutBReferenceIdeal : Cert.OutBReferenceIdeal.Facts] : Prop :=
  ∀ (m : (ℓ : Loc Cert.OutBIdeal.nD Cert.OutBIdeal.τ Cert.OutBIdeal.sig) → Buf (Elt Ideal) ℓ) (g : Dev Cert.OutBIdeal.nD → PrngReg)
    (m' : (ℓ : Loc Cert.OutBReferenceIdeal.nD Cert.OutBReferenceIdeal.τ Cert.OutBReferenceIdeal.sig) → Buf (Elt Ideal) ℓ) (g' : Dev Cert.OutBReferenceIdeal.nD → PrngReg), Pre_OutBIdeal m →
    (∀ c : Dev Cert.OutBIdeal.nD,
      m' ((c.tc : Thread Cert.OutBReferenceIdeal.nD Cert.OutBReferenceIdeal.τ).loc Cert.OutBReferenceIdeal.main_arg0) = m ((c.tc : Thread Cert.OutBIdeal.nD Cert.OutBIdeal.τ).loc Cert.OutBIdeal.main_arg0)
      ∧ m' ((c.tc : Thread Cert.OutBReferenceIdeal.nD Cert.OutBReferenceIdeal.τ).loc Cert.OutBReferenceIdeal.main_arg1) = m ((c.tc : Thread Cert.OutBIdeal.nD Cert.OutBIdeal.τ).loc Cert.OutBIdeal.main_arg1)
      ∧ m' ((c.tc : Thread Cert.OutBReferenceIdeal.nD Cert.OutBReferenceIdeal.τ).loc Cert.OutBReferenceIdeal.main_arg2) = m ((c.tc : Thread Cert.OutBIdeal.nD Cert.OutBIdeal.τ).loc Cert.OutBIdeal.main_arg2)
      ∧ m' ((c.tc : Thread Cert.OutBReferenceIdeal.nD Cert.OutBReferenceIdeal.τ).loc Cert.OutBReferenceIdeal.main_arg3) = m ((c.tc : Thread Cert.OutBIdeal.nD Cert.OutBIdeal.τ).loc Cert.OutBIdeal.main_arg3)
      ∧ m' ((c.tc : Thread Cert.OutBReferenceIdeal.nD Cert.OutBReferenceIdeal.τ).loc Cert.OutBReferenceIdeal.main_arg4) = m ((c.tc : Thread Cert.OutBIdeal.nD Cert.OutBIdeal.τ).loc Cert.OutBIdeal.main_arg4)) →
    ∃ (v0 : (c : Dev Cert.OutBIdeal.nD) → Buf (Elt Ideal) ((c.tc : Thread Cert.OutBIdeal.nD Cert.OutBIdeal.τ).loc Cert.OutBIdeal.main_v0)),
      θ_run (Cert.OutBIdeal.defs (F := Ideal)) (onTc (τ := Cert.OutBIdeal.τ) (Cert.OutBIdeal.main (F := Ideal))) ⟨m, fun _ => 0, g⟩ (fun r => ∀ c : Dev Cert.OutBIdeal.nD,
          r.2.mem ((c.tc : Thread Cert.OutBIdeal.nD Cert.OutBIdeal.τ).loc Cert.OutBIdeal.main_v0) = v0 c
          ∧ r.2.mem ((c.tc : Thread Cert.OutBIdeal.nD Cert.OutBIdeal.τ).loc Cert.OutBIdeal.main_arg0) = m ((c.tc : Thread Cert.OutBIdeal.nD Cert.OutBIdeal.τ).loc Cert.OutBIdeal.main_arg0)
          ∧ r.2.mem ((c.tc : Thread Cert.OutBIdeal.nD Cert.OutBIdeal.τ).loc Cert.OutBIdeal.main_arg1) = m ((c.tc : Thread Cert.OutBIdeal.nD Cert.OutBIdeal.τ).loc Cert.OutBIdeal.main_arg1)
          ∧ r.2.mem ((c.tc : Thread Cert.OutBIdeal.nD Cert.OutBIdeal.τ).loc Cert.OutBIdeal.main_arg2) = m ((c.tc : Thread Cert.OutBIdeal.nD Cert.OutBIdeal.τ).loc Cert.OutBIdeal.main_arg2)
          ∧ r.2.mem ((c.tc : Thread Cert.OutBIdeal.nD Cert.OutBIdeal.τ).loc Cert.OutBIdeal.main_arg3) = m ((c.tc : Thread Cert.OutBIdeal.nD Cert.OutBIdeal.τ).loc Cert.OutBIdeal.main_arg3)
          ∧ r.2.mem ((c.tc : Thread Cert.OutBIdeal.nD Cert.OutBIdeal.τ).loc Cert.OutBIdeal.main_arg4) = m ((c.tc : Thread Cert.OutBIdeal.nD Cert.OutBIdeal.τ).loc Cert.OutBIdeal.main_arg4))
      ∧ θ_run (Cert.OutBReferenceIdeal.defs (F := Ideal)) (onTc (τ := Cert.OutBReferenceIdeal.τ) (Cert.OutBReferenceIdeal.main (F := Ideal))) ⟨m', fun _ => 0, g'⟩ (fun r => ∀ c : Dev Cert.OutBReferenceIdeal.nD,
          r.2.mem ((c.tc : Thread Cert.OutBReferenceIdeal.nD Cert.OutBReferenceIdeal.τ).loc Cert.OutBReferenceIdeal.main_v7) = v0 c
          ∧ r.2.mem ((c.tc : Thread Cert.OutBReferenceIdeal.nD Cert.OutBReferenceIdeal.τ).loc Cert.OutBReferenceIdeal.main_arg0) = m' ((c.tc : Thread Cert.OutBReferenceIdeal.nD Cert.OutBReferenceIdeal.τ).loc Cert.OutBReferenceIdeal.main_arg0)
          ∧ r.2.mem ((c.tc : Thread Cert.OutBReferenceIdeal.nD Cert.OutBReferenceIdeal.τ).loc Cert.OutBReferenceIdeal.main_arg1) = m' ((c.tc : Thread Cert.OutBReferenceIdeal.nD Cert.OutBReferenceIdeal.τ).loc Cert.OutBReferenceIdeal.main_arg1)
          ∧ r.2.mem ((c.tc : Thread Cert.OutBReferenceIdeal.nD Cert.OutBReferenceIdeal.τ).loc Cert.OutBReferenceIdeal.main_arg2) = m' ((c.tc : Thread Cert.OutBReferenceIdeal.nD Cert.OutBReferenceIdeal.τ).loc Cert.OutBReferenceIdeal.main_arg2)
          ∧ r.2.mem ((c.tc : Thread Cert.OutBReferenceIdeal.nD Cert.OutBReferenceIdeal.τ).loc Cert.OutBReferenceIdeal.main_arg3) = m' ((c.tc : Thread Cert.OutBReferenceIdeal.nD Cert.OutBReferenceIdeal.τ).loc Cert.OutBReferenceIdeal.main_arg3)
          ∧ r.2.mem ((c.tc : Thread Cert.OutBReferenceIdeal.nD Cert.OutBReferenceIdeal.τ).loc Cert.OutBReferenceIdeal.main_arg4) = m' ((c.tc : Thread Cert.OutBReferenceIdeal.nD Cert.OutBReferenceIdeal.τ).loc Cert.OutBReferenceIdeal.main_arg4))

def preserves_OutC_OutCIdeal : Prop :=
  True

def algebraic_OutCIdeal_OutCReferenceIdeal [hOutCIdeal : Cert.OutCIdeal.Facts] [hOutCReferenceIdeal : Cert.OutCReferenceIdeal.Facts] : Prop :=
  ∀ (m : (ℓ : Loc Cert.OutCIdeal.nD Cert.OutCIdeal.τ Cert.OutCIdeal.sig) → Buf (Elt Ideal) ℓ) (g : Dev Cert.OutCIdeal.nD → PrngReg)
    (m' : (ℓ : Loc Cert.OutCReferenceIdeal.nD Cert.OutCReferenceIdeal.τ Cert.OutCReferenceIdeal.sig) → Buf (Elt Ideal) ℓ) (g' : Dev Cert.OutCReferenceIdeal.nD → PrngReg), Pre_OutCIdeal m →
    (∀ c : Dev Cert.OutCIdeal.nD,
      m' ((c.tc : Thread Cert.OutCReferenceIdeal.nD Cert.OutCReferenceIdeal.τ).loc Cert.OutCReferenceIdeal.main_arg0) = m ((c.tc : Thread Cert.OutCIdeal.nD Cert.OutCIdeal.τ).loc Cert.OutCIdeal.main_arg0)
      ∧ m' ((c.tc : Thread Cert.OutCReferenceIdeal.nD Cert.OutCReferenceIdeal.τ).loc Cert.OutCReferenceIdeal.main_arg1) = m ((c.tc : Thread Cert.OutCIdeal.nD Cert.OutCIdeal.τ).loc Cert.OutCIdeal.main_arg1)
      ∧ m' ((c.tc : Thread Cert.OutCReferenceIdeal.nD Cert.OutCReferenceIdeal.τ).loc Cert.OutCReferenceIdeal.main_arg2) = m ((c.tc : Thread Cert.OutCIdeal.nD Cert.OutCIdeal.τ).loc Cert.OutCIdeal.main_arg2)
      ∧ m' ((c.tc : Thread Cert.OutCReferenceIdeal.nD Cert.OutCReferenceIdeal.τ).loc Cert.OutCReferenceIdeal.main_arg3) = m ((c.tc : Thread Cert.OutCIdeal.nD Cert.OutCIdeal.τ).loc Cert.OutCIdeal.main_arg3)
      ∧ m' ((c.tc : Thread Cert.OutCReferenceIdeal.nD Cert.OutCReferenceIdeal.τ).loc Cert.OutCReferenceIdeal.main_arg4) = m ((c.tc : Thread Cert.OutCIdeal.nD Cert.OutCIdeal.τ).loc Cert.OutCIdeal.main_arg4)) →
    ∃ (v0 : (c : Dev Cert.OutCIdeal.nD) → Buf (Elt Ideal) ((c.tc : Thread Cert.OutCIdeal.nD Cert.OutCIdeal.τ).loc Cert.OutCIdeal.main_v0)),
      θ_run (Cert.OutCIdeal.defs (F := Ideal)) (onTc (τ := Cert.OutCIdeal.τ) (Cert.OutCIdeal.main (F := Ideal))) ⟨m, fun _ => 0, g⟩ (fun r => ∀ c : Dev Cert.OutCIdeal.nD,
          r.2.mem ((c.tc : Thread Cert.OutCIdeal.nD Cert.OutCIdeal.τ).loc Cert.OutCIdeal.main_v0) = v0 c
          ∧ r.2.mem ((c.tc : Thread Cert.OutCIdeal.nD Cert.OutCIdeal.τ).loc Cert.OutCIdeal.main_arg0) = m ((c.tc : Thread Cert.OutCIdeal.nD Cert.OutCIdeal.τ).loc Cert.OutCIdeal.main_arg0)
          ∧ r.2.mem ((c.tc : Thread Cert.OutCIdeal.nD Cert.OutCIdeal.τ).loc Cert.OutCIdeal.main_arg1) = m ((c.tc : Thread Cert.OutCIdeal.nD Cert.OutCIdeal.τ).loc Cert.OutCIdeal.main_arg1)
          ∧ r.2.mem ((c.tc : Thread Cert.OutCIdeal.nD Cert.OutCIdeal.τ).loc Cert.OutCIdeal.main_arg2) = m ((c.tc : Thread Cert.OutCIdeal.nD Cert.OutCIdeal.τ).loc Cert.OutCIdeal.main_arg2)
          ∧ r.2.mem ((c.tc : Thread Cert.OutCIdeal.nD Cert.OutCIdeal.τ).loc Cert.OutCIdeal.main_arg3) = m ((c.tc : Thread Cert.OutCIdeal.nD Cert.OutCIdeal.τ).loc Cert.OutCIdeal.main_arg3)
          ∧ r.2.mem ((c.tc : Thread Cert.OutCIdeal.nD Cert.OutCIdeal.τ).loc Cert.OutCIdeal.main_arg4) = m ((c.tc : Thread Cert.OutCIdeal.nD Cert.OutCIdeal.τ).loc Cert.OutCIdeal.main_arg4))
      ∧ θ_run (Cert.OutCReferenceIdeal.defs (F := Ideal)) (onTc (τ := Cert.OutCReferenceIdeal.τ) (Cert.OutCReferenceIdeal.main (F := Ideal))) ⟨m', fun _ => 0, g'⟩ (fun r => ∀ c : Dev Cert.OutCReferenceIdeal.nD,
          r.2.mem ((c.tc : Thread Cert.OutCReferenceIdeal.nD Cert.OutCReferenceIdeal.τ).loc Cert.OutCReferenceIdeal.main_v7) = v0 c
          ∧ r.2.mem ((c.tc : Thread Cert.OutCReferenceIdeal.nD Cert.OutCReferenceIdeal.τ).loc Cert.OutCReferenceIdeal.main_arg0) = m' ((c.tc : Thread Cert.OutCReferenceIdeal.nD Cert.OutCReferenceIdeal.τ).loc Cert.OutCReferenceIdeal.main_arg0)
          ∧ r.2.mem ((c.tc : Thread Cert.OutCReferenceIdeal.nD Cert.OutCReferenceIdeal.τ).loc Cert.OutCReferenceIdeal.main_arg1) = m' ((c.tc : Thread Cert.OutCReferenceIdeal.nD Cert.OutCReferenceIdeal.τ).loc Cert.OutCReferenceIdeal.main_arg1)
          ∧ r.2.mem ((c.tc : Thread Cert.OutCReferenceIdeal.nD Cert.OutCReferenceIdeal.τ).loc Cert.OutCReferenceIdeal.main_arg2) = m' ((c.tc : Thread Cert.OutCReferenceIdeal.nD Cert.OutCReferenceIdeal.τ).loc Cert.OutCReferenceIdeal.main_arg2)
          ∧ r.2.mem ((c.tc : Thread Cert.OutCReferenceIdeal.nD Cert.OutCReferenceIdeal.τ).loc Cert.OutCReferenceIdeal.main_arg3) = m' ((c.tc : Thread Cert.OutCReferenceIdeal.nD Cert.OutCReferenceIdeal.τ).loc Cert.OutCReferenceIdeal.main_arg3)
          ∧ r.2.mem ((c.tc : Thread Cert.OutCReferenceIdeal.nD Cert.OutCReferenceIdeal.τ).loc Cert.OutCReferenceIdeal.main_arg4) = m' ((c.tc : Thread Cert.OutCReferenceIdeal.nD Cert.OutCReferenceIdeal.τ).loc Cert.OutCReferenceIdeal.main_arg4))

def preserves_OutD_OutDIdeal : Prop :=
  True

def algebraic_OutDIdeal_OutDReferenceIdeal [hOutDIdeal : Cert.OutDIdeal.Facts] [hOutDReferenceIdeal : Cert.OutDReferenceIdeal.Facts] : Prop :=
  ∀ (m : (ℓ : Loc Cert.OutDIdeal.nD Cert.OutDIdeal.τ Cert.OutDIdeal.sig) → Buf (Elt Ideal) ℓ) (g : Dev Cert.OutDIdeal.nD → PrngReg)
    (m' : (ℓ : Loc Cert.OutDReferenceIdeal.nD Cert.OutDReferenceIdeal.τ Cert.OutDReferenceIdeal.sig) → Buf (Elt Ideal) ℓ) (g' : Dev Cert.OutDReferenceIdeal.nD → PrngReg), Pre_OutDIdeal m →
    (∀ c : Dev Cert.OutDIdeal.nD,
      m' ((c.tc : Thread Cert.OutDReferenceIdeal.nD Cert.OutDReferenceIdeal.τ).loc Cert.OutDReferenceIdeal.main_arg0) = m ((c.tc : Thread Cert.OutDIdeal.nD Cert.OutDIdeal.τ).loc Cert.OutDIdeal.main_arg0)
      ∧ m' ((c.tc : Thread Cert.OutDReferenceIdeal.nD Cert.OutDReferenceIdeal.τ).loc Cert.OutDReferenceIdeal.main_arg1) = m ((c.tc : Thread Cert.OutDIdeal.nD Cert.OutDIdeal.τ).loc Cert.OutDIdeal.main_arg1)
      ∧ m' ((c.tc : Thread Cert.OutDReferenceIdeal.nD Cert.OutDReferenceIdeal.τ).loc Cert.OutDReferenceIdeal.main_arg2) = m ((c.tc : Thread Cert.OutDIdeal.nD Cert.OutDIdeal.τ).loc Cert.OutDIdeal.main_arg2)
      ∧ m' ((c.tc : Thread Cert.OutDReferenceIdeal.nD Cert.OutDReferenceIdeal.τ).loc Cert.OutDReferenceIdeal.main_arg3) = m ((c.tc : Thread Cert.OutDIdeal.nD Cert.OutDIdeal.τ).loc Cert.OutDIdeal.main_arg3)
      ∧ m' ((c.tc : Thread Cert.OutDReferenceIdeal.nD Cert.OutDReferenceIdeal.τ).loc Cert.OutDReferenceIdeal.main_arg4) = m ((c.tc : Thread Cert.OutDIdeal.nD Cert.OutDIdeal.τ).loc Cert.OutDIdeal.main_arg4)) →
    ∃ (v0 : (c : Dev Cert.OutDIdeal.nD) → Buf (Elt Ideal) ((c.tc : Thread Cert.OutDIdeal.nD Cert.OutDIdeal.τ).loc Cert.OutDIdeal.main_v0)),
      θ_run (Cert.OutDIdeal.defs (F := Ideal)) (onTc (τ := Cert.OutDIdeal.τ) (Cert.OutDIdeal.main (F := Ideal))) ⟨m, fun _ => 0, g⟩ (fun r => ∀ c : Dev Cert.OutDIdeal.nD,
          r.2.mem ((c.tc : Thread Cert.OutDIdeal.nD Cert.OutDIdeal.τ).loc Cert.OutDIdeal.main_v0) = v0 c
          ∧ r.2.mem ((c.tc : Thread Cert.OutDIdeal.nD Cert.OutDIdeal.τ).loc Cert.OutDIdeal.main_arg0) = m ((c.tc : Thread Cert.OutDIdeal.nD Cert.OutDIdeal.τ).loc Cert.OutDIdeal.main_arg0)
          ∧ r.2.mem ((c.tc : Thread Cert.OutDIdeal.nD Cert.OutDIdeal.τ).loc Cert.OutDIdeal.main_arg1) = m ((c.tc : Thread Cert.OutDIdeal.nD Cert.OutDIdeal.τ).loc Cert.OutDIdeal.main_arg1)
          ∧ r.2.mem ((c.tc : Thread Cert.OutDIdeal.nD Cert.OutDIdeal.τ).loc Cert.OutDIdeal.main_arg2) = m ((c.tc : Thread Cert.OutDIdeal.nD Cert.OutDIdeal.τ).loc Cert.OutDIdeal.main_arg2)
          ∧ r.2.mem ((c.tc : Thread Cert.OutDIdeal.nD Cert.OutDIdeal.τ).loc Cert.OutDIdeal.main_arg3) = m ((c.tc : Thread Cert.OutDIdeal.nD Cert.OutDIdeal.τ).loc Cert.OutDIdeal.main_arg3)
          ∧ r.2.mem ((c.tc : Thread Cert.OutDIdeal.nD Cert.OutDIdeal.τ).loc Cert.OutDIdeal.main_arg4) = m ((c.tc : Thread Cert.OutDIdeal.nD Cert.OutDIdeal.τ).loc Cert.OutDIdeal.main_arg4))
      ∧ θ_run (Cert.OutDReferenceIdeal.defs (F := Ideal)) (onTc (τ := Cert.OutDReferenceIdeal.τ) (Cert.OutDReferenceIdeal.main (F := Ideal))) ⟨m', fun _ => 0, g'⟩ (fun r => ∀ c : Dev Cert.OutDReferenceIdeal.nD,
          r.2.mem ((c.tc : Thread Cert.OutDReferenceIdeal.nD Cert.OutDReferenceIdeal.τ).loc Cert.OutDReferenceIdeal.main_v7) = v0 c
          ∧ r.2.mem ((c.tc : Thread Cert.OutDReferenceIdeal.nD Cert.OutDReferenceIdeal.τ).loc Cert.OutDReferenceIdeal.main_arg0) = m' ((c.tc : Thread Cert.OutDReferenceIdeal.nD Cert.OutDReferenceIdeal.τ).loc Cert.OutDReferenceIdeal.main_arg0)
          ∧ r.2.mem ((c.tc : Thread Cert.OutDReferenceIdeal.nD Cert.OutDReferenceIdeal.τ).loc Cert.OutDReferenceIdeal.main_arg1) = m' ((c.tc : Thread Cert.OutDReferenceIdeal.nD Cert.OutDReferenceIdeal.τ).loc Cert.OutDReferenceIdeal.main_arg1)
          ∧ r.2.mem ((c.tc : Thread Cert.OutDReferenceIdeal.nD Cert.OutDReferenceIdeal.τ).loc Cert.OutDReferenceIdeal.main_arg2) = m' ((c.tc : Thread Cert.OutDReferenceIdeal.nD Cert.OutDReferenceIdeal.τ).loc Cert.OutDReferenceIdeal.main_arg2)
          ∧ r.2.mem ((c.tc : Thread Cert.OutDReferenceIdeal.nD Cert.OutDReferenceIdeal.τ).loc Cert.OutDReferenceIdeal.main_arg3) = m' ((c.tc : Thread Cert.OutDReferenceIdeal.nD Cert.OutDReferenceIdeal.τ).loc Cert.OutDReferenceIdeal.main_arg3)
          ∧ r.2.mem ((c.tc : Thread Cert.OutDReferenceIdeal.nD Cert.OutDReferenceIdeal.τ).loc Cert.OutDReferenceIdeal.main_arg4) = m' ((c.tc : Thread Cert.OutDReferenceIdeal.nD Cert.OutDReferenceIdeal.τ).loc Cert.OutDReferenceIdeal.main_arg4))

def preserves_OutActA_OutActAIdeal : Prop :=
  True

def algebraic_OutActAIdeal_OutActAReferenceIdeal [hOutActAIdeal : Cert.OutActAIdeal.Facts] [hOutActAReferenceIdeal : Cert.OutActAReferenceIdeal.Facts] : Prop :=
  ∀ (m : (ℓ : Loc Cert.OutActAIdeal.nD Cert.OutActAIdeal.τ Cert.OutActAIdeal.sig) → Buf (Elt Ideal) ℓ) (g : Dev Cert.OutActAIdeal.nD → PrngReg)
    (m' : (ℓ : Loc Cert.OutActAReferenceIdeal.nD Cert.OutActAReferenceIdeal.τ Cert.OutActAReferenceIdeal.sig) → Buf (Elt Ideal) ℓ) (g' : Dev Cert.OutActAReferenceIdeal.nD → PrngReg), Pre_OutActAIdeal m →
    (∀ c : Dev Cert.OutActAIdeal.nD,
      m' ((c.tc : Thread Cert.OutActAReferenceIdeal.nD Cert.OutActAReferenceIdeal.τ).loc Cert.OutActAReferenceIdeal.main_arg0) = m ((c.tc : Thread Cert.OutActAIdeal.nD Cert.OutActAIdeal.τ).loc Cert.OutActAIdeal.main_arg0)
      ∧ m' ((c.tc : Thread Cert.OutActAReferenceIdeal.nD Cert.OutActAReferenceIdeal.τ).loc Cert.OutActAReferenceIdeal.main_arg1) = m ((c.tc : Thread Cert.OutActAIdeal.nD Cert.OutActAIdeal.τ).loc Cert.OutActAIdeal.main_arg1)) →
    ∃ (v0 : (c : Dev Cert.OutActAIdeal.nD) → Buf (Elt Ideal) ((c.tc : Thread Cert.OutActAIdeal.nD Cert.OutActAIdeal.τ).loc Cert.OutActAIdeal.main_v0)),
      θ_run (Cert.OutActAIdeal.defs (F := Ideal)) (onTc (τ := Cert.OutActAIdeal.τ) (Cert.OutActAIdeal.main (F := Ideal))) ⟨m, fun _ => 0, g⟩ (fun r => ∀ c : Dev Cert.OutActAIdeal.nD,
          r.2.mem ((c.tc : Thread Cert.OutActAIdeal.nD Cert.OutActAIdeal.τ).loc Cert.OutActAIdeal.main_v0) = v0 c
          ∧ r.2.mem ((c.tc : Thread Cert.OutActAIdeal.nD Cert.OutActAIdeal.τ).loc Cert.OutActAIdeal.main_arg0) = m ((c.tc : Thread Cert.OutActAIdeal.nD Cert.OutActAIdeal.τ).loc Cert.OutActAIdeal.main_arg0)
          ∧ r.2.mem ((c.tc : Thread Cert.OutActAIdeal.nD Cert.OutActAIdeal.τ).loc Cert.OutActAIdeal.main_arg1) = m ((c.tc : Thread Cert.OutActAIdeal.nD Cert.OutActAIdeal.τ).loc Cert.OutActAIdeal.main_arg1))
      ∧ θ_run (Cert.OutActAReferenceIdeal.defs (F := Ideal)) (onTc (τ := Cert.OutActAReferenceIdeal.τ) (Cert.OutActAReferenceIdeal.main (F := Ideal))) ⟨m', fun _ => 0, g'⟩ (fun r => ∀ c : Dev Cert.OutActAReferenceIdeal.nD,
          r.2.mem ((c.tc : Thread Cert.OutActAReferenceIdeal.nD Cert.OutActAReferenceIdeal.τ).loc Cert.OutActAReferenceIdeal.main_v4) = v0 c
          ∧ r.2.mem ((c.tc : Thread Cert.OutActAReferenceIdeal.nD Cert.OutActAReferenceIdeal.τ).loc Cert.OutActAReferenceIdeal.main_arg0) = m' ((c.tc : Thread Cert.OutActAReferenceIdeal.nD Cert.OutActAReferenceIdeal.τ).loc Cert.OutActAReferenceIdeal.main_arg0)
          ∧ r.2.mem ((c.tc : Thread Cert.OutActAReferenceIdeal.nD Cert.OutActAReferenceIdeal.τ).loc Cert.OutActAReferenceIdeal.main_arg1) = m' ((c.tc : Thread Cert.OutActAReferenceIdeal.nD Cert.OutActAReferenceIdeal.τ).loc Cert.OutActAReferenceIdeal.main_arg1))

def preserves_OutActB_OutActBIdeal : Prop :=
  True

def algebraic_OutActBIdeal_OutActBReferenceIdeal [hOutActBIdeal : Cert.OutActBIdeal.Facts] [hOutActBReferenceIdeal : Cert.OutActBReferenceIdeal.Facts] : Prop :=
  ∀ (m : (ℓ : Loc Cert.OutActBIdeal.nD Cert.OutActBIdeal.τ Cert.OutActBIdeal.sig) → Buf (Elt Ideal) ℓ) (g : Dev Cert.OutActBIdeal.nD → PrngReg)
    (m' : (ℓ : Loc Cert.OutActBReferenceIdeal.nD Cert.OutActBReferenceIdeal.τ Cert.OutActBReferenceIdeal.sig) → Buf (Elt Ideal) ℓ) (g' : Dev Cert.OutActBReferenceIdeal.nD → PrngReg), Pre_OutActBIdeal m →
    (∀ c : Dev Cert.OutActBIdeal.nD,
      m' ((c.tc : Thread Cert.OutActBReferenceIdeal.nD Cert.OutActBReferenceIdeal.τ).loc Cert.OutActBReferenceIdeal.main_arg0) = m ((c.tc : Thread Cert.OutActBIdeal.nD Cert.OutActBIdeal.τ).loc Cert.OutActBIdeal.main_arg0)
      ∧ m' ((c.tc : Thread Cert.OutActBReferenceIdeal.nD Cert.OutActBReferenceIdeal.τ).loc Cert.OutActBReferenceIdeal.main_arg1) = m ((c.tc : Thread Cert.OutActBIdeal.nD Cert.OutActBIdeal.τ).loc Cert.OutActBIdeal.main_arg1)) →
    ∃ (v0 : (c : Dev Cert.OutActBIdeal.nD) → Buf (Elt Ideal) ((c.tc : Thread Cert.OutActBIdeal.nD Cert.OutActBIdeal.τ).loc Cert.OutActBIdeal.main_v0)),
      θ_run (Cert.OutActBIdeal.defs (F := Ideal)) (onTc (τ := Cert.OutActBIdeal.τ) (Cert.OutActBIdeal.main (F := Ideal))) ⟨m, fun _ => 0, g⟩ (fun r => ∀ c : Dev Cert.OutActBIdeal.nD,
          r.2.mem ((c.tc : Thread Cert.OutActBIdeal.nD Cert.OutActBIdeal.τ).loc Cert.OutActBIdeal.main_v0) = v0 c
          ∧ r.2.mem ((c.tc : Thread Cert.OutActBIdeal.nD Cert.OutActBIdeal.τ).loc Cert.OutActBIdeal.main_arg0) = m ((c.tc : Thread Cert.OutActBIdeal.nD Cert.OutActBIdeal.τ).loc Cert.OutActBIdeal.main_arg0)
          ∧ r.2.mem ((c.tc : Thread Cert.OutActBIdeal.nD Cert.OutActBIdeal.τ).loc Cert.OutActBIdeal.main_arg1) = m ((c.tc : Thread Cert.OutActBIdeal.nD Cert.OutActBIdeal.τ).loc Cert.OutActBIdeal.main_arg1))
      ∧ θ_run (Cert.OutActBReferenceIdeal.defs (F := Ideal)) (onTc (τ := Cert.OutActBReferenceIdeal.τ) (Cert.OutActBReferenceIdeal.main (F := Ideal))) ⟨m', fun _ => 0, g'⟩ (fun r => ∀ c : Dev Cert.OutActBReferenceIdeal.nD,
          r.2.mem ((c.tc : Thread Cert.OutActBReferenceIdeal.nD Cert.OutActBReferenceIdeal.τ).loc Cert.OutActBReferenceIdeal.main_v4) = v0 c
          ∧ r.2.mem ((c.tc : Thread Cert.OutActBReferenceIdeal.nD Cert.OutActBReferenceIdeal.τ).loc Cert.OutActBReferenceIdeal.main_arg0) = m' ((c.tc : Thread Cert.OutActBReferenceIdeal.nD Cert.OutActBReferenceIdeal.τ).loc Cert.OutActBReferenceIdeal.main_arg0)
          ∧ r.2.mem ((c.tc : Thread Cert.OutActBReferenceIdeal.nD Cert.OutActBReferenceIdeal.τ).loc Cert.OutActBReferenceIdeal.main_arg1) = m' ((c.tc : Thread Cert.OutActBReferenceIdeal.nD Cert.OutActBReferenceIdeal.τ).loc Cert.OutActBReferenceIdeal.main_arg1))

def preserves_OutActC_OutActCIdeal : Prop :=
  True

def algebraic_OutActCIdeal_OutActCReferenceIdeal [hOutActCIdeal : Cert.OutActCIdeal.Facts] [hOutActCReferenceIdeal : Cert.OutActCReferenceIdeal.Facts] : Prop :=
  ∀ (m : (ℓ : Loc Cert.OutActCIdeal.nD Cert.OutActCIdeal.τ Cert.OutActCIdeal.sig) → Buf (Elt Ideal) ℓ) (g : Dev Cert.OutActCIdeal.nD → PrngReg)
    (m' : (ℓ : Loc Cert.OutActCReferenceIdeal.nD Cert.OutActCReferenceIdeal.τ Cert.OutActCReferenceIdeal.sig) → Buf (Elt Ideal) ℓ) (g' : Dev Cert.OutActCReferenceIdeal.nD → PrngReg), Pre_OutActCIdeal m →
    (∀ c : Dev Cert.OutActCIdeal.nD,
      m' ((c.tc : Thread Cert.OutActCReferenceIdeal.nD Cert.OutActCReferenceIdeal.τ).loc Cert.OutActCReferenceIdeal.main_arg0) = m ((c.tc : Thread Cert.OutActCIdeal.nD Cert.OutActCIdeal.τ).loc Cert.OutActCIdeal.main_arg0)
      ∧ m' ((c.tc : Thread Cert.OutActCReferenceIdeal.nD Cert.OutActCReferenceIdeal.τ).loc Cert.OutActCReferenceIdeal.main_arg1) = m ((c.tc : Thread Cert.OutActCIdeal.nD Cert.OutActCIdeal.τ).loc Cert.OutActCIdeal.main_arg1)) →
    ∃ (v0 : (c : Dev Cert.OutActCIdeal.nD) → Buf (Elt Ideal) ((c.tc : Thread Cert.OutActCIdeal.nD Cert.OutActCIdeal.τ).loc Cert.OutActCIdeal.main_v0)),
      θ_run (Cert.OutActCIdeal.defs (F := Ideal)) (onTc (τ := Cert.OutActCIdeal.τ) (Cert.OutActCIdeal.main (F := Ideal))) ⟨m, fun _ => 0, g⟩ (fun r => ∀ c : Dev Cert.OutActCIdeal.nD,
          r.2.mem ((c.tc : Thread Cert.OutActCIdeal.nD Cert.OutActCIdeal.τ).loc Cert.OutActCIdeal.main_v0) = v0 c
          ∧ r.2.mem ((c.tc : Thread Cert.OutActCIdeal.nD Cert.OutActCIdeal.τ).loc Cert.OutActCIdeal.main_arg0) = m ((c.tc : Thread Cert.OutActCIdeal.nD Cert.OutActCIdeal.τ).loc Cert.OutActCIdeal.main_arg0)
          ∧ r.2.mem ((c.tc : Thread Cert.OutActCIdeal.nD Cert.OutActCIdeal.τ).loc Cert.OutActCIdeal.main_arg1) = m ((c.tc : Thread Cert.OutActCIdeal.nD Cert.OutActCIdeal.τ).loc Cert.OutActCIdeal.main_arg1))
      ∧ θ_run (Cert.OutActCReferenceIdeal.defs (F := Ideal)) (onTc (τ := Cert.OutActCReferenceIdeal.τ) (Cert.OutActCReferenceIdeal.main (F := Ideal))) ⟨m', fun _ => 0, g'⟩ (fun r => ∀ c : Dev Cert.OutActCReferenceIdeal.nD,
          r.2.mem ((c.tc : Thread Cert.OutActCReferenceIdeal.nD Cert.OutActCReferenceIdeal.τ).loc Cert.OutActCReferenceIdeal.main_v4) = v0 c
          ∧ r.2.mem ((c.tc : Thread Cert.OutActCReferenceIdeal.nD Cert.OutActCReferenceIdeal.τ).loc Cert.OutActCReferenceIdeal.main_arg0) = m' ((c.tc : Thread Cert.OutActCReferenceIdeal.nD Cert.OutActCReferenceIdeal.τ).loc Cert.OutActCReferenceIdeal.main_arg0)
          ∧ r.2.mem ((c.tc : Thread Cert.OutActCReferenceIdeal.nD Cert.OutActCReferenceIdeal.τ).loc Cert.OutActCReferenceIdeal.main_arg1) = m' ((c.tc : Thread Cert.OutActCReferenceIdeal.nD Cert.OutActCReferenceIdeal.τ).loc Cert.OutActCReferenceIdeal.main_arg1))

def preserves_OutActD_OutActDIdeal : Prop :=
  True

def algebraic_OutActDIdeal_OutActDReferenceIdeal [hOutActDIdeal : Cert.OutActDIdeal.Facts] [hOutActDReferenceIdeal : Cert.OutActDReferenceIdeal.Facts] : Prop :=
  ∀ (m : (ℓ : Loc Cert.OutActDIdeal.nD Cert.OutActDIdeal.τ Cert.OutActDIdeal.sig) → Buf (Elt Ideal) ℓ) (g : Dev Cert.OutActDIdeal.nD → PrngReg)
    (m' : (ℓ : Loc Cert.OutActDReferenceIdeal.nD Cert.OutActDReferenceIdeal.τ Cert.OutActDReferenceIdeal.sig) → Buf (Elt Ideal) ℓ) (g' : Dev Cert.OutActDReferenceIdeal.nD → PrngReg), Pre_OutActDIdeal m →
    (∀ c : Dev Cert.OutActDIdeal.nD,
      m' ((c.tc : Thread Cert.OutActDReferenceIdeal.nD Cert.OutActDReferenceIdeal.τ).loc Cert.OutActDReferenceIdeal.main_arg0) = m ((c.tc : Thread Cert.OutActDIdeal.nD Cert.OutActDIdeal.τ).loc Cert.OutActDIdeal.main_arg0)
      ∧ m' ((c.tc : Thread Cert.OutActDReferenceIdeal.nD Cert.OutActDReferenceIdeal.τ).loc Cert.OutActDReferenceIdeal.main_arg1) = m ((c.tc : Thread Cert.OutActDIdeal.nD Cert.OutActDIdeal.τ).loc Cert.OutActDIdeal.main_arg1)) →
    ∃ (v0 : (c : Dev Cert.OutActDIdeal.nD) → Buf (Elt Ideal) ((c.tc : Thread Cert.OutActDIdeal.nD Cert.OutActDIdeal.τ).loc Cert.OutActDIdeal.main_v0)),
      θ_run (Cert.OutActDIdeal.defs (F := Ideal)) (onTc (τ := Cert.OutActDIdeal.τ) (Cert.OutActDIdeal.main (F := Ideal))) ⟨m, fun _ => 0, g⟩ (fun r => ∀ c : Dev Cert.OutActDIdeal.nD,
          r.2.mem ((c.tc : Thread Cert.OutActDIdeal.nD Cert.OutActDIdeal.τ).loc Cert.OutActDIdeal.main_v0) = v0 c
          ∧ r.2.mem ((c.tc : Thread Cert.OutActDIdeal.nD Cert.OutActDIdeal.τ).loc Cert.OutActDIdeal.main_arg0) = m ((c.tc : Thread Cert.OutActDIdeal.nD Cert.OutActDIdeal.τ).loc Cert.OutActDIdeal.main_arg0)
          ∧ r.2.mem ((c.tc : Thread Cert.OutActDIdeal.nD Cert.OutActDIdeal.τ).loc Cert.OutActDIdeal.main_arg1) = m ((c.tc : Thread Cert.OutActDIdeal.nD Cert.OutActDIdeal.τ).loc Cert.OutActDIdeal.main_arg1))
      ∧ θ_run (Cert.OutActDReferenceIdeal.defs (F := Ideal)) (onTc (τ := Cert.OutActDReferenceIdeal.τ) (Cert.OutActDReferenceIdeal.main (F := Ideal))) ⟨m', fun _ => 0, g'⟩ (fun r => ∀ c : Dev Cert.OutActDReferenceIdeal.nD,
          r.2.mem ((c.tc : Thread Cert.OutActDReferenceIdeal.nD Cert.OutActDReferenceIdeal.τ).loc Cert.OutActDReferenceIdeal.main_v4) = v0 c
          ∧ r.2.mem ((c.tc : Thread Cert.OutActDReferenceIdeal.nD Cert.OutActDReferenceIdeal.τ).loc Cert.OutActDReferenceIdeal.main_arg0) = m' ((c.tc : Thread Cert.OutActDReferenceIdeal.nD Cert.OutActDReferenceIdeal.τ).loc Cert.OutActDReferenceIdeal.main_arg0)
          ∧ r.2.mem ((c.tc : Thread Cert.OutActDReferenceIdeal.nD Cert.OutActDReferenceIdeal.τ).loc Cert.OutActDReferenceIdeal.main_arg1) = m' ((c.tc : Thread Cert.OutActDReferenceIdeal.nD Cert.OutActDReferenceIdeal.τ).loc Cert.OutActDReferenceIdeal.main_arg1))

def preserves_OutWeightA_OutWeightAIdeal : Prop :=
  True

def algebraic_OutWeightAIdeal_OutWeightAReferenceIdeal [hOutWeightAIdeal : Cert.OutWeightAIdeal.Facts] [hOutWeightAReferenceIdeal : Cert.OutWeightAReferenceIdeal.Facts] : Prop :=
  ∀ (m : (ℓ : Loc Cert.OutWeightAIdeal.nD Cert.OutWeightAIdeal.τ Cert.OutWeightAIdeal.sig) → Buf (Elt Ideal) ℓ) (g : Dev Cert.OutWeightAIdeal.nD → PrngReg)
    (m' : (ℓ : Loc Cert.OutWeightAReferenceIdeal.nD Cert.OutWeightAReferenceIdeal.τ Cert.OutWeightAReferenceIdeal.sig) → Buf (Elt Ideal) ℓ) (g' : Dev Cert.OutWeightAReferenceIdeal.nD → PrngReg), Pre_OutWeightAIdeal m →
    (∀ c : Dev Cert.OutWeightAIdeal.nD,
      m' ((c.tc : Thread Cert.OutWeightAReferenceIdeal.nD Cert.OutWeightAReferenceIdeal.τ).loc Cert.OutWeightAReferenceIdeal.main_arg0) = m ((c.tc : Thread Cert.OutWeightAIdeal.nD Cert.OutWeightAIdeal.τ).loc Cert.OutWeightAIdeal.main_arg0)
      ∧ m' ((c.tc : Thread Cert.OutWeightAReferenceIdeal.nD Cert.OutWeightAReferenceIdeal.τ).loc Cert.OutWeightAReferenceIdeal.main_arg1) = m ((c.tc : Thread Cert.OutWeightAIdeal.nD Cert.OutWeightAIdeal.τ).loc Cert.OutWeightAIdeal.main_arg1)) →
    ∃ (v0 : (c : Dev Cert.OutWeightAIdeal.nD) → Buf (Elt Ideal) ((c.tc : Thread Cert.OutWeightAIdeal.nD Cert.OutWeightAIdeal.τ).loc Cert.OutWeightAIdeal.main_v0)),
      θ_run (Cert.OutWeightAIdeal.defs (F := Ideal)) (onTc (τ := Cert.OutWeightAIdeal.τ) (Cert.OutWeightAIdeal.main (F := Ideal))) ⟨m, fun _ => 0, g⟩ (fun r => ∀ c : Dev Cert.OutWeightAIdeal.nD,
          r.2.mem ((c.tc : Thread Cert.OutWeightAIdeal.nD Cert.OutWeightAIdeal.τ).loc Cert.OutWeightAIdeal.main_v0) = v0 c
          ∧ r.2.mem ((c.tc : Thread Cert.OutWeightAIdeal.nD Cert.OutWeightAIdeal.τ).loc Cert.OutWeightAIdeal.main_arg0) = m ((c.tc : Thread Cert.OutWeightAIdeal.nD Cert.OutWeightAIdeal.τ).loc Cert.OutWeightAIdeal.main_arg0)
          ∧ r.2.mem ((c.tc : Thread Cert.OutWeightAIdeal.nD Cert.OutWeightAIdeal.τ).loc Cert.OutWeightAIdeal.main_arg1) = m ((c.tc : Thread Cert.OutWeightAIdeal.nD Cert.OutWeightAIdeal.τ).loc Cert.OutWeightAIdeal.main_arg1))
      ∧ θ_run (Cert.OutWeightAReferenceIdeal.defs (F := Ideal)) (onTc (τ := Cert.OutWeightAReferenceIdeal.τ) (Cert.OutWeightAReferenceIdeal.main (F := Ideal))) ⟨m', fun _ => 0, g'⟩ (fun r => ∀ c : Dev Cert.OutWeightAReferenceIdeal.nD,
          r.2.mem ((c.tc : Thread Cert.OutWeightAReferenceIdeal.nD Cert.OutWeightAReferenceIdeal.τ).loc Cert.OutWeightAReferenceIdeal.main_v5) = v0 c
          ∧ r.2.mem ((c.tc : Thread Cert.OutWeightAReferenceIdeal.nD Cert.OutWeightAReferenceIdeal.τ).loc Cert.OutWeightAReferenceIdeal.main_arg0) = m' ((c.tc : Thread Cert.OutWeightAReferenceIdeal.nD Cert.OutWeightAReferenceIdeal.τ).loc Cert.OutWeightAReferenceIdeal.main_arg0)
          ∧ r.2.mem ((c.tc : Thread Cert.OutWeightAReferenceIdeal.nD Cert.OutWeightAReferenceIdeal.τ).loc Cert.OutWeightAReferenceIdeal.main_arg1) = m' ((c.tc : Thread Cert.OutWeightAReferenceIdeal.nD Cert.OutWeightAReferenceIdeal.τ).loc Cert.OutWeightAReferenceIdeal.main_arg1))

def preserves_OutWeightB_OutWeightBIdeal : Prop :=
  True

def algebraic_OutWeightBIdeal_OutWeightBReferenceIdeal [hOutWeightBIdeal : Cert.OutWeightBIdeal.Facts] [hOutWeightBReferenceIdeal : Cert.OutWeightBReferenceIdeal.Facts] : Prop :=
  ∀ (m : (ℓ : Loc Cert.OutWeightBIdeal.nD Cert.OutWeightBIdeal.τ Cert.OutWeightBIdeal.sig) → Buf (Elt Ideal) ℓ) (g : Dev Cert.OutWeightBIdeal.nD → PrngReg)
    (m' : (ℓ : Loc Cert.OutWeightBReferenceIdeal.nD Cert.OutWeightBReferenceIdeal.τ Cert.OutWeightBReferenceIdeal.sig) → Buf (Elt Ideal) ℓ) (g' : Dev Cert.OutWeightBReferenceIdeal.nD → PrngReg), Pre_OutWeightBIdeal m →
    (∀ c : Dev Cert.OutWeightBIdeal.nD,
      m' ((c.tc : Thread Cert.OutWeightBReferenceIdeal.nD Cert.OutWeightBReferenceIdeal.τ).loc Cert.OutWeightBReferenceIdeal.main_arg0) = m ((c.tc : Thread Cert.OutWeightBIdeal.nD Cert.OutWeightBIdeal.τ).loc Cert.OutWeightBIdeal.main_arg0)
      ∧ m' ((c.tc : Thread Cert.OutWeightBReferenceIdeal.nD Cert.OutWeightBReferenceIdeal.τ).loc Cert.OutWeightBReferenceIdeal.main_arg1) = m ((c.tc : Thread Cert.OutWeightBIdeal.nD Cert.OutWeightBIdeal.τ).loc Cert.OutWeightBIdeal.main_arg1)) →
    ∃ (v0 : (c : Dev Cert.OutWeightBIdeal.nD) → Buf (Elt Ideal) ((c.tc : Thread Cert.OutWeightBIdeal.nD Cert.OutWeightBIdeal.τ).loc Cert.OutWeightBIdeal.main_v0)),
      θ_run (Cert.OutWeightBIdeal.defs (F := Ideal)) (onTc (τ := Cert.OutWeightBIdeal.τ) (Cert.OutWeightBIdeal.main (F := Ideal))) ⟨m, fun _ => 0, g⟩ (fun r => ∀ c : Dev Cert.OutWeightBIdeal.nD,
          r.2.mem ((c.tc : Thread Cert.OutWeightBIdeal.nD Cert.OutWeightBIdeal.τ).loc Cert.OutWeightBIdeal.main_v0) = v0 c
          ∧ r.2.mem ((c.tc : Thread Cert.OutWeightBIdeal.nD Cert.OutWeightBIdeal.τ).loc Cert.OutWeightBIdeal.main_arg0) = m ((c.tc : Thread Cert.OutWeightBIdeal.nD Cert.OutWeightBIdeal.τ).loc Cert.OutWeightBIdeal.main_arg0)
          ∧ r.2.mem ((c.tc : Thread Cert.OutWeightBIdeal.nD Cert.OutWeightBIdeal.τ).loc Cert.OutWeightBIdeal.main_arg1) = m ((c.tc : Thread Cert.OutWeightBIdeal.nD Cert.OutWeightBIdeal.τ).loc Cert.OutWeightBIdeal.main_arg1))
      ∧ θ_run (Cert.OutWeightBReferenceIdeal.defs (F := Ideal)) (onTc (τ := Cert.OutWeightBReferenceIdeal.τ) (Cert.OutWeightBReferenceIdeal.main (F := Ideal))) ⟨m', fun _ => 0, g'⟩ (fun r => ∀ c : Dev Cert.OutWeightBReferenceIdeal.nD,
          r.2.mem ((c.tc : Thread Cert.OutWeightBReferenceIdeal.nD Cert.OutWeightBReferenceIdeal.τ).loc Cert.OutWeightBReferenceIdeal.main_v5) = v0 c
          ∧ r.2.mem ((c.tc : Thread Cert.OutWeightBReferenceIdeal.nD Cert.OutWeightBReferenceIdeal.τ).loc Cert.OutWeightBReferenceIdeal.main_arg0) = m' ((c.tc : Thread Cert.OutWeightBReferenceIdeal.nD Cert.OutWeightBReferenceIdeal.τ).loc Cert.OutWeightBReferenceIdeal.main_arg0)
          ∧ r.2.mem ((c.tc : Thread Cert.OutWeightBReferenceIdeal.nD Cert.OutWeightBReferenceIdeal.τ).loc Cert.OutWeightBReferenceIdeal.main_arg1) = m' ((c.tc : Thread Cert.OutWeightBReferenceIdeal.nD Cert.OutWeightBReferenceIdeal.τ).loc Cert.OutWeightBReferenceIdeal.main_arg1))

def preserves_OutWeightC_OutWeightCIdeal : Prop :=
  True

def algebraic_OutWeightCIdeal_OutWeightCReferenceIdeal [hOutWeightCIdeal : Cert.OutWeightCIdeal.Facts] [hOutWeightCReferenceIdeal : Cert.OutWeightCReferenceIdeal.Facts] : Prop :=
  ∀ (m : (ℓ : Loc Cert.OutWeightCIdeal.nD Cert.OutWeightCIdeal.τ Cert.OutWeightCIdeal.sig) → Buf (Elt Ideal) ℓ) (g : Dev Cert.OutWeightCIdeal.nD → PrngReg)
    (m' : (ℓ : Loc Cert.OutWeightCReferenceIdeal.nD Cert.OutWeightCReferenceIdeal.τ Cert.OutWeightCReferenceIdeal.sig) → Buf (Elt Ideal) ℓ) (g' : Dev Cert.OutWeightCReferenceIdeal.nD → PrngReg), Pre_OutWeightCIdeal m →
    (∀ c : Dev Cert.OutWeightCIdeal.nD,
      m' ((c.tc : Thread Cert.OutWeightCReferenceIdeal.nD Cert.OutWeightCReferenceIdeal.τ).loc Cert.OutWeightCReferenceIdeal.main_arg0) = m ((c.tc : Thread Cert.OutWeightCIdeal.nD Cert.OutWeightCIdeal.τ).loc Cert.OutWeightCIdeal.main_arg0)
      ∧ m' ((c.tc : Thread Cert.OutWeightCReferenceIdeal.nD Cert.OutWeightCReferenceIdeal.τ).loc Cert.OutWeightCReferenceIdeal.main_arg1) = m ((c.tc : Thread Cert.OutWeightCIdeal.nD Cert.OutWeightCIdeal.τ).loc Cert.OutWeightCIdeal.main_arg1)) →
    ∃ (v0 : (c : Dev Cert.OutWeightCIdeal.nD) → Buf (Elt Ideal) ((c.tc : Thread Cert.OutWeightCIdeal.nD Cert.OutWeightCIdeal.τ).loc Cert.OutWeightCIdeal.main_v0)),
      θ_run (Cert.OutWeightCIdeal.defs (F := Ideal)) (onTc (τ := Cert.OutWeightCIdeal.τ) (Cert.OutWeightCIdeal.main (F := Ideal))) ⟨m, fun _ => 0, g⟩ (fun r => ∀ c : Dev Cert.OutWeightCIdeal.nD,
          r.2.mem ((c.tc : Thread Cert.OutWeightCIdeal.nD Cert.OutWeightCIdeal.τ).loc Cert.OutWeightCIdeal.main_v0) = v0 c
          ∧ r.2.mem ((c.tc : Thread Cert.OutWeightCIdeal.nD Cert.OutWeightCIdeal.τ).loc Cert.OutWeightCIdeal.main_arg0) = m ((c.tc : Thread Cert.OutWeightCIdeal.nD Cert.OutWeightCIdeal.τ).loc Cert.OutWeightCIdeal.main_arg0)
          ∧ r.2.mem ((c.tc : Thread Cert.OutWeightCIdeal.nD Cert.OutWeightCIdeal.τ).loc Cert.OutWeightCIdeal.main_arg1) = m ((c.tc : Thread Cert.OutWeightCIdeal.nD Cert.OutWeightCIdeal.τ).loc Cert.OutWeightCIdeal.main_arg1))
      ∧ θ_run (Cert.OutWeightCReferenceIdeal.defs (F := Ideal)) (onTc (τ := Cert.OutWeightCReferenceIdeal.τ) (Cert.OutWeightCReferenceIdeal.main (F := Ideal))) ⟨m', fun _ => 0, g'⟩ (fun r => ∀ c : Dev Cert.OutWeightCReferenceIdeal.nD,
          r.2.mem ((c.tc : Thread Cert.OutWeightCReferenceIdeal.nD Cert.OutWeightCReferenceIdeal.τ).loc Cert.OutWeightCReferenceIdeal.main_v5) = v0 c
          ∧ r.2.mem ((c.tc : Thread Cert.OutWeightCReferenceIdeal.nD Cert.OutWeightCReferenceIdeal.τ).loc Cert.OutWeightCReferenceIdeal.main_arg0) = m' ((c.tc : Thread Cert.OutWeightCReferenceIdeal.nD Cert.OutWeightCReferenceIdeal.τ).loc Cert.OutWeightCReferenceIdeal.main_arg0)
          ∧ r.2.mem ((c.tc : Thread Cert.OutWeightCReferenceIdeal.nD Cert.OutWeightCReferenceIdeal.τ).loc Cert.OutWeightCReferenceIdeal.main_arg1) = m' ((c.tc : Thread Cert.OutWeightCReferenceIdeal.nD Cert.OutWeightCReferenceIdeal.τ).loc Cert.OutWeightCReferenceIdeal.main_arg1))

def preserves_OutWeightD_OutWeightDIdeal : Prop :=
  True

def algebraic_OutWeightDIdeal_OutWeightDReferenceIdeal [hOutWeightDIdeal : Cert.OutWeightDIdeal.Facts] [hOutWeightDReferenceIdeal : Cert.OutWeightDReferenceIdeal.Facts] : Prop :=
  ∀ (m : (ℓ : Loc Cert.OutWeightDIdeal.nD Cert.OutWeightDIdeal.τ Cert.OutWeightDIdeal.sig) → Buf (Elt Ideal) ℓ) (g : Dev Cert.OutWeightDIdeal.nD → PrngReg)
    (m' : (ℓ : Loc Cert.OutWeightDReferenceIdeal.nD Cert.OutWeightDReferenceIdeal.τ Cert.OutWeightDReferenceIdeal.sig) → Buf (Elt Ideal) ℓ) (g' : Dev Cert.OutWeightDReferenceIdeal.nD → PrngReg), Pre_OutWeightDIdeal m →
    (∀ c : Dev Cert.OutWeightDIdeal.nD,
      m' ((c.tc : Thread Cert.OutWeightDReferenceIdeal.nD Cert.OutWeightDReferenceIdeal.τ).loc Cert.OutWeightDReferenceIdeal.main_arg0) = m ((c.tc : Thread Cert.OutWeightDIdeal.nD Cert.OutWeightDIdeal.τ).loc Cert.OutWeightDIdeal.main_arg0)
      ∧ m' ((c.tc : Thread Cert.OutWeightDReferenceIdeal.nD Cert.OutWeightDReferenceIdeal.τ).loc Cert.OutWeightDReferenceIdeal.main_arg1) = m ((c.tc : Thread Cert.OutWeightDIdeal.nD Cert.OutWeightDIdeal.τ).loc Cert.OutWeightDIdeal.main_arg1)) →
    ∃ (v0 : (c : Dev Cert.OutWeightDIdeal.nD) → Buf (Elt Ideal) ((c.tc : Thread Cert.OutWeightDIdeal.nD Cert.OutWeightDIdeal.τ).loc Cert.OutWeightDIdeal.main_v0)),
      θ_run (Cert.OutWeightDIdeal.defs (F := Ideal)) (onTc (τ := Cert.OutWeightDIdeal.τ) (Cert.OutWeightDIdeal.main (F := Ideal))) ⟨m, fun _ => 0, g⟩ (fun r => ∀ c : Dev Cert.OutWeightDIdeal.nD,
          r.2.mem ((c.tc : Thread Cert.OutWeightDIdeal.nD Cert.OutWeightDIdeal.τ).loc Cert.OutWeightDIdeal.main_v0) = v0 c
          ∧ r.2.mem ((c.tc : Thread Cert.OutWeightDIdeal.nD Cert.OutWeightDIdeal.τ).loc Cert.OutWeightDIdeal.main_arg0) = m ((c.tc : Thread Cert.OutWeightDIdeal.nD Cert.OutWeightDIdeal.τ).loc Cert.OutWeightDIdeal.main_arg0)
          ∧ r.2.mem ((c.tc : Thread Cert.OutWeightDIdeal.nD Cert.OutWeightDIdeal.τ).loc Cert.OutWeightDIdeal.main_arg1) = m ((c.tc : Thread Cert.OutWeightDIdeal.nD Cert.OutWeightDIdeal.τ).loc Cert.OutWeightDIdeal.main_arg1))
      ∧ θ_run (Cert.OutWeightDReferenceIdeal.defs (F := Ideal)) (onTc (τ := Cert.OutWeightDReferenceIdeal.τ) (Cert.OutWeightDReferenceIdeal.main (F := Ideal))) ⟨m', fun _ => 0, g'⟩ (fun r => ∀ c : Dev Cert.OutWeightDReferenceIdeal.nD,
          r.2.mem ((c.tc : Thread Cert.OutWeightDReferenceIdeal.nD Cert.OutWeightDReferenceIdeal.τ).loc Cert.OutWeightDReferenceIdeal.main_v5) = v0 c
          ∧ r.2.mem ((c.tc : Thread Cert.OutWeightDReferenceIdeal.nD Cert.OutWeightDReferenceIdeal.τ).loc Cert.OutWeightDReferenceIdeal.main_arg0) = m' ((c.tc : Thread Cert.OutWeightDReferenceIdeal.nD Cert.OutWeightDReferenceIdeal.τ).loc Cert.OutWeightDReferenceIdeal.main_arg0)
          ∧ r.2.mem ((c.tc : Thread Cert.OutWeightDReferenceIdeal.nD Cert.OutWeightDReferenceIdeal.τ).loc Cert.OutWeightDReferenceIdeal.main_arg1) = m' ((c.tc : Thread Cert.OutWeightDReferenceIdeal.nD Cert.OutWeightDReferenceIdeal.τ).loc Cert.OutWeightDReferenceIdeal.main_arg1))

def preserves_NormGrad_NormGradIdeal : Prop :=
  True

def algebraic_NormGradIdeal_NormGradReferenceIdeal [hNormGradIdeal : Cert.NormGradIdeal.Facts] [hNormGradReferenceIdeal : Cert.NormGradReferenceIdeal.Facts] : Prop :=
  ∀ (m : (ℓ : Loc Cert.NormGradIdeal.nD Cert.NormGradIdeal.τ Cert.NormGradIdeal.sig) → Buf (Elt Ideal) ℓ) (g : Dev Cert.NormGradIdeal.nD → PrngReg)
    (m' : (ℓ : Loc Cert.NormGradReferenceIdeal.nD Cert.NormGradReferenceIdeal.τ Cert.NormGradReferenceIdeal.sig) → Buf (Elt Ideal) ℓ) (g' : Dev Cert.NormGradReferenceIdeal.nD → PrngReg), Pre_NormGradIdeal m →
    (∀ c : Dev Cert.NormGradIdeal.nD,
      m' ((c.tc : Thread Cert.NormGradReferenceIdeal.nD Cert.NormGradReferenceIdeal.τ).loc Cert.NormGradReferenceIdeal.main_arg0) = m ((c.tc : Thread Cert.NormGradIdeal.nD Cert.NormGradIdeal.τ).loc Cert.NormGradIdeal.main_arg0)
      ∧ m' ((c.tc : Thread Cert.NormGradReferenceIdeal.nD Cert.NormGradReferenceIdeal.τ).loc Cert.NormGradReferenceIdeal.main_arg1) = m ((c.tc : Thread Cert.NormGradIdeal.nD Cert.NormGradIdeal.τ).loc Cert.NormGradIdeal.main_arg1)
      ∧ m' ((c.tc : Thread Cert.NormGradReferenceIdeal.nD Cert.NormGradReferenceIdeal.τ).loc Cert.NormGradReferenceIdeal.main_arg2) = m ((c.tc : Thread Cert.NormGradIdeal.nD Cert.NormGradIdeal.τ).loc Cert.NormGradIdeal.main_arg2)
      ∧ m' ((c.tc : Thread Cert.NormGradReferenceIdeal.nD Cert.NormGradReferenceIdeal.τ).loc Cert.NormGradReferenceIdeal.main_arg3) = m ((c.tc : Thread Cert.NormGradIdeal.nD Cert.NormGradIdeal.τ).loc Cert.NormGradIdeal.main_arg3)) →
    ∃ (v0 : (c : Dev Cert.NormGradIdeal.nD) → Buf (Elt Ideal) ((c.tc : Thread Cert.NormGradIdeal.nD Cert.NormGradIdeal.τ).loc Cert.NormGradIdeal.main_v0_0)) (v1 : (c : Dev Cert.NormGradIdeal.nD) → Buf (Elt Ideal) ((c.tc : Thread Cert.NormGradIdeal.nD Cert.NormGradIdeal.τ).loc Cert.NormGradIdeal.main_v0_2)) (v2 : (c : Dev Cert.NormGradIdeal.nD) → Buf (Elt Ideal) ((c.tc : Thread Cert.NormGradIdeal.nD Cert.NormGradIdeal.τ).loc Cert.NormGradIdeal.main_v0_1)),
      θ_run (Cert.NormGradIdeal.defs (F := Ideal)) (onTc (τ := Cert.NormGradIdeal.τ) (Cert.NormGradIdeal.main (F := Ideal))) ⟨m, fun _ => 0, g⟩ (fun r => ∀ c : Dev Cert.NormGradIdeal.nD,
          r.2.mem ((c.tc : Thread Cert.NormGradIdeal.nD Cert.NormGradIdeal.τ).loc Cert.NormGradIdeal.main_v0_0) = v0 c
          ∧ r.2.mem ((c.tc : Thread Cert.NormGradIdeal.nD Cert.NormGradIdeal.τ).loc Cert.NormGradIdeal.main_v0_2) = v1 c
          ∧ r.2.mem ((c.tc : Thread Cert.NormGradIdeal.nD Cert.NormGradIdeal.τ).loc Cert.NormGradIdeal.main_v0_1) = v2 c
          ∧ r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
          ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
          ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
          ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3))
      ∧ θ_run (Cert.NormGradReferenceIdeal.defs (F := Ideal)) (onTc (τ := Cert.NormGradReferenceIdeal.τ) (Cert.NormGradReferenceIdeal.main (F := Ideal))) ⟨m', fun _ => 0, g'⟩ (fun r => ∀ c : Dev Cert.NormGradReferenceIdeal.nD,
          r.2.mem ((c.tc : Thread Cert.NormGradReferenceIdeal.nD Cert.NormGradReferenceIdeal.τ).loc Cert.NormGradReferenceIdeal.main_v34) = v0 c
          ∧ r.2.mem ((c.tc : Thread Cert.NormGradReferenceIdeal.nD Cert.NormGradReferenceIdeal.τ).loc Cert.NormGradReferenceIdeal.main_v36) = v1 c
          ∧ r.2.mem ((c.tc : Thread Cert.NormGradReferenceIdeal.nD Cert.NormGradReferenceIdeal.τ).loc Cert.NormGradReferenceIdeal.main_v17) = v2 c
          ∧ r.2.mem ((c.tc : Thread Cert.NormGradReferenceIdeal.nD Cert.NormGradReferenceIdeal.τ).loc Cert.NormGradReferenceIdeal.main_arg0) = m' ((c.tc : Thread Cert.NormGradReferenceIdeal.nD Cert.NormGradReferenceIdeal.τ).loc Cert.NormGradReferenceIdeal.main_arg0)
          ∧ r.2.mem ((c.tc : Thread Cert.NormGradReferenceIdeal.nD Cert.NormGradReferenceIdeal.τ).loc Cert.NormGradReferenceIdeal.main_arg1) = m' ((c.tc : Thread Cert.NormGradReferenceIdeal.nD Cert.NormGradReferenceIdeal.τ).loc Cert.NormGradReferenceIdeal.main_arg1)
          ∧ r.2.mem ((c.tc : Thread Cert.NormGradReferenceIdeal.nD Cert.NormGradReferenceIdeal.τ).loc Cert.NormGradReferenceIdeal.main_arg2) = m' ((c.tc : Thread Cert.NormGradReferenceIdeal.nD Cert.NormGradReferenceIdeal.τ).loc Cert.NormGradReferenceIdeal.main_arg2)
          ∧ r.2.mem ((c.tc : Thread Cert.NormGradReferenceIdeal.nD Cert.NormGradReferenceIdeal.τ).loc Cert.NormGradReferenceIdeal.main_arg3) = m' ((c.tc : Thread Cert.NormGradReferenceIdeal.nD Cert.NormGradReferenceIdeal.τ).loc Cert.NormGradReferenceIdeal.main_arg3))

def preserves_InWeightG_InWeightGIdeal : Prop :=
  True

def algebraic_InWeightGIdeal_InWeightGReferenceIdeal [hInWeightGIdeal : Cert.InWeightGIdeal.Facts] [hInWeightGReferenceIdeal : Cert.InWeightGReferenceIdeal.Facts] : Prop :=
  ∀ (m : (ℓ : Loc Cert.InWeightGIdeal.nD Cert.InWeightGIdeal.τ Cert.InWeightGIdeal.sig) → Buf (Elt Ideal) ℓ) (g : Dev Cert.InWeightGIdeal.nD → PrngReg)
    (m' : (ℓ : Loc Cert.InWeightGReferenceIdeal.nD Cert.InWeightGReferenceIdeal.τ Cert.InWeightGReferenceIdeal.sig) → Buf (Elt Ideal) ℓ) (g' : Dev Cert.InWeightGReferenceIdeal.nD → PrngReg), Pre_InWeightGIdeal m →
    (∀ c : Dev Cert.InWeightGIdeal.nD,
      m' ((c.tc : Thread Cert.InWeightGReferenceIdeal.nD Cert.InWeightGReferenceIdeal.τ).loc Cert.InWeightGReferenceIdeal.main_arg0) = m ((c.tc : Thread Cert.InWeightGIdeal.nD Cert.InWeightGIdeal.τ).loc Cert.InWeightGIdeal.main_arg0)
      ∧ m' ((c.tc : Thread Cert.InWeightGReferenceIdeal.nD Cert.InWeightGReferenceIdeal.τ).loc Cert.InWeightGReferenceIdeal.main_arg1) = m ((c.tc : Thread Cert.InWeightGIdeal.nD Cert.InWeightGIdeal.τ).loc Cert.InWeightGIdeal.main_arg1)) →
    ∃ (v0 : (c : Dev Cert.InWeightGIdeal.nD) → Buf (Elt Ideal) ((c.tc : Thread Cert.InWeightGIdeal.nD Cert.InWeightGIdeal.τ).loc Cert.InWeightGIdeal.main_v0)),
      θ_run (Cert.InWeightGIdeal.defs (F := Ideal)) (onTc (τ := Cert.InWeightGIdeal.τ) (Cert.InWeightGIdeal.main (F := Ideal))) ⟨m, fun _ => 0, g⟩ (fun r => ∀ c : Dev Cert.InWeightGIdeal.nD,
          r.2.mem ((c.tc : Thread Cert.InWeightGIdeal.nD Cert.InWeightGIdeal.τ).loc Cert.InWeightGIdeal.main_v0) = v0 c
          ∧ r.2.mem ((c.tc : Thread Cert.InWeightGIdeal.nD Cert.InWeightGIdeal.τ).loc Cert.InWeightGIdeal.main_arg0) = m ((c.tc : Thread Cert.InWeightGIdeal.nD Cert.InWeightGIdeal.τ).loc Cert.InWeightGIdeal.main_arg0)
          ∧ r.2.mem ((c.tc : Thread Cert.InWeightGIdeal.nD Cert.InWeightGIdeal.τ).loc Cert.InWeightGIdeal.main_arg1) = m ((c.tc : Thread Cert.InWeightGIdeal.nD Cert.InWeightGIdeal.τ).loc Cert.InWeightGIdeal.main_arg1))
      ∧ θ_run (Cert.InWeightGReferenceIdeal.defs (F := Ideal)) (onTc (τ := Cert.InWeightGReferenceIdeal.τ) (Cert.InWeightGReferenceIdeal.main (F := Ideal))) ⟨m', fun _ => 0, g'⟩ (fun r => ∀ c : Dev Cert.InWeightGReferenceIdeal.nD,
          r.2.mem ((c.tc : Thread Cert.InWeightGReferenceIdeal.nD Cert.InWeightGReferenceIdeal.τ).loc Cert.InWeightGReferenceIdeal.main_v5) = v0 c
          ∧ r.2.mem ((c.tc : Thread Cert.InWeightGReferenceIdeal.nD Cert.InWeightGReferenceIdeal.τ).loc Cert.InWeightGReferenceIdeal.main_arg0) = m' ((c.tc : Thread Cert.InWeightGReferenceIdeal.nD Cert.InWeightGReferenceIdeal.τ).loc Cert.InWeightGReferenceIdeal.main_arg0)
          ∧ r.2.mem ((c.tc : Thread Cert.InWeightGReferenceIdeal.nD Cert.InWeightGReferenceIdeal.τ).loc Cert.InWeightGReferenceIdeal.main_arg1) = m' ((c.tc : Thread Cert.InWeightGReferenceIdeal.nD Cert.InWeightGReferenceIdeal.τ).loc Cert.InWeightGReferenceIdeal.main_arg1))

def preserves_InWeightT_InWeightTIdeal : Prop :=
  True

def algebraic_InWeightTIdeal_InWeightTReferenceIdeal [hInWeightTIdeal : Cert.InWeightTIdeal.Facts] [hInWeightTReferenceIdeal : Cert.InWeightTReferenceIdeal.Facts] : Prop :=
  ∀ (m : (ℓ : Loc Cert.InWeightTIdeal.nD Cert.InWeightTIdeal.τ Cert.InWeightTIdeal.sig) → Buf (Elt Ideal) ℓ) (g : Dev Cert.InWeightTIdeal.nD → PrngReg)
    (m' : (ℓ : Loc Cert.InWeightTReferenceIdeal.nD Cert.InWeightTReferenceIdeal.τ Cert.InWeightTReferenceIdeal.sig) → Buf (Elt Ideal) ℓ) (g' : Dev Cert.InWeightTReferenceIdeal.nD → PrngReg), Pre_InWeightTIdeal m →
    (∀ c : Dev Cert.InWeightTIdeal.nD,
      m' ((c.tc : Thread Cert.InWeightTReferenceIdeal.nD Cert.InWeightTReferenceIdeal.τ).loc Cert.InWeightTReferenceIdeal.main_arg0) = m ((c.tc : Thread Cert.InWeightTIdeal.nD Cert.InWeightTIdeal.τ).loc Cert.InWeightTIdeal.main_arg0)
      ∧ m' ((c.tc : Thread Cert.InWeightTReferenceIdeal.nD Cert.InWeightTReferenceIdeal.τ).loc Cert.InWeightTReferenceIdeal.main_arg1) = m ((c.tc : Thread Cert.InWeightTIdeal.nD Cert.InWeightTIdeal.τ).loc Cert.InWeightTIdeal.main_arg1)) →
    ∃ (v0 : (c : Dev Cert.InWeightTIdeal.nD) → Buf (Elt Ideal) ((c.tc : Thread Cert.InWeightTIdeal.nD Cert.InWeightTIdeal.τ).loc Cert.InWeightTIdeal.main_v0)),
      θ_run (Cert.InWeightTIdeal.defs (F := Ideal)) (onTc (τ := Cert.InWeightTIdeal.τ) (Cert.InWeightTIdeal.main (F := Ideal))) ⟨m, fun _ => 0, g⟩ (fun r => ∀ c : Dev Cert.InWeightTIdeal.nD,
          r.2.mem ((c.tc : Thread Cert.InWeightTIdeal.nD Cert.InWeightTIdeal.τ).loc Cert.InWeightTIdeal.main_v0) = v0 c
          ∧ r.2.mem ((c.tc : Thread Cert.InWeightTIdeal.nD Cert.InWeightTIdeal.τ).loc Cert.InWeightTIdeal.main_arg0) = m ((c.tc : Thread Cert.InWeightTIdeal.nD Cert.InWeightTIdeal.τ).loc Cert.InWeightTIdeal.main_arg0)
          ∧ r.2.mem ((c.tc : Thread Cert.InWeightTIdeal.nD Cert.InWeightTIdeal.τ).loc Cert.InWeightTIdeal.main_arg1) = m ((c.tc : Thread Cert.InWeightTIdeal.nD Cert.InWeightTIdeal.τ).loc Cert.InWeightTIdeal.main_arg1))
      ∧ θ_run (Cert.InWeightTReferenceIdeal.defs (F := Ideal)) (onTc (τ := Cert.InWeightTReferenceIdeal.τ) (Cert.InWeightTReferenceIdeal.main (F := Ideal))) ⟨m', fun _ => 0, g'⟩ (fun r => ∀ c : Dev Cert.InWeightTReferenceIdeal.nD,
          r.2.mem ((c.tc : Thread Cert.InWeightTReferenceIdeal.nD Cert.InWeightTReferenceIdeal.τ).loc Cert.InWeightTReferenceIdeal.main_v4) = v0 c
          ∧ r.2.mem ((c.tc : Thread Cert.InWeightTReferenceIdeal.nD Cert.InWeightTReferenceIdeal.τ).loc Cert.InWeightTReferenceIdeal.main_arg0) = m' ((c.tc : Thread Cert.InWeightTReferenceIdeal.nD Cert.InWeightTReferenceIdeal.τ).loc Cert.InWeightTReferenceIdeal.main_arg0)
          ∧ r.2.mem ((c.tc : Thread Cert.InWeightTReferenceIdeal.nD Cert.InWeightTReferenceIdeal.τ).loc Cert.InWeightTReferenceIdeal.main_arg1) = m' ((c.tc : Thread Cert.InWeightTReferenceIdeal.nD Cert.InWeightTReferenceIdeal.τ).loc Cert.InWeightTReferenceIdeal.main_arg1))

def preserves_Mem_MemIdeal : Prop :=
  True

def algebraic_MemIdeal_MemReferenceIdeal [hMemIdeal : Cert.MemIdeal.Facts] [hMemReferenceIdeal : Cert.MemReferenceIdeal.Facts] : Prop :=
  ∀ (m : (ℓ : Loc Cert.MemIdeal.nD Cert.MemIdeal.τ Cert.MemIdeal.sig) → Buf (Elt Ideal) ℓ) (g : Dev Cert.MemIdeal.nD → PrngReg)
    (m' : (ℓ : Loc Cert.MemReferenceIdeal.nD Cert.MemReferenceIdeal.τ Cert.MemReferenceIdeal.sig) → Buf (Elt Ideal) ℓ) (g' : Dev Cert.MemReferenceIdeal.nD → PrngReg), Pre_MemIdeal m →
    (∀ c : Dev Cert.MemIdeal.nD,
      m' ((c.tc : Thread Cert.MemReferenceIdeal.nD Cert.MemReferenceIdeal.τ).loc Cert.MemReferenceIdeal.main_arg0) = m ((c.tc : Thread Cert.MemIdeal.nD Cert.MemIdeal.τ).loc Cert.MemIdeal.main_arg0)
      ∧ m' ((c.tc : Thread Cert.MemReferenceIdeal.nD Cert.MemReferenceIdeal.τ).loc Cert.MemReferenceIdeal.main_arg1) = m ((c.tc : Thread Cert.MemIdeal.nD Cert.MemIdeal.τ).loc Cert.MemIdeal.main_arg1)) →
    ∃ (v0 : (c : Dev Cert.MemIdeal.nD) → Buf (Elt Ideal) ((c.tc : Thread Cert.MemIdeal.nD Cert.MemIdeal.τ).loc Cert.MemIdeal.main_v0)),
      θ_run (Cert.MemIdeal.defs (F := Ideal)) (onTc (τ := Cert.MemIdeal.τ) (Cert.MemIdeal.main (F := Ideal))) ⟨m, fun _ => 0, g⟩ (fun r => ∀ c : Dev Cert.MemIdeal.nD,
          r.2.mem ((c.tc : Thread Cert.MemIdeal.nD Cert.MemIdeal.τ).loc Cert.MemIdeal.main_v0) = v0 c
          ∧ r.2.mem ((c.tc : Thread Cert.MemIdeal.nD Cert.MemIdeal.τ).loc Cert.MemIdeal.main_arg0) = m ((c.tc : Thread Cert.MemIdeal.nD Cert.MemIdeal.τ).loc Cert.MemIdeal.main_arg0)
          ∧ r.2.mem ((c.tc : Thread Cert.MemIdeal.nD Cert.MemIdeal.τ).loc Cert.MemIdeal.main_arg1) = m ((c.tc : Thread Cert.MemIdeal.nD Cert.MemIdeal.τ).loc Cert.MemIdeal.main_arg1))
      ∧ θ_run (Cert.MemReferenceIdeal.defs (F := Ideal)) (onTc (τ := Cert.MemReferenceIdeal.τ) (Cert.MemReferenceIdeal.main (F := Ideal))) ⟨m', fun _ => 0, g'⟩ (fun r => ∀ c : Dev Cert.MemReferenceIdeal.nD,
          r.2.mem ((c.tc : Thread Cert.MemReferenceIdeal.nD Cert.MemReferenceIdeal.τ).loc Cert.MemReferenceIdeal.main_v2) = v0 c
          ∧ r.2.mem ((c.tc : Thread Cert.MemReferenceIdeal.nD Cert.MemReferenceIdeal.τ).loc Cert.MemReferenceIdeal.main_arg0) = m' ((c.tc : Thread Cert.MemReferenceIdeal.nD Cert.MemReferenceIdeal.τ).loc Cert.MemReferenceIdeal.main_arg0)
          ∧ r.2.mem ((c.tc : Thread Cert.MemReferenceIdeal.nD Cert.MemReferenceIdeal.τ).loc Cert.MemReferenceIdeal.main_arg1) = m' ((c.tc : Thread Cert.MemReferenceIdeal.nD Cert.MemReferenceIdeal.τ).loc Cert.MemReferenceIdeal.main_arg1))

def preserves_MemAct_MemActIdeal : Prop :=
  True

def algebraic_MemActIdeal_MemActReferenceIdeal [hMemActIdeal : Cert.MemActIdeal.Facts] [hMemActReferenceIdeal : Cert.MemActReferenceIdeal.Facts] : Prop :=
  ∀ (m : (ℓ : Loc Cert.MemActIdeal.nD Cert.MemActIdeal.τ Cert.MemActIdeal.sig) → Buf (Elt Ideal) ℓ) (g : Dev Cert.MemActIdeal.nD → PrngReg)
    (m' : (ℓ : Loc Cert.MemActReferenceIdeal.nD Cert.MemActReferenceIdeal.τ Cert.MemActReferenceIdeal.sig) → Buf (Elt Ideal) ℓ) (g' : Dev Cert.MemActReferenceIdeal.nD → PrngReg), Pre_MemActIdeal m →
    (∀ c : Dev Cert.MemActIdeal.nD,
      m' ((c.tc : Thread Cert.MemActReferenceIdeal.nD Cert.MemActReferenceIdeal.τ).loc Cert.MemActReferenceIdeal.main_arg0) = m ((c.tc : Thread Cert.MemActIdeal.nD Cert.MemActIdeal.τ).loc Cert.MemActIdeal.main_arg0)
      ∧ m' ((c.tc : Thread Cert.MemActReferenceIdeal.nD Cert.MemActReferenceIdeal.τ).loc Cert.MemActReferenceIdeal.main_arg1) = m ((c.tc : Thread Cert.MemActIdeal.nD Cert.MemActIdeal.τ).loc Cert.MemActIdeal.main_arg1)
      ∧ m' ((c.tc : Thread Cert.MemActReferenceIdeal.nD Cert.MemActReferenceIdeal.τ).loc Cert.MemActReferenceIdeal.main_arg2) = m ((c.tc : Thread Cert.MemActIdeal.nD Cert.MemActIdeal.τ).loc Cert.MemActIdeal.main_arg2)) →
    ∃ (v0 : (c : Dev Cert.MemActIdeal.nD) → Buf (Elt Ideal) ((c.tc : Thread Cert.MemActIdeal.nD Cert.MemActIdeal.τ).loc Cert.MemActIdeal.main_v0)),
      θ_run (Cert.MemActIdeal.defs (F := Ideal)) (onTc (τ := Cert.MemActIdeal.τ) (Cert.MemActIdeal.main (F := Ideal))) ⟨m, fun _ => 0, g⟩ (fun r => ∀ c : Dev Cert.MemActIdeal.nD,
          r.2.mem ((c.tc : Thread Cert.MemActIdeal.nD Cert.MemActIdeal.τ).loc Cert.MemActIdeal.main_v0) = v0 c
          ∧ r.2.mem ((c.tc : Thread Cert.MemActIdeal.nD Cert.MemActIdeal.τ).loc Cert.MemActIdeal.main_arg0) = m ((c.tc : Thread Cert.MemActIdeal.nD Cert.MemActIdeal.τ).loc Cert.MemActIdeal.main_arg0)
          ∧ r.2.mem ((c.tc : Thread Cert.MemActIdeal.nD Cert.MemActIdeal.τ).loc Cert.MemActIdeal.main_arg1) = m ((c.tc : Thread Cert.MemActIdeal.nD Cert.MemActIdeal.τ).loc Cert.MemActIdeal.main_arg1)
          ∧ r.2.mem ((c.tc : Thread Cert.MemActIdeal.nD Cert.MemActIdeal.τ).loc Cert.MemActIdeal.main_arg2) = m ((c.tc : Thread Cert.MemActIdeal.nD Cert.MemActIdeal.τ).loc Cert.MemActIdeal.main_arg2))
      ∧ θ_run (Cert.MemActReferenceIdeal.defs (F := Ideal)) (onTc (τ := Cert.MemActReferenceIdeal.τ) (Cert.MemActReferenceIdeal.main (F := Ideal))) ⟨m', fun _ => 0, g'⟩ (fun r => ∀ c : Dev Cert.MemActReferenceIdeal.nD,
          r.2.mem ((c.tc : Thread Cert.MemActReferenceIdeal.nD Cert.MemActReferenceIdeal.τ).loc Cert.MemActReferenceIdeal.main_v4) = v0 c
          ∧ r.2.mem ((c.tc : Thread Cert.MemActReferenceIdeal.nD Cert.MemActReferenceIdeal.τ).loc Cert.MemActReferenceIdeal.main_arg0) = m' ((c.tc : Thread Cert.MemActReferenceIdeal.nD Cert.MemActReferenceIdeal.τ).loc Cert.MemActReferenceIdeal.main_arg0)
          ∧ r.2.mem ((c.tc : Thread Cert.MemActReferenceIdeal.nD Cert.MemActReferenceIdeal.τ).loc Cert.MemActReferenceIdeal.main_arg1) = m' ((c.tc : Thread Cert.MemActReferenceIdeal.nD Cert.MemActReferenceIdeal.τ).loc Cert.MemActReferenceIdeal.main_arg1)
          ∧ r.2.mem ((c.tc : Thread Cert.MemActReferenceIdeal.nD Cert.MemActReferenceIdeal.τ).loc Cert.MemActReferenceIdeal.main_arg2) = m' ((c.tc : Thread Cert.MemActReferenceIdeal.nD Cert.MemActReferenceIdeal.τ).loc Cert.MemActReferenceIdeal.main_arg2))

def preserves_MemWeight_MemWeightIdeal : Prop :=
  True

def algebraic_MemWeightIdeal_MemWeightReferenceIdeal [hMemWeightIdeal : Cert.MemWeightIdeal.Facts] [hMemWeightReferenceIdeal : Cert.MemWeightReferenceIdeal.Facts] : Prop :=
  ∀ (m : (ℓ : Loc Cert.MemWeightIdeal.nD Cert.MemWeightIdeal.τ Cert.MemWeightIdeal.sig) → Buf (Elt Ideal) ℓ) (g : Dev Cert.MemWeightIdeal.nD → PrngReg)
    (m' : (ℓ : Loc Cert.MemWeightReferenceIdeal.nD Cert.MemWeightReferenceIdeal.τ Cert.MemWeightReferenceIdeal.sig) → Buf (Elt Ideal) ℓ) (g' : Dev Cert.MemWeightReferenceIdeal.nD → PrngReg), Pre_MemWeightIdeal m →
    (∀ c : Dev Cert.MemWeightIdeal.nD,
      m' ((c.tc : Thread Cert.MemWeightReferenceIdeal.nD Cert.MemWeightReferenceIdeal.τ).loc Cert.MemWeightReferenceIdeal.main_arg0) = m ((c.tc : Thread Cert.MemWeightIdeal.nD Cert.MemWeightIdeal.τ).loc Cert.MemWeightIdeal.main_arg0)
      ∧ m' ((c.tc : Thread Cert.MemWeightReferenceIdeal.nD Cert.MemWeightReferenceIdeal.τ).loc Cert.MemWeightReferenceIdeal.main_arg1) = m ((c.tc : Thread Cert.MemWeightIdeal.nD Cert.MemWeightIdeal.τ).loc Cert.MemWeightIdeal.main_arg1)) →
    ∃ (v0 : (c : Dev Cert.MemWeightIdeal.nD) → Buf (Elt Ideal) ((c.tc : Thread Cert.MemWeightIdeal.nD Cert.MemWeightIdeal.τ).loc Cert.MemWeightIdeal.main_v0)),
      θ_run (Cert.MemWeightIdeal.defs (F := Ideal)) (onTc (τ := Cert.MemWeightIdeal.τ) (Cert.MemWeightIdeal.main (F := Ideal))) ⟨m, fun _ => 0, g⟩ (fun r => ∀ c : Dev Cert.MemWeightIdeal.nD,
          r.2.mem ((c.tc : Thread Cert.MemWeightIdeal.nD Cert.MemWeightIdeal.τ).loc Cert.MemWeightIdeal.main_v0) = v0 c
          ∧ r.2.mem ((c.tc : Thread Cert.MemWeightIdeal.nD Cert.MemWeightIdeal.τ).loc Cert.MemWeightIdeal.main_arg0) = m ((c.tc : Thread Cert.MemWeightIdeal.nD Cert.MemWeightIdeal.τ).loc Cert.MemWeightIdeal.main_arg0)
          ∧ r.2.mem ((c.tc : Thread Cert.MemWeightIdeal.nD Cert.MemWeightIdeal.τ).loc Cert.MemWeightIdeal.main_arg1) = m ((c.tc : Thread Cert.MemWeightIdeal.nD Cert.MemWeightIdeal.τ).loc Cert.MemWeightIdeal.main_arg1))
      ∧ θ_run (Cert.MemWeightReferenceIdeal.defs (F := Ideal)) (onTc (τ := Cert.MemWeightReferenceIdeal.τ) (Cert.MemWeightReferenceIdeal.main (F := Ideal))) ⟨m', fun _ => 0, g'⟩ (fun r => ∀ c : Dev Cert.MemWeightReferenceIdeal.nD,
          r.2.mem ((c.tc : Thread Cert.MemWeightReferenceIdeal.nD Cert.MemWeightReferenceIdeal.τ).loc Cert.MemWeightReferenceIdeal.main_v4) = v0 c
          ∧ r.2.mem ((c.tc : Thread Cert.MemWeightReferenceIdeal.nD Cert.MemWeightReferenceIdeal.τ).loc Cert.MemWeightReferenceIdeal.main_arg0) = m' ((c.tc : Thread Cert.MemWeightReferenceIdeal.nD Cert.MemWeightReferenceIdeal.τ).loc Cert.MemWeightReferenceIdeal.main_arg0)
          ∧ r.2.mem ((c.tc : Thread Cert.MemWeightReferenceIdeal.nD Cert.MemWeightReferenceIdeal.τ).loc Cert.MemWeightReferenceIdeal.main_arg1) = m' ((c.tc : Thread Cert.MemWeightReferenceIdeal.nD Cert.MemWeightReferenceIdeal.τ).loc Cert.MemWeightReferenceIdeal.main_arg1))

def Claim : Prop :=
  ∃ (hKernel : Cert.Kernel.Facts) (hKernelIdeal : Cert.KernelIdeal.Facts) (hReferenceIdeal : Cert.ReferenceIdeal.Facts) (hDownAct : Cert.DownAct.Facts) (hDownActIdeal : Cert.DownActIdeal.Facts) (hDownActReferenceIdeal : Cert.DownActReferenceIdeal.Facts) (hDownWeight : Cert.DownWeight.Facts) (hDownWeightIdeal : Cert.DownWeightIdeal.Facts) (hDownWeightReferenceIdeal : Cert.DownWeightReferenceIdeal.Facts) (hUpAct : Cert.UpAct.Facts) (hUpActIdeal : Cert.UpActIdeal.Facts) (hUpActReferenceIdeal : Cert.UpActReferenceIdeal.Facts) (hUpGate : Cert.UpGate.Facts) (hUpGateIdeal : Cert.UpGateIdeal.Facts) (hUpGateReferenceIdeal : Cert.UpGateReferenceIdeal.Facts) (hUpValue : Cert.UpValue.Facts) (hUpValueIdeal : Cert.UpValueIdeal.Facts) (hUpValueReferenceIdeal : Cert.UpValueReferenceIdeal.Facts) (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hInA : Cert.InA.Facts) (hInAIdeal : Cert.InAIdeal.Facts) (hInAReferenceIdeal : Cert.InAReferenceIdeal.Facts) (hInB : Cert.InB.Facts) (hInBIdeal : Cert.InBIdeal.Facts) (hInBReferenceIdeal : Cert.InBReferenceIdeal.Facts) (hInC : Cert.InC.Facts) (hInCIdeal : Cert.InCIdeal.Facts) (hInCReferenceIdeal : Cert.InCReferenceIdeal.Facts) (hInD : Cert.InD.Facts) (hInDIdeal : Cert.InDIdeal.Facts) (hInDReferenceIdeal : Cert.InDReferenceIdeal.Facts) (hInActA : Cert.InActA.Facts) (hInActAIdeal : Cert.InActAIdeal.Facts) (hInActAReferenceIdeal : Cert.InActAReferenceIdeal.Facts) (hInActB : Cert.InActB.Facts) (hInActBIdeal : Cert.InActBIdeal.Facts) (hInActBReferenceIdeal : Cert.InActBReferenceIdeal.Facts) (hInActC : Cert.InActC.Facts) (hInActCIdeal : Cert.InActCIdeal.Facts) (hInActCReferenceIdeal : Cert.InActCReferenceIdeal.Facts) (hInActD : Cert.InActD.Facts) (hInActDIdeal : Cert.InActDIdeal.Facts) (hInActDReferenceIdeal : Cert.InActDReferenceIdeal.Facts) (hInWeightQ : Cert.InWeightQ.Facts) (hInWeightQIdeal : Cert.InWeightQIdeal.Facts) (hInWeightQReferenceIdeal : Cert.InWeightQReferenceIdeal.Facts) (hInWeightV : Cert.InWeightV.Facts) (hInWeightVIdeal : Cert.InWeightVIdeal.Facts) (hInWeightVReferenceIdeal : Cert.InWeightVReferenceIdeal.Facts) (hInWeightF : Cert.InWeightF.Facts) (hInWeightFIdeal : Cert.InWeightFIdeal.Facts) (hInWeightFReferenceIdeal : Cert.InWeightFReferenceIdeal.Facts) (hInWeightI : Cert.InWeightI.Facts) (hInWeightIIdeal : Cert.InWeightIIdeal.Facts) (hInWeightIReferenceIdeal : Cert.InWeightIReferenceIdeal.Facts) (hInWeightX : Cert.InWeightX.Facts) (hInWeightXIdeal : Cert.InWeightXIdeal.Facts) (hInWeightXReferenceIdeal : Cert.InWeightXReferenceIdeal.Facts) (hInWeightK : Cert.InWeightK.Facts) (hInWeightKIdeal : Cert.InWeightKIdeal.Facts) (hInWeightKReferenceIdeal : Cert.InWeightKReferenceIdeal.Facts) (hInWeightO : Cert.InWeightO.Facts) (hInWeightOIdeal : Cert.InWeightOIdeal.Facts) (hInWeightOReferenceIdeal : Cert.InWeightOReferenceIdeal.Facts) (hInWeightC : Cert.InWeightC.Facts) (hInWeightCIdeal : Cert.InWeightCIdeal.Facts) (hInWeightCReferenceIdeal : Cert.InWeightCReferenceIdeal.Facts) (hOutA : Cert.OutA.Facts) (hOutAIdeal : Cert.OutAIdeal.Facts) (hOutAReferenceIdeal : Cert.OutAReferenceIdeal.Facts) (hOutB : Cert.OutB.Facts) (hOutBIdeal : Cert.OutBIdeal.Facts) (hOutBReferenceIdeal : Cert.OutBReferenceIdeal.Facts) (hOutC : Cert.OutC.Facts) (hOutCIdeal : Cert.OutCIdeal.Facts) (hOutCReferenceIdeal : Cert.OutCReferenceIdeal.Facts) (hOutD : Cert.OutD.Facts) (hOutDIdeal : Cert.OutDIdeal.Facts) (hOutDReferenceIdeal : Cert.OutDReferenceIdeal.Facts) (hOutActA : Cert.OutActA.Facts) (hOutActAIdeal : Cert.OutActAIdeal.Facts) (hOutActAReferenceIdeal : Cert.OutActAReferenceIdeal.Facts) (hOutActB : Cert.OutActB.Facts) (hOutActBIdeal : Cert.OutActBIdeal.Facts) (hOutActBReferenceIdeal : Cert.OutActBReferenceIdeal.Facts) (hOutActC : Cert.OutActC.Facts) (hOutActCIdeal : Cert.OutActCIdeal.Facts) (hOutActCReferenceIdeal : Cert.OutActCReferenceIdeal.Facts) (hOutActD : Cert.OutActD.Facts) (hOutActDIdeal : Cert.OutActDIdeal.Facts) (hOutActDReferenceIdeal : Cert.OutActDReferenceIdeal.Facts) (hOutWeightA : Cert.OutWeightA.Facts) (hOutWeightAIdeal : Cert.OutWeightAIdeal.Facts) (hOutWeightAReferenceIdeal : Cert.OutWeightAReferenceIdeal.Facts) (hOutWeightB : Cert.OutWeightB.Facts) (hOutWeightBIdeal : Cert.OutWeightBIdeal.Facts) (hOutWeightBReferenceIdeal : Cert.OutWeightBReferenceIdeal.Facts) (hOutWeightC : Cert.OutWeightC.Facts) (hOutWeightCIdeal : Cert.OutWeightCIdeal.Facts) (hOutWeightCReferenceIdeal : Cert.OutWeightCReferenceIdeal.Facts) (hOutWeightD : Cert.OutWeightD.Facts) (hOutWeightDIdeal : Cert.OutWeightDIdeal.Facts) (hOutWeightDReferenceIdeal : Cert.OutWeightDReferenceIdeal.Facts) (hNormGrad : Cert.NormGrad.Facts) (hNormGradIdeal : Cert.NormGradIdeal.Facts) (hNormGradReferenceIdeal : Cert.NormGradReferenceIdeal.Facts) (hInWeightG : Cert.InWeightG.Facts) (hInWeightGIdeal : Cert.InWeightGIdeal.Facts) (hInWeightGReferenceIdeal : Cert.InWeightGReferenceIdeal.Facts) (hInWeightT : Cert.InWeightT.Facts) (hInWeightTIdeal : Cert.InWeightTIdeal.Facts) (hInWeightTReferenceIdeal : Cert.InWeightTReferenceIdeal.Facts) (hMem : Cert.Mem.Facts) (hMemIdeal : Cert.MemIdeal.Facts) (hMemReferenceIdeal : Cert.MemReferenceIdeal.Facts) (hMemAct : Cert.MemAct.Facts) (hMemActIdeal : Cert.MemActIdeal.Facts) (hMemActReferenceIdeal : Cert.MemActReferenceIdeal.Facts) (hMemWeight : Cert.MemWeight.Facts) (hMemWeightIdeal : Cert.MemWeightIdeal.Facts) (hMemWeightReferenceIdeal : Cert.MemWeightReferenceIdeal.Facts),
    quiescent_Kernel (hKernel := hKernel)
    ∧ quiescent_KernelIdeal (hKernelIdeal := hKernelIdeal)
    ∧ quiescent_ReferenceIdeal (hReferenceIdeal := hReferenceIdeal)
    ∧ quiescent_DownAct (hDownAct := hDownAct)
    ∧ quiescent_DownActIdeal (hDownActIdeal := hDownActIdeal)
    ∧ quiescent_DownActReferenceIdeal (hDownActReferenceIdeal := hDownActReferenceIdeal)
    ∧ quiescent_DownWeight (hDownWeight := hDownWeight)
    ∧ quiescent_DownWeightIdeal (hDownWeightIdeal := hDownWeightIdeal)
    ∧ quiescent_DownWeightReferenceIdeal (hDownWeightReferenceIdeal := hDownWeightReferenceIdeal)
    ∧ quiescent_UpAct (hUpAct := hUpAct)
    ∧ quiescent_UpActIdeal (hUpActIdeal := hUpActIdeal)
    ∧ quiescent_UpActReferenceIdeal (hUpActReferenceIdeal := hUpActReferenceIdeal)
    ∧ quiescent_UpGate (hUpGate := hUpGate)
    ∧ quiescent_UpGateIdeal (hUpGateIdeal := hUpGateIdeal)
    ∧ quiescent_UpGateReferenceIdeal (hUpGateReferenceIdeal := hUpGateReferenceIdeal)
    ∧ quiescent_UpValue (hUpValue := hUpValue)
    ∧ quiescent_UpValueIdeal (hUpValueIdeal := hUpValueIdeal)
    ∧ quiescent_UpValueReferenceIdeal (hUpValueReferenceIdeal := hUpValueReferenceIdeal)
    ∧ quiescent_Up (hUp := hUp)
    ∧ quiescent_UpIdeal (hUpIdeal := hUpIdeal)
    ∧ quiescent_UpReferenceIdeal (hUpReferenceIdeal := hUpReferenceIdeal)
    ∧ quiescent_Down (hDown := hDown)
    ∧ quiescent_DownIdeal (hDownIdeal := hDownIdeal)
    ∧ quiescent_DownReferenceIdeal (hDownReferenceIdeal := hDownReferenceIdeal)
    ∧ quiescent_InA (hInA := hInA)
    ∧ quiescent_InAIdeal (hInAIdeal := hInAIdeal)
    ∧ quiescent_InAReferenceIdeal (hInAReferenceIdeal := hInAReferenceIdeal)
    ∧ quiescent_InB (hInB := hInB)
    ∧ quiescent_InBIdeal (hInBIdeal := hInBIdeal)
    ∧ quiescent_InBReferenceIdeal (hInBReferenceIdeal := hInBReferenceIdeal)
    ∧ quiescent_InC (hInC := hInC)
    ∧ quiescent_InCIdeal (hInCIdeal := hInCIdeal)
    ∧ quiescent_InCReferenceIdeal (hInCReferenceIdeal := hInCReferenceIdeal)
    ∧ quiescent_InD (hInD := hInD)
    ∧ quiescent_InDIdeal (hInDIdeal := hInDIdeal)
    ∧ quiescent_InDReferenceIdeal (hInDReferenceIdeal := hInDReferenceIdeal)
    ∧ quiescent_InActA (hInActA := hInActA)
    ∧ quiescent_InActAIdeal (hInActAIdeal := hInActAIdeal)
    ∧ quiescent_InActAReferenceIdeal (hInActAReferenceIdeal := hInActAReferenceIdeal)
    ∧ quiescent_InActB (hInActB := hInActB)
    ∧ quiescent_InActBIdeal (hInActBIdeal := hInActBIdeal)
    ∧ quiescent_InActBReferenceIdeal (hInActBReferenceIdeal := hInActBReferenceIdeal)
    ∧ quiescent_InActC (hInActC := hInActC)
    ∧ quiescent_InActCIdeal (hInActCIdeal := hInActCIdeal)
    ∧ quiescent_InActCReferenceIdeal (hInActCReferenceIdeal := hInActCReferenceIdeal)
    ∧ quiescent_InActD (hInActD := hInActD)
    ∧ quiescent_InActDIdeal (hInActDIdeal := hInActDIdeal)
    ∧ quiescent_InActDReferenceIdeal (hInActDReferenceIdeal := hInActDReferenceIdeal)
    ∧ quiescent_InWeightQ (hInWeightQ := hInWeightQ)
    ∧ quiescent_InWeightQIdeal (hInWeightQIdeal := hInWeightQIdeal)
    ∧ quiescent_InWeightQReferenceIdeal (hInWeightQReferenceIdeal := hInWeightQReferenceIdeal)
    ∧ quiescent_InWeightV (hInWeightV := hInWeightV)
    ∧ quiescent_InWeightVIdeal (hInWeightVIdeal := hInWeightVIdeal)
    ∧ quiescent_InWeightVReferenceIdeal (hInWeightVReferenceIdeal := hInWeightVReferenceIdeal)
    ∧ quiescent_InWeightF (hInWeightF := hInWeightF)
    ∧ quiescent_InWeightFIdeal (hInWeightFIdeal := hInWeightFIdeal)
    ∧ quiescent_InWeightFReferenceIdeal (hInWeightFReferenceIdeal := hInWeightFReferenceIdeal)
    ∧ quiescent_InWeightI (hInWeightI := hInWeightI)
    ∧ quiescent_InWeightIIdeal (hInWeightIIdeal := hInWeightIIdeal)
    ∧ quiescent_InWeightIReferenceIdeal (hInWeightIReferenceIdeal := hInWeightIReferenceIdeal)
    ∧ quiescent_InWeightX (hInWeightX := hInWeightX)
    ∧ quiescent_InWeightXIdeal (hInWeightXIdeal := hInWeightXIdeal)
    ∧ quiescent_InWeightXReferenceIdeal (hInWeightXReferenceIdeal := hInWeightXReferenceIdeal)
    ∧ quiescent_InWeightK (hInWeightK := hInWeightK)
    ∧ quiescent_InWeightKIdeal (hInWeightKIdeal := hInWeightKIdeal)
    ∧ quiescent_InWeightKReferenceIdeal (hInWeightKReferenceIdeal := hInWeightKReferenceIdeal)
    ∧ quiescent_InWeightO (hInWeightO := hInWeightO)
    ∧ quiescent_InWeightOIdeal (hInWeightOIdeal := hInWeightOIdeal)
    ∧ quiescent_InWeightOReferenceIdeal (hInWeightOReferenceIdeal := hInWeightOReferenceIdeal)
    ∧ quiescent_InWeightC (hInWeightC := hInWeightC)
    ∧ quiescent_InWeightCIdeal (hInWeightCIdeal := hInWeightCIdeal)
    ∧ quiescent_InWeightCReferenceIdeal (hInWeightCReferenceIdeal := hInWeightCReferenceIdeal)
    ∧ quiescent_OutA (hOutA := hOutA)
    ∧ quiescent_OutAIdeal (hOutAIdeal := hOutAIdeal)
    ∧ quiescent_OutAReferenceIdeal (hOutAReferenceIdeal := hOutAReferenceIdeal)
    ∧ quiescent_OutB (hOutB := hOutB)
    ∧ quiescent_OutBIdeal (hOutBIdeal := hOutBIdeal)
    ∧ quiescent_OutBReferenceIdeal (hOutBReferenceIdeal := hOutBReferenceIdeal)
    ∧ quiescent_OutC (hOutC := hOutC)
    ∧ quiescent_OutCIdeal (hOutCIdeal := hOutCIdeal)
    ∧ quiescent_OutCReferenceIdeal (hOutCReferenceIdeal := hOutCReferenceIdeal)
    ∧ quiescent_OutD (hOutD := hOutD)
    ∧ quiescent_OutDIdeal (hOutDIdeal := hOutDIdeal)
    ∧ quiescent_OutDReferenceIdeal (hOutDReferenceIdeal := hOutDReferenceIdeal)
    ∧ quiescent_OutActA (hOutActA := hOutActA)
    ∧ quiescent_OutActAIdeal (hOutActAIdeal := hOutActAIdeal)
    ∧ quiescent_OutActAReferenceIdeal (hOutActAReferenceIdeal := hOutActAReferenceIdeal)
    ∧ quiescent_OutActB (hOutActB := hOutActB)
    ∧ quiescent_OutActBIdeal (hOutActBIdeal := hOutActBIdeal)
    ∧ quiescent_OutActBReferenceIdeal (hOutActBReferenceIdeal := hOutActBReferenceIdeal)
    ∧ quiescent_OutActC (hOutActC := hOutActC)
    ∧ quiescent_OutActCIdeal (hOutActCIdeal := hOutActCIdeal)
    ∧ quiescent_OutActCReferenceIdeal (hOutActCReferenceIdeal := hOutActCReferenceIdeal)
    ∧ quiescent_OutActD (hOutActD := hOutActD)
    ∧ quiescent_OutActDIdeal (hOutActDIdeal := hOutActDIdeal)
    ∧ quiescent_OutActDReferenceIdeal (hOutActDReferenceIdeal := hOutActDReferenceIdeal)
    ∧ quiescent_OutWeightA (hOutWeightA := hOutWeightA)
    ∧ quiescent_OutWeightAIdeal (hOutWeightAIdeal := hOutWeightAIdeal)
    ∧ quiescent_OutWeightAReferenceIdeal (hOutWeightAReferenceIdeal := hOutWeightAReferenceIdeal)
    ∧ quiescent_OutWeightB (hOutWeightB := hOutWeightB)
    ∧ quiescent_OutWeightBIdeal (hOutWeightBIdeal := hOutWeightBIdeal)
    ∧ quiescent_OutWeightBReferenceIdeal (hOutWeightBReferenceIdeal := hOutWeightBReferenceIdeal)
    ∧ quiescent_OutWeightC (hOutWeightC := hOutWeightC)
    ∧ quiescent_OutWeightCIdeal (hOutWeightCIdeal := hOutWeightCIdeal)
    ∧ quiescent_OutWeightCReferenceIdeal (hOutWeightCReferenceIdeal := hOutWeightCReferenceIdeal)
    ∧ quiescent_OutWeightD (hOutWeightD := hOutWeightD)
    ∧ quiescent_OutWeightDIdeal (hOutWeightDIdeal := hOutWeightDIdeal)
    ∧ quiescent_OutWeightDReferenceIdeal (hOutWeightDReferenceIdeal := hOutWeightDReferenceIdeal)
    ∧ quiescent_NormGrad (hNormGrad := hNormGrad)
    ∧ quiescent_NormGradIdeal (hNormGradIdeal := hNormGradIdeal)
    ∧ quiescent_NormGradReferenceIdeal (hNormGradReferenceIdeal := hNormGradReferenceIdeal)
    ∧ quiescent_InWeightG (hInWeightG := hInWeightG)
    ∧ quiescent_InWeightGIdeal (hInWeightGIdeal := hInWeightGIdeal)
    ∧ quiescent_InWeightGReferenceIdeal (hInWeightGReferenceIdeal := hInWeightGReferenceIdeal)
    ∧ quiescent_InWeightT (hInWeightT := hInWeightT)
    ∧ quiescent_InWeightTIdeal (hInWeightTIdeal := hInWeightTIdeal)
    ∧ quiescent_InWeightTReferenceIdeal (hInWeightTReferenceIdeal := hInWeightTReferenceIdeal)
    ∧ quiescent_Mem (hMem := hMem)
    ∧ quiescent_MemIdeal (hMemIdeal := hMemIdeal)
    ∧ quiescent_MemReferenceIdeal (hMemReferenceIdeal := hMemReferenceIdeal)
    ∧ quiescent_MemAct (hMemAct := hMemAct)
    ∧ quiescent_MemActIdeal (hMemActIdeal := hMemActIdeal)
    ∧ quiescent_MemActReferenceIdeal (hMemActReferenceIdeal := hMemActReferenceIdeal)
    ∧ quiescent_MemWeight (hMemWeight := hMemWeight)
    ∧ quiescent_MemWeightIdeal (hMemWeightIdeal := hMemWeightIdeal)
    ∧ quiescent_MemWeightReferenceIdeal (hMemWeightReferenceIdeal := hMemWeightReferenceIdeal)
    ∧ preserves_Kernel_KernelIdeal
    ∧ algebraic_KernelIdeal_ReferenceIdeal (hKernelIdeal := hKernelIdeal) (hReferenceIdeal := hReferenceIdeal)
    ∧ preserves_DownAct_DownActIdeal
    ∧ algebraic_DownActIdeal_DownActReferenceIdeal (hDownActIdeal := hDownActIdeal) (hDownActReferenceIdeal := hDownActReferenceIdeal)
    ∧ preserves_DownWeight_DownWeightIdeal
    ∧ algebraic_DownWeightIdeal_DownWeightReferenceIdeal (hDownWeightIdeal := hDownWeightIdeal) (hDownWeightReferenceIdeal := hDownWeightReferenceIdeal)
    ∧ preserves_UpAct_UpActIdeal
    ∧ algebraic_UpActIdeal_UpActReferenceIdeal (hUpActIdeal := hUpActIdeal) (hUpActReferenceIdeal := hUpActReferenceIdeal)
    ∧ preserves_UpGate_UpGateIdeal
    ∧ algebraic_UpGateIdeal_UpGateReferenceIdeal (hUpGateIdeal := hUpGateIdeal) (hUpGateReferenceIdeal := hUpGateReferenceIdeal)
    ∧ preserves_UpValue_UpValueIdeal
    ∧ algebraic_UpValueIdeal_UpValueReferenceIdeal (hUpValueIdeal := hUpValueIdeal) (hUpValueReferenceIdeal := hUpValueReferenceIdeal)
    ∧ preserves_Up_UpIdeal
    ∧ algebraic_UpIdeal_UpReferenceIdeal (hUpIdeal := hUpIdeal) (hUpReferenceIdeal := hUpReferenceIdeal)
    ∧ preserves_Down_DownIdeal
    ∧ algebraic_DownIdeal_DownReferenceIdeal (hDownIdeal := hDownIdeal) (hDownReferenceIdeal := hDownReferenceIdeal)
    ∧ preserves_InA_InAIdeal
    ∧ algebraic_InAIdeal_InAReferenceIdeal (hInAIdeal := hInAIdeal) (hInAReferenceIdeal := hInAReferenceIdeal)
    ∧ preserves_InB_InBIdeal
    ∧ algebraic_InBIdeal_InBReferenceIdeal (hInBIdeal := hInBIdeal) (hInBReferenceIdeal := hInBReferenceIdeal)
    ∧ preserves_InC_InCIdeal
    ∧ algebraic_InCIdeal_InCReferenceIdeal (hInCIdeal := hInCIdeal) (hInCReferenceIdeal := hInCReferenceIdeal)
    ∧ preserves_InD_InDIdeal
    ∧ algebraic_InDIdeal_InDReferenceIdeal (hInDIdeal := hInDIdeal) (hInDReferenceIdeal := hInDReferenceIdeal)
    ∧ preserves_InActA_InActAIdeal
    ∧ algebraic_InActAIdeal_InActAReferenceIdeal (hInActAIdeal := hInActAIdeal) (hInActAReferenceIdeal := hInActAReferenceIdeal)
    ∧ preserves_InActB_InActBIdeal
    ∧ algebraic_InActBIdeal_InActBReferenceIdeal (hInActBIdeal := hInActBIdeal) (hInActBReferenceIdeal := hInActBReferenceIdeal)
    ∧ preserves_InActC_InActCIdeal
    ∧ algebraic_InActCIdeal_InActCReferenceIdeal (hInActCIdeal := hInActCIdeal) (hInActCReferenceIdeal := hInActCReferenceIdeal)
    ∧ preserves_InActD_InActDIdeal
    ∧ algebraic_InActDIdeal_InActDReferenceIdeal (hInActDIdeal := hInActDIdeal) (hInActDReferenceIdeal := hInActDReferenceIdeal)
    ∧ preserves_InWeightQ_InWeightQIdeal
    ∧ algebraic_InWeightQIdeal_InWeightQReferenceIdeal (hInWeightQIdeal := hInWeightQIdeal) (hInWeightQReferenceIdeal := hInWeightQReferenceIdeal)
    ∧ preserves_InWeightV_InWeightVIdeal
    ∧ algebraic_InWeightVIdeal_InWeightVReferenceIdeal (hInWeightVIdeal := hInWeightVIdeal) (hInWeightVReferenceIdeal := hInWeightVReferenceIdeal)
    ∧ preserves_InWeightF_InWeightFIdeal
    ∧ algebraic_InWeightFIdeal_InWeightFReferenceIdeal (hInWeightFIdeal := hInWeightFIdeal) (hInWeightFReferenceIdeal := hInWeightFReferenceIdeal)
    ∧ preserves_InWeightI_InWeightIIdeal
    ∧ algebraic_InWeightIIdeal_InWeightIReferenceIdeal (hInWeightIIdeal := hInWeightIIdeal) (hInWeightIReferenceIdeal := hInWeightIReferenceIdeal)
    ∧ preserves_InWeightX_InWeightXIdeal
    ∧ algebraic_InWeightXIdeal_InWeightXReferenceIdeal (hInWeightXIdeal := hInWeightXIdeal) (hInWeightXReferenceIdeal := hInWeightXReferenceIdeal)
    ∧ preserves_InWeightK_InWeightKIdeal
    ∧ algebraic_InWeightKIdeal_InWeightKReferenceIdeal (hInWeightKIdeal := hInWeightKIdeal) (hInWeightKReferenceIdeal := hInWeightKReferenceIdeal)
    ∧ preserves_InWeightO_InWeightOIdeal
    ∧ algebraic_InWeightOIdeal_InWeightOReferenceIdeal (hInWeightOIdeal := hInWeightOIdeal) (hInWeightOReferenceIdeal := hInWeightOReferenceIdeal)
    ∧ preserves_InWeightC_InWeightCIdeal
    ∧ algebraic_InWeightCIdeal_InWeightCReferenceIdeal (hInWeightCIdeal := hInWeightCIdeal) (hInWeightCReferenceIdeal := hInWeightCReferenceIdeal)
    ∧ preserves_OutA_OutAIdeal
    ∧ algebraic_OutAIdeal_OutAReferenceIdeal (hOutAIdeal := hOutAIdeal) (hOutAReferenceIdeal := hOutAReferenceIdeal)
    ∧ preserves_OutB_OutBIdeal
    ∧ algebraic_OutBIdeal_OutBReferenceIdeal (hOutBIdeal := hOutBIdeal) (hOutBReferenceIdeal := hOutBReferenceIdeal)
    ∧ preserves_OutC_OutCIdeal
    ∧ algebraic_OutCIdeal_OutCReferenceIdeal (hOutCIdeal := hOutCIdeal) (hOutCReferenceIdeal := hOutCReferenceIdeal)
    ∧ preserves_OutD_OutDIdeal
    ∧ algebraic_OutDIdeal_OutDReferenceIdeal (hOutDIdeal := hOutDIdeal) (hOutDReferenceIdeal := hOutDReferenceIdeal)
    ∧ preserves_OutActA_OutActAIdeal
    ∧ algebraic_OutActAIdeal_OutActAReferenceIdeal (hOutActAIdeal := hOutActAIdeal) (hOutActAReferenceIdeal := hOutActAReferenceIdeal)
    ∧ preserves_OutActB_OutActBIdeal
    ∧ algebraic_OutActBIdeal_OutActBReferenceIdeal (hOutActBIdeal := hOutActBIdeal) (hOutActBReferenceIdeal := hOutActBReferenceIdeal)
    ∧ preserves_OutActC_OutActCIdeal
    ∧ algebraic_OutActCIdeal_OutActCReferenceIdeal (hOutActCIdeal := hOutActCIdeal) (hOutActCReferenceIdeal := hOutActCReferenceIdeal)
    ∧ preserves_OutActD_OutActDIdeal
    ∧ algebraic_OutActDIdeal_OutActDReferenceIdeal (hOutActDIdeal := hOutActDIdeal) (hOutActDReferenceIdeal := hOutActDReferenceIdeal)
    ∧ preserves_OutWeightA_OutWeightAIdeal
    ∧ algebraic_OutWeightAIdeal_OutWeightAReferenceIdeal (hOutWeightAIdeal := hOutWeightAIdeal) (hOutWeightAReferenceIdeal := hOutWeightAReferenceIdeal)
    ∧ preserves_OutWeightB_OutWeightBIdeal
    ∧ algebraic_OutWeightBIdeal_OutWeightBReferenceIdeal (hOutWeightBIdeal := hOutWeightBIdeal) (hOutWeightBReferenceIdeal := hOutWeightBReferenceIdeal)
    ∧ preserves_OutWeightC_OutWeightCIdeal
    ∧ algebraic_OutWeightCIdeal_OutWeightCReferenceIdeal (hOutWeightCIdeal := hOutWeightCIdeal) (hOutWeightCReferenceIdeal := hOutWeightCReferenceIdeal)
    ∧ preserves_OutWeightD_OutWeightDIdeal
    ∧ algebraic_OutWeightDIdeal_OutWeightDReferenceIdeal (hOutWeightDIdeal := hOutWeightDIdeal) (hOutWeightDReferenceIdeal := hOutWeightDReferenceIdeal)
    ∧ preserves_NormGrad_NormGradIdeal
    ∧ algebraic_NormGradIdeal_NormGradReferenceIdeal (hNormGradIdeal := hNormGradIdeal) (hNormGradReferenceIdeal := hNormGradReferenceIdeal)
    ∧ preserves_InWeightG_InWeightGIdeal
    ∧ algebraic_InWeightGIdeal_InWeightGReferenceIdeal (hInWeightGIdeal := hInWeightGIdeal) (hInWeightGReferenceIdeal := hInWeightGReferenceIdeal)
    ∧ preserves_InWeightT_InWeightTIdeal
    ∧ algebraic_InWeightTIdeal_InWeightTReferenceIdeal (hInWeightTIdeal := hInWeightTIdeal) (hInWeightTReferenceIdeal := hInWeightTReferenceIdeal)
    ∧ preserves_Mem_MemIdeal
    ∧ algebraic_MemIdeal_MemReferenceIdeal (hMemIdeal := hMemIdeal) (hMemReferenceIdeal := hMemReferenceIdeal)
    ∧ preserves_MemAct_MemActIdeal
    ∧ algebraic_MemActIdeal_MemActReferenceIdeal (hMemActIdeal := hMemActIdeal) (hMemActReferenceIdeal := hMemActReferenceIdeal)
    ∧ preserves_MemWeight_MemWeightIdeal
    ∧ algebraic_MemWeightIdeal_MemWeightReferenceIdeal (hMemWeightIdeal := hMemWeightIdeal) (hMemWeightReferenceIdeal := hMemWeightReferenceIdeal)
-- ==== Kernel.lean ====
abbrev S8192x512 : Shape := ⟨2, ![8192, 512]⟩
abbrev S8192x1536 : Shape := ⟨2, ![8192, 1536]⟩
abbrev S128x512 : Shape := ⟨2, ![128, 512]⟩
abbrev S128x128 : Shape := ⟨2, ![128, 128]⟩
abbrev S256x128 : Shape := ⟨2, ![256, 128]⟩
abbrev S128x256 : Shape := ⟨2, ![128, 256]⟩
abbrev S128 : Shape := ⟨1, ![128]⟩
abbrev S128x1 : Shape := ⟨2, ![128, 1]⟩

abbrev nBuf : Space → Nat
  | .hbm => 8
  | .vmem => 22
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x1536, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | .local _ .vmem, ⟨16, _⟩ => ⟨S128x512, .f32⟩
  | .local _ .vmem, ⟨17, _⟩ => ⟨S128x512, .f32⟩
  | .local _ .vmem, ⟨18, _⟩ => ⟨S128x512, .f32⟩
  | .local _ .vmem, ⟨19, _⟩ => ⟨S128x512, .f32⟩
  | .local _ .vmem, ⟨20, _⟩ => ⟨S128x512, .f32⟩
  | .local _ .vmem, ⟨21, _⟩ => ⟨S128x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c62_i32 : BitVec 32 := 62#32
  let v0 : BitVec 32 := Scalar.subi c62_i32 arg1
  let c0_i32 : BitVec 32 := 0#32
  let v1 : BitVec 32 := Scalar.maxsi v0 c0_i32
  let c0_i32_0 : BitVec 32 := 0#32
  ![v1.toNat, arg0.toNat]

def cc0_transform_2 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c62_i32 : BitVec 32 := 62#32
  let v0 : BitVec 32 := Scalar.subi c62_i32 arg1
  let c0_i32 : BitVec 32 := 0#32
  let v1 : BitVec 32 := Scalar.maxsi v0 c0_i32
  let c0_i32_0 : BitVec 32 := 0#32
  let v2 : BitVec 32 := Scalar.addi c0_i32_0 arg0
  let c0_i32_1 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let v1 : BitVec 32 := Scalar.addi c0_i32 arg0
  let c0_i32_0 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

def cc0_transform_6 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

def cc0_transform_7 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

def cc0_transform_9 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8192x512 : Shape := ⟨2, ![8192, 512]⟩
abbrev S8192x1536 : Shape := ⟨2, ![8192, 1536]⟩
abbrev S1x8192x4x128 : Shape := ⟨4, ![1, 8192, 4, 128]⟩
abbrev S1x8192x1x4x128 : Shape := ⟨5, ![1, 8192, 1, 4, 128]⟩
abbrev S1x1x8192x4x128 : Shape := ⟨5, ![1, 1, 8192, 4, 128]⟩
abbrev S1x1x64x128x4x128 : Shape := ⟨6, ![1, 1, 64, 128, 4, 128]⟩
abbrev S1x1x1x128x4x128 : Shape := ⟨6, ![1, 1, 1, 128, 4, 128]⟩
abbrev S_ : Shape := ⟨0, ![]⟩
abbrev S1x1x63x128x4x128 : Shape := ⟨6, ![1, 1, 63, 128, 4, 128]⟩
abbrev S1x1x64x256x4x128 : Shape := ⟨6, ![1, 1, 64, 256, 4, 128]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S1x1x64x4x128x256 : Shape := ⟨6, ![1, 1, 64, 4, 128, 256]⟩
abbrev S1x1x64x1x128x256 : Shape := ⟨6, ![1, 1, 64, 1, 128, 256]⟩
abbrev S1x1x64x4x128 : Shape := ⟨5, ![1, 1, 64, 4, 128]⟩
abbrev S1x1x64x4x128x1 : Shape := ⟨6, ![1, 1, 64, 4, 128, 1]⟩
abbrev S1x1x64x4x128x128 : Shape := ⟨6, ![1, 1, 64, 4, 128, 128]⟩
abbrev S1x1x64x128x4 : Shape := ⟨5, ![1, 1, 64, 128, 4]⟩
abbrev S1x1x8192x4 : Shape := ⟨4, ![1, 1, 8192, 4]⟩
abbrev S1x8192x1x4 : Shape := ⟨4, ![1, 8192, 1, 4]⟩
abbrev S1x8192x4 : Shape := ⟨3, ![1, 8192, 4]⟩
abbrev S1x8192x4x1 : Shape := ⟨4, ![1, 8192, 4, 1]⟩
abbrev S8192x4 : Shape := ⟨2, ![8192, 4]⟩
abbrev S64x4x128 : Shape := ⟨3, ![64, 4, 128]⟩
abbrev S1x1x64x4x256x128 : Shape := ⟨6, ![1, 1, 64, 4, 256, 128]⟩

abbrev nBuf : Space → Nat
  | .hbm => 201
  | .vmem => 0
  | .smem => 0
  | _ => 0

abbrev hbmTy0_0 (i : Nat) : BufTy := match i % 128 with
  | 0 => ⟨S8192x512, .f32⟩
  | 1 => ⟨S8192x512, .f32⟩
  | 2 => ⟨S8192x1536, .f32⟩
  | 3 => ⟨S8192x512, .f32⟩
  | 4 => ⟨S8192x512, .f32⟩
  | 5 => ⟨S8192x512, .f32⟩
  | 6 => ⟨S1x8192x4x128, .f32⟩
  | 7 => ⟨S1x8192x4x128, .f32⟩
  | 8 => ⟨S1x8192x4x128, .f32⟩
  | 9 => ⟨S1x8192x1x4x128, .f32⟩
  | 10 => ⟨S1x1x8192x4x128, .f32⟩
  | 11 => ⟨S1x1x64x128x4x128, .f32⟩
  | 12 => ⟨S1x8192x1x4x128, .f32⟩
  | 13 => ⟨S1x1x8192x4x128, .f32⟩
  | 14 => ⟨S1x1x64x128x4x128, .f32⟩
  | 15 => ⟨S1x1x1x128x4x128, .f32⟩
  | 16 => ⟨S_, .f32⟩
  | 17 => ⟨S1x1x1x128x4x128, .f32⟩
  | 18 => ⟨S1x1x63x128x4x128, .f32⟩
  | 19 => ⟨S1x1x64x128x4x128, .f32⟩
  | 20 => ⟨S_, .f32⟩
  | 21 => ⟨S1x1x1x128x4x128, .f32⟩
  | 22 => ⟨S1x1x64x256x4x128, .f32⟩
  | 23 => ⟨S1x8192x1x4x128, .f32⟩
  | 24 => ⟨S1x1x8192x4x128, .f32⟩
  | 25 => ⟨S1x1x64x128x4x128, .f32⟩
  | 26 => ⟨S1x1x1x128x4x128, .f32⟩
  | 27 => ⟨S_, .f32⟩
  | 28 => ⟨S1x1x1x128x4x128, .f32⟩
  | 29 => ⟨S1x1x63x128x4x128, .f32⟩
  | 30 => ⟨S1x1x64x128x4x128, .f32⟩
  | 31 => ⟨S_, .f32⟩
  | 32 => ⟨S1x1x1x128x4x128, .f32⟩
  | 33 => ⟨S1x1x64x256x4x128, .f32⟩
  | 34 => ⟨S128, .i32⟩
  | 35 => ⟨S128x1, .i32⟩
  | 36 => ⟨S256, .i32⟩
  | 37 => ⟨S1x256, .i32⟩
  | 38 => ⟨S_, .i32⟩
  | 39 => ⟨S128x1, .i32⟩
  | 40 => ⟨S128x1, .i32⟩
  | 41 => ⟨S128x256, .i32⟩
  | 42 => ⟨S128x256, .i32⟩
  | 43 => ⟨S128x256, .i32⟩
  | 44 => ⟨S_, .i32⟩
  | 45 => ⟨S128x256, .i32⟩
  | 46 => ⟨S128x256, .i1⟩
  | 47 => ⟨S_, .i32⟩
  | 48 => ⟨S128x256, .i32⟩
  | 49 => ⟨S128x256, .i1⟩
  | 50 => ⟨S128x256, .i1⟩
  | 51 => ⟨S64, .i32⟩
  | 52 => ⟨S64x1x1, .i32⟩
  | 53 => ⟨S_, .i32⟩
  | 54 => ⟨S64x1x1, .i32⟩
  | 55 => ⟨S64x1x1, .i1⟩
  | 56 => ⟨S_, .i32⟩
  | 57 => ⟨S1x256, .i32⟩
  | 58 => ⟨S1x256, .i1⟩
  | 59 => ⟨S1x1x256, .i1⟩
  | 60 => ⟨S64x1x256, .i1⟩
  | 61 => ⟨S64x1x256, .i1⟩
  | 62 => ⟨S64x1x256, .i1⟩
  | 63 => ⟨S1x128x256, .i1⟩
  | 64 => ⟨S64x128x256, .i1⟩
  | 65 => ⟨S64x128x256, .i1⟩
  | 66 => ⟨S64x128x256, .i1⟩
  | 67 => ⟨S1x1x64x4x128x256, .f32⟩
  | 68 => ⟨S_, .f32⟩
  | 69 => ⟨S1x1x64x4x128x256, .f32⟩
  | 70 => ⟨S1x1x64x4x128x256, .f32⟩
  | 71 => ⟨S1x1x64x1x128x256, .i1⟩
  | 72 => ⟨S_, .f32⟩
  | 73 => ⟨S_, .f32⟩
  | 74 => ⟨S1x1x64x4x128x256, .i1⟩
  | 75 => ⟨S1x1x64x4x128x256, .f32⟩
  | 76 => ⟨S1x1x64x4x128x256, .f32⟩
  | 77 => ⟨S_, .f32⟩
  | 78 => ⟨S1x1x64x4x128x256, .f32⟩
  | 79 => ⟨S_, .f32⟩
  | 80 => ⟨S1x1x64x4x128, .f32⟩
  | 81 => ⟨S1x1x64x4x128x1, .f32⟩
  | 82 => ⟨S1x1x64x4x128x256, .f32⟩
  | 83 => ⟨S1x1x64x4x128x256, .i1⟩
  | 84 => ⟨S1x1x64x4x128x256, .f32⟩
  | 85 => ⟨S_, .f32⟩
  | 86 => ⟨S1x1x64x4x128, .f32⟩
  | 87 => ⟨S1x1x64x4x128x1, .f32⟩
  | 88 => ⟨S1x1x64x4x128x256, .f32⟩
  | 89 => ⟨S1x1x64x4x128x256, .f32⟩
  | 90 => ⟨S1x1x64x4x128x256, .f32⟩
  | 91 => ⟨S_, .f32⟩
  | 92 => ⟨S1x1x64x4x128, .f32⟩
  | 93 => ⟨S1x1x64x4x128x1, .f32⟩
  | 94 => ⟨S1x1x64x4x128x256, .f32⟩
  | 95 => ⟨S1x1x64x4x128x256, .f32⟩
  | 96 => ⟨S1x1x64x4x128x1, .f32⟩
  | 97 => ⟨S_, .f32⟩
  | 98 => ⟨S1x1x64x4x128x1, .f32⟩
  | 99 => ⟨S1x1x64x4x128x1, .f32⟩
  | 100 => ⟨S1x1x64x4x128x128, .f32⟩
  | 101 => ⟨S1x1x64x128x4x128, .f32⟩
  | 102 => ⟨S1x1x64x4x128x1, .f32⟩
  | 103 => ⟨S1x1x64x4x128x1, .f32⟩
  | 104 => ⟨S1x1x64x4x128, .f32⟩
  | 105 => ⟨S1x1x64x128x4, .f32⟩
  | 106 => ⟨S1x1x8192x4x128, .f32⟩
  | 107 => ⟨S1x8192x1x4x128, .f32⟩
  | 108 => ⟨S1x8192x4x128, .f32⟩
  | 109 => ⟨S1x1x8192x4, .f32⟩
  | 110 => ⟨S1x8192x1x4, .f32⟩
  | 111 => ⟨S1x8192x4, .f32⟩
  | 112 => ⟨S8192x512, .f32⟩
  | 113 => ⟨S1x8192x4x1, .f32⟩
  | 114 => ⟨S1x8192x4x128, .f32⟩
  | 115 => ⟨S8192x512, .f32⟩
  | 116 => ⟨S1x8192x4x128, .f32⟩
  | 117 => ⟨S_, .f32⟩
  | 118 => ⟨S8192x4, .f32⟩
  | 119 => ⟨S1x8192x4x1, .f32⟩
  | 120 => ⟨S_, .f32⟩
  | 121 => ⟨S8192x4, .f32⟩
  | 122 => ⟨S1x8192x4, .f32⟩
  | 123 => ⟨S1x8192x4x128, .f32⟩
  | 124 => ⟨S1x8192x1x4, .f32⟩
  | 125 => ⟨S1x1x8192x4, .f32⟩
  | 126 => ⟨S1x1x64x128x4, .f32⟩
  | 127 => ⟨S1x8192x1x4x128, .f32⟩
  | _ => ⟨S8192x512, .f32⟩

abbrev hbmTy0_1 (i : Nat) : BufTy := match i % 128 with
  | 0 => ⟨S1x1x8192x4x128, .f32⟩
  | 1 => ⟨S1x1x64x128x4x128, .f32⟩
  | 2 => ⟨S1x1x64x4x128, .f32⟩
  | 3 => ⟨S1x1x64x4x128x1, .f32⟩
  | 4 => ⟨S1x1x64x4x128x1, .f32⟩
  | 5 => ⟨S1x1x64x4x128x128, .f32⟩
  | 6 => ⟨S1x1x64x4x128x256, .f32⟩
  | 7 => ⟨S1x1x64x4x128x256, .f32⟩
  | 8 => ⟨S1x1x64x256x4x128, .f32⟩
  | 9 => ⟨S1x1x64x4x128x256, .f32⟩
  | 10 => ⟨S1x1x64x4x128x256, .f32⟩
  | 11 => ⟨S1x1x64x4x128x256, .f32⟩
  | 12 => ⟨S_, .f32⟩
  | 13 => ⟨S1x1x64x4x128, .f32⟩
  | 14 => ⟨S1x1x64x4x128x1, .f32⟩
  | 15 => ⟨S1x1x64x4x128x1, .f32⟩
  | 16 => ⟨S1x1x64x4x128x1, .f32⟩
  | 17 => ⟨S1x1x64x4x128x256, .f32⟩
  | 18 => ⟨S1x1x64x4x128x256, .f32⟩
  | 19 => ⟨S_, .f32⟩
  | 20 => ⟨S64x4x128, .f32⟩
  | 21 => ⟨S1x1x64x4x128, .f32⟩
  | 22 => ⟨S1x1x64x4x128x256, .f32⟩
  | 23 => ⟨S1x1x64x4x128x256, .f32⟩
  | 24 => ⟨S1x1x64x4x128x256, .f32⟩
  | 25 => ⟨S1x1x64x4x128x256, .f32⟩
  | 26 => ⟨S_, .f32⟩
  | 27 => ⟨S1x1x64x4x128, .f32⟩
  | 28 => ⟨S1x1x64x4x128x1, .f32⟩
  | 29 => ⟨S1x1x64x4x128x1, .f32⟩
  | 30 => ⟨S_, .f32⟩
  | 31 => ⟨S64x4x128, .f32⟩
  | 32 => ⟨S1x1x64x4x128, .f32⟩
  | 33 => ⟨S1x1x64x4x128, .f32⟩
  | 34 => ⟨S1x1x64x4x128x256, .f32⟩
  | 35 => ⟨S1x1x64x4x128x256, .f32⟩
  | 36 => ⟨S1x1x64x4x128x256, .f32⟩
  | 37 => ⟨S_, .f32⟩
  | 38 => ⟨S1x1x64x4x128x256, .f32⟩
  | 39 => ⟨S1x1x64x4x128x256, .f32⟩
  | 40 => ⟨S_, .f32⟩
  | 41 => ⟨S1x1x64x4x128x256, .f32⟩
  | 42 => ⟨S1x1x64x4x128x256, .f32⟩
  | 43 => ⟨S1x1x64x4x256x128, .f32⟩
  | 44 => ⟨S1x1x64x256x4x128, .f32⟩
  | 45 => ⟨S1x1x64x4x128x128, .f32⟩
  | 46 => ⟨S1x1x64x128x4x128, .f32⟩
  | 47 => ⟨S1x1x64x128x4x128, .f32⟩
  | 48 => ⟨S1x1x64x128x4x128, .f32⟩
  | 49 => ⟨S1x1x1x128x4x128, .f32⟩
  | 50 => ⟨S1x1x63x128x4x128, .f32⟩
  | 51 => ⟨S_, .f32⟩
  | 52 => ⟨S1x1x64x128x4x128, .f32⟩
  | 53 => ⟨S1x1x64x128x4x128, .f32⟩
  | 54 => ⟨S1x1x8192x4x128, .f32⟩
  | 55 => ⟨S1x8192x1x4x128, .f32⟩
  | 56 => ⟨S1x8192x4x128, .f32⟩
  | 57 => ⟨S1x1x64x128x4x128, .f32⟩
  | 58 => ⟨S1x1x64x128x4x128, .f32⟩
  | 59 => ⟨S1x1x1x128x4x128, .f32⟩
  | 60 => ⟨S1x1x63x128x4x128, .f32⟩
  | 61 => ⟨S_, .f32⟩
  | 62 => ⟨S1x1x64x128x4x128, .f32⟩
  | 63 => ⟨S1x1x64x128x4x128, .f32⟩
  | 64 => ⟨S1x1x8192x4x128, .f32⟩
  | 65 => ⟨S1x8192x1x4x128, .f32⟩
  | 66 => ⟨S1x8192x4x128, .f32⟩
  | 67 => ⟨S1x1x8192x4x128, .f32⟩
  | 68 => ⟨S1x8192x1x4x128, .f32⟩
  | 69 => ⟨S1x8192x4x128, .f32⟩
  | 70 => ⟨S8192x512, .f32⟩
  | 71 => ⟨S8192x512, .f32⟩
  | 72 => ⟨S8192x512, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_3 : Ref sig .tc := ⟨.hbm, 44, rfl⟩
abbrev main_v34 : Ref sig .tc := ⟨.hbm, 45, rfl⟩
abbrev main_v35 : Ref sig .tc := ⟨.hbm, 46, rfl⟩
abbrev main_c_4 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_c_5 : Ref sig .tc := ⟨.hbm, 53, rfl⟩
abbrev main_v41 : Ref sig .tc := ⟨.hbm, 54, rfl⟩
abbrev main_v42 : Ref sig .tc := ⟨.hbm, 55, rfl⟩
abbrev main_c_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_7 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_8 : Ref sig .tc := ⟨.hbm, 72, rfl⟩
abbrev main_call0_v0 : Ref sig .tc := ⟨.hbm, 73, rfl⟩
abbrev main_v57_1 : Ref sig .tc := ⟨.hbm, 74, rfl⟩
abbrev main_call0_v2 : Ref sig .tc := ⟨.hbm, 75, rfl⟩
abbrev main_v57_0 : Ref sig .tc := ⟨.hbm, 76, rfl⟩
abbrev main_call0_cst : Ref sig .tc := ⟨.hbm, 77, rfl⟩
abbrev main_v57_2 : Ref sig .tc := ⟨.hbm, 78, rfl⟩
abbrev main_cst_9 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_10 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_11 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_12 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_cst_13 : Ref sig .tc := ⟨.hbm, 117, rfl⟩
abbrev main_v92 : Ref sig .tc := ⟨.hbm, 118, rfl⟩
abbrev main_v93 : Ref sig .tc := ⟨.hbm, 119, rfl⟩
abbrev main_cst_14 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_cst_15 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_cst_16 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_cst_17 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_cst_18 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_call1_cst : Ref sig .tc := ⟨.hbm, 165, rfl⟩
abbrev main_call1_v0 : Ref sig .tc := ⟨.hbm, 166, rfl⟩
abbrev main_v134 : Ref sig .tc := ⟨.hbm, 167, rfl⟩
abbrev main_cst_19 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_cst_20 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_cst_21 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩

abbrev nD : Nat := 1
abbrev τ : Topo := Topo.v7x

variable {F : FTy → Type} [FloatOps F]
-- ==== DownAct.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1024x2816 : Shape := ⟨2, ![1024, 2816]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .f32⟩
  | .local _ .vmem, ⟨0, _⟩ => ⟨S1024x1024, .bf16⟩
  | .local _ .vmem, ⟨1, _⟩ => ⟨S1024x1024, .bf16⟩
  | .local _ .vmem, ⟨2, _⟩ => ⟨S2816x1024, .bf16⟩
  | .local _ .vmem, ⟨3, _⟩ => ⟨S1024x2816, .f32⟩
  | .local _ .vmem, ⟨4, _⟩ => ⟨S1024x2816, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownActReferenceIdeal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S_, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S8192x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DownWeight.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownWeightReferenceIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpAct.lean ====
abbrev S8192x2816 : Shape := ⟨2, ![8192, 2816]⟩
abbrev S1024x5632 : Shape := ⟨2, ![1024, 5632]⟩
abbrev S8192x1024 : Shape := ⟨2, ![8192, 1024]⟩
abbrev S512x2816 : Shape := ⟨2, ![512, 2816]⟩
abbrev S1024x2816 : Shape := ⟨2, ![1024, 2816]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x5632, .bf16⟩
  | .hbm, ⟨3, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S1024x2816, .bf16⟩
  | .local _ .vmem, ⟨5, _⟩ => ⟨S1024x2816, .bf16⟩
  | .local _ .vmem, ⟨6, _⟩ => ⟨S512x1024, .f32⟩
  | .local _ .vmem, ⟨7, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== UpActReferenceIdeal.lean ====
abbrev S8192x2816 : Shape := ⟨2, ![8192, 2816]⟩
abbrev S1024x5632 : Shape := ⟨2, ![1024, 5632]⟩
abbrev S_ : Shape := ⟨0, ![]⟩
abbrev S8192x1024 : Shape := ⟨2, ![8192, 1024]⟩
abbrev S8192x5632 : Shape := ⟨2, ![8192, 5632]⟩

abbrev nBuf : Space → Nat
  | .hbm => 13
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x5632, .bf16⟩
  | .hbm, ⟨3, _⟩ => ⟨S_, .f32⟩
  | .hbm, ⟨4, _⟩ => ⟨S8192x1024, .f32⟩
  | .hbm, ⟨5, _⟩ => ⟨S1024x5632, .f32⟩
  | .hbm, ⟨6, _⟩ => ⟨S8192x5632, .f32⟩
  | .hbm, ⟨7, _⟩ => ⟨S8192x2816, .f32⟩
  | .hbm, ⟨8, _⟩ => ⟨S8192x2816, .f32⟩
  | .hbm, ⟨9, _⟩ => ⟨S8192x2816, .f32⟩
  | .hbm, ⟨10, _⟩ => ⟨S8192x2816, .f32⟩
  | .hbm, ⟨11, _⟩ => ⟨S8192x5632, .f32⟩
  | .hbm, ⟨12, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== UpGate.lean ====
abbrev S8192x1024 : Shape := ⟨2, ![8192, 1024]⟩
abbrev S8192x2816 : Shape := ⟨2, ![8192, 2816]⟩
abbrev S1x1024x5632 : Shape := ⟨3, ![1, 1024, 5632]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S1x1024x5632, .f32⟩
  | .hbm, ⟨3, _⟩ => ⟨S1x1024x5632, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpGateReferenceIdeal.lean ====
abbrev S8192x1024 : Shape := ⟨2, ![8192, 1024]⟩
abbrev S8192x2816 : Shape := ⟨2, ![8192, 2816]⟩
abbrev S1x1024x5632 : Shape := ⟨3, ![1, 1024, 5632]⟩
abbrev S_ : Shape := ⟨0, ![]⟩
abbrev S1024x2816 : Shape := ⟨2, ![1024, 2816]⟩
abbrev S2816x1024 : Shape := ⟨2, ![2816, 1024]⟩
abbrev S1x1024x2816 : Shape := ⟨3, ![1, 1024, 2816]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S1x1024x5632, .f32⟩
  | .hbm, ⟨3, _⟩ => ⟨S_, .f32⟩
  | .hbm, ⟨4, _⟩ => ⟨S1024x2816, .f32⟩
  | .hbm, ⟨5, _⟩ => ⟨S8192x1024, .f32⟩
  | .hbm, ⟨6, _⟩ => ⟨S8192x2816, .f32⟩
  | .hbm, ⟨7, _⟩ => ⟨S8192x2816, .f32⟩
  | .hbm, ⟨8, _⟩ => ⟨S2816x1024, .f32⟩
  | .hbm, ⟨9, _⟩ => ⟨S1024x2816, .f32⟩
  | .hbm, ⟨10, _⟩ => ⟨S1x1024x2816, .f32⟩
  | .hbm, ⟨11, _⟩ => ⟨S1x1024x2816, .f32⟩
  | .hbm, ⟨12, _⟩ => ⟨S1x1024x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== UpValue.lean ====
abbrev S8192x1024 : Shape := ⟨2, ![8192, 1024]⟩
abbrev S8192x2816 : Shape := ⟨2, ![8192, 2816]⟩
abbrev S1x1024x5632 : Shape := ⟨3, ![1, 1024, 5632]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S1x1024x5632, .f32⟩
  | .hbm, ⟨3, _⟩ => ⟨S1x1024x5632, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  let c0_i32_0 : BitVec 32 := 0#32
  ![c0_i32.toNat, arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpValueReferenceIdeal.lean ====
abbrev S8192x1024 : Shape := ⟨2, ![8192, 1024]⟩
abbrev S8192x2816 : Shape := ⟨2, ![8192, 2816]⟩
abbrev S1x1024x5632 : Shape := ⟨3, ![1, 1024, 5632]⟩
abbrev S_ : Shape := ⟨0, ![]⟩
abbrev S1024x2816 : Shape := ⟨2, ![1024, 2816]⟩
abbrev S2816x1024 : Shape := ⟨2, ![2816, 1024]⟩
abbrev S1x1024x2816 : Shape := ⟨3, ![1, 1024, 2816]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S1x1024x5632, .f32⟩
  | .hbm, ⟨3, _⟩ => ⟨S_, .f32⟩
  | .hbm, ⟨4, _⟩ => ⟨S1024x2816, .f32⟩
  | .hbm, ⟨5, _⟩ => ⟨S8192x1024, .f32⟩
  | .hbm, ⟨6, _⟩ => ⟨S8192x2816, .f32⟩
  | .hbm, ⟨7, _⟩ => ⟨S8192x2816, .f32⟩
  | .hbm, ⟨8, _⟩ => ⟨S2816x1024, .f32⟩
  | .hbm, ⟨9, _⟩ => ⟨S1024x2816, .f32⟩
  | .hbm, ⟨10, _⟩ => ⟨S1x1024x2816, .f32⟩
  | .hbm, ⟨11, _⟩ => ⟨S1x1024x2816, .f32⟩
  | .hbm, ⟨12, _⟩ => ⟨S1x1024x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Up.lean ====
abbrev S8192x1024 : Shape := ⟨2, ![8192, 1024]⟩
abbrev S1024x5632 : Shape := ⟨2, ![1024, 5632]⟩
abbrev S8192x5632 : Shape := ⟨2, ![8192, 5632]⟩
abbrev S1024x1024 : Shape := ⟨2, ![1024, 1024]⟩
abbrev S1024x2816 : Shape := ⟨2, ![1024, 2816]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x2816, .bf16⟩
  | .local _ .vmem, ⟨3, _⟩ => ⟨S1024x2816, .bf16⟩
  | .local _ .vmem, ⟨4, _⟩ => ⟨S1024x2816, .f32⟩
  | .local _ .vmem, ⟨5, _⟩ => ⟨S1024x2816, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpReferenceIdeal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Down.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownReferenceIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InA.lean ====
abbrev S8192x1024 : Shape := ⟨2, ![8192, 1024]⟩
abbrev S1024x512 : Shape := ⟨2, ![1024, 512]⟩
abbrev S1024x1024 : Shape := ⟨2, ![1024, 1024]⟩
abbrev S1024x128 : Shape := ⟨2, ![1024, 128]⟩
abbrev S8192x512 : Shape := ⟨2, ![8192, 512]⟩
abbrev S8192x128 : Shape := ⟨2, ![8192, 128]⟩
abbrev S512x1024 : Shape := ⟨2, ![512, 1024]⟩
abbrev S512x512 : Shape := ⟨2, ![512, 512]⟩
abbrev S512x128 : Shape := ⟨2, ![512, 128]⟩

abbrev nBuf : Space → Nat
  | .hbm => 13
  | .vmem => 20
  | .smem => 0
  | _ => 0

abbrev bufTy : (tb : Table) → Fin (tcTables nBuf tb) → BufTy
  | .hbm, ⟨0, _⟩ => ⟨S8192x1024, .bf16⟩
  | .hbm, ⟨1, _⟩ => ⟨S1024x512, .bf16⟩
  | .hbm, ⟨2, _⟩ => ⟨S1024x512, .bf16⟩
  | .hbm, ⟨3, _⟩ => ⟨S1024x1024, .bf16⟩
  | .hbm, ⟨4, _⟩ => ⟨S1024x128, .bf16⟩
  | .hbm, ⟨5, _⟩ => ⟨S1024x1024, .bf16⟩
  | .hbm, ⟨6, _⟩ => ⟨S1024x512, .bf16⟩
  | .hbm, ⟨7, _⟩ => ⟨S8192x512, .f32⟩
  | .hbm, ⟨8, _⟩ => ⟨S8192x512, .f32⟩
  | .hbm, ⟨9, _⟩ => ⟨S8192x1024, .f32⟩
  | .hbm, ⟨10, _⟩ => ⟨S8192x128, .f32⟩
  | .hbm, ⟨11, _⟩ => ⟨S8192x1024, .f32⟩
  | .hbm, ⟨12, _⟩ => ⟨S8192x512, .f32⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x128, .bf16⟩
  | .local _ .vmem, ⟨6, _⟩ => ⟨S1024x1024, .bf16⟩
  | .local _ .vmem, ⟨7, _⟩ => ⟨S1024x512, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x1024, .f32⟩
  | .local _ .vmem, ⟨13, _⟩ => ⟨S512x1024, .f32⟩
  | .local _ .vmem, ⟨14, _⟩ => ⟨S512x128, .f32⟩
  | .local _ .vmem, ⟨15, _⟩ => ⟨S512x128, .f32⟩
  | .local _ .vmem, ⟨16, _⟩ => ⟨S512x1024, .f32⟩
  | .local _ .vmem, ⟨17, _⟩ => ⟨S512x1024, .f32⟩
  | .local _ .vmem, ⟨18, _⟩ => ⟨S512x512, .f32⟩
  | .local _ .vmem, ⟨19, _⟩ => ⟨S512x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== InAReferenceIdeal.lean ====
abbrev S8192x1024 : Shape := ⟨2, ![8192, 1024]⟩
abbrev S1024x512 : Shape := ⟨2, ![1024, 512]⟩
abbrev S1024x1024 : Shape := ⟨2, ![1024, 1024]⟩
abbrev S1024x128 : Shape := ⟨2, ![1024, 128]⟩
abbrev S8192x512 : Shape := ⟨2, ![8192, 512]⟩
abbrev S8192x128 : Shape := ⟨2, ![8192, 128]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x512, .bf16⟩
  | .hbm, ⟨2, _⟩ => ⟨S1024x512, .bf16⟩
  | .hbm, ⟨3, _⟩ => ⟨S1024x1024, .bf16⟩
  | .hbm, ⟨4, _⟩ => ⟨S1024x128, .bf16⟩
  | .hbm, ⟨5, _⟩ => ⟨S1024x1024, .bf16⟩
  | .hbm, ⟨6, _⟩ => ⟨S1024x512, .bf16⟩
  | .hbm, ⟨7, _⟩ => ⟨S8192x1024, .f32⟩
  | .hbm, ⟨8, _⟩ => ⟨S1024x512, .f32⟩
  | .hbm, ⟨9, _⟩ => ⟨S8192x512, .f32⟩
  | .hbm, ⟨10, _⟩ => ⟨S8192x1024, .f32⟩
  | .hbm, ⟨11, _⟩ => ⟨S1024x512, .f32⟩
  | .hbm, ⟨12, _⟩ => ⟨S8192x512, .f32⟩
  | .hbm, ⟨13, _⟩ => ⟨S8192x1024, .f32⟩
  | .hbm, ⟨14, _⟩ => ⟨S1024x1024, .f32⟩
  | .hbm, ⟨15, _⟩ => ⟨S8192x1024, .f32⟩
  | .hbm, ⟨16, _⟩ => ⟨S8192x1024, .f32⟩
  | .hbm, ⟨17, _⟩ => ⟨S1024x128, .f32⟩
  | .hbm, ⟨18, _⟩ => ⟨S8192x128, .f32⟩
  | .hbm, ⟨19, _⟩ => ⟨S8192x1024, .f32⟩
  | .hbm, ⟨20, _⟩ => ⟨S1024x1024, .f32⟩
  | .hbm, ⟨21, _⟩ => ⟨S8192x1024, .f32⟩
  | .hbm, ⟨22, _⟩ => ⟨S8192x1024, .f32⟩
  | .hbm, ⟨23, _⟩ => ⟨S1024x512, .f32⟩
  | .hbm, ⟨24, _⟩ => ⟨S8192x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== InB.lean ====
abbrev S8192x1024 : Shape := ⟨2, ![8192, 1024]⟩
abbrev S1024x1536 : Shape := ⟨2, ![1024, 1536]⟩
abbrev S1024x512 : Shape := ⟨2, ![1024, 512]⟩
abbrev S8192x1536 : Shape := ⟨2, ![8192, 1536]⟩
abbrev S8192x512 : Shape := ⟨2, ![8192, 512]⟩
abbrev S256x1024 : Shape := ⟨2, ![256, 1024]⟩
abbrev S256x1536 : Shape := ⟨2, ![256, 1536]⟩
abbrev S256x512 : Shape := ⟨2, ![256, 512]⟩

abbrev nBuf : Space → Nat
  | .hbm => 9
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S1024x1536, .bf16⟩
  | .hbm, ⟨2, _⟩ => ⟨S1024x1536, .bf16⟩
  | .hbm, ⟨3, _⟩ => ⟨S1024x1536, .bf16⟩
  | .hbm, ⟨4, _⟩ => ⟨S1024x512, .bf16⟩
  | .hbm, ⟨5, _⟩ => ⟨S8192x1536, .f32⟩
  | .hbm, ⟨6, _⟩ => ⟨S8192x1536, .f32⟩
  | .hbm, ⟨7, _⟩ => ⟨S8192x1536, .f32⟩
  | .hbm, ⟨8, _⟩ => ⟨S8192x512, .f32⟩
  | .local _ .vmem, ⟨0, _⟩ => ⟨S256x1024, .bf16⟩
  | .local _ .vmem, ⟨1, _⟩ => ⟨S256x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .bf16⟩
  | .local _ .vmem, ⟨5, _⟩ => ⟨S1024x512, .bf16⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x512, .f32⟩
  | .local _ .vmem, ⟨13, _⟩ => ⟨S256x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InBReferenceIdeal.lean ====
abbrev S8192x1024 : Shape := ⟨2, ![8192, 1024]⟩
abbrev S1024x1536 : Shape := ⟨2, ![1024, 1536]⟩
abbrev S1024x512 : Shape := ⟨2, ![1024, 512]⟩
abbrev S8192x1536 : Shape := ⟨2, ![8192, 1536]⟩
abbrev S8192x512 : Shape := ⟨2, ![8192, 512]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1536, .bf16⟩
  | .hbm, ⟨2, _⟩ => ⟨S1024x1536, .bf16⟩
  | .hbm, ⟨3, _⟩ => ⟨S1024x1536, .bf16⟩
  | .hbm, ⟨4, _⟩ => ⟨S1024x512, .bf16⟩
  | .hbm, ⟨5, _⟩ => ⟨S8192x1024, .f32⟩
  | .hbm, ⟨6, _⟩ => ⟨S1024x1536, .f32⟩
  | .hbm, ⟨7, _⟩ => ⟨S8192x1536, .f32⟩
  | .hbm, ⟨8, _⟩ => ⟨S8192x1024, .f32⟩
  | .hbm, ⟨9, _⟩ => ⟨S1024x1536, .f32⟩
  | .hbm, ⟨10, _⟩ => ⟨S8192x1536, .f32⟩
  | .hbm, ⟨11, _⟩ => ⟨S8192x1024, .f32⟩
  | .hbm, ⟨12, _⟩ => ⟨S1024x1536, .f32⟩
  | .hbm, ⟨13, _⟩ => ⟨S8192x1536, .f32⟩
  | .hbm, ⟨14, _⟩ => ⟨S8192x1024, .f32⟩
  | .hbm, ⟨15, _⟩ => ⟨S1024x512, .f32⟩
  | .hbm, ⟨16, _⟩ => ⟨S8192x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== InC.lean ====
abbrev S8192x1024 : Shape := ⟨2, ![8192, 1024]⟩
abbrev S1024x1536 : Shape := ⟨2, ![1024, 1536]⟩
abbrev S1024x2048 : Shape := ⟨2, ![1024, 2048]⟩
abbrev S1024x128 : Shape := ⟨2, ![1024, 128]⟩
abbrev S1024x512 : Shape := ⟨2, ![1024, 512]⟩
abbrev S8192x1536 : Shape := ⟨2, ![8192, 1536]⟩
abbrev S8192x2048 : Shape := ⟨2, ![8192, 2048]⟩
abbrev S8192x128 : Shape := ⟨2, ![8192, 128]⟩
abbrev S8192x512 : Shape := ⟨2, ![8192, 512]⟩
abbrev S512x1024 : Shape := ⟨2, ![512, 1024]⟩
abbrev S512x1536 : Shape := ⟨2, ![512, 1536]⟩
abbrev S512x2048 : Shape := ⟨2, ![512, 2048]⟩
abbrev S512x128 : Shape := ⟨2, ![512, 128]⟩
abbrev S512x512 : Shape := ⟨2, ![512, 512]⟩

abbrev nBuf : Space → Nat
  | .hbm => 9
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S1024x1536, .bf16⟩
  | .hbm, ⟨2, _⟩ => ⟨S1024x2048, .bf16⟩
  | .hbm, ⟨3, _⟩ => ⟨S1024x128, .bf16⟩
  | .hbm, ⟨4, _⟩ => ⟨S1024x512, .bf16⟩
  | .hbm, ⟨5, _⟩ => ⟨S8192x1536, .f32⟩
  | .hbm, ⟨6, _⟩ => ⟨S8192x2048, .f32⟩
  | .hbm, ⟨7, _⟩ => ⟨S8192x128, .f32⟩
  | .hbm, ⟨8, _⟩ => ⟨S8192x512, .f32⟩
  | .local _ .vmem, ⟨0, _⟩ => ⟨S512x1024, .bf16⟩
  | .local _ .vmem, ⟨1, _⟩ => ⟨S512x1024, .bf16⟩
  | .local _ .vmem, ⟨2, _⟩ => ⟨S1024x1536, .bf16⟩
  | .local _ .vmem, ⟨3, _⟩ => ⟨S1024x2048, .bf16⟩
  | .local _ .vmem, ⟨4, _⟩ => ⟨S1024x128, .bf16⟩
  | .local _ .vmem, ⟨5, _⟩ => ⟨S1024x512, .bf16⟩
  | .local _ .vmem, ⟨6, _⟩ => ⟨S512x1536, .f32⟩
  | .local _ .vmem, ⟨7, _⟩ => ⟨S512x1536, .f32⟩
  | .local _ .vmem, ⟨8, _⟩ => ⟨S512x2048, .f32⟩
  | .local _ .vmem, ⟨9, _⟩ => ⟨S512x2048, .f32⟩
  | .local _ .vmem, ⟨10, _⟩ => ⟨S512x128, .f32⟩
  | .local _ .vmem, ⟨11, _⟩ => ⟨S512x128, .f32⟩
  | .local _ .vmem, ⟨12, _⟩ => ⟨S512x512, .f32⟩
  | .local _ .vmem, ⟨13, _⟩ => ⟨S512x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InCReferenceIdeal.lean ====
abbrev S8192x1024 : Shape := ⟨2, ![8192, 1024]⟩
abbrev S1024x1536 : Shape := ⟨2, ![1024, 1536]⟩
abbrev S1024x2048 : Shape := ⟨2, ![1024, 2048]⟩
abbrev S1024x128 : Shape := ⟨2, ![1024, 128]⟩
abbrev S1024x512 : Shape := ⟨2, ![1024, 512]⟩
abbrev S8192x1536 : Shape := ⟨2, ![8192, 1536]⟩
abbrev S8192x2048 : Shape := ⟨2, ![8192, 2048]⟩
abbrev S8192x128 : Shape := ⟨2, ![8192, 128]⟩
abbrev S8192x512 : Shape := ⟨2, ![8192, 512]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1536, .bf16⟩
  | .hbm, ⟨2, _⟩ => ⟨S1024x2048, .bf16⟩
  | .hbm, ⟨3, _⟩ => ⟨S1024x128, .bf16⟩
  | .hbm, ⟨4, _⟩ => ⟨S1024x512, .bf16⟩
  | .hbm, ⟨5, _⟩ => ⟨S8192x1024, .f32⟩
  | .hbm, ⟨6, _⟩ => ⟨S1024x1536, .f32⟩
  | .hbm, ⟨7, _⟩ => ⟨S8192x1536, .f32⟩
  | .hbm, ⟨8, _⟩ => ⟨S8192x1024, .f32⟩
  | .hbm, ⟨9, _⟩ => ⟨S1024x2048, .f32⟩
  | .hbm, ⟨10, _⟩ => ⟨S8192x2048, .f32⟩
  | .hbm, ⟨11, _⟩ => ⟨S8192x1024, .f32⟩
  | .hbm, ⟨12, _⟩ => ⟨S1024x128, .f32⟩
  | .hbm, ⟨13, _⟩ => ⟨S8192x128, .f32⟩
  | .hbm, ⟨14, _⟩ => ⟨S8192x1024, .f32⟩
  | .hbm, ⟨15, _⟩ => ⟨S1024x512, .f32⟩
  | .hbm, ⟨16, _⟩ => ⟨S8192x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== InD.lean ====
abbrev S8192x1024 : Shape := ⟨2, ![8192, 1024]⟩
abbrev S1024x768 : Shape := ⟨2, ![1024, 768]⟩
abbrev S1024x512 : Shape := ⟨2, ![1024, 512]⟩
abbrev S8192x768 : Shape := ⟨2, ![8192, 768]⟩
abbrev S8192x512 : Shape := ⟨2, ![8192, 512]⟩
abbrev S512x1024 : Shape := ⟨2, ![512, 1024]⟩
abbrev S512x768 : Shape := ⟨2, ![512, 768]⟩
abbrev S512x512 : Shape := ⟨2, ![512, 512]⟩

abbrev nBuf : Space → Nat
  | .hbm => 11
  | .vmem => 17
  | .smem => 0
  | _ => 0

abbrev bufTy : (tb : Table) → Fin (tcTables nBuf tb) → BufTy
  | .hbm, ⟨0, _⟩ => ⟨S8192x1024, .bf16⟩
  | .hbm, ⟨1, _⟩ => ⟨S1024x768, .bf16⟩
  | .hbm, ⟨2, _⟩ => ⟨S1024x768, .bf16⟩
  | .hbm, ⟨3, _⟩ => ⟨S1024x768, .bf16⟩
  | .hbm, ⟨4, _⟩ => ⟨S1024x768, .bf16⟩
  | .hbm, ⟨5, _⟩ => ⟨S1024x512, .bf16⟩
  | .hbm, ⟨6, _⟩ => ⟨S8192x768, .f32⟩
  | .hbm, ⟨7, _⟩ => ⟨S8192x768, .f32⟩
  | .hbm, ⟨8, _⟩ => ⟨S8192x768, .f32⟩
  | .hbm, ⟨9, _⟩ => ⟨S8192x768, .f32⟩
  | .hbm, ⟨10, _⟩ => ⟨S8192x512, .f32⟩
  | .local _ .vmem, ⟨0, _⟩ => ⟨S512x1024, .bf16⟩
  | .local _ .vmem, ⟨1, _⟩ => ⟨S512x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | .local _ .vmem, ⟨6, _⟩ => ⟨S1024x512, .bf16⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | .local _ .vmem, ⟨14, _⟩ => ⟨S512x768, .f32⟩
  | .local _ .vmem, ⟨15, _⟩ => ⟨S512x512, .f32⟩
  | .local _ .vmem, ⟨16, _⟩ => ⟨S512x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== InDReferenceIdeal.lean ====
abbrev S8192x1024 : Shape := ⟨2, ![8192, 1024]⟩
abbrev S1024x768 : Shape := ⟨2, ![1024, 768]⟩
abbrev S1024x512 : Shape := ⟨2, ![1024, 512]⟩
abbrev S8192x768 : Shape := ⟨2, ![8192, 768]⟩
abbrev S8192x512 : Shape := ⟨2, ![8192, 512]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x768, .bf16⟩
  | .hbm, ⟨2, _⟩ => ⟨S1024x768, .bf16⟩
  | .hbm, ⟨3, _⟩ => ⟨S1024x768, .bf16⟩
  | .hbm, ⟨4, _⟩ => ⟨S1024x768, .bf16⟩
  | .hbm, ⟨5, _⟩ => ⟨S1024x512, .bf16⟩
  | .hbm, ⟨6, _⟩ => ⟨S8192x1024, .f32⟩
  | .hbm, ⟨7, _⟩ => ⟨S1024x768, .f32⟩
  | .hbm, ⟨8, _⟩ => ⟨S8192x768, .f32⟩
  | .hbm, ⟨9, _⟩ => ⟨S8192x1024, .f32⟩
  | .hbm, ⟨10, _⟩ => ⟨S1024x768, .f32⟩
  | .hbm, ⟨11, _⟩ => ⟨S8192x768, .f32⟩
  | .hbm, ⟨12, _⟩ => ⟨S8192x1024, .f32⟩
  | .hbm, ⟨13, _⟩ => ⟨S1024x768, .f32⟩
  | .hbm, ⟨14, _⟩ => ⟨S8192x768, .f32⟩
  | .hbm, ⟨15, _⟩ => ⟨S8192x1024, .f32⟩
  | .hbm, ⟨16, _⟩ => ⟨S1024x768, .f32⟩
  | .hbm, ⟨17, _⟩ => ⟨S8192x768, .f32⟩
  | .hbm, ⟨18, _⟩ => ⟨S8192x1024, .f32⟩
  | .hbm, ⟨19, _⟩ => ⟨S1024x512, .f32⟩
  | .hbm, ⟨20, _⟩ => ⟨S8192x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== InActA.lean ====
abbrev S8192x512 : Shape := ⟨2, ![8192, 512]⟩
abbrev S8192x1024 : Shape := ⟨2, ![8192, 1024]⟩
abbrev S8192x128 : Shape := ⟨2, ![8192, 128]⟩
abbrev S1024x512 : Shape := ⟨2, ![1024, 512]⟩
abbrev S1024x1024 : Shape := ⟨2, ![1024, 1024]⟩
abbrev S1024x128 : Shape := ⟨2, ![1024, 128]⟩
abbrev S512x512 : Shape := ⟨2, ![512, 512]⟩
abbrev S512x1024 : Shape := ⟨2, ![512, 1024]⟩
abbrev S512x128 : Shape := ⟨2, ![512, 128]⟩

abbrev nBuf : Space → Nat
  | .hbm => 13
  | .vmem => 20
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x1024, .f32⟩
  | .hbm, ⟨3, _⟩ => ⟨S8192x128, .bf16⟩
  | .hbm, ⟨4, _⟩ => ⟨S8192x1024, .f32⟩
  | .hbm, ⟨5, _⟩ => ⟨S8192x512, .bf16⟩
  | .hbm, ⟨6, _⟩ => ⟨S1024x512, .bf16⟩
  | .hbm, ⟨7, _⟩ => ⟨S1024x512, .bf16⟩
  | .hbm, ⟨8, _⟩ => ⟨S1024x1024, .bf16⟩
  | .hbm, ⟨9, _⟩ => ⟨S1024x128, .bf16⟩
  | .hbm, ⟨10, _⟩ => ⟨S1024x1024, .bf16⟩
  | .hbm, ⟨11, _⟩ => ⟨S1024x512, .bf16⟩
  | .hbm, ⟨12, _⟩ => ⟨S8192x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1024, .f32⟩
  | .local _ .vmem, ⟨5, _⟩ => ⟨S512x1024, .f32⟩
  | .local _ .vmem, ⟨6, _⟩ => ⟨S512x128, .bf16⟩
  | .local _ .vmem, ⟨7, _⟩ => ⟨S512x128, .bf16⟩
  | .local _ .vmem, ⟨8, _⟩ => ⟨S512x1024, .f32⟩
  | .local _ .vmem, ⟨9, _⟩ => ⟨S512x1024, .f32⟩
  | .local _ .vmem, ⟨10, _⟩ => ⟨S512x512, .bf16⟩
  | .local _ .vmem, ⟨11, _⟩ => ⟨S512x512, .bf16⟩
  | .local _ .vmem, ⟨12, _⟩ => ⟨S1024x512, .bf16⟩
  | .local _ .vmem, ⟨13, _⟩ => ⟨S1024x512, .bf16⟩
  | .local _ .vmem, ⟨14, _⟩ => ⟨S1024x1024, .bf16⟩
  | .local _ .vmem, ⟨15, _⟩ => ⟨S1024x128, .bf16⟩
  | .local _ .vmem, ⟨16, _⟩ => ⟨S1024x1024, .bf16⟩
  | .local _ .vmem, ⟨17, _⟩ => ⟨S1024x512, .bf16⟩
  | .local _ .vmem, ⟨18, _⟩ => ⟨S512x1024, .f32⟩
  | .local _ .vmem, ⟨19, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== InActAReferenceIdeal.lean ====
abbrev S8192x512 : Shape := ⟨2, ![8192, 512]⟩
abbrev S8192x1024 : Shape := ⟨2, ![8192, 1024]⟩
abbrev S8192x128 : Shape := ⟨2, ![8192, 128]⟩
abbrev S1024x512 : Shape := ⟨2, ![1024, 512]⟩
abbrev S1024x1024 : Shape := ⟨2, ![1024, 1024]⟩
abbrev S1024x128 : Shape := ⟨2, ![1024, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x1024, .f32⟩
  | .hbm, ⟨3, _⟩ => ⟨S8192x128, .bf16⟩
  | .hbm, ⟨4, _⟩ => ⟨S8192x1024, .f32⟩
  | .hbm, ⟨5, _⟩ => ⟨S8192x512, .bf16⟩
  | .hbm, ⟨6, _⟩ => ⟨S1024x512, .bf16⟩
  | .hbm, ⟨7, _⟩ => ⟨S1024x512, .bf16⟩
  | .hbm, ⟨8, _⟩ => ⟨S1024x1024, .bf16⟩
  | .hbm, ⟨9, _⟩ => ⟨S1024x128, .bf16⟩
  | .hbm, ⟨10, _⟩ => ⟨S1024x1024, .bf16⟩
  | .hbm, ⟨11, _⟩ => ⟨S1024x512, .bf16⟩
  | .hbm, ⟨12, _⟩ => ⟨S_, .f32⟩
  | .hbm, ⟨13, _⟩ => ⟨S8192x1024, .f32⟩
  | .hbm, ⟨14, _⟩ => ⟨S1024x512, .f32⟩
  | .hbm, ⟨15, _⟩ => ⟨S8192x512, .f32⟩
  | .hbm, ⟨16, _⟩ => ⟨S1024x512, .f32⟩
  | .hbm, ⟨17, _⟩ => ⟨S8192x512, .f32⟩
  | .hbm, ⟨18, _⟩ => ⟨S1024x1024, .f32⟩
  | .hbm, ⟨19, _⟩ => ⟨S8192x1024, .f32⟩
  | .hbm, ⟨20, _⟩ => ⟨S1024x128, .f32⟩
  | .hbm, ⟨21, _⟩ => ⟨S8192x128, .f32⟩
  | .hbm, ⟨22, _⟩ => ⟨S1024x1024, .f32⟩
  | .hbm, ⟨23, _⟩ => ⟨S8192x1024, .f32⟩
  | .hbm, ⟨24, _⟩ => ⟨S1024x512, .f32⟩
  | .hbm, ⟨25, _⟩ => ⟨S8192x512, .f32⟩
  | .hbm, ⟨26, _⟩ => ⟨S8192x128, .f32⟩
  | .hbm, ⟨27, _⟩ => ⟨S8192x512, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== InActB.lean ====
abbrev S8192x1536 : Shape := ⟨2, ![8192, 1536]⟩
abbrev S8192x512 : Shape := ⟨2, ![8192, 512]⟩
abbrev S1024x1536 : Shape := ⟨2, ![1024, 1536]⟩
abbrev S1024x512 : Shape := ⟨2, ![1024, 512]⟩
abbrev S8192x1024 : Shape := ⟨2, ![8192, 1024]⟩
abbrev S512x1536 : Shape := ⟨2, ![512, 1536]⟩
abbrev S512x512 : Shape := ⟨2, ![512, 512]⟩
abbrev S512x1024 : Shape := ⟨2, ![512, 1024]⟩

abbrev nBuf : Space → Nat
  | .hbm => 9
  | .vmem => 14
  | .smem => 0
  | _ => 0

abbrev bufTy : (tb : Table) → Fin (tcTables nBuf tb) → BufTy
  | .hbm, ⟨0, _⟩ => ⟨S8192x1536, .bf16⟩
  | .hbm, ⟨1, _⟩ => ⟨S8192x1536, .bf16⟩
  | .hbm, ⟨2, _⟩ => ⟨S8192x1536, .f32⟩
  | .hbm, ⟨3, _⟩ => ⟨S8192x512, .bf16⟩
  | .hbm, ⟨4, _⟩ => ⟨S1024x1536, .bf16⟩
  | .hbm, ⟨5, _⟩ => ⟨S1024x1536, .bf16⟩
  | .hbm, ⟨6, _⟩ => ⟨S1024x1536, .bf16⟩
  | .hbm, ⟨7, _⟩ => ⟨S1024x512, .bf16⟩
  | .hbm, ⟨8, _⟩ => ⟨S8192x1024, .f32⟩
  | .local _ .vmem, ⟨0, _⟩ => ⟨S512x1536, .bf16⟩
  | .local _ .vmem, ⟨1, _⟩ => ⟨S512x1536, .bf16⟩
  | .local _ .vmem, ⟨2, _⟩ => ⟨S512x1536, .bf16⟩
  | .local _ .vmem, ⟨3, _⟩ => ⟨S512x1536, .bf16⟩
  | .local _ .vmem, ⟨4, _⟩ => ⟨S512x1536, .f32⟩
  | .local _ .vmem, ⟨5, _⟩ => ⟨S512x1536, .f32⟩
  | .local _ .vmem, ⟨6, _⟩ => ⟨S512x512, .bf16⟩
  | .local _ .vmem, ⟨7, _⟩ => ⟨S512x512, .bf16⟩
  | .local _ .vmem, ⟨8, _⟩ => ⟨S1024x1536, .bf16⟩
  | .local _ .vmem, ⟨9, _⟩ => ⟨S1024x1536, .bf16⟩
  | .local _ .vmem, ⟨10, _⟩ => ⟨S1024x1536, .bf16⟩
  | .local _ .vmem, ⟨11, _⟩ => ⟨S1024x512, .bf16⟩
  | .local _ .vmem, ⟨12, _⟩ => ⟨S512x1024, .f32⟩
  | .local _ .vmem, ⟨13, _⟩ => ⟨S512x1024, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InActBReferenceIdeal.lean ====
abbrev S8192x1536 : Shape := ⟨2, ![8192, 1536]⟩
abbrev S8192x512 : Shape := ⟨2, ![8192, 512]⟩
abbrev S1024x1536 : Shape := ⟨2, ![1024, 1536]⟩
abbrev S1024x512 : Shape := ⟨2, ![1024, 512]⟩
abbrev S_ : Shape := ⟨0, ![]⟩
abbrev S8192x1024 : Shape := ⟨2, ![8192, 1024]⟩

abbrev nBuf : Space → Nat
  | .hbm => 28
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S8192x1536, .bf16⟩
  | .hbm, ⟨2, _⟩ => ⟨S8192x1536, .f32⟩
  | .hbm, ⟨3, _⟩ => ⟨S8192x512, .bf16⟩
  | .hbm, ⟨4, _⟩ => ⟨S1024x1536, .bf16⟩
  | .hbm, ⟨5, _⟩ => ⟨S1024x1536, .bf16⟩
  | .hbm, ⟨6, _⟩ => ⟨S1024x1536, .bf16⟩
  | .hbm, ⟨7, _⟩ => ⟨S1024x512, .bf16⟩
  | .hbm, ⟨8, _⟩ => ⟨S_, .f32⟩
  | .hbm, ⟨9, _⟩ => ⟨S8192x1024, .f32⟩
  | .hbm, ⟨10, _⟩ => ⟨S1024x1536, .f32⟩
  | .hbm, ⟨11, _⟩ => ⟨S8192x1536, .f32⟩
  | .hbm, ⟨12, _⟩ => ⟨S1024x1536, .f32⟩
  | .hbm, ⟨13, _⟩ => ⟨S8192x1536, .f32⟩
  | .hbm, ⟨14, _⟩ => ⟨S1024x1536, .f32⟩
  | .hbm, ⟨15, _⟩ => ⟨S8192x1536, .f32⟩
  | .hbm, ⟨16, _⟩ => ⟨S1024x512, .f32⟩
  | .hbm, ⟨17, _⟩ => ⟨S8192x512, .f32⟩
  | .hbm, ⟨18, _⟩ => ⟨S8192x1536, .f32⟩
  | .hbm, ⟨19, _⟩ => ⟨S8192x1536, .f32⟩
  | .hbm, ⟨20, _⟩ => ⟨S8192x512, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== InActC.lean ====
abbrev S8192x1536 : Shape := ⟨2, ![8192, 1536]⟩
abbrev S8192x2048 : Shape := ⟨2, ![8192, 2048]⟩
abbrev S8192x128 : Shape := ⟨2, ![8192, 128]⟩
abbrev S8192x512 : Shape := ⟨2, ![8192, 512]⟩
abbrev S1024x1536 : Shape := ⟨2, ![1024, 1536]⟩
abbrev S1024x2048 : Shape := ⟨2, ![1024, 2048]⟩
abbrev S1024x128 : Shape := ⟨2, ![1024, 128]⟩
abbrev S1024x512 : Shape := ⟨2, ![1024, 512]⟩
abbrev S8192x1024 : Shape := ⟨2, ![8192, 1024]⟩
abbrev S512x1536 : Shape := ⟨2, ![512, 1536]⟩
abbrev S512x2048 : Shape := ⟨2, ![512, 2048]⟩
abbrev S512x128 : Shape := ⟨2, ![512, 128]⟩
abbrev S512x512 : Shape := ⟨2, ![512, 512]⟩
abbrev S512x1024 : Shape := ⟨2, ![512, 1024]⟩

abbrev nBuf : Space → Nat
  | .hbm => 9
  | .vmem => 14
  | .smem => 0
  | _ => 0

abbrev bufTy : (tb : Table) → Fin (tcTables nBuf tb) → BufTy
  | .hbm, ⟨0, _⟩ => ⟨S8192x1536, .f32⟩
  | .hbm, ⟨1, _⟩ => ⟨S8192x2048, .bf16⟩
  | .hbm, ⟨2, _⟩ => ⟨S8192x128, .f32⟩
  | .hbm, ⟨3, _⟩ => ⟨S8192x512, .bf16⟩
  | .hbm, ⟨4, _⟩ => ⟨S1024x1536, .bf16⟩
  | .hbm, ⟨5, _⟩ => ⟨S1024x2048, .bf16⟩
  | .hbm, ⟨6, _⟩ => ⟨S1024x128, .bf16⟩
  | .hbm, ⟨7, _⟩ => ⟨S1024x512, .bf16⟩
  | .hbm, ⟨8, _⟩ => ⟨S8192x1024, .f32⟩
  | .local _ .vmem, ⟨0, _⟩ => ⟨S512x1536, .f32⟩
  | .local _ .vmem, ⟨1, _⟩ => ⟨S512x1536, .f32⟩
  | .local _ .vmem, ⟨2, _⟩ => ⟨S512x2048, .bf16⟩
  | .local _ .vmem, ⟨3, _⟩ => ⟨S512x2048, .bf16⟩
  | .local _ .vmem, ⟨4, _⟩ => ⟨S512x128, .f32⟩
  | .local _ .vmem, ⟨5, _⟩ => ⟨S512x128, .f32⟩
  | .local _ .vmem, ⟨6, _⟩ => ⟨S512x512, .bf16⟩
  | .local _ .vmem, ⟨7, _⟩ => ⟨S512x512, .bf16⟩
  | .local _ .vmem, ⟨8, _⟩ => ⟨S1024x1536, .bf16⟩
  | .local _ .vmem, ⟨9, _⟩ => ⟨S1024x2048, .bf16⟩
  | .local _ .vmem, ⟨10, _⟩ => ⟨S1024x128, .bf16⟩
  | .local _ .vmem, ⟨11, _⟩ => ⟨S1024x512, .bf16⟩
  | .local _ .vmem, ⟨12, _⟩ => ⟨S512x1024, .f32⟩
  | .local _ .vmem, ⟨13, _⟩ => ⟨S512x1024, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InActCReferenceIdeal.lean ====
abbrev S8192x1536 : Shape := ⟨2, ![8192, 1536]⟩
abbrev S8192x2048 : Shape := ⟨2, ![8192, 2048]⟩
abbrev S8192x128 : Shape := ⟨2, ![8192, 128]⟩
abbrev S8192x512 : Shape := ⟨2, ![8192, 512]⟩
abbrev S1024x1536 : Shape := ⟨2, ![1024, 1536]⟩
abbrev S1024x2048 : Shape := ⟨2, ![1024, 2048]⟩
abbrev S1024x128 : Shape := ⟨2, ![1024, 128]⟩
abbrev S1024x512 : Shape := ⟨2, ![1024, 512]⟩
abbrev S_ : Shape := ⟨0, ![]⟩
abbrev S8192x1024 : Shape := ⟨2, ![8192, 1024]⟩

abbrev nBuf : Space → Nat
  | .hbm => 27
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S8192x2048, .bf16⟩
  | .hbm, ⟨2, _⟩ => ⟨S8192x128, .f32⟩
  | .hbm, ⟨3, _⟩ => ⟨S8192x512, .bf16⟩
  | .hbm, ⟨4, _⟩ => ⟨S1024x1536, .bf16⟩
  | .hbm, ⟨5, _⟩ => ⟨S1024x2048, .bf16⟩
  | .hbm, ⟨6, _⟩ => ⟨S1024x128, .bf16⟩
  | .hbm, ⟨7, _⟩ => ⟨S1024x512, .bf16⟩
  | .hbm, ⟨8, _⟩ => ⟨S_, .f32⟩
  | .hbm, ⟨9, _⟩ => ⟨S8192x1024, .f32⟩
  | .hbm, ⟨10, _⟩ => ⟨S1024x1536, .f32⟩
  | .hbm, ⟨11, _⟩ => ⟨S8192x1536, .f32⟩
  | .hbm, ⟨12, _⟩ => ⟨S1024x2048, .f32⟩
  | .hbm, ⟨13, _⟩ => ⟨S8192x2048, .f32⟩
  | .hbm, ⟨14, _⟩ => ⟨S1024x128, .f32⟩
  | .hbm, ⟨15, _⟩ => ⟨S8192x128, .f32⟩
  | .hbm, ⟨16, _⟩ => ⟨S1024x512, .f32⟩
  | .hbm, ⟨17, _⟩ => ⟨S8192x512, .f32⟩
  | .hbm, ⟨18, _⟩ => ⟨S8192x2048, .f32⟩
  | .hbm, ⟨19, _⟩ => ⟨S8192x512, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== InActD.lean ====
abbrev S8192x768 : Shape := ⟨2, ![8192, 768]⟩
abbrev S8192x512 : Shape := ⟨2, ![8192, 512]⟩
abbrev S1024x768 : Shape := ⟨2, ![1024, 768]⟩
abbrev S1024x512 : Shape := ⟨2, ![1024, 512]⟩
abbrev S8192x1024 : Shape := ⟨2, ![8192, 1024]⟩
abbrev S512x768 : Shape := ⟨2, ![512, 768]⟩
abbrev S512x512 : Shape := ⟨2, ![512, 512]⟩
abbrev S512x1024 : Shape := ⟨2, ![512, 1024]⟩

abbrev nBuf : Space → Nat
  | .hbm => 11
  | .vmem => 17
  | .smem => 0
  | _ => 0

abbrev bufTy : (tb : Table) → Fin (tcTables nBuf tb) → BufTy
  | .hbm, ⟨0, _⟩ => ⟨S8192x768, .bf16⟩
  | .hbm, ⟨1, _⟩ => ⟨S8192x768, .bf16⟩
  | .hbm, ⟨2, _⟩ => ⟨S8192x768, .f32⟩
  | .hbm, ⟨3, _⟩ => ⟨S8192x768, .f32⟩
  | .hbm, ⟨4, _⟩ => ⟨S8192x512, .bf16⟩
  | .hbm, ⟨5, _⟩ => ⟨S1024x768, .bf16⟩
  | .hbm, ⟨6, _⟩ => ⟨S1024x768, .bf16⟩
  | .hbm, ⟨7, _⟩ => ⟨S1024x768, .bf16⟩
  | .hbm, ⟨8, _⟩ => ⟨S1024x768, .bf16⟩
  | .hbm, ⟨9, _⟩ => ⟨S1024x512, .bf16⟩
  | .hbm, ⟨10, _⟩ => ⟨S8192x1024, .f32⟩
  | .local _ .vmem, ⟨0, _⟩ => ⟨S512x768, .bf16⟩
  | .local _ .vmem, ⟨1, _⟩ => ⟨S512x768, .bf16⟩
  | .local _ .vmem, ⟨2, _⟩ => ⟨S512x768, .bf16⟩
  | .local _ .vmem, ⟨3, _⟩ => ⟨S512x768, .bf16⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x512, .bf16⟩
  | .local _ .vmem, ⟨9, _⟩ => ⟨S512x512, .bf16⟩
  | .local _ .vmem, ⟨10, _⟩ => ⟨S1024x768, .bf16⟩
  | .local _ .vmem, ⟨11, _⟩ => ⟨S1024x768, .bf16⟩
  | .local _ .vmem, ⟨12, _⟩ => ⟨S1024x768, .bf16⟩
  | .local _ .vmem, ⟨13, _⟩ => ⟨S1024x768, .bf16⟩
  | .local _ .vmem, ⟨14, _⟩ => ⟨S1024x512, .bf16⟩
  | .local _ .vmem, ⟨15, _⟩ => ⟨S512x1024, .f32⟩
  | .local _ .vmem, ⟨16, _⟩ => ⟨S512x1024, .f32⟩
  | _, _ => ⟨S8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x768 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== InActDReferenceIdeal.lean ====
abbrev S8192x768 : Shape := ⟨2, ![8192, 768]⟩
abbrev S8192x512 : Shape := ⟨2, ![8192, 512]⟩
abbrev S1024x768 : Shape := ⟨2, ![1024, 768]⟩
abbrev S1024x512 : Shape := ⟨2, ![1024, 512]⟩
abbrev S_ : Shape := ⟨0, ![]⟩
abbrev S8192x1024 : Shape := ⟨2, ![8192, 1024]⟩

abbrev nBuf : Space → Nat
  | .hbm => 34
  | .vmem => 0
  | .smem => 0
  | _ => 0

abbrev bufTy : (tb : Table) → Fin (tcTables nBuf tb) → BufTy
  | .hbm, ⟨0, _⟩ => ⟨S8192x768, .bf16⟩
  | .hbm, ⟨1, _⟩ => ⟨S8192x768, .bf16⟩
  | .hbm, ⟨2, _⟩ => ⟨S8192x768, .f32⟩
  | .hbm, ⟨3, _⟩ => ⟨S8192x768, .f32⟩
  | .hbm, ⟨4, _⟩ => ⟨S8192x512, .bf16⟩
  | .hbm, ⟨5, _⟩ => ⟨S1024x768, .bf16⟩
  | .hbm, ⟨6, _⟩ => ⟨S1024x768, .bf16⟩
  | .hbm, ⟨7, _⟩ => ⟨S1024x768, .bf16⟩
  | .hbm, ⟨8, _⟩ => ⟨S1024x768, .bf16⟩
  | .hbm, ⟨9, _⟩ => ⟨S1024x512, .bf16⟩
  | .hbm, ⟨10, _⟩ => ⟨S_, .f32⟩
  | .hbm, ⟨11, _⟩ => ⟨S8192x1024, .f32⟩
  | .hbm, ⟨12, _⟩ => ⟨S1024x768, .f32⟩
  | .hbm, ⟨13, _⟩ => ⟨S8192x768, .f32⟩
  | .hbm, ⟨14, _⟩ => ⟨S1024x768, .f32⟩
  | .hbm, ⟨15, _⟩ => ⟨S8192x768, .f32⟩
  | .hbm, ⟨16, _⟩ => ⟨S1024x768, .f32⟩
  | .hbm, ⟨17, _⟩ => ⟨S8192x768, .f32⟩
  | .hbm, ⟨18, _⟩ => ⟨S1024x768, .f32⟩
  | .hbm, ⟨19, _⟩ => ⟨S8192x768, .f32⟩
  | .hbm, ⟨20, _⟩ => ⟨S1024x512, .f32⟩
  | .hbm, ⟨21, _⟩ => ⟨S8192x512, .f32⟩
  | .hbm, ⟨22, _⟩ => ⟨S8192x768, .f32⟩
  | .hbm, ⟨23, _⟩ => ⟨S8192x768, .f32⟩
  | .hbm, ⟨24, _⟩ => ⟨S8192x512, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | _, _ => ⟨S8192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]
-- ==== InWeightQ.lean ====
abbrev S8192x1024 : Shape := ⟨2, ![8192, 1024]⟩
abbrev S8192x1536 : Shape := ⟨2, ![8192, 1536]⟩
abbrev S1024x1536 : Shape := ⟨2, ![1024, 1536]⟩
abbrev S2048x1024 : Shape := ⟨2, ![2048, 1024]⟩
abbrev S2048x768 : Shape := ⟨2, ![2048, 768]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S1024x1536, .f32⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWeightQReferenceIdeal.lean ====
abbrev S8192x1024 : Shape := ⟨2, ![8192, 1024]⟩
abbrev S8192x1536 : Shape := ⟨2, ![8192, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S_, .f32⟩
  | .hbm, ⟨3, _⟩ => ⟨S1024x1536, .f32⟩
  | .hbm, ⟨4, _⟩ => ⟨S8192x1024, .f32⟩
  | .hbm, ⟨5, _⟩ => ⟨S8192x1536, .f32⟩
  | .hbm, ⟨6, _⟩ => ⟨S8192x1536, .f32⟩
  | .hbm, ⟨7, _⟩ => ⟨S1536x1024, .f32⟩
  | .hbm, ⟨8, _⟩ => ⟨S1024x1536, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InWeightV.lean ====
abbrev S8192x1024 : Shape := ⟨2, ![8192, 1024]⟩
abbrev S8192x1536 : Shape := ⟨2, ![8192, 1536]⟩
abbrev S1024x1536 : Shape := ⟨2, ![1024, 1536]⟩
abbrev S2048x1024 : Shape := ⟨2, ![2048, 1024]⟩
abbrev S2048x768 : Shape := ⟨2, ![2048, 768]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .f32⟩
  | .hbm, ⟨2, _⟩ => ⟨S1024x1536, .f32⟩
  | .local _ .vmem, ⟨0, _⟩ => ⟨S2048x1024, .bf16⟩
  | .local _ .vmem, ⟨1, _⟩ => ⟨S2048x1024, .bf16⟩
  | .local _ .vmem, ⟨2, _⟩ => ⟨S2048x768, .f32⟩
  | .local _ .vmem, ⟨3, _⟩ => ⟨S2048x768, .f32⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWeightVReferenceIdeal.lean ====
abbrev S8192x1024 : Shape := ⟨2, ![8192, 1024]⟩
abbrev S8192x1536 : Shape := ⟨2, ![8192, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .f32⟩
  | .hbm, ⟨2, _⟩ => ⟨S_, .f32⟩
  | .hbm, ⟨3, _⟩ => ⟨S1024x1536, .f32⟩
  | .hbm, ⟨4, _⟩ => ⟨S8192x1024, .f32⟩
  | .hbm, ⟨5, _⟩ => ⟨S8192x1536, .f32⟩
  | .hbm, ⟨6, _⟩ => ⟨S1536x1024, .f32⟩
  | .hbm, ⟨7, _⟩ => ⟨S1024x1536, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InWeightF.lean ====
abbrev S8192x1024 : Shape := ⟨2, ![8192, 1024]⟩
abbrev S8192x768 : Shape := ⟨2, ![8192, 768]⟩
abbrev S1024x768 : Shape := ⟨2, ![1024, 768]⟩
abbrev S2048x1024 : Shape := ⟨2, ![2048, 1024]⟩
abbrev S2048x768 : Shape := ⟨2, ![2048, 768]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x768, .bf16⟩
  | .hbm, ⟨2, _⟩ => ⟨S1024x768, .f32⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .f32⟩
  | .local _ .vmem, ⟨5, _⟩ => ⟨S1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InWeightFReferenceIdeal.lean ====
abbrev S8192x1024 : Shape := ⟨2, ![8192, 1024]⟩
abbrev S8192x768 : Shape := ⟨2, ![8192, 768]⟩
abbrev S_ : Shape := ⟨0, ![]⟩
abbrev S1024x768 : Shape := ⟨2, ![1024, 768]⟩
abbrev S768x1024 : Shape := ⟨2, ![768, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x768, .bf16⟩
  | .hbm, ⟨2, _⟩ => ⟨S_, .f32⟩
  | .hbm, ⟨3, _⟩ => ⟨S1024x768, .f32⟩
  | .hbm, ⟨4, _⟩ => ⟨S8192x1024, .f32⟩
  | .hbm, ⟨5, _⟩ => ⟨S8192x768, .f32⟩
  | .hbm, ⟨6, _⟩ => ⟨S8192x768, .f32⟩
  | .hbm, ⟨7, _⟩ => ⟨S768x1024, .f32⟩
  | .hbm, ⟨8, _⟩ => ⟨S1024x768, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InWeightI.lean ====
abbrev S8192x1024 : Shape := ⟨2, ![8192, 1024]⟩
abbrev S8192x768 : Shape := ⟨2, ![8192, 768]⟩
abbrev S1024x768 : Shape := ⟨2, ![1024, 768]⟩
abbrev S2048x1024 : Shape := ⟨2, ![2048, 1024]⟩
abbrev S2048x768 : Shape := ⟨2, ![2048, 768]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x768, .f32⟩
  | .hbm, ⟨2, _⟩ => ⟨S1024x768, .f32⟩
  | .local _ .vmem, ⟨0, _⟩ => ⟨S2048x1024, .bf16⟩
  | .local _ .vmem, ⟨1, _⟩ => ⟨S2048x1024, .bf16⟩
  | .local _ .vmem, ⟨2, _⟩ => ⟨S2048x768, .f32⟩
  | .local _ .vmem, ⟨3, _⟩ => ⟨S2048x768, .f32⟩
  | .local _ .vmem, ⟨4, _⟩ => ⟨S1024x768, .f32⟩
  | .local _ .vmem, ⟨5, _⟩ => ⟨S1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InWeightIReferenceIdeal.lean ====
abbrev S8192x1024 : Shape := ⟨2, ![8192, 1024]⟩
abbrev S8192x768 : Shape := ⟨2, ![8192, 768]⟩
abbrev S_ : Shape := ⟨0, ![]⟩
abbrev S1024x768 : Shape := ⟨2, ![1024, 768]⟩
abbrev S768x1024 : Shape := ⟨2, ![768, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x768, .f32⟩
  | .hbm, ⟨2, _⟩ => ⟨S_, .f32⟩
  | .hbm, ⟨3, _⟩ => ⟨S1024x768, .f32⟩
  | .hbm, ⟨4, _⟩ => ⟨S8192x1024, .f32⟩
  | .hbm, ⟨5, _⟩ => ⟨S8192x768, .f32⟩
  | .hbm, ⟨6, _⟩ => ⟨S768x1024, .f32⟩
  | .hbm, ⟨7, _⟩ => ⟨S1024x768, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InWeightX.lean ====
abbrev S8192x1024 : Shape := ⟨2, ![8192, 1024]⟩
abbrev S8192x512 : Shape := ⟨2, ![8192, 512]⟩
abbrev S1024x512 : Shape := ⟨2, ![1024, 512]⟩
abbrev S2048x1024 : Shape := ⟨2, ![2048, 1024]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S1024x512, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InWeightXReferenceIdeal.lean ====
abbrev S8192x1024 : Shape := ⟨2, ![8192, 1024]⟩
abbrev S8192x512 : Shape := ⟨2, ![8192, 512]⟩
abbrev S_ : Shape := ⟨0, ![]⟩
abbrev S1024x512 : Shape := ⟨2, ![1024, 512]⟩
abbrev S512x1024 : Shape := ⟨2, ![512, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S_, .f32⟩
  | .hbm, ⟨3, _⟩ => ⟨S1024x512, .f32⟩
  | .hbm, ⟨4, _⟩ => ⟨S8192x1024, .f32⟩
  | .hbm, ⟨5, _⟩ => ⟨S8192x512, .f32⟩
  | .hbm, ⟨6, _⟩ => ⟨S8192x512, .f32⟩
  | .hbm, ⟨7, _⟩ => ⟨S512x1024, .f32⟩
  | .hbm, ⟨8, _⟩ => ⟨S1024x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InWeightK.lean ====
abbrev S8192x1024 : Shape := ⟨2, ![8192, 1024]⟩
abbrev S8192x512 : Shape := ⟨2, ![8192, 512]⟩
abbrev S1024x512 : Shape := ⟨2, ![1024, 512]⟩
abbrev S2048x1024 : Shape := ⟨2, ![2048, 1024]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x512, .f32⟩
  | .hbm, ⟨2, _⟩ => ⟨S1024x512, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InWeightKReferenceIdeal.lean ====
abbrev S8192x1024 : Shape := ⟨2, ![8192, 1024]⟩
abbrev S8192x512 : Shape := ⟨2, ![8192, 512]⟩
abbrev S_ : Shape := ⟨0, ![]⟩
abbrev S1024x512 : Shape := ⟨2, ![1024, 512]⟩
abbrev S512x1024 : Shape := ⟨2, ![512, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .f32⟩
  | .hbm, ⟨2, _⟩ => ⟨S_, .f32⟩
  | .hbm, ⟨3, _⟩ => ⟨S1024x512, .f32⟩
  | .hbm, ⟨4, _⟩ => ⟨S8192x1024, .f32⟩
  | .hbm, ⟨5, _⟩ => ⟨S8192x512, .f32⟩
  | .hbm, ⟨6, _⟩ => ⟨S512x1024, .f32⟩
  | .hbm, ⟨7, _⟩ => ⟨S1024x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InWeightO.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InWeightOReferenceIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InWeightC.lean ====
abbrev S8192x1024 : Shape := ⟨2, ![8192, 1024]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWeightCReferenceIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutA.lean ====
abbrev S8192x1024 : Shape := ⟨2, ![8192, 1024]⟩
abbrev S8192x512 : Shape := ⟨2, ![8192, 512]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S1024x1024, .bf16⟩
  | .hbm, ⟨3, _⟩ => ⟨S512x1024, .bf16⟩
  | .hbm, ⟨4, _⟩ => ⟨S8192x1024, .f32⟩
  | .hbm, ⟨5, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S1024x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutAReferenceIdeal.lean ====
abbrev S8192x1024 : Shape := ⟨2, ![8192, 1024]⟩
abbrev S8192x512 : Shape := ⟨2, ![8192, 512]⟩
abbrev S1024x1024 : Shape := ⟨2, ![1024, 1024]⟩
abbrev S512x1024 : Shape := ⟨2, ![512, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S1024x1024, .bf16⟩
  | .hbm, ⟨3, _⟩ => ⟨S512x1024, .bf16⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S8192x1024, .f32⟩
  | .hbm, ⟨8, _⟩ => ⟨S8192x1024, .f32⟩
  | .hbm, ⟨9, _⟩ => ⟨S8192x512, .f32⟩
  | .hbm, ⟨10, _⟩ => ⟨S512x1024, .f32⟩
  | .hbm, ⟨11, _⟩ => ⟨S8192x1024, .f32⟩
  | .hbm, ⟨12, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== OutB.lean ====
abbrev S8192x512 : Shape := ⟨2, ![8192, 512]⟩
abbrev S512x1024 : Shape := ⟨2, ![512, 1024]⟩
abbrev S8192x1024 : Shape := ⟨2, ![8192, 1024]⟩
abbrev S512x512 : Shape := ⟨2, ![512, 512]⟩

abbrev nBuf : Space → Nat
  | .hbm => 6
  | .vmem => 10
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S512x1024, .bf16⟩
  | .hbm, ⟨3, _⟩ => ⟨S512x1024, .bf16⟩
  | .hbm, ⟨4, _⟩ => ⟨S8192x1024, .f32⟩
  | .hbm, ⟨5, _⟩ => ⟨S8192x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutBReferenceIdeal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S512x1024, .bf16⟩
  | .hbm, ⟨3, _⟩ => ⟨S512x1024, .bf16⟩
  | .hbm, ⟨4, _⟩ => ⟨S8192x1024, .f32⟩
  | .hbm, ⟨5, _⟩ => ⟨S8192x512, .f32⟩
  | .hbm, ⟨6, _⟩ => ⟨S512x1024, .f32⟩
  | .hbm, ⟨7, _⟩ => ⟨S8192x1024, .f32⟩
  | .hbm, ⟨8, _⟩ => ⟨S8192x1024, .f32⟩
  | .hbm, ⟨9, _⟩ => ⟨S8192x512, .f32⟩
  | .hbm, ⟨10, _⟩ => ⟨S512x1024, .f32⟩
  | .hbm, ⟨11, _⟩ => ⟨S8192x1024, .f32⟩
  | .hbm, ⟨12, _⟩ => ⟨S8192x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== OutC.lean ====
abbrev S8192x1536 : Shape := ⟨2, ![8192, 1536]⟩
abbrev S8192x512 : Shape := ⟨2, ![8192, 512]⟩
abbrev S1536x1024 : Shape := ⟨2, ![1536, 1024]⟩
abbrev S512x1024 : Shape := ⟨2, ![512, 1024]⟩
abbrev S8192x1024 : Shape := ⟨2, ![8192, 1024]⟩
abbrev S512x1536 : Shape := ⟨2, ![512, 1536]⟩
abbrev S512x512 : Shape := ⟨2, ![512, 512]⟩

abbrev nBuf : Space → Nat
  | .hbm => 6
  | .vmem => 10
  | .smem => 0
  | _ => 0

abbrev bufTy : (tb : Table) → Fin (tcTables nBuf tb) → BufTy
  | .hbm, ⟨0, _⟩ => ⟨S8192x1536, .bf16⟩
  | .hbm, ⟨1, _⟩ => ⟨S8192x512, .bf16⟩
  | .hbm, ⟨2, _⟩ => ⟨S1536x1024, .bf16⟩
  | .hbm, ⟨3, _⟩ => ⟨S512x1024, .bf16⟩
  | .hbm, ⟨4, _⟩ => ⟨S8192x1024, .f32⟩
  | .hbm, ⟨5, _⟩ => ⟨S8192x1024, .f32⟩
  | .local _ .vmem, ⟨0, _⟩ => ⟨S512x1536, .bf16⟩
  | .local _ .vmem, ⟨1, _⟩ => ⟨S512x1536, .bf16⟩
  | .local _ .vmem, ⟨2, _⟩ => ⟨S512x512, .bf16⟩
  | .local _ .vmem, ⟨3, _⟩ => ⟨S512x512, .bf16⟩
  | .local _ .vmem, ⟨4, _⟩ => ⟨S1536x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutCReferenceIdeal.lean ====
abbrev S8192x1536 : Shape := ⟨2, ![8192, 1536]⟩
abbrev S8192x512 : Shape := ⟨2, ![8192, 512]⟩
abbrev S1536x1024 : Shape := ⟨2, ![1536, 1024]⟩
abbrev S512x1024 : Shape := ⟨2, ![512, 1024]⟩
abbrev S8192x1024 : Shape := ⟨2, ![8192, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S8192x512, .bf16⟩
  | .hbm, ⟨2, _⟩ => ⟨S1536x1024, .bf16⟩
  | .hbm, ⟨3, _⟩ => ⟨S512x1024, .bf16⟩
  | .hbm, ⟨4, _⟩ => ⟨S8192x1024, .f32⟩
  | .hbm, ⟨5, _⟩ => ⟨S8192x1536, .f32⟩
  | .hbm, ⟨6, _⟩ => ⟨S1536x1024, .f32⟩
  | .hbm, ⟨7, _⟩ => ⟨S8192x1024, .f32⟩
  | .hbm, ⟨8, _⟩ => ⟨S8192x1024, .f32⟩
  | .hbm, ⟨9, _⟩ => ⟨S8192x512, .f32⟩
  | .hbm, ⟨10, _⟩ => ⟨S512x1024, .f32⟩
  | .hbm, ⟨11, _⟩ => ⟨S8192x1024, .f32⟩
  | .hbm, ⟨12, _⟩ => ⟨S8192x1024, .f32⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== OutD.lean ====
abbrev S8192x768 : Shape := ⟨2, ![8192, 768]⟩
abbrev S8192x512 : Shape := ⟨2, ![8192, 512]⟩
abbrev S768x1024 : Shape := ⟨2, ![768, 1024]⟩
abbrev S512x1024 : Shape := ⟨2, ![512, 1024]⟩
abbrev S8192x1024 : Shape := ⟨2, ![8192, 1024]⟩
abbrev S512x768 : Shape := ⟨2, ![512, 768]⟩
abbrev S512x512 : Shape := ⟨2, ![512, 512]⟩

abbrev nBuf : Space → Nat
  | .hbm => 6
  | .vmem => 10
  | .smem => 0
  | _ => 0

abbrev bufTy : (tb : Table) → Fin (tcTables nBuf tb) → BufTy
  | .hbm, ⟨0, _⟩ => ⟨S8192x768, .bf16⟩
  | .hbm, ⟨1, _⟩ => ⟨S8192x512, .bf16⟩
  | .hbm, ⟨2, _⟩ => ⟨S768x1024, .bf16⟩
  | .hbm, ⟨3, _⟩ => ⟨S512x1024, .bf16⟩
  | .hbm, ⟨4, _⟩ => ⟨S8192x1024, .f32⟩
  | .hbm, ⟨5, _⟩ => ⟨S8192x1024, .f32⟩
  | .local _ .vmem, ⟨0, _⟩ => ⟨S512x768, .bf16⟩
  | .local _ .vmem, ⟨1, _⟩ => ⟨S512x768, .bf16⟩
  | .local _ .vmem, ⟨2, _⟩ => ⟨S512x512, .bf16⟩
  | .local _ .vmem, ⟨3, _⟩ => ⟨S512x512, .bf16⟩
  | .local _ .vmem, ⟨4, _⟩ => ⟨S768x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutDReferenceIdeal.lean ====
abbrev S8192x768 : Shape := ⟨2, ![8192, 768]⟩
abbrev S8192x512 : Shape := ⟨2, ![8192, 512]⟩
abbrev S768x1024 : Shape := ⟨2, ![768, 1024]⟩
abbrev S512x1024 : Shape := ⟨2, ![512, 1024]⟩
abbrev S8192x1024 : Shape := ⟨2, ![8192, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x768, .bf16⟩
  | .hbm, ⟨1, _⟩ => ⟨S8192x512, .bf16⟩
  | .hbm, ⟨2, _⟩ => ⟨S768x1024, .bf16⟩
  | .hbm, ⟨3, _⟩ => ⟨S512x1024, .bf16⟩
  | .hbm, ⟨4, _⟩ => ⟨S8192x1024, .f32⟩
  | .hbm, ⟨5, _⟩ => ⟨S8192x768, .f32⟩
  | .hbm, ⟨6, _⟩ => ⟨S768x1024, .f32⟩
  | .hbm, ⟨7, _⟩ => ⟨S8192x1024, .f32⟩
  | .hbm, ⟨8, _⟩ => ⟨S8192x1024, .f32⟩
  | .hbm, ⟨9, _⟩ => ⟨S8192x512, .f32⟩
  | .hbm, ⟨10, _⟩ => ⟨S512x1024, .f32⟩
  | .hbm, ⟨11, _⟩ => ⟨S8192x1024, .f32⟩
  | .hbm, ⟨12, _⟩ => ⟨S8192x1024, .f32⟩
  | _, _ => ⟨S8192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== OutActA.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutActAReferenceIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutActB.lean ====
abbrev S8192x1024 : Shape := ⟨2, ![8192, 1024]⟩
abbrev S512x1024 : Shape := ⟨2, ![512, 1024]⟩
abbrev S8192x512 : Shape := ⟨2, ![8192, 512]⟩
abbrev S1024x1024 : Shape := ⟨2, ![1024, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S8192x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutActBReferenceIdeal.lean ====
abbrev S8192x1024 : Shape := ⟨2, ![8192, 1024]⟩
abbrev S512x1024 : Shape := ⟨2, ![512, 1024]⟩
abbrev S_ : Shape := ⟨0, ![]⟩
abbrev S8192x512 : Shape := ⟨2, ![8192, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S_, .f32⟩
  | .hbm, ⟨3, _⟩ => ⟨S8192x512, .f32⟩
  | .hbm, ⟨4, _⟩ => ⟨S512x1024, .f32⟩
  | .hbm, ⟨5, _⟩ => ⟨S8192x1024, .f32⟩
  | .hbm, ⟨6, _⟩ => ⟨S8192x1024, .f32⟩
  | .hbm, ⟨7, _⟩ => ⟨S8192x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutActC.lean ====
abbrev S8192x1024 : Shape := ⟨2, ![8192, 1024]⟩
abbrev S1536x1024 : Shape := ⟨2, ![1536, 1024]⟩
abbrev S8192x1536 : Shape := ⟨2, ![8192, 1536]⟩
abbrev S1024x1024 : Shape := ⟨2, ![1024, 1024]⟩
abbrev S768x1024 : Shape := ⟨2, ![768, 1024]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1536x1024, .bf16⟩
  | .hbm, ⟨2, _⟩ => ⟨S8192x1536, .f32⟩
  | .local _ .vmem, ⟨0, _⟩ => ⟨S1024x1024, .bf16⟩
  | .local _ .vmem, ⟨1, _⟩ => ⟨S1024x1024, .bf16⟩
  | .local _ .vmem, ⟨2, _⟩ => ⟨S768x1024, .bf16⟩
  | .local _ .vmem, ⟨3, _⟩ => ⟨S768x1024, .bf16⟩
  | .local _ .vmem, ⟨4, _⟩ => ⟨S1024x768, .f32⟩
  | .local _ .vmem, ⟨5, _⟩ => ⟨S1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutActCReferenceIdeal.lean ====
abbrev S8192x1024 : Shape := ⟨2, ![8192, 1024]⟩
abbrev S1536x1024 : Shape := ⟨2, ![1536, 1024]⟩
abbrev S_ : Shape := ⟨0, ![]⟩
abbrev S8192x1536 : Shape := ⟨2, ![8192, 1536]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1536x1024, .bf16⟩
  | .hbm, ⟨2, _⟩ => ⟨S_, .f32⟩
  | .hbm, ⟨3, _⟩ => ⟨S8192x1536, .f32⟩
  | .hbm, ⟨4, _⟩ => ⟨S1536x1024, .f32⟩
  | .hbm, ⟨5, _⟩ => ⟨S8192x1024, .f32⟩
  | .hbm, ⟨6, _⟩ => ⟨S8192x1024, .f32⟩
  | .hbm, ⟨7, _⟩ => ⟨S8192x1536, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutActD.lean ====
abbrev S8192x1024 : Shape := ⟨2, ![8192, 1024]⟩
abbrev S768x1024 : Shape := ⟨2, ![768, 1024]⟩
abbrev S8192x768 : Shape := ⟨2, ![8192, 768]⟩
abbrev S1024x1024 : Shape := ⟨2, ![1024, 1024]⟩
abbrev S1024x768 : Shape := ⟨2, ![1024, 768]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S768x1024, .bf16⟩
  | .hbm, ⟨2, _⟩ => ⟨S8192x768, .f32⟩
  | .local _ .vmem, ⟨0, _⟩ => ⟨S1024x1024, .bf16⟩
  | .local _ .vmem, ⟨1, _⟩ => ⟨S1024x1024, .bf16⟩
  | .local _ .vmem, ⟨2, _⟩ => ⟨S768x1024, .bf16⟩
  | .local _ .vmem, ⟨3, _⟩ => ⟨S1024x768, .f32⟩
  | .local _ .vmem, ⟨4, _⟩ => ⟨S1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S768x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutActDReferenceIdeal.lean ====
abbrev S8192x1024 : Shape := ⟨2, ![8192, 1024]⟩
abbrev S768x1024 : Shape := ⟨2, ![768, 1024]⟩
abbrev S_ : Shape := ⟨0, ![]⟩
abbrev S8192x768 : Shape := ⟨2, ![8192, 768]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S768x1024, .bf16⟩
  | .hbm, ⟨2, _⟩ => ⟨S_, .f32⟩
  | .hbm, ⟨3, _⟩ => ⟨S8192x768, .f32⟩
  | .hbm, ⟨4, _⟩ => ⟨S768x1024, .f32⟩
  | .hbm, ⟨5, _⟩ => ⟨S8192x1024, .f32⟩
  | .hbm, ⟨6, _⟩ => ⟨S8192x1024, .f32⟩
  | .hbm, ⟨7, _⟩ => ⟨S8192x768, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutWeightA.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutWeightAReferenceIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutWeightB.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutWeightBReferenceIdeal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S_, .f32⟩
  | .hbm, ⟨3, _⟩ => ⟨S512x1024, .f32⟩
  | .hbm, ⟨4, _⟩ => ⟨S8192x512, .f32⟩
  | .hbm, ⟨5, _⟩ => ⟨S8192x1024, .f32⟩
  | .hbm, ⟨6, _⟩ => ⟨S8192x1024, .f32⟩
  | .hbm, ⟨7, _⟩ => ⟨S1024x512, .f32⟩
  | .hbm, ⟨8, _⟩ => ⟨S512x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutWeightC.lean ====
abbrev S8192x1536 : Shape := ⟨2, ![8192, 1536]⟩
abbrev S8192x1024 : Shape := ⟨2, ![8192, 1024]⟩
abbrev S1536x1024 : Shape := ⟨2, ![1536, 1024]⟩
abbrev S2048x768 : Shape := ⟨2, ![2048, 768]⟩
abbrev S2048x1024 : Shape := ⟨2, ![2048, 1024]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1536, .bf16⟩
  | .hbm, ⟨1, _⟩ => ⟨S8192x1024, .bf16⟩
  | .hbm, ⟨2, _⟩ => ⟨S1536x1024, .f32⟩
  | .local _ .vmem, ⟨0, _⟩ => ⟨S2048x768, .bf16⟩
  | .local _ .vmem, ⟨1, _⟩ => ⟨S2048x768, .bf16⟩
  | .local _ .vmem, ⟨2, _⟩ => ⟨S2048x1024, .bf16⟩
  | .local _ .vmem, ⟨3, _⟩ => ⟨S2048x1024, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutWeightCReferenceIdeal.lean ====
abbrev S8192x1536 : Shape := ⟨2, ![8192, 1536]⟩
abbrev S8192x1024 : Shape := ⟨2, ![8192, 1024]⟩
abbrev S_ : Shape := ⟨0, ![]⟩
abbrev S1536x1024 : Shape := ⟨2, ![1536, 1024]⟩
abbrev S1024x1536 : Shape := ⟨2, ![1024, 1536]⟩

abbrev nBuf : Space → Nat
  | .hbm => 9
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S8192x1024, .bf16⟩
  | .hbm, ⟨2, _⟩ => ⟨S_, .f32⟩
  | .hbm, ⟨3, _⟩ => ⟨S1536x1024, .f32⟩
  | .hbm, ⟨4, _⟩ => ⟨S8192x1536, .f32⟩
  | .hbm, ⟨5, _⟩ => ⟨S8192x1024, .f32⟩
  | .hbm, ⟨6, _⟩ => ⟨S8192x1024, .f32⟩
  | .hbm, ⟨7, _⟩ => ⟨S1024x1536, .f32⟩
  | .hbm, ⟨8, _⟩ => ⟨S1536x1024, .f32⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutWeightD.lean ====
abbrev S8192x768 : Shape := ⟨2, ![8192, 768]⟩
abbrev S8192x1024 : Shape := ⟨2, ![8192, 1024]⟩
abbrev S768x1024 : Shape := ⟨2, ![768, 1024]⟩
abbrev S2048x768 : Shape := ⟨2, ![2048, 768]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x768, .bf16⟩
  | .hbm, ⟨1, _⟩ => ⟨S8192x1024, .bf16⟩
  | .hbm, ⟨2, _⟩ => ⟨S768x1024, .f32⟩
  | .local _ .vmem, ⟨0, _⟩ => ⟨S2048x768, .bf16⟩
  | .local _ .vmem, ⟨1, _⟩ => ⟨S2048x768, .bf16⟩
  | .local _ .vmem, ⟨2, _⟩ => ⟨S2048x1024, .bf16⟩
  | .local _ .vmem, ⟨3, _⟩ => ⟨S2048x1024, .bf16⟩
  | .local _ .vmem, ⟨4, _⟩ => ⟨S768x1024, .f32⟩
  | .local _ .vmem, ⟨5, _⟩ => ⟨S768x1024, .f32⟩
  | _, _ => ⟨S8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S768x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutWeightDReferenceIdeal.lean ====
abbrev S8192x768 : Shape := ⟨2, ![8192, 768]⟩
abbrev S8192x1024 : Shape := ⟨2, ![8192, 1024]⟩
abbrev S_ : Shape := ⟨0, ![]⟩
abbrev S768x1024 : Shape := ⟨2, ![768, 1024]⟩
abbrev S1024x768 : Shape := ⟨2, ![1024, 768]⟩

abbrev nBuf : Space → Nat
  | .hbm => 9
  | .vmem => 0
  | .smem => 0
  | _ => 0

abbrev bufTy : (tb : Table) → Fin (tcTables nBuf tb) → BufTy
  | .hbm, ⟨0, _⟩ => ⟨S8192x768, .bf16⟩
  | .hbm, ⟨1, _⟩ => ⟨S8192x1024, .bf16⟩
  | .hbm, ⟨2, _⟩ => ⟨S_, .f32⟩
  | .hbm, ⟨3, _⟩ => ⟨S768x1024, .f32⟩
  | .hbm, ⟨4, _⟩ => ⟨S8192x768, .f32⟩
  | .hbm, ⟨5, _⟩ => ⟨S8192x1024, .f32⟩
  | .hbm, ⟨6, _⟩ => ⟨S8192x1024, .f32⟩
  | .hbm, ⟨7, _⟩ => ⟨S1024x768, .f32⟩
  | .hbm, ⟨8, _⟩ => ⟨S768x1024, .f32⟩
  | _, _ => ⟨S8192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== NormGrad.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== NormGradReferenceIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 49
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== InWeightG.lean ====
abbrev S8192x1024 : Shape := ⟨2, ![8192, 1024]⟩
abbrev S8192x128 : Shape := ⟨2, ![8192, 128]⟩
abbrev S1024x128 : Shape := ⟨2, ![1024, 128]⟩
abbrev S2048x1024 : Shape := ⟨2, ![2048, 1024]⟩
abbrev S2048x128 : Shape := ⟨2, ![2048, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x128, .bf16⟩
  | .hbm, ⟨2, _⟩ => ⟨S1024x128, .f32⟩
  | .local _ .vmem, ⟨0, _⟩ => ⟨S2048x1024, .bf16⟩
  | .local _ .vmem, ⟨1, _⟩ => ⟨S2048x1024, .bf16⟩
  | .local _ .vmem, ⟨2, _⟩ => ⟨S2048x128, .bf16⟩
  | .local _ .vmem, ⟨3, _⟩ => ⟨S2048x128, .bf16⟩
  | .local _ .vmem, ⟨4, _⟩ => ⟨S1024x128, .f32⟩
  | .local _ .vmem, ⟨5, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InWeightGReferenceIdeal.lean ====
abbrev S8192x1024 : Shape := ⟨2, ![8192, 1024]⟩
abbrev S8192x128 : Shape := ⟨2, ![8192, 128]⟩
abbrev S_ : Shape := ⟨0, ![]⟩
abbrev S1024x128 : Shape := ⟨2, ![1024, 128]⟩
abbrev S128x1024 : Shape := ⟨2, ![128, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x128, .bf16⟩
  | .hbm, ⟨2, _⟩ => ⟨S_, .f32⟩
  | .hbm, ⟨3, _⟩ => ⟨S1024x128, .f32⟩
  | .hbm, ⟨4, _⟩ => ⟨S8192x1024, .f32⟩
  | .hbm, ⟨5, _⟩ => ⟨S8192x128, .f32⟩
  | .hbm, ⟨6, _⟩ => ⟨S8192x128, .f32⟩
  | .hbm, ⟨7, _⟩ => ⟨S128x1024, .f32⟩
  | .hbm, ⟨8, _⟩ => ⟨S1024x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InWeightT.lean ====
abbrev S8192x1024 : Shape := ⟨2, ![8192, 1024]⟩
abbrev S8192x128 : Shape := ⟨2, ![8192, 128]⟩
abbrev S1024x128 : Shape := ⟨2, ![1024, 128]⟩
abbrev S2048x1024 : Shape := ⟨2, ![2048, 1024]⟩
abbrev S2048x128 : Shape := ⟨2, ![2048, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x128, .f32⟩
  | .hbm, ⟨2, _⟩ => ⟨S1024x128, .f32⟩
  | .local _ .vmem, ⟨0, _⟩ => ⟨S2048x1024, .bf16⟩
  | .local _ .vmem, ⟨1, _⟩ => ⟨S2048x1024, .bf16⟩
  | .local _ .vmem, ⟨2, _⟩ => ⟨S2048x128, .f32⟩
  | .local _ .vmem, ⟨3, _⟩ => ⟨S2048x128, .f32⟩
  | .local _ .vmem, ⟨4, _⟩ => ⟨S1024x128, .f32⟩
  | .local _ .vmem, ⟨5, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InWeightTReferenceIdeal.lean ====
abbrev S8192x1024 : Shape := ⟨2, ![8192, 1024]⟩
abbrev S8192x128 : Shape := ⟨2, ![8192, 128]⟩
abbrev S_ : Shape := ⟨0, ![]⟩
abbrev S1024x128 : Shape := ⟨2, ![1024, 128]⟩
abbrev S128x1024 : Shape := ⟨2, ![128, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x128, .f32⟩
  | .hbm, ⟨2, _⟩ => ⟨S_, .f32⟩
  | .hbm, ⟨3, _⟩ => ⟨S1024x128, .f32⟩
  | .hbm, ⟨4, _⟩ => ⟨S8192x1024, .f32⟩
  | .hbm, ⟨5, _⟩ => ⟨S8192x128, .f32⟩
  | .hbm, ⟨6, _⟩ => ⟨S128x1024, .f32⟩
  | .hbm, ⟨7, _⟩ => ⟨S1024x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Mem.lean ====
abbrev S256x1024 : Shape := ⟨2, ![256, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S1024x1024, .bf16⟩
  | .hbm, ⟨2, _⟩ => ⟨S256x1024, .f32⟩
  | .local _ .vmem, ⟨0, _⟩ => ⟨S256x1024, .bf16⟩
  | .local _ .vmem, ⟨1, _⟩ => ⟨S1024x1024, .bf16⟩
  | .local _ .vmem, ⟨2, _⟩ => ⟨S256x1024, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MemReferenceIdeal.lean ====
abbrev S256x1024 : Shape := ⟨2, ![256, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S1024x1024, .bf16⟩
  | .hbm, ⟨2, _⟩ => ⟨S256x1024, .f32⟩
  | .hbm, ⟨3, _⟩ => ⟨S1024x1024, .f32⟩
  | .hbm, ⟨4, _⟩ => ⟨S256x1024, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MemAct.lean ====
abbrev S256x1024 : Shape := ⟨2, ![256, 1024]⟩
abbrev S1024x1024 : Shape := ⟨2, ![1024, 1024]⟩

abbrev nBuf : Space → Nat
  | .hbm => 4
  | .vmem => 4
  | .smem => 0
  | _ => 0

abbrev bufTy : (tb : Table) → Fin (tcTables nBuf tb) → BufTy
  | .hbm, ⟨0, _⟩ => ⟨S256x1024, .f32⟩
  | .hbm, ⟨1, _⟩ => ⟨S1024x1024, .bf16⟩
  | .hbm, ⟨2, _⟩ => ⟨S256x1024, .f32⟩
  | .hbm, ⟨3, _⟩ => ⟨S256x1024, .f32⟩
  | .local _ .vmem, ⟨0, _⟩ => ⟨S256x1024, .f32⟩
  | .local _ .vmem, ⟨1, _⟩ => ⟨S1024x1024, .bf16⟩
  | .local _ .vmem, ⟨2, _⟩ => ⟨S256x1024, .f32⟩
  | .local _ .vmem, ⟨3, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== MemActReferenceIdeal.lean ====
abbrev S256x1024 : Shape := ⟨2, ![256, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x1024, .bf16⟩
  | .hbm, ⟨2, _⟩ => ⟨S256x1024, .f32⟩
  | .hbm, ⟨3, _⟩ => ⟨S_, .f32⟩
  | .hbm, ⟨4, _⟩ => ⟨S256x1024, .f32⟩
  | .hbm, ⟨5, _⟩ => ⟨S1024x1024, .f32⟩
  | .hbm, ⟨6, _⟩ => ⟨S256x1024, .f32⟩
  | .hbm, ⟨7, _⟩ => ⟨S256x1024, .f32⟩
  | .hbm, ⟨8, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== MemWeight.lean ====
abbrev S256x1024 : Shape := ⟨2, ![256, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S256x1024, .f32⟩
  | .hbm, ⟨2, _⟩ => ⟨S1024x1024, .f32⟩
  | .local _ .vmem, ⟨0, _⟩ => ⟨S256x1024, .bf16⟩
  | .local _ .vmem, ⟨1, _⟩ => ⟨S256x1024, .f32⟩
  | .local _ .vmem, ⟨2, _⟩ => ⟨S1024x1024, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MemWeightReferenceIdeal.lean ====
abbrev S256x1024 : Shape := ⟨2, ![256, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x1024, .f32⟩
  | .hbm, ⟨2, _⟩ => ⟨S_, .f32⟩
  | .hbm, ⟨3, _⟩ => ⟨S1024x1024, .f32⟩
  | .hbm, ⟨4, _⟩ => ⟨S256x1024, .f32⟩
  | .hbm, ⟨5, _⟩ => ⟨S256x1024, .f32⟩
  | .hbm, ⟨6, _⟩ => ⟨S1024x1024, .f32⟩
  | .hbm, ⟨7, _⟩ => ⟨S1024x1024, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.DownAct.lean ====
module

public import proofs.«01_k».proof.Proof.Gen.DownActIdeal.Value
public import proofs.«01_k».proof.Proof.Gen.DownActReferenceIdeal.Run
public import Idealize.ShloMosaic.Lib.Pipeline.ValueKit
public import Idealize.ShloMosaic.Lib.Pointwise

@[expose] public section

set_option maxRecDepth 16384

/-! The gradient that the down projection gives its input: row by row, the output's gradient against the rows of the
weight. The kernel computes 1024 rows at a grid point, the contraction whole. -/

noncomputable section

namespace Cert.DownActIdeal.Value

open Cert.DownActIdeal Cert.DownActIdeal.Gen Idealize.ShloMosaic Idealize.ShloMosaic.TcCoe Idealize.ShloMosaic.Tactic
open Idealize.SL Idealize.SL.Sem
open Idealize.ShloMosaic.Pipeline (Dat)

/-- What a grid point stores, at an index. -/
theorem out_at (x0 : Vec Ideal S1024x1024 .bf16) (x1 : Vec Ideal S2816x1024 .bf16) (i : Fin 1024) (j : Fin 2816) :
    out0_2 x0 x1 (ix2 i j) = ∑ k : Fin 1024, (x0 (ix2 i k) * x1 (ix2 j k) : EReal) := by
  unfold out0_2
  rw [View.canon_unit_zero (by decide)]
  pointwise [k0_pay1]

variable (m : (ℓ : Loc nD τ sig) → Buf (Elt Ideal) ℓ) (c : Dev nD)

/-- The product of the rows of one array with the rows of another. -/
def grad (A : S8192x1024.Idx → EReal) (B : S2816x1024.Idx → EReal) : S8192x2816.Idx → EReal := fun i =>
  ∑ k : Fin 1024, A (ix2 (i 0) k) * B (ix2 (i 1) k)

theorem idx : ∀ t : Fin cfg0.N,
    win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

theorem final : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  blk_simp
  rw [after0_2]
  idx_vars y
  rw [out_at]
  unfold grad
  refine Finset.sum_congr (M := EReal) rfl fun k _ => ?_
  congr 1
  · blk_ext [iblk, V, idx t]
  · blk_ext [iblk, V, idx t]

end Cert.DownActIdeal.Value

namespace Cert.DownActReferenceIdeal.Value

open Cert.DownActReferenceIdeal Cert.DownActReferenceIdeal.Gen Idealize.ShloMosaic Idealize.ShloMosaic.TcCoe Idealize.ShloMosaic.StableHlo

/-- The reference's composed term is the same function. -/
theorem grad_eq (A : Vec Ideal S8192x1024 .bf16) (B : Vec Ideal S2816x1024 .bf16) :
    Host.dotGeneral (F := Ideal) dot_S8192x1024_S2816x1024_S8192x2816_1_1_0_0_n_n none (extf .f32 A bitsLt_bf16_f32)
      (extf .f32 B bitsLt_bf16_f32) = Cert.DownActIdeal.Value.grad A B := by
  funext i
  idx_vars i
  unfold Cert.DownActIdeal.Value.grad
  pointwise []

end Cert.DownActReferenceIdeal.Value

end
-- ==== Proof.DownWeight.lean ====
module

public import proofs.«01_k».proof.Proof.Gen.DownWeightIdeal.Value
public import proofs.«01_k».proof.Proof.Gen.DownWeightReferenceIdeal.Run
public import Idealize.ShloMosaic.Lib.Pipeline.ValueKit
public import Idealize.ShloMosaic.Lib.Pipeline.ReadBack
public import Idealize.ShloMosaic.Lib.Pointwise

@[expose] public section

set_option maxRecDepth 16384

/-! The gradient of the down projection's weight: the activations' columns against the columns of the output's gradient,
summed over the 8192 rows. The kernel adds the four stretches of 2048 rows one grid point after another into an
accumulator which the last of the four writes out. -/

noncomputable section

namespace Cert.DownWeightIdeal.Value

open Cert.DownWeightIdeal Cert.DownWeightIdeal.Gen Idealize.ShloMosaic Idealize.ShloMosaic.TcCoe Idealize.ShloMosaic.Tactic
open Idealize.SL Idealize.SL.Sem
open Idealize.ShloMosaic.Pipeline (Dat)

/-- A grid point's addend, at an index. -/
theorem pay1_at (x0 : Vec Ideal S2048x1408 .bf16) (x1 : Vec Ideal S2048x1024 .bf16) (i : Fin 1408) (j : Fin 1024) :
    k0_pay1 x0 x1 (ix2 i j) = ∑ k : Fin 2048, (x0 (ix2 k i) * x1 (ix2 k j) : EReal) := by
  pointwise [k0_pay1]

theorem pay2_at (x0 : Vec Ideal S2048x1408 .bf16) (x1 : Vec Ideal S2048x1024 .bf16) (i : S1408x1024.Idx) :
    k0_pay2 x0 x1 i = k0_pay1 x0 x1 i := by
  unfold k0_pay2
  simp only [shapeCast_self]

theorem pay3_at (x0 : Vec Ideal S2048x1408 .bf16) (x1 : Vec Ideal S2048x1024 .bf16) (v : Vec Ideal S1408x1024 .f32)
    (i : S1408x1024.Idx) : k0_pay3 x0 x1 v i = (v i + k0_pay1 x0 x1 i : EReal) := by
  unfold k0_pay3
  simp only [shapeCast_self]
  rfl

variable (m : (ℓ : Loc nD τ sig) → Buf (Elt Ideal) ℓ) (c : Dev nD)

/-- A sum over 8192 rows is the sum over four stretches of 2048. -/
theorem sum_rows (f : Fin 8192 → EReal) :
    ∑ k, f k = ∑ s : Fin 4, ∑ k : Fin 2048, f ⟨2048 * s.val + k.val, by omega⟩ := by
  rw [← (finProdFinEquiv (m := 4) (n := 2048)).sum_comp f, Fintype.sum_prod_type]
  refine Finset.sum_congr rfl fun s _ => Finset.sum_congr rfl fun k _ => congrArg f (Fin.ext ?_)
  exact Nat.add_comm _ _

/-- The product of one array's columns with another's. -/
def grad (A : S8192x2816.Idx → EReal) (B : S8192x1024.Idx → EReal) : S2816x1024.Idx → EReal := fun i =>
  ∑ k : Fin 8192, A (ix2 k (i 0)) * B (ix2 k (i 1))

theorem idx : ∀ t : Fin cfg0.N,
    win0_0.index t = ![t.val % 4, t.val / 4] ∧ win0_1.index t = ![t.val % 4, 0] ∧ win0_2.index t = ![t.val / 4, 0] :=
  (by decide +kernel : ∀ t : Fin grid0.N,
    win0_0.index t = ![t.val % 4, t.val / 4] ∧ win0_1.index t = ![t.val % 4, 0] ∧ win0_2.index t = ![t.val / 4, 0])

/-- What point `n` adds to the accumulator. -/
def term (n : ℕ) : S1408x1024.Idx → EReal := fun i =>
  if h : n < cfg0.N then k0_pay1 (iblk m c 0 ⟨n, h⟩) (iblk m c 1 ⟨n, h⟩) i else 0

/-- The accumulator after a point: the addends of its run up to it. -/
theorem acc_eq (t : Fin cfg0.N) (i : S1408x1024.Idx) :
    ((outsAt0 m c t.val t.isLt).2 i : EReal) = 0 + ∑ k ∈ Finset.range (t.val % 4 + 1), term m c (4 * (t.val / 4) + k) i := by
  have ht (t : Fin cfg0.N) (i : S1408x1024.Idx) : term m c t.val i = k0_pay1 (iblk m c 0 t) (iblk m c 1 t) i := dif_pos t.isLt
  refine Pipeline.eq_sum_of_reset_step_apply (M := EReal) (fun n h => (outsAt0 m c n h).2) 4 (fun _ => 0) (term m c) ?_ ?_ t i
  · intro t h i
    rw [outsAt0_A m c t h (by omega) (by omega), ht, zero_add]
    frame_out
    exact pay2_at ..
  · intro t h i
    rw [ht]
    by_cases h2 : t.val % 4 = 3
    · rw [outsAt0_C m c t h (by omega) h2]
      frame_out
      simp only [read_unread_whole]
      exact pay3_at ..
    · rw [outsAt0_B m c t h (by omega) h2]
      frame_out
      simp only [read_unread_whole]
      exact pay3_at ..

/-- The last point of a run writes out the accumulator. -/
theorem out_eq (t : Fin cfg0.N) (h : t.val % 4 = 3) : (outsAt0 m c t.val t.isLt).1 = (outsAt0 m c t.val t.isLt).2 := by
  rw [outsAt0_C m c t (by omega) (by omega) h]
  frame_out

theorem final : (dats m 0 c).arrAt 2 cfg0.N =
    grad (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  have hN : t.val < 8 := lt_of_lt_of_eq t.isLt N_0
  blk_simp
  rw [after0_2, out_eq m c t h3]
  idx_vars y
  refine (acc_eq m c t _).trans ?_
  unfold grad
  rw [sum_rows, zero_add, h3, ← Fin.sum_univ_eq_sum_range]
  refine Finset.sum_congr (M := EReal) rfl fun s _ => ?_
  unfold term
  rw [dif_pos (show 4 * (t.val / 4) + s.val < cfg0.N by rw [show cfg0.N = 8 from N_0]; omega), pay1_at]
  refine Finset.sum_congr (M := EReal) rfl fun k _ => ?_
  congr 1
  · blk_ext [iblk, V, idx t, idx ⟨4 * (t.val / 4) + s.val, _⟩]
  · blk_ext [iblk, V, idx t, idx ⟨4 * (t.val / 4) + s.val, _⟩]

end Cert.DownWeightIdeal.Value

namespace Cert.DownWeightReferenceIdeal.Value

open Cert.DownWeightReferenceIdeal Cert.DownWeightReferenceIdeal.Gen Idealize.ShloMosaic Idealize.ShloMosaic.TcCoe Idealize.ShloMosaic.StableHlo

/-- The reference's composed term, which is the transpose of the product the other way round, is the same function. -/
theorem grad_eq (A : Vec Ideal S8192x2816 .bf16) (B : Vec Ideal S8192x1024 .bf16) :
    transpose S2816x1024 [1, 0] (Host.dotGeneral (F := Ideal) dot_S8192x1024_S8192x2816_S1024x2816_0_0_1_1_n_n none
      (extf .f32 B bitsLt_bf16_f32) (extf .f32 A bitsLt_bf16_f32)) transposes_S1024x2816_S2816x1024_1_0
      = Cert.DownWeightIdeal.Value.grad A B := by
  funext i
  idx_vars i
  unfold Cert.DownWeightIdeal.Value.grad
  pointwise []
  exact Finset.sum_congr (M := EReal) rfl fun k _ => mul_comm (G := EReal) _ _

end Cert.DownWeightReferenceIdeal.Value

end
-- ==== Proof.UpAct.lean ====
module

public import proofs.«01_k».proof.Proof.Gen.UpActIdeal.Value
public import proofs.«01_k».proof.Proof.Gen.UpActReferenceIdeal.Run
public import Idealize.ShloMosaic.Lib.Pipeline.ValueKit
public import Idealize.ShloMosaic.Lib.Pointwise

@[expose] public section

set_option maxRecDepth 16384

/-! The gradient that the up projection gives its input: the rows of the projection's two halves' gradients against the rows
of the weight's two halves of columns, summed. The kernel computes 512 rows at a grid point, each half's contraction
whole; the reference contracts the two halves laid side by side. -/

noncomputable section

namespace Cert.UpActIdeal.Value

open Cert.UpActIdeal Cert.UpActIdeal.Gen Idealize.ShloMosaic Idealize.ShloMosaic.TcCoe Idealize.ShloMosaic.Tactic
open Idealize.SL Idealize.SL.Sem
open Idealize.ShloMosaic.Pipeline (Dat)

/-- What a grid point stores, at an index. -/
theorem out_at (x0 x1 : Vec Ideal S512x2816 .bf16) (x2 x3 : Vec Ideal S1024x2816 .bf16) (i : Fin 512) (j : Fin 1024) :
    out0_4 x0 x1 x2 x3 (ix2 i j) = ((∑ k : Fin 2816, (x0 (ix2 i k) * x2 (ix2 j k) : EReal))
      + ∑ k : Fin 2816, (x1 (ix2 i k) * x3 (ix2 j k) : EReal) : EReal) := by
  unfold out0_4
  rw [View.canon_unit_zero (by decide)]
  pointwise [k0_pay1]

variable (m : (ℓ : Loc nD τ sig) → Buf (Elt Ideal) ℓ) (c : Dev nD)

/-- The sum of two products, the second factor's columns split in halves. -/
def grad (G U : S8192x2816.Idx → EReal) (B : S1024x5632.Idx → EReal) : S8192x1024.Idx → EReal := fun i =>
  (∑ k : Fin 2816, G (ix2 (i 0) k) * B (ix2 (i 1) ⟨k.val, by omega⟩))
    + ∑ k : Fin 2816, U (ix2 (i 0) k) * B (ix2 (i 1) ⟨2816 + k.val, by omega⟩)

theorem idx : ∀ t : Fin cfg0.N,
    win0_0.index t = ![t.val, 0] ∧ win0_1.index t = ![t.val, 0] ∧ win0_2.index t = ![0, 0] ∧ win0_3.index t = ![0, 1]
      ∧ win0_4.index t = ![t.val, 0] :=
  (by decide +kernel : ∀ t : Fin grid0.N,
    win0_0.index t = ![t.val, 0] ∧ win0_1.index t = ![t.val, 0] ∧ win0_2.index t = ![0, 0] ∧ win0_3.index t = ![0, 1]
      ∧ win0_4.index t = ![t.val, 0])

theorem final : (dats m 0 c).arrAt 4 cfg0.N =
    grad (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  idx_vars y
  rw [out_at]
  unfold grad
  refine congrArg₂ (fun a b : EReal => a + b) (Finset.sum_congr (M := EReal) rfl fun k _ => ?_)
    (Finset.sum_congr (M := EReal) rfl fun k _ => ?_)
  · congr 1
    · blk_ext [iblk, V, idx t]
    · blk_ext [iblk, V, idx t]
  · congr 1
    · blk_ext [iblk, V, idx t]
    · blk_ext [iblk, V, idx t]

end Cert.UpActIdeal.Value

namespace Cert.UpActReferenceIdeal.Value

open Cert.UpActReferenceIdeal Cert.UpActReferenceIdeal.Gen Idealize.ShloMosaic Idealize.ShloMosaic.TcCoe Idealize.ShloMosaic.StableHlo

/-- The reference's composed term is the same function. -/
theorem grad_eq (G U : Vec Ideal S8192x2816 .bf16) (B : Vec Ideal S1024x5632 .bf16) :
    Host.dotGeneral (F := Ideal) dot_S8192x5632_S1024x5632_S8192x1024_1_1_0_0_n_n none
      (concatenate S8192x5632 1 [⟨S8192x2816, (extf .f32 G bitsLt_bf16_f32)⟩, ⟨S8192x2816, (extf .f32 U bitsLt_bf16_f32)⟩]
        concatenates_S8192x2816_S8192x2816_S8192x5632_d1)
      (extf .f32 B bitsLt_bf16_f32) = Cert.UpActIdeal.Value.grad G U B := by
  funext i
  idx_vars i
  unfold Cert.UpActIdeal.Value.grad
  pointwise []

end Cert.UpActReferenceIdeal.Value

end
-- ==== Proof.UpGate.lean ====
module

public import proofs.«01_k».proof.Proof.Gen.UpGateIdeal.Value
public import proofs.«01_k».proof.Proof.Gen.UpGateReferenceIdeal.Run
public import proofs.«01_k».proof.Proof.DownWeight
public import Idealize.ShloMosaic.Lib.Pipeline.ValueKit
public import Idealize.ShloMosaic.Lib.Pipeline.ValueKit.Partial
public import Idealize.ShloMosaic.Lib.Pipeline.ReadBack
public import Idealize.ShloMosaic.Lib.Pointwise

@[expose] public section

set_option maxRecDepth 16384

/-! The first half of the gradient of the up projection's weight, written in place: the input's columns against the columns
of that half's gradient, summed over the 8192 rows, in 2816 columns of the buffer, whose other 2816 columns stay. The
kernel adds the four stretches of 2048 rows one grid point after another into an accumulator which the last writes out. -/

noncomputable section

namespace Cert.UpGateIdeal.Value

open Cert.UpGateIdeal Cert.UpGateIdeal.Gen Idealize.ShloMosaic Idealize.ShloMosaic.TcCoe Idealize.ShloMosaic.Tactic
open Idealize.SL Idealize.SL.Sem
open Idealize.ShloMosaic.Pipeline (Dat)

/-- A grid point's addend, at an index. -/
theorem pay1_at (x0 : Vec Ideal S2048x1024 .bf16) (x1 : Vec Ideal S2048x1408 .bf16) (i : Fin 1024) (j : Fin 1408) :
    k0_pay1 x0 x1 (ix2 i j) = ∑ k : Fin 2048, (x0 (ix2 k i) * x1 (ix2 k j) : EReal) := by
  pointwise [k0_pay1]

theorem pay2_at (x0 : Vec Ideal S2048x1024 .bf16) (x1 : Vec Ideal S2048x1408 .bf16) (i : S1024x1408.Idx) :
    k0_pay2 x0 x1 i = k0_pay1 x0 x1 i := by
  unfold k0_pay2
  simp only [shapeCast_self]

theorem pay3_at (x0 : Vec Ideal S2048x1024 .bf16) (x1 : Vec Ideal S2048x1408 .bf16) (v : Vec Ideal S1024x1408 .f32)
    (i : S1024x1408.Idx) : k0_pay3 x0 x1 v i = (v i + k0_pay1 x0 x1 i : EReal) := by
  unfold k0_pay3
  simp only [shapeCast_self]
  rfl

/-- What is written out is the accumulator, under a leading axis of length one. -/
theorem pay4_at (v : Vec Ideal S1024x1408 .f32) (i : Fin 1024) (j : Fin 1408) : k0_pay4 v (ix3 0 i j) = v (ix2 i j) := by
  pointwise [k0_pay4]

variable (m : (ℓ : Loc nD τ sig) → Buf (Elt Ideal) ℓ) (c : Dev nD)

/-- The buffer with its first 2816 columns replaced by the product of one array's columns with another's. -/
def grad (A : S8192x1024.Idx → EReal) (B : S8192x2816.Idx → EReal) (W : S1x1024x5632.Idx → EReal) :
    S1x1024x5632.Idx → EReal := fun i =>
  if h : (i 2).val < 2816 then ∑ k : Fin 8192, A (ix2 k (i 1)) * B (ix2 k ⟨(i 2).val, h⟩) else W i

theorem idx : ∀ t : Fin cfg0.N,
    win0_0.index t = ![t.val % 4, 0] ∧ win0_1.index t = ![t.val % 4, t.val / 4] ∧ win0_2.index t = ![0, 0, t.val / 4] :=
  (by decide +kernel : ∀ t : Fin grid0.N,
    win0_0.index t = ![t.val % 4, 0] ∧ win0_1.index t = ![t.val % 4, t.val / 4] ∧ win0_2.index t = ![0, 0, t.val / 4])

/-- What point `n` adds to the accumulator. -/
def term (n : ℕ) : S1024x1408.Idx → EReal := fun i =>
  if h : n < cfg0.N then k0_pay1 (iblk m c 0 ⟨n, h⟩) (iblk m c 1 ⟨n, h⟩) i else 0

/-- The accumulator after a point: the addends of its run up to it. -/
theorem acc_eq (t : Fin cfg0.N) (i : S1024x1408.Idx) :
    ((outsAt0 m c t.val t.isLt).2 i : EReal) = 0 + ∑ k ∈ Finset.range (t.val % 4 + 1), term m c (4 * (t.val / 4) + k) i := by
  have ht (t : Fin cfg0.N) (i : S1024x1408.Idx) : term m c t.val i = k0_pay1 (iblk m c 0 t) (iblk m c 1 t) i := dif_pos t.isLt
  refine Pipeline.eq_sum_of_reset_step_apply (M := EReal) (fun n h => (outsAt0 m c n h).2) 4 (fun _ => 0) (term m c) ?_ ?_ t i
  · intro t h i
    rw [outsAt0_A m c t h (by omega) (by omega), ht, zero_add]
    frame_out
    exact pay2_at ..
  · intro t h i
    rw [ht]
    by_cases h2 : t.val % 4 = 3
    · rw [outsAt0_C m c t h (by omega) h2]
      frame_out
      simp only [read_unread_whole]
      exact pay3_at ..
    · rw [outsAt0_B m c t h (by omega) h2]
      frame_out
      simp only [read_unread_whole]
      exact pay3_at ..

/-- The last point of a run writes out the accumulator. -/
theorem out_eq (t : Fin cfg0.N) (h : t.val % 4 = 3) :
    (outsAt0 m c t.val t.isLt).1 = k0_pay4 (outsAt0 m c t.val t.isLt).2 := by
  rw [outsAt0_C m c t (by omega) (by omega) h]
  frame_out

theorem final : (dats m 0 c).arrAt 2 cfg0.N =
    grad (m ((c : Thread nD τ).loc main_arg0)) (m ((c : Thread nD τ).loc main_arg1)) (m ((c : Thread nD τ).loc main_arg2)) := by
  refine (dats m 0 c).arrAt_eq_of_coversWhere_of_agree 2 _ (fun β => β (2 : Fin _) < 2) (by decide +kernel)
    (fun t hf y => ?_) (fun j hj => ?_)
  · have h3 : t.val % 4 = 3 := (flush0_2 t).mp hf
    have hN : t.val < 8 := lt_of_lt_of_eq t.isLt N_0
    blk_simp
    rw [after0_2, out_eq m c t h3]
    idx_vars y
    obtain rfl : y0 = 0 := Subsingleton.elim _ _
    rw [pay4_at]
    refine (acc_eq m c t _).trans ?_
    unfold grad
    rw [dif_pos (by blk_simp [idx t]; omega), DownWeightIdeal.Value.sum_rows, zero_add, h3, ← Fin.sum_univ_eq_sum_range]
    refine Finset.sum_congr (M := EReal) rfl fun s _ => ?_
    unfold term
    rw [dif_pos (show 4 * (t.val / 4) + s.val < cfg0.N by rw [show cfg0.N = 8 from N_0]; omega), pay1_at]
    refine Finset.sum_congr (M := EReal) rfl fun k _ => ?_
    congr 1
    · blk_ext [iblk, V, idx t, idx ⟨4 * (t.val / 4) + s.val, _⟩]
    · blk_ext [iblk, V, idx t, idx ⟨4 * (t.val / 4) + s.val, _⟩]
  · rw [A_eq]
    blk_simp [Pipeline.Window.cell_apply] at hj
    blk_simp
    unfold grad
    entry_read
    rw [dif_neg (by omega)]

end Cert.UpGateIdeal.Value

namespace Cert.UpGateReferenceIdeal.Value

open Cert.UpGateReferenceIdeal Cert.UpGateReferenceIdeal.Gen Idealize.ShloMosaic Idealize.ShloMosaic.TcCoe Idealize.ShloMosaic.StableHlo

/-- The reference's composed term is the same function. -/
theorem grad_eq (A : Vec Ideal S8192x1024 .bf16) (B : Vec Ideal S8192x2816 .bf16) (W : Vec Ideal S1x1024x5632 .f32) :
    concatenate S1x1024x5632 2 [⟨S1x1024x2816, (broadcastInDim S1x1024x2816 ![1, 2] bcast_S1024x2816_S1x1024x2816_1_2 (transpose S1024x2816 [1, 0] (Host.dotGeneral (F := Ideal) dot_S8192x2816_S8192x1024_S2816x1024_0_0_1_1_n_n none
        (extf .f32 B bitsLt_bf16_f32) (extf .f32 A bitsLt_bf16_f32)) transposes_S2816x1024_S1024x2816_1_0))⟩,
      ⟨S1x1024x2816, (extractStridedSlice S1x1024x2816 ![0, 0, 2816] W slices_S1x1024x5632_S1x1024x2816_0_0_2816)⟩] concatenates_S1x1024x2816_S1x1024x2816_S1x1024x5632_d2
      = Cert.UpGateIdeal.Value.grad A B W := by
  funext i
  idx_vars i
  unfold Cert.UpGateIdeal.Value.grad
  pointwise []
  split
  · exact Finset.sum_congr (M := EReal) rfl fun k _ => mul_comm (G := EReal) _ _
  · exact congrArg W (by obtain rfl : i0 = 0 := Subsingleton.elim _ _; exact congrArg (ix3 0 i1) (Fin.ext (by dsimp only; omega)))

end Cert.UpGateReferenceIdeal.Value

end
-- ==== Proof.UpValue.lean ====
module

public import proofs.«01_k».proof.Proof.Gen.UpValueIdeal.Value
public import proofs.«01_k».proof.Proof.Gen.UpValueReferenceIdeal.Run
public import proofs.«01_k».proof.Proof.UpGate
public import Idealize.ShloMosaic.Lib.Pipeline.ValueKit
public import Idealize.ShloMosaic.Lib.Pipeline.ValueKit.Partial
public import Idealize.ShloMosaic.Lib.Pipeline.ReadBack
public import Idealize.ShloMosaic.Lib.Pointwise

@[expose] public section

set_option maxRecDepth 16384

/-! The second half of the gradient of the up projection's weight, written in place: the input's columns against the columns
of that half's gradient, summed over the 8192 rows, in 2816 columns of the buffer, whose other 2816 columns stay. The
kernel adds the four stretches of 2048 rows one grid point after another into an accumulator which the last writes out. -/

noncomputable section

namespace Cert.UpValueIdeal.Value

open Cert.UpValueIdeal Cert.UpValueIdeal.Gen Idealize.ShloMosaic Idealize.ShloMosaic.TcCoe Idealize.ShloMosaic.Tactic
open Idealize.SL Idealize.SL.Sem
open Idealize.ShloMosaic.Pipeline (Dat)

/-- A grid point's addend, at an index. -/
theorem pay1_at (x0 : Vec Ideal S2048x1024 .bf16) (x1 : Vec Ideal S2048x1408 .bf16) (i : Fin 1024) (j : Fin 1408) :
    k0_pay1 x0 x1 (ix2 i j) = ∑ k : Fin 2048, (x0 (ix2 k i) * x1 (ix2 k j) : EReal) :=
  UpGateIdeal.Value.pay1_at x0 x1 i j

theorem pay2_at (x0 : Vec Ideal S2048x1024 .bf16) (x1 : Vec Ideal S2048x1408 .bf16) (i : S1024x1408.Idx) :
    k0_pay2 x0 x1 i = k0_pay1 x0 x1 i := UpGateIdeal.Value.pay2_at x0 x1 i

theorem pay3_at (x0 : Vec Ideal S2048x1024 .bf16) (x1 : Vec Ideal S2048x1408 .bf16) (v : Vec Ideal S1024x1408 .f32)
    (i : S1024x1408.Idx) : k0_pay3 x0 x1 v i = (v i + k0_pay1 x0 x1 i : EReal) :=
  UpGateIdeal.Value.pay3_at x0 x1 v i

/-- What is written out is the accumulator, under a leading axis of length one. -/
theorem pay4_at (v : Vec Ideal S1024x1408 .f32) (i : Fin 1024) (j : Fin 1408) : k0_pay4 v (ix3 0 i j) = v (ix2 i j) :=
  UpGateIdeal.Value.pay4_at v i j

variable (m : (ℓ : Loc nD τ sig) → Buf (Elt Ideal) ℓ) (c : Dev nD)

/-- The buffer with its second 2816 columns replaced by the product of one array's columns with another's. -/
def grad (A : S8192x1024.Idx → EReal) (B : S8192x2816.Idx → EReal) (W : S1x1024x5632.Idx → EReal) :
    S1x1024x5632.Idx → EReal := fun i =>
  if h : 2816 ≤ (i 2).val then ∑ k : Fin 8192, A (ix2 k (i 1)) * B (ix2 k ⟨(i 2).val - 2816, by have := (i 2).isLt; change _ < 5632 at this; omega⟩) else W i

theorem idx : ∀ t : Fin cfg0.N,
    win0_0.index t = ![t.val % 4, 0] ∧ win0_1.index t = ![t.val % 4, t.val / 4] ∧ win0_2.index t = ![0, 0, t.val / 4 + 2] :=
  (by decide +kernel : ∀ t : Fin grid0.N,
    win0_0.index t = ![t.val % 4, 0] ∧ win0_1.index t = ![t.val % 4, t.val / 4] ∧ win0_2.index t = ![0, 0, t.val / 4 + 2])

/-- What point `n` adds to the accumulator. -/
def term (n : ℕ) : S1024x1408.Idx → EReal := fun i =>
  if h : n < cfg0.N then k0_pay1 (iblk m c 0 ⟨n, h⟩) (iblk m c 1 ⟨n, h⟩) i else 0

/-- The accumulator after a point: the addends of its run up to it. -/
theorem acc_eq (t : Fin cfg0.N) (i : S1024x1408.Idx) :
    ((outsAt0 m c t.val t.isLt).2 i : EReal) = 0 + ∑ k ∈ Finset.range (t.val % 4 + 1), term m c (4 * (t.val / 4) + k) i := by
  have ht (t : Fin cfg0.N) (i : S1024x1408.Idx) : term m c t.val i = k0_pay1 (iblk m c 0 t) (iblk m c 1 t) i := dif_pos t.isLt
  refine Pipeline.eq_sum_of_reset_step_apply (M := EReal) (fun n h => (outsAt0 m c n h).2) 4 (fun _ => 0) (term m c) ?_ ?_ t i
  · intro t h i
    rw [outsAt0_A m c t h (by omega) (by omega), ht, zero_add]
    frame_out
    exact pay2_at ..
  · intro t h i
    rw [ht]
    by_cases h2 : t.val % 4 = 3
    · rw [outsAt0_C m c t h (by omega) h2]
      frame_out
      simp only [read_unread_whole]
      exact pay3_at ..
    · rw [outsAt0_B m c t h (by omega) h2]
      frame_out
      simp only [read_unread_whole]
      exact pay3_at ..

/-- The last point of a run writes out the accumulator. -/
theorem out_eq (t : Fin cfg0.N) (h : t.val % 4 = 3) :
    (outsAt0 m c t.val t.isLt).1 = k0_pay4 (outsAt0 m c t.val t.isLt).2 := by
  rw [outsAt0_C m c t (by omega) (by omega) h]
  frame_out

theorem final : (dats m 0 c).arrAt 2 cfg0.N =
    grad (m ((c : Thread nD τ).loc main_arg0)) (m ((c : Thread nD τ).loc main_arg1)) (m ((c : Thread nD τ).loc main_arg2)) := by
  refine (dats m 0 c).arrAt_eq_of_coversWhere_of_agree 2 _ (fun β => 2 ≤ β (2 : Fin _)) (by decide +kernel)
    (fun t hf y => ?_) (fun j hj => ?_)
  · have h3 : t.val % 4 = 3 := (flush0_2 t).mp hf
    have hN : t.val < 8 := lt_of_lt_of_eq t.isLt N_0
    blk_simp
    rw [after0_2, out_eq m c t h3]
    idx_vars y
    obtain rfl : y0 = 0 := Subsingleton.elim _ _
    rw [pay4_at]
    refine (acc_eq m c t _).trans ?_
    unfold grad
    rw [dif_pos (by blk_simp [idx t]; omega), DownWeightIdeal.Value.sum_rows, zero_add, h3, ← Fin.sum_univ_eq_sum_range]
    refine Finset.sum_congr (M := EReal) rfl fun s _ => ?_
    unfold term
    rw [dif_pos (show 4 * (t.val / 4) + s.val < cfg0.N by rw [show cfg0.N = 8 from N_0]; omega), pay1_at]
    refine Finset.sum_congr (M := EReal) rfl fun k _ => ?_
    congr 1
    · blk_ext [iblk, V, idx t, idx ⟨4 * (t.val / 4) + s.val, _⟩]
    · blk_ext [iblk, V, idx t, idx ⟨4 * (t.val / 4) + s.val, _⟩]
  · rw [A_eq]
    blk_simp [Pipeline.Window.cell_apply] at hj
    blk_simp
    unfold grad
    entry_read
    rw [dif_neg (by omega)]

end Cert.UpValueIdeal.Value

namespace Cert.UpValueReferenceIdeal.Value

open Cert.UpValueReferenceIdeal Cert.UpValueReferenceIdeal.Gen Idealize.ShloMosaic Idealize.ShloMosaic.TcCoe Idealize.ShloMosaic.StableHlo

/-- The reference's composed term is the same function. -/
theorem grad_eq (A : Vec Ideal S8192x1024 .bf16) (B : Vec Ideal S8192x2816 .bf16) (W : Vec Ideal S1x1024x5632 .f32) :
    concatenate S1x1024x5632 2 [⟨S1x1024x2816, (extractStridedSlice S1x1024x2816 ![0, 0, 0] W slices_S1x1024x5632_S1x1024x2816_0_0_0)⟩,
      ⟨S1x1024x2816, (broadcastInDim S1x1024x2816 ![1, 2] bcast_S1024x2816_S1x1024x2816_1_2 (transpose S1024x2816 [1, 0] (Host.dotGeneral (F := Ideal) dot_S8192x2816_S8192x1024_S2816x1024_0_0_1_1_n_n none
        (extf .f32 B bitsLt_bf16_f32) (extf .f32 A bitsLt_bf16_f32)) transposes_S2816x1024_S1024x2816_1_0))⟩] concatenates_S1x1024x2816_S1x1024x2816_S1x1024x5632_d2
      = Cert.UpValueIdeal.Value.grad A B W := by
  funext i
  idx_vars i
  unfold Cert.UpValueIdeal.Value.grad
  pointwise []
  split
  · rw [dif_neg (by omega)]
    obtain rfl : i0 = 0 := Subsingleton.elim _ _
    rfl
  · rw [dif_pos (by omega)]
    exact Finset.sum_congr (M := EReal) rfl fun k _ => mul_comm (G := EReal) _ _

end Cert.UpValueReferenceIdeal.Value

end
-- ==== Proof.Up.lean ====
module

public import proofs.«01_k».proof.Proof.Gen.UpIdeal.Value
public import proofs.«01_k».proof.Proof.Gen.UpReferenceIdeal.Run
public import Idealize.ShloMosaic.Lib.Pipeline.ValueKit
public import Idealize.ShloMosaic.Lib.Pointwise

@[expose] public section

set_option maxRecDepth 16384

/-! The feed-forward block's up projection: the input's rows against the weight's columns. The kernel computes 1024 rows
and 2816 columns at a grid point, the contraction whole. -/

noncomputable section

namespace Cert.UpIdeal.Value

open Cert.UpIdeal Cert.UpIdeal.Gen Idealize.ShloMosaic Idealize.ShloMosaic.TcCoe Idealize.ShloMosaic.Tactic
open Idealize.SL Idealize.SL.Sem
open Idealize.ShloMosaic.Pipeline (Dat)

/-- What a grid point stores, at an index. -/
theorem out_at (x0 : Vec Ideal S1024x1024 .bf16) (x1 : Vec Ideal S1024x2816 .bf16) (i : Fin 1024) (j : Fin 2816) :
    out0_2 x0 x1 (ix2 i j) = ∑ k : Fin 1024, (x0 (ix2 i k) * x1 (ix2 k j) : EReal) := by
  unfold out0_2
  rw [View.canon_unit_zero (by decide)]
  pointwise [k0_pay1]

variable (m : (ℓ : Loc nD τ sig) → Buf (Elt Ideal) ℓ) (c : Dev nD)

/-- The product of two arrays. -/
def prod (A : S8192x1024.Idx → EReal) (B : S1024x5632.Idx → EReal) : S8192x5632.Idx → EReal := fun i =>
  ∑ k : Fin 1024, A (ix2 (i 0) k) * B (ix2 k (i 1))

theorem idx : ∀ t : Fin cfg0.N,
    win0_0.index t = ![t.val / 2, 0] ∧ win0_1.index t = ![0, t.val % 2] ∧ win0_2.index t = ![t.val / 2, t.val % 2] :=
  (by decide +kernel : ∀ t : Fin grid0.N,
    win0_0.index t = ![t.val / 2, 0] ∧ win0_1.index t = ![0, t.val % 2] ∧ win0_2.index t = ![t.val / 2, t.val % 2])

theorem final : (dats m 0 c).arrAt 2 cfg0.N =
    prod (m ((c : Thread nD τ).loc main_arg0)) (m ((c : Thread nD τ).loc main_arg1)) := by
  refine (dats m 0 c).arrAt_eq_of_covers 2 _ (by decide +kernel) fun t hf y => ?_
  blk_simp
  rw [after0_2]
  idx_vars y
  rw [out_at]
  unfold prod
  refine Finset.sum_congr (M := EReal) rfl fun k _ => ?_
  congr 1
  · blk_ext [iblk, V, idx t]
  · blk_ext [iblk, V, idx t]

end Cert.UpIdeal.Value

namespace Cert.UpReferenceIdeal.Value

open Cert.UpReferenceIdeal Cert.UpReferenceIdeal.Gen Idealize.ShloMosaic Idealize.ShloMosaic.TcCoe Idealize.ShloMosaic.StableHlo

/-- The reference's composed term is the same function. -/
theorem prod_eq (A : Vec Ideal S8192x1024 .bf16) (B : Vec Ideal S1024x5632 .bf16) :
    Host.dotGeneral (F := Ideal) dot_S8192x1024_S1024x5632_S8192x5632_1_0_0_1_n_n none (extf .f32 A bitsLt_bf16_f32)
      (extf .f32 B bitsLt_bf16_f32) = Cert.UpIdeal.Value.prod A B := by
  funext i
  idx_vars i
  unfold Cert.UpIdeal.Value.prod
  pointwise []

end Cert.UpReferenceIdeal.Value

end
-- ==== Proof.Down.lean ====
module

public import proofs.«01_k».proof.Proof.Gen.DownIdeal.Value
public import proofs.«01_k».proof.Proof.Gen.DownReferenceIdeal.Run
public import Idealize.ShloMosaic.Lib.Pipeline.ValueKit
public import Idealize.ShloMosaic.Lib.Pointwise

@[expose] public section

set_option maxRecDepth 16384

/-! The feed-forward block's down projection and its residual: the activations' rows against the weight's columns, plus the
block's input. The kernel computes 1024 rows at a grid point, the contraction whole. -/

noncomputable section

namespace Cert.DownIdeal.Value

open Cert.DownIdeal Cert.DownIdeal.Gen Idealize.ShloMosaic Idealize.ShloMosaic.TcCoe Idealize.ShloMosaic.Tactic
open Idealize.SL Idealize.SL.Sem
open Idealize.ShloMosaic.Pipeline (Dat)

/-- What a grid point stores, at an index. -/
theorem out_at (x0 : Vec Ideal S1024x2816 .bf16) (x1 : Vec Ideal S2816x1024 .bf16) (x2 : Vec Ideal S1024x1024 .f32)
    (i : Fin 1024) (j : Fin 1024) :
    out0_3 x0 x1 x2 (ix2 i j) = ((∑ k : Fin 2816, (x0 (ix2 i k) * x1 (ix2 k j) : EReal)) + x2 (ix2 i j) : EReal) := by
  unfold out0_3
  rw [View.canon_unit_zero (by decide)]
  pointwise [k0_pay1]

variable (m : (ℓ : Loc nD τ sig) → Buf (Elt Ideal) ℓ) (c : Dev nD)

/-- The product of two arrays, plus a third. -/
def prodAdd (A : S8192x2816.Idx → EReal) (B : S2816x1024.Idx → EReal) (X : S8192x1024.Idx → EReal) :
    S8192x1024.Idx → EReal := fun i => (∑ k : Fin 2816, A (ix2 (i 0) k) * B (ix2 k (i 1))) + X (ix2 (i 0) (i 1))

theorem idx : ∀ t : Fin cfg0.N,
    win0_0.index t = ![t.val, 0] ∧ win0_1.index t = ![0, 0] ∧ win0_2.index t = ![t.val, 0] ∧ win0_3.index t = ![t.val, 0] :=
  (by decide +kernel : ∀ t : Fin grid0.N,
    win0_0.index t = ![t.val, 0] ∧ win0_1.index t = ![0, 0] ∧ win0_2.index t = ![t.val, 0] ∧ win0_3.index t = ![t.val, 0])

theorem final : (dats m 0 c).arrAt 3 cfg0.N =
    prodAdd (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  idx_vars y
  rw [out_at]
  unfold prodAdd
  refine congrArg₂ (fun a b : EReal => a + b) (Finset.sum_congr (M := EReal) rfl fun k _ => ?_) ?_
  · congr 1
    · blk_ext [iblk, V, idx t]
    · blk_ext [iblk, V, idx t]
  · blk_ext [iblk, V, idx t]

end Cert.DownIdeal.Value

namespace Cert.DownReferenceIdeal.Value

open Cert.DownReferenceIdeal Cert.DownReferenceIdeal.Gen Idealize.ShloMosaic Idealize.ShloMosaic.TcCoe Idealize.ShloMosaic.StableHlo

/-- The reference's composed term, which adds in the other order, is the same function. -/
theorem prodAdd_eq (A : Vec Ideal S8192x2816 .bf16) (B : Vec Ideal S2816x1024 .bf16) (X : Vec Ideal S8192x1024 .f32) :
    addf X (Host.dotGeneral (F := Ideal) dot_S8192x2816_S2816x1024_S8192x1024_1_0_0_1_n_n none (extf .f32 A bitsLt_bf16_f32)
      (extf .f32 B bitsLt_bf16_f32)) = Cert.DownIdeal.Value.prodAdd A B X := by
  funext i
  idx_vars i
  unfold Cert.DownIdeal.Value.prodAdd
  refine Eq.trans ?_ (add_comm (G := EReal) _ _)
  pointwise []

end Cert.DownReferenceIdeal.Value

end
-- ==== Proof.Products.lean ====
module

public import Idealize.ShloMosaic.Lib.Pointwise

@[expose] public section

/-! The products of two matrices over the extended reals, as functions of an index. -/

noncomputable section

namespace Cert.Products

open Idealize.ShloMosaic

/-- A matrix of `m` rows and `n` columns. -/
abbrev Mat (m n : ℕ) := (⟨2, ![m, n]⟩ : Shape).Idx → EReal

variable {m k n : ℕ}

/-- Rows against columns. -/
def nn (A : Mat m k) (B : Mat k n) : Mat m n := fun i => ∑ l : Fin k, A (ix2 (i 0) l) * B (ix2 l (i 1))

/-- Rows against rows: the product with the second matrix transposed. -/
def nt (A : Mat m k) (B : Mat n k) : Mat m n := fun i => ∑ l : Fin k, A (ix2 (i 0) l) * B (ix2 (i 1) l)

/-- Columns against columns: the product with the first matrix transposed. -/
def tn (A : Mat k m) (B : Mat k n) : Mat m n := fun i => ∑ l : Fin k, A (ix2 l (i 0)) * B (ix2 l (i 1))

/-- Two products, of rows against columns, added to a third matrix. -/
def addTwo {k' : ℕ} (A : Mat m k) (B : Mat m k') (P : Mat k n) (Q : Mat k' n) (X : Mat m n) : Mat m n := fun i =>
  X i + nn A P i + nn B Q i

/-- A sum over 8192 rows is the sum over four stretches of 2048. -/
theorem sum_rows (f : Fin 8192 → EReal) :
    ∑ k, f k = ∑ s : Fin 4, ∑ k : Fin 2048, f ⟨2048 * s.val + k.val, by omega⟩ := by
  rw [← (finProdFinEquiv (m := 4) (n := 2048)).sum_comp f, Fintype.sum_prod_type]
  refine Finset.sum_congr rfl fun s _ => Finset.sum_congr rfl fun k _ => congrArg f (Fin.ext ?_)
  exact Nat.add_comm _ _

end Cert.Products

end
-- ==== Proof.InA.lean ====
module

public import proofs.«01_k».proof.Proof.Gen.InAIdeal.Value
public import proofs.«01_k».proof.Proof.Gen.InAReferenceIdeal.Run
public import proofs.«01_k».proof.Proof.Products
public import Idealize.ShloMosaic.Lib.Pipeline.ValueKit
public import Idealize.ShloMosaic.Lib.Pointwise

@[expose] public section

set_option maxRecDepth 16384

/-! The gated linear attention's input projections: the input's rows against the columns of six weights. The kernel computes
512 rows at a grid point, the contraction and all columns whole. -/

noncomputable section

namespace Cert.InAIdeal.Value

open Cert.InAIdeal Cert.InAIdeal.Gen Idealize.ShloMosaic Idealize.ShloMosaic.TcCoe Idealize.ShloMosaic.Tactic
open Idealize.SL Idealize.SL.Sem
open Idealize.ShloMosaic.Pipeline (Dat)
open Cert.Products (nn)

theorem idx : ∀ t : Fin cfg0.N,
    win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![t.val,
    0] ∧ win0_8.index t = ![t.val, 0] ∧ win0_9.index t = ![t.val, 0] ∧ win0_10.index t = ![t.val, 0] ∧
    win0_11.index t = ![t.val, 0] ∧ win0_12.index t = ![t.val, 0] :=
  (by decide +kernel : ∀ t : Fin grid0.N,
    win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![t.val,
    0] ∧ win0_8.index t = ![t.val, 0] ∧ win0_9.index t = ![t.val, 0] ∧ win0_10.index t = ![t.val, 0] ∧
    win0_11.index t = ![t.val, 0] ∧ win0_12.index t = ![t.val, 0])

variable (m : (ℓ : Loc nD τ sig) → Buf (Elt Ideal) ℓ) (c : Dev nD)

section
variable (x0 : Vec Ideal S512x1024 .bf16) (x1 x2 : Vec Ideal S1024x512 .bf16) (x3 : Vec Ideal S1024x1024 .bf16) (x4 : Vec
    Ideal S1024x128 .bf16) (x5 : Vec Ideal S1024x1024 .bf16) (x6 : Vec Ideal S1024x512 .bf16)

theorem out7_at (i : Fin 512) (j : Fin 512) :
    out0_7 x0 x1 x2 x3 x4 x5 x6 (ix2 i j) = ∑ k : Fin 1024, (x0 (ix2 i k) * x1 (ix2 k j) : EReal) := by
  unfold out0_7; rw [View.canon_unit_zero (by decide)]; pointwise [k0_pay1]

theorem out8_at (i : Fin 512) (j : Fin 512) :
    out0_8 x0 x1 x2 x3 x4 x5 x6 (ix2 i j) = ∑ k : Fin 1024, (x0 (ix2 i k) * x2 (ix2 k j) : EReal) := by
  unfold out0_8; rw [View.canon_unit_zero (by decide)]; pointwise [k0_pay2]

theorem out9_at (i : Fin 512) (j : Fin 1024) :
    out0_9 x0 x1 x2 x3 x4 x5 x6 (ix2 i j) = ∑ k : Fin 1024, (x0 (ix2 i k) * x3 (ix2 k j) : EReal) := by
  unfold out0_9; rw [View.canon_unit_zero (by decide)]; pointwise [k0_pay3]

theorem out10_at (i : Fin 512) (j : Fin 128) :
    out0_10 x0 x1 x2 x3 x4 x5 x6 (ix2 i j) = ∑ k : Fin 1024, (x0 (ix2 i k) * x4 (ix2 k j) : EReal) := by
  unfold out0_10; rw [View.canon_unit_zero (by decide)]; pointwise [k0_pay4]

theorem out11_at (i : Fin 512) (j : Fin 1024) :
    out0_11 x0 x1 x2 x3 x4 x5 x6 (ix2 i j) = ∑ k : Fin 1024, (x0 (ix2 i k) * x5 (ix2 k j) : EReal) := by
  unfold out0_11; rw [View.canon_unit_zero (by decide)]; pointwise [k0_pay5]

theorem out12_at (i : Fin 512) (j : Fin 512) :
    out0_12 x0 x1 x2 x3 x4 x5 x6 (ix2 i j) = ∑ k : Fin 1024, (x0 (ix2 i k) * x6 (ix2 k j) : EReal) := by
  unfold out0_12; rw [View.canon_unit_zero (by decide)]; pointwise [k0_pay6]

end

theorem final7 : (dats m 0 c).arrAt 7 cfg0.N =
    nn (m ((c : Thread nD τ).loc main_arg0)) (m ((c : Thread nD τ).loc main_arg1)) := by
  refine (dats m 0 c).arrAt_eq_of_covers 7 _ (by decide +kernel) fun t hf y => ?_
  blk_simp
  rw [after0_7]
  idx_vars y
  rw [out7_at]
  refine Finset.sum_congr (M := EReal) rfl fun k _ => congrArg₂ (fun a b : EReal => a * b) ?_ ?_ <;>
    blk_ext [iblk, V, idx t]

theorem final8 : (dats m 0 c).arrAt 8 cfg0.N =
    nn (m ((c : Thread nD τ).loc main_arg0)) (m ((c : Thread nD τ).loc main_arg2)) := by
  refine (dats m 0 c).arrAt_eq_of_covers 8 _ (by decide +kernel) fun t hf y => ?_
  blk_simp
  rw [after0_8]
  idx_vars y
  rw [out8_at]
  refine Finset.sum_congr (M := EReal) rfl fun k _ => congrArg₂ (fun a b : EReal => a * b) ?_ ?_ <;>
    blk_ext [iblk, V, idx t]

theorem final9 : (dats m 0 c).arrAt 9 cfg0.N =
    nn (m ((c : Thread nD τ).loc main_arg0)) (m ((c : Thread nD τ).loc main_arg3)) := by
  refine (dats m 0 c).arrAt_eq_of_covers 9 _ (by decide +kernel) fun t hf y => ?_
  blk_simp
  rw [after0_9]
  idx_vars y
  rw [out9_at]
  refine Finset.sum_congr (M := EReal) rfl fun k _ => congrArg₂ (fun a b : EReal => a * b) ?_ ?_ <;>
    blk_ext [iblk, V, idx t]

theorem final10 : (dats m 0 c).arrAt 10 cfg0.N =
    nn (m ((c : Thread nD τ).loc main_arg0)) (m ((c : Thread nD τ).loc main_arg4)) := by
  refine (dats m 0 c).arrAt_eq_of_covers 10 _ (by decide +kernel) fun t hf y => ?_
  blk_simp
  rw [after0_10]
  idx_vars y
  rw [out10_at]
  refine Finset.sum_congr (M := EReal) rfl fun k _ => congrArg₂ (fun a b : EReal => a * b) ?_ ?_ <;>
    blk_ext [iblk, V, idx t]

theorem final11 : (dats m 0 c).arrAt 11 cfg0.N =
    nn (m ((c : Thread nD τ).loc main_arg0)) (m ((c : Thread nD τ).loc main_arg5)) := by
  refine (dats m 0 c).arrAt_eq_of_covers 11 _ (by decide +kernel) fun t hf y => ?_
  blk_simp
  rw [after0_11]
  idx_vars y
  rw [out11_at]
  refine Finset.sum_congr (M := EReal) rfl fun k _ => congrArg₂ (fun a b : EReal => a * b) ?_ ?_ <;>
    blk_ext [iblk, V, idx t]

theorem final12 : (dats m 0 c).arrAt 12 cfg0.N =
    nn (m ((c : Thread nD τ).loc main_arg0)) (m ((c : Thread nD τ).loc main_arg6)) := by
  refine (dats m 0 c).arrAt_eq_of_covers 12 _ (by decide +kernel) fun t hf y => ?_
  blk_simp
  rw [after0_12]
  idx_vars y
  rw [out12_at]
  refine Finset.sum_congr (M := EReal) rfl fun k _ => congrArg₂ (fun a b : EReal => a * b) ?_ ?_ <;>
    blk_ext [iblk, V, idx t]

end Cert.InAIdeal.Value

namespace Cert.InAReferenceIdeal.Value

open Cert.InAReferenceIdeal Cert.InAReferenceIdeal.Gen Idealize.ShloMosaic Idealize.ShloMosaic.TcCoe Idealize.ShloMosaic.StableHlo
open Cert.Products (nn)

variable (A : Vec Ideal S8192x1024 .bf16)

theorem prod_eq_128 (B : Vec Ideal S1024x128 .bf16) :
    Host.dotGeneral (F := Ideal) dot_S8192x1024_S1024x128_S8192x128_1_0_0_1_n_n none (extf .f32 A bitsLt_bf16_f32)
      (extf .f32 B bitsLt_bf16_f32) = nn A B := by
  funext i; idx_vars i; pointwise [nn]

theorem prod_eq_512 (B : Vec Ideal S1024x512 .bf16) :
    Host.dotGeneral (F := Ideal) dot_S8192x1024_S1024x512_S8192x512_1_0_0_1_n_n none (extf .f32 A bitsLt_bf16_f32)
      (extf .f32 B bitsLt_bf16_f32) = nn A B := by
  funext i; idx_vars i; pointwise [nn]

theorem prod_eq_1024 (B : Vec Ideal S1024x1024 .bf16) :
    Host.dotGeneral (F := Ideal) dot_S8192x1024_S1024x1024_S8192x1024_1_0_0_1_n_n none (extf .f32 A bitsLt_bf16_f32)
      (extf .f32 B bitsLt_bf16_f32) = nn A B := by
  funext i; idx_vars i; pointwise [nn]

end Cert.InAReferenceIdeal.Value

end
-- ==== Proof.InB.lean ====
module

public import proofs.«01_k».proof.Proof.Gen.InBIdeal.Value
public import proofs.«01_k».proof.Proof.Gen.InBReferenceIdeal.Run
public import proofs.«01_k».proof.Proof.Products
public import Idealize.ShloMosaic.Lib.Pipeline.ValueKit
public import Idealize.ShloMosaic.Lib.Pointwise

@[expose] public section

set_option maxRecDepth 16384

/-! The dilated attention's input projections: the input's rows against the columns of four weights. The kernel computes
256 rows at a grid point, the contraction and all columns whole. -/

noncomputable section

namespace Cert.InBIdeal.Value

open Cert.InBIdeal Cert.InBIdeal.Gen Idealize.ShloMosaic Idealize.ShloMosaic.TcCoe Idealize.ShloMosaic.Tactic
open Idealize.SL Idealize.SL.Sem
open Idealize.ShloMosaic.Pipeline (Dat)
open Cert.Products (nn)

theorem idx : ∀ t : Fin cfg0.N,
    win0_0.index t = ![t.val, 0] ∧ win0_1.index t = ![0, 0] ∧ win0_2.index t = ![0, 0] ∧ win0_3.index t = ![0, 0]
    ∧ win0_4.index t = ![0, 0] ∧ win0_5.index t = ![t.val, 0] ∧ win0_6.index t = ![t.val, 0] ∧ win0_7.index t =
    ![t.val, 0] ∧ win0_8.index t = ![t.val, 0] :=
  (by decide +kernel : ∀ t : Fin grid0.N,
    win0_0.index t = ![t.val, 0] ∧ win0_1.index t = ![0, 0] ∧ win0_2.index t = ![0, 0] ∧ win0_3.index t = ![0, 0]
    ∧ win0_4.index t = ![0, 0] ∧ win0_5.index t = ![t.val, 0] ∧ win0_6.index t = ![t.val, 0] ∧ win0_7.index t =
    ![t.val, 0] ∧ win0_8.index t = ![t.val, 0])

variable (m : (ℓ : Loc nD τ sig) → Buf (Elt Ideal) ℓ) (c : Dev nD)

section
variable (x0 : Vec Ideal S256x1024 .bf16) (x1 x2 x3 : Vec Ideal S1024x1536 .bf16) (x4 : Vec Ideal S1024x512 .bf16)

theorem out5_at (i : Fin 256) (j : Fin 1536) :
    out0_5 x0 x1 x2 x3 x4 (ix2 i j) = ∑ k : Fin 1024, (x0 (ix2 i k) * x1 (ix2 k j) : EReal) := by
  unfold out0_5; rw [View.canon_unit_zero (by decide)]; pointwise [k0_pay1]

theorem out6_at (i : Fin 256) (j : Fin 1536) :
    out0_6 x0 x1 x2 x3 x4 (ix2 i j) = ∑ k : Fin 1024, (x0 (ix2 i k) * x2 (ix2 k j) : EReal) := by
  unfold out0_6; rw [View.canon_unit_zero (by decide)]; pointwise [k0_pay2]

theorem out7_at (i : Fin 256) (j : Fin 1536) :
    out0_7 x0 x1 x2 x3 x4 (ix2 i j) = ∑ k : Fin 1024, (x0 (ix2 i k) * x3 (ix2 k j) : EReal) := by
  unfold out0_7; rw [View.canon_unit_zero (by decide)]; pointwise [k0_pay3]

theorem out8_at (i : Fin 256) (j : Fin 512) :
    out0_8 x0 x1 x2 x3 x4 (ix2 i j) = ∑ k : Fin 1024, (x0 (ix2 i k) * x4 (ix2 k j) : EReal) := by
  unfold out0_8; rw [View.canon_unit_zero (by decide)]; pointwise [k0_pay4]

end

theorem final5 : (dats m 0 c).arrAt 5 cfg0.N =
    nn (m ((c : Thread nD τ).loc main_arg0)) (m ((c : Thread nD τ).loc main_arg1)) := by
  refine (dats m 0 c).arrAt_eq_of_covers 5 _ (by decide +kernel) fun t hf y => ?_
  blk_simp
  rw [after0_5]
  idx_vars y
  rw [out5_at]
  refine Finset.sum_congr (M := EReal) rfl fun k _ => congrArg₂ (fun a b : EReal => a * b) ?_ ?_ <;>
    blk_ext [iblk, V, idx t]

theorem final6 : (dats m 0 c).arrAt 6 cfg0.N =
    nn (m ((c : Thread nD τ).loc main_arg0)) (m ((c : Thread nD τ).loc main_arg2)) := by
  refine (dats m 0 c).arrAt_eq_of_covers 6 _ (by decide +kernel) fun t hf y => ?_
  blk_simp
  rw [after0_6]
  idx_vars y
  rw [out6_at]
  refine Finset.sum_congr (M := EReal) rfl fun k _ => congrArg₂ (fun a b : EReal => a * b) ?_ ?_ <;>
    blk_ext [iblk, V, idx t]

theorem final7 : (dats m 0 c).arrAt 7 cfg0.N =
    nn (m ((c : Thread nD τ).loc main_arg0)) (m ((c : Thread nD τ).loc main_arg3)) := by
  refine (dats m 0 c).arrAt_eq_of_covers 7 _ (by decide +kernel) fun t hf y => ?_
  blk_simp
  rw [after0_7]
  idx_vars y
  rw [out7_at]
  refine Finset.sum_congr (M := EReal) rfl fun k _ => congrArg₂ (fun a b : EReal => a * b) ?_ ?_ <;>
    blk_ext [iblk, V, idx t]

theorem final8 : (dats m 0 c).arrAt 8 cfg0.N =
    nn (m ((c : Thread nD τ).loc main_arg0)) (m ((c : Thread nD τ).loc main_arg4)) := by
  refine (dats m 0 c).arrAt_eq_of_covers 8 _ (by decide +kernel) fun t hf y => ?_
  blk_simp
  rw [after0_8]
  idx_vars y
  rw [out8_at]
  refine Finset.sum_congr (M := EReal) rfl fun k _ => congrArg₂ (fun a b : EReal => a * b) ?_ ?_ <;>
    blk_ext [iblk, V, idx t]

end Cert.InBIdeal.Value

namespace Cert.InBReferenceIdeal.Value

open Cert.InBReferenceIdeal Cert.InBReferenceIdeal.Gen Idealize.ShloMosaic Idealize.ShloMosaic.TcCoe Idealize.ShloMosaic.StableHlo
open Cert.Products (nn)

variable (A : Vec Ideal S8192x1024 .bf16)

theorem prod_eq_512 (B : Vec Ideal S1024x512 .bf16) :
    Host.dotGeneral (F := Ideal) dot_S8192x1024_S1024x512_S8192x512_1_0_0_1_n_n none (extf .f32 A bitsLt_bf16_f32)
      (extf .f32 B bitsLt_bf16_f32) = nn A B := by
  funext i; idx_vars i; pointwise [nn]

theorem prod_eq_1536 (B : Vec Ideal S1024x1536 .bf16) :
    Host.dotGeneral (F := Ideal) dot_S8192x1024_S1024x1536_S8192x1536_1_0_0_1_n_n none (extf .f32 A bitsLt_bf16_f32)
      (extf .f32 B bitsLt_bf16_f32) = nn A B := by
  funext i; idx_vars i; pointwise [nn]

end Cert.InBReferenceIdeal.Value

end
-- ==== Proof.InC.lean ====
module

public import proofs.«01_k».proof.Proof.Gen.InCIdeal.Value
public import proofs.«01_k».proof.Proof.Gen.InCReferenceIdeal.Run
public import proofs.«01_k».proof.Proof.Products
public import Idealize.ShloMosaic.Lib.Pipeline.ValueKit
public import Idealize.ShloMosaic.Lib.Pointwise

@[expose] public section

set_option maxRecDepth 16384

/-! The state-space layer's input projections: the input's rows against the columns of four weights. The kernel computes
512 rows at a grid point, the contraction and all columns whole. -/

noncomputable section

namespace Cert.InCIdeal.Value

open Cert.InCIdeal Cert.InCIdeal.Gen Idealize.ShloMosaic Idealize.ShloMosaic.TcCoe Idealize.ShloMosaic.Tactic
open Idealize.SL Idealize.SL.Sem
open Idealize.ShloMosaic.Pipeline (Dat)
open Cert.Products (nn)

theorem idx : ∀ t : Fin cfg0.N,
    win0_0.index t = ![t.val, 0] ∧ win0_1.index t = ![0, 0] ∧ win0_2.index t = ![0, 0] ∧ win0_3.index t = ![0, 0]
    ∧ win0_4.index t = ![0, 0] ∧ win0_5.index t = ![t.val, 0] ∧ win0_6.index t = ![t.val, 0] ∧ win0_7.index t =
    ![t.val, 0] ∧ win0_8.index t = ![t.val, 0] :=
  (by decide +kernel : ∀ t : Fin grid0.N,
    win0_0.index t = ![t.val, 0] ∧ win0_1.index t = ![0, 0] ∧ win0_2.index t = ![0, 0] ∧ win0_3.index t = ![0, 0]
    ∧ win0_4.index t = ![0, 0] ∧ win0_5.index t = ![t.val, 0] ∧ win0_6.index t = ![t.val, 0] ∧ win0_7.index t =
    ![t.val, 0] ∧ win0_8.index t = ![t.val, 0])

variable (m : (ℓ : Loc nD τ sig) → Buf (Elt Ideal) ℓ) (c : Dev nD)

section
variable (x0 : Vec Ideal S512x1024 .bf16) (x1 : Vec Ideal S1024x1536 .bf16) (x2 : Vec Ideal S1024x2048 .bf16) (x3 : Vec
    Ideal S1024x128 .bf16) (x4 : Vec Ideal S1024x512 .bf16)

theorem out5_at (i : Fin 512) (j : Fin 1536) :
    out0_5 x0 x1 x2 x3 x4 (ix2 i j) = ∑ k : Fin 1024, (x0 (ix2 i k) * x1 (ix2 k j) : EReal) := by
  unfold out0_5; rw [View.canon_unit_zero (by decide)]; pointwise [k0_pay1]

theorem out6_at (i : Fin 512) (j : Fin 2048) :
    out0_6 x0 x1 x2 x3 x4 (ix2 i j) = ∑ k : Fin 1024, (x0 (ix2 i k) * x2 (ix2 k j) : EReal) := by
  unfold out0_6; rw [View.canon_unit_zero (by decide)]; pointwise [k0_pay2]

theorem out7_at (i : Fin 512) (j : Fin 128) :
    out0_7 x0 x1 x2 x3 x4 (ix2 i j) = ∑ k : Fin 1024, (x0 (ix2 i k) * x3 (ix2 k j) : EReal) := by
  unfold out0_7; rw [View.canon_unit_zero (by decide)]; pointwise [k0_pay3]

theorem out8_at (i : Fin 512) (j : Fin 512) :
    out0_8 x0 x1 x2 x3 x4 (ix2 i j) = ∑ k : Fin 1024, (x0 (ix2 i k) * x4 (ix2 k j) : EReal) := by
  unfold out0_8; rw [View.canon_unit_zero (by decide)]; pointwise [k0_pay4]

end

theorem final5 : (dats m 0 c).arrAt 5 cfg0.N =
    nn (m ((c : Thread nD τ).loc main_arg0)) (m ((c : Thread nD τ).loc main_arg1)) := by
  refine (dats m 0 c).arrAt_eq_of_covers 5 _ (by decide +kernel) fun t hf y => ?_
  blk_simp
  rw [after0_5]
  idx_vars y
  rw [out5_at]
  refine Finset.sum_congr (M := EReal) rfl fun k _ => congrArg₂ (fun a b : EReal => a * b) ?_ ?_ <;>
    blk_ext [iblk, V, idx t]

theorem final6 : (dats m 0 c).arrAt 6 cfg0.N =
    nn (m ((c : Thread nD τ).loc main_arg0)) (m ((c : Thread nD τ).loc main_arg2)) := by
  refine (dats m 0 c).arrAt_eq_of_covers 6 _ (by decide +kernel) fun t hf y => ?_
  blk_simp
  rw [after0_6]
  idx_vars y
  rw [out6_at]
  refine Finset.sum_congr (M := EReal) rfl fun k _ => congrArg₂ (fun a b : EReal => a * b) ?_ ?_ <;>
    blk_ext [iblk, V, idx t]

theorem final7 : (dats m 0 c).arrAt 7 cfg0.N =
    nn (m ((c : Thread nD τ).loc main_arg0)) (m ((c : Thread nD τ).loc main_arg3)) := by
  refine (dats m 0 c).arrAt_eq_of_covers 7 _ (by decide +kernel) fun t hf y => ?_
  blk_simp
  rw [after0_7]
  idx_vars y
  rw [out7_at]
  refine Finset.sum_congr (M := EReal) rfl fun k _ => congrArg₂ (fun a b : EReal => a * b) ?_ ?_ <;>
    blk_ext [iblk, V, idx t]

theorem final8 : (dats m 0 c).arrAt 8 cfg0.N =
    nn (m ((c : Thread nD τ).loc main_arg0)) (m ((c : Thread nD τ).loc main_arg4)) := by
  refine (dats m 0 c).arrAt_eq_of_covers 8 _ (by decide +kernel) fun t hf y => ?_
  blk_simp
  rw [after0_8]
  idx_vars y
  rw [out8_at]
  refine Finset.sum_congr (M := EReal) rfl fun k _ => congrArg₂ (fun a b : EReal => a * b) ?_ ?_ <;>
    blk_ext [iblk, V, idx t]

end Cert.InCIdeal.Value

namespace Cert.InCReferenceIdeal.Value

open Cert.InCReferenceIdeal Cert.InCReferenceIdeal.Gen Idealize.ShloMosaic Idealize.ShloMosaic.TcCoe Idealize.ShloMosaic.StableHlo
open Cert.Products (nn)

variable (A : Vec Ideal S8192x1024 .bf16)

theorem prod_eq_128 (B : Vec Ideal S1024x128 .bf16) :
    Host.dotGeneral (F := Ideal) dot_S8192x1024_S1024x128_S8192x128_1_0_0_1_n_n none (extf .f32 A bitsLt_bf16_f32)
      (extf .f32 B bitsLt_bf16_f32) = nn A B := by
  funext i; idx_vars i; pointwise [nn]

theorem prod_eq_512 (B : Vec Ideal S1024x512 .bf16) :
    Host.dotGeneral (F := Ideal) dot_S8192x1024_S1024x512_S8192x512_1_0_0_1_n_n none (extf .f32 A bitsLt_bf16_f32)
      (extf .f32 B bitsLt_bf16_f32) = nn A B := by
  funext i; idx_vars i; pointwise [nn]

theorem prod_eq_1536 (B : Vec Ideal S1024x1536 .bf16) :
    Host.dotGeneral (F := Ideal) dot_S8192x1024_S1024x1536_S8192x1536_1_0_0_1_n_n none (extf .f32 A bitsLt_bf16_f32)
      (extf .f32 B bitsLt_bf16_f32) = nn A B := by
  funext i; idx_vars i; pointwise [nn]

theorem prod_eq_2048 (B : Vec Ideal S1024x2048 .bf16) :
    Host.dotGeneral (F := Ideal) dot_S8192x1024_S1024x2048_S8192x2048_1_0_0_1_n_n none (extf .f32 A bitsLt_bf16_f32)
      (extf .f32 B bitsLt_bf16_f32) = nn A B := by
  funext i; idx_vars i; pointwise [nn]

end Cert.InCReferenceIdeal.Value

end
-- ==== Proof.InD.lean ====
module

public import proofs.«01_k».proof.Proof.Gen.InDIdeal.Value
public import proofs.«01_k».proof.Proof.Gen.InDReferenceIdeal.Run
public import proofs.«01_k».proof.Proof.Products
public import Idealize.ShloMosaic.Lib.Pipeline.ValueKit
public import Idealize.ShloMosaic.Lib.Pointwise

@[expose] public section

set_option maxRecDepth 16384

/-! The HGRN2 layer's input projections: the input's rows against the columns of five weights. The kernel computes
512 rows at a grid point, the contraction and all columns whole. -/

noncomputable section

namespace Cert.InDIdeal.Value

open Cert.InDIdeal Cert.InDIdeal.Gen Idealize.ShloMosaic Idealize.ShloMosaic.TcCoe Idealize.ShloMosaic.Tactic
open Idealize.SL Idealize.SL.Sem
open Idealize.ShloMosaic.Pipeline (Dat)
open Cert.Products (nn)

theorem idx : ∀ t : Fin cfg0.N,
    win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![t.val, 0] ∧ win0_7.index t =
    ![t.val, 0] ∧ win0_8.index t = ![t.val, 0] ∧ win0_9.index t = ![t.val, 0] ∧ win0_10.index t = ![t.val, 0] :=
  (by decide +kernel : ∀ t : Fin grid0.N,
    win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![t.val, 0] ∧ win0_7.index t =
    ![t.val, 0] ∧ win0_8.index t = ![t.val, 0] ∧ win0_9.index t = ![t.val, 0] ∧ win0_10.index t = ![t.val, 0])

variable (m : (ℓ : Loc nD τ sig) → Buf (Elt Ideal) ℓ) (c : Dev nD)

section
variable (x0 : Vec Ideal S512x1024 .bf16) (x1 x2 x3 x4 : Vec Ideal S1024x768 .bf16) (x5 : Vec Ideal S1024x512 .bf16)

theorem out6_at (i : Fin 512) (j : Fin 768) :
    out0_6 x0 x1 x2 x3 x4 x5 (ix2 i j) = ∑ k : Fin 1024, (x0 (ix2 i k) * x1 (ix2 k j) : EReal) := by
  unfold out0_6; rw [View.canon_unit_zero (by decide)]; pointwise [k0_pay1]

theorem out7_at (i : Fin 512) (j : Fin 768) :
    out0_7 x0 x1 x2 x3 x4 x5 (ix2 i j) = ∑ k : Fin 1024, (x0 (ix2 i k) * x2 (ix2 k j) : EReal) := by
  unfold out0_7; rw [View.canon_unit_zero (by decide)]; pointwise [k0_pay2]

theorem out8_at (i : Fin 512) (j : Fin 768) :
    out0_8 x0 x1 x2 x3 x4 x5 (ix2 i j) = ∑ k : Fin 1024, (x0 (ix2 i k) * x3 (ix2 k j) : EReal) := by
  unfold out0_8; rw [View.canon_unit_zero (by decide)]; pointwise [k0_pay3]

theorem out9_at (i : Fin 512) (j : Fin 768) :
    out0_9 x0 x1 x2 x3 x4 x5 (ix2 i j) = ∑ k : Fin 1024, (x0 (ix2 i k) * x4 (ix2 k j) : EReal) := by
  unfold out0_9; rw [View.canon_unit_zero (by decide)]; pointwise [k0_pay4]

theorem out10_at (i : Fin 512) (j : Fin 512) :
    out0_10 x0 x1 x2 x3 x4 x5 (ix2 i j) = ∑ k : Fin 1024, (x0 (ix2 i k) * x5 (ix2 k j) : EReal) := by
  unfold out0_10; rw [View.canon_unit_zero (by decide)]; pointwise [k0_pay5]

end

theorem final6 : (dats m 0 c).arrAt 6 cfg0.N =
    nn (m ((c : Thread nD τ).loc main_arg0)) (m ((c : Thread nD τ).loc main_arg1)) := by
  refine (dats m 0 c).arrAt_eq_of_covers 6 _ (by decide +kernel) fun t hf y => ?_
  blk_simp
  rw [after0_6]
  idx_vars y
  rw [out6_at]
  refine Finset.sum_congr (M := EReal) rfl fun k _ => congrArg₂ (fun a b : EReal => a * b) ?_ ?_ <;>
    blk_ext [iblk, V, idx t]

theorem final7 : (dats m 0 c).arrAt 7 cfg0.N =
    nn (m ((c : Thread nD τ).loc main_arg0)) (m ((c : Thread nD τ).loc main_arg2)) := by
  refine (dats m 0 c).arrAt_eq_of_covers 7 _ (by decide +kernel) fun t hf y => ?_
  blk_simp
  rw [after0_7]
  idx_vars y
  rw [out7_at]
  refine Finset.sum_congr (M := EReal) rfl fun k _ => congrArg₂ (fun a b : EReal => a * b) ?_ ?_ <;>
    blk_ext [iblk, V, idx t]

theorem final8 : (dats m 0 c).arrAt 8 cfg0.N =
    nn (m ((c : Thread nD τ).loc main_arg0)) (m ((c : Thread nD τ).loc main_arg3)) := by
  refine (dats m 0 c).arrAt_eq_of_covers 8 _ (by decide +kernel) fun t hf y => ?_
  blk_simp
  rw [after0_8]
  idx_vars y
  rw [out8_at]
  refine Finset.sum_congr (M := EReal) rfl fun k _ => congrArg₂ (fun a b : EReal => a * b) ?_ ?_ <;>
    blk_ext [iblk, V, idx t]

theorem final9 : (dats m 0 c).arrAt 9 cfg0.N =
    nn (m ((c : Thread nD τ).loc main_arg0)) (m ((c : Thread nD τ).loc main_arg4)) := by
  refine (dats m 0 c).arrAt_eq_of_covers 9 _ (by decide +kernel) fun t hf y => ?_
  blk_simp
  rw [after0_9]
  idx_vars y
  rw [out9_at]
  refine Finset.sum_congr (M := EReal) rfl fun k _ => congrArg₂ (fun a b : EReal => a * b) ?_ ?_ <;>
    blk_ext [iblk, V, idx t]

theorem final10 : (dats m 0 c).arrAt 10 cfg0.N =
    nn (m ((c : Thread nD τ).loc main_arg0)) (m ((c : Thread nD τ).loc main_arg5)) := by
  refine (dats m 0 c).arrAt_eq_of_covers 10 _ (by decide +kernel) fun t hf y => ?_
  blk_simp
  rw [after0_10]
  idx_vars y
  rw [out10_at]
  refine Finset.sum_congr (M := EReal) rfl fun k _ => congrArg₂ (fun a b : EReal => a * b) ?_ ?_ <;>
    blk_ext [iblk, V, idx t]

end Cert.InDIdeal.Value

namespace Cert.InDReferenceIdeal.Value

open Cert.InDReferenceIdeal Cert.InDReferenceIdeal.Gen Idealize.ShloMosaic Idealize.ShloMosaic.TcCoe Idealize.ShloMosaic.StableHlo
open Cert.Products (nn)

variable (A : Vec Ideal S8192x1024 .bf16)

theorem prod_eq_512 (B : Vec Ideal S1024x512 .bf16) :
    Host.dotGeneral (F := Ideal) dot_S8192x1024_S1024x512_S8192x512_1_0_0_1_n_n none (extf .f32 A bitsLt_bf16_f32)
      (extf .f32 B bitsLt_bf16_f32) = nn A B := by
  funext i; idx_vars i; pointwise [nn]

theorem prod_eq_768 (B : Vec Ideal S1024x768 .bf16) :
    Host.dotGeneral (F := Ideal) dot_S8192x1024_S1024x768_S8192x768_1_0_0_1_n_n none (extf .f32 A bitsLt_bf16_f32)
      (extf .f32 B bitsLt_bf16_f32) = nn A B := by
  funext i; idx_vars i; pointwise [nn]

end Cert.InDReferenceIdeal.Value

end
-- ==== Proof.InActA.lean ====
module

public import proofs.«01_k».proof.Proof.Gen.InActAIdeal.Value
public import proofs.«01_k».proof.Proof.Gen.InActAReferenceIdeal.Run
public import proofs.«01_k».proof.Proof.Products
public import Idealize.ShloMosaic.Lib.Pipeline.ValueKit
public import Idealize.ShloMosaic.Lib.Pointwise

@[expose] public section

set_option maxRecDepth 16384

/-! The gradient that the gated linear attention's input projections give their input: the rows of the six projections' gradients
against the rows of their weights, summed. The kernel computes 512 rows at a grid point, each contraction whole, and adds
from the first projection to the last; the reference adds from the last to the first. -/

noncomputable section

namespace Cert.InActAIdeal.Value

open Cert.InActAIdeal Cert.InActAIdeal.Gen Idealize.ShloMosaic Idealize.ShloMosaic.TcCoe Idealize.ShloMosaic.Tactic
open Idealize.SL Idealize.SL.Sem
open Idealize.ShloMosaic.Pipeline (Dat)
open Cert.Products (Mat nt)

/-- What a grid point stores, at an index. -/
theorem out_at (x0 : Vec Ideal S512x512 .f32) (x1 : Vec Ideal S512x512 .f32) (x2 : Vec Ideal S512x1024 .f32)
    (x3 : Vec Ideal S512x128 .bf16) (x4 : Vec Ideal S512x1024 .f32) (x5 : Vec Ideal S512x512 .bf16)
    (x6 : Vec Ideal S1024x512 .bf16) (x7 : Vec Ideal S1024x512 .bf16) (x8 : Vec Ideal S1024x1024 .bf16)
    (x9 : Vec Ideal S1024x128 .bf16) (x10 : Vec Ideal S1024x1024 .bf16) (x11 : Vec Ideal S1024x512 .bf16)
    (i : Fin 512) (j : Fin 1024) : out0_12 x0 x1 x2 x3 x4 x5 x6 x7 x8 x9 x10 x11 (ix2 i j) =
    ((∑ k : Fin 512, (x0 (ix2 i k) * x6 (ix2 j k) : EReal))
      + (∑ k : Fin 512, (x1 (ix2 i k) * x7 (ix2 j k) : EReal))
      + (∑ k : Fin 1024, (x2 (ix2 i k) * x8 (ix2 j k) : EReal))
      + (∑ k : Fin 128, (x3 (ix2 i k) * x9 (ix2 j k) : EReal))
      + (∑ k : Fin 1024, (x4 (ix2 i k) * x10 (ix2 j k) : EReal))
      + (∑ k : Fin 512, (x5 (ix2 i k) * x11 (ix2 j k) : EReal)) : EReal) := by
  unfold out0_12
  rw [View.canon_unit_zero (by decide)]
  pointwise [k0_pay1]

theorem idx : ∀ t : Fin cfg0.N,
    win0_0.index t = ![t.val, 0] ∧ win0_1.index t = ![t.val, 0] ∧ win0_2.index t = ![t.val, 0] ∧ win0_3.index
    t = ![t.val, 0] ∧ win0_4.index t = ![t.val, 0] ∧ win0_5.index t = ![t.val, 0] ∧ win0_6.index t = ![0, 0] ∧
    win0_7.index t = ![0, 0] ∧ win0_8.index t = ![0, 0] ∧ win0_9.index t = ![0, 0] ∧ win0_10.index t = ![0, 0] ∧
    win0_11.index t = ![0, 0] ∧ win0_12.index t = ![t.val, 0] :=
  (by decide +kernel : ∀ t : Fin grid0.N,
    win0_0.index t = ![t.val, 0] ∧ win0_1.index t = ![t.val, 0] ∧ win0_2.index t = ![t.val, 0] ∧ win0_3.index
    t = ![t.val, 0] ∧ win0_4.index t = ![t.val, 0] ∧ win0_5.index t = ![t.val, 0] ∧ win0_6.index t = ![0, 0] ∧
    win0_7.index t = ![0, 0] ∧ win0_8.index t = ![0, 0] ∧ win0_9.index t = ![0, 0] ∧ win0_10.index t = ![0, 0] ∧
    win0_11.index t = ![0, 0] ∧ win0_12.index t = ![t.val, 0])

variable (m : (ℓ : Loc nD τ sig) → Buf (Elt Ideal) ℓ) (c : Dev nD)

/-- The sum of the six products, each of a gradient's rows with a weight's rows. -/
def grad (D0 : Mat 8192 512) (W0 : Mat 1024 512) (D1 : Mat 8192 512) (W1 : Mat 1024 512) (D2 : Mat 8192 1024)
    (W2 : Mat 1024 1024) (D3 : Mat 8192 128) (W3 : Mat 1024 128) (D4 : Mat 8192 1024) (W4 : Mat 1024 1024)
    (D5 : Mat 8192 512) (W5 : Mat 1024 512) : Mat 8192 1024 := fun i =>
  nt D0 W0 i + nt D1 W1 i + nt D2 W2 i + nt D3 W3 i + nt D4 W4 i + nt D5 W5 i

set_option maxHeartbeats 800000 in
theorem final : (dats m 0 c).arrAt 12 cfg0.N =
    grad (m ((c : Thread nD τ).loc main_arg0)) (m ((c : Thread nD τ).loc main_arg6))
      (m ((c : Thread nD τ).loc main_arg1)) (m ((c : Thread nD τ).loc main_arg7))
      (m ((c : Thread nD τ).loc main_arg2)) (m ((c : Thread nD τ).loc main_arg8))
      (m ((c : Thread nD τ).loc main_arg3)) (m ((c : Thread nD τ).loc main_arg9))
      (m ((c : Thread nD τ).loc main_arg4)) (m ((c : Thread nD τ).loc main_arg10))
      (m ((c : Thread nD τ).loc main_arg5)) (m ((c : Thread nD τ).loc main_arg11)) := by
  refine (dats m 0 c).arrAt_eq_of_covers 12 _ (by decide +kernel) fun t hf y => ?_
  blk_simp
  rw [after0_12]
  idx_vars y
  rw [out_at]
  refine congrArg₂ (fun a b : EReal => a + b)
    (congrArg₂ (fun a b : EReal => a + b)
    (congrArg₂ (fun a b : EReal => a + b)
    (congrArg₂ (fun a b : EReal => a + b)
    (congrArg₂ (fun a b : EReal => a + b)
    (Finset.sum_congr (M := EReal) rfl fun k _ => congrArg₂ (fun a b : EReal => a * b) ?_ ?_)
    (Finset.sum_congr (M := EReal) rfl fun k _ => congrArg₂ (fun a b : EReal => a * b) ?_ ?_))
    (Finset.sum_congr (M := EReal) rfl fun k _ => congrArg₂ (fun a b : EReal => a * b) ?_ ?_))
    (Finset.sum_congr (M := EReal) rfl fun k _ => congrArg₂ (fun a b : EReal => a * b) ?_ ?_))
    (Finset.sum_congr (M := EReal) rfl fun k _ => congrArg₂ (fun a b : EReal => a * b) ?_ ?_))
    (Finset.sum_congr (M := EReal) rfl fun k _ => congrArg₂ (fun a b : EReal => a * b) ?_ ?_) <;>
    blk_ext [iblk, V, idx t]

end Cert.InActAIdeal.Value

namespace Cert.InActAReferenceIdeal.Value

open Cert.InActAReferenceIdeal Cert.InActAReferenceIdeal.Gen Idealize.ShloMosaic Idealize.ShloMosaic.TcCoe Idealize.ShloMosaic.StableHlo
open Cert.Products (Mat nt)

/-- The reference's composed term is the same function. -/
theorem grad_eq (D0 : FVec Ideal S8192x512 .f32) (D1 : FVec Ideal S8192x512 .f32) (D2 : FVec Ideal S8192x1024 .f32)
    (D3 : FVec Ideal S8192x128 .bf16) (D4 : FVec Ideal S8192x1024 .f32) (D5 : FVec Ideal S8192x512 .bf16)
    (W0 : Vec Ideal S1024x512 .bf16) (W1 : Vec Ideal S1024x512 .bf16) (W2 : Vec Ideal S1024x1024 .bf16)
    (W3 : Vec Ideal S1024x128 .bf16) (W4 : Vec Ideal S1024x1024 .bf16) (W5 : Vec Ideal S1024x512 .bf16) :
    addf (addf (addf (addf (addf
      (Host.dotGeneral (F := Ideal) dot_S8192x512_S1024x512_S8192x1024_1_1_0_0_n_n none (extf .f32 D5 bitsLt_bf16_f32) (extf .f32 W5 bitsLt_bf16_f32))
      (Host.dotGeneral (F := Ideal) dot_S8192x1024_S1024x1024_S8192x1024_1_1_0_0_n_n none D4 (extf .f32 W4 bitsLt_bf16_f32)))
      (Host.dotGeneral (F := Ideal) dot_S8192x128_S1024x128_S8192x1024_1_1_0_0_n_n none (extf .f32 D3 bitsLt_bf16_f32) (extf .f32 W3 bitsLt_bf16_f32)))
      (Host.dotGeneral (F := Ideal) dot_S8192x1024_S1024x1024_S8192x1024_1_1_0_0_n_n none D2 (extf .f32 W2 bitsLt_bf16_f32)))
      (Host.dotGeneral (F := Ideal) dot_S8192x512_S1024x512_S8192x1024_1_1_0_0_n_n none D1 (extf .f32 W1 bitsLt_bf16_f32)))
      (Host.dotGeneral (F := Ideal) dot_S8192x512_S1024x512_S8192x1024_1_1_0_0_n_n none D0 (extf .f32 W0 bitsLt_bf16_f32))
      = Cert.InActAIdeal.Value.grad D0 W0 D1 W1 D2 W2 D3 W3 D4 W4 D5 W5 := by
  funext i
  idx_vars i
  unfold Cert.InActAIdeal.Value.grad
  pointwise [nt]
  ac_rfl

end Cert.InActAReferenceIdeal.Value

end
-- ==== Proof.InActB.lean ====
module

public import proofs.«01_k».proof.Proof.Gen.InActBIdeal.Value
public import proofs.«01_k».proof.Proof.Gen.InActBReferenceIdeal.Run
public import proofs.«01_k».proof.Proof.Products
public import Idealize.ShloMosaic.Lib.Pipeline.ValueKit
public import Idealize.ShloMosaic.Lib.Pointwise

@[expose] public section

set_option maxRecDepth 16384

/-! The gradient that the dilated attention's input projections give their input: the rows of the four projections' gradients
against the rows of their weights, summed. The kernel computes 512 rows at a grid point, each contraction whole, and adds
from the first projection to the last; the reference adds from the last to the first. -/

noncomputable section

namespace Cert.InActBIdeal.Value

open Cert.InActBIdeal Cert.InActBIdeal.Gen Idealize.ShloMosaic Idealize.ShloMosaic.TcCoe Idealize.ShloMosaic.Tactic
open Idealize.SL Idealize.SL.Sem
open Idealize.ShloMosaic.Pipeline (Dat)
open Cert.Products (Mat nt)

/-- What a grid point stores, at an index. -/
theorem out_at (x0 : Vec Ideal S512x1536 .bf16) (x1 : Vec Ideal S512x1536 .bf16) (x2 : Vec Ideal S512x1536 .f32)
    (x3 : Vec Ideal S512x512 .bf16) (x4 : Vec Ideal S1024x1536 .bf16) (x5 : Vec Ideal S1024x1536 .bf16)
    (x6 : Vec Ideal S1024x1536 .bf16) (x7 : Vec Ideal S1024x512 .bf16)
    (i : Fin 512) (j : Fin 1024) : out0_8 x0 x1 x2 x3 x4 x5 x6 x7 (ix2 i j) =
    ((∑ k : Fin 1536, (x0 (ix2 i k) * x4 (ix2 j k) : EReal))
      + (∑ k : Fin 1536, (x1 (ix2 i k) * x5 (ix2 j k) : EReal))
      + (∑ k : Fin 1536, (x2 (ix2 i k) * x6 (ix2 j k) : EReal))
      + (∑ k : Fin 512, (x3 (ix2 i k) * x7 (ix2 j k) : EReal)) : EReal) := by
  unfold out0_8
  rw [View.canon_unit_zero (by decide)]
  pointwise [k0_pay1]

theorem idx : ∀ t : Fin cfg0.N,
    win0_0.index t = ![t.val, 0] ∧ win0_1.index t = ![t.val, 0] ∧ win0_2.index t = ![t.val, 0] ∧ win0_3.index
    t = ![t.val, 0] ∧ win0_4.index t = ![0, 0] ∧ win0_5.index t = ![0, 0] ∧ win0_6.index t = ![0, 0] ∧ win0_7.index
    t = ![0, 0] ∧ win0_8.index t = ![t.val, 0] :=
  (by decide +kernel : ∀ t : Fin grid0.N,
    win0_0.index t = ![t.val, 0] ∧ win0_1.index t = ![t.val, 0] ∧ win0_2.index t = ![t.val, 0] ∧ win0_3.index
    t = ![t.val, 0] ∧ win0_4.index t = ![0, 0] ∧ win0_5.index t = ![0, 0] ∧ win0_6.index t = ![0, 0] ∧ win0_7.index
    t = ![0, 0] ∧ win0_8.index t = ![t.val, 0])

variable (m : (ℓ : Loc nD τ sig) → Buf (Elt Ideal) ℓ) (c : Dev nD)

/-- The sum of the four products, each of a gradient's rows with a weight's rows. -/
def grad (D0 : Mat 8192 1536) (W0 : Mat 1024 1536) (D1 : Mat 8192 1536) (W1 : Mat 1024 1536) (D2 : Mat 8192 1536)
    (W2 : Mat 1024 1536) (D3 : Mat 8192 512) (W3 : Mat 1024 512) : Mat 8192 1024 := fun i =>
  nt D0 W0 i + nt D1 W1 i + nt D2 W2 i + nt D3 W3 i

set_option maxHeartbeats 800000 in
theorem final : (dats m 0 c).arrAt 8 cfg0.N =
    grad (m ((c : Thread nD τ).loc main_arg0)) (m ((c : Thread nD τ).loc main_arg4))
      (m ((c : Thread nD τ).loc main_arg1)) (m ((c : Thread nD τ).loc main_arg5))
      (m ((c : Thread nD τ).loc main_arg2)) (m ((c : Thread nD τ).loc main_arg6))
      (m ((c : Thread nD τ).loc main_arg3)) (m ((c : Thread nD τ).loc main_arg7)) := by
  refine (dats m 0 c).arrAt_eq_of_covers 8 _ (by decide +kernel) fun t hf y => ?_
  blk_simp
  rw [after0_8]
  idx_vars y
  rw [out_at]
  refine congrArg₂ (fun a b : EReal => a + b)
    (congrArg₂ (fun a b : EReal => a + b)
    (congrArg₂ (fun a b : EReal => a + b)
    (Finset.sum_congr (M := EReal) rfl fun k _ => congrArg₂ (fun a b : EReal => a * b) ?_ ?_)
    (Finset.sum_congr (M := EReal) rfl fun k _ => congrArg₂ (fun a b : EReal => a * b) ?_ ?_))
    (Finset.sum_congr (M := EReal) rfl fun k _ => congrArg₂ (fun a b : EReal => a * b) ?_ ?_))
    (Finset.sum_congr (M := EReal) rfl fun k _ => congrArg₂ (fun a b : EReal => a * b) ?_ ?_) <;>
    blk_ext [iblk, V, idx t]

end Cert.InActBIdeal.Value

namespace Cert.InActBReferenceIdeal.Value

open Cert.InActBReferenceIdeal Cert.InActBReferenceIdeal.Gen Idealize.ShloMosaic Idealize.ShloMosaic.TcCoe Idealize.ShloMosaic.StableHlo
open Cert.Products (Mat nt)

/-- The reference's composed term is the same function. -/
theorem grad_eq (D0 : FVec Ideal S8192x1536 .bf16) (D1 : FVec Ideal S8192x1536 .bf16) (D2 : FVec Ideal S8192x1536 .f32)
    (D3 : FVec Ideal S8192x512 .bf16) (W0 : Vec Ideal S1024x1536 .bf16) (W1 : Vec Ideal S1024x1536 .bf16)
    (W2 : Vec Ideal S1024x1536 .bf16) (W3 : Vec Ideal S1024x512 .bf16) :
    addf (addf (addf
      (Host.dotGeneral (F := Ideal) dot_S8192x512_S1024x512_S8192x1024_1_1_0_0_n_n none (extf .f32 D3 bitsLt_bf16_f32) (extf .f32 W3 bitsLt_bf16_f32))
      (Host.dotGeneral (F := Ideal) dot_S8192x1536_S1024x1536_S8192x1024_1_1_0_0_n_n none D2 (extf .f32 W2 bitsLt_bf16_f32)))
      (Host.dotGeneral (F := Ideal) dot_S8192x1536_S1024x1536_S8192x1024_1_1_0_0_n_n none (extf .f32 D1 bitsLt_bf16_f32) (extf .f32 W1 bitsLt_bf16_f32)))
      (Host.dotGeneral (F := Ideal) dot_S8192x1536_S1024x1536_S8192x1024_1_1_0_0_n_n none (extf .f32 D0 bitsLt_bf16_f32) (extf .f32 W0 bitsLt_bf16_f32))
      = Cert.InActBIdeal.Value.grad D0 W0 D1 W1 D2 W2 D3 W3 := by
  funext i
  idx_vars i
  unfold Cert.InActBIdeal.Value.grad
  pointwise [nt]
  ac_rfl

end Cert.InActBReferenceIdeal.Value

end
-- ==== Proof.InActC.lean ====
module

public import proofs.«01_k».proof.Proof.Gen.InActCIdeal.Value
public import proofs.«01_k».proof.Proof.Gen.InActCReferenceIdeal.Run
public import proofs.«01_k».proof.Proof.Products
public import Idealize.ShloMosaic.Lib.Pipeline.ValueKit
public import Idealize.ShloMosaic.Lib.Pointwise

@[expose] public section

set_option maxRecDepth 16384

/-! The gradient that the state-space layer's input projections give their input: the rows of the four projections' gradients
against the rows of their weights, summed. The kernel computes 512 rows at a grid point, each contraction whole, and adds
from the first projection to the last; the reference adds from the last to the first. -/

noncomputable section

namespace Cert.InActCIdeal.Value

open Cert.InActCIdeal Cert.InActCIdeal.Gen Idealize.ShloMosaic Idealize.ShloMosaic.TcCoe Idealize.ShloMosaic.Tactic
open Idealize.SL Idealize.SL.Sem
open Idealize.ShloMosaic.Pipeline (Dat)
open Cert.Products (Mat nt)

/-- What a grid point stores, at an index. -/
theorem out_at (x0 : Vec Ideal S512x1536 .f32) (x1 : Vec Ideal S512x2048 .bf16) (x2 : Vec Ideal S512x128 .f32)
    (x3 : Vec Ideal S512x512 .bf16) (x4 : Vec Ideal S1024x1536 .bf16) (x5 : Vec Ideal S1024x2048 .bf16)
    (x6 : Vec Ideal S1024x128 .bf16) (x7 : Vec Ideal S1024x512 .bf16)
    (i : Fin 512) (j : Fin 1024) : out0_8 x0 x1 x2 x3 x4 x5 x6 x7 (ix2 i j) =
    ((∑ k : Fin 1536, (x0 (ix2 i k) * x4 (ix2 j k) : EReal))
      + (∑ k : Fin 2048, (x1 (ix2 i k) * x5 (ix2 j k) : EReal))
      + (∑ k : Fin 128, (x2 (ix2 i k) * x6 (ix2 j k) : EReal))
      + (∑ k : Fin 512, (x3 (ix2 i k) * x7 (ix2 j k) : EReal)) : EReal) := by
  unfold out0_8
  rw [View.canon_unit_zero (by decide)]
  pointwise [k0_pay1]

theorem idx : ∀ t : Fin cfg0.N,
    win0_0.index t = ![t.val, 0] ∧ win0_1.index t = ![t.val, 0] ∧ win0_2.index t = ![t.val, 0] ∧ win0_3.index
    t = ![t.val, 0] ∧ win0_4.index t = ![0, 0] ∧ win0_5.index t = ![0, 0] ∧ win0_6.index t = ![0, 0] ∧ win0_7.index
    t = ![0, 0] ∧ win0_8.index t = ![t.val, 0] :=
  (by decide +kernel : ∀ t : Fin grid0.N,
    win0_0.index t = ![t.val, 0] ∧ win0_1.index t = ![t.val, 0] ∧ win0_2.index t = ![t.val, 0] ∧ win0_3.index
    t = ![t.val, 0] ∧ win0_4.index t = ![0, 0] ∧ win0_5.index t = ![0, 0] ∧ win0_6.index t = ![0, 0] ∧ win0_7.index
    t = ![0, 0] ∧ win0_8.index t = ![t.val, 0])

variable (m : (ℓ : Loc nD τ sig) → Buf (Elt Ideal) ℓ) (c : Dev nD)

/-- The sum of the four products, each of a gradient's rows with a weight's rows. -/
def grad (D0 : Mat 8192 1536) (W0 : Mat 1024 1536) (D1 : Mat 8192 2048) (W1 : Mat 1024 2048) (D2 : Mat 8192 128)
    (W2 : Mat 1024 128) (D3 : Mat 8192 512) (W3 : Mat 1024 512) : Mat 8192 1024 := fun i =>
  nt D0 W0 i + nt D1 W1 i + nt D2 W2 i + nt D3 W3 i

set_option maxHeartbeats 800000 in
theorem final : (dats m 0 c).arrAt 8 cfg0.N =
    grad (m ((c : Thread nD τ).loc main_arg0)) (m ((c : Thread nD τ).loc main_arg4))
      (m ((c : Thread nD τ).loc main_arg1)) (m ((c : Thread nD τ).loc main_arg5))
      (m ((c : Thread nD τ).loc main_arg2)) (m ((c : Thread nD τ).loc main_arg6))
      (m ((c : Thread nD τ).loc main_arg3)) (m ((c : Thread nD τ).loc main_arg7)) := by
  refine (dats m 0 c).arrAt_eq_of_covers 8 _ (by decide +kernel) fun t hf y => ?_
  blk_simp
  rw [after0_8]
  idx_vars y
  rw [out_at]
  refine congrArg₂ (fun a b : EReal => a + b)
    (congrArg₂ (fun a b : EReal => a + b)
    (congrArg₂ (fun a b : EReal => a + b)
    (Finset.sum_congr (M := EReal) rfl fun k _ => congrArg₂ (fun a b : EReal => a * b) ?_ ?_)
    (Finset.sum_congr (M := EReal) rfl fun k _ => congrArg₂ (fun a b : EReal => a * b) ?_ ?_))
    (Finset.sum_congr (M := EReal) rfl fun k _ => congrArg₂ (fun a b : EReal => a * b) ?_ ?_))
    (Finset.sum_congr (M := EReal) rfl fun k _ => congrArg₂ (fun a b : EReal => a * b) ?_ ?_) <;>
    blk_ext [iblk, V, idx t]

end Cert.InActCIdeal.Value

namespace Cert.InActCReferenceIdeal.Value

open Cert.InActCReferenceIdeal Cert.InActCReferenceIdeal.Gen Idealize.ShloMosaic Idealize.ShloMosaic.TcCoe Idealize.ShloMosaic.StableHlo
open Cert.Products (Mat nt)

/-- The reference's composed term is the same function. -/
theorem grad_eq (D0 : FVec Ideal S8192x1536 .f32) (D1 : FVec Ideal S8192x2048 .bf16) (D2 : FVec Ideal S8192x128 .f32)
    (D3 : FVec Ideal S8192x512 .bf16) (W0 : Vec Ideal S1024x1536 .bf16) (W1 : Vec Ideal S1024x2048 .bf16)
    (W2 : Vec Ideal S1024x128 .bf16) (W3 : Vec Ideal S1024x512 .bf16) :
    addf (addf (addf
      (Host.dotGeneral (F := Ideal) dot_S8192x512_S1024x512_S8192x1024_1_1_0_0_n_n none (extf .f32 D3 bitsLt_bf16_f32) (extf .f32 W3 bitsLt_bf16_f32))
      (Host.dotGeneral (F := Ideal) dot_S8192x128_S1024x128_S8192x1024_1_1_0_0_n_n none D2 (extf .f32 W2 bitsLt_bf16_f32)))
      (Host.dotGeneral (F := Ideal) dot_S8192x2048_S1024x2048_S8192x1024_1_1_0_0_n_n none (extf .f32 D1 bitsLt_bf16_f32) (extf .f32 W1 bitsLt_bf16_f32)))
      (Host.dotGeneral (F := Ideal) dot_S8192x1536_S1024x1536_S8192x1024_1_1_0_0_n_n none D0 (extf .f32 W0 bitsLt_bf16_f32))
      = Cert.InActCIdeal.Value.grad D0 W0 D1 W1 D2 W2 D3 W3 := by
  funext i
  idx_vars i
  unfold Cert.InActCIdeal.Value.grad
  pointwise [nt]
  ac_rfl

end Cert.InActCReferenceIdeal.Value

end
-- ==== Proof.InActD.lean ====
module

public import proofs.«01_k».proof.Proof.Gen.InActDIdeal.Value
public import proofs.«01_k».proof.Proof.Gen.InActDReferenceIdeal.Run
public import proofs.«01_k».proof.Proof.Products
public import Idealize.ShloMosaic.Lib.Pipeline.ValueKit
public import Idealize.ShloMosaic.Lib.Pointwise

@[expose] public section

set_option maxRecDepth 16384

/-! The gradient that the HGRN2 layer's input projections give their input: the rows of the five projections' gradients
against the rows of their weights, summed. The kernel computes 512 rows at a grid point, each contraction whole, and adds
from the first projection to the last; the reference adds from the last to the first. -/

noncomputable section

namespace Cert.InActDIdeal.Value

open Cert.InActDIdeal Cert.InActDIdeal.Gen Idealize.ShloMosaic Idealize.ShloMosaic.TcCoe Idealize.ShloMosaic.Tactic
open Idealize.SL Idealize.SL.Sem
open Idealize.ShloMosaic.Pipeline (Dat)
open Cert.Products (Mat nt)

/-- What a grid point stores, at an index. -/
theorem out_at (x0 : Vec Ideal S512x768 .bf16) (x1 : Vec Ideal S512x768 .bf16) (x2 : Vec Ideal S512x768 .f32)
    (x3 : Vec Ideal S512x768 .f32) (x4 : Vec Ideal S512x512 .bf16) (x5 : Vec Ideal S1024x768 .bf16)
    (x6 : Vec Ideal S1024x768 .bf16) (x7 : Vec Ideal S1024x768 .bf16) (x8 : Vec Ideal S1024x768 .bf16)
    (x9 : Vec Ideal S1024x512 .bf16)
    (i : Fin 512) (j : Fin 1024) : out0_10 x0 x1 x2 x3 x4 x5 x6 x7 x8 x9 (ix2 i j) =
    ((∑ k : Fin 768, (x0 (ix2 i k) * x5 (ix2 j k) : EReal))
      + (∑ k : Fin 768, (x1 (ix2 i k) * x6 (ix2 j k) : EReal))
      + (∑ k : Fin 768, (x2 (ix2 i k) * x7 (ix2 j k) : EReal))
      + (∑ k : Fin 768, (x3 (ix2 i k) * x8 (ix2 j k) : EReal))
      + (∑ k : Fin 512, (x4 (ix2 i k) * x9 (ix2 j k) : EReal)) : EReal) := by
  unfold out0_10
  rw [View.canon_unit_zero (by decide)]
  pointwise [k0_pay1]

theorem idx : ∀ t : Fin cfg0.N,
    win0_0.index t = ![t.val, 0] ∧ win0_1.index t = ![t.val, 0] ∧ win0_2.index t = ![t.val, 0] ∧ win0_3.index
    t = ![t.val, 0] ∧ win0_4.index t = ![t.val, 0] ∧ win0_5.index t = ![0, 0] ∧ win0_6.index t = ![0, 0] ∧
    win0_7.index t = ![0, 0] ∧ win0_8.index t = ![0, 0] ∧ win0_9.index t = ![0, 0] ∧ win0_10.index t = ![t.val, 0] :=
  (by decide +kernel : ∀ t : Fin grid0.N,
    win0_0.index t = ![t.val, 0] ∧ win0_1.index t = ![t.val, 0] ∧ win0_2.index t = ![t.val, 0] ∧ win0_3.index
    t = ![t.val, 0] ∧ win0_4.index t = ![t.val, 0] ∧ win0_5.index t = ![0, 0] ∧ win0_6.index t = ![0, 0] ∧
    win0_7.index t = ![0, 0] ∧ win0_8.index t = ![0, 0] ∧ win0_9.index t = ![0, 0] ∧ win0_10.index t = ![t.val, 0])

variable (m : (ℓ : Loc nD τ sig) → Buf (Elt Ideal) ℓ) (c : Dev nD)

/-- The sum of the five products, each of a gradient's rows with a weight's rows. -/
def grad (D0 : Mat 8192 768) (W0 : Mat 1024 768) (D1 : Mat 8192 768) (W1 : Mat 1024 768) (D2 : Mat 8192 768)
    (W2 : Mat 1024 768) (D3 : Mat 8192 768) (W3 : Mat 1024 768) (D4 : Mat 8192 512) (W4 : Mat 1024 512) : Mat 8192 1024 := fun i =>
  nt D0 W0 i + nt D1 W1 i + nt D2 W2 i + nt D3 W3 i + nt D4 W4 i

set_option maxHeartbeats 800000 in
theorem final : (dats m 0 c).arrAt 10 cfg0.N =
    grad (m ((c : Thread nD τ).loc main_arg0)) (m ((c : Thread nD τ).loc main_arg5))
      (m ((c : Thread nD τ).loc main_arg1)) (m ((c : Thread nD τ).loc main_arg6))
      (m ((c : Thread nD τ).loc main_arg2)) (m ((c : Thread nD τ).loc main_arg7))
      (m ((c : Thread nD τ).loc main_arg3)) (m ((c : Thread nD τ).loc main_arg8))
      (m ((c : Thread nD τ).loc main_arg4)) (m ((c : Thread nD τ).loc main_arg9)) := by
  refine (dats m 0 c).arrAt_eq_of_covers 10 _ (by decide +kernel) fun t hf y => ?_
  blk_simp
  rw [after0_10]
  idx_vars y
  rw [out_at]
  refine congrArg₂ (fun a b : EReal => a + b)
    (congrArg₂ (fun a b : EReal => a + b)
    (congrArg₂ (fun a b : EReal => a + b)
    (congrArg₂ (fun a b : EReal => a + b)
    (Finset.sum_congr (M := EReal) rfl fun k _ => congrArg₂ (fun a b : EReal => a * b) ?_ ?_)
    (Finset.sum_congr (M := EReal) rfl fun k _ => congrArg₂ (fun a b : EReal => a * b) ?_ ?_))
    (Finset.sum_congr (M := EReal) rfl fun k _ => congrArg₂ (fun a b : EReal => a * b) ?_ ?_))
    (Finset.sum_congr (M := EReal) rfl fun k _ => congrArg₂ (fun a b : EReal => a * b) ?_ ?_))
    (Finset.sum_congr (M := EReal) rfl fun k _ => congrArg₂ (fun a b : EReal => a * b) ?_ ?_) <;>
    blk_ext [iblk, V, idx t]

end Cert.InActDIdeal.Value

namespace Cert.InActDReferenceIdeal.Value

open Cert.InActDReferenceIdeal Cert.InActDReferenceIdeal.Gen Idealize.ShloMosaic Idealize.ShloMosaic.TcCoe Idealize.ShloMosaic.StableHlo
open Cert.Products (Mat nt)

/-- The reference's composed term is the same function. -/
theorem grad_eq (D0 : FVec Ideal S8192x768 .bf16) (D1 : FVec Ideal S8192x768 .bf16) (D2 : FVec Ideal S8192x768 .f32)
    (D3 : FVec Ideal S8192x768 .f32) (D4 : FVec Ideal S8192x512 .bf16) (W0 : Vec Ideal S1024x768 .bf16)
    (W1 : Vec Ideal S1024x768 .bf16) (W2 : Vec Ideal S1024x768 .bf16) (W3 : Vec Ideal S1024x768 .bf16)
    (W4 : Vec Ideal S1024x512 .bf16) :
    addf (addf (addf (addf
      (Host.dotGeneral (F := Ideal) dot_S8192x512_S1024x512_S8192x1024_1_1_0_0_n_n none (extf .f32 D4 bitsLt_bf16_f32) (extf .f32 W4 bitsLt_bf16_f32))
      (Host.dotGeneral (F := Ideal) dot_S8192x768_S1024x768_S8192x1024_1_1_0_0_n_n none D3 (extf .f32 W3 bitsLt_bf16_f32)))
      (Host.dotGeneral (F := Ideal) dot_S8192x768_S1024x768_S8192x1024_1_1_0_0_n_n none D2 (extf .f32 W2 bitsLt_bf16_f32)))
      (Host.dotGeneral (F := Ideal) dot_S8192x768_S1024x768_S8192x1024_1_1_0_0_n_n none (extf .f32 D1 bitsLt_bf16_f32) (extf .f32 W1 bitsLt_bf16_f32)))
      (Host.dotGeneral (F := Ideal) dot_S8192x768_S1024x768_S8192x1024_1_1_0_0_n_n none (extf .f32 D0 bitsLt_bf16_f32) (extf .f32 W0 bitsLt_bf16_f32))
      = Cert.InActDIdeal.Value.grad D0 W0 D1 W1 D2 W2 D3 W3 D4 W4 := by
  funext i
  idx_vars i
  unfold Cert.InActDIdeal.Value.grad
  pointwise [nt]
  ac_rfl

end Cert.InActDReferenceIdeal.Value

end
-- ==== Proof.InWeightQ.lean ====
module

public import proofs.«01_k».proof.Proof.Gen.InWeightQIdeal.Value
public import proofs.«01_k».proof.Proof.Gen.InWeightQReferenceIdeal.Run
public import proofs.«01_k».proof.Proof.Products
public import Idealize.ShloMosaic.Lib.Pipeline.ValueKit
public import Idealize.ShloMosaic.Lib.Pipeline.ReadBack
public import Idealize.ShloMosaic.Lib.Pointwise

@[expose] public section

set_option maxRecDepth 16384

/-! The gradient of the input weight of the dilated attention's queries (and of its keys, the same call): the input's
columns against the columns of the projection's gradient, summed over the 8192 rows. The kernel adds the four
stretches of 2048 rows one grid point after another into an accumulator which the last of the four writes out. -/

noncomputable section

namespace Cert.InWeightQIdeal.Value

open Cert.InWeightQIdeal Cert.InWeightQIdeal.Gen Idealize.ShloMosaic Idealize.ShloMosaic.TcCoe Idealize.ShloMosaic.Tactic
open Idealize.SL Idealize.SL.Sem
open Idealize.ShloMosaic.Pipeline (Dat)
open Cert.Products (tn sum_rows)

/-- A grid point's addend, at an index. -/
theorem pay1_at (x0 : Vec Ideal S2048x1024 .bf16) (x1 : Vec Ideal S2048x768 .bf16) (i : Fin 1024) (j : Fin 768) :
    k0_pay1 x0 x1 (ix2 i j) = ∑ k : Fin 2048, (x0 (ix2 k i) * x1 (ix2 k j) : EReal) := by
  pointwise [k0_pay1]

theorem pay2_at (x0 : Vec Ideal S2048x1024 .bf16) (x1 : Vec Ideal S2048x768 .bf16) (i : S1024x768.Idx) :
    k0_pay2 x0 x1 i = k0_pay1 x0 x1 i := by
  unfold k0_pay2
  simp only [shapeCast_self]

theorem pay3_at (x0 : Vec Ideal S2048x1024 .bf16) (x1 : Vec Ideal S2048x768 .bf16) (v : Vec Ideal S1024x768 .f32)
    (i : S1024x768.Idx) : k0_pay3 x0 x1 v i = (v i + k0_pay1 x0 x1 i : EReal) := by
  unfold k0_pay3
  simp only [shapeCast_self]
  rfl

variable (m : (ℓ : Loc nD τ sig) → Buf (Elt Ideal) ℓ) (c : Dev nD)

theorem idx : ∀ t : Fin cfg0.N,
    win0_0.index t = ![t.val % 4, 0] ∧ win0_1.index t = ![t.val % 4, t.val / 4] ∧ win0_2.index t = ![0, t.val / 4] :=
  (by decide +kernel : ∀ t : Fin grid0.N,
    win0_0.index t = ![t.val % 4, 0] ∧ win0_1.index t = ![t.val % 4, t.val / 4] ∧ win0_2.index t = ![0, t.val / 4])

/-- What point `n` adds to the accumulator. -/
def term (n : ℕ) : S1024x768.Idx → EReal := fun i =>
  if h : n < cfg0.N then k0_pay1 (iblk m c 0 ⟨n, h⟩) (iblk m c 1 ⟨n, h⟩) i else 0

/-- The accumulator after a point: the addends of its run up to it. -/
theorem acc_eq (t : Fin cfg0.N) (i : S1024x768.Idx) :
    ((outsAt0 m c t.val t.isLt).2 i : EReal) = 0 + ∑ k ∈ Finset.range (t.val % 4 + 1), term m c (4 * (t.val / 4) + k) i := by
  have ht (t : Fin cfg0.N) (i : S1024x768.Idx) : term m c t.val i = k0_pay1 (iblk m c 0 t) (iblk m c 1 t) i := dif_pos t.isLt
  refine Pipeline.eq_sum_of_reset_step_apply (M := EReal) (fun n h => (outsAt0 m c n h).2) 4 (fun _ => 0) (term m c) ?_ ?_ t i
  · intro t h i
    rw [outsAt0_A m c t h (by omega) (by omega), ht, zero_add]
    frame_out
    exact pay2_at ..
  · intro t h i
    rw [ht]
    by_cases h2 : t.val % 4 = 3
    · rw [outsAt0_C m c t h (by omega) h2]
      frame_out
      simp only [read_unread_whole]
      exact pay3_at ..
    · rw [outsAt0_B m c t h (by omega) h2]
      frame_out
      simp only [read_unread_whole]
      exact pay3_at ..

/-- The last point of a run writes out the accumulator. -/
theorem out_eq (t : Fin cfg0.N) (h : t.val % 4 = 3) : (outsAt0 m c t.val t.isLt).1 = (outsAt0 m c t.val t.isLt).2 := by
  rw [outsAt0_C m c t (by omega) (by omega) h]
  frame_out

theorem final : (dats m 0 c).arrAt 2 cfg0.N =
    tn (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  have hN : t.val < 8 := lt_of_lt_of_eq t.isLt N_0
  blk_simp
  rw [after0_2, out_eq m c t h3]
  idx_vars y
  refine (acc_eq m c t _).trans ?_
  unfold tn
  rw [sum_rows, zero_add, h3, ← Fin.sum_univ_eq_sum_range]
  refine Finset.sum_congr (M := EReal) rfl fun s _ => ?_
  unfold term
  rw [dif_pos (show 4 * (t.val / 4) + s.val < cfg0.N by rw [show cfg0.N = 8 from N_0]; omega), pay1_at]
  refine Finset.sum_congr (M := EReal) rfl fun k _ => ?_
  congr 1
  · blk_ext [iblk, V, idx t, idx ⟨4 * (t.val / 4) + s.val, _⟩]
  · blk_ext [iblk, V, idx t, idx ⟨4 * (t.val / 4) + s.val, _⟩]

end Cert.InWeightQIdeal.Value

namespace Cert.InWeightQReferenceIdeal.Value

open Cert.InWeightQReferenceIdeal Cert.InWeightQReferenceIdeal.Gen Idealize.ShloMosaic Idealize.ShloMosaic.TcCoe Idealize.ShloMosaic.StableHlo
open Cert.Products (tn)

/-- The reference's composed term, which is the transpose of the product the other way round, is the same function. -/
theorem grad_eq (A : Vec Ideal S8192x1024 .bf16) (B : FVec Ideal S8192x1536 .bf16) :
    transpose S1024x1536 [1, 0] (Host.dotGeneral (F := Ideal) dot_S8192x1536_S8192x1024_S1536x1024_0_0_1_1_n_n none
      (extf .f32 B bitsLt_bf16_f32) (extf .f32 A bitsLt_bf16_f32)) transposes_S1536x1024_S1024x1536_1_0 = tn A B := by
  funext i
  idx_vars i
  pointwise [tn]
  exact Finset.sum_congr (M := EReal) rfl fun k _ => mul_comm (G := EReal) _ _

end Cert.InWeightQReferenceIdeal.Value

end
-- ==== Proof.InWeightV.lean ====
module

public import proofs.«01_k».proof.Proof.Gen.InWeightVIdeal.Value
public import proofs.«01_k».proof.Proof.Gen.InWeightVReferenceIdeal.Run
public import proofs.«01_k».proof.Proof.Products
public import Idealize.ShloMosaic.Lib.Pipeline.ValueKit
public import Idealize.ShloMosaic.Lib.Pipeline.ReadBack
public import Idealize.ShloMosaic.Lib.Pointwise

@[expose] public section

set_option maxRecDepth 16384

/-! The gradient of the input weight of the dilated attention's values (and of the state-space layer's gate, the same
call): the input's columns against the columns of the projection's gradient, summed over the 8192 rows. The kernel
adds the four stretches of 2048 rows one grid point after another into an accumulator which the last of the four
writes out. -/

noncomputable section

namespace Cert.InWeightVIdeal.Value

open Cert.InWeightVIdeal Cert.InWeightVIdeal.Gen Idealize.ShloMosaic Idealize.ShloMosaic.TcCoe Idealize.ShloMosaic.Tactic
open Idealize.SL Idealize.SL.Sem
open Idealize.ShloMosaic.Pipeline (Dat)
open Cert.Products (tn sum_rows)

/-- A grid point's addend, at an index. -/
theorem pay1_at (x0 : Vec Ideal S2048x1024 .bf16) (x1 : Vec Ideal S2048x768 .f32) (i : Fin 1024) (j : Fin 768) :
    k0_pay1 x0 x1 (ix2 i j) = ∑ k : Fin 2048, (x0 (ix2 k i) * x1 (ix2 k j) : EReal) := by
  pointwise [k0_pay1]

theorem pay2_at (x0 : Vec Ideal S2048x1024 .bf16) (x1 : Vec Ideal S2048x768 .f32) (i : S1024x768.Idx) :
    k0_pay2 x0 x1 i = k0_pay1 x0 x1 i := by
  unfold k0_pay2
  simp only [shapeCast_self]

theorem pay3_at (x0 : Vec Ideal S2048x1024 .bf16) (x1 : Vec Ideal S2048x768 .f32) (v : Vec Ideal S1024x768 .f32)
    (i : S1024x768.Idx) : k0_pay3 x0 x1 v i = (v i + k0_pay1 x0 x1 i : EReal) := by
  unfold k0_pay3
  simp only [shapeCast_self]
  rfl

variable (m : (ℓ : Loc nD τ sig) → Buf (Elt Ideal) ℓ) (c : Dev nD)

theorem idx : ∀ t : Fin cfg0.N,
    win0_0.index t = ![t.val % 4, 0] ∧ win0_1.index t = ![t.val % 4, t.val / 4] ∧ win0_2.index t = ![0, t.val / 4] :=
  (by decide +kernel : ∀ t : Fin grid0.N,
    win0_0.index t = ![t.val % 4, 0] ∧ win0_1.index t = ![t.val % 4, t.val / 4] ∧ win0_2.index t = ![0, t.val / 4])

/-- What point `n` adds to the accumulator. -/
def term (n : ℕ) : S1024x768.Idx → EReal := fun i =>
  if h : n < cfg0.N then k0_pay1 (iblk m c 0 ⟨n, h⟩) (iblk m c 1 ⟨n, h⟩) i else 0

/-- The accumulator after a point: the addends of its run up to it. -/
theorem acc_eq (t : Fin cfg0.N) (i : S1024x768.Idx) :
    ((outsAt0 m c t.val t.isLt).2 i : EReal) = 0 + ∑ k ∈ Finset.range (t.val % 4 + 1), term m c (4 * (t.val / 4) + k) i := by
  have ht (t : Fin cfg0.N) (i : S1024x768.Idx) : term m c t.val i = k0_pay1 (iblk m c 0 t) (iblk m c 1 t) i := dif_pos t.isLt
  refine Pipeline.eq_sum_of_reset_step_apply (M := EReal) (fun n h => (outsAt0 m c n h).2) 4 (fun _ => 0) (term m c) ?_ ?_ t i
  · intro t h i
    rw [outsAt0_A m c t h (by omega) (by omega), ht, zero_add]
    frame_out
    exact pay2_at ..
  · intro t h i
    rw [ht]
    by_cases h2 : t.val % 4 = 3
    · rw [outsAt0_C m c t h (by omega) h2]
      frame_out
      simp only [read_unread_whole]
      exact pay3_at ..
    · rw [outsAt0_B m c t h (by omega) h2]
      frame_out
      simp only [read_unread_whole]
      exact pay3_at ..

/-- The last point of a run writes out the accumulator. -/
theorem out_eq (t : Fin cfg0.N) (h : t.val % 4 = 3) : (outsAt0 m c t.val t.isLt).1 = (outsAt0 m c t.val t.isLt).2 := by
  rw [outsAt0_C m c t (by omega) (by omega) h]
  frame_out

theorem final : (dats m 0 c).arrAt 2 cfg0.N =
    tn (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  have hN : t.val < 8 := lt_of_lt_of_eq t.isLt N_0
  blk_simp
  rw [after0_2, out_eq m c t h3]
  idx_vars y
  refine (acc_eq m c t _).trans ?_
  unfold tn
  rw [sum_rows, zero_add, h3, ← Fin.sum_univ_eq_sum_range]
  refine Finset.sum_congr (M := EReal) rfl fun s _ => ?_
  unfold term
  rw [dif_pos (show 4 * (t.val / 4) + s.val < cfg0.N by rw [show cfg0.N = 8 from N_0]; omega), pay1_at]
  refine Finset.sum_congr (M := EReal) rfl fun k _ => ?_
  congr 1
  · blk_ext [iblk, V, idx t, idx ⟨4 * (t.val / 4) + s.val, _⟩]
  · blk_ext [iblk, V, idx t, idx ⟨4 * (t.val / 4) + s.val, _⟩]

end Cert.InWeightVIdeal.Value

namespace Cert.InWeightVReferenceIdeal.Value

open Cert.InWeightVReferenceIdeal Cert.InWeightVReferenceIdeal.Gen Idealize.ShloMosaic Idealize.ShloMosaic.TcCoe Idealize.ShloMosaic.StableHlo
open Cert.Products (tn)

/-- The reference's composed term, which is the transpose of the product the other way round, is the same function. -/
theorem grad_eq (A : Vec Ideal S8192x1024 .bf16) (B : FVec Ideal S8192x1536 .f32) :
    transpose S1024x1536 [1, 0] (Host.dotGeneral (F := Ideal) dot_S8192x1536_S8192x1024_S1536x1024_0_0_1_1_n_n none
      B (extf .f32 A bitsLt_bf16_f32)) transposes_S1536x1024_S1024x1536_1_0 = tn A B := by
  funext i
  idx_vars i
  pointwise [tn]
  exact Finset.sum_congr (M := EReal) rfl fun k _ => mul_comm (G := EReal) _ _

end Cert.InWeightVReferenceIdeal.Value

end
-- ==== Proof.InWeightF.lean ====
module

public import proofs.«01_k».proof.Proof.Gen.InWeightFIdeal.Value
public import proofs.«01_k».proof.Proof.Gen.InWeightFReferenceIdeal.Run
public import proofs.«01_k».proof.Proof.Products
public import Idealize.ShloMosaic.Lib.Pipeline.ValueKit
public import Idealize.ShloMosaic.Lib.Pipeline.ReadBack
public import Idealize.ShloMosaic.Lib.Pointwise

@[expose] public section

set_option maxRecDepth 16384

/-! The gradient of the input weight of the HGRN2 layer's queries (and of its forget gate, the same call): the input's
columns against the columns of the projection's gradient, summed over the 8192 rows. The kernel adds the four
stretches of 2048 rows one grid point after another into an accumulator which the last of the four writes out. -/

noncomputable section

namespace Cert.InWeightFIdeal.Value

open Cert.InWeightFIdeal Cert.InWeightFIdeal.Gen Idealize.ShloMosaic Idealize.ShloMosaic.TcCoe Idealize.ShloMosaic.Tactic
open Idealize.SL Idealize.SL.Sem
open Idealize.ShloMosaic.Pipeline (Dat)
open Cert.Products (tn sum_rows)

/-- A grid point's addend, at an index. -/
theorem pay1_at (x0 : Vec Ideal S2048x1024 .bf16) (x1 : Vec Ideal S2048x768 .bf16) (i : Fin 1024) (j : Fin 768) :
    k0_pay1 x0 x1 (ix2 i j) = ∑ k : Fin 2048, (x0 (ix2 k i) * x1 (ix2 k j) : EReal) := by
  pointwise [k0_pay1]

theorem pay2_at (x0 : Vec Ideal S2048x1024 .bf16) (x1 : Vec Ideal S2048x768 .bf16) (i : S1024x768.Idx) :
    k0_pay2 x0 x1 i = k0_pay1 x0 x1 i := by
  unfold k0_pay2
  simp only [shapeCast_self]

theorem pay3_at (x0 : Vec Ideal S2048x1024 .bf16) (x1 : Vec Ideal S2048x768 .bf16) (v : Vec Ideal S1024x768 .f32)
    (i : S1024x768.Idx) : k0_pay3 x0 x1 v i = (v i + k0_pay1 x0 x1 i : EReal) := by
  unfold k0_pay3
  simp only [shapeCast_self]
  rfl

variable (m : (ℓ : Loc nD τ sig) → Buf (Elt Ideal) ℓ) (c : Dev nD)

theorem idx : ∀ t : Fin cfg0.N,
    win0_0.index t = ![t.val % 4, 0] ∧ win0_1.index t = ![t.val % 4, t.val / 4] ∧ win0_2.index t = ![0, t.val / 4] :=
  (by decide +kernel : ∀ t : Fin grid0.N,
    win0_0.index t = ![t.val % 4, 0] ∧ win0_1.index t = ![t.val % 4, t.val / 4] ∧ win0_2.index t = ![0, t.val / 4])

/-- What point `n` adds to the accumulator. -/
def term (n : ℕ) : S1024x768.Idx → EReal := fun i =>
  if h : n < cfg0.N then k0_pay1 (iblk m c 0 ⟨n, h⟩) (iblk m c 1 ⟨n, h⟩) i else 0

/-- The accumulator after a point: the addends of its run up to it. -/
theorem acc_eq (t : Fin cfg0.N) (i : S1024x768.Idx) :
    ((outsAt0 m c t.val t.isLt).2 i : EReal) = 0 + ∑ k ∈ Finset.range (t.val % 4 + 1), term m c (4 * (t.val / 4) + k) i := by
  have ht (t : Fin cfg0.N) (i : S1024x768.Idx) : term m c t.val i = k0_pay1 (iblk m c 0 t) (iblk m c 1 t) i := dif_pos t.isLt
  refine Pipeline.eq_sum_of_reset_step_apply (M := EReal) (fun n h => (outsAt0 m c n h).2) 4 (fun _ => 0) (term m c) ?_ ?_ t i
  · intro t h i
    have hN : t.val < 4 := lt_of_lt_of_eq t.isLt N_0
    rw [outsAt0_A m c t h (by omega) (by omega), ht, zero_add]
    frame_out
    exact pay2_at ..
  · intro t h i
    rw [ht]
    by_cases h2 : t.val % 4 = 3
    · rw [outsAt0_C m c t h (by omega) h2]
      frame_out
      simp only [read_unread_whole]
      exact pay3_at ..
    · rw [outsAt0_B m c t h (by omega) h2]
      frame_out
      simp only [read_unread_whole]
      exact pay3_at ..

/-- The last point of a run writes out the accumulator. -/
theorem out_eq (t : Fin cfg0.N) (h : t.val % 4 = 3) : (outsAt0 m c t.val t.isLt).1 = (outsAt0 m c t.val t.isLt).2 := by
  rw [outsAt0_C m c t (by omega) (by omega) h]
  frame_out

theorem final : (dats m 0 c).arrAt 2 cfg0.N =
    tn (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  have hN : t.val < 4 := lt_of_lt_of_eq t.isLt N_0
  blk_simp
  rw [after0_2, out_eq m c t h3]
  idx_vars y
  refine (acc_eq m c t _).trans ?_
  unfold tn
  rw [sum_rows, zero_add, h3, ← Fin.sum_univ_eq_sum_range]
  refine Finset.sum_congr (M := EReal) rfl fun s _ => ?_
  unfold term
  rw [dif_pos (show 4 * (t.val / 4) + s.val < cfg0.N by rw [show cfg0.N = 4 from N_0]; omega), pay1_at]
  refine Finset.sum_congr (M := EReal) rfl fun k _ => ?_
  congr 1
  · blk_ext [iblk, V, idx t, idx ⟨4 * (t.val / 4) + s.val, _⟩]
  · blk_ext [iblk, V, idx t, idx ⟨4 * (t.val / 4) + s.val, _⟩]

end Cert.InWeightFIdeal.Value

namespace Cert.InWeightFReferenceIdeal.Value

open Cert.InWeightFReferenceIdeal Cert.InWeightFReferenceIdeal.Gen Idealize.ShloMosaic Idealize.ShloMosaic.TcCoe Idealize.ShloMosaic.StableHlo
open Cert.Products (tn)

/-- The reference's composed term, which is the transpose of the product the other way round, is the same function. -/
theorem grad_eq (A : Vec Ideal S8192x1024 .bf16) (B : FVec Ideal S8192x768 .bf16) :
    transpose S1024x768 [1, 0] (Host.dotGeneral (F := Ideal) dot_S8192x768_S8192x1024_S768x1024_0_0_1_1_n_n none
      (extf .f32 B bitsLt_bf16_f32) (extf .f32 A bitsLt_bf16_f32)) transposes_S768x1024_S1024x768_1_0 = tn A B := by
  funext i
  idx_vars i
  pointwise [tn]
  exact Finset.sum_congr (M := EReal) rfl fun k _ => mul_comm (G := EReal) _ _

end Cert.InWeightFReferenceIdeal.Value

end
-- ==== Proof.InWeightI.lean ====
module

public import proofs.«01_k».proof.Proof.Gen.InWeightIIdeal.Value
public import proofs.«01_k».proof.Proof.Gen.InWeightIReferenceIdeal.Run
public import proofs.«01_k».proof.Proof.Products
public import Idealize.ShloMosaic.Lib.Pipeline.ValueKit
public import Idealize.ShloMosaic.Lib.Pipeline.ReadBack
public import Idealize.ShloMosaic.Lib.Pointwise

@[expose] public section

set_option maxRecDepth 16384

/-! The gradient of the input weight of the HGRN2 layer's inputs (and of its output gate, the same call): the input's
columns against the columns of the projection's gradient, summed over the 8192 rows. The kernel adds the four
stretches of 2048 rows one grid point after another into an accumulator which the last of the four writes out. -/

noncomputable section

namespace Cert.InWeightIIdeal.Value

open Cert.InWeightIIdeal Cert.InWeightIIdeal.Gen Idealize.ShloMosaic Idealize.ShloMosaic.TcCoe Idealize.ShloMosaic.Tactic
open Idealize.SL Idealize.SL.Sem
open Idealize.ShloMosaic.Pipeline (Dat)
open Cert.Products (tn sum_rows)

/-- A grid point's addend, at an index. -/
theorem pay1_at (x0 : Vec Ideal S2048x1024 .bf16) (x1 : Vec Ideal S2048x768 .f32) (i : Fin 1024) (j : Fin 768) :
    k0_pay1 x0 x1 (ix2 i j) = ∑ k : Fin 2048, (x0 (ix2 k i) * x1 (ix2 k j) : EReal) := by
  pointwise [k0_pay1]

theorem pay2_at (x0 : Vec Ideal S2048x1024 .bf16) (x1 : Vec Ideal S2048x768 .f32) (i : S1024x768.Idx) :
    k0_pay2 x0 x1 i = k0_pay1 x0 x1 i := by
  unfold k0_pay2
  simp only [shapeCast_self]

theorem pay3_at (x0 : Vec Ideal S2048x1024 .bf16) (x1 : Vec Ideal S2048x768 .f32) (v : Vec Ideal S1024x768 .f32)
    (i : S1024x768.Idx) : k0_pay3 x0 x1 v i = (v i + k0_pay1 x0 x1 i : EReal) := by
  unfold k0_pay3
  simp only [shapeCast_self]
  rfl

variable (m : (ℓ : Loc nD τ sig) → Buf (Elt Ideal) ℓ) (c : Dev nD)

theorem idx : ∀ t : Fin cfg0.N,
    win0_0.index t = ![t.val % 4, 0] ∧ win0_1.index t = ![t.val % 4, t.val / 4] ∧ win0_2.index t = ![0, t.val / 4] :=
  (by decide +kernel : ∀ t : Fin grid0.N,
    win0_0.index t = ![t.val % 4, 0] ∧ win0_1.index t = ![t.val % 4, t.val / 4] ∧ win0_2.index t = ![0, t.val / 4])

/-- What point `n` adds to the accumulator. -/
def term (n : ℕ) : S1024x768.Idx → EReal := fun i =>
  if h : n < cfg0.N then k0_pay1 (iblk m c 0 ⟨n, h⟩) (iblk m c 1 ⟨n, h⟩) i else 0

/-- The accumulator after a point: the addends of its run up to it. -/
theorem acc_eq (t : Fin cfg0.N) (i : S1024x768.Idx) :
    ((outsAt0 m c t.val t.isLt).2 i : EReal) = 0 + ∑ k ∈ Finset.range (t.val % 4 + 1), term m c (4 * (t.val / 4) + k) i := by
  have ht (t : Fin cfg0.N) (i : S1024x768.Idx) : term m c t.val i = k0_pay1 (iblk m c 0 t) (iblk m c 1 t) i := dif_pos t.isLt
  refine Pipeline.eq_sum_of_reset_step_apply (M := EReal) (fun n h => (outsAt0 m c n h).2) 4 (fun _ => 0) (term m c) ?_ ?_ t i
  · intro t h i
    have hN : t.val < 4 := lt_of_lt_of_eq t.isLt N_0
    rw [outsAt0_A m c t h (by omega) (by omega), ht, zero_add]
    frame_out
    exact pay2_at ..
  · intro t h i
    rw [ht]
    by_cases h2 : t.val % 4 = 3
    · rw [outsAt0_C m c t h (by omega) h2]
      frame_out
      simp only [read_unread_whole]
      exact pay3_at ..
    · rw [outsAt0_B m c t h (by omega) h2]
      frame_out
      simp only [read_unread_whole]
      exact pay3_at ..

/-- The last point of a run writes out the accumulator. -/
theorem out_eq (t : Fin cfg0.N) (h : t.val % 4 = 3) : (outsAt0 m c t.val t.isLt).1 = (outsAt0 m c t.val t.isLt).2 := by
  rw [outsAt0_C m c t (by omega) (by omega) h]
  frame_out

theorem final : (dats m 0 c).arrAt 2 cfg0.N =
    tn (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  have hN : t.val < 4 := lt_of_lt_of_eq t.isLt N_0
  blk_simp
  rw [after0_2, out_eq m c t h3]
  idx_vars y
  refine (acc_eq m c t _).trans ?_
  unfold tn
  rw [sum_rows, zero_add, h3, ← Fin.sum_univ_eq_sum_range]
  refine Finset.sum_congr (M := EReal) rfl fun s _ => ?_
  unfold term
  rw [dif_pos (show 4 * (t.val / 4) + s.val < cfg0.N by rw [show cfg0.N = 4 from N_0]; omega), pay1_at]
  refine Finset.sum_congr (M := EReal) rfl fun k _ => ?_
  congr 1
  · blk_ext [iblk, V, idx t, idx ⟨4 * (t.val / 4) + s.val, _⟩]
  · blk_ext [iblk, V, idx t, idx ⟨4 * (t.val / 4) + s.val, _⟩]

end Cert.InWeightIIdeal.Value

namespace Cert.InWeightIReferenceIdeal.Value

open Cert.InWeightIReferenceIdeal Cert.InWeightIReferenceIdeal.Gen Idealize.ShloMosaic Idealize.ShloMosaic.TcCoe Idealize.ShloMosaic.StableHlo
open Cert.Products (tn)

/-- The reference's composed term, which is the transpose of the product the other way round, is the same function. -/
theorem grad_eq (A : Vec Ideal S8192x1024 .bf16) (B : FVec Ideal S8192x768 .f32) :
    transpose S1024x768 [1, 0] (Host.dotGeneral (F := Ideal) dot_S8192x768_S8192x1024_S768x1024_0_0_1_1_n_n none
      B (extf .f32 A bitsLt_bf16_f32)) transposes_S768x1024_S1024x768_1_0 = tn A B := by
  funext i
  idx_vars i
  pointwise [tn]
  exact Finset.sum_congr (M := EReal) rfl fun k _ => mul_comm (G := EReal) _ _

end Cert.InWeightIReferenceIdeal.Value

end
-- ==== Proof.InWeightX.lean ====
module

public import proofs.«01_k».proof.Proof.Gen.InWeightXIdeal.Value
public import proofs.«01_k».proof.Proof.Gen.InWeightXReferenceIdeal.Run
public import proofs.«01_k».proof.Proof.Products
public import Idealize.ShloMosaic.Lib.Pipeline.ValueKit
public import Idealize.ShloMosaic.Lib.Pipeline.ReadBack
public import Idealize.ShloMosaic.Lib.Pointwise

@[expose] public section

set_option maxRecDepth 16384

/-! The gradient of the input weight of the cross-attention's queries, the same call in every layer: the input's columns
against the columns of the projection's gradient, summed over the 8192 rows. The kernel adds the four stretches of
2048 rows one grid point after another into an accumulator which the last of the four writes out. -/

noncomputable section

namespace Cert.InWeightXIdeal.Value

open Cert.InWeightXIdeal Cert.InWeightXIdeal.Gen Idealize.ShloMosaic Idealize.ShloMosaic.TcCoe Idealize.ShloMosaic.Tactic
open Idealize.SL Idealize.SL.Sem
open Idealize.ShloMosaic.Pipeline (Dat)
open Cert.Products (tn sum_rows)

/-- A grid point's addend, at an index. -/
theorem pay1_at (x0 : Vec Ideal S2048x1024 .bf16) (x1 : Vec Ideal S2048x512 .bf16) (i : Fin 1024) (j : Fin 512) :
    k0_pay1 x0 x1 (ix2 i j) = ∑ k : Fin 2048, (x0 (ix2 k i) * x1 (ix2 k j) : EReal) := by
  pointwise [k0_pay1]

theorem pay2_at (x0 : Vec Ideal S2048x1024 .bf16) (x1 : Vec Ideal S2048x512 .bf16) (i : S1024x512.Idx) :
    k0_pay2 x0 x1 i = k0_pay1 x0 x1 i := by
  unfold k0_pay2
  simp only [shapeCast_self]

theorem pay3_at (x0 : Vec Ideal S2048x1024 .bf16) (x1 : Vec Ideal S2048x512 .bf16) (v : Vec Ideal S1024x512 .f32)
    (i : S1024x512.Idx) : k0_pay3 x0 x1 v i = (v i + k0_pay1 x0 x1 i : EReal) := by
  unfold k0_pay3
  simp only [shapeCast_self]
  rfl

variable (m : (ℓ : Loc nD τ sig) → Buf (Elt Ideal) ℓ) (c : Dev nD)

theorem idx : ∀ t : Fin cfg0.N,
    win0_0.index t = ![t.val % 4, 0] ∧ win0_1.index t = ![t.val % 4, t.val / 4] ∧ win0_2.index t = ![0, t.val / 4] :=
  (by decide +kernel : ∀ t : Fin grid0.N,
    win0_0.index t = ![t.val % 4, 0] ∧ win0_1.index t = ![t.val % 4, t.val / 4] ∧ win0_2.index t = ![0, t.val / 4])

/-- What point `n` adds to the accumulator. -/
def term (n : ℕ) : S1024x512.Idx → EReal := fun i =>
  if h : n < cfg0.N then k0_pay1 (iblk m c 0 ⟨n, h⟩) (iblk m c 1 ⟨n, h⟩) i else 0

/-- The accumulator after a point: the addends of its run up to it. -/
theorem acc_eq (t : Fin cfg0.N) (i : S1024x512.Idx) :
    ((outsAt0 m c t.val t.isLt).2 i : EReal) = 0 + ∑ k ∈ Finset.range (t.val % 4 + 1), term m c (4 * (t.val / 4) + k) i := by
  have ht (t : Fin cfg0.N) (i : S1024x512.Idx) : term m c t.val i = k0_pay1 (iblk m c 0 t) (iblk m c 1 t) i := dif_pos t.isLt
  refine Pipeline.eq_sum_of_reset_step_apply (M := EReal) (fun n h => (outsAt0 m c n h).2) 4 (fun _ => 0) (term m c) ?_ ?_ t i
  · intro t h i
    have hN : t.val < 4 := lt_of_lt_of_eq t.isLt N_0
    rw [outsAt0_A m c t h (by omega) (by omega), ht, zero_add]
    frame_out
    exact pay2_at ..
  · intro t h i
    rw [ht]
    by_cases h2 : t.val % 4 = 3
    · rw [outsAt0_C m c t h (by omega) h2]
      frame_out
      simp only [read_unread_whole]
      exact pay3_at ..
    · rw [outsAt0_B m c t h (by omega) h2]
      frame_out
      simp only [read_unread_whole]
      exact pay3_at ..

/-- The last point of a run writes out the accumulator. -/
theorem out_eq (t : Fin cfg0.N) (h : t.val % 4 = 3) : (outsAt0 m c t.val t.isLt).1 = (outsAt0 m c t.val t.isLt).2 := by
  rw [outsAt0_C m c t (by omega) (by omega) h]
  frame_out

theorem final : (dats m 0 c).arrAt 2 cfg0.N =
    tn (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  have hN : t.val < 4 := lt_of_lt_of_eq t.isLt N_0
  blk_simp
  rw [after0_2, out_eq m c t h3]
  idx_vars y
  refine (acc_eq m c t _).trans ?_
  unfold tn
  rw [sum_rows, zero_add, h3, ← Fin.sum_univ_eq_sum_range]
  refine Finset.sum_congr (M := EReal) rfl fun s _ => ?_
  unfold term
  rw [dif_pos (show 4 * (t.val / 4) + s.val < cfg0.N by rw [show cfg0.N = 4 from N_0]; omega), pay1_at]
  refine Finset.sum_congr (M := EReal) rfl fun k _ => ?_
  congr 1
  · blk_ext [iblk, V, idx t, idx ⟨4 * (t.val / 4) + s.val, _⟩]
  · blk_ext [iblk, V, idx t, idx ⟨4 * (t.val / 4) + s.val, _⟩]

end Cert.InWeightXIdeal.Value

namespace Cert.InWeightXReferenceIdeal.Value

open Cert.InWeightXReferenceIdeal Cert.InWeightXReferenceIdeal.Gen Idealize.ShloMosaic Idealize.ShloMosaic.TcCoe Idealize.ShloMosaic.StableHlo
open Cert.Products (tn)

/-- The reference's composed term, which is the transpose of the product the other way round, is the same function. -/
theorem grad_eq (A : Vec Ideal S8192x1024 .bf16) (B : FVec Ideal S8192x512 .bf16) :
    transpose S1024x512 [1, 0] (Host.dotGeneral (F := Ideal) dot_S8192x512_S8192x1024_S512x1024_0_0_1_1_n_n none
      (extf .f32 B bitsLt_bf16_f32) (extf .f32 A bitsLt_bf16_f32)) transposes_S512x1024_S1024x512_1_0 = tn A B := by
  funext i
  idx_vars i
  pointwise [tn]
  exact Finset.sum_congr (M := EReal) rfl fun k _ => mul_comm (G := EReal) _ _

end Cert.InWeightXReferenceIdeal.Value

end
-- ==== Proof.InWeightK.lean ====
module

public import proofs.«01_k».proof.Proof.Gen.InWeightKIdeal.Value
public import proofs.«01_k».proof.Proof.Gen.InWeightKReferenceIdeal.Run
public import proofs.«01_k».proof.Proof.Products
public import Idealize.ShloMosaic.Lib.Pipeline.ValueKit
public import Idealize.ShloMosaic.Lib.Pipeline.ReadBack
public import Idealize.ShloMosaic.Lib.Pointwise

@[expose] public section

set_option maxRecDepth 16384

/-! The gradient of the input weight of the linear attention's queries (and of its keys, the same call): the input's
columns against the columns of the projection's gradient, summed over the 8192 rows. The kernel adds the four
stretches of 2048 rows one grid point after another into an accumulator which the last of the four writes out. -/

noncomputable section

namespace Cert.InWeightKIdeal.Value

open Cert.InWeightKIdeal Cert.InWeightKIdeal.Gen Idealize.ShloMosaic Idealize.ShloMosaic.TcCoe Idealize.ShloMosaic.Tactic
open Idealize.SL Idealize.SL.Sem
open Idealize.ShloMosaic.Pipeline (Dat)
open Cert.Products (tn sum_rows)

/-- A grid point's addend, at an index. -/
theorem pay1_at (x0 : Vec Ideal S2048x1024 .bf16) (x1 : Vec Ideal S2048x512 .f32) (i : Fin 1024) (j : Fin 512) :
    k0_pay1 x0 x1 (ix2 i j) = ∑ k : Fin 2048, (x0 (ix2 k i) * x1 (ix2 k j) : EReal) := by
  pointwise [k0_pay1]

theorem pay2_at (x0 : Vec Ideal S2048x1024 .bf16) (x1 : Vec Ideal S2048x512 .f32) (i : S1024x512.Idx) :
    k0_pay2 x0 x1 i = k0_pay1 x0 x1 i := by
  unfold k0_pay2
  simp only [shapeCast_self]

theorem pay3_at (x0 : Vec Ideal S2048x1024 .bf16) (x1 : Vec Ideal S2048x512 .f32) (v : Vec Ideal S1024x512 .f32)
    (i : S1024x512.Idx) : k0_pay3 x0 x1 v i = (v i + k0_pay1 x0 x1 i : EReal) := by
  unfold k0_pay3
  simp only [shapeCast_self]
  rfl

variable (m : (ℓ : Loc nD τ sig) → Buf (Elt Ideal) ℓ) (c : Dev nD)

theorem idx : ∀ t : Fin cfg0.N,
    win0_0.index t = ![t.val % 4, 0] ∧ win0_1.index t = ![t.val % 4, t.val / 4] ∧ win0_2.index t = ![0, t.val / 4] :=
  (by decide +kernel : ∀ t : Fin grid0.N,
    win0_0.index t = ![t.val % 4, 0] ∧ win0_1.index t = ![t.val % 4, t.val / 4] ∧ win0_2.index t = ![0, t.val / 4])

/-- What point `n` adds to the accumulator. -/
def term (n : ℕ) : S1024x512.Idx → EReal := fun i =>
  if h : n < cfg0.N then k0_pay1 (iblk m c 0 ⟨n, h⟩) (iblk m c 1 ⟨n, h⟩) i else 0

/-- The accumulator after a point: the addends of its run up to it. -/
theorem acc_eq (t : Fin cfg0.N) (i : S1024x512.Idx) :
    ((outsAt0 m c t.val t.isLt).2 i : EReal) = 0 + ∑ k ∈ Finset.range (t.val % 4 + 1), term m c (4 * (t.val / 4) + k) i := by
  have ht (t : Fin cfg0.N) (i : S1024x512.Idx) : term m c t.val i = k0_pay1 (iblk m c 0 t) (iblk m c 1 t) i := dif_pos t.isLt
  refine Pipeline.eq_sum_of_reset_step_apply (M := EReal) (fun n h => (outsAt0 m c n h).2) 4 (fun _ => 0) (term m c) ?_ ?_ t i
  · intro t h i
    have hN : t.val < 4 := lt_of_lt_of_eq t.isLt N_0
    rw [outsAt0_A m c t h (by omega) (by omega), ht, zero_add]
    frame_out
    exact pay2_at ..
  · intro t h i
    rw [ht]
    by_cases h2 : t.val % 4 = 3
    · rw [outsAt0_C m c t h (by omega) h2]
      frame_out
      simp only [read_unread_whole]
      exact pay3_at ..
    · rw [outsAt0_B m c t h (by omega) h2]
      frame_out
      simp only [read_unread_whole]
      exact pay3_at ..

/-- The last point of a run writes out the accumulator. -/
theorem out_eq (t : Fin cfg0.N) (h : t.val % 4 = 3) : (outsAt0 m c t.val t.isLt).1 = (outsAt0 m c t.val t.isLt).2 := by
  rw [outsAt0_C m c t (by omega) (by omega) h]
  frame_out

theorem final : (dats m 0 c).arrAt 2 cfg0.N =
    tn (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  have hN : t.val < 4 := lt_of_lt_of_eq t.isLt N_0
  blk_simp
  rw [after0_2, out_eq m c t h3]
  idx_vars y
  refine (acc_eq m c t _).trans ?_
  unfold tn
  rw [sum_rows, zero_add, h3, ← Fin.sum_univ_eq_sum_range]
  refine Finset.sum_congr (M := EReal) rfl fun s _ => ?_
  unfold term
  rw [dif_pos (show 4 * (t.val / 4) + s.val < cfg0.N by rw [show cfg0.N = 4 from N_0]; omega), pay1_at]
  refine Finset.sum_congr (M := EReal) rfl fun k _ => ?_
  congr 1
  · blk_ext [iblk, V, idx t, idx ⟨4 * (t.val / 4) + s.val, _⟩]
  · blk_ext [iblk, V, idx t, idx ⟨4 * (t.val / 4) + s.val, _⟩]

end Cert.InWeightKIdeal.Value

namespace Cert.InWeightKReferenceIdeal.Value

open Cert.InWeightKReferenceIdeal Cert.InWeightKReferenceIdeal.Gen Idealize.ShloMosaic Idealize.ShloMosaic.TcCoe Idealize.ShloMosaic.StableHlo
open Cert.Products (tn)

/-- The reference's composed term, which is the transpose of the product the other way round, is the same function. -/
theorem grad_eq (A : Vec Ideal S8192x1024 .bf16) (B : FVec Ideal S8192x512 .f32) :
    transpose S1024x512 [1, 0] (Host.dotGeneral (F := Ideal) dot_S8192x512_S8192x1024_S512x1024_0_0_1_1_n_n none
      B (extf .f32 A bitsLt_bf16_f32)) transposes_S512x1024_S1024x512_1_0 = tn A B := by
  funext i
  idx_vars i
  pointwise [tn]
  exact Finset.sum_congr (M := EReal) rfl fun k _ => mul_comm (G := EReal) _ _

end Cert.InWeightKReferenceIdeal.Value

end
-- ==== Proof.InWeightO.lean ====
module

public import proofs.«01_k».proof.Proof.Gen.InWeightOIdeal.Value
public import proofs.«01_k».proof.Proof.Gen.InWeightOReferenceIdeal.Run
public import proofs.«01_k».proof.Proof.Products
public import Idealize.ShloMosaic.Lib.Pipeline.ValueKit
public import Idealize.ShloMosaic.Lib.Pipeline.ReadBack
public import Idealize.ShloMosaic.Lib.Pointwise

@[expose] public section

set_option maxRecDepth 16384

/-! The gradient of the input weight of the linear attention's values (and of its output gate, the same call): the input's
columns against the columns of the projection's gradient, summed over the 8192 rows. The kernel adds the four
stretches of 2048 rows one grid point after another into an accumulator which the last of the four writes out. -/

noncomputable section

namespace Cert.InWeightOIdeal.Value

open Cert.InWeightOIdeal Cert.InWeightOIdeal.Gen Idealize.ShloMosaic Idealize.ShloMosaic.TcCoe Idealize.ShloMosaic.Tactic
open Idealize.SL Idealize.SL.Sem
open Idealize.ShloMosaic.Pipeline (Dat)
open Cert.Products (tn sum_rows)

/-- A grid point's addend, at an index. -/
theorem pay1_at (x0 : Vec Ideal S2048x1024 .bf16) (x1 : Vec Ideal S2048x1024 .f32) (i : Fin 1024) (j : Fin 1024) :
    k0_pay1 x0 x1 (ix2 i j) = ∑ k : Fin 2048, (x0 (ix2 k i) * x1 (ix2 k j) : EReal) := by
  pointwise [k0_pay1]

theorem pay2_at (x0 : Vec Ideal S2048x1024 .bf16) (x1 : Vec Ideal S2048x1024 .f32) (i : S1024x1024.Idx) :
    k0_pay2 x0 x1 i = k0_pay1 x0 x1 i := by
  unfold k0_pay2
  simp only [shapeCast_self]

theorem pay3_at (x0 : Vec Ideal S2048x1024 .bf16) (x1 : Vec Ideal S2048x1024 .f32) (v : Vec Ideal S1024x1024 .f32)
    (i : S1024x1024.Idx) : k0_pay3 x0 x1 v i = (v i + k0_pay1 x0 x1 i : EReal) := by
  unfold k0_pay3
  simp only [shapeCast_self]
  rfl

variable (m : (ℓ : Loc nD τ sig) → Buf (Elt Ideal) ℓ) (c : Dev nD)

theorem idx : ∀ t : Fin cfg0.N,
    win0_0.index t = ![t.val % 4, 0] ∧ win0_1.index t = ![t.val % 4, t.val / 4] ∧ win0_2.index t = ![0, t.val / 4] :=
  (by decide +kernel : ∀ t : Fin grid0.N,
    win0_0.index t = ![t.val % 4, 0] ∧ win0_1.index t = ![t.val % 4, t.val / 4] ∧ win0_2.index t = ![0, t.val / 4])

/-- What point `n` adds to the accumulator. -/
def term (n : ℕ) : S1024x1024.Idx → EReal := fun i =>
  if h : n < cfg0.N then k0_pay1 (iblk m c 0 ⟨n, h⟩) (iblk m c 1 ⟨n, h⟩) i else 0

/-- The accumulator after a point: the addends of its run up to it. -/
theorem acc_eq (t : Fin cfg0.N) (i : S1024x1024.Idx) :
    ((outsAt0 m c t.val t.isLt).2 i : EReal) = 0 + ∑ k ∈ Finset.range (t.val % 4 + 1), term m c (4 * (t.val / 4) + k) i := by
  have ht (t : Fin cfg0.N) (i : S1024x1024.Idx) : term m c t.val i = k0_pay1 (iblk m c 0 t) (iblk m c 1 t) i := dif_pos t.isLt
  refine Pipeline.eq_sum_of_reset_step_apply (M := EReal) (fun n h => (outsAt0 m c n h).2) 4 (fun _ => 0) (term m c) ?_ ?_ t i
  · intro t h i
    have hN : t.val < 4 := lt_of_lt_of_eq t.isLt N_0
    rw [outsAt0_A m c t h (by omega) (by omega), ht, zero_add]
    frame_out
    exact pay2_at ..
  · intro t h i
    rw [ht]
    by_cases h2 : t.val % 4 = 3
    · rw [outsAt0_C m c t h (by omega) h2]
      frame_out
      simp only [read_unread_whole]
      exact pay3_at ..
    · rw [outsAt0_B m c t h (by omega) h2]
      frame_out
      simp only [read_unread_whole]
      exact pay3_at ..

/-- The last point of a run writes out the accumulator. -/
theorem out_eq (t : Fin cfg0.N) (h : t.val % 4 = 3) : (outsAt0 m c t.val t.isLt).1 = (outsAt0 m c t.val t.isLt).2 := by
  rw [outsAt0_C m c t (by omega) (by omega) h]
  frame_out

theorem final : (dats m 0 c).arrAt 2 cfg0.N =
    tn (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  have hN : t.val < 4 := lt_of_lt_of_eq t.isLt N_0
  blk_simp
  rw [after0_2, out_eq m c t h3]
  idx_vars y
  refine (acc_eq m c t _).trans ?_
  unfold tn
  rw [sum_rows, zero_add, h3, ← Fin.sum_univ_eq_sum_range]
  refine Finset.sum_congr (M := EReal) rfl fun s _ => ?_
  unfold term
  rw [dif_pos (show 4 * (t.val / 4) + s.val < cfg0.N by rw [show cfg0.N = 4 from N_0]; omega), pay1_at]
  refine Finset.sum_congr (M := EReal) rfl fun k _ => ?_
  congr 1
  · blk_ext [iblk, V, idx t, idx ⟨4 * (t.val / 4) + s.val, _⟩]
  · blk_ext [iblk, V, idx t, idx ⟨4 * (t.val / 4) + s.val, _⟩]

end Cert.InWeightOIdeal.Value

namespace Cert.InWeightOReferenceIdeal.Value

open Cert.InWeightOReferenceIdeal Cert.InWeightOReferenceIdeal.Gen Idealize.ShloMosaic Idealize.ShloMosaic.TcCoe Idealize.ShloMosaic.StableHlo
open Cert.Products (tn)

/-- The reference's composed term, which is the transpose of the product the other way round, is the same function. -/
theorem grad_eq (A : Vec Ideal S8192x1024 .bf16) (B : FVec Ideal S8192x1024 .f32) :
    transpose S1024x1024 [1, 0] (Host.dotGeneral (F := Ideal) dot_S8192x1024_S8192x1024_S1024x1024_0_0_1_1_n_n none
      B (extf .f32 A bitsLt_bf16_f32)) transposes_S1024x1024_S1024x1024_1_0 = tn A B := by
  funext i
  idx_vars i
  pointwise [tn]
  exact Finset.sum_congr (M := EReal) rfl fun k _ => mul_comm (G := EReal) _ _

end Cert.InWeightOReferenceIdeal.Value

end
-- ==== Proof.InWeightC.lean ====
module

public import proofs.«01_k».proof.Proof.Gen.InWeightCIdeal.Value
public import proofs.«01_k».proof.Proof.Gen.InWeightCReferenceIdeal.Run
public import proofs.«01_k».proof.Proof.Products
public import Idealize.ShloMosaic.Lib.Pipeline.ValueKit
public import Idealize.ShloMosaic.Lib.Pipeline.ReadBack
public import Idealize.ShloMosaic.Lib.Pointwise

@[expose] public section

set_option maxRecDepth 16384

/-! The gradient of the input weight of the state-space layer's convolved columns: the input's columns against the columns
of the projection's gradient, summed over the 8192 rows. The kernel adds the four stretches of 2048 rows one grid
point after another into an accumulator which the last of the four writes out. -/

noncomputable section

namespace Cert.InWeightCIdeal.Value

open Cert.InWeightCIdeal Cert.InWeightCIdeal.Gen Idealize.ShloMosaic Idealize.ShloMosaic.TcCoe Idealize.ShloMosaic.Tactic
open Idealize.SL Idealize.SL.Sem
open Idealize.ShloMosaic.Pipeline (Dat)
open Cert.Products (tn sum_rows)

/-- A grid point's addend, at an index. -/
theorem pay1_at (x0 : Vec Ideal S2048x1024 .bf16) (x1 : Vec Ideal S2048x1024 .bf16) (i : Fin 1024) (j : Fin 1024) :
    k0_pay1 x0 x1 (ix2 i j) = ∑ k : Fin 2048, (x0 (ix2 k i) * x1 (ix2 k j) : EReal) := by
  pointwise [k0_pay1]

theorem pay2_at (x0 : Vec Ideal S2048x1024 .bf16) (x1 : Vec Ideal S2048x1024 .bf16) (i : S1024x1024.Idx) :
    k0_pay2 x0 x1 i = k0_pay1 x0 x1 i := by
  unfold k0_pay2
  simp only [shapeCast_self]

theorem pay3_at (x0 : Vec Ideal S2048x1024 .bf16) (x1 : Vec Ideal S2048x1024 .bf16) (v : Vec Ideal S1024x1024 .f32)
    (i : S1024x1024.Idx) : k0_pay3 x0 x1 v i = (v i + k0_pay1 x0 x1 i : EReal) := by
  unfold k0_pay3
  simp only [shapeCast_self]
  rfl

variable (m : (ℓ : Loc nD τ sig) → Buf (Elt Ideal) ℓ) (c : Dev nD)

theorem idx : ∀ t : Fin cfg0.N,
    win0_0.index t = ![t.val % 4, 0] ∧ win0_1.index t = ![t.val % 4, t.val / 4] ∧ win0_2.index t = ![0, t.val / 4] :=
  (by decide +kernel : ∀ t : Fin grid0.N,
    win0_0.index t = ![t.val % 4, 0] ∧ win0_1.index t = ![t.val % 4, t.val / 4] ∧ win0_2.index t = ![0, t.val / 4])

/-- What point `n` adds to the accumulator. -/
def term (n : ℕ) : S1024x1024.Idx → EReal := fun i =>
  if h : n < cfg0.N then k0_pay1 (iblk m c 0 ⟨n, h⟩) (iblk m c 1 ⟨n, h⟩) i else 0

/-- The accumulator after a point: the addends of its run up to it. -/
theorem acc_eq (t : Fin cfg0.N) (i : S1024x1024.Idx) :
    ((outsAt0 m c t.val t.isLt).2 i : EReal) = 0 + ∑ k ∈ Finset.range (t.val % 4 + 1), term m c (4 * (t.val / 4) + k) i := by
  have ht (t : Fin cfg0.N) (i : S1024x1024.Idx) : term m c t.val i = k0_pay1 (iblk m c 0 t) (iblk m c 1 t) i := dif_pos t.isLt
  refine Pipeline.eq_sum_of_reset_step_apply (M := EReal) (fun n h => (outsAt0 m c n h).2) 4 (fun _ => 0) (term m c) ?_ ?_ t i
  · intro t h i
    rw [outsAt0_A m c t h (by omega) (by omega), ht, zero_add]
    frame_out
    exact pay2_at ..
  · intro t h i
    rw [ht]
    by_cases h2 : t.val % 4 = 3
    · rw [outsAt0_C m c t h (by omega) h2]
      frame_out
      simp only [read_unread_whole]
      exact pay3_at ..
    · rw [outsAt0_B m c t h (by omega) h2]
      frame_out
      simp only [read_unread_whole]
      exact pay3_at ..

/-- The last point of a run writes out the accumulator. -/
theorem out_eq (t : Fin cfg0.N) (h : t.val % 4 = 3) : (outsAt0 m c t.val t.isLt).1 = (outsAt0 m c t.val t.isLt).2 := by
  rw [outsAt0_C m c t (by omega) (by omega) h]
  frame_out

theorem final : (dats m 0 c).arrAt 2 cfg0.N =
    tn (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  have hN : t.val < 8 := lt_of_lt_of_eq t.isLt N_0
  blk_simp
  rw [after0_2, out_eq m c t h3]
  idx_vars y
  refine (acc_eq m c t _).trans ?_
  unfold tn
  rw [sum_rows, zero_add, h3, ← Fin.sum_univ_eq_sum_range]
  refine Finset.sum_congr (M := EReal) rfl fun s _ => ?_
  unfold term
  rw [dif_pos (show 4 * (t.val / 4) + s.val < cfg0.N by rw [show cfg0.N = 8 from N_0]; omega), pay1_at]
  refine Finset.sum_congr (M := EReal) rfl fun k _ => ?_
  congr 1
  · blk_ext [iblk, V, idx t, idx ⟨4 * (t.val / 4) + s.val, _⟩]
  · blk_ext [iblk, V, idx t, idx ⟨4 * (t.val / 4) + s.val, _⟩]

end Cert.InWeightCIdeal.Value

namespace Cert.InWeightCReferenceIdeal.Value

open Cert.InWeightCReferenceIdeal Cert.InWeightCReferenceIdeal.Gen Idealize.ShloMosaic Idealize.ShloMosaic.TcCoe Idealize.ShloMosaic.StableHlo
open Cert.Products (tn)

/-- The reference's composed term, which is the transpose of the product the other way round, is the same function. -/
theorem grad_eq (A : Vec Ideal S8192x1024 .bf16) (B : FVec Ideal S8192x2048 .bf16) :
    transpose S1024x2048 [1, 0] (Host.dotGeneral (F := Ideal) dot_S8192x2048_S8192x1024_S2048x1024_0_0_1_1_n_n none
      (extf .f32 B bitsLt_bf16_f32) (extf .f32 A bitsLt_bf16_f32)) transposes_S2048x1024_S1024x2048_1_0 = tn A B := by
  funext i
  idx_vars i
  pointwise [tn]
  exact Finset.sum_congr (M := EReal) rfl fun k _ => mul_comm (G := EReal) _ _

end Cert.InWeightCReferenceIdeal.Value

end
-- ==== Proof.OutA.lean ====
module

public import proofs.«01_k».proof.Proof.Gen.OutAIdeal.Value
public import proofs.«01_k».proof.Proof.Gen.OutAReferenceIdeal.Run
public import proofs.«01_k».proof.Proof.Products
public import Idealize.ShloMosaic.Lib.Pipeline.ValueKit
public import Idealize.ShloMosaic.Lib.Pointwise

@[expose] public section

set_option maxRecDepth 16384

/-! The output projection of the gated linear attention's layer and its residual: the layer's input, plus the mixer's rows
against the columns of its weight, plus the memory attention's rows against the columns of its own. The kernel
computes 512 rows at a grid point, both contractions whole. -/

noncomputable section

namespace Cert.OutAIdeal.Value

open Cert.OutAIdeal Cert.OutAIdeal.Gen Idealize.ShloMosaic Idealize.ShloMosaic.TcCoe Idealize.ShloMosaic.Tactic
open Idealize.SL Idealize.SL.Sem
open Idealize.ShloMosaic.Pipeline (Dat)
open Cert.Products (addTwo)

/-- What a grid point stores, at an index. -/
theorem out_at (x0 : Vec Ideal S512x1024 .bf16) (x1 : Vec Ideal S512x512 .bf16) (x2 : Vec Ideal S1024x1024 .bf16)
    (x3 : Vec Ideal S512x1024 .bf16) (x4 : Vec Ideal S512x1024 .f32) (i : Fin 512) (j : Fin 1024) :
    out0_5 x0 x1 x2 x3 x4 (ix2 i j) = (x4 (ix2 i j) + (∑ k : Fin 1024, (x0 (ix2 i k) * x2 (ix2 k j) : EReal))
      + (∑ k : Fin 512, (x1 (ix2 i k) * x3 (ix2 k j) : EReal)) : EReal) := by
  unfold out0_5
  rw [View.canon_unit_zero (by decide)]
  pointwise [k0_pay1]

theorem idx : ∀ t : Fin cfg0.N,
    win0_0.index t = ![t.val, 0] ∧ win0_1.index t = ![t.val, 0] ∧ win0_2.index t = ![0, 0] ∧
    win0_3.index t = ![0, 0] ∧ win0_4.index t = ![t.val, 0] ∧ win0_5.index t = ![t.val, 0] :=
  (by decide +kernel : ∀ t : Fin grid0.N,
    win0_0.index t = ![t.val, 0] ∧ win0_1.index t = ![t.val, 0] ∧ win0_2.index t = ![0, 0] ∧
    win0_3.index t = ![0, 0] ∧ win0_4.index t = ![t.val, 0] ∧ win0_5.index t = ![t.val, 0])

variable (m : (ℓ : Loc nD τ sig) → Buf (Elt Ideal) ℓ) (c : Dev nD)

theorem final : (dats m 0 c).arrAt 5 cfg0.N =
    addTwo (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t hf y => ?_
  blk_simp
  rw [after0_5]
  idx_vars y
  rw [out_at]
  refine congrArg₂ (fun a b : EReal => a + b) (congrArg₂ (fun a b : EReal => a + b) ?_
    (Finset.sum_congr (M := EReal) rfl fun k _ => congrArg₂ (fun a b : EReal => a * b) ?_ ?_))
    (Finset.sum_congr (M := EReal) rfl fun k _ => congrArg₂ (fun a b : EReal => a * b) ?_ ?_) <;>
    blk_ext [iblk, V, idx t]

end Cert.OutAIdeal.Value

namespace Cert.OutAReferenceIdeal.Value

open Cert.OutAReferenceIdeal Cert.OutAReferenceIdeal.Gen Idealize.ShloMosaic Idealize.ShloMosaic.TcCoe Idealize.ShloMosaic.StableHlo
open Cert.Products (addTwo nn)

/-- The reference's composed term is the same function. -/
theorem prodAdd_eq (A : Vec Ideal S8192x1024 .bf16) (B : Vec Ideal S8192x512 .bf16) (P : Vec Ideal S1024x1024 .bf16)
    (Q : Vec Ideal S512x1024 .bf16) (X : Vec Ideal S8192x1024 .f32) :
    addf (addf X (Host.dotGeneral (F := Ideal) dot_S8192x1024_S1024x1024_S8192x1024_1_0_0_1_n_n none
      (extf .f32 A bitsLt_bf16_f32) (extf .f32 P bitsLt_bf16_f32)))
      (Host.dotGeneral (F := Ideal) dot_S8192x512_S512x1024_S8192x1024_1_0_0_1_n_n none
      (extf .f32 B bitsLt_bf16_f32) (extf .f32 Q bitsLt_bf16_f32)) = addTwo A B P Q X := by
  funext i
  idx_vars i
  pointwise [addTwo, nn]

end Cert.OutAReferenceIdeal.Value

end
-- ==== Proof.OutB.lean ====
module

public import proofs.«01_k».proof.Proof.Gen.OutBIdeal.Value
public import proofs.«01_k».proof.Proof.Gen.OutBReferenceIdeal.Run
public import proofs.«01_k».proof.Proof.Products
public import Idealize.ShloMosaic.Lib.Pipeline.ValueKit
public import Idealize.ShloMosaic.Lib.Pointwise

@[expose] public section

set_option maxRecDepth 16384

/-! The output projection of the dilated attention's layer and its residual: the layer's input, plus the mixer's rows
against the columns of its weight, plus the memory attention's rows against the columns of its own. The kernel
computes 512 rows at a grid point, both contractions whole. -/

noncomputable section

namespace Cert.OutBIdeal.Value

open Cert.OutBIdeal Cert.OutBIdeal.Gen Idealize.ShloMosaic Idealize.ShloMosaic.TcCoe Idealize.ShloMosaic.Tactic
open Idealize.SL Idealize.SL.Sem
open Idealize.ShloMosaic.Pipeline (Dat)
open Cert.Products (addTwo)

/-- What a grid point stores, at an index. -/
theorem out_at (x0 : Vec Ideal S512x512 .bf16) (x1 : Vec Ideal S512x512 .bf16) (x2 : Vec Ideal S512x1024 .bf16)
    (x3 : Vec Ideal S512x1024 .bf16) (x4 : Vec Ideal S512x1024 .f32) (i : Fin 512) (j : Fin 1024) :
    out0_5 x0 x1 x2 x3 x4 (ix2 i j) = (x4 (ix2 i j) + (∑ k : Fin 512, (x0 (ix2 i k) * x2 (ix2 k j) : EReal))
      + (∑ k : Fin 512, (x1 (ix2 i k) * x3 (ix2 k j) : EReal)) : EReal) := by
  unfold out0_5
  rw [View.canon_unit_zero (by decide)]
  pointwise [k0_pay1]

theorem idx : ∀ t : Fin cfg0.N,
    win0_0.index t = ![t.val, 0] ∧ win0_1.index t = ![t.val, 0] ∧ win0_2.index t = ![0, 0] ∧
    win0_3.index t = ![0, 0] ∧ win0_4.index t = ![t.val, 0] ∧ win0_5.index t = ![t.val, 0] :=
  (by decide +kernel : ∀ t : Fin grid0.N,
    win0_0.index t = ![t.val, 0] ∧ win0_1.index t = ![t.val, 0] ∧ win0_2.index t = ![0, 0] ∧
    win0_3.index t = ![0, 0] ∧ win0_4.index t = ![t.val, 0] ∧ win0_5.index t = ![t.val, 0])

variable (m : (ℓ : Loc nD τ sig) → Buf (Elt Ideal) ℓ) (c : Dev nD)

theorem final : (dats m 0 c).arrAt 5 cfg0.N =
    addTwo (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t hf y => ?_
  blk_simp
  rw [after0_5]
  idx_vars y
  rw [out_at]
  refine congrArg₂ (fun a b : EReal => a + b) (congrArg₂ (fun a b : EReal => a + b) ?_
    (Finset.sum_congr (M := EReal) rfl fun k _ => congrArg₂ (fun a b : EReal => a * b) ?_ ?_))
    (Finset.sum_congr (M := EReal) rfl fun k _ => congrArg₂ (fun a b : EReal => a * b) ?_ ?_) <;>
    blk_ext [iblk, V, idx t]

end Cert.OutBIdeal.Value

namespace Cert.OutBReferenceIdeal.Value

open Cert.OutBReferenceIdeal Cert.OutBReferenceIdeal.Gen Idealize.ShloMosaic Idealize.ShloMosaic.TcCoe Idealize.ShloMosaic.StableHlo
open Cert.Products (addTwo nn)

/-- The reference's composed term is the same function. -/
theorem prodAdd_eq (A : Vec Ideal S8192x512 .bf16) (B : Vec Ideal S8192x512 .bf16) (P : Vec Ideal S512x1024 .bf16)
    (Q : Vec Ideal S512x1024 .bf16) (X : Vec Ideal S8192x1024 .f32) :
    addf (addf X (Host.dotGeneral (F := Ideal) dot_S8192x512_S512x1024_S8192x1024_1_0_0_1_n_n none
      (extf .f32 A bitsLt_bf16_f32) (extf .f32 P bitsLt_bf16_f32)))
      (Host.dotGeneral (F := Ideal) dot_S8192x512_S512x1024_S8192x1024_1_0_0_1_n_n none
      (extf .f32 B bitsLt_bf16_f32) (extf .f32 Q bitsLt_bf16_f32)) = addTwo A B P Q X := by
  funext i
  idx_vars i
  pointwise [addTwo, nn]

end Cert.OutBReferenceIdeal.Value

end
-- ==== Proof.OutC.lean ====
module

public import proofs.«01_k».proof.Proof.Gen.OutCIdeal.Value
public import proofs.«01_k».proof.Proof.Gen.OutCReferenceIdeal.Run
public import proofs.«01_k».proof.Proof.Products
public import Idealize.ShloMosaic.Lib.Pipeline.ValueKit
public import Idealize.ShloMosaic.Lib.Pointwise

@[expose] public section

set_option maxRecDepth 16384

/-! The output projection of the state-space layer and its residual: the layer's input, plus the mixer's rows against the
columns of its weight, plus the memory attention's rows against the columns of its own. The kernel computes 512 rows
at a grid point, both contractions whole. -/

noncomputable section

namespace Cert.OutCIdeal.Value

open Cert.OutCIdeal Cert.OutCIdeal.Gen Idealize.ShloMosaic Idealize.ShloMosaic.TcCoe Idealize.ShloMosaic.Tactic
open Idealize.SL Idealize.SL.Sem
open Idealize.ShloMosaic.Pipeline (Dat)
open Cert.Products (addTwo)

/-- What a grid point stores, at an index. -/
theorem out_at (x0 : Vec Ideal S512x1536 .bf16) (x1 : Vec Ideal S512x512 .bf16) (x2 : Vec Ideal S1536x1024 .bf16)
    (x3 : Vec Ideal S512x1024 .bf16) (x4 : Vec Ideal S512x1024 .f32) (i : Fin 512) (j : Fin 1024) :
    out0_5 x0 x1 x2 x3 x4 (ix2 i j) = (x4 (ix2 i j) + (∑ k : Fin 1536, (x0 (ix2 i k) * x2 (ix2 k j) : EReal))
      + (∑ k : Fin 512, (x1 (ix2 i k) * x3 (ix2 k j) : EReal)) : EReal) := by
  unfold out0_5
  rw [View.canon_unit_zero (by decide)]
  pointwise [k0_pay1]

theorem idx : ∀ t : Fin cfg0.N,
    win0_0.index t = ![t.val, 0] ∧ win0_1.index t = ![t.val, 0] ∧ win0_2.index t = ![0, 0] ∧
    win0_3.index t = ![0, 0] ∧ win0_4.index t = ![t.val, 0] ∧ win0_5.index t = ![t.val, 0] :=
  (by decide +kernel : ∀ t : Fin grid0.N,
    win0_0.index t = ![t.val, 0] ∧ win0_1.index t = ![t.val, 0] ∧ win0_2.index t = ![0, 0] ∧
    win0_3.index t = ![0, 0] ∧ win0_4.index t = ![t.val, 0] ∧ win0_5.index t = ![t.val, 0])

variable (m : (ℓ : Loc nD τ sig) → Buf (Elt Ideal) ℓ) (c : Dev nD)

theorem final : (dats m 0 c).arrAt 5 cfg0.N =
    addTwo (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t hf y => ?_
  blk_simp
  rw [after0_5]
  idx_vars y
  rw [out_at]
  refine congrArg₂ (fun a b : EReal => a + b) (congrArg₂ (fun a b : EReal => a + b) ?_
    (Finset.sum_congr (M := EReal) rfl fun k _ => congrArg₂ (fun a b : EReal => a * b) ?_ ?_))
    (Finset.sum_congr (M := EReal) rfl fun k _ => congrArg₂ (fun a b : EReal => a * b) ?_ ?_) <;>
    blk_ext [iblk, V, idx t]

end Cert.OutCIdeal.Value

namespace Cert.OutCReferenceIdeal.Value

open Cert.OutCReferenceIdeal Cert.OutCReferenceIdeal.Gen Idealize.ShloMosaic Idealize.ShloMosaic.TcCoe Idealize.ShloMosaic.StableHlo
open Cert.Products (addTwo nn)

/-- The reference's composed term is the same function. -/
theorem prodAdd_eq (A : Vec Ideal S8192x1536 .bf16) (B : Vec Ideal S8192x512 .bf16) (P : Vec Ideal S1536x1024 .bf16)
    (Q : Vec Ideal S512x1024 .bf16) (X : Vec Ideal S8192x1024 .f32) :
    addf (addf X (Host.dotGeneral (F := Ideal) dot_S8192x1536_S1536x1024_S8192x1024_1_0_0_1_n_n none
      (extf .f32 A bitsLt_bf16_f32) (extf .f32 P bitsLt_bf16_f32)))
      (Host.dotGeneral (F := Ideal) dot_S8192x512_S512x1024_S8192x1024_1_0_0_1_n_n none
      (extf .f32 B bitsLt_bf16_f32) (extf .f32 Q bitsLt_bf16_f32)) = addTwo A B P Q X := by
  funext i
  idx_vars i
  pointwise [addTwo, nn]

end Cert.OutCReferenceIdeal.Value

end
-- ==== Proof.OutD.lean ====
module

public import proofs.«01_k».proof.Proof.Gen.OutDIdeal.Value
public import proofs.«01_k».proof.Proof.Gen.OutDReferenceIdeal.Run
public import proofs.«01_k».proof.Proof.Products
public import Idealize.ShloMosaic.Lib.Pipeline.ValueKit
public import Idealize.ShloMosaic.Lib.Pointwise

@[expose] public section

set_option maxRecDepth 16384

/-! The output projection of the HGRN2 layer and its residual: the layer's input, plus the mixer's rows against the
columns of its weight, plus the memory attention's rows against the columns of its own. The kernel computes 512 rows
at a grid point, both contractions whole. -/

noncomputable section

namespace Cert.OutDIdeal.Value

open Cert.OutDIdeal Cert.OutDIdeal.Gen Idealize.ShloMosaic Idealize.ShloMosaic.TcCoe Idealize.ShloMosaic.Tactic
open Idealize.SL Idealize.SL.Sem
open Idealize.ShloMosaic.Pipeline (Dat)
open Cert.Products (addTwo)

/-- What a grid point stores, at an index. -/
theorem out_at (x0 : Vec Ideal S512x768 .bf16) (x1 : Vec Ideal S512x512 .bf16) (x2 : Vec Ideal S768x1024 .bf16)
    (x3 : Vec Ideal S512x1024 .bf16) (x4 : Vec Ideal S512x1024 .f32) (i : Fin 512) (j : Fin 1024) :
    out0_5 x0 x1 x2 x3 x4 (ix2 i j) = (x4 (ix2 i j) + (∑ k : Fin 768, (x0 (ix2 i k) * x2 (ix2 k j) : EReal))
      + (∑ k : Fin 512, (x1 (ix2 i k) * x3 (ix2 k j) : EReal)) : EReal) := by
  unfold out0_5
  rw [View.canon_unit_zero (by decide)]
  pointwise [k0_pay1]

theorem idx : ∀ t : Fin cfg0.N,
    win0_0.index t = ![t.val, 0] ∧ win0_1.index t = ![t.val, 0] ∧ win0_2.index t = ![0, 0] ∧
    win0_3.index t = ![0, 0] ∧ win0_4.index t = ![t.val, 0] ∧ win0_5.index t = ![t.val, 0] :=
  (by decide +kernel : ∀ t : Fin grid0.N,
    win0_0.index t = ![t.val, 0] ∧ win0_1.index t = ![t.val, 0] ∧ win0_2.index t = ![0, 0] ∧
    win0_3.index t = ![0, 0] ∧ win0_4.index t = ![t.val, 0] ∧ win0_5.index t = ![t.val, 0])

variable (m : (ℓ : Loc nD τ sig) → Buf (Elt Ideal) ℓ) (c : Dev nD)

theorem final : (dats m 0 c).arrAt 5 cfg0.N =
    addTwo (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t hf y => ?_
  blk_simp
  rw [after0_5]
  idx_vars y
  rw [out_at]
  refine congrArg₂ (fun a b : EReal => a + b) (congrArg₂ (fun a b : EReal => a + b) ?_
    (Finset.sum_congr (M := EReal) rfl fun k _ => congrArg₂ (fun a b : EReal => a * b) ?_ ?_))
    (Finset.sum_congr (M := EReal) rfl fun k _ => congrArg₂ (fun a b : EReal => a * b) ?_ ?_) <;>
    blk_ext [iblk, V, idx t]

end Cert.OutDIdeal.Value

namespace Cert.OutDReferenceIdeal.Value

open Cert.OutDReferenceIdeal Cert.OutDReferenceIdeal.Gen Idealize.ShloMosaic Idealize.ShloMosaic.TcCoe Idealize.ShloMosaic.StableHlo
open Cert.Products (addTwo nn)

/-- The reference's composed term is the same function. -/
theorem prodAdd_eq (A : Vec Ideal S8192x768 .bf16) (B : Vec Ideal S8192x512 .bf16) (P : Vec Ideal S768x1024 .bf16)
    (Q : Vec Ideal S512x1024 .bf16) (X : Vec Ideal S8192x1024 .f32) :
    addf (addf X (Host.dotGeneral (F := Ideal) dot_S8192x768_S768x1024_S8192x1024_1_0_0_1_n_n none
      (extf .f32 A bitsLt_bf16_f32) (extf .f32 P bitsLt_bf16_f32)))
      (Host.dotGeneral (F := Ideal) dot_S8192x512_S512x1024_S8192x1024_1_0_0_1_n_n none
      (extf .f32 B bitsLt_bf16_f32) (extf .f32 Q bitsLt_bf16_f32)) = addTwo A B P Q X := by
  funext i
  idx_vars i
  pointwise [addTwo, nn]

end Cert.OutDReferenceIdeal.Value

end
-- ==== Proof.OutActA.lean ====
module

public import proofs.«01_k».proof.Proof.Gen.OutActAIdeal.Value
public import proofs.«01_k».proof.Proof.Gen.OutActAReferenceIdeal.Run
public import proofs.«01_k».proof.Proof.Products
public import Idealize.ShloMosaic.Lib.Pipeline.ValueKit
public import Idealize.ShloMosaic.Lib.Pointwise

@[expose] public section

set_option maxRecDepth 16384

/-! The gradient that the gated linear attention's output projection gives its input: the residual's gradient against the
rows of the weight. The kernel computes 1024 rows at a grid point, the contraction whole. -/

noncomputable section

namespace Cert.OutActAIdeal.Value

open Cert.OutActAIdeal Cert.OutActAIdeal.Gen Idealize.ShloMosaic Idealize.ShloMosaic.TcCoe Idealize.ShloMosaic.Tactic
open Idealize.SL Idealize.SL.Sem
open Idealize.ShloMosaic.Pipeline (Dat)
open Cert.Products (nt)

/-- What a grid point stores, at an index. -/
theorem out_at (x0 : Vec Ideal S1024x1024 .bf16) (x1 : Vec Ideal S1024x1024 .bf16) (i : Fin 1024) (j : Fin 1024) :
    out0_2 x0 x1 (ix2 i j) = ∑ k : Fin 1024, (x0 (ix2 i k) * x1 (ix2 j k) : EReal) := by
  unfold out0_2
  rw [View.canon_unit_zero (by decide)]
  pointwise [k0_pay1]

theorem idx : ∀ t : Fin cfg0.N,
    win0_0.index t = ![t.val, 0] ∧ win0_1.index t = ![0, 0] ∧ win0_2.index t = ![t.val, 0] :=
  (by decide +kernel : ∀ t : Fin grid0.N,
    win0_0.index t = ![t.val, 0] ∧ win0_1.index t = ![0, 0] ∧ win0_2.index t = ![t.val, 0])

variable (m : (ℓ : Loc nD τ sig) → Buf (Elt Ideal) ℓ) (c : Dev nD)

theorem final : (dats m 0 c).arrAt 2 cfg0.N =
    nt (m ((c : Thread nD τ).loc main_arg0)) (m ((c : Thread nD τ).loc main_arg1)) := by
  refine (dats m 0 c).arrAt_eq_of_covers 2 _ (by decide +kernel) fun t hf y => ?_
  blk_simp
  rw [after0_2]
  idx_vars y
  rw [out_at]
  refine Finset.sum_congr (M := EReal) rfl fun k _ => congrArg₂ (fun a b : EReal => a * b) ?_ ?_ <;>
    blk_ext [iblk, V, idx t]

end Cert.OutActAIdeal.Value

namespace Cert.OutActAReferenceIdeal.Value

open Cert.OutActAReferenceIdeal Cert.OutActAReferenceIdeal.Gen Idealize.ShloMosaic Idealize.ShloMosaic.TcCoe Idealize.ShloMosaic.StableHlo
open Cert.Products (nt)

/-- The reference's composed term is the same function. -/
theorem grad_eq (A : Vec Ideal S8192x1024 .bf16) (B : Vec Ideal S1024x1024 .bf16) :
    Host.dotGeneral (F := Ideal) dot_S8192x1024_S1024x1024_S8192x1024_1_1_0_0_n_n none (extf .f32 A bitsLt_bf16_f32)
      (extf .f32 B bitsLt_bf16_f32) = nt A B := by
  funext i
  idx_vars i
  pointwise [nt]

end Cert.OutActAReferenceIdeal.Value

end
-- ==== Proof.OutActB.lean ====
module

public import proofs.«01_k».proof.Proof.Gen.OutActBIdeal.Value
public import proofs.«01_k».proof.Proof.Gen.OutActBReferenceIdeal.Run
public import proofs.«01_k».proof.Proof.Products
public import Idealize.ShloMosaic.Lib.Pipeline.ValueKit
public import Idealize.ShloMosaic.Lib.Pointwise

@[expose] public section

set_option maxRecDepth 16384

/-! The gradient that the dilated attention's output projection gives its input; the memory attention's output has the
same call in every layer: the residual's gradient against the rows of the weight. The kernel computes 1024 rows at a
grid point, the contraction whole. -/

noncomputable section

namespace Cert.OutActBIdeal.Value

open Cert.OutActBIdeal Cert.OutActBIdeal.Gen Idealize.ShloMosaic Idealize.ShloMosaic.TcCoe Idealize.ShloMosaic.Tactic
open Idealize.SL Idealize.SL.Sem
open Idealize.ShloMosaic.Pipeline (Dat)
open Cert.Products (nt)

/-- What a grid point stores, at an index. -/
theorem out_at (x0 : Vec Ideal S1024x1024 .bf16) (x1 : Vec Ideal S512x1024 .bf16) (i : Fin 1024) (j : Fin 512) :
    out0_2 x0 x1 (ix2 i j) = ∑ k : Fin 1024, (x0 (ix2 i k) * x1 (ix2 j k) : EReal) := by
  unfold out0_2
  rw [View.canon_unit_zero (by decide)]
  pointwise [k0_pay1]

theorem idx : ∀ t : Fin cfg0.N,
    win0_0.index t = ![t.val, 0] ∧ win0_1.index t = ![0, 0] ∧ win0_2.index t = ![t.val, 0] :=
  (by decide +kernel : ∀ t : Fin grid0.N,
    win0_0.index t = ![t.val, 0] ∧ win0_1.index t = ![0, 0] ∧ win0_2.index t = ![t.val, 0])

variable (m : (ℓ : Loc nD τ sig) → Buf (Elt Ideal) ℓ) (c : Dev nD)

theorem final : (dats m 0 c).arrAt 2 cfg0.N =
    nt (m ((c : Thread nD τ).loc main_arg0)) (m ((c : Thread nD τ).loc main_arg1)) := by
  refine (dats m 0 c).arrAt_eq_of_covers 2 _ (by decide +kernel) fun t hf y => ?_
  blk_simp
  rw [after0_2]
  idx_vars y
  rw [out_at]
  refine Finset.sum_congr (M := EReal) rfl fun k _ => congrArg₂ (fun a b : EReal => a * b) ?_ ?_ <;>
    blk_ext [iblk, V, idx t]

end Cert.OutActBIdeal.Value

namespace Cert.OutActBReferenceIdeal.Value

open Cert.OutActBReferenceIdeal Cert.OutActBReferenceIdeal.Gen Idealize.ShloMosaic Idealize.ShloMosaic.TcCoe Idealize.ShloMosaic.StableHlo
open Cert.Products (nt)

/-- The reference's composed term is the same function. -/
theorem grad_eq (A : Vec Ideal S8192x1024 .bf16) (B : Vec Ideal S512x1024 .bf16) :
    Host.dotGeneral (F := Ideal) dot_S8192x1024_S512x1024_S8192x512_1_1_0_0_n_n none (extf .f32 A bitsLt_bf16_f32)
      (extf .f32 B bitsLt_bf16_f32) = nt A B := by
  funext i
  idx_vars i
  pointwise [nt]

end Cert.OutActBReferenceIdeal.Value

end
-- ==== Proof.OutActC.lean ====
module

public import proofs.«01_k».proof.Proof.Gen.OutActCIdeal.Value
public import proofs.«01_k».proof.Proof.Gen.OutActCReferenceIdeal.Run
public import proofs.«01_k».proof.Proof.Products
public import Idealize.ShloMosaic.Lib.Pipeline.ValueKit
public import Idealize.ShloMosaic.Lib.Pointwise

@[expose] public section

set_option maxRecDepth 16384

/-! The gradient that the state-space layer's output projection gives its input: the residual's gradient against the rows
of the weight. The kernel computes 1024 rows and half the columns at a grid point, the contraction whole. -/

noncomputable section

namespace Cert.OutActCIdeal.Value

open Cert.OutActCIdeal Cert.OutActCIdeal.Gen Idealize.ShloMosaic Idealize.ShloMosaic.TcCoe Idealize.ShloMosaic.Tactic
open Idealize.SL Idealize.SL.Sem
open Idealize.ShloMosaic.Pipeline (Dat)
open Cert.Products (nt)

/-- What a grid point stores, at an index. -/
theorem out_at (x0 : Vec Ideal S1024x1024 .bf16) (x1 : Vec Ideal S768x1024 .bf16) (i : Fin 1024) (j : Fin 768) :
    out0_2 x0 x1 (ix2 i j) = ∑ k : Fin 1024, (x0 (ix2 i k) * x1 (ix2 j k) : EReal) := by
  unfold out0_2
  rw [View.canon_unit_zero (by decide)]
  pointwise [k0_pay1]

theorem idx : ∀ t : Fin cfg0.N,
    win0_0.index t = ![t.val / 2, 0] ∧ win0_1.index t = ![t.val % 2, 0] ∧ win0_2.index t = ![t.val / 2, t.val % 2] :=
  (by decide +kernel : ∀ t : Fin grid0.N,
    win0_0.index t = ![t.val / 2, 0] ∧ win0_1.index t = ![t.val % 2, 0] ∧ win0_2.index t = ![t.val / 2, t.val % 2])

variable (m : (ℓ : Loc nD τ sig) → Buf (Elt Ideal) ℓ) (c : Dev nD)

theorem final : (dats m 0 c).arrAt 2 cfg0.N =
    nt (m ((c : Thread nD τ).loc main_arg0)) (m ((c : Thread nD τ).loc main_arg1)) := by
  refine (dats m 0 c).arrAt_eq_of_covers 2 _ (by decide +kernel) fun t hf y => ?_
  blk_simp
  rw [after0_2]
  idx_vars y
  rw [out_at]
  refine Finset.sum_congr (M := EReal) rfl fun k _ => congrArg₂ (fun a b : EReal => a * b) ?_ ?_ <;>
    blk_ext [iblk, V, idx t]

end Cert.OutActCIdeal.Value

namespace Cert.OutActCReferenceIdeal.Value

open Cert.OutActCReferenceIdeal Cert.OutActCReferenceIdeal.Gen Idealize.ShloMosaic Idealize.ShloMosaic.TcCoe Idealize.ShloMosaic.StableHlo
open Cert.Products (nt)

/-- The reference's composed term is the same function. -/
theorem grad_eq (A : Vec Ideal S8192x1024 .bf16) (B : Vec Ideal S1536x1024 .bf16) :
    Host.dotGeneral (F := Ideal) dot_S8192x1024_S1536x1024_S8192x1536_1_1_0_0_n_n none (extf .f32 A bitsLt_bf16_f32)
      (extf .f32 B bitsLt_bf16_f32) = nt A B := by
  funext i
  idx_vars i
  pointwise [nt]

end Cert.OutActCReferenceIdeal.Value

end
-- ==== Proof.OutActD.lean ====
module

public import proofs.«01_k».proof.Proof.Gen.OutActDIdeal.Value
public import proofs.«01_k».proof.Proof.Gen.OutActDReferenceIdeal.Run
public import proofs.«01_k».proof.Proof.Products
public import Idealize.ShloMosaic.Lib.Pipeline.ValueKit
public import Idealize.ShloMosaic.Lib.Pointwise

@[expose] public section

set_option maxRecDepth 16384

/-! The gradient that the HGRN2 layer's output projection gives its input: the residual's gradient against the rows of the
weight. The kernel computes 1024 rows at a grid point, the contraction whole. -/

noncomputable section

namespace Cert.OutActDIdeal.Value

open Cert.OutActDIdeal Cert.OutActDIdeal.Gen Idealize.ShloMosaic Idealize.ShloMosaic.TcCoe Idealize.ShloMosaic.Tactic
open Idealize.SL Idealize.SL.Sem
open Idealize.ShloMosaic.Pipeline (Dat)
open Cert.Products (nt)

/-- What a grid point stores, at an index. -/
theorem out_at (x0 : Vec Ideal S1024x1024 .bf16) (x1 : Vec Ideal S768x1024 .bf16) (i : Fin 1024) (j : Fin 768) :
    out0_2 x0 x1 (ix2 i j) = ∑ k : Fin 1024, (x0 (ix2 i k) * x1 (ix2 j k) : EReal) := by
  unfold out0_2
  rw [View.canon_unit_zero (by decide)]
  pointwise [k0_pay1]

theorem idx : ∀ t : Fin cfg0.N,
    win0_0.index t = ![t.val, 0] ∧ win0_1.index t = ![0, 0] ∧ win0_2.index t = ![t.val, 0] :=
  (by decide +kernel : ∀ t : Fin grid0.N,
    win0_0.index t = ![t.val, 0] ∧ win0_1.index t = ![0, 0] ∧ win0_2.index t = ![t.val, 0])

variable (m : (ℓ : Loc nD τ sig) → Buf (Elt Ideal) ℓ) (c : Dev nD)

theorem final : (dats m 0 c).arrAt 2 cfg0.N =
    nt (m ((c : Thread nD τ).loc main_arg0)) (m ((c : Thread nD τ).loc main_arg1)) := by
  refine (dats m 0 c).arrAt_eq_of_covers 2 _ (by decide +kernel) fun t hf y => ?_
  blk_simp
  rw [after0_2]
  idx_vars y
  rw [out_at]
  refine Finset.sum_congr (M := EReal) rfl fun k _ => congrArg₂ (fun a b : EReal => a * b) ?_ ?_ <;>
    blk_ext [iblk, V, idx t]

end Cert.OutActDIdeal.Value

namespace Cert.OutActDReferenceIdeal.Value

open Cert.OutActDReferenceIdeal Cert.OutActDReferenceIdeal.Gen Idealize.ShloMosaic Idealize.ShloMosaic.TcCoe Idealize.ShloMosaic.StableHlo
open Cert.Products (nt)

/-- The reference's composed term is the same function. -/
theorem grad_eq (A : Vec Ideal S8192x1024 .bf16) (B : Vec Ideal S768x1024 .bf16) :
    Host.dotGeneral (F := Ideal) dot_S8192x1024_S768x1024_S8192x768_1_1_0_0_n_n none (extf .f32 A bitsLt_bf16_f32)
      (extf .f32 B bitsLt_bf16_f32) = nt A B := by
  funext i
  idx_vars i
  pointwise [nt]

end Cert.OutActDReferenceIdeal.Value

end
-- ==== Proof.OutWeightA.lean ====
module

public import proofs.«01_k».proof.Proof.Gen.OutWeightAIdeal.Value
public import proofs.«01_k».proof.Proof.Gen.OutWeightAReferenceIdeal.Run
public import proofs.«01_k».proof.Proof.Products
public import Idealize.ShloMosaic.Lib.Pipeline.ValueKit
public import Idealize.ShloMosaic.Lib.Pipeline.ReadBack
public import Idealize.ShloMosaic.Lib.Pointwise

@[expose] public section

set_option maxRecDepth 16384

/-! The gradient of the gated linear attention's output weight: the mixer's columns against the columns of the residual's
gradient, summed over the 8192 rows. The kernel adds the four stretches of 2048 rows one grid point after another into
an accumulator which the last of the four writes out. -/

noncomputable section

namespace Cert.OutWeightAIdeal.Value

open Cert.OutWeightAIdeal Cert.OutWeightAIdeal.Gen Idealize.ShloMosaic Idealize.ShloMosaic.TcCoe Idealize.ShloMosaic.Tactic
open Idealize.SL Idealize.SL.Sem
open Idealize.ShloMosaic.Pipeline (Dat)
open Cert.Products (tn sum_rows)

/-- A grid point's addend, at an index. -/
theorem pay1_at (x0 : Vec Ideal S2048x1024 .bf16) (x1 : Vec Ideal S2048x1024 .bf16) (i : Fin 1024) (j : Fin 1024) :
    k0_pay1 x0 x1 (ix2 i j) = ∑ k : Fin 2048, (x0 (ix2 k i) * x1 (ix2 k j) : EReal) := by
  pointwise [k0_pay1]

theorem pay2_at (x0 : Vec Ideal S2048x1024 .bf16) (x1 : Vec Ideal S2048x1024 .bf16) (i : S1024x1024.Idx) :
    k0_pay2 x0 x1 i = k0_pay1 x0 x1 i := by
  unfold k0_pay2
  simp only [shapeCast_self]

theorem pay3_at (x0 : Vec Ideal S2048x1024 .bf16) (x1 : Vec Ideal S2048x1024 .bf16) (v : Vec Ideal S1024x1024 .f32)
    (i : S1024x1024.Idx) : k0_pay3 x0 x1 v i = (v i + k0_pay1 x0 x1 i : EReal) := by
  unfold k0_pay3
  simp only [shapeCast_self]
  rfl

variable (m : (ℓ : Loc nD τ sig) → Buf (Elt Ideal) ℓ) (c : Dev nD)

theorem idx : ∀ t : Fin cfg0.N,
    win0_0.index t = ![t.val % 4, t.val / 4] ∧ win0_1.index t = ![t.val % 4, 0] ∧ win0_2.index t = ![t.val / 4, 0] :=
  (by decide +kernel : ∀ t : Fin grid0.N,
    win0_0.index t = ![t.val % 4, t.val / 4] ∧ win0_1.index t = ![t.val % 4, 0] ∧ win0_2.index t = ![t.val / 4, 0])

/-- What point `n` adds to the accumulator. -/
def term (n : ℕ) : S1024x1024.Idx → EReal := fun i =>
  if h : n < cfg0.N then k0_pay1 (iblk m c 0 ⟨n, h⟩) (iblk m c 1 ⟨n, h⟩) i else 0

/-- The accumulator after a point: the addends of its run up to it. -/
theorem acc_eq (t : Fin cfg0.N) (i : S1024x1024.Idx) :
    ((outsAt0 m c t.val t.isLt).2 i : EReal) = 0 + ∑ k ∈ Finset.range (t.val % 4 + 1), term m c (4 * (t.val / 4) + k) i := by
  have ht (t : Fin cfg0.N) (i : S1024x1024.Idx) : term m c t.val i = k0_pay1 (iblk m c 0 t) (iblk m c 1 t) i := dif_pos t.isLt
  refine Pipeline.eq_sum_of_reset_step_apply (M := EReal) (fun n h => (outsAt0 m c n h).2) 4 (fun _ => 0) (term m c) ?_ ?_ t i
  · intro t h i
    have hN : t.val < 4 := lt_of_lt_of_eq t.isLt N_0
    rw [outsAt0_A m c t h (by omega) (by omega), ht, zero_add]
    frame_out
    exact pay2_at ..
  · intro t h i
    rw [ht]
    by_cases h2 : t.val % 4 = 3
    · rw [outsAt0_C m c t h (by omega) h2]
      frame_out
      simp only [read_unread_whole]
      exact pay3_at ..
    · rw [outsAt0_B m c t h (by omega) h2]
      frame_out
      simp only [read_unread_whole]
      exact pay3_at ..

/-- The last point of a run writes out the accumulator. -/
theorem out_eq (t : Fin cfg0.N) (h : t.val % 4 = 3) : (outsAt0 m c t.val t.isLt).1 = (outsAt0 m c t.val t.isLt).2 := by
  rw [outsAt0_C m c t (by omega) (by omega) h]
  frame_out

theorem final : (dats m 0 c).arrAt 2 cfg0.N =
    tn (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  have hN : t.val < 4 := lt_of_lt_of_eq t.isLt N_0
  blk_simp
  rw [after0_2, out_eq m c t h3]
  idx_vars y
  refine (acc_eq m c t _).trans ?_
  unfold tn
  rw [sum_rows, zero_add, h3, ← Fin.sum_univ_eq_sum_range]
  refine Finset.sum_congr (M := EReal) rfl fun s _ => ?_
  unfold term
  rw [dif_pos (show 4 * (t.val / 4) + s.val < cfg0.N by rw [show cfg0.N = 4 from N_0]; omega), pay1_at]
  refine Finset.sum_congr (M := EReal) rfl fun k _ => ?_
  congr 1
  · blk_ext [iblk, V, idx t, idx ⟨4 * (t.val / 4) + s.val, _⟩]
  · blk_ext [iblk, V, idx t, idx ⟨4 * (t.val / 4) + s.val, _⟩]

end Cert.OutWeightAIdeal.Value

namespace Cert.OutWeightAReferenceIdeal.Value

open Cert.OutWeightAReferenceIdeal Cert.OutWeightAReferenceIdeal.Gen Idealize.ShloMosaic Idealize.ShloMosaic.TcCoe Idealize.ShloMosaic.StableHlo
open Cert.Products (tn)

/-- The reference's composed term, which is the transpose of the product the other way round, is the same function. -/
theorem grad_eq (A : Vec Ideal S8192x1024 .bf16) (B : Vec Ideal S8192x1024 .bf16) :
    transpose S1024x1024 [1, 0] (Host.dotGeneral (F := Ideal) dot_S8192x1024_S8192x1024_S1024x1024_0_0_1_1_n_n none
      (extf .f32 B bitsLt_bf16_f32) (extf .f32 A bitsLt_bf16_f32)) transposes_S1024x1024_S1024x1024_1_0 = tn A B := by
  funext i
  idx_vars i
  pointwise [tn]
  exact Finset.sum_congr (M := EReal) rfl fun k _ => mul_comm (G := EReal) _ _

end Cert.OutWeightAReferenceIdeal.Value

end
-- ==== Proof.OutWeightB.lean ====
module

public import proofs.«01_k».proof.Proof.Gen.OutWeightBIdeal.Value
public import proofs.«01_k».proof.Proof.Gen.OutWeightBReferenceIdeal.Run
public import proofs.«01_k».proof.Proof.Products
public import Idealize.ShloMosaic.Lib.Pipeline.ValueKit
public import Idealize.ShloMosaic.Lib.Pipeline.ReadBack
public import Idealize.ShloMosaic.Lib.Pointwise

@[expose] public section

set_option maxRecDepth 16384

/-! The gradient of the dilated attention's output weight (and of the memory attention's piece in every layer, the same
call): the mixer's columns against the columns of the residual's gradient, summed over the 8192 rows. The kernel adds
the four stretches of 2048 rows one grid point after another into an accumulator which the last of the four writes
out. -/

noncomputable section

namespace Cert.OutWeightBIdeal.Value

open Cert.OutWeightBIdeal Cert.OutWeightBIdeal.Gen Idealize.ShloMosaic Idealize.ShloMosaic.TcCoe Idealize.ShloMosaic.Tactic
open Idealize.SL Idealize.SL.Sem
open Idealize.ShloMosaic.Pipeline (Dat)
open Cert.Products (tn sum_rows)

/-- A grid point's addend, at an index. -/
theorem pay1_at (x0 : Vec Ideal S2048x512 .bf16) (x1 : Vec Ideal S2048x1024 .bf16) (i : Fin 512) (j : Fin 1024) :
    k0_pay1 x0 x1 (ix2 i j) = ∑ k : Fin 2048, (x0 (ix2 k i) * x1 (ix2 k j) : EReal) := by
  pointwise [k0_pay1]

theorem pay2_at (x0 : Vec Ideal S2048x512 .bf16) (x1 : Vec Ideal S2048x1024 .bf16) (i : S512x1024.Idx) :
    k0_pay2 x0 x1 i = k0_pay1 x0 x1 i := by
  unfold k0_pay2
  simp only [shapeCast_self]

theorem pay3_at (x0 : Vec Ideal S2048x512 .bf16) (x1 : Vec Ideal S2048x1024 .bf16) (v : Vec Ideal S512x1024 .f32)
    (i : S512x1024.Idx) : k0_pay3 x0 x1 v i = (v i + k0_pay1 x0 x1 i : EReal) := by
  unfold k0_pay3
  simp only [shapeCast_self]
  rfl

variable (m : (ℓ : Loc nD τ sig) → Buf (Elt Ideal) ℓ) (c : Dev nD)

theorem idx : ∀ t : Fin cfg0.N,
    win0_0.index t = ![t.val % 4, t.val / 4] ∧ win0_1.index t = ![t.val % 4, 0] ∧ win0_2.index t = ![t.val / 4, 0] :=
  (by decide +kernel : ∀ t : Fin grid0.N,
    win0_0.index t = ![t.val % 4, t.val / 4] ∧ win0_1.index t = ![t.val % 4, 0] ∧ win0_2.index t = ![t.val / 4, 0])

/-- What point `n` adds to the accumulator. -/
def term (n : ℕ) : S512x1024.Idx → EReal := fun i =>
  if h : n < cfg0.N then k0_pay1 (iblk m c 0 ⟨n, h⟩) (iblk m c 1 ⟨n, h⟩) i else 0

/-- The accumulator after a point: the addends of its run up to it. -/
theorem acc_eq (t : Fin cfg0.N) (i : S512x1024.Idx) :
    ((outsAt0 m c t.val t.isLt).2 i : EReal) = 0 + ∑ k ∈ Finset.range (t.val % 4 + 1), term m c (4 * (t.val / 4) + k) i := by
  have ht (t : Fin cfg0.N) (i : S512x1024.Idx) : term m c t.val i = k0_pay1 (iblk m c 0 t) (iblk m c 1 t) i := dif_pos t.isLt
  refine Pipeline.eq_sum_of_reset_step_apply (M := EReal) (fun n h => (outsAt0 m c n h).2) 4 (fun _ => 0) (term m c) ?_ ?_ t i
  · intro t h i
    have hN : t.val < 4 := lt_of_lt_of_eq t.isLt N_0
    rw [outsAt0_A m c t h (by omega) (by omega), ht, zero_add]
    frame_out
    exact pay2_at ..
  · intro t h i
    rw [ht]
    by_cases h2 : t.val % 4 = 3
    · rw [outsAt0_C m c t h (by omega) h2]
      frame_out
      simp only [read_unread_whole]
      exact pay3_at ..
    · rw [outsAt0_B m c t h (by omega) h2]
      frame_out
      simp only [read_unread_whole]
      exact pay3_at ..

/-- The last point of a run writes out the accumulator. -/
theorem out_eq (t : Fin cfg0.N) (h : t.val % 4 = 3) : (outsAt0 m c t.val t.isLt).1 = (outsAt0 m c t.val t.isLt).2 := by
  rw [outsAt0_C m c t (by omega) (by omega) h]
  frame_out

theorem final : (dats m 0 c).arrAt 2 cfg0.N =
    tn (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  have hN : t.val < 4 := lt_of_lt_of_eq t.isLt N_0
  blk_simp
  rw [after0_2, out_eq m c t h3]
  idx_vars y
  refine (acc_eq m c t _).trans ?_
  unfold tn
  rw [sum_rows, zero_add, h3, ← Fin.sum_univ_eq_sum_range]
  refine Finset.sum_congr (M := EReal) rfl fun s _ => ?_
  unfold term
  rw [dif_pos (show 4 * (t.val / 4) + s.val < cfg0.N by rw [show cfg0.N = 4 from N_0]; omega), pay1_at]
  refine Finset.sum_congr (M := EReal) rfl fun k _ => ?_
  congr 1
  · blk_ext [iblk, V, idx t, idx ⟨4 * (t.val / 4) + s.val, _⟩]
  · blk_ext [iblk, V, idx t, idx ⟨4 * (t.val / 4) + s.val, _⟩]

end Cert.OutWeightBIdeal.Value

namespace Cert.OutWeightBReferenceIdeal.Value

open Cert.OutWeightBReferenceIdeal Cert.OutWeightBReferenceIdeal.Gen Idealize.ShloMosaic Idealize.ShloMosaic.TcCoe Idealize.ShloMosaic.StableHlo
open Cert.Products (tn)

/-- The reference's composed term, which is the transpose of the product the other way round, is the same function. -/
theorem grad_eq (A : Vec Ideal S8192x512 .bf16) (B : Vec Ideal S8192x1024 .bf16) :
    transpose S512x1024 [1, 0] (Host.dotGeneral (F := Ideal) dot_S8192x1024_S8192x512_S1024x512_0_0_1_1_n_n none
      (extf .f32 B bitsLt_bf16_f32) (extf .f32 A bitsLt_bf16_f32)) transposes_S1024x512_S512x1024_1_0 = tn A B := by
  funext i
  idx_vars i
  pointwise [tn]
  exact Finset.sum_congr (M := EReal) rfl fun k _ => mul_comm (G := EReal) _ _

end Cert.OutWeightBReferenceIdeal.Value

end
-- ==== Proof.OutWeightC.lean ====
module

public import proofs.«01_k».proof.Proof.Gen.OutWeightCIdeal.Value
public import proofs.«01_k».proof.Proof.Gen.OutWeightCReferenceIdeal.Run
public import proofs.«01_k».proof.Proof.Products
public import Idealize.ShloMosaic.Lib.Pipeline.ValueKit
public import Idealize.ShloMosaic.Lib.Pipeline.ReadBack
public import Idealize.ShloMosaic.Lib.Pointwise

@[expose] public section

set_option maxRecDepth 16384

/-! The gradient of the state-space layer's output weight: the mixer's columns against the columns of the residual's
gradient, summed over the 8192 rows. The kernel adds the four stretches of 2048 rows one grid point after another into
an accumulator which the last of the four writes out. -/

noncomputable section

namespace Cert.OutWeightCIdeal.Value

open Cert.OutWeightCIdeal Cert.OutWeightCIdeal.Gen Idealize.ShloMosaic Idealize.ShloMosaic.TcCoe Idealize.ShloMosaic.Tactic
open Idealize.SL Idealize.SL.Sem
open Idealize.ShloMosaic.Pipeline (Dat)
open Cert.Products (tn sum_rows)

/-- A grid point's addend, at an index. -/
theorem pay1_at (x0 : Vec Ideal S2048x768 .bf16) (x1 : Vec Ideal S2048x1024 .bf16) (i : Fin 768) (j : Fin 1024) :
    k0_pay1 x0 x1 (ix2 i j) = ∑ k : Fin 2048, (x0 (ix2 k i) * x1 (ix2 k j) : EReal) := by
  pointwise [k0_pay1]

theorem pay2_at (x0 : Vec Ideal S2048x768 .bf16) (x1 : Vec Ideal S2048x1024 .bf16) (i : S768x1024.Idx) :
    k0_pay2 x0 x1 i = k0_pay1 x0 x1 i := by
  unfold k0_pay2
  simp only [shapeCast_self]

theorem pay3_at (x0 : Vec Ideal S2048x768 .bf16) (x1 : Vec Ideal S2048x1024 .bf16) (v : Vec Ideal S768x1024 .f32)
    (i : S768x1024.Idx) : k0_pay3 x0 x1 v i = (v i + k0_pay1 x0 x1 i : EReal) := by
  unfold k0_pay3
  simp only [shapeCast_self]
  rfl

variable (m : (ℓ : Loc nD τ sig) → Buf (Elt Ideal) ℓ) (c : Dev nD)

theorem idx : ∀ t : Fin cfg0.N,
    win0_0.index t = ![t.val % 4, t.val / 4] ∧ win0_1.index t = ![t.val % 4, 0] ∧ win0_2.index t = ![t.val / 4, 0] :=
  (by decide +kernel : ∀ t : Fin grid0.N,
    win0_0.index t = ![t.val % 4, t.val / 4] ∧ win0_1.index t = ![t.val % 4, 0] ∧ win0_2.index t = ![t.val / 4, 0])

/-- What point `n` adds to the accumulator. -/
def term (n : ℕ) : S768x1024.Idx → EReal := fun i =>
  if h : n < cfg0.N then k0_pay1 (iblk m c 0 ⟨n, h⟩) (iblk m c 1 ⟨n, h⟩) i else 0

/-- The accumulator after a point: the addends of its run up to it. -/
theorem acc_eq (t : Fin cfg0.N) (i : S768x1024.Idx) :
    ((outsAt0 m c t.val t.isLt).2 i : EReal) = 0 + ∑ k ∈ Finset.range (t.val % 4 + 1), term m c (4 * (t.val / 4) + k) i := by
  have ht (t : Fin cfg0.N) (i : S768x1024.Idx) : term m c t.val i = k0_pay1 (iblk m c 0 t) (iblk m c 1 t) i := dif_pos t.isLt
  refine Pipeline.eq_sum_of_reset_step_apply (M := EReal) (fun n h => (outsAt0 m c n h).2) 4 (fun _ => 0) (term m c) ?_ ?_ t i
  · intro t h i
    rw [outsAt0_A m c t h (by omega) (by omega), ht, zero_add]
    frame_out
    exact pay2_at ..
  · intro t h i
    rw [ht]
    by_cases h2 : t.val % 4 = 3
    · rw [outsAt0_C m c t h (by omega) h2]
      frame_out
      simp only [read_unread_whole]
      exact pay3_at ..
    · rw [outsAt0_B m c t h (by omega) h2]
      frame_out
      simp only [read_unread_whole]
      exact pay3_at ..

/-- The last point of a run writes out the accumulator. -/
theorem out_eq (t : Fin cfg0.N) (h : t.val % 4 = 3) : (outsAt0 m c t.val t.isLt).1 = (outsAt0 m c t.val t.isLt).2 := by
  rw [outsAt0_C m c t (by omega) (by omega) h]
  frame_out

theorem final : (dats m 0 c).arrAt 2 cfg0.N =
    tn (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  have hN : t.val < 8 := lt_of_lt_of_eq t.isLt N_0
  blk_simp
  rw [after0_2, out_eq m c t h3]
  idx_vars y
  refine (acc_eq m c t _).trans ?_
  unfold tn
  rw [sum_rows, zero_add, h3, ← Fin.sum_univ_eq_sum_range]
  refine Finset.sum_congr (M := EReal) rfl fun s _ => ?_
  unfold term
  rw [dif_pos (show 4 * (t.val / 4) + s.val < cfg0.N by rw [show cfg0.N = 8 from N_0]; omega), pay1_at]
  refine Finset.sum_congr (M := EReal) rfl fun k _ => ?_
  congr 1
  · blk_ext [iblk, V, idx t, idx ⟨4 * (t.val / 4) + s.val, _⟩]
  · blk_ext [iblk, V, idx t, idx ⟨4 * (t.val / 4) + s.val, _⟩]

end Cert.OutWeightCIdeal.Value

namespace Cert.OutWeightCReferenceIdeal.Value

open Cert.OutWeightCReferenceIdeal Cert.OutWeightCReferenceIdeal.Gen Idealize.ShloMosaic Idealize.ShloMosaic.TcCoe Idealize.ShloMosaic.StableHlo
open Cert.Products (tn)

/-- The reference's composed term, which is the transpose of the product the other way round, is the same function. -/
theorem grad_eq (A : Vec Ideal S8192x1536 .bf16) (B : Vec Ideal S8192x1024 .bf16) :
    transpose S1536x1024 [1, 0] (Host.dotGeneral (F := Ideal) dot_S8192x1024_S8192x1536_S1024x1536_0_0_1_1_n_n none
      (extf .f32 B bitsLt_bf16_f32) (extf .f32 A bitsLt_bf16_f32)) transposes_S1024x1536_S1536x1024_1_0 = tn A B := by
  funext i
  idx_vars i
  pointwise [tn]
  exact Finset.sum_congr (M := EReal) rfl fun k _ => mul_comm (G := EReal) _ _

end Cert.OutWeightCReferenceIdeal.Value

end
-- ==== Proof.OutWeightD.lean ====
module

public import proofs.«01_k».proof.Proof.Gen.OutWeightDIdeal.Value
public import proofs.«01_k».proof.Proof.Gen.OutWeightDReferenceIdeal.Run
public import proofs.«01_k».proof.Proof.Products
public import Idealize.ShloMosaic.Lib.Pipeline.ValueKit
public import Idealize.ShloMosaic.Lib.Pipeline.ReadBack
public import Idealize.ShloMosaic.Lib.Pointwise

@[expose] public section

set_option maxRecDepth 16384

/-! The gradient of the HGRN2 layer's output weight: the mixer's columns against the columns of the residual's gradient,
summed over the 8192 rows. The kernel adds the four stretches of 2048 rows one grid point after another into an
accumulator which the last of the four writes out. -/

noncomputable section

namespace Cert.OutWeightDIdeal.Value

open Cert.OutWeightDIdeal Cert.OutWeightDIdeal.Gen Idealize.ShloMosaic Idealize.ShloMosaic.TcCoe Idealize.ShloMosaic.Tactic
open Idealize.SL Idealize.SL.Sem
open Idealize.ShloMosaic.Pipeline (Dat)
open Cert.Products (tn sum_rows)

/-- A grid point's addend, at an index. -/
theorem pay1_at (x0 : Vec Ideal S2048x768 .bf16) (x1 : Vec Ideal S2048x1024 .bf16) (i : Fin 768) (j : Fin 1024) :
    k0_pay1 x0 x1 (ix2 i j) = ∑ k : Fin 2048, (x0 (ix2 k i) * x1 (ix2 k j) : EReal) := by
  pointwise [k0_pay1]

theorem pay2_at (x0 : Vec Ideal S2048x768 .bf16) (x1 : Vec Ideal S2048x1024 .bf16) (i : S768x1024.Idx) :
    k0_pay2 x0 x1 i = k0_pay1 x0 x1 i := by
  unfold k0_pay2
  simp only [shapeCast_self]

theorem pay3_at (x0 : Vec Ideal S2048x768 .bf16) (x1 : Vec Ideal S2048x1024 .bf16) (v : Vec Ideal S768x1024 .f32)
    (i : S768x1024.Idx) : k0_pay3 x0 x1 v i = (v i + k0_pay1 x0 x1 i : EReal) := by
  unfold k0_pay3
  simp only [shapeCast_self]
  rfl

variable (m : (ℓ : Loc nD τ sig) → Buf (Elt Ideal) ℓ) (c : Dev nD)

theorem idx : ∀ t : Fin cfg0.N,
    win0_0.index t = ![t.val % 4, t.val / 4] ∧ win0_1.index t = ![t.val % 4, 0] ∧ win0_2.index t = ![t.val / 4, 0] :=
  (by decide +kernel : ∀ t : Fin grid0.N,
    win0_0.index t = ![t.val % 4, t.val / 4] ∧ win0_1.index t = ![t.val % 4, 0] ∧ win0_2.index t = ![t.val / 4, 0])

/-- What point `n` adds to the accumulator. -/
def term (n : ℕ) : S768x1024.Idx → EReal := fun i =>
  if h : n < cfg0.N then k0_pay1 (iblk m c 0 ⟨n, h⟩) (iblk m c 1 ⟨n, h⟩) i else 0

/-- The accumulator after a point: the addends of its run up to it. -/
theorem acc_eq (t : Fin cfg0.N) (i : S768x1024.Idx) :
    ((outsAt0 m c t.val t.isLt).2 i : EReal) = 0 + ∑ k ∈ Finset.range (t.val % 4 + 1), term m c (4 * (t.val / 4) + k) i := by
  have ht (t : Fin cfg0.N) (i : S768x1024.Idx) : term m c t.val i = k0_pay1 (iblk m c 0 t) (iblk m c 1 t) i := dif_pos t.isLt
  refine Pipeline.eq_sum_of_reset_step_apply (M := EReal) (fun n h => (outsAt0 m c n h).2) 4 (fun _ => 0) (term m c) ?_ ?_ t i
  · intro t h i
    have hN : t.val < 4 := lt_of_lt_of_eq t.isLt N_0
    rw [outsAt0_A m c t h (by omega) (by omega), ht, zero_add]
    frame_out
    exact pay2_at ..
  · intro t h i
    rw [ht]
    by_cases h2 : t.val % 4 = 3
    · rw [outsAt0_C m c t h (by omega) h2]
      frame_out
      simp only [read_unread_whole]
      exact pay3_at ..
    · rw [outsAt0_B m c t h (by omega) h2]
      frame_out
      simp only [read_unread_whole]
      exact pay3_at ..

/-- The last point of a run writes out the accumulator. -/
theorem out_eq (t : Fin cfg0.N) (h : t.val % 4 = 3) : (outsAt0 m c t.val t.isLt).1 = (outsAt0 m c t.val t.isLt).2 := by
  rw [outsAt0_C m c t (by omega) (by omega) h]
  frame_out

theorem final : (dats m 0 c).arrAt 2 cfg0.N =
    tn (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  have hN : t.val < 4 := lt_of_lt_of_eq t.isLt N_0
  blk_simp
  rw [after0_2, out_eq m c t h3]
  idx_vars y
  refine (acc_eq m c t _).trans ?_
  unfold tn
  rw [sum_rows, zero_add, h3, ← Fin.sum_univ_eq_sum_range]
  refine Finset.sum_congr (M := EReal) rfl fun s _ => ?_
  unfold term
  rw [dif_pos (show 4 * (t.val / 4) + s.val < cfg0.N by rw [show cfg0.N = 4 from N_0]; omega), pay1_at]
  refine Finset.sum_congr (M := EReal) rfl fun k _ => ?_
  congr 1
  · blk_ext [iblk, V, idx t, idx ⟨4 * (t.val / 4) + s.val, _⟩]
  · blk_ext [iblk, V, idx t, idx ⟨4 * (t.val / 4) + s.val, _⟩]

end Cert.OutWeightDIdeal.Value

namespace Cert.OutWeightDReferenceIdeal.Value

open Cert.OutWeightDReferenceIdeal Cert.OutWeightDReferenceIdeal.Gen Idealize.ShloMosaic Idealize.ShloMosaic.TcCoe Idealize.ShloMosaic.StableHlo
open Cert.Products (tn)

/-- The reference's composed term, which is the transpose of the product the other way round, is the same function. -/
theorem grad_eq (A : Vec Ideal S8192x768 .bf16) (B : Vec Ideal S8192x1024 .bf16) :
    transpose S768x1024 [1, 0] (Host.dotGeneral (F := Ideal) dot_S8192x1024_S8192x768_S1024x768_0_0_1_1_n_n none
      (extf .f32 B bitsLt_bf16_f32) (extf .f32 A bitsLt_bf16_f32)) transposes_S1024x768_S768x1024_1_0 = tn A B := by
  funext i
  idx_vars i
  pointwise [tn]
  exact Finset.sum_congr (M := EReal) rfl fun k _ => mul_comm (G := EReal) _ _

end Cert.OutWeightDReferenceIdeal.Value

end
-- ==== Proof.NormGrad.lean ====
module

public import proofs.«01_k».proof.Proof.Gen.NormGradIdeal.Value
public import proofs.«01_k».proof.Proof.Gen.NormGradReferenceIdeal.Run
public import proofs.«01_k».proof.Proof.Products
public import Idealize.ShloMosaic.Lib.Pipeline.ValueKit
public import Idealize.ShloMosaic.Lib.Pipeline.ReadBack
public import Idealize.ShloMosaic.Lib.Pointwise

@[expose] public section

set_option maxRecDepth 16384

/-! The gradient of the root-mean-square normalisation of rows, a gain on each column: of the rows, added to the gradient
that is already there, and of the gain. The kernel takes 512 rows at a grid point; it adds the gain's gradient up in its
output block, which every point visits. -/

noncomputable section

namespace Cert.RowNorm

open Idealize.ShloMosaic
open Cert.Products (Mat)

/-- A 1024th of a number. -/
def mean (s : EReal) : EReal := s * Ideal.ofBits .f32 0x3A800000#32

theorem lit_1024 : Ideal.ofBits .f32 0x44800000#32 = ((1024 : ℝ) : EReal) := by
  simp [Ideal.ofBits, Ideal.ieee, -EReal.coe_mul]; norm_num

theorem lit_inv : Ideal.ofBits .f32 0x3A800000#32 = (((1024 : ℝ)⁻¹ : ℝ) : EReal) := by
  simp [Ideal.ofBits, Ideal.ieee, -EReal.coe_mul]; norm_num

/-- Dividing by 1024 is multiplying by its inverse. -/
theorem div_1024 (s : EReal) : Ideal.div s (Ideal.ofBits .f32 0x44800000#32) = mean s := by
  unfold mean
  rw [lit_1024, lit_inv, EReal.coe_inv]
  unfold Ideal.div
  rw [if_neg (by norm_num)]

variable (x g d : Fin 1024 → EReal)

/-- A row's mean square, with the small constant that keeps it from zero. -/
def ms : EReal := mean (∑ k, x k * x k) + Ideal.ofBits .f32 0x358637BD#32

/-- The factor that normalises a row. -/
def nrm : EReal := Ideal.rsqrt (ms x)

/-- What a row gives the gain's gradient. -/
def gain (j : Fin 1024) : EReal := x j * nrm x * d j

/-- What the mean square gives a row's gradient, before the row's own factor. -/
def pull : EReal := mean ((∑ k, x k * (d k * g k)) * (Ideal.ofBits .f32 0xBF000000#32 * Ideal.div (nrm x) (ms x)))

/-- A row's gradient. -/
def rowGrad (j : Fin 1024) : EReal := d j * g j * nrm x + x j * pull x g d + pull x g d * x j

/-- A row of a matrix. -/
def row {m : ℕ} (X : Mat m 1024) (i : Fin m) : Fin 1024 → EReal := fun j => X (ix2 i j)

/-- The rows' gradients, added to those that are there. -/
def dx {m : ℕ} (X : Mat m 1024) (G : Mat 1 1024) (D Y : Mat m 1024) : Mat m 1024 := fun i =>
  rowGrad (row X (i 0)) (row G 0) (row D (i 0)) (i 1) + Y i

/-- The gain's gradient. -/
def dg {m : ℕ} (X D : Mat m 1024) : Mat 1 1024 := fun i => ∑ k : Fin m, gain (row X k) (row D k) (i 1)

/-- A sum over 8192 rows is the sum over sixteen stretches of 512. -/
theorem sum_rows (f : Fin 8192 → EReal) :
    ∑ k, f k = ∑ s : Fin 16, ∑ k : Fin 512, f ⟨512 * s.val + k.val, by omega⟩ := by
  rw [← (finProdFinEquiv (m := 16) (n := 512)).sum_comp f, Fintype.sum_prod_type]
  refine Finset.sum_congr rfl fun s _ => Finset.sum_congr rfl fun k _ => congrArg f (Fin.ext ?_)
  exact Nat.add_comm _ _

end Cert.RowNorm

namespace Cert.NormGradIdeal.Value

open Cert.NormGradIdeal Cert.NormGradIdeal.Gen Idealize.ShloMosaic Idealize.ShloMosaic.TcCoe Idealize.ShloMosaic.Tactic
open Idealize.SL Idealize.SL.Sem
open Idealize.ShloMosaic.Pipeline (Dat)
open Cert.RowNorm (mean ms nrm gain pull rowGrad row dx dg sum_rows)

section
variable (x0 : Vec Ideal S512x1024 .f32) (x1 : Vec Ideal S1x1024 .f32) (x2 x3 : Vec Ideal S512x1024 .f32)
variable (i : Fin 512) (j : Fin 1024)

theorem ms_at : k0_pay3 x0 (ix2 i 0) = ms (row x0 i) := by
  pointwise [k0_pay3, ms, mean, row]

theorem nrm_at : k0_pay4 x0 (ix2 i 0) = nrm (row x0 i) := by
  pointwise [k0_pay4, nrm]
  rw [ms_at]

theorem gain_at (a : Fin 1) : k0_pay5 x0 x2 (ix2 a j) = ∑ k, gain (row x0 k) (row x2 k) j := by
  pointwise [k0_pay5, gain]
  simp only [nrm_at]
  rfl

theorem dx_at : k0_pay6 x0 x1 x2 x3 (ix2 i j) = dx x0 x1 x2 x3 (ix2 i j) := by
  pointwise [k0_pay6, dx, rowGrad, pull, mean]
  simp only [Fin.sum_univ_one, nrm_at, ms_at, row]

theorem pay7_at (y : S512x1024.Idx) : k0_pay7 x0 x1 x2 x3 y = k0_pay6 x0 x1 x2 x3 y := rfl

end

variable (m : (ℓ : Loc nD τ sig) → Buf (Elt Ideal) ℓ) (c : Dev nD)

theorem idx : ∀ t : Fin cfg0.N,
    win0_0.index t = ![t.val, 0] ∧ win0_1.index t = ![0, 0] ∧ win0_2.index t = ![t.val, 0] ∧ win0_3.index t = ![t.val, 0] ∧
    win0_4.index t = ![t.val, 0] ∧ win0_5.index t = ![0, 0] ∧ win0_6.index t = ![t.val, 0] :=
  (by decide +kernel : ∀ t : Fin grid0.N,
    win0_0.index t = ![t.val, 0] ∧ win0_1.index t = ![0, 0] ∧ win0_2.index t = ![t.val, 0] ∧ win0_3.index t = ![t.val, 0] ∧
    win0_4.index t = ![t.val, 0] ∧ win0_5.index t = ![0, 0] ∧ win0_6.index t = ![t.val, 0])

/-- What a point stores for the rows. -/
theorem out4 (t : Fin cfg0.N) : (outsAt0 m c t.val t.isLt).1 =
    k0_pay6 (iblk m c 0 t) (iblk m c 1 t) (iblk m c 2 t) (iblk m c 3 t) := by
  by_cases h : t.val % 16 = 0
  · rw [outsAt0_A m c t h]
    frame_out
  · rw [outsAt0_B m c t h]
    frame_out

/-- What a point stores for the rows in the narrow format. -/
theorem out6 (t : Fin cfg0.N) : (outsAt0 m c t.val t.isLt).2.2 =
    k0_pay7 (iblk m c 0 t) (iblk m c 1 t) (iblk m c 2 t) (iblk m c 3 t) := by
  by_cases h : t.val % 16 = 0
  · rw [outsAt0_A m c t h]
    frame_out
  · rw [outsAt0_B m c t h]
    frame_out

/-- What point `n` adds to the gain's gradient. -/
def term (n : ℕ) : S1x1024.Idx → EReal := fun i =>
  if h : n < cfg0.N then k0_pay5 (iblk m c 0 ⟨n, h⟩) (iblk m c 2 ⟨n, h⟩) i else 0

/-- The gain's gradient after a point: the addends up to it. -/
theorem acc_eq (t : Fin cfg0.N) (i : S1x1024.Idx) :
    ((outsAt0 m c t.val t.isLt).2.1 i : EReal) = 0 + ∑ k ∈ Finset.range (t.val % 16 + 1), term m c (16 * (t.val / 16) + k) i := by
  have ht (t : Fin cfg0.N) (i : S1x1024.Idx) : term m c t.val i = k0_pay5 (iblk m c 0 t) (iblk m c 2 t) i := dif_pos t.isLt
  refine Pipeline.eq_sum_of_reset_step_apply (M := EReal) (fun n h => (outsAt0 m c n h).2.1) 16 (fun _ => 0) (term m c) ?_ ?_ t i
  · intro t h i
    rw [outsAt0_A m c t h, ht]
    frame_out
    pointwise [k0_pay2, k0_pay1]
  · intro t h i
    rw [outsAt0_B m c t h, ht]
    frame_out
    pointwise [k0_pay2]

theorem final_dx : (dats m 0 c).arrAt 4 cfg0.N =
    dx (m ((c : Thread nD τ).loc main_arg0)) (m ((c : Thread nD τ).loc main_arg1)) (m ((c : Thread nD τ).loc main_arg2))
      (m ((c : Thread nD τ).loc main_arg3)) := by
  refine (dats m 0 c).arrAt_eq_of_covers 4 _ (by decide +kernel) fun t hf y => ?_
  blk_simp
  rw [after0_4, out4]
  idx_vars y
  rw [dx_at]
  unfold dx
  refine congrArg₂ (fun a b : EReal => a + b) ?_ ?_
  · congr 1
    · funext k
      unfold row
      blk_ext [iblk, V, idx t]
    · funext k
      unfold row
      blk_ext [iblk, V, idx t]
    · funext k
      unfold row
      blk_ext [iblk, V, idx t]
    · refine Fin.ext ?_
      blk_simp [idx t]
  · blk_ext [iblk, V, idx t]

theorem final_dxb : (dats m 0 c).arrAt 6 cfg0.N =
    dx (m ((c : Thread nD τ).loc main_arg0)) (m ((c : Thread nD τ).loc main_arg1)) (m ((c : Thread nD τ).loc main_arg2))
      (m ((c : Thread nD τ).loc main_arg3)) := by
  refine (dats m 0 c).arrAt_eq_of_covers 6 _ (by decide +kernel) fun t hf y => ?_
  blk_simp
  rw [after0_6, out6]
  idx_vars y
  rw [pay7_at, dx_at]
  unfold dx
  refine congrArg₂ (fun a b : EReal => a + b) ?_ ?_
  · congr 1
    · funext k
      unfold row
      blk_ext [iblk, V, idx t]
    · funext k
      unfold row
      blk_ext [iblk, V, idx t]
    · funext k
      unfold row
      blk_ext [iblk, V, idx t]
    · refine Fin.ext ?_
      blk_simp [idx t]
  · blk_ext [iblk, V, idx t]

theorem final_dg : (dats m 0 c).arrAt 5 cfg0.N =
    dg (m ((c : Thread nD τ).loc main_arg0)) (m ((c : Thread nD τ).loc main_arg2)) := by
  refine (dats m 0 c).arrAt_eq_of_covers 5 _ (by decide +kernel) fun t hf y => ?_
  have h15 : t.val % 16 = 15 := (flush0_5 t).mp hf
  have hN : t.val < 16 := lt_of_lt_of_eq t.isLt N_0
  blk_simp
  rw [after0_5]
  idx_vars y
  refine (acc_eq m c t _).trans ?_
  unfold dg
  rw [sum_rows, zero_add, h15, ← Fin.sum_univ_eq_sum_range]
  refine Finset.sum_congr (M := EReal) rfl fun s _ => ?_
  unfold term
  rw [dif_pos (show 16 * (t.val / 16) + s.val < cfg0.N by rw [show cfg0.N = 16 from N_0]; omega), gain_at]
  refine Finset.sum_congr (M := EReal) rfl fun k _ => ?_
  congr 1
  · funext l
    unfold row
    blk_ext [iblk, V, idx t, idx ⟨16 * (t.val / 16) + s.val, _⟩]
  · funext l
    unfold row
    blk_ext [iblk, V, idx t, idx ⟨16 * (t.val / 16) + s.val, _⟩]
  · refine Fin.ext ?_
    blk_simp [idx t]

end Cert.NormGradIdeal.Value

namespace Cert.NormGradReferenceIdeal.Value

open Cert.NormGradReferenceIdeal Cert.NormGradReferenceIdeal.Gen Idealize.ShloMosaic Idealize.ShloMosaic.TcCoe Idealize.ShloMosaic.StableHlo
open Cert.RowNorm (mean ms nrm gain pull rowGrad row dx dg div_1024)

section
variable (X D Y : FVec Ideal S8192x1024 .f32) (G : FVec Ideal S1x1024 .f32)

/-- The reference's terms: the mean squares of the rows, with the small constant. -/
def refMs : FVec Ideal S8192x1 .f32 :=
  addf (Host.divf (broadcastInDim S8192x1 ![0] bcast_S8192_S8192x1_0
      (Host.reduceAdd (mulf X X) (constant S_ .f32 0x00000000#32) reducesTo_S8192x1024_S8192_d1 h_S_))
    (broadcastInDim S8192x1 ![] bcast_S_S8192x1 (constant S_ .f32 0x44800000#32)))
    (broadcastInDim S8192x1 ![] bcast_S_S8192x1 (constant S_ .f32 0x358637BD#32))

/-- The incoming gradient with the gain. -/
def refGain : FVec Ideal S8192x1024 .f32 := mulf D (broadcastInDim S8192x1024 ![0, 1] bcast_S1x1024_S8192x1024_0_1 G)

/-- What the mean square gives, a row at a time. -/
def refPull : FVec Ideal S8192x1 .f32 :=
  Host.divf (mulf (shapeCast _ (Host.reduceAdd (mulf X (refGain D G)) (constant S_ .f32 0x00000000#32)
      reducesTo_S8192x1024_S8192_d1 h_S_) shapeCasts_S8192_S8192x1)
    (mulf (broadcastInDim S8192x1 ![] bcast_S_S8192x1 (constant S_ .f32 0xBF000000#32))
      (Host.divf (Host.rsqrt (refMs X)) (refMs X))))
    (broadcastInDim S8192x1 ![] bcast_S_S8192x1 (constant S_ .f32 0x44800000#32))

/-- The same in every column. -/
def refPulls : FVec Ideal S8192x1024 .f32 := broadcastInDim S8192x1024 ![0] bcast_S8192_S8192x1024_0
  (Host.reduceAdd (refPull X D G) (constant S_ .f32 0x00000000#32) reducesTo_S8192x1_S8192_d1 h_S_)

theorem refMs_at (i : Fin 8192) (a : Fin 1) : refMs X (ix2 i a) = ms (row X i) := by
  pointwise [refMs, ms, row]
  simp only [div_1024]

theorem refPull_at (i : Fin 8192) (a : Fin 1) : refPull X D G (ix2 i a) = pull (row X i) (row G 0) (row D i) := by
  pointwise [refPull, refGain, pull, nrm]
  simp only [div_1024, refMs_at]
  rfl

theorem refPulls_at (i : Fin 8192) (j : Fin 1024) :
    refPulls X D G (ix2 i j) = pull (row X i) (row G 0) (row D i) := by
  pointwise [refPulls]
  simp only [Fin.sum_univ_one, refPull_at]

/-- The reference's term for the rows, which adds in another order, is the same function. -/
theorem dx_eq :
    addf Y (addf (addf (mulf (refGain D G) (broadcastInDim S8192x1024 ![0, 1] bcast_S8192x1_S8192x1024_0_1
      (Host.rsqrt (refMs X)))) (mulf X (refPulls X D G))) (mulf (refPulls X D G) X)) = dx X G D Y := by
  funext i
  idx_vars i
  refine Eq.trans ?_ (add_comm (G := EReal) _ _)
  pointwise [dx, rowGrad, refGain, nrm]
  simp only [refMs_at, refPulls_at]
  rfl

/-- The narrow copy holds the same numbers. -/
theorem dxb_eq :
    truncf .bf16 (addf Y (addf (addf (mulf (refGain D G) (broadcastInDim S8192x1024 ![0, 1] bcast_S8192x1_S8192x1024_0_1
      (Host.rsqrt (refMs X)))) (mulf X (refPulls X D G))) (mulf (refPulls X D G) X))) bitsLt_bf16_f32 = dx X G D Y :=
  dx_eq X D Y G

/-- The reference's term for the gain is the same function. -/
theorem dg_eq :
    shapeCast S1x1024 (Host.reduceAdd (mulf (mulf X (broadcastInDim S8192x1024 ![0, 1] bcast_S8192x1_S8192x1024_0_1
      (Host.rsqrt (refMs X)))) D) (constant S_ .f32 0x00000000#32) reducesTo_S8192x1024_S1024_d0 h_S_)
      shapeCasts_S1024_S1x1024 = dg X D := by
  funext i
  idx_vars i
  pointwise [dg, gain, nrm]
  simp only [refMs_at]
  rfl

end

end Cert.NormGradReferenceIdeal.Value

end
-- ==== Proof.InWeightG.lean ====
module

public import proofs.«01_k».proof.Proof.Gen.InWeightGIdeal.Value
public import proofs.«01_k».proof.Proof.Gen.InWeightGReferenceIdeal.Run
public import proofs.«01_k».proof.Proof.Products
public import Idealize.ShloMosaic.Lib.Pipeline.ValueKit
public import Idealize.ShloMosaic.Lib.Pipeline.ReadBack
public import Idealize.ShloMosaic.Lib.Pointwise

@[expose] public section

set_option maxRecDepth 16384

/-! The gradient of the input weight of the gated linear attention's decays: the input's columns against the columns of
the projection's gradient, summed over the 8192 rows. The kernel adds the four stretches of 2048 rows one grid point
after another into an accumulator which the last of the four writes out. -/

noncomputable section

namespace Cert.InWeightGIdeal.Value

open Cert.InWeightGIdeal Cert.InWeightGIdeal.Gen Idealize.ShloMosaic Idealize.ShloMosaic.TcCoe Idealize.ShloMosaic.Tactic
open Idealize.SL Idealize.SL.Sem
open Idealize.ShloMosaic.Pipeline (Dat)
open Cert.Products (tn sum_rows)

/-- A grid point's addend, at an index. -/
theorem pay1_at (x0 : Vec Ideal S2048x1024 .bf16) (x1 : Vec Ideal S2048x128 .bf16) (i : Fin 1024) (j : Fin 128) :
    k0_pay1 x0 x1 (ix2 i j) = ∑ k : Fin 2048, (x0 (ix2 k i) * x1 (ix2 k j) : EReal) := by
  pointwise [k0_pay1]

theorem pay2_at (x0 : Vec Ideal S2048x1024 .bf16) (x1 : Vec Ideal S2048x128 .bf16) (i : S1024x128.Idx) :
    k0_pay2 x0 x1 i = k0_pay1 x0 x1 i := by
  unfold k0_pay2
  simp only [shapeCast_self]

theorem pay3_at (x0 : Vec Ideal S2048x1024 .bf16) (x1 : Vec Ideal S2048x128 .bf16) (v : Vec Ideal S1024x128 .f32)
    (i : S1024x128.Idx) : k0_pay3 x0 x1 v i = (v i + k0_pay1 x0 x1 i : EReal) := by
  unfold k0_pay3
  simp only [shapeCast_self]
  rfl

variable (m : (ℓ : Loc nD τ sig) → Buf (Elt Ideal) ℓ) (c : Dev nD)

theorem idx : ∀ t : Fin cfg0.N,
    win0_0.index t = ![t.val % 4, 0] ∧ win0_1.index t = ![t.val % 4, t.val / 4] ∧ win0_2.index t = ![0, t.val / 4] :=
  (by decide +kernel : ∀ t : Fin grid0.N,
    win0_0.index t = ![t.val % 4, 0] ∧ win0_1.index t = ![t.val % 4, t.val / 4] ∧ win0_2.index t = ![0, t.val / 4])

/-- What point `n` adds to the accumulator. -/
def term (n : ℕ) : S1024x128.Idx → EReal := fun i =>
  if h : n < cfg0.N then k0_pay1 (iblk m c 0 ⟨n, h⟩) (iblk m c 1 ⟨n, h⟩) i else 0

/-- The accumulator after a point: the addends of its run up to it. -/
theorem acc_eq (t : Fin cfg0.N) (i : S1024x128.Idx) :
    ((outsAt0 m c t.val t.isLt).2 i : EReal) = 0 + ∑ k ∈ Finset.range (t.val % 4 + 1), term m c (4 * (t.val / 4) + k) i := by
  have ht (t : Fin cfg0.N) (i : S1024x128.Idx) : term m c t.val i = k0_pay1 (iblk m c 0 t) (iblk m c 1 t) i := dif_pos t.isLt
  refine Pipeline.eq_sum_of_reset_step_apply (M := EReal) (fun n h => (outsAt0 m c n h).2) 4 (fun _ => 0) (term m c) ?_ ?_ t i
  · intro t h i
    have hN : t.val < 4 := lt_of_lt_of_eq t.isLt N_0
    rw [outsAt0_A m c t h (by omega) (by omega), ht, zero_add]
    frame_out
    exact pay2_at ..
  · intro t h i
    rw [ht]
    by_cases h2 : t.val % 4 = 3
    · rw [outsAt0_C m c t h (by omega) h2]
      frame_out
      simp only [read_unread_whole]
      exact pay3_at ..
    · rw [outsAt0_B m c t h (by omega) h2]
      frame_out
      simp only [read_unread_whole]
      exact pay3_at ..

/-- The last point of a run writes out the accumulator. -/
theorem out_eq (t : Fin cfg0.N) (h : t.val % 4 = 3) : (outsAt0 m c t.val t.isLt).1 = (outsAt0 m c t.val t.isLt).2 := by
  rw [outsAt0_C m c t (by omega) (by omega) h]
  frame_out

theorem final : (dats m 0 c).arrAt 2 cfg0.N =
    tn (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  have hN : t.val < 4 := lt_of_lt_of_eq t.isLt N_0
  blk_simp
  rw [after0_2, out_eq m c t h3]
  idx_vars y
  refine (acc_eq m c t _).trans ?_
  unfold tn
  rw [sum_rows, zero_add, h3, ← Fin.sum_univ_eq_sum_range]
  refine Finset.sum_congr (M := EReal) rfl fun s _ => ?_
  unfold term
  rw [dif_pos (show 4 * (t.val / 4) + s.val < cfg0.N by rw [show cfg0.N = 4 from N_0]; omega), pay1_at]
  refine Finset.sum_congr (M := EReal) rfl fun k _ => ?_
  congr 1
  · blk_ext [iblk, V, idx t, idx ⟨4 * (t.val / 4) + s.val, _⟩]
  · blk_ext [iblk, V, idx t, idx ⟨4 * (t.val / 4) + s.val, _⟩]

end Cert.InWeightGIdeal.Value

namespace Cert.InWeightGReferenceIdeal.Value

open Cert.InWeightGReferenceIdeal Cert.InWeightGReferenceIdeal.Gen Idealize.ShloMosaic Idealize.ShloMosaic.TcCoe Idealize.ShloMosaic.StableHlo
open Cert.Products (tn)

/-- The reference's composed term, which is the transpose of the product the other way round, is the same function. -/
theorem grad_eq (A : Vec Ideal S8192x1024 .bf16) (B : FVec Ideal S8192x128 .bf16) :
    transpose S1024x128 [1, 0] (Host.dotGeneral (F := Ideal) dot_S8192x128_S8192x1024_S128x1024_0_0_1_1_n_n none
      (extf .f32 B bitsLt_bf16_f32) (extf .f32 A bitsLt_bf16_f32)) transposes_S128x1024_S1024x128_1_0 = tn A B := by
  funext i
  idx_vars i
  pointwise [tn]
  exact Finset.sum_congr (M := EReal) rfl fun k _ => mul_comm (G := EReal) _ _

end Cert.InWeightGReferenceIdeal.Value

end
-- ==== Proof.InWeightT.lean ====
module

public import proofs.«01_k».proof.Proof.Gen.InWeightTIdeal.Value
public import proofs.«01_k».proof.Proof.Gen.InWeightTReferenceIdeal.Run
public import proofs.«01_k».proof.Proof.Products
public import Idealize.ShloMosaic.Lib.Pipeline.ValueKit
public import Idealize.ShloMosaic.Lib.Pipeline.ReadBack
public import Idealize.ShloMosaic.Lib.Pointwise

@[expose] public section

set_option maxRecDepth 16384

/-! The gradient of the input weight of the state-space layer's step sizes: the input's columns against the columns of the
projection's gradient, summed over the 8192 rows. The kernel adds the four stretches of 2048 rows one grid point after
another into an accumulator which the last of the four writes out. -/

noncomputable section

namespace Cert.InWeightTIdeal.Value

open Cert.InWeightTIdeal Cert.InWeightTIdeal.Gen Idealize.ShloMosaic Idealize.ShloMosaic.TcCoe Idealize.ShloMosaic.Tactic
open Idealize.SL Idealize.SL.Sem
open Idealize.ShloMosaic.Pipeline (Dat)
open Cert.Products (tn sum_rows)

/-- A grid point's addend, at an index. -/
theorem pay1_at (x0 : Vec Ideal S2048x1024 .bf16) (x1 : Vec Ideal S2048x128 .f32) (i : Fin 1024) (j : Fin 128) :
    k0_pay1 x0 x1 (ix2 i j) = ∑ k : Fin 2048, (x0 (ix2 k i) * x1 (ix2 k j) : EReal) := by
  pointwise [k0_pay1]

theorem pay2_at (x0 : Vec Ideal S2048x1024 .bf16) (x1 : Vec Ideal S2048x128 .f32) (i : S1024x128.Idx) :
    k0_pay2 x0 x1 i = k0_pay1 x0 x1 i := by
  unfold k0_pay2
  simp only [shapeCast_self]

theorem pay3_at (x0 : Vec Ideal S2048x1024 .bf16) (x1 : Vec Ideal S2048x128 .f32) (v : Vec Ideal S1024x128 .f32)
    (i : S1024x128.Idx) : k0_pay3 x0 x1 v i = (v i + k0_pay1 x0 x1 i : EReal) := by
  unfold k0_pay3
  simp only [shapeCast_self]
  rfl

variable (m : (ℓ : Loc nD τ sig) → Buf (Elt Ideal) ℓ) (c : Dev nD)

theorem idx : ∀ t : Fin cfg0.N,
    win0_0.index t = ![t.val % 4, 0] ∧ win0_1.index t = ![t.val % 4, t.val / 4] ∧ win0_2.index t = ![0, t.val / 4] :=
  (by decide +kernel : ∀ t : Fin grid0.N,
    win0_0.index t = ![t.val % 4, 0] ∧ win0_1.index t = ![t.val % 4, t.val / 4] ∧ win0_2.index t = ![0, t.val / 4])

/-- What point `n` adds to the accumulator. -/
def term (n : ℕ) : S1024x128.Idx → EReal := fun i =>
  if h : n < cfg0.N then k0_pay1 (iblk m c 0 ⟨n, h⟩) (iblk m c 1 ⟨n, h⟩) i else 0

/-- The accumulator after a point: the addends of its run up to it. -/
theorem acc_eq (t : Fin cfg0.N) (i : S1024x128.Idx) :
    ((outsAt0 m c t.val t.isLt).2 i : EReal) = 0 + ∑ k ∈ Finset.range (t.val % 4 + 1), term m c (4 * (t.val / 4) + k) i := by
  have ht (t : Fin cfg0.N) (i : S1024x128.Idx) : term m c t.val i = k0_pay1 (iblk m c 0 t) (iblk m c 1 t) i := dif_pos t.isLt
  refine Pipeline.eq_sum_of_reset_step_apply (M := EReal) (fun n h => (outsAt0 m c n h).2) 4 (fun _ => 0) (term m c) ?_ ?_ t i
  · intro t h i
    have hN : t.val < 4 := lt_of_lt_of_eq t.isLt N_0
    rw [outsAt0_A m c t h (by omega) (by omega), ht, zero_add]
    frame_out
    exact pay2_at ..
  · intro t h i
    rw [ht]
    by_cases h2 : t.val % 4 = 3
    · rw [outsAt0_C m c t h (by omega) h2]
      frame_out
      simp only [read_unread_whole]
      exact pay3_at ..
    · rw [outsAt0_B m c t h (by omega) h2]
      frame_out
      simp only [read_unread_whole]
      exact pay3_at ..

/-- The last point of a run writes out the accumulator. -/
theorem out_eq (t : Fin cfg0.N) (h : t.val % 4 = 3) : (outsAt0 m c t.val t.isLt).1 = (outsAt0 m c t.val t.isLt).2 := by
  rw [outsAt0_C m c t (by omega) (by omega) h]
  frame_out

theorem final : (dats m 0 c).arrAt 2 cfg0.N =
    tn (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  have hN : t.val < 4 := lt_of_lt_of_eq t.isLt N_0
  blk_simp
  rw [after0_2, out_eq m c t h3]
  idx_vars y
  refine (acc_eq m c t _).trans ?_
  unfold tn
  rw [sum_rows, zero_add, h3, ← Fin.sum_univ_eq_sum_range]
  refine Finset.sum_congr (M := EReal) rfl fun s _ => ?_
  unfold term
  rw [dif_pos (show 4 * (t.val / 4) + s.val < cfg0.N by rw [show cfg0.N = 4 from N_0]; omega), pay1_at]
  refine Finset.sum_congr (M := EReal) rfl fun k _ => ?_
  congr 1
  · blk_ext [iblk, V, idx t, idx ⟨4 * (t.val / 4) + s.val, _⟩]
  · blk_ext [iblk, V, idx t, idx ⟨4 * (t.val / 4) + s.val, _⟩]

end Cert.InWeightTIdeal.Value

namespace Cert.InWeightTReferenceIdeal.Value

open Cert.InWeightTReferenceIdeal Cert.InWeightTReferenceIdeal.Gen Idealize.ShloMosaic Idealize.ShloMosaic.TcCoe Idealize.ShloMosaic.StableHlo
open Cert.Products (tn)

/-- The reference's composed term, which is the transpose of the product the other way round, is the same function. -/
theorem grad_eq (A : Vec Ideal S8192x1024 .bf16) (B : FVec Ideal S8192x128 .f32) :
    transpose S1024x128 [1, 0] (Host.dotGeneral (F := Ideal) dot_S8192x128_S8192x1024_S128x1024_0_0_1_1_n_n none
      B (extf .f32 A bitsLt_bf16_f32)) transposes_S128x1024_S1024x128_1_0 = tn A B := by
  funext i
  idx_vars i
  pointwise [tn]
  exact Finset.sum_congr (M := EReal) rfl fun k _ => mul_comm (G := EReal) _ _

end Cert.InWeightTReferenceIdeal.Value

end
-- ==== Proof.Mem.lean ====
module

public import proofs.«01_k».proof.Proof.Gen.MemIdeal.Value
public import proofs.«01_k».proof.Proof.Gen.MemReferenceIdeal.Run
public import proofs.«01_k».proof.Proof.Products
public import Idealize.ShloMosaic.Lib.Pipeline.ValueKit
public import Idealize.ShloMosaic.Lib.Pointwise

@[expose] public section

set_option maxRecDepth 16384

/-! The keys and values of the memory: its normalised rows against the columns of their weight. The kernel computes the
product whole at one grid point. -/

noncomputable section

namespace Cert.MemIdeal.Value

open Cert.MemIdeal Cert.MemIdeal.Gen Idealize.ShloMosaic Idealize.ShloMosaic.TcCoe Idealize.ShloMosaic.Tactic
open Idealize.SL Idealize.SL.Sem
open Idealize.ShloMosaic.Pipeline (Dat)
open Cert.Products (nn)

/-- What the grid point stores, at an index. -/
theorem out_at (x0 : Vec Ideal S256x1024 .bf16) (x1 : Vec Ideal S1024x1024 .bf16) (i : Fin 256) (j : Fin 1024) :
    out0_2 x0 x1 (ix2 i j) = ∑ k : Fin 1024, (x0 (ix2 i k) * x1 (ix2 k j) : EReal) := by
  unfold out0_2
  rw [View.canon_unit_zero (by decide)]
  pointwise [k0_pay1]

theorem idx : ∀ t : Fin cfg0.N,
    win0_0.index t = ![0, 0] ∧ win0_1.index t = ![0, 0] ∧ win0_2.index t = ![0, 0] :=
  (by decide +kernel : ∀ t : Fin grid0.N,
    win0_0.index t = ![0, 0] ∧ win0_1.index t = ![0, 0] ∧ win0_2.index t = ![0, 0])

variable (m : (ℓ : Loc nD τ sig) → Buf (Elt Ideal) ℓ) (c : Dev nD)

theorem final : (dats m 0 c).arrAt 2 cfg0.N =
    nn (m ((c : Thread nD τ).loc main_arg0)) (m ((c : Thread nD τ).loc main_arg1)) := by
  refine (dats m 0 c).arrAt_eq_of_covers 2 _ (by decide +kernel) fun t hf y => ?_
  blk_simp
  rw [after0_2]
  idx_vars y
  rw [out_at]
  refine Finset.sum_congr (M := EReal) rfl fun k _ => congrArg₂ (fun a b : EReal => a * b) ?_ ?_ <;>
    blk_ext [iblk, V, idx t]

end Cert.MemIdeal.Value

namespace Cert.MemReferenceIdeal.Value

open Cert.MemReferenceIdeal Cert.MemReferenceIdeal.Gen Idealize.ShloMosaic Idealize.ShloMosaic.TcCoe Idealize.ShloMosaic.StableHlo
open Cert.Products (nn)

/-- The reference's composed term is the same function. -/
theorem prod_eq (A : Vec Ideal S256x1024 .bf16) (B : Vec Ideal S1024x1024 .bf16) :
    Host.dotGeneral (F := Ideal) dot_S256x1024_S1024x1024_S256x1024_1_0_0_1_n_n none (extf .f32 A bitsLt_bf16_f32)
      (extf .f32 B bitsLt_bf16_f32) = nn A B := by
  funext i
  idx_vars i
  pointwise [nn]

end Cert.MemReferenceIdeal.Value

end
-- ==== Proof.MemAct.lean ====
module

public import proofs.«01_k».proof.Proof.Gen.MemActIdeal.Value
public import proofs.«01_k».proof.Proof.Gen.MemActReferenceIdeal.Run
public import proofs.«01_k».proof.Proof.Products
public import Idealize.ShloMosaic.Lib.Pipeline.ValueKit
public import Idealize.ShloMosaic.Lib.Pointwise

@[expose] public section

set_option maxRecDepth 16384

/-! The gradient of the memory's normalised rows: the keys' and values' gradient against the rows of their weight, plus
what the layers worked through before gave. The kernel computes it whole at one grid point. -/

noncomputable section

namespace Cert.MemActIdeal.Value

open Cert.MemActIdeal Cert.MemActIdeal.Gen Idealize.ShloMosaic Idealize.ShloMosaic.TcCoe Idealize.ShloMosaic.Tactic
open Idealize.SL Idealize.SL.Sem
open Idealize.ShloMosaic.Pipeline (Dat)
open Cert.Products (Mat nt)

/-- What the grid point stores, at an index. -/
theorem out_at (x0 : Vec Ideal S256x1024 .f32) (x1 : Vec Ideal S1024x1024 .bf16) (x2 : Vec Ideal S256x1024 .f32)
    (i : Fin 256) (j : Fin 1024) :
    out0_3 x0 x1 x2 (ix2 i j) = ((∑ k : Fin 1024, (x0 (ix2 i k) * x1 (ix2 j k) : EReal)) + x2 (ix2 i j) : EReal) := by
  unfold out0_3
  rw [View.canon_unit_zero (by decide)]
  pointwise [k0_pay1]

theorem idx : ∀ t : Fin cfg0.N,
    win0_0.index t = ![0, 0] ∧ win0_1.index t = ![0, 0] ∧ win0_2.index t = ![0, 0] ∧ win0_3.index t = ![0, 0] :=
  (by decide +kernel : ∀ t : Fin grid0.N,
    win0_0.index t = ![0, 0] ∧ win0_1.index t = ![0, 0] ∧ win0_2.index t = ![0, 0] ∧ win0_3.index t = ![0, 0])

/-- A product of rows against rows, plus a third array. -/
def prodAdd (A : Mat 256 1024) (B : Mat 1024 1024) (X : Mat 256 1024) : Mat 256 1024 := fun i => nt A B i + X i

variable (m : (ℓ : Loc nD τ sig) → Buf (Elt Ideal) ℓ) (c : Dev nD)

theorem final : (dats m 0 c).arrAt 3 cfg0.N =
    prodAdd (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  idx_vars y
  rw [out_at]
  refine congrArg₂ (fun a b : EReal => a + b)
    (Finset.sum_congr (M := EReal) rfl fun k _ => congrArg₂ (fun a b : EReal => a * b) ?_ ?_) ?_ <;>
    blk_ext [iblk, V, idx t]

end Cert.MemActIdeal.Value

namespace Cert.MemActReferenceIdeal.Value

open Cert.MemActReferenceIdeal Cert.MemActReferenceIdeal.Gen Idealize.ShloMosaic Idealize.ShloMosaic.TcCoe Idealize.ShloMosaic.StableHlo
open Cert.Products (nt)

/-- The reference's composed term, which adds in the other order, is the same function. -/
theorem prodAdd_eq (A : FVec Ideal S256x1024 .f32) (B : Vec Ideal S1024x1024 .bf16) (X : FVec Ideal S256x1024 .f32) :
    addf X (Host.dotGeneral (F := Ideal) dot_S256x1024_S1024x1024_S256x1024_1_1_0_0_n_n none A
      (extf .f32 B bitsLt_bf16_f32)) = Cert.MemActIdeal.Value.prodAdd A B X := by
  funext i
  idx_vars i
  unfold Cert.MemActIdeal.Value.prodAdd
  refine Eq.trans ?_ (add_comm (G := EReal) _ _)
  pointwise [nt]

end Cert.MemActReferenceIdeal.Value

end
-- ==== Proof.MemWeight.lean ====
module

public import proofs.«01_k».proof.Proof.Gen.MemWeightIdeal.Value
public import proofs.«01_k».proof.Proof.Gen.MemWeightReferenceIdeal.Run
public import proofs.«01_k».proof.Proof.Products
public import Idealize.ShloMosaic.Lib.Pipeline.ValueKit
public import Idealize.ShloMosaic.Lib.Pointwise

@[expose] public section

set_option maxRecDepth 16384

/-! The gradient of the weight of the memory's keys and values: the columns of the memory's normalised rows against the
columns of the keys' and values' gradient. The kernel computes the product whole at one grid point. -/

noncomputable section

namespace Cert.MemWeightIdeal.Value

open Cert.MemWeightIdeal Cert.MemWeightIdeal.Gen Idealize.ShloMosaic Idealize.ShloMosaic.TcCoe Idealize.ShloMosaic.Tactic
open Idealize.SL Idealize.SL.Sem
open Idealize.ShloMosaic.Pipeline (Dat)
open Cert.Products (tn)

/-- What the grid point stores, at an index. -/
theorem out_at (x0 : Vec Ideal S256x1024 .bf16) (x1 : Vec Ideal S256x1024 .f32) (i j : Fin 1024) :
    out0_2 x0 x1 (ix2 i j) = ∑ k : Fin 256, (x0 (ix2 k i) * x1 (ix2 k j) : EReal) := by
  unfold out0_2
  rw [View.canon_unit_zero (by decide)]
  pointwise [k0_pay1]

theorem idx : ∀ t : Fin cfg0.N,
    win0_0.index t = ![0, 0] ∧ win0_1.index t = ![0, 0] ∧ win0_2.index t = ![0, 0] :=
  (by decide +kernel : ∀ t : Fin grid0.N,
    win0_0.index t = ![0, 0] ∧ win0_1.index t = ![0, 0] ∧ win0_2.index t = ![0, 0])

variable (m : (ℓ : Loc nD τ sig) → Buf (Elt Ideal) ℓ) (c : Dev nD)

theorem final : (dats m 0 c).arrAt 2 cfg0.N =
    tn (m ((c : Thread nD τ).loc main_arg0)) (m ((c : Thread nD τ).loc main_arg1)) := by
  refine (dats m 0 c).arrAt_eq_of_covers 2 _ (by decide +kernel) fun t hf y => ?_
  blk_simp
  rw [after0_2]
  idx_vars y
  rw [out_at]
  refine Finset.sum_congr (M := EReal) rfl fun k _ => congrArg₂ (fun a b : EReal => a * b) ?_ ?_ <;>
    blk_ext [iblk, V, idx t]

end Cert.MemWeightIdeal.Value

namespace Cert.MemWeightReferenceIdeal.Value

open Cert.MemWeightReferenceIdeal Cert.MemWeightReferenceIdeal.Gen Idealize.ShloMosaic Idealize.ShloMosaic.TcCoe Idealize.ShloMosaic.StableHlo
open Cert.Products (tn)

/-- The reference's composed term, which is the transpose of the product the other way round, is the same function. -/
theorem grad_eq (A : Vec Ideal S256x1024 .bf16) (B : FVec Ideal S256x1024 .f32) :
    transpose S1024x1024 [1, 0] (Host.dotGeneral (F := Ideal) dot_S256x1024_S256x1024_S1024x1024_0_0_1_1_n_n none
      B (extf .f32 A bitsLt_bf16_f32)) transposes_S1024x1024_S1024x1024_1_0 = tn A B := by
  funext i
  idx_vars i
  pointwise [tn]
  exact Finset.sum_congr (M := EReal) rfl fun k _ => mul_comm (G := EReal) _ _

end Cert.MemWeightReferenceIdeal.Value

end
-- ==== Proof.KFrame.lean ====
/- The frame of the idealized kernel: what the outputs and the two carried buffers hold at each grid point, the run of the
   whole grid, and that it ends with the arguments unchanged and every counter at zero. It is the generated module of
   that name, with the two equations of the carried buffers proved by rewriting. -/
module

public import proofs.«01_k».proof.Proof.Gen.KernelIdeal.Frame.RunB
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Cases

variable (c : Dev nD) (i : grid0.Coords)
  (arg2 : Memref sig .tc .vmem S128x512 .f32) (harg2 : arg2.IsWhole) (arg3 : Memref sig .tc .vmem S128x512 .f32) (harg3 : arg3.IsWhole)
  (arg4 : Memref sig .tc .vmem S128x512 .f32) (harg4 : arg4.IsWhole) (arg5 : Memref sig .tc .vmem S128x512 .f32) (harg5 : arg5.IsWhole)
  (arg6 : Memref sig .tc .vmem S128x512 .f32) (harg6 : arg6.IsWhole) (arg7 : Memref sig .tc .vmem S128x512 .f32) (harg7 : arg7.IsWhole)
  (arg8 : Memref sig .tc .vmem S128x512 .f32) (harg8 : arg8.IsWhole) (arg9 : Memref sig .tc .vmem S128x512 .f32) (harg9 : arg9.IsWhole)
  (arg10 : Memref sig .tc .vmem S128x512 .f32) (harg10 : arg10.IsWhole) (arg11 : Memref sig .tc .vmem S128x512 .f32) (harg11 : arg11.IsWhole)
  (arg12 : Memref sig .tc .vmem S128x512 .f32) (harg12 : arg12.IsWhole) (arg13 : Memref sig .tc .vmem S128x512 .f32) (harg13 : arg13.IsWhole)

section CaseA

variable (hc0 : cond0_0 i)
  (x0 : Vec F S128x512 .f32) (x1 : Vec F S128x512 .f32) (x2 : Vec F S128x512 .f32) (x3 : Vec F S128x512 .f32)
  (x4 : Vec F S128x512 .f32) (x5 : Vec F S128x512 .f32) (x6 : Vec F S128x512 .f32)

/-- Case A's pieces for output 7 tile its block (4 stores of `S128x128`) and cover it. -/
theorem cover0_A_7 (y : S128x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).1 S128x128.size (by sl_kernel_rfl) y

/-- What case A leaves in output 7's staging buffer: its pieces read back over junk. -/
def out0_A_7 : Vec F S128x512 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).1)

/-- Case A's pieces for output 8 tile its block (4 stores of `S128x128`) and cover it. -/
theorem cover0_A_8 (y : S128x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).2.1 S128x128.size (by sl_kernel_rfl) y

/-- What case A leaves in output 8's staging buffer: its pieces read back over junk. -/
def out0_A_8 : Vec F S128x512 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).2.1)

/-- Case A's pieces for output 9 tile its block (4 stores of `S128x128`) and cover it. -/
theorem cover0_A_9 (y : S128x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).2.2.1 S128x128.size (by sl_kernel_rfl) y

/-- What case A leaves in output 9's staging buffer: its pieces read back over junk. -/
def out0_A_9 : Vec F S128x512 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).2.2.1)

/-- Case A's pieces for scratch `arg12`, which the kernel carries between points, cover it: one of them a store of the WHOLE buffer. -/
theorem scover0_A_0 (y : S128x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).2.2.2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).2.2.2.1 (by sl_whole_mem) y

/-- What case A leaves in scratch `arg12`: its pieces read back over junk. -/
def sout0_A_0 : Vec F S128x512 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).2.2.2.1)

/-- Case A's pieces for scratch `arg13`, which the kernel carries between points, cover it: one of them a store of the WHOLE buffer. -/
theorem scover0_A_1 (y : S128x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).2.2.2.2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).2.2.2.2.1 (by sl_whole_mem) y

/-- What case A leaves in scratch `arg13`: its pieces read back over junk. -/
def sout0_A_1 : Vec F S128x512 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).2.2.2.2.1)

end CaseA

section CaseB

variable (hc0 : ¬cond0_0 i)
  (x0 : Vec F S128x512 .f32) (x1 : Vec F S128x512 .f32) (x2 : Vec F S128x512 .f32) (x3 : Vec F S128x512 .f32)
  (x4 : Vec F S128x512 .f32) (x5 : Vec F S128x512 .f32) (x6 : Vec F S128x512 .f32)
  (xs0 : Vec F S128x512 .f32) (xs1 : Vec F S128x512 .f32)

/-- Case B's pieces for output 7 tile its block (4 stores of `S128x128`) and cover it. -/
theorem cover0_B_7 (y : S128x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1).1 S128x128.size (by sl_kernel_rfl) y

/-- What case B leaves in output 7's staging buffer: its pieces read back over junk. -/
def out0_B_7 : Vec F S128x512 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1).1)

/-- Case B's pieces for output 8 tile its block (4 stores of `S128x128`) and cover it. -/
theorem cover0_B_8 (y : S128x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1).2.1 S128x128.size (by sl_kernel_rfl) y

/-- What case B leaves in output 8's staging buffer: its pieces read back over junk. -/
def out0_B_8 : Vec F S128x512 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1).2.1)

/-- Case B's pieces for output 9 tile its block (4 stores of `S128x128`) and cover it. -/
theorem cover0_B_9 (y : S128x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1).2.2.1 S128x128.size (by sl_kernel_rfl) y

/-- What case B leaves in output 9's staging buffer: its pieces read back over junk. -/
def out0_B_9 : Vec F S128x512 .f32 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1).2.2.1)

/-- Case B's pieces for scratch `arg12`, which the kernel carries between points, cover it: 4 pieces of `S128x128` tiling it. -/
theorem scover0_B_0 (y : S128x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1).2.2.2.1 S128x128.size (by sl_kernel_rfl) y

/-- What case B leaves in scratch `arg12`: its pieces read back over junk. -/
def sout0_B_0 : Vec F S128x512 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1).2.2.2.1)

/-- Case B's pieces for scratch `arg13`, which the kernel carries between points, cover it: 4 pieces of `S128x128` tiling it. -/
theorem scover0_B_1 (y : S128x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1).2.2.2.2.1 S128x128.size (by sl_kernel_rfl) y

/-- What case B leaves in scratch `arg13`: its pieces read back over junk. -/
def sout0_B_1 : Vec F S128x512 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1).2.2.2.2.1)

/-! ## What the outputs hold after each point -/

end CaseB

end Cases

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S128x512 .f32 × Vec F S128x512 .f32 × Vec F S128x512 .f32 × Vec F S128x512 .f32 × Vec F S128x512 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : (n + 1) % 64 = 0 then
      (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
    else
      (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.1 (outsAt0 c n (Nat.lt_of_succ_lt hn)).2.2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.1 (outsAt0 c n (Nat.lt_of_succ_lt hn)).2.2.2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.1 (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.1 (outsAt0 c n (Nat.lt_of_succ_lt hn)).2.2.2.2)

/-- `outsAt0` at a point of case A: that case's contents. -/
theorem outsAt0_A (c : Dev nD) (t : Fin cfg0.N) (h0 : t.val % 64 = 0) :
    outsAt0 m c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t)) := by
  obtain ⟨n, hn⟩ := t
  cases n with
  | zero => exact rfl
  | succ n => rw [outsAt0, dif_pos h0]

/-- `outsAt0` at a point of case B: that case's contents, over what the point before left. -/
theorem outsAt0_B (c : Dev nD) (t : Fin cfg0.N) (h0 : ¬t.val % 64 = 0) :
    outsAt0 m c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => rw [outsAt0, dif_neg h0]; rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.1) ∗ owns (c : Thread nD τ) scM0_1 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.1) ∗ owns (c : Thread nD τ) scM0_1 fullShare ((outsAt0 m c n hn).2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.1) ∗ owns (c : Thread nD τ) scM0_1 fullShare ((outsAt0 m c (n - 1) (by omega)).2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
    | ⟨8, _⟩ => (outsAt0 m c t.val t.isLt).2.1
    | ⟨9, _⟩ => (outsAt0 m c t.val t.isLt).2.2.1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]
theorem after0_8 (c : Dev nD) (t : Fin cfg0.N) : (dats m 0 c).after 8 t = (outsAt0 m c t.val t.isLt).2.1 := by dsimp only [dats]
theorem after0_9 (c : Dev nD) (t : Fin cfg0.N) : (dats m 0 c).after 9 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7, after0_8, after0_9]
  rw [show (dats m 0 c).Φ t.succ = PhiS m c (t.val + 1) t.isLt from rfl, PhiS_succ]
  have hN : t.val < 64 := lt_of_lt_of_eq t.isLt (show cfg0.N = 64 from N_0)
  by_cases h0 : t.val % 64 = 0
  · by_cases hz : t.val = 0
    · rw [PhiS_castSucc m c t, PhiS_zero m c _ _ hz, PhiA0_eq]
      rw [outsAt0_A m c t h0]
      unfold out0_A_7 out0_A_8 out0_A_9 sout0_A_0 sout0_A_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      iintro ⟨H0, H1, H2, H3, H4, H5, H6, ⟨%e7, H7⟩, ⟨%e8, H8⟩, ⟨%e9, H9⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _)
      unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _ _ _ _)
    · exfalso; have hN : t.val < 64 := lt_of_lt_of_eq t.isLt (show cfg0.N = 64 from N_0); omega
  · by_cases hz : t.val = 0
    · exfalso; have hN : t.val < 64 := lt_of_lt_of_eq t.isLt (show cfg0.N = 64 from N_0); omega
    · rw [PhiS_castSucc m c t, PhiS_pos m c _ _ hz]
      rw [outsAt0_B m c t h0]
      unfold out0_B_7 out0_B_8 out0_B_9 sout0_B_0 sout0_B_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_B c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      iintro ⟨H0, H1, H2, H3, H4, H5, H6, ⟨%e7, H7⟩, ⟨%e8, H8⟩, ⟨%e9, H9⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover0_B_1 c _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_B_7 c _ _ _ _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_B_8 c _ _ _ _ _ _ _ _ _ _ _ _ _ _ _ _ _ _ _ _ _ _ _ _ _ _ _ _ _ _ _ _ _ _ _)
      unfold owns; iexists _; isplitr
      swap; · iexact H9
      ipureintro; exact View.read_writes_of_cover _ _ _ _ _ (cover0_B_9 c _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

-- the launch's arguments are read off the statement below
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Gen

end
-- ==== Proof.KValue.lean ====
/- What each of the idealized kernel's three output arrays holds, block by block: the array after the run is named
   (`run_blocks`), and each block of it is what the grid point that works on it wrote. It is the generated module of
   that name, over the frame of `KFrame`. -/
module

public import proofs.«01_k».proof.Proof.KFrame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 7's array: the run's contents for that window after the body (`Gen.outsAt0`: its component 0), read through the window's block. -/
theorem flushed7 (c : Dev nD) (t : Fin cfg0.N) :
    (dats m 0 c).flushed 7 t = (cfg0.win 7).cut (grid0.coords t) ((outsAt0 m c t.val t.isLt).1) := by
  show (cfg0.win 7).cut (grid0.coords t) ((dats m 0 c).after 7 t) = _
  rw [after0_7]

/-- … so at a point where case A runs, what its write-back would write is that case's NAMED TERM for the window (`Gen.out0_A_7`: the pieces
    its run found, read back) at the point's memrefs and input blocks, and for an output the case reads back what the point before left (`Gen.outsAt0` at `t - 1`) — by the frame's rewriting lemma for the case. -/
theorem flushed7_A (c : Dev nD) (t : Fin cfg0.N) (h0 : t.val % 64 = 0) :
    (dats m 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t)) := by
  simp only [flushed7, outsAt0_A m c t h0]

/-- … so at a point where case B runs, what its write-back would write is that case's NAMED TERM for the window (`Gen.out0_B_7`: the pieces
    its run found, read back) at the point's memrefs and input blocks, and for an output the case reads back what the point before left (`Gen.outsAt0` at `t - 1`) — by the frame's rewriting lemma for the case. -/
theorem flushed7_B (c : Dev nD) (t : Fin cfg0.N) (h0 : ¬t.val % 64 = 0) :
    (dats m 0 c).flushed 7 t = (cfg0.win 7).cut (grid0.coords t) (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  simp only [flushed7, outsAt0_B m c t h0]

/-- The index map sends distinct grid points to distinct block indices (decided over the 64 points). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S8192x512.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the run's contents for that window after the body (`Gen.outsAt0`: its component 1), read through the window's block. -/
theorem flushed8 (c : Dev nD) (t : Fin cfg0.N) :
    (dats m 0 c).flushed 8 t = (cfg0.win 8).cut (grid0.coords t) ((outsAt0 m c t.val t.isLt).2.1) := by
  show (cfg0.win 8).cut (grid0.coords t) ((dats m 0 c).after 8 t) = _
  rw [after0_8]

/-- … so at a point where case A runs, what its write-back would write is that case's NAMED TERM for the window (`Gen.out0_A_8`: the pieces
    its run found, read back) at the point's memrefs and input blocks, and for an output the case reads back what the point before left (`Gen.outsAt0` at `t - 1`) — by the frame's rewriting lemma for the case. -/
theorem flushed8_A (c : Dev nD) (t : Fin cfg0.N) (h0 : t.val % 64 = 0) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t)) := by
  simp only [flushed8, outsAt0_A m c t h0]

/-- … so at a point where case B runs, what its write-back would write is that case's NAMED TERM for the window (`Gen.out0_B_8`: the pieces
    its run found, read back) at the point's memrefs and input blocks, and for an output the case reads back what the point before left (`Gen.outsAt0` at `t - 1`) — by the frame's rewriting lemma for the case. -/
theorem flushed8_B (c : Dev nD) (t : Fin cfg0.N) (h0 : ¬t.val % 64 = 0) :
    (dats m 0 c).flushed 8 t = (cfg0.win 8).cut (grid0.coords t) (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  simp only [flushed8, outsAt0_B m c t h0]

/-- The index map sends distinct grid points to distinct block indices (decided over the 64 points). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S8192x512.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the run's contents for that window after the body (`Gen.outsAt0`: its component 2), read through the window's block. -/
theorem flushed9 (c : Dev nD) (t : Fin cfg0.N) :
    (dats m 0 c).flushed 9 t = (cfg0.win 9).cut (grid0.coords t) ((outsAt0 m c t.val t.isLt).2.2.1) := by
  show (cfg0.win 9).cut (grid0.coords t) ((dats m 0 c).after 9 t) = _
  rw [after0_9]

/-- … so at a point where case A runs, what its write-back would write is that case's NAMED TERM for the window (`Gen.out0_A_9`: the pieces
    its run found, read back) at the point's memrefs and input blocks, and for an output the case reads back what the point before left (`Gen.outsAt0` at `t - 1`) — by the frame's rewriting lemma for the case. -/
theorem flushed9_A (c : Dev nD) (t : Fin cfg0.N) (h0 : t.val % 64 = 0) :
    (dats m 0 c).flushed 9 t = (cfg0.win 9).cut (grid0.coords t) (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t)) := by
  simp only [flushed9, outsAt0_A m c t h0]

/-- … so at a point where case B runs, what its write-back would write is that case's NAMED TERM for the window (`Gen.out0_B_9`: the pieces
    its run found, read back) at the point's memrefs and input blocks, and for an output the case reads back what the point before left (`Gen.outsAt0` at `t - 1`) — by the frame's rewriting lemma for the case. -/
theorem flushed9_B (c : Dev nD) (t : Fin cfg0.N) (h0 : ¬t.val % 64 = 0) :
    (dats m 0 c).flushed 9 t = (cfg0.win 9).cut (grid0.coords t) (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  simp only [flushed9, outsAt0_B m c t h0]

/-- The index map sends distinct grid points to distinct block indices (decided over the 64 points). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- BLOCK `t` OF THE FINAL ARRAY, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- An index that no flushing point's block covers keeps output window 9's array contents at region entry. -/
theorem entry9 (c : Dev nD) (i : S8192x512.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_0) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_1) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_2) = (dats m 0 c).arrAt 9 cfg0.N :=
  (h c).1 9

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 2 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 2).trans (((dats m 0 c).arrAt_in 2 rfl _).trans ((A_eq m c 2).trans (V_main_arg1 m c)))

/-- After the frame run, argument `main_arg2` is as launched: input window 4 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 4).trans (((dats m 0 c).arrAt_in 4 rfl _).trans ((A_eq m c 4).trans (V_main_arg2 m c)))

/-- After the frame run, argument `main_arg3` is as launched: input window 5 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 5).trans (((dats m 0 c).arrAt_in 5 rfl _).trans ((A_eq m c 5).trans (V_main_arg3 m c)))

/-- After the frame run, argument `main_arg4` is as launched: input window 6 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 6).trans (((dats m 0 c).arrAt_in 6 rfl _).trans ((A_eq m c 6).trans (V_main_arg4 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 7 cfg0.N
      ∧ r.2.mem ((c : Thread nD τ).loc main_v0_1) = (dats m 0 c).arrAt 8 cfg0.N
      ∧ r.2.mem ((c : Thread nD τ).loc main_v0_2) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post7 m r h c,
      post8 m r h c,
      post9 m r h c,
      kept_main_arg0 m r h c,
      kept_main_arg1 m r h c,
      kept_main_arg2 m r h c,
      kept_main_arg3 m r h c,
      kept_main_arg4 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the first point
    stores the scratch whole without reading what it held, and `acc` does not enter there (nor where no point meets the
    conditions: `acc`, never read). -/
def scAt0_0 (c : Dev nD) (n : ℕ) (hb : n < cfg0.N) (acc : Vec F S128x512 .f32) : Vec F S128x512 .f32 :=
  if h0 : n % 64 = 0 then
    sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N))
  else
    sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2.2.2

/-- WHAT CARRIED SCRATCH 0 HOLDS after point `t`: the fold of its run up to `t`, from the reset at the run's first point
    `64·(t / 64)` (Lib/Pipeline/Value.lean `Pipeline.eq_accAt_of_mod`, by the frame's `outsAt0_κ`; without enumerating the points). -/
theorem soutsAt0_0_eq (c : Dev nD) (t : Fin cfg0.N) :
    (outsAt0 m c t.val t.isLt).2.2.2.1 = Pipeline.accAt (fun n h => scAt0_0 m c n h (VS0_0.read (Elt F) VS0_0.junk)) (scAt0_0 m c) (64 * (t.val / 64)) (t.val % 64)
      (by have h1 := t.isLt; have h2 := Nat.div_add_mod t.val 64; omega) :=
  Pipeline.eq_accAt_of_mod (fun n h => (outsAt0 m c n h).2.2.2.1) 64 (fun n h => scAt0_0 m c n h (VS0_0.read (Elt F) VS0_0.junk)) (scAt0_0 m c)
    (fun n h hn => by
      have hN := lt_of_lt_of_eq h (show cfg0.N = 64 from N_0)
      by_cases h0 : n % 64 = 0
      all_goals first | (exfalso; omega) | (rw [outsAt0_A m c ⟨n, h⟩ h0]; dsimp only; unfold scAt0_0; rw [dif_pos h0] <;> try rfl) | (rw [outsAt0_B m c ⟨n, h⟩ h0]; dsimp only; unfold scAt0_0; rw [dif_neg h0] <;> try rfl))
    (fun n h hn => by
      have hN := lt_of_lt_of_eq h (show cfg0.N = 64 from N_0)
      by_cases h0 : (n + 1) % 64 = 0
      all_goals first | (exfalso; omega) | (rw [outsAt0_A m c ⟨n + 1, h⟩ h0]; dsimp only; unfold scAt0_0; rw [dif_pos h0] <;> try rfl) | (rw [outsAt0_B m c ⟨n + 1, h⟩ h0]; dsimp only; unfold scAt0_0; rw [dif_neg h0] <;> try rfl))
    (by decide) t.val t.isLt _

/-- One run spans the grid (the only reset is at point 0): after point `n` the scratch is the fold from 0 to `n`. -/
theorem soutsAt0_0_sweep (c : Dev nD) (n : ℕ) (hn : n < cfg0.N) :
    (outsAt0 m c n hn).2.2.2.1 = Pipeline.accAt (fun n h => scAt0_0 m c n h (VS0_0.read (Elt F) VS0_0.junk)) (scAt0_0 m c) 0 n (by omega) := by
  have e := soutsAt0_0_eq m c ⟨n, hn⟩
  have hN := lt_of_lt_of_eq hn (show cfg0.N = 64 from N_0)
  have hd : n / 64 = 0 := Nat.div_eq_of_lt hN
  have hm : n % 64 = n := Nat.mod_eq_of_lt hN
  simpa only [hd, hm, Nat.mul_zero] using e

/-! ## Carried scratch 1: what each point leaves in it, and its fold -/

/-- What point `n` leaves in carried scratch 1, over what the point before left in it (`acc`): the case the conditions'
    closed forms select at `n`, the frame's own term for it (`Gen.sout0_κ_1`; anything else the case takes of the point
    before, another carried scratch or an output it reads back, stays `Gen.outsAt0`'s at `n - 1`); a case at the first point
    stores the scratch whole without reading what it held, and `acc` does not enter there (nor where no point meets the
    conditions: `acc`, never read). -/
def scAt0_1 (c : Dev nD) (n : ℕ) (hb : n < cfg0.N) (acc : Vec F S128x512 .f32) : Vec F S128x512 .f32 :=
  if h0 : n % 64 = 0 then
    sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N))
  else
    sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (outsAt0 m c ((⟨n, hb⟩ : Fin cfg0.N).val - 1) (Nat.lt_of_le_of_lt (Nat.sub_le _ _) (⟨n, hb⟩ : Fin cfg0.N).isLt)).2.2.2.1 acc

/-- WHAT CARRIED SCRATCH 1 HOLDS after point `t`: the fold of its run up to `t`, from the reset at the run's first point
    `64·(t / 64)` (Lib/Pipeline/Value.lean `Pipeline.eq_accAt_of_mod`, by the frame's `outsAt0_κ`; without enumerating the points). -/
theorem soutsAt0_1_eq (c : Dev nD) (t : Fin cfg0.N) :
    (outsAt0 m c t.val t.isLt).2.2.2.2 = Pipeline.accAt (fun n h => scAt0_1 m c n h (VS0_1.read (Elt F) VS0_1.junk)) (scAt0_1 m c) (64 * (t.val / 64)) (t.val % 64)
      (by have h1 := t.isLt; have h2 := Nat.div_add_mod t.val 64; omega) :=
  Pipeline.eq_accAt_of_mod (fun n h => (outsAt0 m c n h).2.2.2.2) 64 (fun n h => scAt0_1 m c n h (VS0_1.read (Elt F) VS0_1.junk)) (scAt0_1 m c)
    (fun n h hn => by
      have hN := lt_of_lt_of_eq h (show cfg0.N = 64 from N_0)
      by_cases h0 : n % 64 = 0
      all_goals first | (exfalso; omega) | (rw [outsAt0_A m c ⟨n, h⟩ h0]; dsimp only; unfold scAt0_1; rw [dif_pos h0] <;> try rfl) | (rw [outsAt0_B m c ⟨n, h⟩ h0]; dsimp only; unfold scAt0_1; rw [dif_neg h0] <;> try rfl))
    (fun n h hn => by
      have hN := lt_of_lt_of_eq h (show cfg0.N = 64 from N_0)
      by_cases h0 : (n + 1) % 64 = 0
      all_goals first | (exfalso; omega) | (rw [outsAt0_A m c ⟨n + 1, h⟩ h0]; dsimp only; unfold scAt0_1; rw [dif_pos h0] <;> try rfl) | (rw [outsAt0_B m c ⟨n + 1, h⟩ h0]; dsimp only; unfold scAt0_1; rw [dif_neg h0] <;> try rfl))
    (by decide) t.val t.isLt _

/-- One run spans the grid (the only reset is at point 0): after point `n` the scratch is the fold from 0 to `n`. -/
theorem soutsAt0_1_sweep (c : Dev nD) (n : ℕ) (hn : n < cfg0.N) :
    (outsAt0 m c n hn).2.2.2.2 = Pipeline.accAt (fun n h => scAt0_1 m c n h (VS0_1.read (Elt F) VS0_1.junk)) (scAt0_1 m c) 0 n (by omega) := by
  have e := soutsAt0_1_eq m c ⟨n, hn⟩
  have hN := lt_of_lt_of_eq hn (show cfg0.N = 64 from N_0)
  have hd : n / 64 = 0 := Nat.div_eq_of_lt hN
  have hm : n % 64 = n := Nat.mod_eq_of_lt hN
  simpa only [hd, hm, Nat.mul_zero] using e

end Cert.KernelIdeal.Value

end
-- ==== Proof.KHead.lean ====
module

public import proofs.«01_k».proof.Proof.KValue
public import Idealize.ShloMosaic.Lib.Pipeline.ValueKit
public import Idealize.ShloMosaic.Lib.Pointwise

@[expose] public section

set_option maxRecDepth 16384

/-! What one grid point of the attention-gradient kernel stores, head by head.  The body runs the same
operations on each of the four heads; they are named here once (`hDs`, `hDq`, `hDk`, `hDv`, `hCk`, `hCv`)
and every output and carried buffer is read as those operations on the head's 128 columns. -/

noncomputable section

namespace Cert.KernelIdeal.Value

open Cert.KernelIdeal Cert.KernelIdeal.Gen Idealize.ShloMosaic Idealize.ShloMosaic.TcCoe Idealize.ShloMosaic.Tactic
open Idealize.SL Idealize.SL.Sem

variable {F : FTy → Type} [FloatOps F] [Named F]

/-- The first key the mask lets through: 128 at the grid's last point (the sequence's first block), else 0. -/
def limOf (i : grid0.Coords) : BitVec 32 :=
  Scalar.select (Scalar.cmpi .eq (BitVec.ofNat 32 (i 1).val) 63#32) 128#32 0#32

/-- The scores' gradient of one head. -/
def hDs (lim : BitVec 32) (q kp kc vp vc o l : Vec F S128x128 .f32) : FVec F S128x256 .f32 :=
  k0_pay38 (k0_pay27 vp vc) (k0_pay28 lim) (k0_pay31 lim q kp kc) (k0_pay32 lim q kp kc) (k0_pay33 lim q kp kc)
    (k0_pay34 lim q kp kc) (k0_pay36 lim q kp kc) o l

/-- The queries' gradient of one head. -/
def hDq (lim : BitVec 32) (q kp kc vp vc o l : Vec F S128x128 .f32) : FVec F S128x128 .f32 :=
  k0_pay40 (k0_pay26 kp kc) (truncf .bf16 (hDs lim q kp kc vp vc o l) bitsLt_bf16_f32)

/-- The current keys' gradient of one head, the carried part added. -/
def hDk (lim : BitVec 32) (q kp kc vp vc o l ck : Vec F S128x128 .f32) : FVec F S128x128 .f32 :=
  k0_pay42 q (hDs lim q kp kc vp vc o l) ck

/-- The current values' gradient of one head, the carried part added. -/
def hDv (lim : BitVec 32) (q kp kc vp vc o l cv : Vec F S128x128 .f32) : FVec F S128x128 .f32 :=
  k0_pay43 (k0_pay37 (k0_pay35 lim q kp kc) o) cv

/-- The previous keys' gradient of one head, carried to the next point. -/
def hCk (lim : BitVec 32) (q kp kc vp vc o l : Vec F S128x128 .f32) : FVec F S128x128 .f32 :=
  k0_pay44 q (hDs lim q kp kc vp vc o l)

/-- The previous values' gradient of one head, carried to the next point. -/
def hCv (lim : BitVec 32) (q kp kc vp vc o l : Vec F S128x128 .f32) : FVec F S128x128 .f32 :=
  k0_pay45 (k0_pay37 (k0_pay35 lim q kp kc) o)

/-- The 128 columns of head `h`. -/
def col (x : Vec F S128x512 .f32) (h : Fin 4) : Vec F S128x128 .f32 :=
  fun y => x (ix2 (y 0) ⟨128 * h.val + (y 1).val, by have h1 : (y 1).val < 128 := (y 1).isLt; have := h.isLt; omega⟩)

theorem ld_col0 (x : Vec F S128x512 .f32) : View.ld x (Rect.unit ![0, 0] ![128, 128] inb_S128x512_S128x128_0_0) = col x 0 := by
  funext y; idx_vars y; pointwise [col]; try rfl
theorem ld_col1 (x : Vec F S128x512 .f32) : View.ld x (Rect.unit ![0, 128] ![128, 128] inb_S128x512_S128x128_0_128) = col x 1 := by
  funext y; idx_vars y; pointwise [col]; try rfl
theorem ld_col2 (x : Vec F S128x512 .f32) : View.ld x (Rect.unit ![0, 256] ![128, 128] inb_S128x512_S128x128_0_256) = col x 2 := by
  funext y; idx_vars y; pointwise [col]; try rfl
theorem ld_col3 (x : Vec F S128x512 .f32) : View.ld x (Rect.unit ![0, 384] ![128, 128] inb_S128x512_S128x128_0_384) = col x 3 := by
  funext y; idx_vars y; pointwise [col]; try rfl

abbrev rect0 : Rect S128x512 := Rect.unit ![0, 0] S128x128.size inb_S128x512_S128x128_0_0
abbrev rect1 : Rect S128x512 := Rect.unit ![0, 128] S128x128.size inb_S128x512_S128x128_0_128
abbrev rect2 : Rect S128x512 := Rect.unit ![0, 256] S128x128.size inb_S128x512_S128x128_0_256
abbrev rect3 : Rect S128x512 := Rect.unit ![0, 384] S128x128.size inb_S128x512_S128x128_0_384

theorem emb_rect (o : Nat) (inb : ∀ a, (![0, o] : Fin 2 → Nat) a + S128x128.size a ≤ S128x512.size a) (a d : Fin 128) (n : Fin 512) (hn : n.val = o + d.val) :
    (ix2 a n : S128x512.Idx) = (Rect.unit (s := S128x512) ![0, o] S128x128.size inb).emb (ix2 a d) := by
  funext b
  apply Fin.ext
  rw [Rect.emb_apply]
  match b with
  | ⟨0, _⟩ => exact (show a.val = 0 + 1 * a.val by omega)
  | ⟨1, _⟩ => exact (show n.val = o + 1 * d.val by omega)

theorem not_mem_rect (o : Nat) (inb : ∀ a, (![0, o] : Fin 2 → Nat) a + S128x128.size a ≤ S128x512.size a) (a : Fin 128) (n : Fin 512) (hn : n.val < o) :
    (ix2 a n : S128x512.Idx) ∉ (Rect.unit (s := S128x512) ![0, o] S128x128.size inb).set := by
  rw [Rect.mem_set_unit]
  intro h
  have := (h 1).1
  exact absurd (lt_of_lt_of_le hn this) (lt_irrefl _)

theorem canon_hit (o : Nat) (inb : ∀ a, (![0, o] : Fin 2 → Nat) a + S128x128.size a ≤ S128x512.size a) (w : S128x128.Idx → Elt F .f32)
    (L : List (View.Piece (Elt F) S128x512 .f32)) (a d : Fin 128) (n : Fin 512) (hn : n.val = o + d.val) :
    View.canon (⟨Rect.unit (s := S128x512) ![0, o] S128x128.size inb, w⟩ :: L) (ix2 a n) = w (ix2 a d) := by
  rw [emb_rect o inb a d n hn]
  exact View.canon_cons_emb _ _ _ _

theorem canon_miss (o : Nat) (inb : ∀ a, (![0, o] : Fin 2 → Nat) a + S128x128.size a ≤ S128x512.size a) (w : S128x128.Idx → Elt F .f32)
    (L : List (View.Piece (Elt F) S128x512 .f32)) (a : Fin 128) (n : Fin 512) (hn : n.val < o) :
    View.canon (⟨Rect.unit (s := S128x512) ![0, o] S128x128.size inb, w⟩ :: L) (ix2 a n) = View.canon L (ix2 a n) :=
  View.canon_cons_of_not_mem _ _ (not_mem_rect o inb a n hn)

/-- Four stores of 128 columns each, the newest first, read at head `h`'s column `d`. -/
theorem canon4 (w0 w1 w2 w3 : S128x128.Idx → Elt F .f32) (L : List (View.Piece (Elt F) S128x512 .f32)) (h : ℕ) (hh : h < 4)
    (a d : Fin 128) (n : Fin 512) (hn : n.val = 128 * h + d.val) :
    View.canon (⟨rect3, w3⟩ :: ⟨rect2, w2⟩ :: ⟨rect1, w1⟩ :: ⟨rect0, w0⟩ :: L) (ix2 a n) =
      (if h = 3 then w3 else if h = 2 then w2 else if h = 1 then w1 else w0) (ix2 a d) := by
  have hd := d.isLt
  by_cases h3 : h = 3
  · rw [if_pos h3]
    exact canon_hit _ _ _ _ a d n (by omega)
  rw [if_neg h3]
  refine (canon_miss _ _ _ _ a n (by omega)).trans ?_
  by_cases h2 : h = 2
  · rw [if_pos h2]
    exact canon_hit _ _ _ _ a d n (by omega)
  rw [if_neg h2]
  refine (canon_miss _ _ _ _ a n (by omega)).trans ?_
  by_cases h1 : h = 1
  · rw [if_pos h1]
    exact canon_hit _ _ _ _ a d n (by omega)
  rw [if_neg h1]
  refine (canon_miss _ _ _ _ a n (by omega)).trans ?_
  exact canon_hit _ _ _ _ a d n (by omega)

/-- A store of the whole block, read anywhere. -/
theorem canon_whole (w : S128x512.Idx → Elt F .f32) :
    View.canon [(⟨Rect.unit (s := S128x512) ![0, 0] S128x512.size inb_S128x512_S128x512_0_0, w⟩ : View.Piece (Elt F) S128x512 .f32)] = w :=
  View.canon_unit_zero (funext fun a => by revert a; decide) _ w

/-- A load of 128 columns after the whole block was set to one value. -/
theorem readCov_whole (v : View sig .tc .vmem S128x512 .f32) (r : Rect S128x512) (w : S128x512.Idx → Elt F .f32) (z : Elt F .f32) (hw : ∀ y, w y = z) :
    v.readCov [(⟨Rect.unit (s := S128x512) ![0, 0] ![128, 512] inb_S128x512_S128x512_0_0, w⟩ : View.Piece (Elt F) S128x512 .f32)] r.toLoadRect
      = fun _ => z := by
  rw [View.readCov_eq_canon']
  funext j
  exact (congrFun (canon_whole w) _).trans (hw _)

/-- A load of 128 columns to the right of a store of 128 columns does not see the store. -/
theorem readCov_miss (v : View sig .tc .vmem S128x512 .f32) (o o' : Nat) (ho : o + 128 ≤ o')
    (inb : ∀ a, (![0, o] : Fin 2 → Nat) a + (![128, 128] : Fin 2 → Nat) a ≤ S128x512.size a)
    (inb' : ∀ a, (![0, o'] : Fin 2 → Nat) a + (![128, 128] : Fin 2 → Nat) a ≤ S128x512.size a) (w : S128x128.Idx → Elt F .f32)
    (L : List (View.Piece (Elt F) S128x512 .f32)) :
    v.readCov ((⟨Rect.unit (s := S128x512) ![0, o] ![128, 128] inb, w⟩ : View.Piece (Elt F) S128x512 .f32) :: L)
        (Rect.unit (s := S128x512) ![0, o'] ![128, 128] inb').toLoadRect
      = v.readCov L (Rect.unit (s := S128x512) ![0, o'] ![128, 128] inb').toLoadRect :=
  View.readCov_cons_of_disjoint v _ L _ (Rect.unit_disjoint (inb := inb) (inb' := inb') 1 (Or.inl ho))

theorem pay3_at (y : S128x512.Idx) : (k0_pay3 : FVec F S128x512 .f32) y = Scalar.ofBits .f32 0x00000000#32 := rfl
theorem pay4_at (y : S128x512.Idx) : (k0_pay4 : FVec F S128x512 .f32) y = Scalar.ofBits .f32 0x00000000#32 := rfl

end Cert.KernelIdeal.Value
end
-- ==== Proof.KOutA.lean ====
module

public import proofs.«01_k».proof.Proof.KHead
public import Idealize.ShloMosaic.Lib.Pipeline.ValueKit
public import Idealize.ShloMosaic.Lib.Pointwise

@[expose] public section

set_option maxRecDepth 16384
set_option maxHeartbeats 1000000

/-! What one grid point of the attention-gradient kernel stores, head by head.  The body runs the same
operations on each of the four heads; they are named here once (`hDs`, `hDq`, `hDk`, `hDv`, `hCk`, `hCv`)
and every output and carried buffer is read as those operations on the head's 128 columns. -/

noncomputable section

namespace Cert.KernelIdeal.Value

open Cert.KernelIdeal Cert.KernelIdeal.Gen Idealize.ShloMosaic Idealize.ShloMosaic.TcCoe Idealize.ShloMosaic.Tactic
open Idealize.SL Idealize.SL.Sem

variable {F : FTy → Type} [FloatOps F] [Named F]

/-- The stored `dq` at the first grid points of a group of heads, head by head. -/
theorem out0_A_7_at (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (hc0 : cond0_0 i)
    (x0 : Vec F S128x512 .f32) (x1 : Vec F S128x512 .f32) (x2 : Vec F S128x512 .f32) (x3 : Vec F S128x512 .f32) (x4 : Vec F S128x512 .f32) (x5 : Vec F S128x512 .f32) (x6 : Vec F S128x512 .f32)
    (h : Fin 4) (a d : Fin 128) (n : Fin 512) (hn : n.val = 128 * h.val + d.val) :
    out0_A_7 c i arg2 harg2 arg3 harg3 arg4 harg4 arg5 harg5 arg6 harg6 arg7 harg7 arg8 harg8 arg9 harg9 arg10 harg10 arg11 harg11 arg12 harg12 arg13 harg13 hc0 x0 x1 x2 x3 x4 x5 x6 (ix2 a n) = hDq (limOf i) (col x0 h) (col x1 h) (col x2 h) (col x3 h) (col x4 h) (col x5 h) (col x6 h) (ix2 a d) := by
  frame_out
  refine (canon4 _ _ _ _ _ h.val h.isLt a d n hn).trans ?_
  simp only [ld_col0, ld_col1, ld_col2, ld_col3]
  obtain ⟨h, hh⟩ := h
  match h, hh with
  | 0, _ => rfl
  | 1, _ => rfl
  | 2, _ => rfl
  | 3, _ => rfl

/-- The stored `dk` at the first grid points of a group of heads, head by head. -/
theorem out0_A_8_at (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (hc0 : cond0_0 i)
    (x0 : Vec F S128x512 .f32) (x1 : Vec F S128x512 .f32) (x2 : Vec F S128x512 .f32) (x3 : Vec F S128x512 .f32) (x4 : Vec F S128x512 .f32) (x5 : Vec F S128x512 .f32) (x6 : Vec F S128x512 .f32)
    (h : Fin 4) (a d : Fin 128) (n : Fin 512) (hn : n.val = 128 * h.val + d.val) :
    out0_A_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 (ix2 a n) = hDk (limOf i) (col x0 h) (col x1 h) (col x2 h) (col x3 h) (col x4 h) (col x5 h) (col x6 h) (fun _ => Scalar.ofBits .f32 0x00000000#32) (ix2 a d) := by
  frame_out
  refine (canon4 _ _ _ _ _ h.val h.isLt a d n hn).trans ?_
  simp only [ld_col0, ld_col1, ld_col2, ld_col3]
  simp (discharger := decide) only [readCov_miss, readCov_whole _ _ _ _ pay3_at, readCov_whole _ _ _ _ pay4_at]
  obtain ⟨h, hh⟩ := h
  match h, hh with
  | 0, _ => rfl
  | 1, _ => rfl
  | 2, _ => rfl
  | 3, _ => rfl

/-- The stored `dv` at the first grid points of a group of heads, head by head. -/
theorem out0_A_9_at (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (hc0 : cond0_0 i)
    (x0 : Vec F S128x512 .f32) (x1 : Vec F S128x512 .f32) (x2 : Vec F S128x512 .f32) (x3 : Vec F S128x512 .f32) (x4 : Vec F S128x512 .f32) (x5 : Vec F S128x512 .f32) (x6 : Vec F S128x512 .f32)
    (h : Fin 4) (a d : Fin 128) (n : Fin 512) (hn : n.val = 128 * h.val + d.val) :
    out0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 (ix2 a n) = hDv (limOf i) (col x0 h) (col x1 h) (col x2 h) (col x3 h) (col x4 h) (col x5 h) (col x6 h) (fun _ => Scalar.ofBits .f32 0x00000000#32) (ix2 a d) := by
  frame_out
  refine (canon4 _ _ _ _ _ h.val h.isLt a d n hn).trans ?_
  simp only [ld_col0, ld_col1, ld_col2, ld_col3]
  simp (discharger := decide) only [readCov_miss, readCov_whole _ _ _ _ pay3_at, readCov_whole _ _ _ _ pay4_at]
  obtain ⟨h, hh⟩ := h
  match h, hh with
  | 0, _ => rfl
  | 1, _ => rfl
  | 2, _ => rfl
  | 3, _ => rfl

/-- The carried key-side sum at the first grid points of a group of heads, head by head. -/
theorem sout0_A_0_at (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (hc0 : cond0_0 i)
    (x0 : Vec F S128x512 .f32) (x1 : Vec F S128x512 .f32) (x2 : Vec F S128x512 .f32) (x3 : Vec F S128x512 .f32) (x4 : Vec F S128x512 .f32) (x5 : Vec F S128x512 .f32) (x6 : Vec F S128x512 .f32)
    (h : Fin 4) (a d : Fin 128) (n : Fin 512) (hn : n.val = 128 * h.val + d.val) :
    sout0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 (ix2 a n) = hCk (limOf i) (col x0 h) (col x1 h) (col x2 h) (col x3 h) (col x4 h) (col x5 h) (col x6 h) (ix2 a d) := by
  frame_out
  refine (canon4 _ _ _ _ _ h.val h.isLt a d n hn).trans ?_
  simp only [ld_col0, ld_col1, ld_col2, ld_col3]
  obtain ⟨h, hh⟩ := h
  match h, hh with
  | 0, _ => rfl
  | 1, _ => rfl
  | 2, _ => rfl
  | 3, _ => rfl

/-- The carried value-side sum at the first grid points of a group of heads, head by head. -/
theorem sout0_A_1_at (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (hc0 : cond0_0 i)
    (x0 : Vec F S128x512 .f32) (x1 : Vec F S128x512 .f32) (x2 : Vec F S128x512 .f32) (x3 : Vec F S128x512 .f32) (x4 : Vec F S128x512 .f32) (x5 : Vec F S128x512 .f32) (x6 : Vec F S128x512 .f32)
    (h : Fin 4) (a d : Fin 128) (n : Fin 512) (hn : n.val = 128 * h.val + d.val) :
    sout0_A_1 c i arg2 harg2 arg3 harg3 arg4 harg4 arg5 harg5 arg6 harg6 arg7 harg7 arg8 harg8 arg9 harg9 arg10 harg10 arg11 harg11 arg12 harg12 arg13 harg13 hc0 x0 x1 x2 x3 x4 x5 x6 (ix2 a n) = hCv (limOf i) (col x0 h) (col x1 h) (col x2 h) (col x3 h) (col x4 h) (col x5 h) (col x6 h) (ix2 a d) := by
  frame_out
  refine (canon4 _ _ _ _ _ h.val h.isLt a d n hn).trans ?_
  simp only [ld_col0, ld_col1, ld_col2, ld_col3]
  obtain ⟨h, hh⟩ := h
  match h, hh with
  | 0, _ => rfl
  | 1, _ => rfl
  | 2, _ => rfl
  | 3, _ => rfl

end Cert.KernelIdeal.Value
end
-- ==== Proof.KOutB.lean ====
module

public import proofs.«01_k».proof.Proof.KHead
public import Idealize.ShloMosaic.Lib.Pipeline.ValueKit
public import Idealize.ShloMosaic.Lib.Pointwise

@[expose] public section

set_option maxRecDepth 16384
set_option maxHeartbeats 1000000

/-! What one grid point of the attention-gradient kernel stores, head by head.  The body runs the same
operations on each of the four heads; they are named here once (`hDs`, `hDq`, `hDk`, `hDv`, `hCk`, `hCv`)
and every output and carried buffer is read as those operations on the head's 128 columns. -/

noncomputable section

namespace Cert.KernelIdeal.Value

open Cert.KernelIdeal Cert.KernelIdeal.Gen Idealize.ShloMosaic Idealize.ShloMosaic.TcCoe Idealize.ShloMosaic.Tactic
open Idealize.SL Idealize.SL.Sem

variable {F : FTy → Type} [FloatOps F] [Named F]

/-- The stored `dq` at the later grid points of a group of heads, head by head. -/
theorem out0_B_7_at (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (hc0 : ¬cond0_0 i)
    (x0 : Vec F S128x512 .f32) (x1 : Vec F S128x512 .f32) (x2 : Vec F S128x512 .f32) (x3 : Vec F S128x512 .f32) (x4 : Vec F S128x512 .f32) (x5 : Vec F S128x512 .f32) (x6 : Vec F S128x512 .f32) (xs0 : Vec F S128x512 .f32) (xs1 : Vec F S128x512 .f32)
    (h : Fin 4) (a d : Fin 128) (n : Fin 512) (hn : n.val = 128 * h.val + d.val) :
    out0_B_7 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1 (ix2 a n) = hDq (limOf i) (col x0 h) (col x1 h) (col x2 h) (col x3 h) (col x4 h) (col x5 h) (col x6 h) (ix2 a d) := by
  frame_out
  refine (canon4 _ _ _ _ _ h.val h.isLt a d n hn).trans ?_
  simp only [ld_col0, ld_col1, ld_col2, ld_col3]
  obtain ⟨h, hh⟩ := h
  match h, hh with
  | 0, _ => rfl
  | 1, _ => rfl
  | 2, _ => rfl
  | 3, _ => rfl

/-- The stored `dk` at the later grid points of a group of heads, head by head. -/
theorem out0_B_8_at (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (hc0 : ¬cond0_0 i)
    (x0 : Vec F S128x512 .f32) (x1 : Vec F S128x512 .f32) (x2 : Vec F S128x512 .f32) (x3 : Vec F S128x512 .f32) (x4 : Vec F S128x512 .f32) (x5 : Vec F S128x512 .f32) (x6 : Vec F S128x512 .f32) (xs0 : Vec F S128x512 .f32) (xs1 : Vec F S128x512 .f32)
    (h : Fin 4) (a d : Fin 128) (n : Fin 512) (hn : n.val = 128 * h.val + d.val) :
    out0_B_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1 (ix2 a n) = hDk (limOf i) (col x0 h) (col x1 h) (col x2 h) (col x3 h) (col x4 h) (col x5 h) (col x6 h) (col xs0 h) (ix2 a d) := by
  frame_out
  refine (canon4 _ _ _ _ _ h.val h.isLt a d n hn).trans ?_
  simp only [ld_col0, ld_col1, ld_col2, ld_col3]
  obtain ⟨h, hh⟩ := h
  match h, hh with
  | 0, _ => rfl
  | 1, _ => rfl
  | 2, _ => rfl
  | 3, _ => rfl

/-- The stored `dv` at the later grid points of a group of heads, head by head. -/
theorem out0_B_9_at (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (hc0 : ¬cond0_0 i)
    (x0 : Vec F S128x512 .f32) (x1 : Vec F S128x512 .f32) (x2 : Vec F S128x512 .f32) (x3 : Vec F S128x512 .f32) (x4 : Vec F S128x512 .f32) (x5 : Vec F S128x512 .f32) (x6 : Vec F S128x512 .f32) (xs0 : Vec F S128x512 .f32) (xs1 : Vec F S128x512 .f32)
    (h : Fin 4) (a d : Fin 128) (n : Fin 512) (hn : n.val = 128 * h.val + d.val) :
    out0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1 (ix2 a n) = hDv (limOf i) (col x0 h) (col x1 h) (col x2 h) (col x3 h) (col x4 h) (col x5 h) (col x6 h) (col xs1 h) (ix2 a d) := by
  frame_out
  refine (canon4 _ _ _ _ _ h.val h.isLt a d n hn).trans ?_
  simp only [ld_col0, ld_col1, ld_col2, ld_col3]
  obtain ⟨h, hh⟩ := h
  match h, hh with
  | 0, _ => rfl
  | 1, _ => rfl
  | 2, _ => rfl
  | 3, _ => rfl

/-- The carried key-side sum at the later grid points of a group of heads, head by head. -/
theorem sout0_B_0_at (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (hc0 : ¬cond0_0 i)
    (x0 : Vec F S128x512 .f32) (x1 : Vec F S128x512 .f32) (x2 : Vec F S128x512 .f32) (x3 : Vec F S128x512 .f32) (x4 : Vec F S128x512 .f32) (x5 : Vec F S128x512 .f32) (x6 : Vec F S128x512 .f32) (xs0 : Vec F S128x512 .f32) (xs1 : Vec F S128x512 .f32)
    (h : Fin 4) (a d : Fin 128) (n : Fin 512) (hn : n.val = 128 * h.val + d.val) :
    sout0_B_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1 (ix2 a n) = hCk (limOf i) (col x0 h) (col x1 h) (col x2 h) (col x3 h) (col x4 h) (col x5 h) (col x6 h) (ix2 a d) := by
  frame_out
  refine (canon4 _ _ _ _ _ h.val h.isLt a d n hn).trans ?_
  simp only [ld_col0, ld_col1, ld_col2, ld_col3]
  obtain ⟨h, hh⟩ := h
  match h, hh with
  | 0, _ => rfl
  | 1, _ => rfl
  | 2, _ => rfl
  | 3, _ => rfl

/-- The carried value-side sum at the later grid points of a group of heads, head by head. -/
theorem sout0_B_1_at (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole) (hc0 : ¬cond0_0 i)
    (x0 : Vec F S128x512 .f32) (x1 : Vec F S128x512 .f32) (x2 : Vec F S128x512 .f32) (x3 : Vec F S128x512 .f32) (x4 : Vec F S128x512 .f32) (x5 : Vec F S128x512 .f32) (x6 : Vec F S128x512 .f32) (xs0 : Vec F S128x512 .f32) (xs1 : Vec F S128x512 .f32)
    (h : Fin 4) (a d : Fin 128) (n : Fin 512) (hn : n.val = 128 * h.val + d.val) :
    sout0_B_1 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1 (ix2 a n) = hCv (limOf i) (col x0 h) (col x1 h) (col x2 h) (col x3 h) (col x4 h) (col x5 h) (col x6 h) (ix2 a d) := by
  frame_out
  refine (canon4 _ _ _ _ _ h.val h.isLt a d n hn).trans ?_
  simp only [ld_col0, ld_col1, ld_col2, ld_col3]
  obtain ⟨h, hh⟩ := h
  match h, hh with
  | 0, _ => rfl
  | 1, _ => rfl
  | 2, _ => rfl
  | 3, _ => rfl

end Cert.KernelIdeal.Value
end
-- ==== Proof.Spec.lean ====
module

public import Idealize.ShloMosaic.PureOps.Ideal
public import Idealize.ShloMosaic.PureOps.Ideal.Laws
public import Idealize.ShloMosaic.Lib.WordCmp

@[expose] public section

/-! The gradient of one block of the windowed attention, over the extended reals: 128 queries against 256
keys, of which `mask` lets each query see some.  Both programs compute these functions, block by block and
head by head. -/

noncomputable section

namespace Cert.Attn

open Idealize.ShloMosaic Idealize.ShloMosaic.WordCmp

variable (mask : Fin 128 → Fin 256 → Bool) (q : Fin 128 → Fin 128 → EReal) (kk vv : Fin 256 → Fin 128 → EReal)
  (o : Fin 128 → Fin 128 → EReal) (dl : Fin 128 → EReal)

/-- The scores' scale, one over the square root of 128 as the programs' f32 constant has it. -/
def scale : EReal := Ideal.ofBits .f32 0x3DB504F3#32

/-- The masked scores. -/
def s (a : Fin 128) (j : Fin 256) : EReal := if mask a j then (∑ d, q a d * kk j d) * scale else ⊥

/-- A query's greatest score. -/
def mx (a : Fin 128) : EReal := Finset.univ.fold max ⊥ fun j => s mask q kk a j

/-- The exponentials. -/
def p (a : Fin 128) (j : Fin 256) : EReal := Ideal.exp (s mask q kk a j - mx mask q kk a)

/-- Their sum. -/
def ls (a : Fin 128) : EReal := ∑ j, p mask q kk a j

/-- Where the greatest score is reached. -/
def e (a : Fin 128) (j : Fin 256) : EReal := if s mask q kk a j = mx mask q kk a then 1 else 0

/-- At how many keys it is. -/
def cnt (a : Fin 128) : EReal := ∑ j, e mask q kk a j

/-- The gradient of the weights. -/
def w (a : Fin 128) (j : Fin 256) : EReal := ∑ d, o a d * vv j d

/-- The gradient of the exponentials' arguments. -/
def t (a : Fin 128) (j : Fin 256) : EReal :=
  (Ideal.div (w vv o a j) (ls mask q kk a) +
      (Ideal.div (dl a) (ls mask q kk a) +
        -∑ x, w vv o a x * Ideal.div 1 (ls mask q kk a * ls mask q kk a) * p mask q kk a x)) *
    p mask q kk a j

/-- The gradient of the unscaled scores. -/
def ds (a : Fin 128) (j : Fin 256) : EReal :=
  (if mask a j then
      t mask q kk vv o dl a j +
        Ideal.div (dl a + ∑ x, -t mask q kk vv o dl a x) (cnt mask q kk a) * e mask q kk a j
    else 0) * scale

/-- The queries' gradient. -/
def gq (a d : Fin 128) : EReal := ∑ j, ds mask q kk vv o dl a j * kk j d

/-- The keys' gradient. -/
def gk (j : Fin 256) (d : Fin 128) : EReal := ∑ a, ds mask q kk vv o dl a j * q a d

/-- The values' gradient. -/
def gv (j : Fin 256) (d : Fin 128) : EReal := ∑ a, Ideal.div (p mask q kk a j) (ls mask q kk a) * o a d

/-! A key no query sees does not matter. -/

section congr

variable {mask} {kk kk' vv vv' : Fin 256 → Fin 128 → EReal}

theorem s_congr (hk : ∀ a j, mask a j = true → kk j = kk' j) : s mask q kk = s mask q kk' := by
  funext a j
  unfold s
  split
  · rename_i h; rw [hk a j h]
  · rfl

theorem p_masked (a : Fin 128) (j : Fin 256) (h : mask a j = false) : p mask q kk a j = 0 := by
  unfold p s
  rw [if_neg (by simp [h]), EReal.bot_sub]
  exact Ideal.exp_bot

theorem mx_congr (hk : ∀ a j, mask a j = true → kk j = kk' j) : mx mask q kk = mx mask q kk' := by
  funext a; unfold mx; rw [s_congr q hk]
theorem p_congr (hk : ∀ a j, mask a j = true → kk j = kk' j) : p mask q kk = p mask q kk' := by
  funext a j; unfold p; rw [s_congr q hk, mx_congr q hk]
theorem ls_congr (hk : ∀ a j, mask a j = true → kk j = kk' j) : ls mask q kk = ls mask q kk' := by
  funext a; unfold ls; rw [p_congr q hk]
theorem e_congr (hk : ∀ a j, mask a j = true → kk j = kk' j) : e mask q kk = e mask q kk' := by
  funext a j; unfold e; rw [s_congr q hk, mx_congr q hk]
theorem cnt_congr (hk : ∀ a j, mask a j = true → kk j = kk' j) : cnt mask q kk = cnt mask q kk' := by
  funext a; unfold cnt; rw [e_congr q hk]

theorem t_congr (hk : ∀ a j, mask a j = true → kk j = kk' j) (hv : ∀ a j, mask a j = true → vv j = vv' j) :
    t mask q kk vv o dl = t mask q kk' vv' o dl := by
  have hw : ∀ a j, w vv o a j * p mask q kk a j = w vv' o a j * p mask q kk a j := by
    intro a j
    cases h : mask a j with
    | false => rw [p_masked q a j h, mul_zero, mul_zero]
    | true => unfold w; rw [hv a j h]
  have hs : ∀ a, ∑ x, w vv o a x * Ideal.div 1 (ls mask q kk a * ls mask q kk a) * p mask q kk a x
      = ∑ x, w vv' o a x * Ideal.div 1 (ls mask q kk a * ls mask q kk a) * p mask q kk a x := fun a =>
    Finset.sum_congr rfl fun x _ => by rw [mul_right_comm, hw, mul_right_comm]
  funext a j
  unfold t
  rw [← p_congr q hk, ← ls_congr q hk, hs]
  cases h : mask a j with
  | false => rw [p_masked q a j h, mul_zero, mul_zero]
  | true => unfold w; rw [hv a j h]

theorem ds_congr (hk : ∀ a j, mask a j = true → kk j = kk' j) (hv : ∀ a j, mask a j = true → vv j = vv' j) :
    ds mask q kk vv o dl = ds mask q kk' vv' o dl := by
  funext a j
  unfold ds
  rw [t_congr q o dl hk hv, cnt_congr q hk, e_congr q hk]

theorem gq_congr (hk : ∀ a j, mask a j = true → kk j = kk' j) (hv : ∀ a j, mask a j = true → vv j = vv' j) :
    gq mask q kk vv o dl = gq mask q kk' vv' o dl := by
  funext a d
  unfold gq
  rw [ds_congr q o dl hk hv]
  refine Finset.sum_congr rfl fun j _ => ?_
  cases h : mask a j with
  | false => unfold ds; rw [if_neg (by simp [h]), zero_mul, zero_mul, zero_mul]
  | true => rw [hk a j h]

theorem gk_congr (hk : ∀ a j, mask a j = true → kk j = kk' j) (hv : ∀ a j, mask a j = true → vv j = vv' j) :
    gk mask q kk vv o dl = gk mask q kk' vv' o dl := by
  funext j d
  unfold gk
  rw [ds_congr q o dl hk hv]

theorem gv_congr (hk : ∀ a j, mask a j = true → kk j = kk' j) : gv mask q kk o = gv mask q kk' o := by
  funext j d
  unfold gv
  rw [p_congr q hk, ls_congr q hk]

end congr

/-- The window: of the 128 keys before a query's block and the 128 of its block, a query sees the last 129 up
to itself; in the sequence's first block there are none before. -/
def msk (first : Bool) (a : Fin 128) (j : Fin 256) : Bool :=
  decide (j.val ≤ 128 + a.val ∧ a.val ≤ j.val ∧ (first = true → 128 ≤ j.val))

theorem dist_toInt (a j : ℕ) (ha : a < 128) (hj : j < 256) :
    (IntOp.subi (IntOp.addi (128#32) (BitVec.ofNat 32 a)) (BitVec.ofNat 32 j)).toInt = 128 + (a : ℤ) - j := by
  have h1 : (BitVec.ofNat 32 a).toInt = a := by rw [BitVec.toInt_ofNat', Int.bmod_def]; omega
  have h2 : (BitVec.ofNat 32 j).toInt = j := by rw [BitVec.toInt_ofNat', Int.bmod_def]; omega
  have h3 : (128#32).toInt = 128 := by decide
  unfold IntOp.subi IntOp.addi
  rw [BitVec.toInt_sub, BitVec.toInt_add, h1, h2, h3, Int.bmod_def, Int.bmod_def]
  omega

theorem band_word (a j : ℕ) (ha : a < 128) (hj : j < 256) :
    IntOp.andi
        (IntOp.cmpi .sge (IntOp.subi (IntOp.addi (128#32) (BitVec.ofNat 32 a)) (BitVec.ofNat 32 j)) 0#32)
        (IntOp.cmpi .sle (IntOp.subi (IntOp.addi (128#32) (BitVec.ofNat 32 a)) (BitVec.ofNat 32 j)) 128#32) =
      BitVec.ofBool (decide (j ≤ 128 + a ∧ a ≤ j)) := by
  rw [cmpi_sge_eq, cmpi_sle_eq, dist_toInt a j ha hj]
  have h0 : (0#32).toInt = 0 := by decide
  have h3 : (128#32).toInt = 128 := by decide
  rw [h0, h3]
  unfold IntOp.andi
  rw [BitVec.ofBool_and_ofBool, ← Bool.decide_and]
  congr 1
  apply decide_eq_decide.mpr
  omega

/-- The kernel's mask word: its limit is 128 in the first block and 0 elsewhere. -/
theorem msk_lim (first : Bool) (a : Fin 128) (j : Fin 256) :
    IntOp.andi
        (IntOp.andi
          (IntOp.cmpi .sge (IntOp.subi (IntOp.addi (128#32) (BitVec.ofNat 32 a.val)) (BitVec.ofNat 32 j.val)) 0#32)
          (IntOp.cmpi .sle (IntOp.subi (IntOp.addi (128#32) (BitVec.ofNat 32 a.val)) (BitVec.ofNat 32 j.val)) 128#32))
        (IntOp.cmpi .sge (BitVec.ofNat 32 j.val) (if first then 128#32 else 0#32)) =
      BitVec.ofBool (msk first a j) := by
  have ha := a.isLt
  have hj := j.isLt
  rw [band_word a.val j.val ha hj, cmpi_sge_eq]
  have h2 : (BitVec.ofNat 32 j.val).toInt = j.val := by rw [BitVec.toInt_ofNat', Int.bmod_def]; omega
  have h0 : (0#32).toInt = 0 := by decide
  have h3 : (128#32).toInt = 128 := by decide
  unfold IntOp.andi msk
  rw [BitVec.ofBool_and_ofBool, ← Bool.decide_and, h2]
  congr 1
  apply decide_eq_decide.mpr
  cases first <;> simp [h0, h3] <;> omega

/-- The reference's mask word in block `n`: the keys before the block count from the second block on. -/
theorem msk_block (n : ℕ) (hn : n < 2 ^ 31) (a : Fin 128) (j : Fin 256) :
    IntOp.andi
        (IntOp.andi
          (IntOp.cmpi .sge (IntOp.subi (IntOp.addi (128#32) (BitVec.ofNat 32 a.val)) (BitVec.ofNat 32 j.val)) 0#32)
          (IntOp.cmpi .sle (IntOp.subi (IntOp.addi (128#32) (BitVec.ofNat 32 a.val)) (BitVec.ofNat 32 j.val)) 128#32))
        (IntOp.ori (IntOp.cmpi .sgt (BitVec.ofNat 32 n) 0#32) (IntOp.cmpi .sge (BitVec.ofNat 32 j.val) 128#32)) =
      BitVec.ofBool (msk (decide (n = 0)) a j) := by
  have ha := a.isLt
  have hj := j.isLt
  rw [band_word a.val j.val ha hj, cmpi_sge_eq, cmpi_sgt_eq]
  have h2 : (BitVec.ofNat 32 j.val).toInt = j.val := by rw [BitVec.toInt_ofNat', Int.bmod_def]; omega
  have h4 : (BitVec.ofNat 32 n).toInt = n := by rw [BitVec.toInt_ofNat', Int.bmod_def]; omega
  have h0 : (0#32).toInt = 0 := by decide
  have h3 : (128#32).toInt = 128 := by decide
  unfold IntOp.andi IntOp.ori msk
  rw [BitVec.ofBool_or_ofBool, BitVec.ofBool_and_ofBool, h2, h4, h0, h3, ← Bool.decide_or, ← Bool.decide_and]
  congr 1
  apply decide_eq_decide.mpr
  simp only [decide_eq_true_eq]
  omega

/-- Masking by a word that is a truth value. -/
theorem select_ofBool {α : Type} (b : Bool) (x y : α) : Scalar.select (BitVec.ofBool b) x y = if b then x else y := by
  cases b <;> rfl

end Cert.Attn

end
-- ==== Proof.KIdeal.lean ====
module

public import proofs.«01_k».proof.Proof.KHead
public import proofs.«01_k».proof.Proof.Spec

@[expose] public section

set_option maxRecDepth 16384
set_option maxHeartbeats 1000000

/-! What one head of one grid point computes, over the extended reals: the block gradient of `Spec`. -/

noncomputable section

namespace Cert.KernelIdeal.Value

open Cert.KernelIdeal Cert.KernelIdeal.Gen Idealize.ShloMosaic Idealize.ShloMosaic.TcCoe Idealize.ShloMosaic.Tactic

/-- A block's rows. -/
def rowsOf (x : Vec Ideal S128x128 .f32) : Fin 128 → Fin 128 → EReal := fun a d => x (ix2 a d)

/-- Two blocks' rows, one after the other. -/
def rows2 (x y : Vec Ideal S128x128 .f32) : Fin 256 → Fin 128 → EReal := fun j d =>
  if h : j.val < 128 then x (ix2 ⟨j.val, h⟩ d) else y (ix2 ⟨j.val - 128, by have := j.isLt; omega⟩ d)

/-- The log-sums' gradient, summed over its lanes. -/
def lanes (l : Vec Ideal S128x128 .f32) : Fin 128 → EReal := fun a => ∑ x, l (ix2 a x)

/-- The mask's limit in the first block and elsewhere. -/
def limB (first : Bool) : BitVec 32 := if first then 128#32 else 0#32

theorem named_mask : (Named.named κ "mask" 4048155338#32 : Ideal .f32) = (⊥ : EReal) := rfl

variable (first : Bool) (q kp kc vp vc o l : Vec Ideal S128x128 .f32)

theorem mask_at (a : Fin 128) (j : Fin 256) : k0_pay28 (limB first) (ix2 a j) = BitVec.ofBool (Attn.msk first a j) := by
  pointwise [k0_pay28]
  exact Attn.msk_lim first a j

theorem s_at (a : Fin 128) (j : Fin 256) :
    k0_pay29 (limB first) q kp kc (ix2 a j) = Attn.s (Attn.msk first) (rowsOf q) (rows2 kp kc) a j := by
  pointwise [k0_pay29, k0_pay26]
  rw [mask_at, Attn.select_ofBool, named_mask]
  rfl

theorem mx_at (a : Fin 128) :
    k0_pay30 (limB first) q kp kc (ix1 a) = Attn.mx (Attn.msk first) (rowsOf q) (rows2 kp kc) a := by
  pointwise [k0_pay30]
  simp only [s_at]
  have : Ideal.ofBits .f32 4286578688#32 = (⊥ : EReal) := by decide
  rw [this]
  rfl

theorem sitofp_true : (FloatOps.sitofp .f32 (BitVec.setWidth 32 (BitVec.ofBool true)) : Ideal .f32) = (1 : EReal) := by
  show (((BitVec.setWidth 32 (BitVec.ofBool true)).toInt : ℝ) : EReal) = 1
  have : (BitVec.setWidth 32 (BitVec.ofBool true)).toInt = 1 := by decide
  rw [this]; norm_num

theorem sitofp_false : (FloatOps.sitofp .f32 (BitVec.setWidth 32 (BitVec.ofBool false)) : Ideal .f32) = (0 : EReal) := by
  show (((BitVec.setWidth 32 (BitVec.ofBool false)).toInt : ℝ) : EReal) = 0
  have : (BitVec.setWidth 32 (BitVec.ofBool false)).toInt = 0 := by decide
  rw [this]; norm_num

theorem e_at (a : Fin 128) (j : Fin 256) :
    k0_pay31 (limB first) q kp kc (ix2 a j) = Attn.e (Attn.msk first) (rowsOf q) (rows2 kp kc) a j := by
  pointwise [k0_pay31]
  simp only [s_at, mx_at]
  unfold Attn.e
  by_cases h : Attn.s (Attn.msk first) (rowsOf q) (rows2 kp kc) a j = Attn.mx (Attn.msk first) (rowsOf q) (rows2 kp kc) a
  · rw [if_pos h, decide_eq_true h]; exact sitofp_true
  · rw [if_neg h, decide_eq_false h]; exact sitofp_false

theorem cnt_at (a : Fin 128) :
    k0_pay32 (limB first) q kp kc (ix1 a) = Attn.cnt (Attn.msk first) (rowsOf q) (rows2 kp kc) a := by
  pointwise [k0_pay32]
  simp only [e_at]
  rfl

theorem p_at (a : Fin 128) (j : Fin 256) :
    k0_pay33 (limB first) q kp kc (ix2 a j) = Attn.p (Attn.msk first) (rowsOf q) (rows2 kp kc) a j := by
  pointwise [k0_pay33]
  simp only [s_at, mx_at]
  rfl

theorem ls_at (a : Fin 128) (x : Fin 1) :
    k0_pay34 (limB first) q kp kc (ix2 a x) = Attn.ls (Attn.msk first) (rowsOf q) (rows2 kp kc) a := by
  pointwise [k0_pay34]
  simp only [p_at]
  rfl

theorem ls2_at (a : Fin 128) (x : Fin 1) :
    k0_pay36 (limB first) q kp kc (ix2 a x) = Attn.ls (Attn.msk first) (rowsOf q) (rows2 kp kc) a * Attn.ls (Attn.msk first) (rowsOf q) (rows2 kp kc) a := by
  pointwise [k0_pay36]
  simp only [ls_at]

theorem pl_at (a : Fin 128) (j : Fin 256) :
    k0_pay35 (limB first) q kp kc (ix2 a j) = Ideal.div (Attn.p (Attn.msk first) (rowsOf q) (rows2 kp kc) a j) (Attn.ls (Attn.msk first) (rowsOf q) (rows2 kp kc) a) := by
  pointwise [k0_pay35]
  simp only [p_at, ls_at]

theorem vv_at (j : Fin 256) (d : Fin 128) : k0_pay27 vp vc (ix2 j d) = rows2 vp vc j d := by
  pointwise [k0_pay27]
  rfl

theorem ds_at (a : Fin 128) (j : Fin 256) :
    hDs (limB first) q kp kc vp vc o l (ix2 a j) =
      Attn.ds (Attn.msk first) (rowsOf q) (rows2 kp kc) (rows2 vp vc) (rowsOf o) (lanes l) a j := by
  pointwise [hDs, k0_pay38]
  simp only [mask_at, e_at, cnt_at, p_at, ls_at, ls2_at, vv_at, Attn.select_ofBool, Fin.sum_univ_one, zero_sub]
  unfold Attn.ds
  rw [ite_mul, zero_mul]
  rfl

theorem hDq_at (a d : Fin 128) :
    hDq (limB first) q kp kc vp vc o l (ix2 a d) =
      Attn.gq (Attn.msk first) (rowsOf q) (rows2 kp kc) (rows2 vp vc) (rowsOf o) (lanes l) a d := by
  pointwise [hDq, k0_pay40]
  simp only [ds_at]
  unfold Attn.gq
  refine Finset.sum_congr rfl fun x _ => ?_
  pointwise [k0_pay26]
  rfl

theorem hCk_at (a d : Fin 128) :
    hCk (limB first) q kp kc vp vc o l (ix2 a d) =
      Attn.gk (Attn.msk first) (rowsOf q) (rows2 kp kc) (rows2 vp vc) (rowsOf o) (lanes l) ⟨a.val, by have := a.isLt; omega⟩ d := by
  pointwise [hCk, k0_pay44, k0_pay41]
  simp only [ds_at]
  rfl

theorem hDk_at (ck : Vec Ideal S128x128 .f32) (a d : Fin 128) :
    hDk (limB first) q kp kc vp vc o l ck (ix2 a d) =
      Attn.gk (Attn.msk first) (rowsOf q) (rows2 kp kc) (rows2 vp vc) (rowsOf o) (lanes l) ⟨128 + a.val, by have := a.isLt; omega⟩ d + ck (ix2 a d) := by
  pointwise [hDk, k0_pay42, k0_pay41]
  simp only [ds_at]
  rfl

theorem hCv_at (a d : Fin 128) :
    hCv (limB first) q kp kc vp vc o l (ix2 a d) =
      Attn.gv (Attn.msk first) (rowsOf q) (rows2 kp kc) (rowsOf o) ⟨a.val, by have := a.isLt; omega⟩ d := by
  pointwise [hCv, k0_pay45, k0_pay37]
  simp only [pl_at]
  rfl

theorem hDv_at (cv : Vec Ideal S128x128 .f32) (a d : Fin 128) :
    hDv (limB first) q kp kc vp vc o l cv (ix2 a d) =
      Attn.gv (Attn.msk first) (rowsOf q) (rows2 kp kc) (rowsOf o) ⟨128 + a.val, by have := a.isLt; omega⟩ d + cv (ix2 a d) := by
  pointwise [hDv, k0_pay43, k0_pay37]
  simp only [pl_at]
  rfl

theorem limOf_eq (i : grid0.Coords) : limOf i = limB (decide ((i 1).val = 63)) := by
  have h : (i 1).val < 64 := (i 1).isLt
  unfold limOf limB
  show Scalar.select (IntOp.cmpi .eq (BitVec.ofNat 32 (i 1).val) (BitVec.ofNat 32 63)) _ _ = _
  rw [WordCmp.cmpi_eq_eq, Attn.select_ofBool]
  have e : (BitVec.ofNat 32 (i 1).val = BitVec.ofNat 32 63) ↔ ((i 1).val = 63) := by
    rw [← BitVec.toNat_inj, BitVec.toNat_ofNat, BitVec.toNat_ofNat]; omega
  simp only [e]

end Cert.KernelIdeal.Value
-- ==== Proof.Blocks.lean ====
module

public import proofs.«01_k».proof.Proof.Spec
public import Idealize.ShloMosaic.Lib.Pointwise

@[expose] public section

/-! The gradient of the windowed attention of a sequence of 8192 rows and 4 heads of 128 columns: 64 blocks of
128 rows, each against the 128 rows before it and its own. -/

noncomputable section

namespace Cert.Attn

open Idealize.ShloMosaic

variable {R C : ℕ}

/-- Row `a` of block `n`. -/
abbrev row (n : Fin 64) (a : Fin 128) : Fin 8192 := ⟨128 * n.val + a.val, by have := n.isLt; have := a.isLt; omega⟩

/-- Column `d` of head `h`. -/
abbrev colm (h : Fin 4) (d : Fin 128) : Fin 512 := ⟨128 * h.val + d.val, by have := h.isLt; have := d.isLt; omega⟩

/-- Block `n` of one head. -/
def blk (X : Fin 8192 → Fin 512 → EReal) (n : Fin 64) (h : Fin 4) : Fin 128 → Fin 128 → EReal :=
  fun a d => X (row n a) (colm h d)

/-- The 256 rows that end with block `n`; those before the sequence's start are zero. -/
def keys (X : Fin 8192 → Fin 512 → EReal) (n : Fin 64) (h : Fin 4) : Fin 256 → Fin 128 → EReal :=
  fun j d => if hj : 128 ≤ 128 * n.val + j.val then
    X ⟨128 * n.val + j.val - 128, by have := n.isLt; have := j.isLt; omega⟩ (colm h d) else 0

variable (Q K V O L : Fin 8192 → Fin 512 → EReal)

/-- The log-sums' gradient of each row of block `n`: the sum of its lanes. -/
def dls (n : Fin 64) (h : Fin 4) (a : Fin 128) : EReal := ∑ x, blk L n h a x

/-- The gradient of `q`. -/
def dq (n : Fin 64) (h : Fin 4) (a d : Fin 128) : EReal :=
  gq (msk (decide (n.val = 0))) (blk Q n h) (keys K n h) (keys V n h) (blk O n h) (dls L n h) a d

/-- What block `n` contributes to the gradient of its 256 keys. -/
def dkAt (n : Fin 64) (h : Fin 4) (j : Fin 256) (d : Fin 128) : EReal :=
  gk (msk (decide (n.val = 0))) (blk Q n h) (keys K n h) (keys V n h) (blk O n h) (dls L n h) j d

/-- What block `n` contributes to the gradient of its 256 values. -/
def dvAt (n : Fin 64) (h : Fin 4) (j : Fin 256) (d : Fin 128) : EReal :=
  gv (msk (decide (n.val = 0))) (blk Q n h) (keys K n h) (blk O n h) j d

/-- Block `n`'s rows of a gradient of keys or values: its own part and the part of the next block, if there is one. -/
def both (f : Fin 64 → Fin 4 → Fin 256 → Fin 128 → EReal) (n : Fin 64) (h : Fin 4) (a d : Fin 128) : EReal :=
  f n h ⟨128 + a.val, by have := a.isLt; omega⟩ d +
    if hn : n.val < 63 then f ⟨n.val + 1, by omega⟩ h ⟨a.val, by have := a.isLt; omega⟩ d else 0

/-- The gradient of `k`. -/
def dk : Fin 64 → Fin 4 → Fin 128 → Fin 128 → EReal := both (dkAt Q K V O L)

/-- The gradient of `v`. -/
def dv : Fin 64 → Fin 4 → Fin 128 → Fin 128 → EReal := both (dvAt Q K O)

/-- An array of 8192 rows and 512 columns, from its blocks. -/
def asm (f : Fin 64 → Fin 4 → Fin 128 → Fin 128 → EReal) (i : Fin 8192) (j : Fin 512) : EReal :=
  f ⟨i.val / 128, by have := i.isLt; omega⟩ ⟨j.val / 128, by have := j.isLt; omega⟩ ⟨i.val % 128, by omega⟩ ⟨j.val % 128, by omega⟩

theorem asm_at (f : Fin 64 → Fin 4 → Fin 128 → Fin 128 → EReal) (n : Fin 64) (h : Fin 4) (a d : Fin 128) :
    asm f (row n a) (colm h d) = f n h a d := by
  have ha := a.isLt
  have hd := d.isLt
  unfold asm row colm
  congr 1 <;> (apply Fin.ext; dsimp only; omega)

end Cert.Attn
-- ==== Proof.KFinal.lean ====
module

public import proofs.«01_k».proof.Proof.KOutA
public import proofs.«01_k».proof.Proof.KOutB
public import proofs.«01_k».proof.Proof.KIdeal
public import proofs.«01_k».proof.Proof.Blocks
public import Idealize.ShloMosaic.Lib.Pipeline.ValueKit

@[expose] public section

set_option maxRecDepth 16384
set_option maxHeartbeats 1000000

/-! The kernel's three arrays after its run, over the extended reals: the attention gradient of `Blocks`. Grid
point `t` works on block `63 - t`; the two carried buffers hold what the block after it gave its earlier keys. -/

noncomputable section

namespace Cert.KernelIdeal.Value

open Cert.KernelIdeal Cert.KernelIdeal.Gen Idealize.ShloMosaic Idealize.ShloMosaic.TcCoe Idealize.ShloMosaic.Tactic
open Idealize.SL Idealize.SL.Sem
open Idealize.ShloMosaic.Pipeline (Dat)

variable (m : (ℓ : Loc nD τ sig) → Buf (Elt Ideal) ℓ) (c : Dev nD)

def aQ (i : Fin 8192) (j : Fin 512) : EReal := m ((c : Thread nD τ).loc main_arg0) (ix2 i j)
def aK (i : Fin 8192) (j : Fin 512) : EReal := m ((c : Thread nD τ).loc main_arg1) (ix2 i j)
def aV (i : Fin 8192) (j : Fin 512) : EReal := m ((c : Thread nD τ).loc main_arg2) (ix2 i (⟨j.val, by have := j.isLt; omega⟩ : Fin 1536))
def aO (i : Fin 8192) (j : Fin 512) : EReal := m ((c : Thread nD τ).loc main_arg3) (ix2 i j)
def aL (i : Fin 8192) (j : Fin 512) : EReal := m ((c : Thread nD τ).loc main_arg4) (ix2 i j)

/-- Where each window's block is: block `63 - t`, or the one before it, never before the first. -/
theorem idx : ∀ t : Fin cfg0.N,
    win0_0.index t = ![63 - t.val, 0] ∧ win0_1.index t = ![62 - t.val, 0] ∧ win0_2.index t = ![63 - t.val, 0] ∧
    win0_3.index t = ![62 - t.val, 0] ∧ win0_4.index t = ![63 - t.val, 0] ∧ win0_5.index t = ![63 - t.val, 0] ∧
    win0_6.index t = ![63 - t.val, 0] ∧ win0_7.index t = ![63 - t.val, 0] ∧ win0_8.index t = ![63 - t.val, 0] ∧
    win0_9.index t = ![63 - t.val, 0] :=
  (by decide +kernel : ∀ t : Fin grid0.N,
    win0_0.index t = ![63 - t.val, 0] ∧ win0_1.index t = ![62 - t.val, 0] ∧ win0_2.index t = ![63 - t.val, 0] ∧
    win0_3.index t = ![62 - t.val, 0] ∧ win0_4.index t = ![63 - t.val, 0] ∧ win0_5.index t = ![63 - t.val, 0] ∧
    win0_6.index t = ![63 - t.val, 0] ∧ win0_7.index t = ![63 - t.val, 0] ∧ win0_8.index t = ![63 - t.val, 0] ∧
    win0_9.index t = ![63 - t.val, 0])

theorem coord1 : ∀ t : Fin cfg0.N, ((grid0.coords t) 1).val = t.val :=
  (by decide +kernel : ∀ t : Fin grid0.N, ((grid0.coords t) 1).val = t.val)

theorem lt64 (t : Fin cfg0.N) : t.val < 64 := lt_of_lt_of_eq t.isLt (show cfg0.N = 64 from N_0)

/-- The block of a point. -/
abbrev bl (t : Fin cfg0.N) : Fin 64 := ⟨63 - t.val, by omega⟩

/-- The block before it; the first block has itself there. -/
abbrev bp (t : Fin cfg0.N) : Fin 64 := ⟨62 - t.val, by omega⟩

theorem in0 (t : Fin cfg0.N) (h : Fin 4) (a d : Fin 128) : col (iblk m c 0 t) h (ix2 a d) = Attn.blk (aQ m c) (bl t) h a d := by
  have hh := h.isLt
  have ht := lt64 t
  unfold col Attn.blk aQ
  blk_ext [iblk, V, idx t]

theorem in1 (t : Fin cfg0.N) (h : Fin 4) (a d : Fin 128) : col (iblk m c 1 t) h (ix2 a d) = Attn.blk (aK m c) (bp t) h a d := by
  have hh := h.isLt
  have ht := lt64 t
  unfold col Attn.blk aK
  blk_ext [iblk, V, idx t]

theorem in2 (t : Fin cfg0.N) (h : Fin 4) (a d : Fin 128) : col (iblk m c 2 t) h (ix2 a d) = Attn.blk (aK m c) (bl t) h a d := by
  have hh := h.isLt
  have ht := lt64 t
  unfold col Attn.blk aK
  blk_ext [iblk, V, idx t]

theorem in3 (t : Fin cfg0.N) (h : Fin 4) (a d : Fin 128) : col (iblk m c 3 t) h (ix2 a d) = Attn.blk (aV m c) (bp t) h a d := by
  have hh := h.isLt
  have ht := lt64 t
  unfold col Attn.blk aV
  blk_ext [iblk, V, idx t]

theorem in4 (t : Fin cfg0.N) (h : Fin 4) (a d : Fin 128) : col (iblk m c 4 t) h (ix2 a d) = Attn.blk (aV m c) (bl t) h a d := by
  have hh := h.isLt
  have ht := lt64 t
  unfold col Attn.blk aV
  blk_ext [iblk, V, idx t]

theorem in5 (t : Fin cfg0.N) (h : Fin 4) (a d : Fin 128) : col (iblk m c 5 t) h (ix2 a d) = Attn.blk (aO m c) (bl t) h a d := by
  have hh := h.isLt
  have ht := lt64 t
  unfold col Attn.blk aO
  blk_ext [iblk, V, idx t]

theorem in6 (t : Fin cfg0.N) (h : Fin 4) (a d : Fin 128) : col (iblk m c 6 t) h (ix2 a d) = Attn.blk (aL m c) (bl t) h a d := by
  have hh := h.isLt
  have ht := lt64 t
  unfold col Attn.blk aL
  blk_ext [iblk, V, idx t]

/-- Whether a point works on the sequence's first block. -/
abbrev first (t : Fin cfg0.N) : Bool := decide ((bl t).val = 0)

theorem lim_at (t : Fin cfg0.N) : limOf (grid0.coords t) = limB (first t) := by
  rw [limOf_eq, coord1]
  have ht := lt64 t
  congr 1
  apply decide_eq_decide.mpr
  show t.val = 63 ↔ 63 - t.val = 0
  omega

theorem rowsQ (t : Fin cfg0.N) (h : Fin 4) : rowsOf (col (iblk m c 0 t) h) = Attn.blk (aQ m c) (bl t) h :=
  funext fun a => funext fun d => in0 m c t h a d

theorem rowsO (t : Fin cfg0.N) (h : Fin 4) : rowsOf (col (iblk m c 5 t) h) = Attn.blk (aO m c) (bl t) h :=
  funext fun a => funext fun d => in5 m c t h a d

theorem lanesL (t : Fin cfg0.N) (h : Fin 4) : lanes (col (iblk m c 6 t) h) = Attn.dls (aL m c) (bl t) h :=
  funext fun a => Finset.sum_congr rfl fun d _ => in6 m c t h a d

/-- Two blocks one after the other are the 256 keys, wherever a query sees one. -/
theorem keys_of (X : Fin 8192 → Fin 512 → EReal) (t : Fin cfg0.N) (h : Fin 4) (x y : Vec Ideal S128x128 .f32)
    (hx : ∀ a d, x (ix2 a d) = Attn.blk X (bp t) h a d) (hy : ∀ a d, y (ix2 a d) = Attn.blk X (bl t) h a d)
    (a : Fin 128) (j : Fin 256) (hm : Attn.msk (first t) a j = true) : rows2 x y j = Attn.keys X (bl t) h j := by
  funext d
  have ht := lt64 t
  have hj := j.isLt
  have hm' := of_decide_eq_true hm
  have hf : (63 - t.val = 0) → 128 ≤ j.val := fun e => hm'.2.2 (decide_eq_true e)
  unfold rows2 Attn.keys
  by_cases h1 : j.val < 128
  · have hn : ¬ 63 - t.val = 0 := fun e => absurd (hf e) (by omega)
    rw [dif_pos h1, hx, dif_pos (show 128 ≤ 128 * (63 - t.val) + j.val by omega)]
    unfold Attn.blk
    congr 1
    apply Fin.ext
    show 128 * (62 - t.val) + j.val = 128 * (63 - t.val) + j.val - 128
    omega
  · rw [dif_neg h1, hy, dif_pos (show 128 ≤ 128 * (63 - t.val) + j.val by omega)]
    unfold Attn.blk
    congr 1
    apply Fin.ext
    show 128 * (63 - t.val) + (j.val - 128) = 128 * (63 - t.val) + j.val - 128
    omega

theorem keysK (t : Fin cfg0.N) (h : Fin 4) (a : Fin 128) (j : Fin 256) (hm : Attn.msk (first t) a j = true) :
    rows2 (col (iblk m c 1 t) h) (col (iblk m c 2 t) h) j = Attn.keys (aK m c) (bl t) h j :=
  keys_of _ t h _ _ (in1 m c t h) (in2 m c t h) a j hm

theorem keysV (t : Fin cfg0.N) (h : Fin 4) (a : Fin 128) (j : Fin 256) (hm : Attn.msk (first t) a j = true) :
    rows2 (col (iblk m c 3 t) h) (col (iblk m c 4 t) h) j = Attn.keys (aV m c) (bl t) h j :=
  keys_of _ t h _ _ (in3 m c t h) (in4 m c t h) a j hm

theorem q_at (t : Fin cfg0.N) (h : Fin 4) (a d : Fin 128) :
    hDq (limOf (grid0.coords t)) (col (iblk m c 0 t) h) (col (iblk m c 1 t) h) (col (iblk m c 2 t) h) (col (iblk m c 3 t) h)
      (col (iblk m c 4 t) h) (col (iblk m c 5 t) h) (col (iblk m c 6 t) h) (ix2 a d) =
    Attn.dq (aQ m c) (aK m c) (aV m c) (aO m c) (aL m c) (bl t) h a d := by
  rw [lim_at, hDq_at, rowsQ, rowsO, lanesL, Attn.gq_congr _ _ _ (keysK m c t h) (keysV m c t h)]
  rfl

theorem ck_at (t : Fin cfg0.N) (h : Fin 4) (a d : Fin 128) :
    hCk (limOf (grid0.coords t)) (col (iblk m c 0 t) h) (col (iblk m c 1 t) h) (col (iblk m c 2 t) h) (col (iblk m c 3 t) h)
      (col (iblk m c 4 t) h) (col (iblk m c 5 t) h) (col (iblk m c 6 t) h) (ix2 a d) =
    Attn.dkAt (aQ m c) (aK m c) (aV m c) (aO m c) (aL m c) (bl t) h ⟨a.val, by have := a.isLt; omega⟩ d := by
  rw [lim_at, hCk_at, rowsQ, rowsO, lanesL, Attn.gk_congr _ _ _ (keysK m c t h) (keysV m c t h)]
  rfl

theorem cv_at (t : Fin cfg0.N) (h : Fin 4) (a d : Fin 128) :
    hCv (limOf (grid0.coords t)) (col (iblk m c 0 t) h) (col (iblk m c 1 t) h) (col (iblk m c 2 t) h) (col (iblk m c 3 t) h)
      (col (iblk m c 4 t) h) (col (iblk m c 5 t) h) (col (iblk m c 6 t) h) (ix2 a d) =
    Attn.dvAt (aQ m c) (aK m c) (aO m c) (bl t) h ⟨a.val, by have := a.isLt; omega⟩ d := by
  rw [lim_at, hCv_at, rowsQ, rowsO, Attn.gv_congr _ _ (keysK m c t h)]
  rfl

theorem k_at (t : Fin cfg0.N) (h : Fin 4) (ck : Vec Ideal S128x128 .f32) (a d : Fin 128) :
    hDk (limOf (grid0.coords t)) (col (iblk m c 0 t) h) (col (iblk m c 1 t) h) (col (iblk m c 2 t) h) (col (iblk m c 3 t) h)
      (col (iblk m c 4 t) h) (col (iblk m c 5 t) h) (col (iblk m c 6 t) h) ck (ix2 a d) =
    Attn.dkAt (aQ m c) (aK m c) (aV m c) (aO m c) (aL m c) (bl t) h ⟨128 + a.val, by have := a.isLt; omega⟩ d + ck (ix2 a d) := by
  rw [lim_at, hDk_at, rowsQ, rowsO, lanesL, Attn.gk_congr _ _ _ (keysK m c t h) (keysV m c t h)]
  rfl

theorem v_at (t : Fin cfg0.N) (h : Fin 4) (cv : Vec Ideal S128x128 .f32) (a d : Fin 128) :
    hDv (limOf (grid0.coords t)) (col (iblk m c 0 t) h) (col (iblk m c 1 t) h) (col (iblk m c 2 t) h) (col (iblk m c 3 t) h)
      (col (iblk m c 4 t) h) (col (iblk m c 5 t) h) (col (iblk m c 6 t) h) cv (ix2 a d) =
    Attn.dvAt (aQ m c) (aK m c) (aO m c) (bl t) h ⟨128 + a.val, by have := a.isLt; omega⟩ d + cv (ix2 a d) := by
  rw [lim_at, hDv_at, rowsQ, rowsO, Attn.gv_congr _ _ (keysK m c t h)]
  rfl

/-! What a point leaves, column by column. -/

theorem left_q (t : Fin cfg0.N) (h : Fin 4) (a d : Fin 128) :
    (outsAt0 m c t.val t.isLt).1 (ix2 a (Attn.colm h d)) = Attn.dq (aQ m c) (aK m c) (aV m c) (aO m c) (aL m c) (bl t) h a d := by
  by_cases h0 : t.val % 64 = 0
  · rw [outsAt0_A m c t h0]
    dsimp only
    rw [out0_A_7_at (h := h) (d := d) (hn := rfl)]
    exact q_at m c t h a d
  · rw [outsAt0_B m c t h0]
    dsimp only
    rw [out0_B_7_at (h := h) (d := d) (hn := rfl)]
    exact q_at m c t h a d

theorem left_ck (t : Fin cfg0.N) (h : Fin 4) (a d : Fin 128) :
    (outsAt0 m c t.val t.isLt).2.2.2.1 (ix2 a (Attn.colm h d)) =
      Attn.dkAt (aQ m c) (aK m c) (aV m c) (aO m c) (aL m c) (bl t) h ⟨a.val, by have := a.isLt; omega⟩ d := by
  by_cases h0 : t.val % 64 = 0
  · rw [outsAt0_A m c t h0]
    dsimp only
    rw [sout0_A_0_at (h := h) (d := d) (hn := rfl)]
    exact ck_at m c t h a d
  · rw [outsAt0_B m c t h0]
    dsimp only
    rw [sout0_B_0_at (h := h) (d := d) (hn := rfl)]
    exact ck_at m c t h a d

theorem left_cv (t : Fin cfg0.N) (h : Fin 4) (a d : Fin 128) :
    (outsAt0 m c t.val t.isLt).2.2.2.2 (ix2 a (Attn.colm h d)) =
      Attn.dvAt (aQ m c) (aK m c) (aO m c) (bl t) h ⟨a.val, by have := a.isLt; omega⟩ d := by
  by_cases h0 : t.val % 64 = 0
  · rw [outsAt0_A m c t h0]
    dsimp only
    rw [sout0_A_1_at (h := h) (d := d) (hn := rfl)]
    exact cv_at m c t h a d
  · rw [outsAt0_B m c t h0]
    dsimp only
    rw [sout0_B_1_at (h := h) (d := d) (hn := rfl)]
    exact cv_at m c t h a d

theorem zero_word : (Scalar.ofBits (F := Ideal) .f32 0x00000000#32) = (0 : EReal) := Ideal.ofBits_zero_f32

theorem left_k (t : Fin cfg0.N) (h : Fin 4) (a d : Fin 128) :
    (outsAt0 m c t.val t.isLt).2.1 (ix2 a (Attn.colm h d)) = Attn.dk (aQ m c) (aK m c) (aV m c) (aO m c) (aL m c) (bl t) h a d := by
  have ht := lt64 t
  unfold Attn.dk Attn.both
  by_cases h0 : t.val % 64 = 0
  · rw [outsAt0_A m c t h0]
    dsimp only
    rw [out0_A_8_at (h := h) (d := d) (hn := rfl)]
    refine (k_at m c t h _ a d).trans ?_
    rw [dif_neg (show ¬ 63 - t.val < 63 by omega)]
    exact congrArg _ zero_word
  · rw [outsAt0_B m c t h0]
    dsimp only
    rw [out0_B_8_at (h := h) (d := d) (hn := rfl)]
    refine (k_at m c t h _ a d).trans ?_
    rw [dif_pos (show 63 - t.val < 63 by omega)]
    refine congrArg _ ((left_ck m c ⟨t.val - 1, Nat.lt_of_le_of_lt (Nat.sub_le _ _) t.isLt⟩ h a d).trans ?_)
    congr 1
    apply Fin.ext
    show 63 - (t.val - 1) = 63 - t.val + 1
    omega

theorem left_v (t : Fin cfg0.N) (h : Fin 4) (a d : Fin 128) :
    (outsAt0 m c t.val t.isLt).2.2.1 (ix2 a (Attn.colm h d)) = Attn.dv (aQ m c) (aK m c) (aO m c) (bl t) h a d := by
  have ht := lt64 t
  unfold Attn.dv Attn.both
  by_cases h0 : t.val % 64 = 0
  · rw [outsAt0_A m c t h0]
    dsimp only
    rw [out0_A_9_at (h := h) (d := d) (hn := rfl)]
    refine (v_at m c t h _ a d).trans ?_
    rw [dif_neg (show ¬ 63 - t.val < 63 by omega)]
    exact congrArg _ zero_word
  · rw [outsAt0_B m c t h0]
    dsimp only
    rw [out0_B_9_at (h := h) (d := d) (hn := rfl)]
    refine (v_at m c t h _ a d).trans ?_
    rw [dif_pos (show 63 - t.val < 63 by omega)]
    refine congrArg _ ((left_cv m c ⟨t.val - 1, Nat.lt_of_le_of_lt (Nat.sub_le _ _) t.isLt⟩ h a d).trans ?_)
    congr 1
    apply Fin.ext
    show 63 - (t.val - 1) = 63 - t.val + 1
    omega

/-- An array given by its blocks. -/
def arr (f : Fin 64 → Fin 4 → Fin 128 → Fin 128 → EReal) : S8192x512.Idx → EReal := fun i => Attn.asm f (i 0) (i 1)

/-- A block of such an array, at a point's place. -/
theorem arr_block (f : Fin 64 → Fin 4 → Fin 128 → Fin 128 → EReal) (t : Fin cfg0.N) (o : S128x512.Idx → EReal)
    (ho : ∀ h a d, o (ix2 a (Attn.colm h d)) = f (bl t) h a d) (y : S128x512.Idx) (i : S8192x512.Idx)
    (h0 : (i 0).val = 128 * (63 - t.val) + (y 0).val) (h1 : (i 1).val = (y 1).val) : o y = arr f i := by
  have hy0 : (y 0).val < 128 := (y 0).isLt
  have hy1 : (y 1).val < 512 := (y 1).isLt
  have e := ho ⟨(y 1).val / 128, by omega⟩ ⟨(y 0).val, hy0⟩ ⟨(y 1).val % 128, by omega⟩
  have ey : y = ix2 (⟨(y 0).val, hy0⟩ : Fin 128) (Attn.colm ⟨(y 1).val / 128, by omega⟩ ⟨(y 1).val % 128, by omega⟩) := by
    funext b
    match b with
    | ⟨0, _⟩ => rfl
    | ⟨1, _⟩ => exact Fin.ext (show (y 1).val = 128 * ((y 1).val / 128) + (y 1).val % 128 by omega)
  rw [ey, e]
  have ei : arr f i = Attn.asm f (Attn.row (bl t) ⟨(y 0).val, hy0⟩) (Attn.colm ⟨(y 1).val / 128, by omega⟩ ⟨(y 1).val % 128, by omega⟩) := by
    unfold arr
    congr 1
    · exact Fin.ext h0
    · exact Fin.ext (show (i 1).val = 128 * ((y 1).val / 128) + (y 1).val % 128 by omega)
  rw [ei, Attn.asm_at]

theorem final_q : (dats m 0 c).arrAt 7 cfg0.N = arr (Attn.dq (aQ m c) (aK m c) (aV m c) (aO m c) (aL m c)) := by
  refine (dats m 0 c).arrAt_eq_of_covers 7 _ (by decide +kernel) fun t hf y => ?_
  blk_simp
  rw [after0_7]
  refine arr_block _ t _ (left_q m c t) y _ ?_ ?_
  · blk_simp [idx t]
    exact congrArg (· + _) (Nat.mul_comm _ _)
  · blk_simp [idx t]

theorem final_k : (dats m 0 c).arrAt 8 cfg0.N = arr (Attn.dk (aQ m c) (aK m c) (aV m c) (aO m c) (aL m c)) := by
  refine (dats m 0 c).arrAt_eq_of_covers 8 _ (by decide +kernel) fun t hf y => ?_
  blk_simp
  rw [after0_8]
  refine arr_block _ t _ (left_k m c t) y _ ?_ ?_
  · blk_simp [idx t]
    exact congrArg (· + _) (Nat.mul_comm _ _)
  · blk_simp [idx t]

theorem final_v : (dats m 0 c).arrAt 9 cfg0.N = arr (Attn.dv (aQ m c) (aK m c) (aO m c)) := by
  refine (dats m 0 c).arrAt_eq_of_covers 9 _ (by decide +kernel) fun t hf y => ?_
  blk_simp
  rw [after0_9]
  refine arr_block _ t _ (left_v m c t) y _ ?_ ?_
  · blk_simp [idx t]
    exact congrArg (· + _) (Nat.mul_comm _ _)
  · blk_simp [idx t]

end Cert.KernelIdeal.Value

end
-- ==== Proof.ROps.lean ====
/- The reference program as a list of its 196 host operations. -/
module

public import proofs.«01_k».proof.Proof.Gen.ReferenceIdeal
public import Idealize.ShloMosaic.Lib.StableHlo.Run
public import Idealize.ShloMosaic.Lib.Pipeline.Frame

@[expose] public section

set_option Elab.async false
set_option maxHeartbeats 4000000

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v13`, named, with its operands
    as plain arguments. -/
def fn_main_v13 : (⟨S1x1x1x128x4x128, .f32⟩ : BufTy).Contents (Elt F) → (⟨S1x1x63x128x4x128, .f32⟩ : BufTy).Contents (Elt F) → (⟨S1x1x64x128x4x128, .f32⟩ : BufTy).Contents (Elt F) :=
  (fun a b => concatenate S1x1x64x128x4x128 2 [⟨S1x1x1x128x4x128, a⟩, ⟨S1x1x63x128x4x128, b⟩] concatenates_S1x1x1x128x4x128_S1x1x63x128x4x128_S1x1x64x128x4x128_d2)

/-- The function of the operation that writes `main_v15`, named, with its operands
    as plain arguments. -/
def fn_main_v15 : (⟨S1x1x64x128x4x128, .f32⟩ : BufTy).Contents (Elt F) → (⟨S1x1x64x128x4x128, .f32⟩ : BufTy).Contents (Elt F) → (⟨S1x1x64x256x4x128, .f32⟩ : BufTy).Contents (Elt F) :=
  (fun a b => concatenate S1x1x64x256x4x128 3 [⟨S1x1x64x128x4x128, a⟩, ⟨S1x1x64x128x4x128, b⟩] concatenates_S1x1x64x128x4x128_S1x1x64x128x4x128_S1x1x64x256x4x128_d3)

/-- The function of the operation that writes `main_v22`, named, with its operands
    as plain arguments. -/
def fn_main_v22 : (⟨S1x1x1x128x4x128, .f32⟩ : BufTy).Contents (Elt F) → (⟨S1x1x63x128x4x128, .f32⟩ : BufTy).Contents (Elt F) → (⟨S1x1x64x128x4x128, .f32⟩ : BufTy).Contents (Elt F) :=
  (fun a b => concatenate S1x1x64x128x4x128 2 [⟨S1x1x1x128x4x128, a⟩, ⟨S1x1x63x128x4x128, b⟩] concatenates_S1x1x1x128x4x128_S1x1x63x128x4x128_S1x1x64x128x4x128_d2)

/-- The function of the operation that writes `main_v24`, named, with its operands
    as plain arguments. -/
def fn_main_v24 : (⟨S1x1x64x128x4x128, .f32⟩ : BufTy).Contents (Elt F) → (⟨S1x1x64x128x4x128, .f32⟩ : BufTy).Contents (Elt F) → (⟨S1x1x64x256x4x128, .f32⟩ : BufTy).Contents (Elt F) :=
  (fun a b => concatenate S1x1x64x256x4x128 3 [⟨S1x1x64x128x4x128, a⟩, ⟨S1x1x64x128x4x128, b⟩] concatenates_S1x1x64x128x4x128_S1x1x64x128x4x128_S1x1x64x256x4x128_d3)

/-- @main's operations 1 … 60 of 196 (window `main_part0`). -/
abbrev ops_part0 : List (HloOp τ sig (Elt F)) :=
  [ unary main_arg2 main_v0 ((extractStridedSlice S8192x512 ![0, 0] · slices_S8192x1536_S8192x512_0_0) : (⟨S8192x1536, .f32⟩ : BufTy).Contents (Elt F) → (⟨S8192x512, .f32⟩ : BufTy).Contents (Elt F)),
    reshape main_arg0 main_v1 (rfl : (.f32 : EltTy) = .f32) shapeCasts_S8192x512_S1x8192x4x128,
    reshape main_arg1 main_v2 (rfl : (.f32 : EltTy) = .f32) shapeCasts_S8192x512_S1x8192x4x128,
    reshape main_v0 main_v3 (rfl : (.f32 : EltTy) = .f32) shapeCasts_S8192x512_S1x8192x4x128,
    reshape main_v1 main_v4 (rfl : (.f32 : EltTy) = .f32) shapeCasts_S1x8192x4x128_S1x8192x1x4x128,
    unary main_v4 main_v5 ((transpose S1x1x8192x4x128 [0, 2, 1, 3, 4] · transposes_S1x8192x1x4x128_S1x1x8192x4x128_0_2_1_3_4) : (⟨S1x8192x1x4x128, .f32⟩ : BufTy).Contents (Elt F) → (⟨S1x1x8192x4x128, .f32⟩ : BufTy).Contents (Elt F)),
    reshape main_v5 main_v6 (rfl : (.f32 : EltTy) = .f32) shapeCasts_S1x1x8192x4x128_S1x1x64x128x4x128,
    reshape main_v2 main_v7 (rfl : (.f32 : EltTy) = .f32) shapeCasts_S1x8192x4x128_S1x8192x1x4x128,
    unary main_v7 main_v8 ((transpose S1x1x8192x4x128 [0, 2, 1, 3, 4] · transposes_S1x8192x1x4x128_S1x1x8192x4x128_0_2_1_3_4) : (⟨S1x8192x1x4x128, .f32⟩ : BufTy).Contents (Elt F) → (⟨S1x1x8192x4x128, .f32⟩ : BufTy).Contents (Elt F)),
    reshape main_v8 main_v9 (rfl : (.f32 : EltTy) = .f32) shapeCasts_S1x1x8192x4x128_S1x1x64x128x4x128,
    unary main_v9 main_v10 ((extractStridedSlice S1x1x1x128x4x128 ![0, 0, 0, 0, 0, 0] · slices_S1x1x64x128x4x128_S1x1x1x128x4x128_0_0_0_0_0_0) : (⟨S1x1x64x128x4x128, .f32⟩ : BufTy).Contents (Elt F) → (⟨S1x1x1x128x4x128, .f32⟩ : BufTy).Contents (Elt F)),
    nullary main_cst (constant S_ .f32 0x00000000#32),
    unary main_cst main_v11 (broadcastInDim S1x1x1x128x4x128 ![] bcast_S_S1x1x1x128x4x128 : (⟨S_, .f32⟩ : BufTy).Contents (Elt F) → (⟨S1x1x1x128x4x128, .f32⟩ : BufTy).Contents (Elt F)),
    unary main_v9 main_v12 ((extractStridedSlice S1x1x63x128x4x128 ![0, 0, 0, 0, 0, 0] · slices_S1x1x64x128x4x128_S1x1x63x128x4x128_0_0_0_0_0_0) : (⟨S1x1x64x128x4x128, .f32⟩ : BufTy).Contents (Elt F) → (⟨S1x1x63x128x4x128, .f32⟩ : BufTy).Contents (Elt F)),
    binary main_v11 main_v12 main_v13 (fn_main_v13 (F := F)),
    nullary main_cst_0 (constant S_ .f32 0x00000000#32),
    unary main_cst_0 main_v14 (broadcastInDim S1x1x1x128x4x128 ![] bcast_S_S1x1x1x128x4x128 : (⟨S_, .f32⟩ : BufTy).Contents (Elt F) → (⟨S1x1x1x128x4x128, .f32⟩ : BufTy).Contents (Elt F)),
    binary main_v13 main_v9 main_v15 (fn_main_v15 (F := F)),
    reshape main_v3 main_v16 (rfl : (.f32 : EltTy) = .f32) shapeCasts_S1x8192x4x128_S1x8192x1x4x128,
    unary main_v16 main_v17 ((transpose S1x1x8192x4x128 [0, 2, 1, 3, 4] · transposes_S1x8192x1x4x128_S1x1x8192x4x128_0_2_1_3_4) : (⟨S1x8192x1x4x128, .f32⟩ : BufTy).Contents (Elt F) → (⟨S1x1x8192x4x128, .f32⟩ : BufTy).Contents (Elt F)),
    reshape main_v17 main_v18 (rfl : (.f32 : EltTy) = .f32) shapeCasts_S1x1x8192x4x128_S1x1x64x128x4x128,
    unary main_v18 main_v19 ((extractStridedSlice S1x1x1x128x4x128 ![0, 0, 0, 0, 0, 0] · slices_S1x1x64x128x4x128_S1x1x1x128x4x128_0_0_0_0_0_0) : (⟨S1x1x64x128x4x128, .f32⟩ : BufTy).Contents (Elt F) → (⟨S1x1x1x128x4x128, .f32⟩ : BufTy).Contents (Elt F)),
    nullary main_cst_1 (constant S_ .f32 0x00000000#32),
    unary main_cst_1 main_v20 (broadcastInDim S1x1x1x128x4x128 ![] bcast_S_S1x1x1x128x4x128 : (⟨S_, .f32⟩ : BufTy).Contents (Elt F) → (⟨S1x1x1x128x4x128, .f32⟩ : BufTy).Contents (Elt F)),
    unary main_v18 main_v21 ((extractStridedSlice S1x1x63x128x4x128 ![0, 0, 0, 0, 0, 0] · slices_S1x1x64x128x4x128_S1x1x63x128x4x128_0_0_0_0_0_0) : (⟨S1x1x64x128x4x128, .f32⟩ : BufTy).Contents (Elt F) → (⟨S1x1x63x128x4x128, .f32⟩ : BufTy).Contents (Elt F)),
    binary main_v20 main_v21 main_v22 (fn_main_v22 (F := F)),
    nullary main_cst_2 (constant S_ .f32 0x00000000#32),
    unary main_cst_2 main_v23 (broadcastInDim S1x1x1x128x4x128 ![] bcast_S_S1x1x1x128x4x128 : (⟨S_, .f32⟩ : BufTy).Contents (Elt F) → (⟨S1x1x1x128x4x128, .f32⟩ : BufTy).Contents (Elt F)),
    binary main_v22 main_v18 main_v24 (fn_main_v24 (F := F)),
    nullary main_v25 (iotaInDim S128 32 0),
    unary main_v25 main_v26 (broadcastInDim S128x1 ![0] bcast_S128_S128x1_0 : (⟨S128, .i32⟩ : BufTy).Contents (Elt F) → (⟨S128x1, .i32⟩ : BufTy).Contents (Elt F)),
    nullary main_v27 (iotaInDim S256 32 0),
    unary main_v27 main_v28 (broadcastInDim S1x256 ![1] bcast_S256_S1x256_1 : (⟨S256, .i32⟩ : BufTy).Contents (Elt F) → (⟨S1x256, .i32⟩ : BufTy).Contents (Elt F)),
    nullary main_c (constantI S_ 32 128#32),
    unary main_c main_v29 (broadcastInDim S128x1 ![] bcast_S_S128x1 : (⟨S_, .i32⟩ : BufTy).Contents (Elt F) → (⟨S128x1, .i32⟩ : BufTy).Contents (Elt F)),
    binary main_v29 main_v26 main_v30 (addi : (⟨S128x1, .i32⟩ : BufTy).Contents (Elt F) → (⟨S128x1, .i32⟩ : BufTy).Contents (Elt F) → (⟨S128x1, .i32⟩ : BufTy).Contents (Elt F)),
    unary main_v30 main_v31 (broadcastInDim S128x256 ![0, 1] bcast_S128x1_S128x256_0_1 : (⟨S128x1, .i32⟩ : BufTy).Contents (Elt F) → (⟨S128x256, .i32⟩ : BufTy).Contents (Elt F)),
    unary main_v28 main_v32 (broadcastInDim S128x256 ![0, 1] bcast_S1x256_S128x256_0_1 : (⟨S1x256, .i32⟩ : BufTy).Contents (Elt F) → (⟨S128x256, .i32⟩ : BufTy).Contents (Elt F)),
    binary main_v31 main_v32 main_v33 (subi : (⟨S128x256, .i32⟩ : BufTy).Contents (Elt F) → (⟨S128x256, .i32⟩ : BufTy).Contents (Elt F) → (⟨S128x256, .i32⟩ : BufTy).Contents (Elt F)),
    nullary main_c_3 (constantI S_ 32 0#32),
    unary main_c_3 main_v34 (broadcastInDim S128x256 ![] bcast_S_S128x256 : (⟨S_, .i32⟩ : BufTy).Contents (Elt F) → (⟨S128x256, .i32⟩ : BufTy).Contents (Elt F)),
    binary main_v33 main_v34 main_v35 (cmpi .sge : (⟨S128x256, .i32⟩ : BufTy).Contents (Elt F) → (⟨S128x256, .i32⟩ : BufTy).Contents (Elt F) → (⟨S128x256, .i1⟩ : BufTy).Contents (Elt F)),
    nullary main_c_4 (constantI S_ 32 128#32),
    unary main_c_4 main_v36 (broadcastInDim S128x256 ![] bcast_S_S128x256 : (⟨S_, .i32⟩ : BufTy).Contents (Elt F) → (⟨S128x256, .i32⟩ : BufTy).Contents (Elt F)),
    binary main_v33 main_v36 main_v37 (cmpi .sle : (⟨S128x256, .i32⟩ : BufTy).Contents (Elt F) → (⟨S128x256, .i32⟩ : BufTy).Contents (Elt F) → (⟨S128x256, .i1⟩ : BufTy).Contents (Elt F)),
    binary main_v35 main_v37 main_v38 (andi : (⟨S128x256, .i1⟩ : BufTy).Contents (Elt F) → (⟨S128x256, .i1⟩ : BufTy).Contents (Elt F) → (⟨S128x256, .i1⟩ : BufTy).Contents (Elt F)),
    nullary main_v39 (iotaInDim S64 32 0),
    unary main_v39 main_v40 (broadcastInDim S64x1x1 ![0] bcast_S64_S64x1x1_0 : (⟨S64, .i32⟩ : BufTy).Contents (Elt F) → (⟨S64x1x1, .i32⟩ : BufTy).Contents (Elt F)),
    nullary main_c_5 (constantI S_ 32 0#32),
    unary main_c_5 main_v41 (broadcastInDim S64x1x1 ![] bcast_S_S64x1x1 : (⟨S_, .i32⟩ : BufTy).Contents (Elt F) → (⟨S64x1x1, .i32⟩ : BufTy).Contents (Elt F)),
    binary main_v40 main_v41 main_v42 (cmpi .sgt : (⟨S64x1x1, .i32⟩ : BufTy).Contents (Elt F) → (⟨S64x1x1, .i32⟩ : BufTy).Contents (Elt F) → (⟨S64x1x1, .i1⟩ : BufTy).Contents (Elt F)),
    nullary main_c_6 (constantI S_ 32 128#32),
    unary main_c_6 main_v43 (broadcastInDim S1x256 ![] bcast_S_S1x256 : (⟨S_, .i32⟩ : BufTy).Contents (Elt F) → (⟨S1x256, .i32⟩ : BufTy).Contents (Elt F)),
    binary main_v28 main_v43 main_v44 (cmpi .sge : (⟨S1x256, .i32⟩ : BufTy).Contents (Elt F) → (⟨S1x256, .i32⟩ : BufTy).Contents (Elt F) → (⟨S1x256, .i1⟩ : BufTy).Contents (Elt F)),
    unary main_v44 main_v45 (broadcastInDim S1x1x256 ![1, 2] bcast_S1x256_S1x1x256_1_2 : (⟨S1x256, .i1⟩ : BufTy).Contents (Elt F) → (⟨S1x1x256, .i1⟩ : BufTy).Contents (Elt F)),
    unary main_v42 main_v46 (broadcastInDim S64x1x256 ![0, 1, 2] bcast_S64x1x1_S64x1x256_0_1_2 : (⟨S64x1x1, .i1⟩ : BufTy).Contents (Elt F) → (⟨S64x1x256, .i1⟩ : BufTy).Contents (Elt F)),
    unary main_v45 main_v47 (broadcastInDim S64x1x256 ![0, 1, 2] bcast_S1x1x256_S64x1x256_0_1_2 : (⟨S1x1x256, .i1⟩ : BufTy).Contents (Elt F) → (⟨S64x1x256, .i1⟩ : BufTy).Contents (Elt F)),
    binary main_v46 main_v47 main_v48 (ori : (⟨S64x1x256, .i1⟩ : BufTy).Contents (Elt F) → (⟨S64x1x256, .i1⟩ : BufTy).Contents (Elt F) → (⟨S64x1x256, .i1⟩ : BufTy).Contents (Elt F)),
    unary main_v38 main_v49 (broadcastInDim S1x128x256 ![1, 2] bcast_S128x256_S1x128x256_1_2 : (⟨S128x256, .i1⟩ : BufTy).Contents (Elt F) → (⟨S1x128x256, .i1⟩ : BufTy).Contents (Elt F)),
    unary main_v49 main_v50 (broadcastInDim S64x128x256 ![0, 1, 2] bcast_S1x128x256_S64x128x256_0_1_2 : (⟨S1x128x256, .i1⟩ : BufTy).Contents (Elt F) → (⟨S64x128x256, .i1⟩ : BufTy).Contents (Elt F)) ]

/-- @main's operations 61 … 90 of 196 (window `main_part1`). -/
abbrev ops_part1_0 : List (HloOp τ sig (Elt F)) :=
  [ unary main_v48 main_v51 (broadcastInDim S64x128x256 ![0, 1, 2] bcast_S64x1x256_S64x128x256_0_1_2 : (⟨S64x1x256, .i1⟩ : BufTy).Contents (Elt F) → (⟨S64x128x256, .i1⟩ : BufTy).Contents (Elt F)),
    binary main_v50 main_v51 main_v52 (andi : (⟨S64x128x256, .i1⟩ : BufTy).Contents (Elt F) → (⟨S64x128x256, .i1⟩ : BufTy).Contents (Elt F) → (⟨S64x128x256, .i1⟩ : BufTy).Contents (Elt F)),
    binary main_v6 main_v15 main_v53 ((fun l r => Host.dotGeneral dot_S1x1x64x128x4x128_S1x1x64x256x4x128_S1x1x64x4x128x256_5_5_3_3_0124_0124 none l r) : (⟨S1x1x64x128x4x128, .f32⟩ : BufTy).Contents (Elt F) → (⟨S1x1x64x256x4x128, .f32⟩ : BufTy).Contents (Elt F) → (⟨S1x1x64x4x128x256, .f32⟩ : BufTy).Contents (Elt F)),
    nullary main_cst_7 (constant S_ .f32 0x3DB504F3#32),
    unary main_cst_7 main_v54 (broadcastInDim S1x1x64x4x128x256 ![] bcast_S_S1x1x64x4x128x256 : (⟨S_, .f32⟩ : BufTy).Contents (Elt F) → (⟨S1x1x64x4x128x256, .f32⟩ : BufTy).Contents (Elt F)),
    binary main_v53 main_v54 main_v55 (mulf : (⟨S1x1x64x4x128x256, .f32⟩ : BufTy).Contents (Elt F) → (⟨S1x1x64x4x128x256, .f32⟩ : BufTy).Contents (Elt F) → (⟨S1x1x64x4x128x256, .f32⟩ : BufTy).Contents (Elt F)),
    unary main_v52 main_v56 (broadcastInDim S1x1x64x1x128x256 ![2, 4, 5] bcast_S64x128x256_S1x1x64x1x128x256_2_4_5 : (⟨S64x128x256, .i1⟩ : BufTy).Contents (Elt F) → (⟨S1x1x64x1x128x256, .i1⟩ : BufTy).Contents (Elt F)),
    nullary main_cst_8 (constant S_ .f32 0xFF800000#32),
    TRef.unary (TRef.of (T := ⟨S_, .f32⟩) main_cst_8) (TRef.of (T := ⟨S_, .f32⟩) main_call0_v0) id,
    TRef.unary (TRef.of (T := ⟨S1x1x64x1x128x256, .i1⟩) main_v56) (TRef.of (T := ⟨S1x1x64x4x128x256, .i1⟩) main_v57_1) (broadcastInDim S1x1x64x4x128x256 ![0, 1, 2, 3, 4, 5] bcast_S1x1x64x1x128x256_S1x1x64x4x128x256_0_1_2_3_4_5),
    TRef.unary (TRef.of (T := ⟨S_, .f32⟩) main_call0_v0) (TRef.of (T := ⟨S1x1x64x4x128x256, .f32⟩) main_call0_v2) (broadcastInDim S1x1x64x4x128x256 ![] bcast_S_S1x1x64x4x128x256),
    TRef.ternary (TRef.of (T := ⟨S1x1x64x4x128x256, .i1⟩) main_v57_1) (TRef.of (T := ⟨S1x1x64x4x128x256, .f32⟩) main_v55) (TRef.of (T := ⟨S1x1x64x4x128x256, .f32⟩) main_call0_v2) (TRef.of (T := ⟨S1x1x64x4x128x256, .f32⟩) main_v57_0) select,
    TRef.nullary (TRef.of (T := ⟨S_, .f32⟩) main_call0_cst) (constant S_ .f32 0x00000000#32),
    TRef.unary (TRef.of (T := ⟨S_, .f32⟩) main_call0_cst) (TRef.of (T := ⟨S1x1x64x4x128x256, .f32⟩) main_v57_2) (broadcastInDim S1x1x64x4x128x256 ![] bcast_S_S1x1x64x4x128x256),
    nullary main_cst_9 (constant S_ .f32 0xFF800000#32),
    binary main_v57_0 main_cst_9 main_v58 ((fun x v => Host.reduce FloatOps.maximumf x v reducesTo_S1x1x64x4x128x256_S1x1x64x4x128_d5 h_S_) : (⟨S1x1x64x4x128x256, .f32⟩ : BufTy).Contents (Elt F) → (⟨S_, .f32⟩ : BufTy).Contents (Elt F) → (⟨S1x1x64x4x128, .f32⟩ : BufTy).Contents (Elt F)),
    reshape main_v58 main_v59 (rfl : (.f32 : EltTy) = .f32) shapeCasts_S1x1x64x4x128_S1x1x64x4x128x1,
    unary main_v59 main_v60 (broadcastInDim S1x1x64x4x128x256 ![0, 1, 2, 3, 4, 5] bcast_S1x1x64x4x128x1_S1x1x64x4x128x256_0_1_2_3_4_5 : (⟨S1x1x64x4x128x1, .f32⟩ : BufTy).Contents (Elt F) → (⟨S1x1x64x4x128x256, .f32⟩ : BufTy).Contents (Elt F)),
    binary main_v57_0 main_v60 main_v61 (cmpf .oeq : (⟨S1x1x64x4x128x256, .f32⟩ : BufTy).Contents (Elt F) → (⟨S1x1x64x4x128x256, .f32⟩ : BufTy).Contents (Elt F) → (⟨S1x1x64x4x128x256, .i1⟩ : BufTy).Contents (Elt F)),
    unary main_v61 main_v62 (uitofp .f32 : (⟨S1x1x64x4x128x256, .i1⟩ : BufTy).Contents (Elt F) → (⟨S1x1x64x4x128x256, .f32⟩ : BufTy).Contents (Elt F)),
    nullary main_cst_10 (constant S_ .f32 0x00000000#32),
    binary main_v62 main_cst_10 main_v63 ((fun x v => Host.reduceAdd x v reducesTo_S1x1x64x4x128x256_S1x1x64x4x128_d5 h_S_) : (⟨S1x1x64x4x128x256, .f32⟩ : BufTy).Contents (Elt F) → (⟨S_, .f32⟩ : BufTy).Contents (Elt F) → (⟨S1x1x64x4x128, .f32⟩ : BufTy).Contents (Elt F)),
    unary main_v58 main_v64 (broadcastInDim S1x1x64x4x128x1 ![0, 1, 2, 3, 4] bcast_S1x1x64x4x128_S1x1x64x4x128x1_0_1_2_3_4 : (⟨S1x1x64x4x128, .f32⟩ : BufTy).Contents (Elt F) → (⟨S1x1x64x4x128x1, .f32⟩ : BufTy).Contents (Elt F)),
    unary main_v64 main_v65 (broadcastInDim S1x1x64x4x128x256 ![0, 1, 2, 3, 4, 5] bcast_S1x1x64x4x128x1_S1x1x64x4x128x256_0_1_2_3_4_5 : (⟨S1x1x64x4x128x1, .f32⟩ : BufTy).Contents (Elt F) → (⟨S1x1x64x4x128x256, .f32⟩ : BufTy).Contents (Elt F)),
    binary main_v57_0 main_v65 main_v66 (subf : (⟨S1x1x64x4x128x256, .f32⟩ : BufTy).Contents (Elt F) → (⟨S1x1x64x4x128x256, .f32⟩ : BufTy).Contents (Elt F) → (⟨S1x1x64x4x128x256, .f32⟩ : BufTy).Contents (Elt F)),
    unary main_v66 main_v67 (Host.exp : (⟨S1x1x64x4x128x256, .f32⟩ : BufTy).Contents (Elt F) → (⟨S1x1x64x4x128x256, .f32⟩ : BufTy).Contents (Elt F)),
    nullary main_cst_11 (constant S_ .f32 0x00000000#32),
    binary main_v67 main_cst_11 main_v68 ((fun x v => Host.reduceAdd x v reducesTo_S1x1x64x4x128x256_S1x1x64x4x128_d5 h_S_) : (⟨S1x1x64x4x128x256, .f32⟩ : BufTy).Contents (Elt F) → (⟨S_, .f32⟩ : BufTy).Contents (Elt F) → (⟨S1x1x64x4x128, .f32⟩ : BufTy).Contents (Elt F)),
    unary main_v68 main_v69 (broadcastInDim S1x1x64x4x128x1 ![0, 1, 2, 3, 4] bcast_S1x1x64x4x128_S1x1x64x4x128x1_0_1_2_3_4 : (⟨S1x1x64x4x128, .f32⟩ : BufTy).Contents (Elt F) → (⟨S1x1x64x4x128x1, .f32⟩ : BufTy).Contents (Elt F)),
    unary main_v69 main_v70 (broadcastInDim S1x1x64x4x128x256 ![0, 1, 2, 3, 4, 5] bcast_S1x1x64x4x128x1_S1x1x64x4x128x256_0_1_2_3_4_5 : (⟨S1x1x64x4x128x1, .f32⟩ : BufTy).Contents (Elt F) → (⟨S1x1x64x4x128x256, .f32⟩ : BufTy).Contents (Elt F)) ]

/-- @main's operations 91 … 120 of 196 (window `main_part1`). -/
abbrev ops_part1_1 : List (HloOp τ sig (Elt F)) :=
  [ binary main_v67 main_v70 main_v71 (Host.divf : (⟨S1x1x64x4x128x256, .f32⟩ : BufTy).Contents (Elt F) → (⟨S1x1x64x4x128x256, .f32⟩ : BufTy).Contents (Elt F) → (⟨S1x1x64x4x128x256, .f32⟩ : BufTy).Contents (Elt F)),
    binary main_v69 main_v69 main_v72 (mulf : (⟨S1x1x64x4x128x1, .f32⟩ : BufTy).Contents (Elt F) → (⟨S1x1x64x4x128x1, .f32⟩ : BufTy).Contents (Elt F) → (⟨S1x1x64x4x128x1, .f32⟩ : BufTy).Contents (Elt F)),
    nullary main_cst_12 (constant S_ .f32 0x3F800000#32),
    unary main_cst_12 main_v73 (broadcastInDim S1x1x64x4x128x1 ![] bcast_S_S1x1x64x4x128x1 : (⟨S_, .f32⟩ : BufTy).Contents (Elt F) → (⟨S1x1x64x4x128x1, .f32⟩ : BufTy).Contents (Elt F)),
    binary main_v73 main_v72 main_v74 (Host.divf : (⟨S1x1x64x4x128x1, .f32⟩ : BufTy).Contents (Elt F) → (⟨S1x1x64x4x128x1, .f32⟩ : BufTy).Contents (Elt F) → (⟨S1x1x64x4x128x1, .f32⟩ : BufTy).Contents (Elt F)),
    binary main_v24 main_v71 main_v75 ((fun l r => Host.dotGeneral dot_S1x1x64x256x4x128_S1x1x64x4x128x256_S1x1x64x4x128x128_3_5_5_4_0124_0123 none l r) : (⟨S1x1x64x256x4x128, .f32⟩ : BufTy).Contents (Elt F) → (⟨S1x1x64x4x128x256, .f32⟩ : BufTy).Contents (Elt F) → (⟨S1x1x64x4x128x128, .f32⟩ : BufTy).Contents (Elt F)),
    unary main_v75 main_v76 ((transpose S1x1x64x128x4x128 [0, 1, 2, 5, 3, 4] · transposes_S1x1x64x4x128x128_S1x1x64x128x4x128_0_1_2_5_3_4) : (⟨S1x1x64x4x128x128, .f32⟩ : BufTy).Contents (Elt F) → (⟨S1x1x64x128x4x128, .f32⟩ : BufTy).Contents (Elt F)),
    unary main_v69 main_v77 (Host.log : (⟨S1x1x64x4x128x1, .f32⟩ : BufTy).Contents (Elt F) → (⟨S1x1x64x4x128x1, .f32⟩ : BufTy).Contents (Elt F)),
    binary main_v64 main_v77 main_v78 (addf : (⟨S1x1x64x4x128x1, .f32⟩ : BufTy).Contents (Elt F) → (⟨S1x1x64x4x128x1, .f32⟩ : BufTy).Contents (Elt F) → (⟨S1x1x64x4x128x1, .f32⟩ : BufTy).Contents (Elt F)),
    reshape main_v78 main_v79 (rfl : (.f32 : EltTy) = .f32) shapeCasts_S1x1x64x4x128x1_S1x1x64x4x128,
    unary main_v79 main_v80 ((transpose S1x1x64x128x4 [0, 1, 2, 4, 3] · transposes_S1x1x64x4x128_S1x1x64x128x4_0_1_2_4_3) : (⟨S1x1x64x4x128, .f32⟩ : BufTy).Contents (Elt F) → (⟨S1x1x64x128x4, .f32⟩ : BufTy).Contents (Elt F)),
    reshape main_v76 main_v81 (rfl : (.f32 : EltTy) = .f32) shapeCasts_S1x1x64x128x4x128_S1x1x8192x4x128,
    unary main_v81 main_v82 ((transpose S1x8192x1x4x128 [0, 2, 1, 3, 4] · transposes_S1x1x8192x4x128_S1x8192x1x4x128_0_2_1_3_4) : (⟨S1x1x8192x4x128, .f32⟩ : BufTy).Contents (Elt F) → (⟨S1x8192x1x4x128, .f32⟩ : BufTy).Contents (Elt F)),
    reshape main_v82 main_v83 (rfl : (.f32 : EltTy) = .f32) shapeCasts_S1x8192x1x4x128_S1x8192x4x128,
    reshape main_v80 main_v84 (rfl : (.f32 : EltTy) = .f32) shapeCasts_S1x1x64x128x4_S1x1x8192x4,
    unary main_v84 main_v85 ((transpose S1x8192x1x4 [0, 2, 1, 3] · transposes_S1x1x8192x4_S1x8192x1x4_0_2_1_3) : (⟨S1x1x8192x4, .f32⟩ : BufTy).Contents (Elt F) → (⟨S1x8192x1x4, .f32⟩ : BufTy).Contents (Elt F)),
    reshape main_v85 main_v86 (rfl : (.f32 : EltTy) = .f32) shapeCasts_S1x8192x1x4_S1x8192x4,
    reshape main_v83 main_v87 (rfl : (.f32 : EltTy) = .f32) shapeCasts_S1x8192x4x128_S8192x512,
    unary main_v86 main_v88 (broadcastInDim S1x8192x4x1 ![0, 1, 2] bcast_S1x8192x4_S1x8192x4x1_0_1_2 : (⟨S1x8192x4, .f32⟩ : BufTy).Contents (Elt F) → (⟨S1x8192x4x1, .f32⟩ : BufTy).Contents (Elt F)),
    unary main_v88 main_v89 (broadcastInDim S1x8192x4x128 ![0, 1, 2, 3] bcast_S1x8192x4x1_S1x8192x4x128_0_1_2_3 : (⟨S1x8192x4x1, .f32⟩ : BufTy).Contents (Elt F) → (⟨S1x8192x4x128, .f32⟩ : BufTy).Contents (Elt F)),
    reshape main_v89 main_v90 (rfl : (.f32 : EltTy) = .f32) shapeCasts_S1x8192x4x128_S8192x512,
    reshape main_arg4 main_v91 (rfl : (.f32 : EltTy) = .f32) shapeCasts_S8192x512_S1x8192x4x128,
    nullary main_cst_13 (constant S_ .f32 0x00000000#32),
    binary main_v91 main_cst_13 main_v92 ((fun x v => Host.reduceAdd x v reducesTo_S1x8192x4x128_S8192x4_d0_3 h_S_) : (⟨S1x8192x4x128, .f32⟩ : BufTy).Contents (Elt F) → (⟨S_, .f32⟩ : BufTy).Contents (Elt F) → (⟨S8192x4, .f32⟩ : BufTy).Contents (Elt F)),
    unary main_v92 main_v93 (broadcastInDim S1x8192x4x1 ![1, 2] bcast_S8192x4_S1x8192x4x1_1_2 : (⟨S8192x4, .f32⟩ : BufTy).Contents (Elt F) → (⟨S1x8192x4x1, .f32⟩ : BufTy).Contents (Elt F)),
    nullary main_cst_14 (constant S_ .f32 0x00000000#32),
    binary main_v93 main_cst_14 main_v94 ((fun x v => Host.reduceAdd x v reducesTo_S1x8192x4x1_S8192x4_d0_3 h_S_) : (⟨S1x8192x4x1, .f32⟩ : BufTy).Contents (Elt F) → (⟨S_, .f32⟩ : BufTy).Contents (Elt F) → (⟨S8192x4, .f32⟩ : BufTy).Contents (Elt F)),
    unary main_v94 main_v95 (broadcastInDim S1x8192x4 ![1, 2] bcast_S8192x4_S1x8192x4_1_2 : (⟨S8192x4, .f32⟩ : BufTy).Contents (Elt F) → (⟨S1x8192x4, .f32⟩ : BufTy).Contents (Elt F)),
    reshape main_arg3 main_v96 (rfl : (.f32 : EltTy) = .f32) shapeCasts_S8192x512_S1x8192x4x128,
    reshape main_v95 main_v97 (rfl : (.f32 : EltTy) = .f32) shapeCasts_S1x8192x4_S1x8192x1x4 ]

/-- @main's operations 121 … 125 of 196 (window `main_part1`). -/
abbrev ops_part1_2 : List (HloOp τ sig (Elt F)) :=
  [ unary main_v97 main_v98 ((transpose S1x1x8192x4 [0, 2, 1, 3] · transposes_S1x8192x1x4_S1x1x8192x4_0_2_1_3) : (⟨S1x8192x1x4, .f32⟩ : BufTy).Contents (Elt F) → (⟨S1x1x8192x4, .f32⟩ : BufTy).Contents (Elt F)),
    reshape main_v98 main_v99 (rfl : (.f32 : EltTy) = .f32) shapeCasts_S1x1x8192x4_S1x1x64x128x4,
    reshape main_v96 main_v100 (rfl : (.f32 : EltTy) = .f32) shapeCasts_S1x8192x4x128_S1x8192x1x4x128,
    unary main_v100 main_v101 ((transpose S1x1x8192x4x128 [0, 2, 1, 3, 4] · transposes_S1x8192x1x4x128_S1x1x8192x4x128_0_2_1_3_4) : (⟨S1x8192x1x4x128, .f32⟩ : BufTy).Contents (Elt F) → (⟨S1x1x8192x4x128, .f32⟩ : BufTy).Contents (Elt F)),
    reshape main_v101 main_v102 (rfl : (.f32 : EltTy) = .f32) shapeCasts_S1x1x8192x4x128_S1x1x64x128x4x128 ]

/-- Window `main_part1`'s operations. Not an abbreviation: `main_eq` below splits `ops` into the windows and no further. -/
def ops_part1 : List (HloOp τ sig (Elt F)) :=
  ops_part1_0 ++ (ops_part1_1 ++ (ops_part1_2))

/-- @main's operations 126 … 155 of 196 (window `main_part2`). -/
abbrev ops_part2_0 : List (HloOp τ sig (Elt F)) :=
  [ unary main_v99 main_v103 ((transpose S1x1x64x4x128 [0, 1, 2, 4, 3] · transposes_S1x1x64x128x4_S1x1x64x4x128_0_1_2_4_3) : (⟨S1x1x64x128x4, .f32⟩ : BufTy).Contents (Elt F) → (⟨S1x1x64x4x128, .f32⟩ : BufTy).Contents (Elt F)),
    unary main_v103 main_v104 (broadcastInDim S1x1x64x4x128x1 ![0, 1, 2, 3, 4] bcast_S1x1x64x4x128_S1x1x64x4x128x1_0_1_2_3_4 : (⟨S1x1x64x4x128, .f32⟩ : BufTy).Contents (Elt F) → (⟨S1x1x64x4x128x1, .f32⟩ : BufTy).Contents (Elt F)),
    binary main_v104 main_v69 main_v105 (Host.divf : (⟨S1x1x64x4x128x1, .f32⟩ : BufTy).Contents (Elt F) → (⟨S1x1x64x4x128x1, .f32⟩ : BufTy).Contents (Elt F) → (⟨S1x1x64x4x128x1, .f32⟩ : BufTy).Contents (Elt F)),
    unary main_v102 main_v106 ((transpose S1x1x64x4x128x128 [0, 1, 2, 4, 5, 3] · transposes_S1x1x64x128x4x128_S1x1x64x4x128x128_0_1_2_4_5_3) : (⟨S1x1x64x128x4x128, .f32⟩ : BufTy).Contents (Elt F) → (⟨S1x1x64x4x128x128, .f32⟩ : BufTy).Contents (Elt F)),
    binary main_v106 main_v24 main_v107 ((fun l r => Host.dotGeneral dot_S1x1x64x4x128x128_S1x1x64x256x4x128_S1x1x64x4x128x256_4_5_5_3_0123_0124 none l r) : (⟨S1x1x64x4x128x128, .f32⟩ : BufTy).Contents (Elt F) → (⟨S1x1x64x256x4x128, .f32⟩ : BufTy).Contents (Elt F) → (⟨S1x1x64x4x128x256, .f32⟩ : BufTy).Contents (Elt F)),
    binary main_v106 main_v71 main_v108 ((fun l r => Host.dotGeneral dot_S1x1x64x4x128x128_S1x1x64x4x128x256_S1x1x64x4x128x256_5_4_4_5_0123_0123 none l r) : (⟨S1x1x64x4x128x128, .f32⟩ : BufTy).Contents (Elt F) → (⟨S1x1x64x4x128x256, .f32⟩ : BufTy).Contents (Elt F) → (⟨S1x1x64x4x128x256, .f32⟩ : BufTy).Contents (Elt F)),
    unary main_v108 main_v109 ((transpose S1x1x64x256x4x128 [0, 1, 2, 5, 3, 4] · transposes_S1x1x64x4x128x256_S1x1x64x256x4x128_0_1_2_5_3_4) : (⟨S1x1x64x4x128x256, .f32⟩ : BufTy).Contents (Elt F) → (⟨S1x1x64x256x4x128, .f32⟩ : BufTy).Contents (Elt F)),
    unary main_v74 main_v110 (broadcastInDim S1x1x64x4x128x256 ![0, 1, 2, 3, 4, 5] bcast_S1x1x64x4x128x1_S1x1x64x4x128x256_0_1_2_3_4_5 : (⟨S1x1x64x4x128x1, .f32⟩ : BufTy).Contents (Elt F) → (⟨S1x1x64x4x128x256, .f32⟩ : BufTy).Contents (Elt F)),
    binary main_v107 main_v110 main_v111 (mulf : (⟨S1x1x64x4x128x256, .f32⟩ : BufTy).Contents (Elt F) → (⟨S1x1x64x4x128x256, .f32⟩ : BufTy).Contents (Elt F) → (⟨S1x1x64x4x128x256, .f32⟩ : BufTy).Contents (Elt F)),
    binary main_v111 main_v67 main_v112 (mulf : (⟨S1x1x64x4x128x256, .f32⟩ : BufTy).Contents (Elt F) → (⟨S1x1x64x4x128x256, .f32⟩ : BufTy).Contents (Elt F) → (⟨S1x1x64x4x128x256, .f32⟩ : BufTy).Contents (Elt F)),
    nullary main_cst_15 (constant S_ .f32 0x00000000#32),
    binary main_v112 main_cst_15 main_v113 ((fun x v => Host.reduceAdd x v reducesTo_S1x1x64x4x128x256_S1x1x64x4x128_d5 h_S_) : (⟨S1x1x64x4x128x256, .f32⟩ : BufTy).Contents (Elt F) → (⟨S_, .f32⟩ : BufTy).Contents (Elt F) → (⟨S1x1x64x4x128, .f32⟩ : BufTy).Contents (Elt F)),
    reshape main_v113 main_v114 (rfl : (.f32 : EltTy) = .f32) shapeCasts_S1x1x64x4x128_S1x1x64x4x128x1,
    unary main_v114 main_v115 (Host.negf : (⟨S1x1x64x4x128x1, .f32⟩ : BufTy).Contents (Elt F) → (⟨S1x1x64x4x128x1, .f32⟩ : BufTy).Contents (Elt F)),
    binary main_v105 main_v115 main_v116 (addf : (⟨S1x1x64x4x128x1, .f32⟩ : BufTy).Contents (Elt F) → (⟨S1x1x64x4x128x1, .f32⟩ : BufTy).Contents (Elt F) → (⟨S1x1x64x4x128x1, .f32⟩ : BufTy).Contents (Elt F)),
    unary main_v69 main_v117 (broadcastInDim S1x1x64x4x128x256 ![0, 1, 2, 3, 4, 5] bcast_S1x1x64x4x128x1_S1x1x64x4x128x256_0_1_2_3_4_5 : (⟨S1x1x64x4x128x1, .f32⟩ : BufTy).Contents (Elt F) → (⟨S1x1x64x4x128x256, .f32⟩ : BufTy).Contents (Elt F)),
    binary main_v107 main_v117 main_v118 (Host.divf : (⟨S1x1x64x4x128x256, .f32⟩ : BufTy).Contents (Elt F) → (⟨S1x1x64x4x128x256, .f32⟩ : BufTy).Contents (Elt F) → (⟨S1x1x64x4x128x256, .f32⟩ : BufTy).Contents (Elt F)),
    nullary main_cst_16 (constant S_ .f32 0x00000000#32),
    binary main_v116 main_cst_16 main_v119 ((fun x v => Host.reduceAdd x v reducesTo_S1x1x64x4x128x1_S64x4x128_d0_1_5 h_S_) : (⟨S1x1x64x4x128x1, .f32⟩ : BufTy).Contents (Elt F) → (⟨S_, .f32⟩ : BufTy).Contents (Elt F) → (⟨S64x4x128, .f32⟩ : BufTy).Contents (Elt F)),
    unary main_v119 main_v120 (broadcastInDim S1x1x64x4x128 ![2, 3, 4] bcast_S64x4x128_S1x1x64x4x128_2_3_4 : (⟨S64x4x128, .f32⟩ : BufTy).Contents (Elt F) → (⟨S1x1x64x4x128, .f32⟩ : BufTy).Contents (Elt F)),
    unary main_v120 main_v121 (broadcastInDim S1x1x64x4x128x256 ![0, 1, 2, 3, 4] bcast_S1x1x64x4x128_S1x1x64x4x128x256_0_1_2_3_4 : (⟨S1x1x64x4x128, .f32⟩ : BufTy).Contents (Elt F) → (⟨S1x1x64x4x128x256, .f32⟩ : BufTy).Contents (Elt F)),
    binary main_v118 main_v121 main_v122 (addf : (⟨S1x1x64x4x128x256, .f32⟩ : BufTy).Contents (Elt F) → (⟨S1x1x64x4x128x256, .f32⟩ : BufTy).Contents (Elt F) → (⟨S1x1x64x4x128x256, .f32⟩ : BufTy).Contents (Elt F)),
    binary main_v122 main_v67 main_v123 (mulf : (⟨S1x1x64x4x128x256, .f32⟩ : BufTy).Contents (Elt F) → (⟨S1x1x64x4x128x256, .f32⟩ : BufTy).Contents (Elt F) → (⟨S1x1x64x4x128x256, .f32⟩ : BufTy).Contents (Elt F)),
    unary main_v123 main_v124 (Host.negf : (⟨S1x1x64x4x128x256, .f32⟩ : BufTy).Contents (Elt F) → (⟨S1x1x64x4x128x256, .f32⟩ : BufTy).Contents (Elt F)),
    nullary main_cst_17 (constant S_ .f32 0x00000000#32),
    binary main_v124 main_cst_17 main_v125 ((fun x v => Host.reduceAdd x v reducesTo_S1x1x64x4x128x256_S1x1x64x4x128_d5 h_S_) : (⟨S1x1x64x4x128x256, .f32⟩ : BufTy).Contents (Elt F) → (⟨S_, .f32⟩ : BufTy).Contents (Elt F) → (⟨S1x1x64x4x128, .f32⟩ : BufTy).Contents (Elt F)),
    reshape main_v125 main_v126 (rfl : (.f32 : EltTy) = .f32) shapeCasts_S1x1x64x4x128_S1x1x64x4x128x1,
    binary main_v104 main_v126 main_v127 (addf : (⟨S1x1x64x4x128x1, .f32⟩ : BufTy).Contents (Elt F) → (⟨S1x1x64x4x128x1, .f32⟩ : BufTy).Contents (Elt F) → (⟨S1x1x64x4x128x1, .f32⟩ : BufTy).Contents (Elt F)),
    nullary main_cst_18 (constant S_ .f32 0x00000000#32),
    binary main_v127 main_cst_18 main_v128 ((fun x v => Host.reduceAdd x v reducesTo_S1x1x64x4x128x1_S64x4x128_d0_1_5 h_S_) : (⟨S1x1x64x4x128x1, .f32⟩ : BufTy).Contents (Elt F) → (⟨S_, .f32⟩ : BufTy).Contents (Elt F) → (⟨S64x4x128, .f32⟩ : BufTy).Contents (Elt F)) ]

/-- @main's operations 156 … 185 of 196 (window `main_part2`). -/
abbrev ops_part2_1 : List (HloOp τ sig (Elt F)) :=
  [ unary main_v128 main_v129 (broadcastInDim S1x1x64x4x128 ![2, 3, 4] bcast_S64x4x128_S1x1x64x4x128_2_3_4 : (⟨S64x4x128, .f32⟩ : BufTy).Contents (Elt F) → (⟨S1x1x64x4x128, .f32⟩ : BufTy).Contents (Elt F)),
    binary main_v129 main_v63 main_v130 (Host.divf : (⟨S1x1x64x4x128, .f32⟩ : BufTy).Contents (Elt F) → (⟨S1x1x64x4x128, .f32⟩ : BufTy).Contents (Elt F) → (⟨S1x1x64x4x128, .f32⟩ : BufTy).Contents (Elt F)),
    unary main_v130 main_v131 (broadcastInDim S1x1x64x4x128x256 ![0, 1, 2, 3, 4] bcast_S1x1x64x4x128_S1x1x64x4x128x256_0_1_2_3_4 : (⟨S1x1x64x4x128, .f32⟩ : BufTy).Contents (Elt F) → (⟨S1x1x64x4x128x256, .f32⟩ : BufTy).Contents (Elt F)),
    binary main_v131 main_v62 main_v132 (mulf : (⟨S1x1x64x4x128x256, .f32⟩ : BufTy).Contents (Elt F) → (⟨S1x1x64x4x128x256, .f32⟩ : BufTy).Contents (Elt F) → (⟨S1x1x64x4x128x256, .f32⟩ : BufTy).Contents (Elt F)),
    binary main_v123 main_v132 main_v133 (addf : (⟨S1x1x64x4x128x256, .f32⟩ : BufTy).Contents (Elt F) → (⟨S1x1x64x4x128x256, .f32⟩ : BufTy).Contents (Elt F) → (⟨S1x1x64x4x128x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S1x1x64x4x128x256, .f32⟩) main_call1_v0) (broadcastInDim S1x1x64x4x128x256 ![] bcast_S_S1x1x64x4x128x256),
    TRef.ternary (TRef.of (T := ⟨S1x1x64x4x128x256, .i1⟩) main_v57_1) (TRef.of (T := ⟨S1x1x64x4x128x256, .f32⟩) main_v133) (TRef.of (T := ⟨S1x1x64x4x128x256, .f32⟩) main_call1_v0) (TRef.of (T := ⟨S1x1x64x4x128x256, .f32⟩) main_v134) select,
    nullary main_cst_19 (constant S_ .f32 0x3DB504F3#32),
    unary main_cst_19 main_v135 (broadcastInDim S1x1x64x4x128x256 ![] bcast_S_S1x1x64x4x128x256 : (⟨S_, .f32⟩ : BufTy).Contents (Elt F) → (⟨S1x1x64x4x128x256, .f32⟩ : BufTy).Contents (Elt F)),
    binary main_v134 main_v135 main_v136 (mulf : (⟨S1x1x64x4x128x256, .f32⟩ : BufTy).Contents (Elt F) → (⟨S1x1x64x4x128x256, .f32⟩ : BufTy).Contents (Elt F) → (⟨S1x1x64x4x128x256, .f32⟩ : BufTy).Contents (Elt F)),
    binary main_v136 main_v6 main_v137 ((fun l r => Host.dotGeneral dot_S1x1x64x4x128x256_S1x1x64x128x4x128_S1x1x64x4x256x128_4_3_5_5_0123_0124 none l r) : (⟨S1x1x64x4x128x256, .f32⟩ : BufTy).Contents (Elt F) → (⟨S1x1x64x128x4x128, .f32⟩ : BufTy).Contents (Elt F) → (⟨S1x1x64x4x256x128, .f32⟩ : BufTy).Contents (Elt F)),
    unary main_v137 main_v138 ((transpose S1x1x64x256x4x128 [0, 1, 2, 4, 3, 5] · transposes_S1x1x64x4x256x128_S1x1x64x256x4x128_0_1_2_4_3_5) : (⟨S1x1x64x4x256x128, .f32⟩ : BufTy).Contents (Elt F) → (⟨S1x1x64x256x4x128, .f32⟩ : BufTy).Contents (Elt F)),
    binary main_v136 main_v15 main_v139 ((fun l r => Host.dotGeneral dot_S1x1x64x4x128x256_S1x1x64x256x4x128_S1x1x64x4x128x128_5_3_4_5_0123_0124 none l r) : (⟨S1x1x64x4x128x256, .f32⟩ : BufTy).Contents (Elt F) → (⟨S1x1x64x256x4x128, .f32⟩ : BufTy).Contents (Elt F) → (⟨S1x1x64x4x128x128, .f32⟩ : BufTy).Contents (Elt F)),
    unary main_v139 main_v140 ((transpose S1x1x64x128x4x128 [0, 1, 2, 4, 3, 5] · transposes_S1x1x64x4x128x128_S1x1x64x128x4x128_0_1_2_4_3_5) : (⟨S1x1x64x4x128x128, .f32⟩ : BufTy).Contents (Elt F) → (⟨S1x1x64x128x4x128, .f32⟩ : BufTy).Contents (Elt F)),
    unary main_v109 main_v141 ((extractStridedSlice S1x1x64x128x4x128 ![0, 0, 0, 0, 0, 0] · slices_S1x1x64x256x4x128_S1x1x64x128x4x128_0_0_0_0_0_0) : (⟨S1x1x64x256x4x128, .f32⟩ : BufTy).Contents (Elt F) → (⟨S1x1x64x128x4x128, .f32⟩ : BufTy).Contents (Elt F)),
    unary main_v109 main_v142 ((extractStridedSlice S1x1x64x128x4x128 ![0, 0, 0, 128, 0, 0] · slices_S1x1x64x256x4x128_S1x1x64x128x4x128_0_0_0_128_0_0) : (⟨S1x1x64x256x4x128, .f32⟩ : BufTy).Contents (Elt F) → (⟨S1x1x64x128x4x128, .f32⟩ : BufTy).Contents (Elt F)),
    unary main_v141 main_v143 ((extractStridedSlice S1x1x1x128x4x128 ![0, 0, 0, 0, 0, 0] · slices_S1x1x64x128x4x128_S1x1x1x128x4x128_0_0_0_0_0_0) : (⟨S1x1x64x128x4x128, .f32⟩ : BufTy).Contents (Elt F) → (⟨S1x1x1x128x4x128, .f32⟩ : BufTy).Contents (Elt F)),
    unary main_v141 main_v144 ((extractStridedSlice S1x1x63x128x4x128 ![0, 0, 1, 0, 0, 0] · slices_S1x1x64x128x4x128_S1x1x63x128x4x128_0_0_1_0_0_0) : (⟨S1x1x64x128x4x128, .f32⟩ : BufTy).Contents (Elt F) → (⟨S1x1x63x128x4x128, .f32⟩ : BufTy).Contents (Elt F)),
    nullary main_cst_20 (constant S_ .f32 0x00000000#32),
    binary main_v144 main_cst_20 main_v145 ((fun x v => pad S1x1x64x128x4x128 ![0, 0, 0, 0, 0, 0] ![0, 0, 1, 0, 0, 0] ![0, 0, 0, 0, 0, 0] x v pads_S1x1x63x128x4x128_S1x1x64x128x4x128_000_000_010_000_000_000 h_S_) : (⟨S1x1x63x128x4x128, .f32⟩ : BufTy).Contents (Elt F) → (⟨S_, .f32⟩ : BufTy).Contents (Elt F) → (⟨S1x1x64x128x4x128, .f32⟩ : BufTy).Contents (Elt F)),
    binary main_v142 main_v145 main_v146 (addf : (⟨S1x1x64x128x4x128, .f32⟩ : BufTy).Contents (Elt F) → (⟨S1x1x64x128x4x128, .f32⟩ : BufTy).Contents (Elt F) → (⟨S1x1x64x128x4x128, .f32⟩ : BufTy).Contents (Elt F)),
    reshape main_v146 main_v147 (rfl : (.f32 : EltTy) = .f32) shapeCasts_S1x1x64x128x4x128_S1x1x8192x4x128,
    unary main_v147 main_v148 ((transpose S1x8192x1x4x128 [0, 2, 1, 3, 4] · transposes_S1x1x8192x4x128_S1x8192x1x4x128_0_2_1_3_4) : (⟨S1x1x8192x4x128, .f32⟩ : BufTy).Contents (Elt F) → (⟨S1x8192x1x4x128, .f32⟩ : BufTy).Contents (Elt F)),
    reshape main_v148 main_v149 (rfl : (.f32 : EltTy) = .f32) shapeCasts_S1x8192x1x4x128_S1x8192x4x128,
    unary main_v138 main_v150 ((extractStridedSlice S1x1x64x128x4x128 ![0, 0, 0, 0, 0, 0] · slices_S1x1x64x256x4x128_S1x1x64x128x4x128_0_0_0_0_0_0) : (⟨S1x1x64x256x4x128, .f32⟩ : BufTy).Contents (Elt F) → (⟨S1x1x64x128x4x128, .f32⟩ : BufTy).Contents (Elt F)),
    unary main_v138 main_v151 ((extractStridedSlice S1x1x64x128x4x128 ![0, 0, 0, 128, 0, 0] · slices_S1x1x64x256x4x128_S1x1x64x128x4x128_0_0_0_128_0_0) : (⟨S1x1x64x256x4x128, .f32⟩ : BufTy).Contents (Elt F) → (⟨S1x1x64x128x4x128, .f32⟩ : BufTy).Contents (Elt F)),
    unary main_v150 main_v152 ((extractStridedSlice S1x1x1x128x4x128 ![0, 0, 0, 0, 0, 0] · slices_S1x1x64x128x4x128_S1x1x1x128x4x128_0_0_0_0_0_0) : (⟨S1x1x64x128x4x128, .f32⟩ : BufTy).Contents (Elt F) → (⟨S1x1x1x128x4x128, .f32⟩ : BufTy).Contents (Elt F)),
    unary main_v150 main_v153 ((extractStridedSlice S1x1x63x128x4x128 ![0, 0, 1, 0, 0, 0] · slices_S1x1x64x128x4x128_S1x1x63x128x4x128_0_0_1_0_0_0) : (⟨S1x1x64x128x4x128, .f32⟩ : BufTy).Contents (Elt F) → (⟨S1x1x63x128x4x128, .f32⟩ : BufTy).Contents (Elt F)),
    nullary main_cst_21 (constant S_ .f32 0x00000000#32) ]

/-- @main's operations 186 … 187 of 196 (window `main_part2`). -/
abbrev ops_part2_2 : List (HloOp τ sig (Elt F)) :=
  [ binary main_v153 main_cst_21 main_v154 ((fun x v => pad S1x1x64x128x4x128 ![0, 0, 0, 0, 0, 0] ![0, 0, 1, 0, 0, 0] ![0, 0, 0, 0, 0, 0] x v pads_S1x1x63x128x4x128_S1x1x64x128x4x128_000_000_010_000_000_000 h_S_) : (⟨S1x1x63x128x4x128, .f32⟩ : BufTy).Contents (Elt F) → (⟨S_, .f32⟩ : BufTy).Contents (Elt F) → (⟨S1x1x64x128x4x128, .f32⟩ : BufTy).Contents (Elt F)),
    binary main_v151 main_v154 main_v155 (addf : (⟨S1x1x64x128x4x128, .f32⟩ : BufTy).Contents (Elt F) → (⟨S1x1x64x128x4x128, .f32⟩ : BufTy).Contents (Elt F) → (⟨S1x1x64x128x4x128, .f32⟩ : BufTy).Contents (Elt F)) ]

/-- Window `main_part2`'s operations. Not an abbreviation: `main_eq` below splits `ops` into the windows and no further. -/
def ops_part2 : List (HloOp τ sig (Elt F)) :=
  ops_part2_0 ++ (ops_part2_1 ++ (ops_part2_2))

/-- @main's operations 188 … 196 of 196 (window `main_part3`). -/
abbrev ops_part3 : List (HloOp τ sig (Elt F)) :=
  [ reshape main_v155 main_v156 (rfl : (.f32 : EltTy) = .f32) shapeCasts_S1x1x64x128x4x128_S1x1x8192x4x128,
    unary main_v156 main_v157 ((transpose S1x8192x1x4x128 [0, 2, 1, 3, 4] · transposes_S1x1x8192x4x128_S1x8192x1x4x128_0_2_1_3_4) : (⟨S1x1x8192x4x128, .f32⟩ : BufTy).Contents (Elt F) → (⟨S1x8192x1x4x128, .f32⟩ : BufTy).Contents (Elt F)),
    reshape main_v157 main_v158 (rfl : (.f32 : EltTy) = .f32) shapeCasts_S1x8192x1x4x128_S1x8192x4x128,
    reshape main_v140 main_v159 (rfl : (.f32 : EltTy) = .f32) shapeCasts_S1x1x64x128x4x128_S1x1x8192x4x128,
    unary main_v159 main_v160 ((transpose S1x8192x1x4x128 [0, 2, 1, 3, 4] · transposes_S1x1x8192x4x128_S1x8192x1x4x128_0_2_1_3_4) : (⟨S1x1x8192x4x128, .f32⟩ : BufTy).Contents (Elt F) → (⟨S1x8192x1x4x128, .f32⟩ : BufTy).Contents (Elt F)),
    reshape main_v160 main_v161 (rfl : (.f32 : EltTy) = .f32) shapeCasts_S1x8192x1x4x128_S1x8192x4x128,
    reshape main_v149 main_v162 (rfl : (.f32 : EltTy) = .f32) shapeCasts_S1x8192x4x128_S8192x512,
    reshape main_v158 main_v163 (rfl : (.f32 : EltTy) = .f32) shapeCasts_S1x8192x4x128_S8192x512,
    reshape main_v161 main_v164 (rfl : (.f32 : EltTy) = .f32) shapeCasts_S1x8192x4x128_S8192x512 ]

/-- @main's 196 operations, in order (a called function's operations stand in its call's place, spelt `TRef.…`). -/
abbrev ops : List (HloOp τ sig (Elt F)) :=
  ops_part0 ++ (ops_part1 ++ (ops_part2 ++ (ops_part3)))

set_option maxRecDepth 8192 in
theorem main_part0_eq (c : Dev nD) : main_part0 (F := F) c = seq ops_part0 := rfl
set_option maxRecDepth 8192 in
set_option maxHeartbeats 4000000 in
theorem main_part1_eq (c : Dev nD) : main_part1 (F := F) c = seq ops_part1 := rfl
set_option maxRecDepth 8192 in
set_option maxHeartbeats 4000000 in
theorem main_part2_eq (c : Dev nD) : main_part2 (F := F) c = seq ops_part2 := rfl
set_option maxRecDepth 8192 in
theorem main_part3_eq (c : Dev nD) : main_part3 (F := F) c = seq ops_part3 := rfl
set_option maxRecDepth 8192 in
theorem main_eq (c : Dev nD) : main (F := F) c = seq ops := by
  simp only [ops, seq_append, ← main_part0_eq c, ← main_part1_eq c, ← main_part2_eq c, ← main_part3_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_sub : (ops_part0 : List (HloOp τ sig (Elt F))).Forall fun op => op.bufs ⊆ tcRefs τ sig :=
  ⟨unary_bufs_sub .., reshape_bufs_sub .., reshape_bufs_sub .., reshape_bufs_sub .., reshape_bufs_sub .., unary_bufs_sub .., reshape_bufs_sub .., reshape_bufs_sub .., unary_bufs_sub .., reshape_bufs_sub .., unary_bufs_sub .., nullary_bufs_sub .., unary_bufs_sub .., unary_bufs_sub .., binary_bufs_sub .., nullary_bufs_sub .., unary_bufs_sub .., binary_bufs_sub .., reshape_bufs_sub .., unary_bufs_sub .., reshape_bufs_sub .., unary_bufs_sub .., nullary_bufs_sub .., unary_bufs_sub .., unary_bufs_sub .., binary_bufs_sub .., nullary_bufs_sub .., unary_bufs_sub .., binary_bufs_sub .., nullary_bufs_sub .., unary_bufs_sub .., nullary_bufs_sub .., unary_bufs_sub .., nullary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., nullary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub ..⟩
set_option maxRecDepth 8192 in
theorem ops_part0_fresh : (ops_part0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_0_sub : (ops_part1_0 : List (HloOp τ sig (Elt F))).Forall fun op => op.bufs ⊆ tcRefs τ sig :=
  ⟨unary_bufs_sub .., binary_bufs_sub .., binary_bufs_sub .., nullary_bufs_sub .., unary_bufs_sub .., binary_bufs_sub .., unary_bufs_sub .., nullary_bufs_sub .., unary_bufs_sub .., unary_bufs_sub .., unary_bufs_sub .., ternary_bufs_sub .., nullary_bufs_sub .., unary_bufs_sub .., nullary_bufs_sub .., binary_bufs_sub .., reshape_bufs_sub .., unary_bufs_sub .., binary_bufs_sub .., unary_bufs_sub .., nullary_bufs_sub .., binary_bufs_sub .., unary_bufs_sub .., unary_bufs_sub .., binary_bufs_sub .., unary_bufs_sub .., nullary_bufs_sub .., binary_bufs_sub .., unary_bufs_sub .., unary_bufs_sub ..⟩
set_option maxRecDepth 8192 in
theorem ops_part1_0_fresh : (ops_part1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_1_sub : (ops_part1_1 : List (HloOp τ sig (Elt F))).Forall fun op => op.bufs ⊆ tcRefs τ sig :=
  ⟨binary_bufs_sub .., binary_bufs_sub .., nullary_bufs_sub .., unary_bufs_sub .., binary_bufs_sub .., binary_bufs_sub .., unary_bufs_sub .., unary_bufs_sub .., binary_bufs_sub .., reshape_bufs_sub .., unary_bufs_sub .., reshape_bufs_sub .., unary_bufs_sub .., reshape_bufs_sub .., reshape_bufs_sub .., unary_bufs_sub .., reshape_bufs_sub .., reshape_bufs_sub .., unary_bufs_sub .., unary_bufs_sub .., reshape_bufs_sub .., reshape_bufs_sub .., nullary_bufs_sub .., binary_bufs_sub .., unary_bufs_sub .., nullary_bufs_sub .., binary_bufs_sub .., unary_bufs_sub .., reshape_bufs_sub .., reshape_bufs_sub ..⟩
set_option maxRecDepth 8192 in
theorem ops_part1_1_fresh : (ops_part1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_2_sub : (ops_part1_2 : List (HloOp τ sig (Elt F))).Forall fun op => op.bufs ⊆ tcRefs τ sig :=
  ⟨unary_bufs_sub .., reshape_bufs_sub .., reshape_bufs_sub .., unary_bufs_sub .., reshape_bufs_sub ..⟩
set_option maxRecDepth 8192 in
theorem ops_part1_2_fresh : (ops_part1_2 : List (HloOp τ sig (Elt F))).Forall fun op => op.fresh = ∅ :=
  ⟨rfl, rfl, rfl, rfl, rfl⟩
set_option maxRecDepth 8192 in
theorem ops_part2_0_sub : (ops_part2_0 : List (HloOp τ sig (Elt F))).Forall fun op => op.bufs ⊆ tcRefs τ sig :=
  ⟨unary_bufs_sub .., unary_bufs_sub .., binary_bufs_sub .., unary_bufs_sub .., binary_bufs_sub .., binary_bufs_sub .., unary_bufs_sub .., unary_bufs_sub .., binary_bufs_sub .., binary_bufs_sub .., nullary_bufs_sub .., binary_bufs_sub .., reshape_bufs_sub .., unary_bufs_sub .., binary_bufs_sub .., unary_bufs_sub .., binary_bufs_sub .., nullary_bufs_sub .., binary_bufs_sub .., unary_bufs_sub .., unary_bufs_sub .., binary_bufs_sub .., binary_bufs_sub .., unary_bufs_sub .., nullary_bufs_sub .., binary_bufs_sub .., reshape_bufs_sub .., binary_bufs_sub .., nullary_bufs_sub .., binary_bufs_sub ..⟩
set_option maxRecDepth 8192 in
theorem ops_part2_0_fresh : (ops_part2_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_1_sub : (ops_part2_1 : List (HloOp τ sig (Elt F))).Forall fun op => op.bufs ⊆ tcRefs τ sig :=
  ⟨unary_bufs_sub .., binary_bufs_sub .., unary_bufs_sub .., binary_bufs_sub .., binary_bufs_sub .., nullary_bufs_sub .., unary_bufs_sub .., ternary_bufs_sub .., nullary_bufs_sub .., unary_bufs_sub .., binary_bufs_sub .., binary_bufs_sub .., unary_bufs_sub .., binary_bufs_sub .., unary_bufs_sub .., unary_bufs_sub .., unary_bufs_sub .., unary_bufs_sub .., unary_bufs_sub .., nullary_bufs_sub .., binary_bufs_sub .., binary_bufs_sub .., reshape_bufs_sub .., unary_bufs_sub .., reshape_bufs_sub .., unary_bufs_sub .., unary_bufs_sub .., unary_bufs_sub .., unary_bufs_sub .., nullary_bufs_sub ..⟩
set_option maxRecDepth 8192 in
theorem ops_part2_1_fresh : (ops_part2_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_2_sub : (ops_part2_2 : List (HloOp τ sig (Elt F))).Forall fun op => op.bufs ⊆ tcRefs τ sig :=
  ⟨binary_bufs_sub .., binary_bufs_sub ..⟩
set_option maxRecDepth 8192 in
theorem ops_part2_2_fresh : (ops_part2_2 : List (HloOp τ sig (Elt F))).Forall fun op => op.fresh = ∅ :=
  ⟨rfl, rfl⟩
set_option maxRecDepth 8192 in
theorem ops_part3_sub : (ops_part3 : List (HloOp τ sig (Elt F))).Forall fun op => op.bufs ⊆ tcRefs τ sig :=
  ⟨reshape_bufs_sub .., unary_bufs_sub .., reshape_bufs_sub .., reshape_bufs_sub .., unary_bufs_sub .., reshape_bufs_sub .., reshape_bufs_sub .., reshape_bufs_sub .., reshape_bufs_sub ..⟩
set_option maxRecDepth 8192 in
theorem ops_part3_fresh : (ops_part3 : List (HloOp τ sig (Elt F))).Forall fun op => op.fresh = ∅ :=
  ⟨rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part1, ops_part2, List.mem_append, or_assoc] at h
    rcases h with h | h | h | h | h | h | h | h
    exacts [List.forall_iff_forall_mem.mp ops_part0_sub op h, List.forall_iff_forall_mem.mp ops_part1_0_sub op h, List.forall_iff_forall_mem.mp ops_part1_1_sub op h, List.forall_iff_forall_mem.mp ops_part1_2_sub op h, List.forall_iff_forall_mem.mp ops_part2_0_sub op h, List.forall_iff_forall_mem.mp ops_part2_1_sub op h, List.forall_iff_forall_mem.mp ops_part2_2_sub op h, List.forall_iff_forall_mem.mp ops_part3_sub op h]
theorem ops_fresh : ∀ op ∈ (ops : List (HloOp τ sig (Elt F))), op.fresh = ∅ := fun op h => by
    simp only [ops, ops_part1, ops_part2, List.mem_append, or_assoc] at h
    rcases h with h | h | h | h | h | h | h | h
    exacts [List.forall_iff_forall_mem.mp ops_part0_fresh op h, List.forall_iff_forall_mem.mp ops_part1_0_fresh op h, List.forall_iff_forall_mem.mp ops_part1_1_fresh op h, List.forall_iff_forall_mem.mp ops_part1_2_fresh op h, List.forall_iff_forall_mem.mp ops_part2_0_fresh op h, List.forall_iff_forall_mem.mp ops_part2_1_fresh op h, List.forall_iff_forall_mem.mp ops_part2_2_fresh op h, List.forall_iff_forall_mem.mp ops_part3_fresh op h]

end Cert.ReferenceIdeal.Value

end
-- ==== Proof.RTerms.lean ====
/- The arrays the reference program computes of its arguments, named: each as a composed term of the earlier ones. -/
module

public import proofs.«01_k».proof.Proof.Gen.ReferenceIdeal
public import Idealize.ShloMosaic.Lib.StableHlo.Run
public import Idealize.ShloMosaic.Lib.Pipeline.Frame

@[expose] public section

set_option Elab.async false
set_option maxHeartbeats 4000000

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- `main_v6`'s composed term of the arguments (named: it is used 2 times). -/
def res_main_v6 (V0 : Valuation τ sig (Elt F)) : (Proc.devRef .tc main_v6 : DevRef τ sig).ty.Contents (Elt F) :=
  shapeCast _ (transpose S1x1x8192x4x128 [0, 2, 1, 3, 4] (shapeCast _ (shapeCast _ (V0 (Proc.devRef .tc main_arg0)) shapeCasts_S8192x512_S1x8192x4x128) shapeCasts_S1x8192x4x128_S1x8192x1x4x128) transposes_S1x8192x1x4x128_S1x1x8192x4x128_0_2_1_3_4) shapeCasts_S1x1x8192x4x128_S1x1x64x128x4x128

set_option maxRecDepth 8192 in
/-- `main_v9`'s composed term of the arguments (named: it is used 3 times). -/
def res_main_v9 (V0 : Valuation τ sig (Elt F)) : (Proc.devRef .tc main_v9 : DevRef τ sig).ty.Contents (Elt F) :=
  shapeCast _ (transpose S1x1x8192x4x128 [0, 2, 1, 3, 4] (shapeCast _ (shapeCast _ (V0 (Proc.devRef .tc main_arg1)) shapeCasts_S8192x512_S1x8192x4x128) shapeCasts_S1x8192x4x128_S1x8192x1x4x128) transposes_S1x8192x1x4x128_S1x1x8192x4x128_0_2_1_3_4) shapeCasts_S1x1x8192x4x128_S1x1x64x128x4x128

set_option maxRecDepth 8192 in
/-- `main_v15`'s composed term of the arguments (named: it is used 2 times). -/
def res_main_v15 (V0 : Valuation τ sig (Elt F)) : (Proc.devRef .tc main_v15 : DevRef τ sig).ty.Contents (Elt F) :=
  concatenate S1x1x64x256x4x128 3 [⟨S1x1x64x128x4x128, (concatenate S1x1x64x128x4x128 2 [⟨S1x1x1x128x4x128, (broadcastInDim S1x1x1x128x4x128 ![] bcast_S_S1x1x1x128x4x128 (constant S_ .f32 0x00000000#32))⟩, ⟨S1x1x63x128x4x128, (extractStridedSlice S1x1x63x128x4x128 ![0, 0, 0, 0, 0, 0] (res_main_v9 V0) slices_S1x1x64x128x4x128_S1x1x63x128x4x128_0_0_0_0_0_0)⟩] concatenates_S1x1x1x128x4x128_S1x1x63x128x4x128_S1x1x64x128x4x128_d2)⟩, ⟨S1x1x64x128x4x128, (res_main_v9 V0)⟩] concatenates_S1x1x64x128x4x128_S1x1x64x128x4x128_S1x1x64x256x4x128_d3

set_option maxRecDepth 8192 in
/-- `main_v18`'s composed term of the arguments (named: it is used 3 times). -/
def res_main_v18 (V0 : Valuation τ sig (Elt F)) : (Proc.devRef .tc main_v18 : DevRef τ sig).ty.Contents (Elt F) :=
  shapeCast _ (transpose S1x1x8192x4x128 [0, 2, 1, 3, 4] (shapeCast _ (shapeCast _ (extractStridedSlice S8192x512 ![0, 0] (V0 (Proc.devRef .tc main_arg2)) slices_S8192x1536_S8192x512_0_0) shapeCasts_S8192x512_S1x8192x4x128) shapeCasts_S1x8192x4x128_S1x8192x1x4x128) transposes_S1x8192x1x4x128_S1x1x8192x4x128_0_2_1_3_4) shapeCasts_S1x1x8192x4x128_S1x1x64x128x4x128

set_option maxRecDepth 8192 in
/-- `main_v24`'s composed term of the arguments (named: it is used 2 times). -/
def res_main_v24 (V0 : Valuation τ sig (Elt F)) : (Proc.devRef .tc main_v24 : DevRef τ sig).ty.Contents (Elt F) :=
  concatenate S1x1x64x256x4x128 3 [⟨S1x1x64x128x4x128, (concatenate S1x1x64x128x4x128 2 [⟨S1x1x1x128x4x128, (broadcastInDim S1x1x1x128x4x128 ![] bcast_S_S1x1x1x128x4x128 (constant S_ .f32 0x00000000#32))⟩, ⟨S1x1x63x128x4x128, (extractStridedSlice S1x1x63x128x4x128 ![0, 0, 0, 0, 0, 0] (res_main_v18 V0) slices_S1x1x64x128x4x128_S1x1x63x128x4x128_0_0_0_0_0_0)⟩] concatenates_S1x1x1x128x4x128_S1x1x63x128x4x128_S1x1x64x128x4x128_d2)⟩, ⟨S1x1x64x128x4x128, (res_main_v18 V0)⟩] concatenates_S1x1x64x128x4x128_S1x1x64x128x4x128_S1x1x64x256x4x128_d3

set_option maxRecDepth 8192 in
/-- `main_v28`'s composed term of the arguments (named: it is used 2 times). -/
def res_main_v28 (V0 : Valuation τ sig (Elt F)) : (Proc.devRef .tc main_v28 : DevRef τ sig).ty.Contents (Elt F) :=
  broadcastInDim S1x256 ![1] bcast_S256_S1x256_1 (iotaInDim S256 32 0)

set_option maxRecDepth 8192 in
/-- `main_v33`'s composed term of the arguments (named: it is used 2 times). -/
def res_main_v33 (V0 : Valuation τ sig (Elt F)) : (Proc.devRef .tc main_v33 : DevRef τ sig).ty.Contents (Elt F) :=
  subi (broadcastInDim S128x256 ![0, 1] bcast_S128x1_S128x256_0_1 (addi (broadcastInDim S128x1 ![] bcast_S_S128x1 (constantI S_ 32 128#32)) (broadcastInDim S128x1 ![0] bcast_S128_S128x1_0 (iotaInDim S128 32 0)))) (broadcastInDim S128x256 ![0, 1] bcast_S1x256_S128x256_0_1 (res_main_v28 V0))

set_option maxRecDepth 8192 in
/-- `main_v57_1`'s composed term of the arguments (named: it is used 2 times). -/
def res_main_v57_1 (V0 : Valuation τ sig (Elt F)) : (Proc.devRef .tc main_v57_1 : DevRef τ sig).ty.Contents (Elt F) :=
  broadcastInDim S1x1x64x4x128x256 ![0, 1, 2, 3, 4, 5] bcast_S1x1x64x1x128x256_S1x1x64x4x128x256_0_1_2_3_4_5 (broadcastInDim S1x1x64x1x128x256 ![2, 4, 5] bcast_S64x128x256_S1x1x64x1x128x256_2_4_5 (andi (broadcastInDim S64x128x256 ![0, 1, 2] bcast_S1x128x256_S64x128x256_0_1_2 (broadcastInDim S1x128x256 ![1, 2] bcast_S128x256_S1x128x256_1_2 (andi (cmpi .sge (res_main_v33 V0) (broadcastInDim S128x256 ![] bcast_S_S128x256 (constantI S_ 32 0#32))) (cmpi .sle (res_main_v33 V0) (broadcastInDim S128x256 ![] bcast_S_S128x256 (constantI S_ 32 128#32)))))) (broadcastInDim S64x128x256 ![0, 1, 2] bcast_S64x1x256_S64x128x256_0_1_2 (ori (broadcastInDim S64x1x256 ![0, 1, 2] bcast_S64x1x1_S64x1x256_0_1_2 (cmpi .sgt (broadcastInDim S64x1x1 ![0] bcast_S64_S64x1x1_0 (iotaInDim S64 32 0)) (broadcastInDim S64x1x1 ![] bcast_S_S64x1x1 (constantI S_ 32 0#32)))) (broadcastInDim S64x1x256 ![0, 1, 2] bcast_S1x1x256_S64x1x256_0_1_2 (broadcastInDim S1x1x256 ![1, 2] bcast_S1x256_S1x1x256_1_2 (cmpi .sge (res_main_v28 V0) (broadcastInDim S1x256 ![] bcast_S_S1x256 (constantI S_ 32 128#32)))))))))

set_option maxRecDepth 8192 in
/-- `main_v57_0`'s composed term of the arguments (named: it is used 3 times). -/
def res_main_v57_0 (V0 : Valuation τ sig (Elt F)) : (Proc.devRef .tc main_v57_0 : DevRef τ sig).ty.Contents (Elt F) :=
  select (res_main_v57_1 V0) (mulf (Host.dotGeneral dot_S1x1x64x128x4x128_S1x1x64x256x4x128_S1x1x64x4x128x256_5_5_3_3_0124_0124 none (res_main_v6 V0) (res_main_v15 V0)) (broadcastInDim S1x1x64x4x128x256 ![] bcast_S_S1x1x64x4x128x256 (constant S_ .f32 0x3DB504F3#32))) (broadcastInDim S1x1x64x4x128x256 ![] bcast_S_S1x1x64x4x128x256 (id (constant S_ .f32 0xFF800000#32)))

set_option maxRecDepth 8192 in
/-- `main_v58`'s composed term of the arguments (named: it is used 2 times). -/
def res_main_v58 (V0 : Valuation τ sig (Elt F)) : (Proc.devRef .tc main_v58 : DevRef τ sig).ty.Contents (Elt F) :=
  Host.reduce FloatOps.maximumf (res_main_v57_0 V0) (constant S_ .f32 0xFF800000#32) reducesTo_S1x1x64x4x128x256_S1x1x64x4x128_d5 h_S_

set_option maxRecDepth 8192 in
/-- `main_v62`'s composed term of the arguments (named: it is used 2 times). -/
def res_main_v62 (V0 : Valuation τ sig (Elt F)) : (Proc.devRef .tc main_v62 : DevRef τ sig).ty.Contents (Elt F) :=
  uitofp .f32 (cmpf .oeq (res_main_v57_0 V0) (broadcastInDim S1x1x64x4x128x256 ![0, 1, 2, 3, 4, 5] bcast_S1x1x64x4x128x1_S1x1x64x4x128x256_0_1_2_3_4_5 (shapeCast _ (res_main_v58 V0) shapeCasts_S1x1x64x4x128_S1x1x64x4x128x1)))

set_option maxRecDepth 8192 in
/-- `main_v64`'s composed term of the arguments (named: it is used 2 times). -/
def res_main_v64 (V0 : Valuation τ sig (Elt F)) : (Proc.devRef .tc main_v64 : DevRef τ sig).ty.Contents (Elt F) :=
  broadcastInDim S1x1x64x4x128x1 ![0, 1, 2, 3, 4] bcast_S1x1x64x4x128_S1x1x64x4x128x1_0_1_2_3_4 (res_main_v58 V0)

set_option maxRecDepth 8192 in
/-- `main_v67`'s composed term of the arguments (named: it is used 4 times). -/
def res_main_v67 (V0 : Valuation τ sig (Elt F)) : (Proc.devRef .tc main_v67 : DevRef τ sig).ty.Contents (Elt F) :=
  Host.exp (subf (res_main_v57_0 V0) (broadcastInDim S1x1x64x4x128x256 ![0, 1, 2, 3, 4, 5] bcast_S1x1x64x4x128x1_S1x1x64x4x128x256_0_1_2_3_4_5 (res_main_v64 V0)))

set_option maxRecDepth 8192 in
/-- `main_v69`'s composed term of the arguments (named: it is used 6 times). -/
def res_main_v69 (V0 : Valuation τ sig (Elt F)) : (Proc.devRef .tc main_v69 : DevRef τ sig).ty.Contents (Elt F) :=
  broadcastInDim S1x1x64x4x128x1 ![0, 1, 2, 3, 4] bcast_S1x1x64x4x128_S1x1x64x4x128x1_0_1_2_3_4 (Host.reduceAdd (res_main_v67 V0) (constant S_ .f32 0x00000000#32) reducesTo_S1x1x64x4x128x256_S1x1x64x4x128_d5 h_S_)

set_option maxRecDepth 8192 in
/-- `main_v71`'s composed term of the arguments (named: it is used 2 times). -/
def res_main_v71 (V0 : Valuation τ sig (Elt F)) : (Proc.devRef .tc main_v71 : DevRef τ sig).ty.Contents (Elt F) :=
  Host.divf (res_main_v67 V0) (broadcastInDim S1x1x64x4x128x256 ![0, 1, 2, 3, 4, 5] bcast_S1x1x64x4x128x1_S1x1x64x4x128x256_0_1_2_3_4_5 (res_main_v69 V0))

set_option maxRecDepth 8192 in
/-- `main_v104`'s composed term of the arguments (named: it is used 2 times). -/
def res_main_v104 (V0 : Valuation τ sig (Elt F)) : (Proc.devRef .tc main_v104 : DevRef τ sig).ty.Contents (Elt F) :=
  broadcastInDim S1x1x64x4x128x1 ![0, 1, 2, 3, 4] bcast_S1x1x64x4x128_S1x1x64x4x128x1_0_1_2_3_4 (transpose S1x1x64x4x128 [0, 1, 2, 4, 3] (shapeCast _ (transpose S1x1x8192x4 [0, 2, 1, 3] (shapeCast _ (broadcastInDim S1x8192x4 ![1, 2] bcast_S8192x4_S1x8192x4_1_2 (Host.reduceAdd (broadcastInDim S1x8192x4x1 ![1, 2] bcast_S8192x4_S1x8192x4x1_1_2 (Host.reduceAdd (shapeCast _ (V0 (Proc.devRef .tc main_arg4)) shapeCasts_S8192x512_S1x8192x4x128) (constant S_ .f32 0x00000000#32) reducesTo_S1x8192x4x128_S8192x4_d0_3 h_S_)) (constant S_ .f32 0x00000000#32) reducesTo_S1x8192x4x1_S8192x4_d0_3 h_S_)) shapeCasts_S1x8192x4_S1x8192x1x4) transposes_S1x8192x1x4_S1x1x8192x4_0_2_1_3) shapeCasts_S1x1x8192x4_S1x1x64x128x4) transposes_S1x1x64x128x4_S1x1x64x4x128_0_1_2_4_3)

set_option maxRecDepth 8192 in
/-- `main_v106`'s composed term of the arguments (named: it is used 2 times). -/
def res_main_v106 (V0 : Valuation τ sig (Elt F)) : (Proc.devRef .tc main_v106 : DevRef τ sig).ty.Contents (Elt F) :=
  transpose S1x1x64x4x128x128 [0, 1, 2, 4, 5, 3] (shapeCast _ (transpose S1x1x8192x4x128 [0, 2, 1, 3, 4] (shapeCast _ (shapeCast _ (V0 (Proc.devRef .tc main_arg3)) shapeCasts_S8192x512_S1x8192x4x128) shapeCasts_S1x8192x4x128_S1x8192x1x4x128) transposes_S1x8192x1x4x128_S1x1x8192x4x128_0_2_1_3_4) shapeCasts_S1x1x8192x4x128_S1x1x64x128x4x128) transposes_S1x1x64x128x4x128_S1x1x64x4x128x128_0_1_2_4_5_3

set_option maxRecDepth 8192 in
/-- `main_v107`'s composed term of the arguments (named: it is used 2 times). -/
def res_main_v107 (V0 : Valuation τ sig (Elt F)) : (Proc.devRef .tc main_v107 : DevRef τ sig).ty.Contents (Elt F) :=
  Host.dotGeneral dot_S1x1x64x4x128x128_S1x1x64x256x4x128_S1x1x64x4x128x256_4_5_5_3_0123_0124 none (res_main_v106 V0) (res_main_v24 V0)

set_option maxRecDepth 8192 in
/-- `main_v109`'s composed term of the arguments (named: it is used 2 times). -/
def res_main_v109 (V0 : Valuation τ sig (Elt F)) : (Proc.devRef .tc main_v109 : DevRef τ sig).ty.Contents (Elt F) :=
  transpose S1x1x64x256x4x128 [0, 1, 2, 5, 3, 4] (Host.dotGeneral dot_S1x1x64x4x128x128_S1x1x64x4x128x256_S1x1x64x4x128x256_5_4_4_5_0123_0123 none (res_main_v106 V0) (res_main_v71 V0)) transposes_S1x1x64x4x128x256_S1x1x64x256x4x128_0_1_2_5_3_4

set_option maxRecDepth 8192 in
/-- `main_v123`'s composed term of the arguments (named: it is used 2 times). -/
def res_main_v123 (V0 : Valuation τ sig (Elt F)) : (Proc.devRef .tc main_v123 : DevRef τ sig).ty.Contents (Elt F) :=
  mulf (addf (Host.divf (res_main_v107 V0) (broadcastInDim S1x1x64x4x128x256 ![0, 1, 2, 3, 4, 5] bcast_S1x1x64x4x128x1_S1x1x64x4x128x256_0_1_2_3_4_5 (res_main_v69 V0))) (broadcastInDim S1x1x64x4x128x256 ![0, 1, 2, 3, 4] bcast_S1x1x64x4x128_S1x1x64x4x128x256_0_1_2_3_4 (broadcastInDim S1x1x64x4x128 ![2, 3, 4] bcast_S64x4x128_S1x1x64x4x128_2_3_4 (Host.reduceAdd (addf (Host.divf (res_main_v104 V0) (res_main_v69 V0)) (Host.negf (shapeCast _ (Host.reduceAdd (mulf (mulf (res_main_v107 V0) (broadcastInDim S1x1x64x4x128x256 ![0, 1, 2, 3, 4, 5] bcast_S1x1x64x4x128x1_S1x1x64x4x128x256_0_1_2_3_4_5 (Host.divf (broadcastInDim S1x1x64x4x128x1 ![] bcast_S_S1x1x64x4x128x1 (constant S_ .f32 0x3F800000#32)) (mulf (res_main_v69 V0) (res_main_v69 V0))))) (res_main_v67 V0)) (constant S_ .f32 0x00000000#32) reducesTo_S1x1x64x4x128x256_S1x1x64x4x128_d5 h_S_) shapeCasts_S1x1x64x4x128_S1x1x64x4x128x1))) (constant S_ .f32 0x00000000#32) reducesTo_S1x1x64x4x128x1_S64x4x128_d0_1_5 h_S_)))) (res_main_v67 V0)

set_option maxRecDepth 8192 in
/-- `main_v136`'s composed term of the arguments (named: it is used 2 times). -/
def res_main_v136 (V0 : Valuation τ sig (Elt F)) : (Proc.devRef .tc main_v136 : DevRef τ sig).ty.Contents (Elt F) :=
  mulf (select (res_main_v57_1 V0) (addf (res_main_v123 V0) (mulf (broadcastInDim S1x1x64x4x128x256 ![0, 1, 2, 3, 4] bcast_S1x1x64x4x128_S1x1x64x4x128x256_0_1_2_3_4 (Host.divf (broadcastInDim S1x1x64x4x128 ![2, 3, 4] bcast_S64x4x128_S1x1x64x4x128_2_3_4 (Host.reduceAdd (addf (res_main_v104 V0) (shapeCast _ (Host.reduceAdd (Host.negf (res_main_v123 V0)) (constant S_ .f32 0x00000000#32) reducesTo_S1x1x64x4x128x256_S1x1x64x4x128_d5 h_S_) shapeCasts_S1x1x64x4x128_S1x1x64x4x128x1)) (constant S_ .f32 0x00000000#32) reducesTo_S1x1x64x4x128x1_S64x4x128_d0_1_5 h_S_)) (Host.reduceAdd (res_main_v62 V0) (constant S_ .f32 0x00000000#32) reducesTo_S1x1x64x4x128x256_S1x1x64x4x128_d5 h_S_))) (res_main_v62 V0))) (broadcastInDim S1x1x64x4x128x256 ![] bcast_S_S1x1x64x4x128x256 (constant S_ .f32 0x00000000#32))) (broadcastInDim S1x1x64x4x128x256 ![] bcast_S_S1x1x64x4x128x256 (constant S_ .f32 0x3DB504F3#32))

set_option maxRecDepth 8192 in
/-- `main_v138`'s composed term of the arguments (named: it is used 2 times). -/
def res_main_v138 (V0 : Valuation τ sig (Elt F)) : (Proc.devRef .tc main_v138 : DevRef τ sig).ty.Contents (Elt F) :=
  transpose S1x1x64x256x4x128 [0, 1, 2, 4, 3, 5] (Host.dotGeneral dot_S1x1x64x4x128x256_S1x1x64x128x4x128_S1x1x64x4x256x128_4_3_5_5_0123_0124 none (res_main_v136 V0) (res_main_v6 V0)) transposes_S1x1x64x4x256x128_S1x1x64x256x4x128_0_1_2_4_3_5

set_option maxRecDepth 8192 in
/-- `main_v141`'s composed term of the arguments (named: it is used 2 times). -/
def res_main_v141 (V0 : Valuation τ sig (Elt F)) : (Proc.devRef .tc main_v141 : DevRef τ sig).ty.Contents (Elt F) :=
  extractStridedSlice S1x1x64x128x4x128 ![0, 0, 0, 0, 0, 0] (res_main_v109 V0) slices_S1x1x64x256x4x128_S1x1x64x128x4x128_0_0_0_0_0_0

set_option maxRecDepth 8192 in
/-- `main_v150`'s composed term of the arguments (named: it is used 2 times). -/
def res_main_v150 (V0 : Valuation τ sig (Elt F)) : (Proc.devRef .tc main_v150 : DevRef τ sig).ty.Contents (Elt F) :=
  extractStridedSlice S1x1x64x128x4x128 ![0, 0, 0, 0, 0, 0] (res_main_v138 V0) slices_S1x1x64x256x4x128_S1x1x64x128x4x128_0_0_0_0_0_0

end Cert.ReferenceIdeal.Value

end
-- ==== Proof.RRun.lean ====
/- The reference program's run, read back: it ends, each result holding the named array that its operations compute
   of the arguments, the arguments unchanged. -/
module

public import proofs.«01_k».proof.Proof.ROps
public import proofs.«01_k».proof.Proof.RTerms
public import Idealize.ShloMosaic.Lib.StableHlo.Run
public import Idealize.ShloMosaic.Lib.Pipeline.Frame

@[expose] public section

set_option Elab.async false
set_option maxHeartbeats 4000000

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]
/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl

/-- The device's buffer contents after @main's first 1 window. -/
def val1 (V0 : Valuation τ sig (Elt F)) : Valuation τ sig (Elt F) := after ops_part0 (val0 V0)
/-- The buffers that window `main_part0`'s operations write. -/
abbrev ops_part0_W : List (Ref sig .tc) := [main_v0, main_v1, main_v2, main_v3, main_v4, main_v5, main_v6, main_v7, main_v8, main_v9, main_v10, main_cst, main_v11, main_v12, main_v13, main_cst_0, main_v14, main_v15, main_v16, main_v17, main_v18, main_v19, main_cst_1, main_v20, main_v21, main_v22, main_cst_2, main_v23, main_v24, main_v25, main_v26, main_v27, main_v28, main_c, main_v29, main_v30, main_v31, main_v32, main_v33, main_c_3, main_v34, main_v35, main_c_4, main_v36, main_v37, main_v38, main_v39, main_v40, main_c_5, main_v41, main_v42, main_c_6, main_v43, main_v44, main_v45, main_v46, main_v47, main_v48, main_v49, main_v50]
set_option maxRecDepth 8192 in
theorem ops_part0_writes : (ops_part0 : List (HloOp τ sig (Elt F))).Forall fun op => op.writes ⊆ (ops_part0_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)
/-- A buffer that window `main_part0` does not write keeps its contents through it. -/
theorem val1_keep (V0 : Valuation τ sig (Elt F)) (r : Ref sig .tc) (h : r ∉ ops_part0_W) :
    val1 V0 (Proc.devRef .tc r) = val0 V0 (Proc.devRef .tc r) :=
  after_of_writes_sub ops_part0 _ ops_part0_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
theorem val1_main_arg4 (V0 : Valuation τ sig (Elt F)) : val1 V0 (no_index (Proc.devRef .tc main_arg4)) = V0 (Proc.devRef .tc main_arg4) :=
  (val1_keep V0 main_arg4 (by decide)).trans (val0_main_arg4 V0)
set_option maxRecDepth 8192 in
set_option maxHeartbeats 2000000 in
theorem val1_main_v6 (V0 : Valuation τ sig (Elt F)) : val1 V0 (no_index (Proc.devRef .tc main_v6)) = res_main_v6 V0 := by
  unfold val1
  simp only [ops_part0]
  after_results_simp
  simp only [val0_main_arg0] <;> rfl
set_option maxRecDepth 8192 in
set_option maxHeartbeats 2000000 in
theorem val1_main_v15 (V0 : Valuation τ sig (Elt F)) : val1 V0 (no_index (Proc.devRef .tc main_v15)) = res_main_v15 V0 := by
  unfold val1
  simp only [ops_part0]
  after_results_simp
  simp only [val0_main_arg1] <;> rfl
set_option maxRecDepth 8192 in
set_option maxHeartbeats 2000000 in
theorem val1_main_v24 (V0 : Valuation τ sig (Elt F)) : val1 V0 (no_index (Proc.devRef .tc main_v24)) = res_main_v24 V0 := by
  unfold val1
  simp only [ops_part0]
  after_results_simp
  simp only [val0_main_arg2] <;> rfl
set_option maxRecDepth 8192 in
set_option maxHeartbeats 2000000 in
theorem val1_main_v48 (V0 : Valuation τ sig (Elt F)) : val1 V0 (no_index (Proc.devRef .tc main_v48)) = ori (broadcastInDim S64x1x256 ![0, 1, 2] bcast_S64x1x1_S64x1x256_0_1_2 (cmpi .sgt (broadcastInDim S64x1x1 ![0] bcast_S64_S64x1x1_0 (iotaInDim S64 32 0)) (broadcastInDim S64x1x1 ![] bcast_S_S64x1x1 (constantI S_ 32 0#32)))) (broadcastInDim S64x1x256 ![0, 1, 2] bcast_S1x1x256_S64x1x256_0_1_2 (broadcastInDim S1x1x256 ![1, 2] bcast_S1x256_S1x1x256_1_2 (cmpi .sge (res_main_v28 V0) (broadcastInDim S1x256 ![] bcast_S_S1x256 (constantI S_ 32 128#32))))) := by
  unfold val1
  simp only [ops_part0]
  after_results_simp
  all_goals rfl
set_option maxRecDepth 8192 in
set_option maxHeartbeats 2000000 in
theorem val1_main_v50 (V0 : Valuation τ sig (Elt F)) : val1 V0 (no_index (Proc.devRef .tc main_v50)) = broadcastInDim S64x128x256 ![0, 1, 2] bcast_S1x128x256_S64x128x256_0_1_2 (broadcastInDim S1x128x256 ![1, 2] bcast_S128x256_S1x128x256_1_2 (andi (cmpi .sge (res_main_v33 V0) (broadcastInDim S128x256 ![] bcast_S_S128x256 (constantI S_ 32 0#32))) (cmpi .sle (res_main_v33 V0) (broadcastInDim S128x256 ![] bcast_S_S128x256 (constantI S_ 32 128#32))))) := by
  unfold val1
  simp only [ops_part0]
  after_results_simp
  all_goals rfl

/-- The device's buffer contents after @main's first 90 operations. -/
def val1_1 (V0 : Valuation τ sig (Elt F)) : Valuation τ sig (Elt F) := after ops_part1_0 (val1 V0)
/-- The buffers that window `ops_part1_0`'s operations write. -/
abbrev ops_part1_0_W : List (Ref sig .tc) := [main_v51, main_v52, main_v53, main_cst_7, main_v54, main_v55, main_v56, main_cst_8, main_call0_v0, main_v57_1, main_call0_v2, main_v57_0, main_call0_cst, main_v57_2, main_cst_9, main_v58, main_v59, main_v60, main_v61, main_v62, main_cst_10, main_v63, main_v64, main_v65, main_v66, main_v67, main_cst_11, main_v68, main_v69, main_v70]
set_option maxRecDepth 8192 in
theorem ops_part1_0_writes : (ops_part1_0 : List (HloOp τ sig (Elt F))).Forall fun op => op.writes ⊆ (ops_part1_0_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)
/-- A buffer that window `ops_part1_0` does not write keeps its contents through it. -/
theorem val1_1_keep (V0 : Valuation τ sig (Elt F)) (r : Ref sig .tc) (h : r ∉ ops_part1_0_W) :
    val1_1 V0 (Proc.devRef .tc r) = val1 V0 (Proc.devRef .tc r) :=
  after_of_writes_sub ops_part1_0 _ ops_part1_0_writes h
theorem val1_1_main_arg0 (V0 : Valuation τ sig (Elt F)) : val1_1 V0 (no_index (Proc.devRef .tc main_arg0)) = V0 (Proc.devRef .tc main_arg0) :=
  (val1_1_keep V0 main_arg0 (by decide)).trans (val1_main_arg0 V0)
theorem val1_1_main_arg1 (V0 : Valuation τ sig (Elt F)) : val1_1 V0 (no_index (Proc.devRef .tc main_arg1)) = V0 (Proc.devRef .tc main_arg1) :=
  (val1_1_keep V0 main_arg1 (by decide)).trans (val1_main_arg1 V0)
theorem val1_1_main_arg2 (V0 : Valuation τ sig (Elt F)) : val1_1 V0 (no_index (Proc.devRef .tc main_arg2)) = V0 (Proc.devRef .tc main_arg2) :=
  (val1_1_keep V0 main_arg2 (by decide)).trans (val1_main_arg2 V0)
theorem val1_1_main_arg3 (V0 : Valuation τ sig (Elt F)) : val1_1 V0 (no_index (Proc.devRef .tc main_arg3)) = V0 (Proc.devRef .tc main_arg3) :=
  (val1_1_keep V0 main_arg3 (by decide)).trans (val1_main_arg3 V0)
theorem val1_1_main_arg4 (V0 : Valuation τ sig (Elt F)) : val1_1 V0 (no_index (Proc.devRef .tc main_arg4)) = V0 (Proc.devRef .tc main_arg4) :=
  (val1_1_keep V0 main_arg4 (by decide)).trans (val1_main_arg4 V0)
theorem val1_1_main_v6 (V0 : Valuation τ sig (Elt F)) : val1_1 V0 (no_index (Proc.devRef .tc main_v6)) = res_main_v6 V0 :=
  (val1_1_keep V0 main_v6 (by decide)).trans (val1_main_v6 V0)
theorem val1_1_main_v15 (V0 : Valuation τ sig (Elt F)) : val1_1 V0 (no_index (Proc.devRef .tc main_v15)) = res_main_v15 V0 :=
  (val1_1_keep V0 main_v15 (by decide)).trans (val1_main_v15 V0)
theorem val1_1_main_v24 (V0 : Valuation τ sig (Elt F)) : val1_1 V0 (no_index (Proc.devRef .tc main_v24)) = res_main_v24 V0 :=
  (val1_1_keep V0 main_v24 (by decide)).trans (val1_main_v24 V0)
set_option maxRecDepth 8192 in
set_option maxHeartbeats 2000000 in
theorem val1_1_main_v57_1 (V0 : Valuation τ sig (Elt F)) : val1_1 V0 (no_index (Proc.devRef .tc main_v57_1)) = res_main_v57_1 V0 := by
  unfold val1_1
  simp only [ops_part1_0, TRef.nullary, TRef.ternary, TRef.unary, TRef.toBuf, TRef.ofBuf, cast_eq]
  after_results_simp
  simp only [val1_main_v48, val1_main_v50] <;> rfl
set_option maxRecDepth 8192 in
set_option maxHeartbeats 2000000 in
theorem val1_1_main_v62 (V0 : Valuation τ sig (Elt F)) : val1_1 V0 (no_index (Proc.devRef .tc main_v62)) = res_main_v62 V0 := by
  unfold val1_1
  simp only [ops_part1_0, TRef.nullary, TRef.ternary, TRef.unary, TRef.toBuf, TRef.ofBuf, cast_eq]
  after_results_simp
  simp only [val1_main_v15, val1_main_v6, val1_main_v48, val1_main_v50] <;> rfl
set_option maxRecDepth 8192 in
set_option maxHeartbeats 2000000 in
theorem val1_1_main_v63 (V0 : Valuation τ sig (Elt F)) : val1_1 V0 (no_index (Proc.devRef .tc main_v63)) = Host.reduceAdd (res_main_v62 V0) (constant S_ .f32 0x00000000#32) reducesTo_S1x1x64x4x128x256_S1x1x64x4x128_d5 h_S_ := by
  unfold val1_1
  simp only [ops_part1_0, TRef.nullary, TRef.ternary, TRef.unary, TRef.toBuf, TRef.ofBuf, cast_eq]
  after_results_simp
  simp only [val1_main_v15, val1_main_v6, val1_main_v48, val1_main_v50] <;> rfl
set_option maxRecDepth 8192 in
set_option maxHeartbeats 2000000 in
theorem val1_1_main_v64 (V0 : Valuation τ sig (Elt F)) : val1_1 V0 (no_index (Proc.devRef .tc main_v64)) = res_main_v64 V0 := by
  unfold val1_1
  simp only [ops_part1_0, TRef.nullary, TRef.ternary, TRef.unary, TRef.toBuf, TRef.ofBuf, cast_eq]
  after_results_simp
  simp only [val1_main_v15, val1_main_v6, val1_main_v48, val1_main_v50] <;> rfl
set_option maxRecDepth 8192 in
set_option maxHeartbeats 2000000 in
theorem val1_1_main_v67 (V0 : Valuation τ sig (Elt F)) : val1_1 V0 (no_index (Proc.devRef .tc main_v67)) = res_main_v67 V0 := by
  unfold val1_1
  simp only [ops_part1_0, TRef.nullary, TRef.ternary, TRef.unary, TRef.toBuf, TRef.ofBuf, cast_eq]
  after_results_simp
  simp only [val1_main_v15, val1_main_v6, val1_main_v48, val1_main_v50] <;> rfl
set_option maxRecDepth 8192 in
set_option maxHeartbeats 2000000 in
theorem val1_1_main_v69 (V0 : Valuation τ sig (Elt F)) : val1_1 V0 (no_index (Proc.devRef .tc main_v69)) = res_main_v69 V0 := by
  unfold val1_1
  simp only [ops_part1_0, TRef.nullary, TRef.ternary, TRef.unary, TRef.toBuf, TRef.ofBuf, cast_eq]
  after_results_simp
  simp only [val1_main_v15, val1_main_v6, val1_main_v48, val1_main_v50] <;> rfl
set_option maxRecDepth 8192 in
set_option maxHeartbeats 2000000 in
theorem val1_1_main_v70 (V0 : Valuation τ sig (Elt F)) : val1_1 V0 (no_index (Proc.devRef .tc main_v70)) = broadcastInDim S1x1x64x4x128x256 ![0, 1, 2, 3, 4, 5] bcast_S1x1x64x4x128x1_S1x1x64x4x128x256_0_1_2_3_4_5 (res_main_v69 V0) := by
  unfold val1_1
  simp only [ops_part1_0, TRef.nullary, TRef.ternary, TRef.unary, TRef.toBuf, TRef.ofBuf, cast_eq]
  after_results_simp
  simp only [val1_main_v15, val1_main_v6, val1_main_v48, val1_main_v50] <;> rfl

/-- The device's buffer contents after @main's first 120 operations. -/
def val1_2 (V0 : Valuation τ sig (Elt F)) : Valuation τ sig (Elt F) := after ops_part1_1 (val1_1 V0)
/-- The buffers that window `ops_part1_1`'s operations write. -/
abbrev ops_part1_1_W : List (Ref sig .tc) := [main_v71, main_v72, main_cst_12, main_v73, main_v74, main_v75, main_v76, main_v77, main_v78, main_v79, main_v80, main_v81, main_v82, main_v83, main_v84, main_v85, main_v86, main_v87, main_v88, main_v89, main_v90, main_v91, main_cst_13, main_v92, main_v93, main_cst_14, main_v94, main_v95, main_v96, main_v97]
set_option maxRecDepth 8192 in
theorem ops_part1_1_writes : (ops_part1_1 : List (HloOp τ sig (Elt F))).Forall fun op => op.writes ⊆ (ops_part1_1_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)
/-- A buffer that window `ops_part1_1` does not write keeps its contents through it. -/
theorem val1_2_keep (V0 : Valuation τ sig (Elt F)) (r : Ref sig .tc) (h : r ∉ ops_part1_1_W) :
    val1_2 V0 (Proc.devRef .tc r) = val1_1 V0 (Proc.devRef .tc r) :=
  after_of_writes_sub ops_part1_1 _ ops_part1_1_writes h
theorem val1_2_main_arg0 (V0 : Valuation τ sig (Elt F)) : val1_2 V0 (no_index (Proc.devRef .tc main_arg0)) = V0 (Proc.devRef .tc main_arg0) :=
  (val1_2_keep V0 main_arg0 (by decide)).trans (val1_1_main_arg0 V0)
theorem val1_2_main_arg1 (V0 : Valuation τ sig (Elt F)) : val1_2 V0 (no_index (Proc.devRef .tc main_arg1)) = V0 (Proc.devRef .tc main_arg1) :=
  (val1_2_keep V0 main_arg1 (by decide)).trans (val1_1_main_arg1 V0)
theorem val1_2_main_arg2 (V0 : Valuation τ sig (Elt F)) : val1_2 V0 (no_index (Proc.devRef .tc main_arg2)) = V0 (Proc.devRef .tc main_arg2) :=
  (val1_2_keep V0 main_arg2 (by decide)).trans (val1_1_main_arg2 V0)
theorem val1_2_main_arg3 (V0 : Valuation τ sig (Elt F)) : val1_2 V0 (no_index (Proc.devRef .tc main_arg3)) = V0 (Proc.devRef .tc main_arg3) :=
  (val1_2_keep V0 main_arg3 (by decide)).trans (val1_1_main_arg3 V0)
theorem val1_2_main_arg4 (V0 : Valuation τ sig (Elt F)) : val1_2 V0 (no_index (Proc.devRef .tc main_arg4)) = V0 (Proc.devRef .tc main_arg4) :=
  (val1_2_keep V0 main_arg4 (by decide)).trans (val1_1_main_arg4 V0)
theorem val1_2_main_v6 (V0 : Valuation τ sig (Elt F)) : val1_2 V0 (no_index (Proc.devRef .tc main_v6)) = res_main_v6 V0 :=
  (val1_2_keep V0 main_v6 (by decide)).trans (val1_1_main_v6 V0)
theorem val1_2_main_v15 (V0 : Valuation τ sig (Elt F)) : val1_2 V0 (no_index (Proc.devRef .tc main_v15)) = res_main_v15 V0 :=
  (val1_2_keep V0 main_v15 (by decide)).trans (val1_1_main_v15 V0)
theorem val1_2_main_v24 (V0 : Valuation τ sig (Elt F)) : val1_2 V0 (no_index (Proc.devRef .tc main_v24)) = res_main_v24 V0 :=
  (val1_2_keep V0 main_v24 (by decide)).trans (val1_1_main_v24 V0)
theorem val1_2_main_v57_1 (V0 : Valuation τ sig (Elt F)) : val1_2 V0 (no_index (Proc.devRef .tc main_v57_1)) = res_main_v57_1 V0 :=
  (val1_2_keep V0 main_v57_1 (by decide)).trans (val1_1_main_v57_1 V0)
theorem val1_2_main_v62 (V0 : Valuation τ sig (Elt F)) : val1_2 V0 (no_index (Proc.devRef .tc main_v62)) = res_main_v62 V0 :=
  (val1_2_keep V0 main_v62 (by decide)).trans (val1_1_main_v62 V0)
theorem val1_2_main_v63 (V0 : Valuation τ sig (Elt F)) : val1_2 V0 (no_index (Proc.devRef .tc main_v63)) = Host.reduceAdd (res_main_v62 V0) (constant S_ .f32 0x00000000#32) reducesTo_S1x1x64x4x128x256_S1x1x64x4x128_d5 h_S_ :=
  (val1_2_keep V0 main_v63 (by decide)).trans (val1_1_main_v63 V0)
theorem val1_2_main_v67 (V0 : Valuation τ sig (Elt F)) : val1_2 V0 (no_index (Proc.devRef .tc main_v67)) = res_main_v67 V0 :=
  (val1_2_keep V0 main_v67 (by decide)).trans (val1_1_main_v67 V0)
theorem val1_2_main_v69 (V0 : Valuation τ sig (Elt F)) : val1_2 V0 (no_index (Proc.devRef .tc main_v69)) = res_main_v69 V0 :=
  (val1_2_keep V0 main_v69 (by decide)).trans (val1_1_main_v69 V0)
set_option maxRecDepth 8192 in
set_option maxHeartbeats 2000000 in
theorem val1_2_main_v71 (V0 : Valuation τ sig (Elt F)) : val1_2 V0 (no_index (Proc.devRef .tc main_v71)) = res_main_v71 V0 := by
  unfold val1_2
  simp only [ops_part1_1]
  after_results_simp
  simp only [val1_1_main_v70, val1_1_main_v67] <;> rfl
set_option maxRecDepth 8192 in
set_option maxHeartbeats 2000000 in
theorem val1_2_main_v74 (V0 : Valuation τ sig (Elt F)) : val1_2 V0 (no_index (Proc.devRef .tc main_v74)) = Host.divf (broadcastInDim S1x1x64x4x128x1 ![] bcast_S_S1x1x64x4x128x1 (constant S_ .f32 0x3F800000#32)) (mulf (res_main_v69 V0) (res_main_v69 V0)) := by
  unfold val1_2
  simp only [ops_part1_1]
  after_results_simp
  simp only [val1_1_main_v69] <;> rfl
set_option maxRecDepth 8192 in
set_option maxHeartbeats 2000000 in
theorem val1_2_main_v96 (V0 : Valuation τ sig (Elt F)) : val1_2 V0 (no_index (Proc.devRef .tc main_v96)) = shapeCast _ (V0 (Proc.devRef .tc main_arg3)) shapeCasts_S8192x512_S1x8192x4x128 := by
  unfold val1_2
  simp only [ops_part1_1]
  after_results_simp
  simp only [val1_1_main_arg3] <;> rfl
set_option maxRecDepth 8192 in
set_option maxHeartbeats 2000000 in
theorem val1_2_main_v97 (V0 : Valuation τ sig (Elt F)) : val1_2 V0 (no_index (Proc.devRef .tc main_v97)) = shapeCast _ (broadcastInDim S1x8192x4 ![1, 2] bcast_S8192x4_S1x8192x4_1_2 (Host.reduceAdd (broadcastInDim S1x8192x4x1 ![1, 2] bcast_S8192x4_S1x8192x4x1_1_2 (Host.reduceAdd (shapeCast _ (V0 (Proc.devRef .tc main_arg4)) shapeCasts_S8192x512_S1x8192x4x128) (constant S_ .f32 0x00000000#32) reducesTo_S1x8192x4x128_S8192x4_d0_3 h_S_)) (constant S_ .f32 0x00000000#32) reducesTo_S1x8192x4x1_S8192x4_d0_3 h_S_)) shapeCasts_S1x8192x4_S1x8192x1x4 := by
  unfold val1_2
  simp only [ops_part1_1]
  after_results_simp
  simp only [val1_1_main_arg4] <;> rfl

/-- The device's buffer contents after @main's first 2 windows. -/
def val2 (V0 : Valuation τ sig (Elt F)) : Valuation τ sig (Elt F) := after ops_part1_2 (val1_2 V0)
/-- The buffers that window `ops_part1_2`'s operations write. -/
abbrev ops_part1_2_W : List (Ref sig .tc) := [main_v98, main_v99, main_v100, main_v101, main_v102]
set_option maxRecDepth 8192 in
theorem ops_part1_2_writes : (ops_part1_2 : List (HloOp τ sig (Elt F))).Forall fun op => op.writes ⊆ (ops_part1_2_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)
/-- A buffer that window `ops_part1_2` does not write keeps its contents through it. -/
theorem val2_keep (V0 : Valuation τ sig (Elt F)) (r : Ref sig .tc) (h : r ∉ ops_part1_2_W) :
    val2 V0 (Proc.devRef .tc r) = val1_2 V0 (Proc.devRef .tc r) :=
  after_of_writes_sub ops_part1_2 _ ops_part1_2_writes h
theorem val2_main_arg0 (V0 : Valuation τ sig (Elt F)) : val2 V0 (no_index (Proc.devRef .tc main_arg0)) = V0 (Proc.devRef .tc main_arg0) :=
  (val2_keep V0 main_arg0 (by decide)).trans (val1_2_main_arg0 V0)
theorem val2_main_arg1 (V0 : Valuation τ sig (Elt F)) : val2 V0 (no_index (Proc.devRef .tc main_arg1)) = V0 (Proc.devRef .tc main_arg1) :=
  (val2_keep V0 main_arg1 (by decide)).trans (val1_2_main_arg1 V0)
theorem val2_main_arg2 (V0 : Valuation τ sig (Elt F)) : val2 V0 (no_index (Proc.devRef .tc main_arg2)) = V0 (Proc.devRef .tc main_arg2) :=
  (val2_keep V0 main_arg2 (by decide)).trans (val1_2_main_arg2 V0)
theorem val2_main_arg3 (V0 : Valuation τ sig (Elt F)) : val2 V0 (no_index (Proc.devRef .tc main_arg3)) = V0 (Proc.devRef .tc main_arg3) :=
  (val2_keep V0 main_arg3 (by decide)).trans (val1_2_main_arg3 V0)
theorem val2_main_arg4 (V0 : Valuation τ sig (Elt F)) : val2 V0 (no_index (Proc.devRef .tc main_arg4)) = V0 (Proc.devRef .tc main_arg4) :=
  (val2_keep V0 main_arg4 (by decide)).trans (val1_2_main_arg4 V0)
theorem val2_main_v6 (V0 : Valuation τ sig (Elt F)) : val2 V0 (no_index (Proc.devRef .tc main_v6)) = res_main_v6 V0 :=
  (val2_keep V0 main_v6 (by decide)).trans (val1_2_main_v6 V0)
theorem val2_main_v15 (V0 : Valuation τ sig (Elt F)) : val2 V0 (no_index (Proc.devRef .tc main_v15)) = res_main_v15 V0 :=
  (val2_keep V0 main_v15 (by decide)).trans (val1_2_main_v15 V0)
theorem val2_main_v24 (V0 : Valuation τ sig (Elt F)) : val2 V0 (no_index (Proc.devRef .tc main_v24)) = res_main_v24 V0 :=
  (val2_keep V0 main_v24 (by decide)).trans (val1_2_main_v24 V0)
theorem val2_main_v57_1 (V0 : Valuation τ sig (Elt F)) : val2 V0 (no_index (Proc.devRef .tc main_v57_1)) = res_main_v57_1 V0 :=
  (val2_keep V0 main_v57_1 (by decide)).trans (val1_2_main_v57_1 V0)
theorem val2_main_v62 (V0 : Valuation τ sig (Elt F)) : val2 V0 (no_index (Proc.devRef .tc main_v62)) = res_main_v62 V0 :=
  (val2_keep V0 main_v62 (by decide)).trans (val1_2_main_v62 V0)
theorem val2_main_v63 (V0 : Valuation τ sig (Elt F)) : val2 V0 (no_index (Proc.devRef .tc main_v63)) = Host.reduceAdd (res_main_v62 V0) (constant S_ .f32 0x00000000#32) reducesTo_S1x1x64x4x128x256_S1x1x64x4x128_d5 h_S_ :=
  (val2_keep V0 main_v63 (by decide)).trans (val1_2_main_v63 V0)
theorem val2_main_v67 (V0 : Valuation τ sig (Elt F)) : val2 V0 (no_index (Proc.devRef .tc main_v67)) = res_main_v67 V0 :=
  (val2_keep V0 main_v67 (by decide)).trans (val1_2_main_v67 V0)
theorem val2_main_v69 (V0 : Valuation τ sig (Elt F)) : val2 V0 (no_index (Proc.devRef .tc main_v69)) = res_main_v69 V0 :=
  (val2_keep V0 main_v69 (by decide)).trans (val1_2_main_v69 V0)
theorem val2_main_v71 (V0 : Valuation τ sig (Elt F)) : val2 V0 (no_index (Proc.devRef .tc main_v71)) = res_main_v71 V0 :=
  (val2_keep V0 main_v71 (by decide)).trans (val1_2_main_v71 V0)
theorem val2_main_v74 (V0 : Valuation τ sig (Elt F)) : val2 V0 (no_index (Proc.devRef .tc main_v74)) = Host.divf (broadcastInDim S1x1x64x4x128x1 ![] bcast_S_S1x1x64x4x128x1 (constant S_ .f32 0x3F800000#32)) (mulf (res_main_v69 V0) (res_main_v69 V0)) :=
  (val2_keep V0 main_v74 (by decide)).trans (val1_2_main_v74 V0)
set_option maxRecDepth 8192 in
theorem val2_main_v99 (V0 : Valuation τ sig (Elt F)) : val2 V0 (no_index (Proc.devRef .tc main_v99)) = shapeCast _ (transpose S1x1x8192x4 [0, 2, 1, 3] (shapeCast _ (broadcastInDim S1x8192x4 ![1, 2] bcast_S8192x4_S1x8192x4_1_2 (Host.reduceAdd (broadcastInDim S1x8192x4x1 ![1, 2] bcast_S8192x4_S1x8192x4x1_1_2 (Host.reduceAdd (shapeCast _ (V0 (Proc.devRef .tc main_arg4)) shapeCasts_S8192x512_S1x8192x4x128) (constant S_ .f32 0x00000000#32) reducesTo_S1x8192x4x128_S8192x4_d0_3 h_S_)) (constant S_ .f32 0x00000000#32) reducesTo_S1x8192x4x1_S8192x4_d0_3 h_S_)) shapeCasts_S1x8192x4_S1x8192x1x4) transposes_S1x8192x1x4_S1x1x8192x4_0_2_1_3) shapeCasts_S1x1x8192x4_S1x1x64x128x4 := by
  unfold val2
  simp only [ops_part1_2]
  after_results_simp
  simp only [val1_2_main_v97] <;> rfl
set_option maxRecDepth 8192 in
theorem val2_main_v102 (V0 : Valuation τ sig (Elt F)) : val2 V0 (no_index (Proc.devRef .tc main_v102)) = shapeCast _ (transpose S1x1x8192x4x128 [0, 2, 1, 3, 4] (shapeCast _ (shapeCast _ (V0 (Proc.devRef .tc main_arg3)) shapeCasts_S8192x512_S1x8192x4x128) shapeCasts_S1x8192x4x128_S1x8192x1x4x128) transposes_S1x8192x1x4x128_S1x1x8192x4x128_0_2_1_3_4) shapeCasts_S1x1x8192x4x128_S1x1x64x128x4x128 := by
  unfold val2
  simp only [ops_part1_2]
  after_results_simp
  simp only [val1_2_main_v96] <;> rfl

/-- The device's buffer contents after @main's first 155 operations. -/
def val2_1 (V0 : Valuation τ sig (Elt F)) : Valuation τ sig (Elt F) := after ops_part2_0 (val2 V0)
/-- The buffers that window `ops_part2_0`'s operations write. -/
abbrev ops_part2_0_W : List (Ref sig .tc) := [main_v103, main_v104, main_v105, main_v106, main_v107, main_v108, main_v109, main_v110, main_v111, main_v112, main_cst_15, main_v113, main_v114, main_v115, main_v116, main_v117, main_v118, main_cst_16, main_v119, main_v120, main_v121, main_v122, main_v123, main_v124, main_cst_17, main_v125, main_v126, main_v127, main_cst_18, main_v128]
set_option maxRecDepth 8192 in
theorem ops_part2_0_writes : (ops_part2_0 : List (HloOp τ sig (Elt F))).Forall fun op => op.writes ⊆ (ops_part2_0_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)
/-- A buffer that window `ops_part2_0` does not write keeps its contents through it. -/
theorem val2_1_keep (V0 : Valuation τ sig (Elt F)) (r : Ref sig .tc) (h : r ∉ ops_part2_0_W) :
    val2_1 V0 (Proc.devRef .tc r) = val2 V0 (Proc.devRef .tc r) :=
  after_of_writes_sub ops_part2_0 _ ops_part2_0_writes h
theorem val2_1_main_arg0 (V0 : Valuation τ sig (Elt F)) : val2_1 V0 (no_index (Proc.devRef .tc main_arg0)) = V0 (Proc.devRef .tc main_arg0) :=
  (val2_1_keep V0 main_arg0 (by decide)).trans (val2_main_arg0 V0)
theorem val2_1_main_arg1 (V0 : Valuation τ sig (Elt F)) : val2_1 V0 (no_index (Proc.devRef .tc main_arg1)) = V0 (Proc.devRef .tc main_arg1) :=
  (val2_1_keep V0 main_arg1 (by decide)).trans (val2_main_arg1 V0)
theorem val2_1_main_arg2 (V0 : Valuation τ sig (Elt F)) : val2_1 V0 (no_index (Proc.devRef .tc main_arg2)) = V0 (Proc.devRef .tc main_arg2) :=
  (val2_1_keep V0 main_arg2 (by decide)).trans (val2_main_arg2 V0)
theorem val2_1_main_arg3 (V0 : Valuation τ sig (Elt F)) : val2_1 V0 (no_index (Proc.devRef .tc main_arg3)) = V0 (Proc.devRef .tc main_arg3) :=
  (val2_1_keep V0 main_arg3 (by decide)).trans (val2_main_arg3 V0)
theorem val2_1_main_arg4 (V0 : Valuation τ sig (Elt F)) : val2_1 V0 (no_index (Proc.devRef .tc main_arg4)) = V0 (Proc.devRef .tc main_arg4) :=
  (val2_1_keep V0 main_arg4 (by decide)).trans (val2_main_arg4 V0)
theorem val2_1_main_v6 (V0 : Valuation τ sig (Elt F)) : val2_1 V0 (no_index (Proc.devRef .tc main_v6)) = res_main_v6 V0 :=
  (val2_1_keep V0 main_v6 (by decide)).trans (val2_main_v6 V0)
theorem val2_1_main_v15 (V0 : Valuation τ sig (Elt F)) : val2_1 V0 (no_index (Proc.devRef .tc main_v15)) = res_main_v15 V0 :=
  (val2_1_keep V0 main_v15 (by decide)).trans (val2_main_v15 V0)
theorem val2_1_main_v57_1 (V0 : Valuation τ sig (Elt F)) : val2_1 V0 (no_index (Proc.devRef .tc main_v57_1)) = res_main_v57_1 V0 :=
  (val2_1_keep V0 main_v57_1 (by decide)).trans (val2_main_v57_1 V0)
theorem val2_1_main_v62 (V0 : Valuation τ sig (Elt F)) : val2_1 V0 (no_index (Proc.devRef .tc main_v62)) = res_main_v62 V0 :=
  (val2_1_keep V0 main_v62 (by decide)).trans (val2_main_v62 V0)
theorem val2_1_main_v63 (V0 : Valuation τ sig (Elt F)) : val2_1 V0 (no_index (Proc.devRef .tc main_v63)) = Host.reduceAdd (res_main_v62 V0) (constant S_ .f32 0x00000000#32) reducesTo_S1x1x64x4x128x256_S1x1x64x4x128_d5 h_S_ :=
  (val2_1_keep V0 main_v63 (by decide)).trans (val2_main_v63 V0)
set_option maxRecDepth 8192 in
set_option maxHeartbeats 2000000 in
theorem val2_1_main_v109 (V0 : Valuation τ sig (Elt F)) : val2_1 V0 (no_index (Proc.devRef .tc main_v109)) = res_main_v109 V0 := by
  unfold val2_1
  simp only [ops_part2_0]
  after_results_simp
  simp only [val2_main_v71, val2_main_v102] <;> rfl
set_option maxRecDepth 8192 in
set_option maxHeartbeats 2000000 in
theorem val2_1_main_v123 (V0 : Valuation τ sig (Elt F)) : val2_1 V0 (no_index (Proc.devRef .tc main_v123)) = res_main_v123 V0 := by
  unfold val2_1
  simp only [ops_part2_0]
  after_results_simp
  simp only [val2_main_v67, val2_main_v74, val2_main_v24, val2_main_v102, val2_main_v69, val2_main_v99] <;> rfl
set_option maxRecDepth 8192 in
set_option maxHeartbeats 2000000 in
theorem val2_1_main_v128 (V0 : Valuation τ sig (Elt F)) : val2_1 V0 (no_index (Proc.devRef .tc main_v128)) = Host.reduceAdd (addf (res_main_v104 V0) (shapeCast _ (Host.reduceAdd (Host.negf (res_main_v123 V0)) (constant S_ .f32 0x00000000#32) reducesTo_S1x1x64x4x128x256_S1x1x64x4x128_d5 h_S_) shapeCasts_S1x1x64x4x128_S1x1x64x4x128x1)) (constant S_ .f32 0x00000000#32) reducesTo_S1x1x64x4x128x1_S64x4x128_d0_1_5 h_S_ := by
  unfold val2_1
  simp only [ops_part2_0]
  after_results_simp
  simp only [val2_main_v67, val2_main_v74, val2_main_v24, val2_main_v102, val2_main_v69, val2_main_v99] <;> rfl

/-- The device's buffer contents after @main's first 185 operations. -/
def val2_2 (V0 : Valuation τ sig (Elt F)) : Valuation τ sig (Elt F) := after ops_part2_1 (val2_1 V0)
/-- The buffers that window `ops_part2_1`'s operations write. -/
abbrev ops_part2_1_W : List (Ref sig .tc) := [main_v129, main_v130, main_v131, main_v132, main_v133, main_call1_cst, main_call1_v0, main_v134, main_cst_19, main_v135, main_v136, main_v137, main_v138, main_v139, main_v140, main_v141, main_v142, main_v143, main_v144, main_cst_20, main_v145, main_v146, main_v147, main_v148, main_v149, main_v150, main_v151, main_v152, main_v153, main_cst_21]
set_option maxRecDepth 8192 in
theorem ops_part2_1_writes : (ops_part2_1 : List (HloOp τ sig (Elt F))).Forall fun op => op.writes ⊆ (ops_part2_1_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)
/-- A buffer that window `ops_part2_1` does not write keeps its contents through it. -/
theorem val2_2_keep (V0 : Valuation τ sig (Elt F)) (r : Ref sig .tc) (h : r ∉ ops_part2_1_W) :
    val2_2 V0 (Proc.devRef .tc r) = val2_1 V0 (Proc.devRef .tc r) :=
  after_of_writes_sub ops_part2_1 _ ops_part2_1_writes h
theorem val2_2_main_arg0 (V0 : Valuation τ sig (Elt F)) : val2_2 V0 (no_index (Proc.devRef .tc main_arg0)) = V0 (Proc.devRef .tc main_arg0) :=
  (val2_2_keep V0 main_arg0 (by decide)).trans (val2_1_main_arg0 V0)
theorem val2_2_main_arg1 (V0 : Valuation τ sig (Elt F)) : val2_2 V0 (no_index (Proc.devRef .tc main_arg1)) = V0 (Proc.devRef .tc main_arg1) :=
  (val2_2_keep V0 main_arg1 (by decide)).trans (val2_1_main_arg1 V0)
theorem val2_2_main_arg2 (V0 : Valuation τ sig (Elt F)) : val2_2 V0 (no_index (Proc.devRef .tc main_arg2)) = V0 (Proc.devRef .tc main_arg2) :=
  (val2_2_keep V0 main_arg2 (by decide)).trans (val2_1_main_arg2 V0)
theorem val2_2_main_arg3 (V0 : Valuation τ sig (Elt F)) : val2_2 V0 (no_index (Proc.devRef .tc main_arg3)) = V0 (Proc.devRef .tc main_arg3) :=
  (val2_2_keep V0 main_arg3 (by decide)).trans (val2_1_main_arg3 V0)
theorem val2_2_main_arg4 (V0 : Valuation τ sig (Elt F)) : val2_2 V0 (no_index (Proc.devRef .tc main_arg4)) = V0 (Proc.devRef .tc main_arg4) :=
  (val2_2_keep V0 main_arg4 (by decide)).trans (val2_1_main_arg4 V0)
set_option maxRecDepth 8192 in
set_option maxHeartbeats 2000000 in
theorem val2_2_main_v140 (V0 : Valuation τ sig (Elt F)) : val2_2 V0 (no_index (Proc.devRef .tc main_v140)) = transpose S1x1x64x128x4x128 [0, 1, 2, 4, 3, 5] (Host.dotGeneral dot_S1x1x64x4x128x256_S1x1x64x256x4x128_S1x1x64x4x128x128_5_3_4_5_0123_0124 none (res_main_v136 V0) (res_main_v15 V0)) transposes_S1x1x64x4x128x128_S1x1x64x128x4x128_0_1_2_4_3_5 := by
  unfold val2_2
  simp only [ops_part2_1, TRef.nullary, TRef.ternary, TRef.unary, TRef.toBuf, TRef.ofBuf, cast_eq]
  after_results_simp
  simp only [val2_1_main_v15, val2_1_main_v62, val2_1_main_v63, val2_1_main_v128, val2_1_main_v123, val2_1_main_v57_1] <;> rfl
set_option maxRecDepth 8192 in
set_option maxHeartbeats 2000000 in
theorem val2_2_main_v149 (V0 : Valuation τ sig (Elt F)) : val2_2 V0 (no_index (Proc.devRef .tc main_v149)) = shapeCast _ (transpose S1x8192x1x4x128 [0, 2, 1, 3, 4] (shapeCast _ (addf (extractStridedSlice S1x1x64x128x4x128 ![0, 0, 0, 128, 0, 0] (res_main_v109 V0) slices_S1x1x64x256x4x128_S1x1x64x128x4x128_0_0_0_128_0_0) (pad S1x1x64x128x4x128 ![0, 0, 0, 0, 0, 0] ![0, 0, 1, 0, 0, 0] ![0, 0, 0, 0, 0, 0] (extractStridedSlice S1x1x63x128x4x128 ![0, 0, 1, 0, 0, 0] (res_main_v141 V0) slices_S1x1x64x128x4x128_S1x1x63x128x4x128_0_0_1_0_0_0) (constant S_ .f32 0x00000000#32) pads_S1x1x63x128x4x128_S1x1x64x128x4x128_000_000_010_000_000_000 h_S_)) shapeCasts_S1x1x64x128x4x128_S1x1x8192x4x128) transposes_S1x1x8192x4x128_S1x8192x1x4x128_0_2_1_3_4) shapeCasts_S1x8192x1x4x128_S1x8192x4x128 := by
  unfold val2_2
  simp only [ops_part2_1, TRef.nullary, TRef.ternary, TRef.unary, TRef.toBuf, TRef.ofBuf, cast_eq]
  after_results_simp
  simp only [val2_1_main_v109] <;> rfl
set_option maxRecDepth 8192 in
set_option maxHeartbeats 2000000 in
theorem val2_2_main_v151 (V0 : Valuation τ sig (Elt F)) : val2_2 V0 (no_index (Proc.devRef .tc main_v151)) = extractStridedSlice S1x1x64x128x4x128 ![0, 0, 0, 128, 0, 0] (res_main_v138 V0) slices_S1x1x64x256x4x128_S1x1x64x128x4x128_0_0_0_128_0_0 := by
  unfold val2_2
  simp only [ops_part2_1, TRef.nullary, TRef.ternary, TRef.unary, TRef.toBuf, TRef.ofBuf, cast_eq]
  after_results_simp
  simp only [val2_1_main_v6, val2_1_main_v62, val2_1_main_v63, val2_1_main_v128, val2_1_main_v123, val2_1_main_v57_1] <;> rfl
set_option maxRecDepth 8192 in
set_option maxHeartbeats 2000000 in
theorem val2_2_main_v153 (V0 : Valuation τ sig (Elt F)) : val2_2 V0 (no_index (Proc.devRef .tc main_v153)) = extractStridedSlice S1x1x63x128x4x128 ![0, 0, 1, 0, 0, 0] (res_main_v150 V0) slices_S1x1x64x128x4x128_S1x1x63x128x4x128_0_0_1_0_0_0 := by
  unfold val2_2
  simp only [ops_part2_1, TRef.nullary, TRef.ternary, TRef.unary, TRef.toBuf, TRef.ofBuf, cast_eq]
  after_results_simp
  simp only [val2_1_main_v6, val2_1_main_v62, val2_1_main_v63, val2_1_main_v128, val2_1_main_v123, val2_1_main_v57_1] <;> rfl
set_option maxRecDepth 8192 in
set_option maxHeartbeats 2000000 in
theorem val2_2_main_cst_21 (V0 : Valuation τ sig (Elt F)) : val2_2 V0 (no_index (Proc.devRef .tc main_cst_21)) = constant S_ .f32 0x00000000#32 := by
  unfold val2_2
  simp only [ops_part2_1, TRef.nullary, TRef.ternary, TRef.unary, TRef.toBuf, TRef.ofBuf, cast_eq]
  after_results_simp
  all_goals rfl

/-- The device's buffer contents after @main's first 3 windows. -/
def val3 (V0 : Valuation τ sig (Elt F)) : Valuation τ sig (Elt F) := after ops_part2_2 (val2_2 V0)
/-- The buffers that window `ops_part2_2`'s operations write. -/
abbrev ops_part2_2_W : List (Ref sig .tc) := [main_v154, main_v155]
set_option maxRecDepth 8192 in
theorem ops_part2_2_writes : (ops_part2_2 : List (HloOp τ sig (Elt F))).Forall fun op => op.writes ⊆ (ops_part2_2_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)
/-- A buffer that window `ops_part2_2` does not write keeps its contents through it. -/
theorem val3_keep (V0 : Valuation τ sig (Elt F)) (r : Ref sig .tc) (h : r ∉ ops_part2_2_W) :
    val3 V0 (Proc.devRef .tc r) = val2_2 V0 (Proc.devRef .tc r) :=
  after_of_writes_sub ops_part2_2 _ ops_part2_2_writes h
theorem val3_main_arg0 (V0 : Valuation τ sig (Elt F)) : val3 V0 (no_index (Proc.devRef .tc main_arg0)) = V0 (Proc.devRef .tc main_arg0) :=
  (val3_keep V0 main_arg0 (by decide)).trans (val2_2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_2_main_arg4 V0)
theorem val3_main_v140 (V0 : Valuation τ sig (Elt F)) : val3 V0 (no_index (Proc.devRef .tc main_v140)) = transpose S1x1x64x128x4x128 [0, 1, 2, 4, 3, 5] (Host.dotGeneral dot_S1x1x64x4x128x256_S1x1x64x256x4x128_S1x1x64x4x128x128_5_3_4_5_0123_0124 none (res_main_v136 V0) (res_main_v15 V0)) transposes_S1x1x64x4x128x128_S1x1x64x128x4x128_0_1_2_4_3_5 :=
  (val3_keep V0 main_v140 (by decide)).trans (val2_2_main_v140 V0)
theorem val3_main_v149 (V0 : Valuation τ sig (Elt F)) : val3 V0 (no_index (Proc.devRef .tc main_v149)) = shapeCast _ (transpose S1x8192x1x4x128 [0, 2, 1, 3, 4] (shapeCast _ (addf (extractStridedSlice S1x1x64x128x4x128 ![0, 0, 0, 128, 0, 0] (res_main_v109 V0) slices_S1x1x64x256x4x128_S1x1x64x128x4x128_0_0_0_128_0_0) (pad S1x1x64x128x4x128 ![0, 0, 0, 0, 0, 0] ![0, 0, 1, 0, 0, 0] ![0, 0, 0, 0, 0, 0] (extractStridedSlice S1x1x63x128x4x128 ![0, 0, 1, 0, 0, 0] (res_main_v141 V0) slices_S1x1x64x128x4x128_S1x1x63x128x4x128_0_0_1_0_0_0) (constant S_ .f32 0x00000000#32) pads_S1x1x63x128x4x128_S1x1x64x128x4x128_000_000_010_000_000_000 h_S_)) shapeCasts_S1x1x64x128x4x128_S1x1x8192x4x128) transposes_S1x1x8192x4x128_S1x8192x1x4x128_0_2_1_3_4) shapeCasts_S1x8192x1x4x128_S1x8192x4x128 :=
  (val3_keep V0 main_v149 (by decide)).trans (val2_2_main_v149 V0)
set_option maxRecDepth 8192 in
theorem val3_main_v155 (V0 : Valuation τ sig (Elt F)) : val3 V0 (no_index (Proc.devRef .tc main_v155)) = addf (extractStridedSlice S1x1x64x128x4x128 ![0, 0, 0, 128, 0, 0] (res_main_v138 V0) slices_S1x1x64x256x4x128_S1x1x64x128x4x128_0_0_0_128_0_0) (pad S1x1x64x128x4x128 ![0, 0, 0, 0, 0, 0] ![0, 0, 1, 0, 0, 0] ![0, 0, 0, 0, 0, 0] (extractStridedSlice S1x1x63x128x4x128 ![0, 0, 1, 0, 0, 0] (res_main_v150 V0) slices_S1x1x64x128x4x128_S1x1x63x128x4x128_0_0_1_0_0_0) (constant S_ .f32 0x00000000#32) pads_S1x1x63x128x4x128_S1x1x64x128x4x128_000_000_010_000_000_000 h_S_) := by
  unfold val3
  simp only [ops_part2_2]
  after_results_simp
  simp only [val2_2_main_cst_21, val2_2_main_v153, val2_2_main_v151] <;> rfl

/-- The device's buffer contents after @main's first 4 windows. -/
def val4 (V0 : Valuation τ sig (Elt F)) : Valuation τ sig (Elt F) := after ops_part3 (val3 V0)
/-- The buffers that window `main_part3`'s operations write. -/
abbrev ops_part3_W : List (Ref sig .tc) := [main_v156, main_v157, main_v158, main_v159, main_v160, main_v161, main_v162, main_v163, main_v164]
set_option maxRecDepth 8192 in
theorem ops_part3_writes : (ops_part3 : List (HloOp τ sig (Elt F))).Forall fun op => op.writes ⊆ (ops_part3_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)
/-- A buffer that window `main_part3` does not write keeps its contents through it. -/
theorem val4_keep (V0 : Valuation τ sig (Elt F)) (r : Ref sig .tc) (h : r ∉ ops_part3_W) :
    val4 V0 (Proc.devRef .tc r) = val3 V0 (Proc.devRef .tc r) :=
  after_of_writes_sub ops_part3 _ ops_part3_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
set_option maxRecDepth 8192 in
set_option maxHeartbeats 900000 in
theorem val4_main_v162 (V0 : Valuation τ sig (Elt F)) : val4 V0 (no_index (Proc.devRef .tc main_v162)) = shapeCast _ (shapeCast _ (transpose S1x8192x1x4x128 [0, 2, 1, 3, 4] (shapeCast _ (addf (extractStridedSlice S1x1x64x128x4x128 ![0, 0, 0, 128, 0, 0] (res_main_v109 V0) slices_S1x1x64x256x4x128_S1x1x64x128x4x128_0_0_0_128_0_0) (pad S1x1x64x128x4x128 ![0, 0, 0, 0, 0, 0] ![0, 0, 1, 0, 0, 0] ![0, 0, 0, 0, 0, 0] (extractStridedSlice S1x1x63x128x4x128 ![0, 0, 1, 0, 0, 0] (res_main_v141 V0) slices_S1x1x64x128x4x128_S1x1x63x128x4x128_0_0_1_0_0_0) (constant S_ .f32 0x00000000#32) pads_S1x1x63x128x4x128_S1x1x64x128x4x128_000_000_010_000_000_000 h_S_)) shapeCasts_S1x1x64x128x4x128_S1x1x8192x4x128) transposes_S1x1x8192x4x128_S1x8192x1x4x128_0_2_1_3_4) shapeCasts_S1x8192x1x4x128_S1x8192x4x128) shapeCasts_S1x8192x4x128_S8192x512 := by
  unfold val4
  simp only [ops_part3]
  after_results_simp
  simp only [val3_main_v149] <;> rfl
set_option maxRecDepth 8192 in
set_option maxHeartbeats 900000 in
theorem val4_main_v163 (V0 : Valuation τ sig (Elt F)) : val4 V0 (no_index (Proc.devRef .tc main_v163)) = shapeCast _ (shapeCast _ (transpose S1x8192x1x4x128 [0, 2, 1, 3, 4] (shapeCast _ (addf (extractStridedSlice S1x1x64x128x4x128 ![0, 0, 0, 128, 0, 0] (res_main_v138 V0) slices_S1x1x64x256x4x128_S1x1x64x128x4x128_0_0_0_128_0_0) (pad S1x1x64x128x4x128 ![0, 0, 0, 0, 0, 0] ![0, 0, 1, 0, 0, 0] ![0, 0, 0, 0, 0, 0] (extractStridedSlice S1x1x63x128x4x128 ![0, 0, 1, 0, 0, 0] (res_main_v150 V0) slices_S1x1x64x128x4x128_S1x1x63x128x4x128_0_0_1_0_0_0) (constant S_ .f32 0x00000000#32) pads_S1x1x63x128x4x128_S1x1x64x128x4x128_000_000_010_000_000_000 h_S_)) shapeCasts_S1x1x64x128x4x128_S1x1x8192x4x128) transposes_S1x1x8192x4x128_S1x8192x1x4x128_0_2_1_3_4) shapeCasts_S1x8192x1x4x128_S1x8192x4x128) shapeCasts_S1x8192x4x128_S8192x512 := by
  unfold val4
  simp only [ops_part3]
  after_results_simp
  simp only [val3_main_v155] <;> rfl
set_option maxRecDepth 8192 in
set_option maxHeartbeats 900000 in
theorem val4_main_v164 (V0 : Valuation τ sig (Elt F)) : val4 V0 (no_index (Proc.devRef .tc main_v164)) = shapeCast _ (shapeCast _ (transpose S1x8192x1x4x128 [0, 2, 1, 3, 4] (shapeCast _ (transpose S1x1x64x128x4x128 [0, 1, 2, 4, 3, 5] (Host.dotGeneral dot_S1x1x64x4x128x256_S1x1x64x256x4x128_S1x1x64x4x128x128_5_3_4_5_0123_0124 none (res_main_v136 V0) (res_main_v15 V0)) transposes_S1x1x64x4x128x128_S1x1x64x128x4x128_0_1_2_4_3_5) shapeCasts_S1x1x64x128x4x128_S1x1x8192x4x128) transposes_S1x1x8192x4x128_S1x8192x1x4x128_0_2_1_3_4) shapeCasts_S1x8192x1x4x128_S1x8192x4x128) shapeCasts_S1x8192x4x128_S8192x512 := by
  unfold val4
  simp only [ops_part3]
  after_results_simp
  simp only [val3_main_v140] <;> rfl

theorem after_ops (V0 : Valuation τ sig (Elt F)) : after ops V0 = val4 V0 := by
  simp only [ops, ops_part1, ops_part2, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v164) = shapeCast _ (shapeCast _ (transpose S1x8192x1x4x128 [0, 2, 1, 3, 4] (shapeCast _ (transpose S1x1x64x128x4x128 [0, 1, 2, 4, 3, 5] (Host.dotGeneral dot_S1x1x64x4x128x256_S1x1x64x256x4x128_S1x1x64x4x128x128_5_3_4_5_0123_0124 none (res_main_v136 (launchContents m c)) (res_main_v15 (launchContents m c))) transposes_S1x1x64x4x128x128_S1x1x64x128x4x128_0_1_2_4_3_5) shapeCasts_S1x1x64x128x4x128_S1x1x8192x4x128) transposes_S1x1x8192x4x128_S1x8192x1x4x128_0_2_1_3_4) shapeCasts_S1x8192x1x4x128_S1x8192x4x128) shapeCasts_S1x8192x4x128_S8192x512
      ∧ r.2.mem ((c.tc : Thread nD τ).loc main_v163) = shapeCast _ (shapeCast _ (transpose S1x8192x1x4x128 [0, 2, 1, 3, 4] (shapeCast _ (addf (extractStridedSlice S1x1x64x128x4x128 ![0, 0, 0, 128, 0, 0] (res_main_v138 (launchContents m c)) slices_S1x1x64x256x4x128_S1x1x64x128x4x128_0_0_0_128_0_0) (pad S1x1x64x128x4x128 ![0, 0, 0, 0, 0, 0] ![0, 0, 1, 0, 0, 0] ![0, 0, 0, 0, 0, 0] (extractStridedSlice S1x1x63x128x4x128 ![0, 0, 1, 0, 0, 0] (res_main_v150 (launchContents m c)) slices_S1x1x64x128x4x128_S1x1x63x128x4x128_0_0_1_0_0_0) (constant S_ .f32 0x00000000#32) pads_S1x1x63x128x4x128_S1x1x64x128x4x128_000_000_010_000_000_000 h_S_)) shapeCasts_S1x1x64x128x4x128_S1x1x8192x4x128) transposes_S1x1x8192x4x128_S1x8192x1x4x128_0_2_1_3_4) shapeCasts_S1x8192x1x4x128_S1x8192x4x128) shapeCasts_S1x8192x4x128_S8192x512
      ∧ r.2.mem ((c.tc : Thread nD τ).loc main_v162) = shapeCast _ (shapeCast _ (transpose S1x8192x1x4x128 [0, 2, 1, 3, 4] (shapeCast _ (addf (extractStridedSlice S1x1x64x128x4x128 ![0, 0, 0, 128, 0, 0] (res_main_v109 (launchContents m c)) slices_S1x1x64x256x4x128_S1x1x64x128x4x128_0_0_0_128_0_0) (pad S1x1x64x128x4x128 ![0, 0, 0, 0, 0, 0] ![0, 0, 1, 0, 0, 0] ![0, 0, 0, 0, 0, 0] (extractStridedSlice S1x1x63x128x4x128 ![0, 0, 1, 0, 0, 0] (res_main_v141 (launchContents m c)) slices_S1x1x64x128x4x128_S1x1x63x128x4x128_0_0_1_0_0_0) (constant S_ .f32 0x00000000#32) pads_S1x1x63x128x4x128_S1x1x64x128x4x128_000_000_010_000_000_000 h_S_)) shapeCasts_S1x1x64x128x4x128_S1x1x8192x4x128) transposes_S1x1x8192x4x128_S1x8192x1x4x128_0_2_1_3_4) shapeCasts_S1x8192x1x4x128_S1x8192x4x128) shapeCasts_S1x8192x4x128_S8192x512
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v164).trans ((congrFun (after_ops (launchContents m c)) (Proc.devRef .tc main_v164)).trans (val4_main_v164 (launchContents m c))),
      (h c main_v163).trans ((congrFun (after_ops (launchContents m c)) (Proc.devRef .tc main_v163)).trans (val4_main_v163 (launchContents m c))),
      (h c main_v162).trans ((congrFun (after_ops (launchContents m c)) (Proc.devRef .tc main_v162)).trans (val4_main_v162 (launchContents m c))),
      (h c main_arg0).trans ((congrFun (after_ops (launchContents m c)) (Proc.devRef .tc main_arg0)).trans (val4_main_arg0 (launchContents m c))),
      (h c main_arg1).trans ((congrFun (after_ops (launchContents m c)) (Proc.devRef .tc main_arg1)).trans (val4_main_arg1 (launchContents m c))),
      (h c main_arg2).trans ((congrFun (after_ops (launchContents m c)) (Proc.devRef .tc main_arg2)).trans (val4_main_arg2 (launchContents m c))),
      (h c main_arg3).trans ((congrFun (after_ops (launchContents m c)) (Proc.devRef .tc main_arg3)).trans (val4_main_arg3 (launchContents m c))),
      (h c main_arg4).trans ((congrFun (after_ops (launchContents m c)) (Proc.devRef .tc main_arg4)).trans (val4_main_arg4 (launchContents m c)))⟩)
    (run_seq scopedRefs_eq scopedSems_eq defs main (fun _ => ops) main_eq (fun _ => ops_sub) m ρ fun _ => ops_fresh)

end Cert.ReferenceIdeal.Value

end
-- ==== Proof.RIdeal.lean ====
module

public import proofs.«01_k».proof.Proof.RTerms
public import proofs.«01_k».proof.Proof.Blocks
public import Idealize.ShloMosaic.Lib.Pointwise
public import Idealize.ShloMosaic.Lib.Tactic.CleanTypes

@[expose] public section

set_option maxRecDepth 16384
set_option maxHeartbeats 1000000

/-! The reference's gradients at an index, over the extended reals: its sums and maxima along a row, its masked scores,
its softmax, and the three gradients, each read off the named terms as the attention-gradient formulas of `Spec`. -/

noncomputable section

namespace Cert.ReferenceIdeal.Value

open Cert.ReferenceIdeal Cert.ReferenceIdeal.Gen Idealize.ShloMosaic Idealize.ShloMosaic.TcCoe Idealize.ShloMosaic.StableHlo
open Cert

variable (V0 : Valuation τ sig (Elt Ideal))

/-- The argument arrays by row and column. -/
def rQ : Fin 8192 → Fin 512 → EReal := fun i j => (V0 (Proc.devRef .tc main_arg0) : S8192x512.Idx → EReal) (ix2 i j)
def rK : Fin 8192 → Fin 512 → EReal := fun i j => (V0 (Proc.devRef .tc main_arg1) : S8192x512.Idx → EReal) (ix2 i j)
def rV : Fin 8192 → Fin 512 → EReal := fun i j =>
  (V0 (Proc.devRef .tc main_arg2) : S8192x1536.Idx → EReal) (ix2 i ⟨j.val, by have := j.isLt; omega⟩)
def rO : Fin 8192 → Fin 512 → EReal := fun i j => (V0 (Proc.devRef .tc main_arg3) : S8192x512.Idx → EReal) (ix2 i j)
def rL : Fin 8192 → Fin 512 → EReal := fun i j => (V0 (Proc.devRef .tc main_arg4) : S8192x512.Idx → EReal) (ix2 i j)

/-! The reference's reductions, read at an index. -/

theorem fiber_d5 (n : Fin 64) (h : Fin 4) (a : Fin 128) (i : S1x1x64x4x128x256.Idx) :
    reducesTo_S1x1x64x4x128x256_S1x1x64x4x128_d5.drop i = ix5 0 0 n h a ↔ ∃ k : Fin 256, ix6 0 0 n h a k = i := by
  constructor
  · intro e
    refine ⟨i 5, ?_⟩
    funext b; apply Fin.ext
    match b with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext b; apply Fin.ext
    match b with
    | ⟨0, _⟩ => rfl
    | ⟨1, _⟩ => rfl
    | ⟨2, _⟩ => rfl
    | ⟨3, _⟩ => rfl
    | ⟨4, _⟩ => rfl

theorem sum_d5 (x : S1x1x64x4x128x256.Idx → EReal) (z : EReal) (n : Fin 64) (h : Fin 4) (a : Fin 128) :
    Ideal.hostReduceAdd reducesTo_S1x1x64x4x128x256_S1x1x64x4x128_d5 x z (ix5 0 0 n h a) = z + ∑ k, x (ix6 0 0 n h a k) := by
  unfold Ideal.hostReduceAdd
  rw [Finset.sum_filter_eq_sum_of_fiber _ (fun k : Fin 256 => (ix6 0 0 n h a k : S1x1x64x4x128x256.Idx)) (fun x y e => (congrFun e 5 : x = y)) (fiber_d5 n h a) x]

theorem max_d5 (x : S1x1x64x4x128x256.Idx → EReal) (z : EReal) (n : Fin 64) (h : Fin 4) (a : Fin 128) :
    (Finset.univ.filter fun i => reducesTo_S1x1x64x4x128x256_S1x1x64x4x128_d5.drop i = ix5 0 0 n h a).fold max z x =
      Finset.univ.fold max z fun k => x (ix6 0 0 n h a k) :=
  Finset.fold_filter_eq_fold_of_fiber max _ (fun k : Fin 256 => (ix6 0 0 n h a k : S1x1x64x4x128x256.Idx)) (fun x y e => (congrFun e 5 : x = y)) (fiber_d5 n h a) z x

theorem fiber_d03 (m : Fin 8192) (h : Fin 4) (i : S1x8192x4x128.Idx) :
    reducesTo_S1x8192x4x128_S8192x4_d0_3.drop i = ix2 m h ↔ ∃ k : Fin 128, ix4 0 m h k = i := by
  constructor
  · intro e
    refine ⟨i 3, ?_⟩
    funext b; apply Fin.ext
    match b with
    | ⟨0, _⟩ => exact (Nat.lt_one_iff.mp (i 0).isLt).symm
    | ⟨1, _⟩ => exact (congrArg Fin.val (congrFun e 0)).symm
    | ⟨2, _⟩ => exact (congrArg Fin.val (congrFun e 1)).symm
    | ⟨3, _⟩ => rfl
  · rintro ⟨k, rfl⟩
    funext b; apply Fin.ext
    match b with
    | ⟨0, _⟩ => rfl
    | ⟨1, _⟩ => rfl

theorem sum_d03 (x : S1x8192x4x128.Idx → EReal) (z : EReal) (m : Fin 8192) (h : Fin 4) :
    Ideal.hostReduceAdd reducesTo_S1x8192x4x128_S8192x4_d0_3 x z (ix2 m h) = z + ∑ k, x (ix4 0 m h k) := by
  unfold Ideal.hostReduceAdd
  rw [Finset.sum_filter_eq_sum_of_fiber _ (fun k : Fin 128 => (ix4 0 m h k : S1x8192x4x128.Idx)) (fun x y e => (congrFun e 3 : x = y)) (fiber_d03 m h) x]

theorem fiber_d03' (m : Fin 8192) (h : Fin 4) (i : S1x8192x4x1.Idx) :
    reducesTo_S1x8192x4x1_S8192x4_d0_3.drop i = ix2 m h ↔ ∃ k : Fin 1, ix4 0 m h k = i := by
  constructor
  · intro e
    refine ⟨i 3, ?_⟩
    funext b; apply Fin.ext
    match b with
    | ⟨0, _⟩ => exact (Nat.lt_one_iff.mp (i 0).isLt).symm
    | ⟨1, _⟩ => exact (congrArg Fin.val (congrFun e 0)).symm
    | ⟨2, _⟩ => exact (congrArg Fin.val (congrFun e 1)).symm
    | ⟨3, _⟩ => rfl
  · rintro ⟨k, rfl⟩
    funext b; apply Fin.ext
    match b with
    | ⟨0, _⟩ => rfl
    | ⟨1, _⟩ => rfl

theorem sum_d03' (x : S1x8192x4x1.Idx → EReal) (z : EReal) (m : Fin 8192) (h : Fin 4) :
    Ideal.hostReduceAdd reducesTo_S1x8192x4x1_S8192x4_d0_3 x z (ix2 m h) = z + x (ix4 0 m h 0) := by
  unfold Ideal.hostReduceAdd
  rw [Finset.sum_filter_eq_sum_of_fiber _ (fun k : Fin 1 => (ix4 0 m h k : S1x8192x4x1.Idx)) (fun x y e => (congrFun e 3 : x = y)) (fiber_d03' m h) x,
    Fin.sum_univ_one]

theorem fiber_d015 (n : Fin 64) (h : Fin 4) (a : Fin 128) (i : S1x1x64x4x128x1.Idx) :
    reducesTo_S1x1x64x4x128x1_S64x4x128_d0_1_5.drop i = ix3 n h a ↔ ∃ k : Fin 1, ix6 0 0 n h a k = i := by
  constructor
  · intro e
    refine ⟨i 5, ?_⟩
    funext b; apply Fin.ext
    match b with
    | ⟨0, _⟩ => exact (Nat.lt_one_iff.mp (i 0).isLt).symm
    | ⟨1, _⟩ => exact (Nat.lt_one_iff.mp (i 1).isLt).symm
    | ⟨2, _⟩ => exact (congrArg Fin.val (congrFun e 0)).symm
    | ⟨3, _⟩ => exact (congrArg Fin.val (congrFun e 1)).symm
    | ⟨4, _⟩ => exact (congrArg Fin.val (congrFun e 2)).symm
    | ⟨5, _⟩ => rfl
  · rintro ⟨k, rfl⟩
    funext b; apply Fin.ext
    match b with
    | ⟨0, _⟩ => rfl
    | ⟨1, _⟩ => rfl
    | ⟨2, _⟩ => rfl

theorem sum_d015 (x : S1x1x64x4x128x1.Idx → EReal) (z : EReal) (n : Fin 64) (h : Fin 4) (a : Fin 128) :
    Ideal.hostReduceAdd reducesTo_S1x1x64x4x128x1_S64x4x128_d0_1_5 x z (ix3 n h a) = z + x (ix6 0 0 n h a 0) := by
  unfold Ideal.hostReduceAdd
  rw [Finset.sum_filter_eq_sum_of_fiber _ (fun k : Fin 1 => (ix6 0 0 n h a k : S1x1x64x4x128x1.Idx)) (fun x y e => (congrFun e 5 : x = y)) (fiber_d015 n h a) x,
    Fin.sum_univ_one]

variable (n : Fin 64) (h : Fin 4) (a d : Fin 128) (j : Fin 256)

theorem row_eq (hn : n.val * 128 + a.val < 8192) : (⟨n.val * 128 + a.val, hn⟩ : Fin 8192) = Attn.row n a :=
  Fin.ext (by dsimp only [Attn.row]; omega)

theorem colm_eq (hd : h.val * 128 + d.val < 512) : (⟨h.val * 128 + d.val, hd⟩ : Fin 512) = Attn.colm h d :=
  Fin.ext (by dsimp only [Attn.colm]; omega)

theorem v6_at : (res_main_v6 V0 : S1x1x64x128x4x128.Idx → EReal) (ix6 0 0 n a h d) = Attn.blk (rQ V0) n h a d := by
  unfold res_main_v6
  clean_types
  pointwise
  rw [row_eq, colm_eq]
  rfl

theorem v9_at : (res_main_v9 V0 : S1x1x64x128x4x128.Idx → EReal) (ix6 0 0 n a h d) = Attn.blk (rK V0) n h a d := by
  unfold res_main_v9
  clean_types
  pointwise
  rw [row_eq, colm_eq]
  rfl

theorem v18_at : (res_main_v18 V0 : S1x1x64x128x4x128.Idx → EReal) (ix6 0 0 n a h d) = Attn.blk (rV V0) n h a d := by
  unfold res_main_v18
  clean_types
  pointwise
  rw [row_eq]
  unfold Attn.blk rV
  congr 2
  apply Fin.ext
  dsimp only [Attn.colm]
  omega

/-- The block before and the block, as the 256 rows that end with the block. -/
theorem keys_of (X : Fin 8192 → Fin 512 → EReal) :
    (if h1 : j.val < 128 then
      if h2 : n.val < 1 then 0
      else Attn.blk X ⟨n.val - 1, by have := n.isLt; omega⟩ h ⟨j.val, h1⟩ d
    else Attn.blk X n h ⟨j.val - 128, by have := j.isLt; omega⟩ d) = Attn.keys X n h j d := by
  have hj := j.isLt
  unfold Attn.keys Attn.blk
  split
  · split
    · rw [dif_neg (by omega)]
    · rw [dif_pos (by omega)]
      congr 1
      apply Fin.ext
      dsimp only [Attn.row]
      omega
  · rw [dif_pos (by omega)]
    congr 1
    apply Fin.ext
    dsimp only [Attn.row]
    omega

theorem v15_at : (res_main_v15 V0 : S1x1x64x256x4x128.Idx → EReal) (ix6 0 0 n j h d) = Attn.keys (rK V0) n h j d := by
  rw [← keys_of]
  unfold res_main_v15
  clean_types
  pointwise
  simp only [v9_at]

theorem v24_at : (res_main_v24 V0 : S1x1x64x256x4x128.Idx → EReal) (ix6 0 0 n j h d) = Attn.keys (rV V0) n h j d := by
  rw [← keys_of]
  unfold res_main_v24
  clean_types
  pointwise
  simp only [v18_at]

theorem v57_1_at : (res_main_v57_1 V0 : S1x1x64x4x128x256.Idx → BitVec 1) (ix6 0 0 n h a j) =
    BitVec.ofBool (Attn.msk (decide (n.val = 0)) a j) := by
  rw [← Attn.msk_block n.val (by have := n.isLt; omega) a j]
  unfold res_main_v57_1 res_main_v33 res_main_v28
  clean_types
  pointwise

theorem v104_at : (res_main_v104 V0 : S1x1x64x4x128x1.Idx → EReal) (ix6 0 0 n h a 0) = Attn.dls (rL V0) n h a := by
  unfold res_main_v104
  clean_types
  pointwise
  rw [sum_d03']
  pointwise
  rw [sum_d03]
  pointwise
  simp only [row_eq, colm_eq]
  rfl

theorem v106_at : (res_main_v106 V0 : S1x1x64x4x128x128.Idx → EReal) (ix6 0 0 n h d a) = Attn.blk (rO V0) n h a d := by
  unfold res_main_v106
  clean_types
  pointwise
  rw [row_eq, colm_eq]
  rfl

theorem bot_word : Ideal.ofBits .f32 4286578688#32 = ⊥ := by decide

theorem uitofp_true : (FloatOps.uitofp .f32 (BitVec.ofBool true) : Ideal .f32) = (1 : EReal) := by
  show (((BitVec.ofBool true).toNat : ℝ) : EReal) = 1
  have : (BitVec.ofBool true).toNat = 1 := by decide
  rw [this]; norm_num

theorem uitofp_false : (FloatOps.uitofp .f32 (BitVec.ofBool false) : Ideal .f32) = (0 : EReal) := by
  show (((BitVec.ofBool false).toNat : ℝ) : EReal) = 0
  have : (BitVec.ofBool false).toNat = 0 := by decide
  rw [this]; norm_num

theorem v57_0_at : (res_main_v57_0 V0 : S1x1x64x4x128x256.Idx → EReal) (ix6 0 0 n h a j) =
    Attn.s (Attn.msk (decide (n.val = 0))) (Attn.blk (rQ V0) n h) (Attn.keys (rK V0) n h) a j := by
  unfold res_main_v57_0
  clean_types
  pointwise
  rw [v57_1_at, Attn.select_ofBool]
  simp only [v6_at, v15_at]
  unfold Attn.s Attn.scale
  congr 1

theorem v58_at : (res_main_v58 V0 : S1x1x64x4x128.Idx → EReal) (ix5 0 0 n h a) =
    Attn.mx (Attn.msk (decide (n.val = 0))) (Attn.blk (rQ V0) n h) (Attn.keys (rK V0) n h) a := by
  unfold res_main_v58
  clean_types
  pointwise
  rw [max_d5]
  simp only [v57_0_at]
  rw [bot_word]
  rfl

theorem v62_at : (res_main_v62 V0 : S1x1x64x4x128x256.Idx → EReal) (ix6 0 0 n h a j) =
    Attn.e (Attn.msk (decide (n.val = 0))) (Attn.blk (rQ V0) n h) (Attn.keys (rK V0) n h) a j := by
  unfold res_main_v62
  clean_types
  pointwise
  rw [v57_0_at, v58_at]
  unfold Attn.e
  by_cases hm : Attn.s (Attn.msk (decide (n.val = 0))) (Attn.blk (rQ V0) n h) (Attn.keys (rK V0) n h) a j =
      Attn.mx (Attn.msk (decide (n.val = 0))) (Attn.blk (rQ V0) n h) (Attn.keys (rK V0) n h) a
  · rw [if_pos hm, decide_eq_true hm]; exact uitofp_true
  · rw [if_neg hm, decide_eq_false hm]; exact uitofp_false

theorem v67_at : (res_main_v67 V0 : S1x1x64x4x128x256.Idx → EReal) (ix6 0 0 n h a j) =
    Attn.p (Attn.msk (decide (n.val = 0))) (Attn.blk (rQ V0) n h) (Attn.keys (rK V0) n h) a j := by
  unfold res_main_v67 res_main_v64
  clean_types
  pointwise
  rw [v57_0_at, v58_at]
  rfl

theorem v69_at : (res_main_v69 V0 : S1x1x64x4x128x1.Idx → EReal) (ix6 0 0 n h a 0) =
    Attn.ls (Attn.msk (decide (n.val = 0))) (Attn.blk (rQ V0) n h) (Attn.keys (rK V0) n h) a := by
  unfold res_main_v69
  clean_types
  pointwise
  rw [sum_d5, zero_add]
  simp only [v67_at]
  rfl

theorem v71_at : (res_main_v71 V0 : S1x1x64x4x128x256.Idx → EReal) (ix6 0 0 n h a j) =
    Ideal.div (Attn.p (Attn.msk (decide (n.val = 0))) (Attn.blk (rQ V0) n h) (Attn.keys (rK V0) n h) a j)
      (Attn.ls (Attn.msk (decide (n.val = 0))) (Attn.blk (rQ V0) n h) (Attn.keys (rK V0) n h) a) := by
  unfold res_main_v71
  clean_types
  pointwise
  rw [v67_at, v69_at]

theorem v107_at : (res_main_v107 V0 : S1x1x64x4x128x256.Idx → EReal) (ix6 0 0 n h a j) =
    Attn.w (Attn.keys (rV V0) n h) (Attn.blk (rO V0) n h) a j := by
  unfold res_main_v107
  clean_types
  pointwise
  simp only [v106_at, v24_at]
  rfl

theorem v109_at : (res_main_v109 V0 : S1x1x64x256x4x128.Idx → EReal) (ix6 0 0 n j h d) =
    Attn.dvAt (rQ V0) (rK V0) (rO V0) n h j d := by
  unfold res_main_v109
  clean_types
  pointwise
  simp only [v106_at, v71_at]
  unfold Attn.dvAt Attn.gv
  exact Finset.sum_congr rfl fun _ _ => mul_comm _ _

theorem v123_at : (res_main_v123 V0 : S1x1x64x4x128x256.Idx → EReal) (ix6 0 0 n h a j) =
    Attn.t (Attn.msk (decide (n.val = 0))) (Attn.blk (rQ V0) n h) (Attn.keys (rK V0) n h) (Attn.keys (rV V0) n h)
      (Attn.blk (rO V0) n h) (Attn.dls (rL V0) n h) a j := by
  unfold res_main_v123
  clean_types
  pointwise
  rw [sum_d015]
  pointwise
  rw [sum_d5]
  pointwise
  simp only [v107_at, v69_at, v104_at, v67_at, zero_add]
  rfl

theorem v136_at : (res_main_v136 V0 : S1x1x64x4x128x256.Idx → EReal) (ix6 0 0 n h a j) =
    Attn.ds (Attn.msk (decide (n.val = 0))) (Attn.blk (rQ V0) n h) (Attn.keys (rK V0) n h) (Attn.keys (rV V0) n h)
      (Attn.blk (rO V0) n h) (Attn.dls (rL V0) n h) a j := by
  unfold res_main_v136
  clean_types
  pointwise
  rw [sum_d015]
  pointwise
  rw [sum_d5, sum_d5]
  pointwise
  rw [v57_1_at, Attn.select_ofBool]
  simp only [v123_at, v104_at, v62_at, zero_add]
  unfold Attn.ds
  rw [ite_mul, zero_mul]
  rfl

theorem v138_at : (res_main_v138 V0 : S1x1x64x256x4x128.Idx → EReal) (ix6 0 0 n j h d) =
    Attn.dkAt (rQ V0) (rK V0) (rV V0) (rO V0) (rL V0) n h j d := by
  unfold res_main_v138
  clean_types
  pointwise
  simp only [v136_at, v6_at]
  rfl

/-! The three results. -/

/-- The gradient of `q`, as the reference assembles it. -/
def resQ : S8192x512.Idx → EReal :=
  shapeCast S8192x512 (shapeCast S1x8192x4x128 (transpose S1x8192x1x4x128 [0, 2, 1, 3, 4] (shapeCast S1x1x8192x4x128 (transpose S1x1x64x128x4x128 [0, 1, 2, 4, 3, 5] (Host.dotGeneral (F := Ideal) (φ₁ := .f32) (φ₂ := .f32) dot_S1x1x64x4x128x256_S1x1x64x256x4x128_S1x1x64x4x128x128_5_3_4_5_0123_0124 none (res_main_v136 V0) (res_main_v15 V0)) transposes_S1x1x64x4x128x128_S1x1x64x128x4x128_0_1_2_4_3_5) shapeCasts_S1x1x64x128x4x128_S1x1x8192x4x128) transposes_S1x1x8192x4x128_S1x8192x1x4x128_0_2_1_3_4) shapeCasts_S1x8192x1x4x128_S1x8192x4x128) shapeCasts_S1x8192x4x128_S8192x512

/-- A gradient of keys or values, as the reference assembles it of every block's part: rows 128 on of the block's
own, and rows 0 on of the next block's. -/
def resKV (x : S1x1x64x256x4x128.Idx → EReal) (y : S1x1x64x128x4x128.Idx → EReal) : S8192x512.Idx → EReal :=
  shapeCast S8192x512 (shapeCast S1x8192x4x128 (transpose S1x8192x1x4x128 [0, 2, 1, 3, 4] (shapeCast S1x1x8192x4x128 (addf (F := Ideal) (φ := .f32) (extractStridedSlice S1x1x64x128x4x128 ![0, 0, 0, 128, 0, 0] x slices_S1x1x64x256x4x128_S1x1x64x128x4x128_0_0_0_128_0_0) (pad S1x1x64x128x4x128 ![0, 0, 0, 0, 0, 0] ![0, 0, 1, 0, 0, 0] ![0, 0, 0, 0, 0, 0] (extractStridedSlice S1x1x63x128x4x128 ![0, 0, 1, 0, 0, 0] y slices_S1x1x64x128x4x128_S1x1x63x128x4x128_0_0_1_0_0_0) (constant (F := Ideal) S_ .f32 0x00000000#32) pads_S1x1x63x128x4x128_S1x1x64x128x4x128_000_000_010_000_000_000 h_S_)) shapeCasts_S1x1x64x128x4x128_S1x1x8192x4x128) transposes_S1x1x8192x4x128_S1x8192x1x4x128_0_2_1_3_4) shapeCasts_S1x8192x1x4x128_S1x8192x4x128) shapeCasts_S1x8192x4x128_S8192x512

theorem resQ_at (r : Fin 8192) (c : Fin 512) :
    resQ V0 (ix2 r c) = Attn.asm (Attn.dq (rQ V0) (rK V0) (rV V0) (rO V0) (rL V0)) r c := by
  unfold resQ
  pointwise
  simp only [v136_at, v15_at]
  rfl

theorem resKV_at (x : S1x1x64x256x4x128.Idx → EReal) (y : S1x1x64x128x4x128.Idx → EReal)
    (f : Fin 64 → Fin 4 → Fin 256 → Fin 128 → EReal)
    (hx : ∀ n h j d, x (ix6 0 0 n j h d) = f n h j d)
    (hy : ∀ n h (a d : Fin 128), y (ix6 0 0 n a h d) = f n h ⟨a.val, by have := a.isLt; omega⟩ d)
    (r : Fin 8192) (c : Fin 512) :
    resKV x y (ix2 r c) = Attn.asm (Attn.both f) r c := by
  unfold resKV
  pointwise
  simp only [hx, hy]
  unfold Attn.asm Attn.both
  have hr := r.isLt
  have hc := c.isLt
  refine congrArg _ ?_
  by_cases hn : r.val / 128 < 63
  · have hp : r.val / 128 < 63 ∧ r.val % 128 < 128 ∧ c.val / 128 < 4 ∧ c.val % 128 < 128 := by omega
    refine (dif_pos hp).trans (Eq.trans ?_ (dif_pos hn).symm)
    have e : (⟨1 + r.val / 128, by omega⟩ : Fin 64) = ⟨r.val / 128 + 1, by omega⟩ := Fin.ext (Nat.add_comm _ _)
    exact congrArg (fun N : Fin 64 => f N ⟨c.val / 128, by omega⟩ ⟨r.val % 128, by omega⟩ ⟨c.val % 128, by omega⟩) e
  · have hp : ¬ (r.val / 128 < 63 ∧ r.val % 128 < 128 ∧ c.val / 128 < 4 ∧ c.val % 128 < 128) := fun h => hn h.1
    refine (dif_neg hp).trans ?_
    symm
    split
    · exact absurd ‹_› hn
    · rfl

theorem v141_at : (res_main_v141 V0 : S1x1x64x128x4x128.Idx → EReal) (ix6 0 0 n a h d) =
    Attn.dvAt (rQ V0) (rK V0) (rO V0) n h ⟨a.val, by have := a.isLt; omega⟩ d := by
  unfold res_main_v141
  clean_types
  pointwise
  rw [v109_at]

theorem v150_at : (res_main_v150 V0 : S1x1x64x128x4x128.Idx → EReal) (ix6 0 0 n a h d) =
    Attn.dkAt (rQ V0) (rK V0) (rV V0) (rO V0) (rL V0) n h ⟨a.val, by have := a.isLt; omega⟩ d := by
  unfold res_main_v150
  clean_types
  pointwise
  rw [v138_at]

end Cert.ReferenceIdeal.Value
end
-- ==== Proof.lean ====
/- The claims. The first program is the gradient of the dilated attention's first group: its three frames, its
   idealization, and the equation of the kernel's three arrays with the gradient that the reference takes, both sides read
   as the functions of Proof/Blocks.lean. The others are the products of the feed-forward layer, of the projections and
   of the memory, forward and backward, and the gradient of the norm: for each, its frames, and the equation of its arrays
   with those that the reference computes, both sides read as the function that Proof/<its name>.lean names. -/
module

public import proofs.«01_k».proof.Proof.DownAct
public import proofs.«01_k».proof.Proof.Gen.DownAct
public import proofs.«01_k».proof.Proof.DownWeight
public import proofs.«01_k».proof.Proof.Gen.DownWeight
public import proofs.«01_k».proof.Proof.UpAct
public import proofs.«01_k».proof.Proof.Gen.UpAct
public import proofs.«01_k».proof.Proof.UpGate
public import proofs.«01_k».proof.Proof.Gen.UpGate
public import proofs.«01_k».proof.Proof.UpValue
public import proofs.«01_k».proof.Proof.Gen.UpValue
public import proofs.«01_k».proof.Proof.Up
public import proofs.«01_k».proof.Proof.Gen.Up
public import proofs.«01_k».proof.Proof.Down
public import proofs.«01_k».proof.Proof.Gen.Down
public import proofs.«01_k».proof.Proof.InA
public import proofs.«01_k».proof.Proof.Gen.InA
public import proofs.«01_k».proof.Proof.InB
public import proofs.«01_k».proof.Proof.Gen.InB
public import proofs.«01_k».proof.Proof.InC
public import proofs.«01_k».proof.Proof.Gen.InC
public import proofs.«01_k».proof.Proof.InD
public import proofs.«01_k».proof.Proof.Gen.InD
public import proofs.«01_k».proof.Proof.InActA
public import proofs.«01_k».proof.Proof.Gen.InActA
public import proofs.«01_k».proof.Proof.InActB
public import proofs.«01_k».proof.Proof.Gen.InActB
public import proofs.«01_k».proof.Proof.InActC
public import proofs.«01_k».proof.Proof.Gen.InActC
public import proofs.«01_k».proof.Proof.InActD
public import proofs.«01_k».proof.Proof.Gen.InActD
public import proofs.«01_k».proof.Proof.InWeightQ
public import proofs.«01_k».proof.Proof.Gen.InWeightQ
public import proofs.«01_k».proof.Proof.InWeightV
public import proofs.«01_k».proof.Proof.Gen.InWeightV
public import proofs.«01_k».proof.Proof.InWeightF
public import proofs.«01_k».proof.Proof.Gen.InWeightF
public import proofs.«01_k».proof.Proof.InWeightI
public import proofs.«01_k».proof.Proof.Gen.InWeightI
public import proofs.«01_k».proof.Proof.InWeightX
public import proofs.«01_k».proof.Proof.Gen.InWeightX
public import proofs.«01_k».proof.Proof.InWeightK
public import proofs.«01_k».proof.Proof.Gen.InWeightK
public import proofs.«01_k».proof.Proof.InWeightO
public import proofs.«01_k».proof.Proof.Gen.InWeightO
public import proofs.«01_k».proof.Proof.InWeightC
public import proofs.«01_k».proof.Proof.Gen.InWeightC
public import proofs.«01_k».proof.Proof.OutA
public import proofs.«01_k».proof.Proof.Gen.OutA
public import proofs.«01_k».proof.Proof.OutB
public import proofs.«01_k».proof.Proof.Gen.OutB
public import proofs.«01_k».proof.Proof.OutC
public import proofs.«01_k».proof.Proof.Gen.OutC
public import proofs.«01_k».proof.Proof.OutD
public import proofs.«01_k».proof.Proof.Gen.OutD
public import proofs.«01_k».proof.Proof.OutActA
public import proofs.«01_k».proof.Proof.Gen.OutActA
public import proofs.«01_k».proof.Proof.OutActB
public import proofs.«01_k».proof.Proof.Gen.OutActB
public import proofs.«01_k».proof.Proof.OutActC
public import proofs.«01_k».proof.Proof.Gen.OutActC
public import proofs.«01_k».proof.Proof.OutActD
public import proofs.«01_k».proof.Proof.Gen.OutActD
public import proofs.«01_k».proof.Proof.OutWeightA
public import proofs.«01_k».proof.Proof.Gen.OutWeightA
public import proofs.«01_k».proof.Proof.OutWeightB
public import proofs.«01_k».proof.Proof.Gen.OutWeightB
public import proofs.«01_k».proof.Proof.OutWeightC
public import proofs.«01_k».proof.Proof.Gen.OutWeightC
public import proofs.«01_k».proof.Proof.OutWeightD
public import proofs.«01_k».proof.Proof.Gen.OutWeightD
public import proofs.«01_k».proof.Proof.NormGrad
public import proofs.«01_k».proof.Proof.Gen.NormGrad
public import proofs.«01_k».proof.Proof.InWeightG
public import proofs.«01_k».proof.Proof.Gen.InWeightG
public import proofs.«01_k».proof.Proof.InWeightT
public import proofs.«01_k».proof.Proof.Gen.InWeightT
public import proofs.«01_k».proof.Proof.Mem
public import proofs.«01_k».proof.Proof.Gen.Mem
public import proofs.«01_k».proof.Proof.MemAct
public import proofs.«01_k».proof.Proof.Gen.MemAct
public import proofs.«01_k».proof.Proof.MemWeight
public import proofs.«01_k».proof.Proof.Gen.MemWeight
public import proofs.«01_k».proof.Proof.KFinal
public import proofs.«01_k».proof.Proof.RRun
public import proofs.«01_k».proof.Proof.RIdeal
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.PFrame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import Idealize.ShloMosaic.Adequacy
public import Idealize.ShloMosaic.Init

@[expose] public section

noncomputable section

namespace Cert.ReferenceIdeal.Value

open Cert.ReferenceIdeal Cert.ReferenceIdeal.Gen Idealize.ShloMosaic Idealize.ShloMosaic.StableHlo

variable (V0 : Valuation τ sig (Elt Ideal))

theorem resQ_eq : resQ V0 = fun i => Attn.asm (Attn.dq (rQ V0) (rK V0) (rV V0) (rO V0) (rL V0)) (i 0) (i 1) := by
  funext i; idx_vars i; exact resQ_at V0 _ _

theorem resK_eq : resKV (res_main_v138 V0) (res_main_v150 V0) =
    fun i => Attn.asm (Attn.dk (rQ V0) (rK V0) (rV V0) (rO V0) (rL V0)) (i 0) (i 1) := by
  funext i; idx_vars i; exact resKV_at _ _ _ (fun n h j d => v138_at V0 n h d j) (fun n h a d => v150_at V0 n h a d) _ _

theorem resV_eq : resKV (res_main_v109 V0) (res_main_v141 V0) =
    fun i => Attn.asm (Attn.dv (rQ V0) (rK V0) (rO V0)) (i 0) (i 1) := by
  funext i; idx_vars i; exact resKV_at _ _ _ (fun n h j d => v109_at V0 n h d j) (fun n h a d => v141_at V0 n h a d) _ _

end Cert.ReferenceIdeal.Value

namespace Cert.Proof

open Idealize.ShloMosaic Idealize.SL.Sem

theorem frame_p : Cert.quiescent_Kernel := fun m ρ _ => Cert.Kernel.Gen.frame m ρ
theorem frame_pi : Cert.quiescent_KernelIdeal := fun m ρ _ => Cert.KernelIdeal.Gen.frame m ρ
theorem frame_ri : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The mask's constant, which stands for minus infinity, denotes it. -/
theorem preserves : Cert.preserves_Kernel_KernelIdeal :=
  IdealRules.named_const.statement Cert.KernelIdeal.κ "mask" .f32 0xF149F2CA#32 ⊥ rfl

/-- Of arguments that agree, the kernel's three arrays and the reference's are the gradient of `Blocks`. -/
theorem algebraic : Cert.algebraic_KernelIdeal_ReferenceIdeal := by
  intro m ρ m' ρ' _ hagree
  have hQ (c : Dev Cert.KernelIdeal.nD) : Cert.ReferenceIdeal.Value.rQ (StableHlo.launchContents m' c) = Cert.KernelIdeal.Value.aQ m c :=
    funext fun i => funext fun j => congrFun (hagree c).1 (ix2 i j)
  have hK (c : Dev Cert.KernelIdeal.nD) : Cert.ReferenceIdeal.Value.rK (StableHlo.launchContents m' c) = Cert.KernelIdeal.Value.aK m c :=
    funext fun i => funext fun j => congrFun (hagree c).2.1 (ix2 i j)
  have hV (c : Dev Cert.KernelIdeal.nD) : Cert.ReferenceIdeal.Value.rV (StableHlo.launchContents m' c) = Cert.KernelIdeal.Value.aV m c :=
    funext fun i => funext fun j => congrFun (hagree c).2.2.1 (ix2 i _)
  have hO (c : Dev Cert.KernelIdeal.nD) : Cert.ReferenceIdeal.Value.rO (StableHlo.launchContents m' c) = Cert.KernelIdeal.Value.aO m c :=
    funext fun i => funext fun j => congrFun (hagree c).2.2.2.1 (ix2 i j)
  have hL (c : Dev Cert.KernelIdeal.nD) : Cert.ReferenceIdeal.Value.rL (StableHlo.launchContents m' c) = Cert.KernelIdeal.Value.aL m c :=
    funext fun i => funext fun j => congrFun (hagree c).2.2.2.2 (ix2 i j)
  refine ⟨_, _, _, Cert.KernelIdeal.Value.run_blocks (F := Ideal) m ρ, ?_⟩
  refine (θ_run Cert.ReferenceIdeal.defs _ _).mono (fun _ h c =>
    ⟨(h c).1.trans ?_, (h c).2.1.trans ?_, (h c).2.2.1.trans ?_, (h c).2.2.2⟩)
    (Cert.ReferenceIdeal.Value.run (F := Ideal) m' ρ')
  · rw [Cert.KernelIdeal.Value.final_q]
    refine (Cert.ReferenceIdeal.Value.resQ_eq _).trans ?_
    rw [hQ c, hK c, hV c, hO c, hL c]
    rfl
  · rw [Cert.KernelIdeal.Value.final_k]
    refine (Cert.ReferenceIdeal.Value.resK_eq _).trans ?_
    rw [hQ c, hK c, hV c, hO c, hL c]
    rfl
  · rw [Cert.KernelIdeal.Value.final_v]
    refine (Cert.ReferenceIdeal.Value.resV_eq _).trans ?_
    rw [hQ c, hK c, hO c]
    rfl

/-! The products and the norm. A printed program and the one read over the reals run the same body table, for their text
is the same: `defs_` and the program's name. -/

theorem defs_DownAct : Cert.DownAct.defs (F := Bits) = Cert.DownActIdeal.defs (F := Bits) :=
  congrArg (Pipeline.defs _) (congrArg Defs.onTc (funext fun l => funext fun x => match l, x with
    | 0, _ => rfl))
theorem frame_DownAct : Cert.quiescent_DownAct := fun m ρ _ => by
  rw [defs_DownAct]
  exact Cert.DownActIdeal.Gen.frame (F := Bits) m ρ
theorem frame_DownActIdeal : Cert.quiescent_DownActIdeal := fun m ρ _ => Cert.DownActIdeal.Gen.frame m ρ
theorem frame_DownActReferenceIdeal : Cert.quiescent_DownActReferenceIdeal := fun m ρ _ =>
  (θ_run Cert.DownActReferenceIdeal.defs _ _).mono (fun r h => ⟨fun c => (h c).2,
      Idealize.ShloMosaic.sem_eq_zero_of_no_sems (by decide) r.2⟩)
    (Cert.DownActReferenceIdeal.Value.run (F := Ideal) m ρ)
theorem algebraic_DownAct : Cert.algebraic_DownActIdeal_DownActReferenceIdeal := by
  intro m ρ m' ρ' _ hagree
  refine ⟨_, Cert.DownActIdeal.Value.run_blocks (F := Ideal) m ρ, (θ_run Cert.DownActReferenceIdeal.defs _ _).mono
    (fun _ h c => ⟨(h c).1.trans ?_, (h c).2⟩) (Cert.DownActReferenceIdeal.Value.run (F := Ideal) m' ρ')⟩
  rw [Cert.DownActIdeal.Value.final, (hagree c).1, (hagree c).2]
  exact Cert.DownActReferenceIdeal.Value.grad_eq _ _

theorem defs_DownWeight : Cert.DownWeight.defs (F := Bits) = Cert.DownWeightIdeal.defs (F := Bits) :=
  congrArg (Pipeline.defs _) (congrArg Defs.onTc (funext fun l => funext fun x => match l, x with
    | 0, _ => rfl))
theorem frame_DownWeight : Cert.quiescent_DownWeight := fun m ρ _ => by
  rw [defs_DownWeight]
  exact Cert.DownWeightIdeal.Gen.frame (F := Bits) m ρ
theorem frame_DownWeightIdeal : Cert.quiescent_DownWeightIdeal := fun m ρ _ => Cert.DownWeightIdeal.Gen.frame m ρ
theorem frame_DownWeightReferenceIdeal : Cert.quiescent_DownWeightReferenceIdeal := fun m ρ _ =>
  (θ_run Cert.DownWeightReferenceIdeal.defs _ _).mono (fun r h => ⟨fun c => (h c).2,
      Idealize.ShloMosaic.sem_eq_zero_of_no_sems (by decide) r.2⟩)
    (Cert.DownWeightReferenceIdeal.Value.run (F := Ideal) m ρ)
theorem algebraic_DownWeight : Cert.algebraic_DownWeightIdeal_DownWeightReferenceIdeal := by
  intro m ρ m' ρ' _ hagree
  refine ⟨_, Cert.DownWeightIdeal.Value.run_blocks (F := Ideal) m ρ, (θ_run Cert.DownWeightReferenceIdeal.defs _ _).mono
    (fun _ h c => ⟨(h c).1.trans ?_, (h c).2⟩) (Cert.DownWeightReferenceIdeal.Value.run (F := Ideal) m' ρ')⟩
  rw [Cert.DownWeightIdeal.Value.final, (hagree c).1, (hagree c).2]
  exact Cert.DownWeightReferenceIdeal.Value.grad_eq _ _

theorem defs_UpAct : Cert.UpAct.defs (F := Bits) = Cert.UpActIdeal.defs (F := Bits) :=
  congrArg (Pipeline.defs _) (congrArg Defs.onTc (funext fun l => funext fun x => match l, x with
    | 0, _ => rfl))
theorem frame_UpAct : Cert.quiescent_UpAct := fun m ρ _ => by
  rw [defs_UpAct]
  exact Cert.UpActIdeal.Gen.frame (F := Bits) m ρ
theorem frame_UpActIdeal : Cert.quiescent_UpActIdeal := fun m ρ _ => Cert.UpActIdeal.Gen.frame m ρ
theorem frame_UpActReferenceIdeal : Cert.quiescent_UpActReferenceIdeal := fun m ρ _ =>
  (θ_run Cert.UpActReferenceIdeal.defs _ _).mono (fun r h => ⟨fun c => (h c).2,
      Idealize.ShloMosaic.sem_eq_zero_of_no_sems (by decide) r.2⟩)
    (Cert.UpActReferenceIdeal.Value.run (F := Ideal) m ρ)
theorem algebraic_UpAct : Cert.algebraic_UpActIdeal_UpActReferenceIdeal := by
  intro m ρ m' ρ' _ hagree
  refine ⟨_, Cert.UpActIdeal.Value.run_blocks (F := Ideal) m ρ, (θ_run Cert.UpActReferenceIdeal.defs _ _).mono
    (fun _ h c => ⟨(h c).1.trans ?_, (h c).2⟩) (Cert.UpActReferenceIdeal.Value.run (F := Ideal) m' ρ')⟩
  rw [Cert.UpActIdeal.Value.final, (hagree c).1, (hagree c).2.1, (hagree c).2.2]
  exact Cert.UpActReferenceIdeal.Value.grad_eq _ _ _

theorem defs_UpGate : Cert.UpGate.defs (F := Bits) = Cert.UpGateIdeal.defs (F := Bits) :=
  congrArg (Pipeline.defs _) (congrArg Defs.onTc (funext fun l => funext fun x => match l, x with
    | 0, _ => rfl))
theorem frame_UpGate : Cert.quiescent_UpGate := fun m ρ _ => by
  rw [defs_UpGate]
  exact Cert.UpGateIdeal.Gen.frame (F := Bits) m ρ
theorem frame_UpGateIdeal : Cert.quiescent_UpGateIdeal := fun m ρ _ => Cert.UpGateIdeal.Gen.frame m ρ
theorem frame_UpGateReferenceIdeal : Cert.quiescent_UpGateReferenceIdeal := fun m ρ _ =>
  (θ_run Cert.UpGateReferenceIdeal.defs _ _).mono (fun r h => ⟨fun c => (h c).2,
      Idealize.ShloMosaic.sem_eq_zero_of_no_sems (by decide) r.2⟩)
    (Cert.UpGateReferenceIdeal.Value.run (F := Ideal) m ρ)
theorem algebraic_UpGate : Cert.algebraic_UpGateIdeal_UpGateReferenceIdeal := by
  intro m ρ m' ρ' _ hagree
  refine ⟨_, Cert.UpGateIdeal.Value.run_blocks (F := Ideal) m ρ, (θ_run Cert.UpGateReferenceIdeal.defs _ _).mono
    (fun _ h c => ⟨(h c).1.trans ?_, (h c).2⟩) (Cert.UpGateReferenceIdeal.Value.run (F := Ideal) m' ρ')⟩
  rw [Cert.UpGateIdeal.Value.final, (hagree c).1, (hagree c).2.1, (hagree c).2.2]
  exact Cert.UpGateReferenceIdeal.Value.grad_eq _ _ _

theorem defs_UpValue : Cert.UpValue.defs (F := Bits) = Cert.UpValueIdeal.defs (F := Bits) :=
  congrArg (Pipeline.defs _) (congrArg Defs.onTc (funext fun l => funext fun x => match l, x with
    | 0, _ => rfl))
theorem frame_UpValue : Cert.quiescent_UpValue := fun m ρ _ => by
  rw [defs_UpValue]
  exact Cert.UpValueIdeal.Gen.frame (F := Bits) m ρ
theorem frame_UpValueIdeal : Cert.quiescent_UpValueIdeal := fun m ρ _ => Cert.UpValueIdeal.Gen.frame m ρ
theorem frame_UpValueReferenceIdeal : Cert.quiescent_UpValueReferenceIdeal := fun m ρ _ =>
  (θ_run Cert.UpValueReferenceIdeal.defs _ _).mono (fun r h => ⟨fun c => (h c).2,
      Idealize.ShloMosaic.sem_eq_zero_of_no_sems (by decide) r.2⟩)
    (Cert.UpValueReferenceIdeal.Value.run (F := Ideal) m ρ)
theorem algebraic_UpValue : Cert.algebraic_UpValueIdeal_UpValueReferenceIdeal := by
  intro m ρ m' ρ' _ hagree
  refine ⟨_, Cert.UpValueIdeal.Value.run_blocks (F := Ideal) m ρ, (θ_run Cert.UpValueReferenceIdeal.defs _ _).mono
    (fun _ h c => ⟨(h c).1.trans ?_, (h c).2⟩) (Cert.UpValueReferenceIdeal.Value.run (F := Ideal) m' ρ')⟩
  rw [Cert.UpValueIdeal.Value.final, (hagree c).1, (hagree c).2.1, (hagree c).2.2]
  exact Cert.UpValueReferenceIdeal.Value.grad_eq _ _ _

theorem defs_Up : Cert.Up.defs (F := Bits) = Cert.UpIdeal.defs (F := Bits) :=
  congrArg (Pipeline.defs _) (congrArg Defs.onTc (funext fun l => funext fun x => match l, x with
    | 0, _ => rfl))
theorem frame_Up : Cert.quiescent_Up := fun m ρ _ => by
  rw [defs_Up]
  exact Cert.UpIdeal.Gen.frame (F := Bits) m ρ
theorem frame_UpIdeal : Cert.quiescent_UpIdeal := fun m ρ _ => Cert.UpIdeal.Gen.frame m ρ
theorem frame_UpReferenceIdeal : Cert.quiescent_UpReferenceIdeal := fun m ρ _ =>
  (θ_run Cert.UpReferenceIdeal.defs _ _).mono (fun r h => ⟨fun c => (h c).2,
      Idealize.ShloMosaic.sem_eq_zero_of_no_sems (by decide) r.2⟩)
    (Cert.UpReferenceIdeal.Value.run (F := Ideal) m ρ)
theorem algebraic_Up : Cert.algebraic_UpIdeal_UpReferenceIdeal := by
  intro m ρ m' ρ' _ hagree
  refine ⟨_, Cert.UpIdeal.Value.run_blocks (F := Ideal) m ρ, (θ_run Cert.UpReferenceIdeal.defs _ _).mono
    (fun _ h c => ⟨(h c).1.trans ?_, (h c).2⟩) (Cert.UpReferenceIdeal.Value.run (F := Ideal) m' ρ')⟩
  rw [Cert.UpIdeal.Value.final, (hagree c).1, (hagree c).2]
  exact Cert.UpReferenceIdeal.Value.prod_eq _ _

theorem defs_Down : Cert.Down.defs (F := Bits) = Cert.DownIdeal.defs (F := Bits) :=
  congrArg (Pipeline.defs _) (congrArg Defs.onTc (funext fun l => funext fun x => match l, x with
    | 0, _ => rfl))
theorem frame_Down : Cert.quiescent_Down := fun m ρ _ => by
  rw [defs_Down]
  exact Cert.DownIdeal.Gen.frame (F := Bits) m ρ
theorem frame_DownIdeal : Cert.quiescent_DownIdeal := fun m ρ _ => Cert.DownIdeal.Gen.frame m ρ
theorem frame_DownReferenceIdeal : Cert.quiescent_DownReferenceIdeal := fun m ρ _ =>
  (θ_run Cert.DownReferenceIdeal.defs _ _).mono (fun r h => ⟨fun c => (h c).2,
      Idealize.ShloMosaic.sem_eq_zero_of_no_sems (by decide) r.2⟩)
    (Cert.DownReferenceIdeal.Value.run (F := Ideal) m ρ)
theorem algebraic_Down : Cert.algebraic_DownIdeal_DownReferenceIdeal := by
  intro m ρ m' ρ' _ hagree
  refine ⟨_, Cert.DownIdeal.Value.run_blocks (F := Ideal) m ρ, (θ_run Cert.DownReferenceIdeal.defs _ _).mono
    (fun _ h c => ⟨(h c).1.trans ?_, (h c).2⟩) (Cert.DownReferenceIdeal.Value.run (F := Ideal) m' ρ')⟩
  rw [Cert.DownIdeal.Value.final, (hagree c).1, (hagree c).2.1, (hagree c).2.2]
  exact Cert.DownReferenceIdeal.Value.prodAdd_eq _ _ _

theorem defs_InA : Cert.InA.defs (F := Bits) = Cert.InAIdeal.defs (F := Bits) :=
  congrArg (Pipeline.defs _) (congrArg Defs.onTc (funext fun l => funext fun x => match l, x with
    | 0, _ => rfl))
theorem frame_InA : Cert.quiescent_InA := fun m ρ _ => by
  rw [defs_InA]
  exact Cert.InAIdeal.Gen.frame (F := Bits) m ρ
theorem frame_InAIdeal : Cert.quiescent_InAIdeal := fun m ρ _ => Cert.InAIdeal.Gen.frame m ρ
theorem frame_InAReferenceIdeal : Cert.quiescent_InAReferenceIdeal := fun m ρ _ =>
  (θ_run Cert.InAReferenceIdeal.defs _ _).mono (fun r h => ⟨fun c => (h c).2.2.2.2.2.2,
      Idealize.ShloMosaic.sem_eq_zero_of_no_sems (by decide) r.2⟩)
    (Cert.InAReferenceIdeal.Value.run (F := Ideal) m ρ)
theorem algebraic_InA : Cert.algebraic_InAIdeal_InAReferenceIdeal := by
  intro m ρ m' ρ' _ hagree
  refine ⟨_, _, _, _, _, _, Cert.InAIdeal.Value.run_blocks (F := Ideal) m ρ, (θ_run Cert.InAReferenceIdeal.defs _ _).mono
    (fun _ h c => ⟨(h c).1.trans ?_, (h c).2.1.trans ?_, (h c).2.2.1.trans ?_, (h c).2.2.2.1.trans ?_, (h
      c).2.2.2.2.1.trans ?_, (h c).2.2.2.2.2.1.trans ?_,
      (h c).2.2.2.2.2.2⟩) (Cert.InAReferenceIdeal.Value.run (F := Ideal) m' ρ')⟩
  · rw [Cert.InAIdeal.Value.final7, (hagree c).1, (hagree c).2.1]
    exact Cert.InAReferenceIdeal.Value.prod_eq_512 _ _
  · rw [Cert.InAIdeal.Value.final8, (hagree c).1, (hagree c).2.2.1]
    exact Cert.InAReferenceIdeal.Value.prod_eq_512 _ _
  · rw [Cert.InAIdeal.Value.final9, (hagree c).1, (hagree c).2.2.2.1]
    exact Cert.InAReferenceIdeal.Value.prod_eq_1024 _ _
  · rw [Cert.InAIdeal.Value.final10, (hagree c).1, (hagree c).2.2.2.2.1]
    exact Cert.InAReferenceIdeal.Value.prod_eq_128 _ _
  · rw [Cert.InAIdeal.Value.final11, (hagree c).1, (hagree c).2.2.2.2.2.1]
    exact Cert.InAReferenceIdeal.Value.prod_eq_1024 _ _
  · rw [Cert.InAIdeal.Value.final12, (hagree c).1, (hagree c).2.2.2.2.2.2]
    exact Cert.InAReferenceIdeal.Value.prod_eq_512 _ _

theorem defs_InB : Cert.InB.defs (F := Bits) = Cert.InBIdeal.defs (F := Bits) :=
  congrArg (Pipeline.defs _) (congrArg Defs.onTc (funext fun l => funext fun x => match l, x with
    | 0, _ => rfl))
theorem frame_InB : Cert.quiescent_InB := fun m ρ _ => by
  rw [defs_InB]
  exact Cert.InBIdeal.Gen.frame (F := Bits) m ρ
theorem frame_InBIdeal : Cert.quiescent_InBIdeal := fun m ρ _ => Cert.InBIdeal.Gen.frame m ρ
theorem frame_InBReferenceIdeal : Cert.quiescent_InBReferenceIdeal := fun m ρ _ =>
  (θ_run Cert.InBReferenceIdeal.defs _ _).mono (fun r h => ⟨fun c => (h c).2.2.2.2,
      Idealize.ShloMosaic.sem_eq_zero_of_no_sems (by decide) r.2⟩)
    (Cert.InBReferenceIdeal.Value.run (F := Ideal) m ρ)
theorem algebraic_InB : Cert.algebraic_InBIdeal_InBReferenceIdeal := by
  intro m ρ m' ρ' _ hagree
  refine ⟨_, _, _, _, Cert.InBIdeal.Value.run_blocks (F := Ideal) m ρ, (θ_run Cert.InBReferenceIdeal.defs _ _).mono
    (fun _ h c => ⟨(h c).1.trans ?_, (h c).2.1.trans ?_, (h c).2.2.1.trans ?_, (h c).2.2.2.1.trans ?_,
      (h c).2.2.2.2⟩) (Cert.InBReferenceIdeal.Value.run (F := Ideal) m' ρ')⟩
  · rw [Cert.InBIdeal.Value.final5, (hagree c).1, (hagree c).2.1]
    exact Cert.InBReferenceIdeal.Value.prod_eq_1536 _ _
  · rw [Cert.InBIdeal.Value.final6, (hagree c).1, (hagree c).2.2.1]
    exact Cert.InBReferenceIdeal.Value.prod_eq_1536 _ _
  · rw [Cert.InBIdeal.Value.final7, (hagree c).1, (hagree c).2.2.2.1]
    exact Cert.InBReferenceIdeal.Value.prod_eq_1536 _ _
  · rw [Cert.InBIdeal.Value.final8, (hagree c).1, (hagree c).2.2.2.2]
    exact Cert.InBReferenceIdeal.Value.prod_eq_512 _ _

theorem defs_InC : Cert.InC.defs (F := Bits) = Cert.InCIdeal.defs (F := Bits) :=
  congrArg (Pipeline.defs _) (congrArg Defs.onTc (funext fun l => funext fun x => match l, x with
    | 0, _ => rfl))
theorem frame_InC : Cert.quiescent_InC := fun m ρ _ => by
  rw [defs_InC]
  exact Cert.InCIdeal.Gen.frame (F := Bits) m ρ
theorem frame_InCIdeal : Cert.quiescent_InCIdeal := fun m ρ _ => Cert.InCIdeal.Gen.frame m ρ
theorem frame_InCReferenceIdeal : Cert.quiescent_InCReferenceIdeal := fun m ρ _ =>
  (θ_run Cert.InCReferenceIdeal.defs _ _).mono (fun r h => ⟨fun c => (h c).2.2.2.2,
      Idealize.ShloMosaic.sem_eq_zero_of_no_sems (by decide) r.2⟩)
    (Cert.InCReferenceIdeal.Value.run (F := Ideal) m ρ)
theorem algebraic_InC : Cert.algebraic_InCIdeal_InCReferenceIdeal := by
  intro m ρ m' ρ' _ hagree
  refine ⟨_, _, _, _, Cert.InCIdeal.Value.run_blocks (F := Ideal) m ρ, (θ_run Cert.InCReferenceIdeal.defs _ _).mono
    (fun _ h c => ⟨(h c).1.trans ?_, (h c).2.1.trans ?_, (h c).2.2.1.trans ?_, (h c).2.2.2.1.trans ?_,
      (h c).2.2.2.2⟩) (Cert.InCReferenceIdeal.Value.run (F := Ideal) m' ρ')⟩
  · rw [Cert.InCIdeal.Value.final5, (hagree c).1, (hagree c).2.1]
    exact Cert.InCReferenceIdeal.Value.prod_eq_1536 _ _
  · rw [Cert.InCIdeal.Value.final6, (hagree c).1, (hagree c).2.2.1]
    exact Cert.InCReferenceIdeal.Value.prod_eq_2048 _ _
  · rw [Cert.InCIdeal.Value.final7, (hagree c).1, (hagree c).2.2.2.1]
    exact Cert.InCReferenceIdeal.Value.prod_eq_128 _ _
  · rw [Cert.InCIdeal.Value.final8, (hagree c).1, (hagree c).2.2.2.2]
    exact Cert.InCReferenceIdeal.Value.prod_eq_512 _ _

theorem defs_InD : Cert.InD.defs (F := Bits) = Cert.InDIdeal.defs (F := Bits) :=
  congrArg (Pipeline.defs _) (congrArg Defs.onTc (funext fun l => funext fun x => match l, x with
    | 0, _ => rfl))
theorem frame_InD : Cert.quiescent_InD := fun m ρ _ => by
  rw [defs_InD]
  exact Cert.InDIdeal.Gen.frame (F := Bits) m ρ
theorem frame_InDIdeal : Cert.quiescent_InDIdeal := fun m ρ _ => Cert.InDIdeal.Gen.frame m ρ
theorem frame_InDReferenceIdeal : Cert.quiescent_InDReferenceIdeal := fun m ρ _ =>
  (θ_run Cert.InDReferenceIdeal.defs _ _).mono (fun r h => ⟨fun c => (h c).2.2.2.2.2,
      Idealize.ShloMosaic.sem_eq_zero_of_no_sems (by decide) r.2⟩)
    (Cert.InDReferenceIdeal.Value.run (F := Ideal) m ρ)
theorem algebraic_InD : Cert.algebraic_InDIdeal_InDReferenceIdeal := by
  intro m ρ m' ρ' _ hagree
  refine ⟨_, _, _, _, _, Cert.InDIdeal.Value.run_blocks (F := Ideal) m ρ, (θ_run Cert.InDReferenceIdeal.defs _ _).mono
    (fun _ h c => ⟨(h c).1.trans ?_, (h c).2.1.trans ?_, (h c).2.2.1.trans ?_, (h c).2.2.2.1.trans ?_, (h
      c).2.2.2.2.1.trans ?_,
      (h c).2.2.2.2.2⟩) (Cert.InDReferenceIdeal.Value.run (F := Ideal) m' ρ')⟩
  · rw [Cert.InDIdeal.Value.final6, (hagree c).1, (hagree c).2.1]
    exact Cert.InDReferenceIdeal.Value.prod_eq_768 _ _
  · rw [Cert.InDIdeal.Value.final7, (hagree c).1, (hagree c).2.2.1]
    exact Cert.InDReferenceIdeal.Value.prod_eq_768 _ _
  · rw [Cert.InDIdeal.Value.final8, (hagree c).1, (hagree c).2.2.2.1]
    exact Cert.InDReferenceIdeal.Value.prod_eq_768 _ _
  · rw [Cert.InDIdeal.Value.final9, (hagree c).1, (hagree c).2.2.2.2.1]
    exact Cert.InDReferenceIdeal.Value.prod_eq_768 _ _
  · rw [Cert.InDIdeal.Value.final10, (hagree c).1, (hagree c).2.2.2.2.2]
    exact Cert.InDReferenceIdeal.Value.prod_eq_512 _ _

theorem defs_InActA : Cert.InActA.defs (F := Bits) = Cert.InActAIdeal.defs (F := Bits) :=
  congrArg (Pipeline.defs _) (congrArg Defs.onTc (funext fun l => funext fun x => match l, x with
    | 0, _ => rfl))
theorem frame_InActA : Cert.quiescent_InActA := fun m ρ _ => by
  rw [defs_InActA]
  exact Cert.InActAIdeal.Gen.frame (F := Bits) m ρ
theorem frame_InActAIdeal : Cert.quiescent_InActAIdeal := fun m ρ _ => Cert.InActAIdeal.Gen.frame m ρ
theorem frame_InActAReferenceIdeal : Cert.quiescent_InActAReferenceIdeal := fun m ρ _ =>
  (θ_run Cert.InActAReferenceIdeal.defs _ _).mono (fun r h => ⟨fun c => (h c).2,
      Idealize.ShloMosaic.sem_eq_zero_of_no_sems (by decide) r.2⟩)
    (Cert.InActAReferenceIdeal.Value.run (F := Ideal) m ρ)
theorem algebraic_InActA : Cert.algebraic_InActAIdeal_InActAReferenceIdeal := by
  intro m ρ m' ρ' _ hagree
  refine ⟨_, Cert.InActAIdeal.Value.run_blocks (F := Ideal) m ρ, (θ_run Cert.InActAReferenceIdeal.defs _ _).mono
    (fun _ h c => ⟨(h c).1.trans ?_, (h c).2⟩) (Cert.InActAReferenceIdeal.Value.run (F := Ideal) m' ρ')⟩
  rw [Cert.InActAIdeal.Value.final, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2.1, (hagree c).2.2.2.2.2.2.2.2.2.1, (hagree c).2.2.2.2.2.2.2.2.2.2.1, (hagree c).2.2.2.2.2.2.2.2.2.2.2]
  exact Cert.InActAReferenceIdeal.Value.grad_eq _ _ _ _ _ _ _ _ _ _ _ _

theorem defs_InActB : Cert.InActB.defs (F := Bits) = Cert.InActBIdeal.defs (F := Bits) :=
  congrArg (Pipeline.defs _) (congrArg Defs.onTc (funext fun l => funext fun x => match l, x with
    | 0, _ => rfl))
theorem frame_InActB : Cert.quiescent_InActB := fun m ρ _ => by
  rw [defs_InActB]
  exact Cert.InActBIdeal.Gen.frame (F := Bits) m ρ
theorem frame_InActBIdeal : Cert.quiescent_InActBIdeal := fun m ρ _ => Cert.InActBIdeal.Gen.frame m ρ
theorem frame_InActBReferenceIdeal : Cert.quiescent_InActBReferenceIdeal := fun m ρ _ =>
  (θ_run Cert.InActBReferenceIdeal.defs _ _).mono (fun r h => ⟨fun c => (h c).2,
      Idealize.ShloMosaic.sem_eq_zero_of_no_sems (by decide) r.2⟩)
    (Cert.InActBReferenceIdeal.Value.run (F := Ideal) m ρ)
theorem algebraic_InActB : Cert.algebraic_InActBIdeal_InActBReferenceIdeal := by
  intro m ρ m' ρ' _ hagree
  refine ⟨_, Cert.InActBIdeal.Value.run_blocks (F := Ideal) m ρ, (θ_run Cert.InActBReferenceIdeal.defs _ _).mono
    (fun _ h c => ⟨(h c).1.trans ?_, (h c).2⟩) (Cert.InActBReferenceIdeal.Value.run (F := Ideal) m' ρ')⟩
  rw [Cert.InActBIdeal.Value.final, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact Cert.InActBReferenceIdeal.Value.grad_eq _ _ _ _ _ _ _ _

theorem defs_InActC : Cert.InActC.defs (F := Bits) = Cert.InActCIdeal.defs (F := Bits) :=
  congrArg (Pipeline.defs _) (congrArg Defs.onTc (funext fun l => funext fun x => match l, x with
    | 0, _ => rfl))
theorem frame_InActC : Cert.quiescent_InActC := fun m ρ _ => by
  rw [defs_InActC]
  exact Cert.InActCIdeal.Gen.frame (F := Bits) m ρ
theorem frame_InActCIdeal : Cert.quiescent_InActCIdeal := fun m ρ _ => Cert.InActCIdeal.Gen.frame m ρ
theorem frame_InActCReferenceIdeal : Cert.quiescent_InActCReferenceIdeal := fun m ρ _ =>
  (θ_run Cert.InActCReferenceIdeal.defs _ _).mono (fun r h => ⟨fun c => (h c).2,
      Idealize.ShloMosaic.sem_eq_zero_of_no_sems (by decide) r.2⟩)
    (Cert.InActCReferenceIdeal.Value.run (F := Ideal) m ρ)
theorem algebraic_InActC : Cert.algebraic_InActCIdeal_InActCReferenceIdeal := by
  intro m ρ m' ρ' _ hagree
  refine ⟨_, Cert.InActCIdeal.Value.run_blocks (F := Ideal) m ρ, (θ_run Cert.InActCReferenceIdeal.defs _ _).mono
    (fun _ h c => ⟨(h c).1.trans ?_, (h c).2⟩) (Cert.InActCReferenceIdeal.Value.run (F := Ideal) m' ρ')⟩
  rw [Cert.InActCIdeal.Value.final, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact Cert.InActCReferenceIdeal.Value.grad_eq _ _ _ _ _ _ _ _

theorem defs_InActD : Cert.InActD.defs (F := Bits) = Cert.InActDIdeal.defs (F := Bits) :=
  congrArg (Pipeline.defs _) (congrArg Defs.onTc (funext fun l => funext fun x => match l, x with
    | 0, _ => rfl))
theorem frame_InActD : Cert.quiescent_InActD := fun m ρ _ => by
  rw [defs_InActD]
  exact Cert.InActDIdeal.Gen.frame (F := Bits) m ρ
theorem frame_InActDIdeal : Cert.quiescent_InActDIdeal := fun m ρ _ => Cert.InActDIdeal.Gen.frame m ρ
theorem frame_InActDReferenceIdeal : Cert.quiescent_InActDReferenceIdeal := fun m ρ _ =>
  (θ_run Cert.InActDReferenceIdeal.defs _ _).mono (fun r h => ⟨fun c => (h c).2,
      Idealize.ShloMosaic.sem_eq_zero_of_no_sems (by decide) r.2⟩)
    (Cert.InActDReferenceIdeal.Value.run (F := Ideal) m ρ)
theorem algebraic_InActD : Cert.algebraic_InActDIdeal_InActDReferenceIdeal := by
  intro m ρ m' ρ' _ hagree
  refine ⟨_, Cert.InActDIdeal.Value.run_blocks (F := Ideal) m ρ, (θ_run Cert.InActDReferenceIdeal.defs _ _).mono
    (fun _ h c => ⟨(h c).1.trans ?_, (h c).2⟩) (Cert.InActDReferenceIdeal.Value.run (F := Ideal) m' ρ')⟩
  rw [Cert.InActDIdeal.Value.final, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2.1, (hagree c).2.2.2.2.2.2.2.2.2]
  exact Cert.InActDReferenceIdeal.Value.grad_eq _ _ _ _ _ _ _ _ _ _

theorem defs_InWeightQ : Cert.InWeightQ.defs (F := Bits) = Cert.InWeightQIdeal.defs (F := Bits) :=
  congrArg (Pipeline.defs _) (congrArg Defs.onTc (funext fun l => funext fun x => match l, x with
    | 0, _ => rfl))
theorem frame_InWeightQ : Cert.quiescent_InWeightQ := fun m ρ _ => by
  rw [defs_InWeightQ]
  exact Cert.InWeightQIdeal.Gen.frame (F := Bits) m ρ
theorem frame_InWeightQIdeal : Cert.quiescent_InWeightQIdeal := fun m ρ _ => Cert.InWeightQIdeal.Gen.frame m ρ
theorem frame_InWeightQReferenceIdeal : Cert.quiescent_InWeightQReferenceIdeal := fun m ρ _ =>
  (θ_run Cert.InWeightQReferenceIdeal.defs _ _).mono (fun r h => ⟨fun c => (h c).2,
      Idealize.ShloMosaic.sem_eq_zero_of_no_sems (by decide) r.2⟩)
    (Cert.InWeightQReferenceIdeal.Value.run (F := Ideal) m ρ)
theorem algebraic_InWeightQ : Cert.algebraic_InWeightQIdeal_InWeightQReferenceIdeal := by
  intro m ρ m' ρ' _ hagree
  refine ⟨_, Cert.InWeightQIdeal.Value.run_blocks (F := Ideal) m ρ, (θ_run Cert.InWeightQReferenceIdeal.defs _ _).mono
    (fun _ h c => ⟨(h c).1.trans ?_, (h c).2⟩) (Cert.InWeightQReferenceIdeal.Value.run (F := Ideal) m' ρ')⟩
  rw [Cert.InWeightQIdeal.Value.final, (hagree c).1, (hagree c).2]
  exact Cert.InWeightQReferenceIdeal.Value.grad_eq _ _

theorem defs_InWeightV : Cert.InWeightV.defs (F := Bits) = Cert.InWeightVIdeal.defs (F := Bits) :=
  congrArg (Pipeline.defs _) (congrArg Defs.onTc (funext fun l => funext fun x => match l, x with
    | 0, _ => rfl))
theorem frame_InWeightV : Cert.quiescent_InWeightV := fun m ρ _ => by
  rw [defs_InWeightV]
  exact Cert.InWeightVIdeal.Gen.frame (F := Bits) m ρ
theorem frame_InWeightVIdeal : Cert.quiescent_InWeightVIdeal := fun m ρ _ => Cert.InWeightVIdeal.Gen.frame m ρ
theorem frame_InWeightVReferenceIdeal : Cert.quiescent_InWeightVReferenceIdeal := fun m ρ _ =>
  (θ_run Cert.InWeightVReferenceIdeal.defs _ _).mono (fun r h => ⟨fun c => (h c).2,
      Idealize.ShloMosaic.sem_eq_zero_of_no_sems (by decide) r.2⟩)
    (Cert.InWeightVReferenceIdeal.Value.run (F := Ideal) m ρ)
theorem algebraic_InWeightV : Cert.algebraic_InWeightVIdeal_InWeightVReferenceIdeal := by
  intro m ρ m' ρ' _ hagree
  refine ⟨_, Cert.InWeightVIdeal.Value.run_blocks (F := Ideal) m ρ, (θ_run Cert.InWeightVReferenceIdeal.defs _ _).mono
    (fun _ h c => ⟨(h c).1.trans ?_, (h c).2⟩) (Cert.InWeightVReferenceIdeal.Value.run (F := Ideal) m' ρ')⟩
  rw [Cert.InWeightVIdeal.Value.final, (hagree c).1, (hagree c).2]
  exact Cert.InWeightVReferenceIdeal.Value.grad_eq _ _

theorem defs_InWeightF : Cert.InWeightF.defs (F := Bits) = Cert.InWeightFIdeal.defs (F := Bits) :=
  congrArg (Pipeline.defs _) (congrArg Defs.onTc (funext fun l => funext fun x => match l, x with
    | 0, _ => rfl))
theorem frame_InWeightF : Cert.quiescent_InWeightF := fun m ρ _ => by
  rw [defs_InWeightF]
  exact Cert.InWeightFIdeal.Gen.frame (F := Bits) m ρ
theorem frame_InWeightFIdeal : Cert.quiescent_InWeightFIdeal := fun m ρ _ => Cert.InWeightFIdeal.Gen.frame m ρ
theorem frame_InWeightFReferenceIdeal : Cert.quiescent_InWeightFReferenceIdeal := fun m ρ _ =>
  (θ_run Cert.InWeightFReferenceIdeal.defs _ _).mono (fun r h => ⟨fun c => (h c).2,
      Idealize.ShloMosaic.sem_eq_zero_of_no_sems (by decide) r.2⟩)
    (Cert.InWeightFReferenceIdeal.Value.run (F := Ideal) m ρ)
theorem algebraic_InWeightF : Cert.algebraic_InWeightFIdeal_InWeightFReferenceIdeal := by
  intro m ρ m' ρ' _ hagree
  refine ⟨_, Cert.InWeightFIdeal.Value.run_blocks (F := Ideal) m ρ, (θ_run Cert.InWeightFReferenceIdeal.defs _ _).mono
    (fun _ h c => ⟨(h c).1.trans ?_, (h c).2⟩) (Cert.InWeightFReferenceIdeal.Value.run (F := Ideal) m' ρ')⟩
  rw [Cert.InWeightFIdeal.Value.final, (hagree c).1, (hagree c).2]
  exact Cert.InWeightFReferenceIdeal.Value.grad_eq _ _

theorem defs_InWeightI : Cert.InWeightI.defs (F := Bits) = Cert.InWeightIIdeal.defs (F := Bits) :=
  congrArg (Pipeline.defs _) (congrArg Defs.onTc (funext fun l => funext fun x => match l, x with
    | 0, _ => rfl))
theorem frame_InWeightI : Cert.quiescent_InWeightI := fun m ρ _ => by
  rw [defs_InWeightI]
  exact Cert.InWeightIIdeal.Gen.frame (F := Bits) m ρ
theorem frame_InWeightIIdeal : Cert.quiescent_InWeightIIdeal := fun m ρ _ => Cert.InWeightIIdeal.Gen.frame m ρ
theorem frame_InWeightIReferenceIdeal : Cert.quiescent_InWeightIReferenceIdeal := fun m ρ _ =>
  (θ_run Cert.InWeightIReferenceIdeal.defs _ _).mono (fun r h => ⟨fun c => (h c).2,
      Idealize.ShloMosaic.sem_eq_zero_of_no_sems (by decide) r.2⟩)
    (Cert.InWeightIReferenceIdeal.Value.run (F := Ideal) m ρ)
theorem algebraic_InWeightI : Cert.algebraic_InWeightIIdeal_InWeightIReferenceIdeal := by
  intro m ρ m' ρ' _ hagree
  refine ⟨_, Cert.InWeightIIdeal.Value.run_blocks (F := Ideal) m ρ, (θ_run Cert.InWeightIReferenceIdeal.defs _ _).mono
    (fun _ h c => ⟨(h c).1.trans ?_, (h c).2⟩) (Cert.InWeightIReferenceIdeal.Value.run (F := Ideal) m' ρ')⟩
  rw [Cert.InWeightIIdeal.Value.final, (hagree c).1, (hagree c).2]
  exact Cert.InWeightIReferenceIdeal.Value.grad_eq _ _

theorem defs_InWeightX : Cert.InWeightX.defs (F := Bits) = Cert.InWeightXIdeal.defs (F := Bits) :=
  congrArg (Pipeline.defs _) (congrArg Defs.onTc (funext fun l => funext fun x => match l, x with
    | 0, _ => rfl))
theorem frame_InWeightX : Cert.quiescent_InWeightX := fun m ρ _ => by
  rw [defs_InWeightX]
  exact Cert.InWeightXIdeal.Gen.frame (F := Bits) m ρ
theorem frame_InWeightXIdeal : Cert.quiescent_InWeightXIdeal := fun m ρ _ => Cert.InWeightXIdeal.Gen.frame m ρ
theorem frame_InWeightXReferenceIdeal : Cert.quiescent_InWeightXReferenceIdeal := fun m ρ _ =>
  (θ_run Cert.InWeightXReferenceIdeal.defs _ _).mono (fun r h => ⟨fun c => (h c).2,
      Idealize.ShloMosaic.sem_eq_zero_of_no_sems (by decide) r.2⟩)
    (Cert.InWeightXReferenceIdeal.Value.run (F := Ideal) m ρ)
theorem algebraic_InWeightX : Cert.algebraic_InWeightXIdeal_InWeightXReferenceIdeal := by
  intro m ρ m' ρ' _ hagree
  refine ⟨_, Cert.InWeightXIdeal.Value.run_blocks (F := Ideal) m ρ, (θ_run Cert.InWeightXReferenceIdeal.defs _ _).mono
    (fun _ h c => ⟨(h c).1.trans ?_, (h c).2⟩) (Cert.InWeightXReferenceIdeal.Value.run (F := Ideal) m' ρ')⟩
  rw [Cert.InWeightXIdeal.Value.final, (hagree c).1, (hagree c).2]
  exact Cert.InWeightXReferenceIdeal.Value.grad_eq _ _

theorem defs_InWeightK : Cert.InWeightK.defs (F := Bits) = Cert.InWeightKIdeal.defs (F := Bits) :=
  congrArg (Pipeline.defs _) (congrArg Defs.onTc (funext fun l => funext fun x => match l, x with
    | 0, _ => rfl))
theorem frame_InWeightK : Cert.quiescent_InWeightK := fun m ρ _ => by
  rw [defs_InWeightK]
  exact Cert.InWeightKIdeal.Gen.frame (F := Bits) m ρ
theorem frame_InWeightKIdeal : Cert.quiescent_InWeightKIdeal := fun m ρ _ => Cert.InWeightKIdeal.Gen.frame m ρ
theorem frame_InWeightKReferenceIdeal : Cert.quiescent_InWeightKReferenceIdeal := fun m ρ _ =>
  (θ_run Cert.InWeightKReferenceIdeal.defs _ _).mono (fun r h => ⟨fun c => (h c).2,
      Idealize.ShloMosaic.sem_eq_zero_of_no_sems (by decide) r.2⟩)
    (Cert.InWeightKReferenceIdeal.Value.run (F := Ideal) m ρ)
theorem algebraic_InWeightK : Cert.algebraic_InWeightKIdeal_InWeightKReferenceIdeal := by
  intro m ρ m' ρ' _ hagree
  refine ⟨_, Cert.InWeightKIdeal.Value.run_blocks (F := Ideal) m ρ, (θ_run Cert.InWeightKReferenceIdeal.defs _ _).mono
    (fun _ h c => ⟨(h c).1.trans ?_, (h c).2⟩) (Cert.InWeightKReferenceIdeal.Value.run (F := Ideal) m' ρ')⟩
  rw [Cert.InWeightKIdeal.Value.final, (hagree c).1, (hagree c).2]
  exact Cert.InWeightKReferenceIdeal.Value.grad_eq _ _

theorem defs_InWeightO : Cert.InWeightO.defs (F := Bits) = Cert.InWeightOIdeal.defs (F := Bits) :=
  congrArg (Pipeline.defs _) (congrArg Defs.onTc (funext fun l => funext fun x => match l, x with
    | 0, _ => rfl))
theorem frame_InWeightO : Cert.quiescent_InWeightO := fun m ρ _ => by
  rw [defs_InWeightO]
  exact Cert.InWeightOIdeal.Gen.frame (F := Bits) m ρ
theorem frame_InWeightOIdeal : Cert.quiescent_InWeightOIdeal := fun m ρ _ => Cert.InWeightOIdeal.Gen.frame m ρ
theorem frame_InWeightOReferenceIdeal : Cert.quiescent_InWeightOReferenceIdeal := fun m ρ _ =>
  (θ_run Cert.InWeightOReferenceIdeal.defs _ _).mono (fun r h => ⟨fun c => (h c).2,
      Idealize.ShloMosaic.sem_eq_zero_of_no_sems (by decide) r.2⟩)
    (Cert.InWeightOReferenceIdeal.Value.run (F := Ideal) m ρ)
theorem algebraic_InWeightO : Cert.algebraic_InWeightOIdeal_InWeightOReferenceIdeal := by
  intro m ρ m' ρ' _ hagree
  refine ⟨_, Cert.InWeightOIdeal.Value.run_blocks (F := Ideal) m ρ, (θ_run Cert.InWeightOReferenceIdeal.defs _ _).mono
    (fun _ h c => ⟨(h c).1.trans ?_, (h c).2⟩) (Cert.InWeightOReferenceIdeal.Value.run (F := Ideal) m' ρ')⟩
  rw [Cert.InWeightOIdeal.Value.final, (hagree c).1, (hagree c).2]
  exact Cert.InWeightOReferenceIdeal.Value.grad_eq _ _

theorem defs_InWeightC : Cert.InWeightC.defs (F := Bits) = Cert.InWeightCIdeal.defs (F := Bits) :=
  congrArg (Pipeline.defs _) (congrArg Defs.onTc (funext fun l => funext fun x => match l, x with
    | 0, _ => rfl))
theorem frame_InWeightC : Cert.quiescent_InWeightC := fun m ρ _ => by
  rw [defs_InWeightC]
  exact Cert.InWeightCIdeal.Gen.frame (F := Bits) m ρ
theorem frame_InWeightCIdeal : Cert.quiescent_InWeightCIdeal := fun m ρ _ => Cert.InWeightCIdeal.Gen.frame m ρ
theorem frame_InWeightCReferenceIdeal : Cert.quiescent_InWeightCReferenceIdeal := fun m ρ _ =>
  (θ_run Cert.InWeightCReferenceIdeal.defs _ _).mono (fun r h => ⟨fun c => (h c).2,
      Idealize.ShloMosaic.sem_eq_zero_of_no_sems (by decide) r.2⟩)
    (Cert.InWeightCReferenceIdeal.Value.run (F := Ideal) m ρ)
theorem algebraic_InWeightC : Cert.algebraic_InWeightCIdeal_InWeightCReferenceIdeal := by
  intro m ρ m' ρ' _ hagree
  refine ⟨_, Cert.InWeightCIdeal.Value.run_blocks (F := Ideal) m ρ, (θ_run Cert.InWeightCReferenceIdeal.defs _ _).mono
    (fun _ h c => ⟨(h c).1.trans ?_, (h c).2⟩) (Cert.InWeightCReferenceIdeal.Value.run (F := Ideal) m' ρ')⟩
  rw [Cert.InWeightCIdeal.Value.final, (hagree c).1, (hagree c).2]
  exact Cert.InWeightCReferenceIdeal.Value.grad_eq _ _

theorem defs_OutA : Cert.OutA.defs (F := Bits) = Cert.OutAIdeal.defs (F := Bits) :=
  congrArg (Pipeline.defs _) (congrArg Defs.onTc (funext fun l => funext fun x => match l, x with
    | 0, _ => rfl))
theorem frame_OutA : Cert.quiescent_OutA := fun m ρ _ => by
  rw [defs_OutA]
  exact Cert.OutAIdeal.Gen.frame (F := Bits) m ρ
theorem frame_OutAIdeal : Cert.quiescent_OutAIdeal := fun m ρ _ => Cert.OutAIdeal.Gen.frame m ρ
theorem frame_OutAReferenceIdeal : Cert.quiescent_OutAReferenceIdeal := fun m ρ _ =>
  (θ_run Cert.OutAReferenceIdeal.defs _ _).mono (fun r h => ⟨fun c => (h c).2,
      Idealize.ShloMosaic.sem_eq_zero_of_no_sems (by decide) r.2⟩)
    (Cert.OutAReferenceIdeal.Value.run (F := Ideal) m ρ)
theorem algebraic_OutA : Cert.algebraic_OutAIdeal_OutAReferenceIdeal := by
  intro m ρ m' ρ' _ hagree
  refine ⟨_, Cert.OutAIdeal.Value.run_blocks (F := Ideal) m ρ, (θ_run Cert.OutAReferenceIdeal.defs _ _).mono
    (fun _ h c => ⟨(h c).1.trans ?_, (h c).2⟩) (Cert.OutAReferenceIdeal.Value.run (F := Ideal) m' ρ')⟩
  rw [Cert.OutAIdeal.Value.final, (hagree c).1, (hagree c).2.1, (hagree c).2.2.1, (hagree c).2.2.2.1,
    (hagree c).2.2.2.2]
  exact Cert.OutAReferenceIdeal.Value.prodAdd_eq _ _ _ _ _

theorem defs_OutB : Cert.OutB.defs (F := Bits) = Cert.OutBIdeal.defs (F := Bits) :=
  congrArg (Pipeline.defs _) (congrArg Defs.onTc (funext fun l => funext fun x => match l, x with
    | 0, _ => rfl))
theorem frame_OutB : Cert.quiescent_OutB := fun m ρ _ => by
  rw [defs_OutB]
  exact Cert.OutBIdeal.Gen.frame (F := Bits) m ρ
theorem frame_OutBIdeal : Cert.quiescent_OutBIdeal := fun m ρ _ => Cert.OutBIdeal.Gen.frame m ρ
theorem frame_OutBReferenceIdeal : Cert.quiescent_OutBReferenceIdeal := fun m ρ _ =>
  (θ_run Cert.OutBReferenceIdeal.defs _ _).mono (fun r h => ⟨fun c => (h c).2,
      Idealize.ShloMosaic.sem_eq_zero_of_no_sems (by decide) r.2⟩)
    (Cert.OutBReferenceIdeal.Value.run (F := Ideal) m ρ)
theorem algebraic_OutB : Cert.algebraic_OutBIdeal_OutBReferenceIdeal := by
  intro m ρ m' ρ' _ hagree
  refine ⟨_, Cert.OutBIdeal.Value.run_blocks (F := Ideal) m ρ, (θ_run Cert.OutBReferenceIdeal.defs _ _).mono
    (fun _ h c => ⟨(h c).1.trans ?_, (h c).2⟩) (Cert.OutBReferenceIdeal.Value.run (F := Ideal) m' ρ')⟩
  rw [Cert.OutBIdeal.Value.final, (hagree c).1, (hagree c).2.1, (hagree c).2.2.1, (hagree c).2.2.2.1,
    (hagree c).2.2.2.2]
  exact Cert.OutBReferenceIdeal.Value.prodAdd_eq _ _ _ _ _

theorem defs_OutC : Cert.OutC.defs (F := Bits) = Cert.OutCIdeal.defs (F := Bits) :=
  congrArg (Pipeline.defs _) (congrArg Defs.onTc (funext fun l => funext fun x => match l, x with
    | 0, _ => rfl))
theorem frame_OutC : Cert.quiescent_OutC := fun m ρ _ => by
  rw [defs_OutC]
  exact Cert.OutCIdeal.Gen.frame (F := Bits) m ρ
theorem frame_OutCIdeal : Cert.quiescent_OutCIdeal := fun m ρ _ => Cert.OutCIdeal.Gen.frame m ρ
theorem frame_OutCReferenceIdeal : Cert.quiescent_OutCReferenceIdeal := fun m ρ _ =>
  (θ_run Cert.OutCReferenceIdeal.defs _ _).mono (fun r h => ⟨fun c => (h c).2,
      Idealize.ShloMosaic.sem_eq_zero_of_no_sems (by decide) r.2⟩)
    (Cert.OutCReferenceIdeal.Value.run (F := Ideal) m ρ)
theorem algebraic_OutC : Cert.algebraic_OutCIdeal_OutCReferenceIdeal := by
  intro m ρ m' ρ' _ hagree
  refine ⟨_, Cert.OutCIdeal.Value.run_blocks (F := Ideal) m ρ, (θ_run Cert.OutCReferenceIdeal.defs _ _).mono
    (fun _ h c => ⟨(h c).1.trans ?_, (h c).2⟩) (Cert.OutCReferenceIdeal.Value.run (F := Ideal) m' ρ')⟩
  rw [Cert.OutCIdeal.Value.final, (hagree c).1, (hagree c).2.1, (hagree c).2.2.1, (hagree c).2.2.2.1,
    (hagree c).2.2.2.2]
  exact Cert.OutCReferenceIdeal.Value.prodAdd_eq _ _ _ _ _

theorem defs_OutD : Cert.OutD.defs (F := Bits) = Cert.OutDIdeal.defs (F := Bits) :=
  congrArg (Pipeline.defs _) (congrArg Defs.onTc (funext fun l => funext fun x => match l, x with
    | 0, _ => rfl))
theorem frame_OutD : Cert.quiescent_OutD := fun m ρ _ => by
  rw [defs_OutD]
  exact Cert.OutDIdeal.Gen.frame (F := Bits) m ρ
theorem frame_OutDIdeal : Cert.quiescent_OutDIdeal := fun m ρ _ => Cert.OutDIdeal.Gen.frame m ρ
theorem frame_OutDReferenceIdeal : Cert.quiescent_OutDReferenceIdeal := fun m ρ _ =>
  (θ_run Cert.OutDReferenceIdeal.defs _ _).mono (fun r h => ⟨fun c => (h c).2,
      Idealize.ShloMosaic.sem_eq_zero_of_no_sems (by decide) r.2⟩)
    (Cert.OutDReferenceIdeal.Value.run (F := Ideal) m ρ)
theorem algebraic_OutD : Cert.algebraic_OutDIdeal_OutDReferenceIdeal := by
  intro m ρ m' ρ' _ hagree
  refine ⟨_, Cert.OutDIdeal.Value.run_blocks (F := Ideal) m ρ, (θ_run Cert.OutDReferenceIdeal.defs _ _).mono
    (fun _ h c => ⟨(h c).1.trans ?_, (h c).2⟩) (Cert.OutDReferenceIdeal.Value.run (F := Ideal) m' ρ')⟩
  rw [Cert.OutDIdeal.Value.final, (hagree c).1, (hagree c).2.1, (hagree c).2.2.1, (hagree c).2.2.2.1,
    (hagree c).2.2.2.2]
  exact Cert.OutDReferenceIdeal.Value.prodAdd_eq _ _ _ _ _

theorem defs_OutActA : Cert.OutActA.defs (F := Bits) = Cert.OutActAIdeal.defs (F := Bits) :=
  congrArg (Pipeline.defs _) (congrArg Defs.onTc (funext fun l => funext fun x => match l, x with
    | 0, _ => rfl))
theorem frame_OutActA : Cert.quiescent_OutActA := fun m ρ _ => by
  rw [defs_OutActA]
  exact Cert.OutActAIdeal.Gen.frame (F := Bits) m ρ
theorem frame_OutActAIdeal : Cert.quiescent_OutActAIdeal := fun m ρ _ => Cert.OutActAIdeal.Gen.frame m ρ
theorem frame_OutActAReferenceIdeal : Cert.quiescent_OutActAReferenceIdeal := fun m ρ _ =>
  (θ_run Cert.OutActAReferenceIdeal.defs _ _).mono (fun r h => ⟨fun c => (h c).2,
      Idealize.ShloMosaic.sem_eq_zero_of_no_sems (by decide) r.2⟩)
    (Cert.OutActAReferenceIdeal.Value.run (F := Ideal) m ρ)
theorem algebraic_OutActA : Cert.algebraic_OutActAIdeal_OutActAReferenceIdeal := by
  intro m ρ m' ρ' _ hagree
  refine ⟨_, Cert.OutActAIdeal.Value.run_blocks (F := Ideal) m ρ, (θ_run Cert.OutActAReferenceIdeal.defs _ _).mono
    (fun _ h c => ⟨(h c).1.trans ?_, (h c).2⟩) (Cert.OutActAReferenceIdeal.Value.run (F := Ideal) m' ρ')⟩
  rw [Cert.OutActAIdeal.Value.final, (hagree c).1, (hagree c).2]
  exact Cert.OutActAReferenceIdeal.Value.grad_eq _ _

theorem defs_OutActB : Cert.OutActB.defs (F := Bits) = Cert.OutActBIdeal.defs (F := Bits) :=
  congrArg (Pipeline.defs _) (congrArg Defs.onTc (funext fun l => funext fun x => match l, x with
    | 0, _ => rfl))
theorem frame_OutActB : Cert.quiescent_OutActB := fun m ρ _ => by
  rw [defs_OutActB]
  exact Cert.OutActBIdeal.Gen.frame (F := Bits) m ρ
theorem frame_OutActBIdeal : Cert.quiescent_OutActBIdeal := fun m ρ _ => Cert.OutActBIdeal.Gen.frame m ρ
theorem frame_OutActBReferenceIdeal : Cert.quiescent_OutActBReferenceIdeal := fun m ρ _ =>
  (θ_run Cert.OutActBReferenceIdeal.defs _ _).mono (fun r h => ⟨fun c => (h c).2,
      Idealize.ShloMosaic.sem_eq_zero_of_no_sems (by decide) r.2⟩)
    (Cert.OutActBReferenceIdeal.Value.run (F := Ideal) m ρ)
theorem algebraic_OutActB : Cert.algebraic_OutActBIdeal_OutActBReferenceIdeal := by
  intro m ρ m' ρ' _ hagree
  refine ⟨_, Cert.OutActBIdeal.Value.run_blocks (F := Ideal) m ρ, (θ_run Cert.OutActBReferenceIdeal.defs _ _).mono
    (fun _ h c => ⟨(h c).1.trans ?_, (h c).2⟩) (Cert.OutActBReferenceIdeal.Value.run (F := Ideal) m' ρ')⟩
  rw [Cert.OutActBIdeal.Value.final, (hagree c).1, (hagree c).2]
  exact Cert.OutActBReferenceIdeal.Value.grad_eq _ _

theorem defs_OutActC : Cert.OutActC.defs (F := Bits) = Cert.OutActCIdeal.defs (F := Bits) :=
  congrArg (Pipeline.defs _) (congrArg Defs.onTc (funext fun l => funext fun x => match l, x with
    | 0, _ => rfl))
theorem frame_OutActC : Cert.quiescent_OutActC := fun m ρ _ => by
  rw [defs_OutActC]
  exact Cert.OutActCIdeal.Gen.frame (F := Bits) m ρ
theorem frame_OutActCIdeal : Cert.quiescent_OutActCIdeal := fun m ρ _ => Cert.OutActCIdeal.Gen.frame m ρ
theorem frame_OutActCReferenceIdeal : Cert.quiescent_OutActCReferenceIdeal := fun m ρ _ =>
  (θ_run Cert.OutActCReferenceIdeal.defs _ _).mono (fun r h => ⟨fun c => (h c).2,
      Idealize.ShloMosaic.sem_eq_zero_of_no_sems (by decide) r.2⟩)
    (Cert.OutActCReferenceIdeal.Value.run (F := Ideal) m ρ)
theorem algebraic_OutActC : Cert.algebraic_OutActCIdeal_OutActCReferenceIdeal := by
  intro m ρ m' ρ' _ hagree
  refine ⟨_, Cert.OutActCIdeal.Value.run_blocks (F := Ideal) m ρ, (θ_run Cert.OutActCReferenceIdeal.defs _ _).mono
    (fun _ h c => ⟨(h c).1.trans ?_, (h c).2⟩) (Cert.OutActCReferenceIdeal.Value.run (F := Ideal) m' ρ')⟩
  rw [Cert.OutActCIdeal.Value.final, (hagree c).1, (hagree c).2]
  exact Cert.OutActCReferenceIdeal.Value.grad_eq _ _

theorem defs_OutActD : Cert.OutActD.defs (F := Bits) = Cert.OutActDIdeal.defs (F := Bits) :=
  congrArg (Pipeline.defs _) (congrArg Defs.onTc (funext fun l => funext fun x => match l, x with
    | 0, _ => rfl))
theorem frame_OutActD : Cert.quiescent_OutActD := fun m ρ _ => by
  rw [defs_OutActD]
  exact Cert.OutActDIdeal.Gen.frame (F := Bits) m ρ
theorem frame_OutActDIdeal : Cert.quiescent_OutActDIdeal := fun m ρ _ => Cert.OutActDIdeal.Gen.frame m ρ
theorem frame_OutActDReferenceIdeal : Cert.quiescent_OutActDReferenceIdeal := fun m ρ _ =>
  (θ_run Cert.OutActDReferenceIdeal.defs _ _).mono (fun r h => ⟨fun c => (h c).2,
      Idealize.ShloMosaic.sem_eq_zero_of_no_sems (by decide) r.2⟩)
    (Cert.OutActDReferenceIdeal.Value.run (F := Ideal) m ρ)
theorem algebraic_OutActD : Cert.algebraic_OutActDIdeal_OutActDReferenceIdeal := by
  intro m ρ m' ρ' _ hagree
  refine ⟨_, Cert.OutActDIdeal.Value.run_blocks (F := Ideal) m ρ, (θ_run Cert.OutActDReferenceIdeal.defs _ _).mono
    (fun _ h c => ⟨(h c).1.trans ?_, (h c).2⟩) (Cert.OutActDReferenceIdeal.Value.run (F := Ideal) m' ρ')⟩
  rw [Cert.OutActDIdeal.Value.final, (hagree c).1, (hagree c).2]
  exact Cert.OutActDReferenceIdeal.Value.grad_eq _ _

theorem defs_OutWeightA : Cert.OutWeightA.defs (F := Bits) = Cert.OutWeightAIdeal.defs (F := Bits) :=
  congrArg (Pipeline.defs _) (congrArg Defs.onTc (funext fun l => funext fun x => match l, x with
    | 0, _ => rfl))
theorem frame_OutWeightA : Cert.quiescent_OutWeightA := fun m ρ _ => by
  rw [defs_OutWeightA]
  exact Cert.OutWeightAIdeal.Gen.frame (F := Bits) m ρ
theorem frame_OutWeightAIdeal : Cert.quiescent_OutWeightAIdeal := fun m ρ _ => Cert.OutWeightAIdeal.Gen.frame m ρ
theorem frame_OutWeightAReferenceIdeal : Cert.quiescent_OutWeightAReferenceIdeal := fun m ρ _ =>
  (θ_run Cert.OutWeightAReferenceIdeal.defs _ _).mono (fun r h => ⟨fun c => (h c).2,
      Idealize.ShloMosaic.sem_eq_zero_of_no_sems (by decide) r.2⟩)
    (Cert.OutWeightAReferenceIdeal.Value.run (F := Ideal) m ρ)
theorem algebraic_OutWeightA : Cert.algebraic_OutWeightAIdeal_OutWeightAReferenceIdeal := by
  intro m ρ m' ρ' _ hagree
  refine ⟨_, Cert.OutWeightAIdeal.Value.run_blocks (F := Ideal) m ρ, (θ_run Cert.OutWeightAReferenceIdeal.defs _ _).mono
    (fun _ h c => ⟨(h c).1.trans ?_, (h c).2⟩) (Cert.OutWeightAReferenceIdeal.Value.run (F := Ideal) m' ρ')⟩
  rw [Cert.OutWeightAIdeal.Value.final, (hagree c).1, (hagree c).2]
  exact Cert.OutWeightAReferenceIdeal.Value.grad_eq _ _

theorem defs_OutWeightB : Cert.OutWeightB.defs (F := Bits) = Cert.OutWeightBIdeal.defs (F := Bits) :=
  congrArg (Pipeline.defs _) (congrArg Defs.onTc (funext fun l => funext fun x => match l, x with
    | 0, _ => rfl))
theorem frame_OutWeightB : Cert.quiescent_OutWeightB := fun m ρ _ => by
  rw [defs_OutWeightB]
  exact Cert.OutWeightBIdeal.Gen.frame (F := Bits) m ρ
theorem frame_OutWeightBIdeal : Cert.quiescent_OutWeightBIdeal := fun m ρ _ => Cert.OutWeightBIdeal.Gen.frame m ρ
theorem frame_OutWeightBReferenceIdeal : Cert.quiescent_OutWeightBReferenceIdeal := fun m ρ _ =>
  (θ_run Cert.OutWeightBReferenceIdeal.defs _ _).mono (fun r h => ⟨fun c => (h c).2,
      Idealize.ShloMosaic.sem_eq_zero_of_no_sems (by decide) r.2⟩)
    (Cert.OutWeightBReferenceIdeal.Value.run (F := Ideal) m ρ)
theorem algebraic_OutWeightB : Cert.algebraic_OutWeightBIdeal_OutWeightBReferenceIdeal := by
  intro m ρ m' ρ' _ hagree
  refine ⟨_, Cert.OutWeightBIdeal.Value.run_blocks (F := Ideal) m ρ, (θ_run Cert.OutWeightBReferenceIdeal.defs _ _).mono
    (fun _ h c => ⟨(h c).1.trans ?_, (h c).2⟩) (Cert.OutWeightBReferenceIdeal.Value.run (F := Ideal) m' ρ')⟩
  rw [Cert.OutWeightBIdeal.Value.final, (hagree c).1, (hagree c).2]
  exact Cert.OutWeightBReferenceIdeal.Value.grad_eq _ _

theorem defs_OutWeightC : Cert.OutWeightC.defs (F := Bits) = Cert.OutWeightCIdeal.defs (F := Bits) :=
  congrArg (Pipeline.defs _) (congrArg Defs.onTc (funext fun l => funext fun x => match l, x with
    | 0, _ => rfl))
theorem frame_OutWeightC : Cert.quiescent_OutWeightC := fun m ρ _ => by
  rw [defs_OutWeightC]
  exact Cert.OutWeightCIdeal.Gen.frame (F := Bits) m ρ
theorem frame_OutWeightCIdeal : Cert.quiescent_OutWeightCIdeal := fun m ρ _ => Cert.OutWeightCIdeal.Gen.frame m ρ
theorem frame_OutWeightCReferenceIdeal : Cert.quiescent_OutWeightCReferenceIdeal := fun m ρ _ =>
  (θ_run Cert.OutWeightCReferenceIdeal.defs _ _).mono (fun r h => ⟨fun c => (h c).2,
      Idealize.ShloMosaic.sem_eq_zero_of_no_sems (by decide) r.2⟩)
    (Cert.OutWeightCReferenceIdeal.Value.run (F := Ideal) m ρ)
theorem algebraic_OutWeightC : Cert.algebraic_OutWeightCIdeal_OutWeightCReferenceIdeal := by
  intro m ρ m' ρ' _ hagree
  refine ⟨_, Cert.OutWeightCIdeal.Value.run_blocks (F := Ideal) m ρ, (θ_run Cert.OutWeightCReferenceIdeal.defs _ _).mono
    (fun _ h c => ⟨(h c).1.trans ?_, (h c).2⟩) (Cert.OutWeightCReferenceIdeal.Value.run (F := Ideal) m' ρ')⟩
  rw [Cert.OutWeightCIdeal.Value.final, (hagree c).1, (hagree c).2]
  exact Cert.OutWeightCReferenceIdeal.Value.grad_eq _ _

theorem defs_OutWeightD : Cert.OutWeightD.defs (F := Bits) = Cert.OutWeightDIdeal.defs (F := Bits) :=
  congrArg (Pipeline.defs _) (congrArg Defs.onTc (funext fun l => funext fun x => match l, x with
    | 0, _ => rfl))
theorem frame_OutWeightD : Cert.quiescent_OutWeightD := fun m ρ _ => by
  rw [defs_OutWeightD]
  exact Cert.OutWeightDIdeal.Gen.frame (F := Bits) m ρ
theorem frame_OutWeightDIdeal : Cert.quiescent_OutWeightDIdeal := fun m ρ _ => Cert.OutWeightDIdeal.Gen.frame m ρ
theorem frame_OutWeightDReferenceIdeal : Cert.quiescent_OutWeightDReferenceIdeal := fun m ρ _ =>
  (θ_run Cert.OutWeightDReferenceIdeal.defs _ _).mono (fun r h => ⟨fun c => (h c).2,
      Idealize.ShloMosaic.sem_eq_zero_of_no_sems (by decide) r.2⟩)
    (Cert.OutWeightDReferenceIdeal.Value.run (F := Ideal) m ρ)
theorem algebraic_OutWeightD : Cert.algebraic_OutWeightDIdeal_OutWeightDReferenceIdeal := by
  intro m ρ m' ρ' _ hagree
  refine ⟨_, Cert.OutWeightDIdeal.Value.run_blocks (F := Ideal) m ρ, (θ_run Cert.OutWeightDReferenceIdeal.defs _ _).mono
    (fun _ h c => ⟨(h c).1.trans ?_, (h c).2⟩) (Cert.OutWeightDReferenceIdeal.Value.run (F := Ideal) m' ρ')⟩
  rw [Cert.OutWeightDIdeal.Value.final, (hagree c).1, (hagree c).2]
  exact Cert.OutWeightDReferenceIdeal.Value.grad_eq _ _

theorem defs_NormGrad : Cert.NormGrad.defs (F := Bits) = Cert.NormGradIdeal.defs (F := Bits) :=
  congrArg (Pipeline.defs _) (congrArg Defs.onTc (funext fun l => funext fun x => match l, x with
    | 0, _ => rfl))
theorem frame_NormGrad : Cert.quiescent_NormGrad := fun m ρ _ => by
  rw [defs_NormGrad]
  exact Cert.NormGradIdeal.Gen.frame (F := Bits) m ρ
theorem frame_NormGradIdeal : Cert.quiescent_NormGradIdeal := fun m ρ _ => Cert.NormGradIdeal.Gen.frame m ρ
theorem frame_NormGradReferenceIdeal : Cert.quiescent_NormGradReferenceIdeal := fun m ρ _ =>
  (θ_run Cert.NormGradReferenceIdeal.defs _ _).mono (fun r h => ⟨fun c => (h c).2.2.2,
      Idealize.ShloMosaic.sem_eq_zero_of_no_sems (by decide) r.2⟩)
    (Cert.NormGradReferenceIdeal.Value.run (F := Ideal) m ρ)
theorem algebraic_NormGrad : Cert.algebraic_NormGradIdeal_NormGradReferenceIdeal := by
  intro m ρ m' ρ' _ hagree
  refine ⟨_, _, _, (θ_run Cert.NormGradIdeal.defs _ _).mono
    (fun _ h c => ⟨(h c).1, (h c).2.2.1, (h c).2.1, (h c).2.2.2⟩) (Cert.NormGradIdeal.Value.run_blocks (F := Ideal) m ρ),
    (θ_run Cert.NormGradReferenceIdeal.defs _ _).mono
    (fun _ h c => ⟨(h c).1.trans ?_, (h c).2.1.trans ?_, (h c).2.2.1.trans ?_, (h c).2.2.2⟩)
    (Cert.NormGradReferenceIdeal.Value.run (F := Ideal) m' ρ')⟩
  · rw [Cert.NormGradIdeal.Value.final_dx, (hagree c).1, (hagree c).2.1, (hagree c).2.2.1, (hagree c).2.2.2]
    exact Cert.NormGradReferenceIdeal.Value.dx_eq _ _ _ _
  · rw [Cert.NormGradIdeal.Value.final_dxb, (hagree c).1, (hagree c).2.1, (hagree c).2.2.1, (hagree c).2.2.2]
    exact Cert.NormGradReferenceIdeal.Value.dxb_eq _ _ _ _
  · rw [Cert.NormGradIdeal.Value.final_dg, (hagree c).1, (hagree c).2.2.1]
    exact Cert.NormGradReferenceIdeal.Value.dg_eq _ _

theorem defs_InWeightG : Cert.InWeightG.defs (F := Bits) = Cert.InWeightGIdeal.defs (F := Bits) :=
  congrArg (Pipeline.defs _) (congrArg Defs.onTc (funext fun l => funext fun x => match l, x with
    | 0, _ => rfl))
theorem frame_InWeightG : Cert.quiescent_InWeightG := fun m ρ _ => by
  rw [defs_InWeightG]
  exact Cert.InWeightGIdeal.Gen.frame (F := Bits) m ρ
theorem frame_InWeightGIdeal : Cert.quiescent_InWeightGIdeal := fun m ρ _ => Cert.InWeightGIdeal.Gen.frame m ρ
theorem frame_InWeightGReferenceIdeal : Cert.quiescent_InWeightGReferenceIdeal := fun m ρ _ =>
  (θ_run Cert.InWeightGReferenceIdeal.defs _ _).mono (fun r h => ⟨fun c => (h c).2,
      Idealize.ShloMosaic.sem_eq_zero_of_no_sems (by decide) r.2⟩)
    (Cert.InWeightGReferenceIdeal.Value.run (F := Ideal) m ρ)
theorem algebraic_InWeightG : Cert.algebraic_InWeightGIdeal_InWeightGReferenceIdeal := by
  intro m ρ m' ρ' _ hagree
  refine ⟨_, Cert.InWeightGIdeal.Value.run_blocks (F := Ideal) m ρ, (θ_run Cert.InWeightGReferenceIdeal.defs _ _).mono
    (fun _ h c => ⟨(h c).1.trans ?_, (h c).2⟩) (Cert.InWeightGReferenceIdeal.Value.run (F := Ideal) m' ρ')⟩
  rw [Cert.InWeightGIdeal.Value.final, (hagree c).1, (hagree c).2]
  exact Cert.InWeightGReferenceIdeal.Value.grad_eq _ _

theorem defs_InWeightT : Cert.InWeightT.defs (F := Bits) = Cert.InWeightTIdeal.defs (F := Bits) :=
  congrArg (Pipeline.defs _) (congrArg Defs.onTc (funext fun l => funext fun x => match l, x with
    | 0, _ => rfl))
theorem frame_InWeightT : Cert.quiescent_InWeightT := fun m ρ _ => by
  rw [defs_InWeightT]
  exact Cert.InWeightTIdeal.Gen.frame (F := Bits) m ρ
theorem frame_InWeightTIdeal : Cert.quiescent_InWeightTIdeal := fun m ρ _ => Cert.InWeightTIdeal.Gen.frame m ρ
theorem frame_InWeightTReferenceIdeal : Cert.quiescent_InWeightTReferenceIdeal := fun m ρ _ =>
  (θ_run Cert.InWeightTReferenceIdeal.defs _ _).mono (fun r h => ⟨fun c => (h c).2,
      Idealize.ShloMosaic.sem_eq_zero_of_no_sems (by decide) r.2⟩)
    (Cert.InWeightTReferenceIdeal.Value.run (F := Ideal) m ρ)
theorem algebraic_InWeightT : Cert.algebraic_InWeightTIdeal_InWeightTReferenceIdeal := by
  intro m ρ m' ρ' _ hagree
  refine ⟨_, Cert.InWeightTIdeal.Value.run_blocks (F := Ideal) m ρ, (θ_run Cert.InWeightTReferenceIdeal.defs _ _).mono
    (fun _ h c => ⟨(h c).1.trans ?_, (h c).2⟩) (Cert.InWeightTReferenceIdeal.Value.run (F := Ideal) m' ρ')⟩
  rw [Cert.InWeightTIdeal.Value.final, (hagree c).1, (hagree c).2]
  exact Cert.InWeightTReferenceIdeal.Value.grad_eq _ _

theorem defs_Mem : Cert.Mem.defs (F := Bits) = Cert.MemIdeal.defs (F := Bits) :=
  congrArg (Pipeline.defs _) (congrArg Defs.onTc (funext fun l => funext fun x => match l, x with
    | 0, _ => rfl))
theorem frame_Mem : Cert.quiescent_Mem := fun m ρ _ => by
  rw [defs_Mem]
  exact Cert.MemIdeal.Gen.frame (F := Bits) m ρ
theorem frame_MemIdeal : Cert.quiescent_MemIdeal := fun m ρ _ => Cert.MemIdeal.Gen.frame m ρ
theorem frame_MemReferenceIdeal : Cert.quiescent_MemReferenceIdeal := fun m ρ _ =>
  (θ_run Cert.MemReferenceIdeal.defs _ _).mono (fun r h => ⟨fun c => (h c).2,
      Idealize.ShloMosaic.sem_eq_zero_of_no_sems (by decide) r.2⟩)
    (Cert.MemReferenceIdeal.Value.run (F := Ideal) m ρ)
theorem algebraic_Mem : Cert.algebraic_MemIdeal_MemReferenceIdeal := by
  intro m ρ m' ρ' _ hagree
  refine ⟨_, Cert.MemIdeal.Value.run_blocks (F := Ideal) m ρ, (θ_run Cert.MemReferenceIdeal.defs _ _).mono
    (fun _ h c => ⟨(h c).1.trans ?_, (h c).2⟩) (Cert.MemReferenceIdeal.Value.run (F := Ideal) m' ρ')⟩
  rw [Cert.MemIdeal.Value.final, (hagree c).1, (hagree c).2]
  exact Cert.MemReferenceIdeal.Value.prod_eq _ _

theorem defs_MemAct : Cert.MemAct.defs (F := Bits) = Cert.MemActIdeal.defs (F := Bits) :=
  congrArg (Pipeline.defs _) (congrArg Defs.onTc (funext fun l => funext fun x => match l, x with
    | 0, _ => rfl))
theorem frame_MemAct : Cert.quiescent_MemAct := fun m ρ _ => by
  rw [defs_MemAct]
  exact Cert.MemActIdeal.Gen.frame (F := Bits) m ρ
theorem frame_MemActIdeal : Cert.quiescent_MemActIdeal := fun m ρ _ => Cert.MemActIdeal.Gen.frame m ρ
theorem frame_MemActReferenceIdeal : Cert.quiescent_MemActReferenceIdeal := fun m ρ _ =>
  (θ_run Cert.MemActReferenceIdeal.defs _ _).mono (fun r h => ⟨fun c => (h c).2,
      Idealize.ShloMosaic.sem_eq_zero_of_no_sems (by decide) r.2⟩)
    (Cert.MemActReferenceIdeal.Value.run (F := Ideal) m ρ)
theorem algebraic_MemAct : Cert.algebraic_MemActIdeal_MemActReferenceIdeal := by
  intro m ρ m' ρ' _ hagree
  refine ⟨_, Cert.MemActIdeal.Value.run_blocks (F := Ideal) m ρ, (θ_run Cert.MemActReferenceIdeal.defs _ _).mono
    (fun _ h c => ⟨(h c).1.trans ?_, (h c).2⟩) (Cert.MemActReferenceIdeal.Value.run (F := Ideal) m' ρ')⟩
  rw [Cert.MemActIdeal.Value.final, (hagree c).1, (hagree c).2.1, (hagree c).2.2]
  exact Cert.MemActReferenceIdeal.Value.prodAdd_eq _ _ _

theorem defs_MemWeight : Cert.MemWeight.defs (F := Bits) = Cert.MemWeightIdeal.defs (F := Bits) :=
  congrArg (Pipeline.defs _) (congrArg Defs.onTc (funext fun l => funext fun x => match l, x with
    | 0, _ => rfl))
theorem frame_MemWeight : Cert.quiescent_MemWeight := fun m ρ _ => by
  rw [defs_MemWeight]
  exact Cert.MemWeightIdeal.Gen.frame (F := Bits) m ρ
theorem frame_MemWeightIdeal : Cert.quiescent_MemWeightIdeal := fun m ρ _ => Cert.MemWeightIdeal.Gen.frame m ρ
theorem frame_MemWeightReferenceIdeal : Cert.quiescent_MemWeightReferenceIdeal := fun m ρ _ =>
  (θ_run Cert.MemWeightReferenceIdeal.defs _ _).mono (fun r h => ⟨fun c => (h c).2,
      Idealize.ShloMosaic.sem_eq_zero_of_no_sems (by decide) r.2⟩)
    (Cert.MemWeightReferenceIdeal.Value.run (F := Ideal) m ρ)
theorem algebraic_MemWeight : Cert.algebraic_MemWeightIdeal_MemWeightReferenceIdeal := by
  intro m ρ m' ρ' _ hagree
  refine ⟨_, Cert.MemWeightIdeal.Value.run_blocks (F := Ideal) m ρ, (θ_run Cert.MemWeightReferenceIdeal.defs _ _).mono
    (fun _ h c => ⟨(h c).1.trans ?_, (h c).2⟩) (Cert.MemWeightReferenceIdeal.Value.run (F := Ideal) m' ρ')⟩
  rw [Cert.MemWeightIdeal.Value.final, (hagree c).1, (hagree c).2]
  exact Cert.MemWeightReferenceIdeal.Value.grad_eq _ _

theorem claim : Cert.Claim :=
  ⟨Cert.Kernel.Gen.facts, Cert.KernelIdeal.Gen.facts, Cert.ReferenceIdeal.Gen.facts, Cert.DownAct.Gen.facts,
  Cert.DownActIdeal.Gen.facts, Cert.DownActReferenceIdeal.Gen.facts, Cert.DownWeight.Gen.facts,
  Cert.DownWeightIdeal.Gen.facts, Cert.DownWeightReferenceIdeal.Gen.facts, Cert.UpAct.Gen.facts,
  Cert.UpActIdeal.Gen.facts, Cert.UpActReferenceIdeal.Gen.facts, Cert.UpGate.Gen.facts, Cert.UpGateIdeal.Gen.facts,
  Cert.UpGateReferenceIdeal.Gen.facts, Cert.UpValue.Gen.facts, Cert.UpValueIdeal.Gen.facts,
  Cert.UpValueReferenceIdeal.Gen.facts, Cert.Up.Gen.facts, Cert.UpIdeal.Gen.facts, Cert.UpReferenceIdeal.Gen.facts,
  Cert.Down.Gen.facts, Cert.DownIdeal.Gen.facts, Cert.DownReferenceIdeal.Gen.facts, Cert.InA.Gen.facts,
  Cert.InAIdeal.Gen.facts, Cert.InAReferenceIdeal.Gen.facts, Cert.InB.Gen.facts, Cert.InBIdeal.Gen.facts,
  Cert.InBReferenceIdeal.Gen.facts, Cert.InC.Gen.facts, Cert.InCIdeal.Gen.facts, Cert.InCReferenceIdeal.Gen.facts,
  Cert.InD.Gen.facts, Cert.InDIdeal.Gen.facts, Cert.InDReferenceIdeal.Gen.facts, Cert.InActA.Gen.facts,
  Cert.InActAIdeal.Gen.facts, Cert.InActAReferenceIdeal.Gen.facts, Cert.InActB.Gen.facts, Cert.InActBIdeal.Gen.facts,
  Cert.InActBReferenceIdeal.Gen.facts, Cert.InActC.Gen.facts, Cert.InActCIdeal.Gen.facts,
  Cert.InActCReferenceIdeal.Gen.facts, Cert.InActD.Gen.facts, Cert.InActDIdeal.Gen.facts,
  Cert.InActDReferenceIdeal.Gen.facts, Cert.InWeightQ.Gen.facts, Cert.InWeightQIdeal.Gen.facts,
  Cert.InWeightQReferenceIdeal.Gen.facts, Cert.InWeightV.Gen.facts, Cert.InWeightVIdeal.Gen.facts,
  Cert.InWeightVReferenceIdeal.Gen.facts, Cert.InWeightF.Gen.facts, Cert.InWeightFIdeal.Gen.facts,
  Cert.InWeightFReferenceIdeal.Gen.facts, Cert.InWeightI.Gen.facts, Cert.InWeightIIdeal.Gen.facts,
  Cert.InWeightIReferenceIdeal.Gen.facts, Cert.InWeightX.Gen.facts, Cert.InWeightXIdeal.Gen.facts,
  Cert.InWeightXReferenceIdeal.Gen.facts, Cert.InWeightK.Gen.facts, Cert.InWeightKIdeal.Gen.facts,
  Cert.InWeightKReferenceIdeal.Gen.facts, Cert.InWeightO.Gen.facts, Cert.InWeightOIdeal.Gen.facts,
  Cert.InWeightOReferenceIdeal.Gen.facts, Cert.InWeightC.Gen.facts, Cert.InWeightCIdeal.Gen.facts,
  Cert.InWeightCReferenceIdeal.Gen.facts, Cert.OutA.Gen.facts, Cert.OutAIdeal.Gen.facts,
  Cert.OutAReferenceIdeal.Gen.facts, Cert.OutB.Gen.facts, Cert.OutBIdeal.Gen.facts, Cert.OutBReferenceIdeal.Gen.facts,
  Cert.OutC.Gen.facts, Cert.OutCIdeal.Gen.facts, Cert.OutCReferenceIdeal.Gen.facts, Cert.OutD.Gen.facts,
  Cert.OutDIdeal.Gen.facts, Cert.OutDReferenceIdeal.Gen.facts, Cert.OutActA.Gen.facts, Cert.OutActAIdeal.Gen.facts,
  Cert.OutActAReferenceIdeal.Gen.facts, Cert.OutActB.Gen.facts, Cert.OutActBIdeal.Gen.facts,
  Cert.OutActBReferenceIdeal.Gen.facts, Cert.OutActC.Gen.facts, Cert.OutActCIdeal.Gen.facts,
  Cert.OutActCReferenceIdeal.Gen.facts, Cert.OutActD.Gen.facts, Cert.OutActDIdeal.Gen.facts,
  Cert.OutActDReferenceIdeal.Gen.facts, Cert.OutWeightA.Gen.facts, Cert.OutWeightAIdeal.Gen.facts,
  Cert.OutWeightAReferenceIdeal.Gen.facts, Cert.OutWeightB.Gen.facts, Cert.OutWeightBIdeal.Gen.facts,
  Cert.OutWeightBReferenceIdeal.Gen.facts, Cert.OutWeightC.Gen.facts, Cert.OutWeightCIdeal.Gen.facts,
  Cert.OutWeightCReferenceIdeal.Gen.facts, Cert.OutWeightD.Gen.facts, Cert.OutWeightDIdeal.Gen.facts,
  Cert.OutWeightDReferenceIdeal.Gen.facts, Cert.NormGrad.Gen.facts, Cert.NormGradIdeal.Gen.facts,
  Cert.NormGradReferenceIdeal.Gen.facts, Cert.InWeightG.Gen.facts, Cert.InWeightGIdeal.Gen.facts,
  Cert.InWeightGReferenceIdeal.Gen.facts, Cert.InWeightT.Gen.facts, Cert.InWeightTIdeal.Gen.facts,
  Cert.InWeightTReferenceIdeal.Gen.facts, Cert.Mem.Gen.facts, Cert.MemIdeal.Gen.facts,
  Cert.MemReferenceIdeal.Gen.facts, Cert.MemAct.Gen.facts, Cert.MemActIdeal.Gen.facts,
  Cert.MemActReferenceIdeal.Gen.facts, Cert.MemWeight.Gen.facts, Cert.MemWeightIdeal.Gen.facts,
  Cert.MemWeightReferenceIdeal.Gen.facts,
  frame_p, frame_pi, frame_ri, frame_DownAct, frame_DownActIdeal, frame_DownActReferenceIdeal, frame_DownWeight,
  frame_DownWeightIdeal, frame_DownWeightReferenceIdeal, frame_UpAct, frame_UpActIdeal, frame_UpActReferenceIdeal,
  frame_UpGate, frame_UpGateIdeal, frame_UpGateReferenceIdeal, frame_UpValue, frame_UpValueIdeal,
  frame_UpValueReferenceIdeal, frame_Up, frame_UpIdeal, frame_UpReferenceIdeal, frame_Down, frame_DownIdeal,
  frame_DownReferenceIdeal, frame_InA, frame_InAIdeal, frame_InAReferenceIdeal, frame_InB, frame_InBIdeal,
  frame_InBReferenceIdeal, frame_InC, frame_InCIdeal, frame_InCReferenceIdeal, frame_InD, frame_InDIdeal,
  frame_InDReferenceIdeal, frame_InActA, frame_InActAIdeal, frame_InActAReferenceIdeal, frame_InActB,
  frame_InActBIdeal, frame_InActBReferenceIdeal, frame_InActC, frame_InActCIdeal, frame_InActCReferenceIdeal,
  frame_InActD, frame_InActDIdeal, frame_InActDReferenceIdeal, frame_InWeightQ, frame_InWeightQIdeal,
  frame_InWeightQReferenceIdeal, frame_InWeightV, frame_InWeightVIdeal, frame_InWeightVReferenceIdeal,
  frame_InWeightF, frame_InWeightFIdeal, frame_InWeightFReferenceIdeal, frame_InWeightI, frame_InWeightIIdeal,
  frame_InWeightIReferenceIdeal, frame_InWeightX, frame_InWeightXIdeal, frame_InWeightXReferenceIdeal,
  frame_InWeightK, frame_InWeightKIdeal, frame_InWeightKReferenceIdeal, frame_InWeightO, frame_InWeightOIdeal,
  frame_InWeightOReferenceIdeal, frame_InWeightC, frame_InWeightCIdeal, frame_InWeightCReferenceIdeal, frame_OutA,
  frame_OutAIdeal, frame_OutAReferenceIdeal, frame_OutB, frame_OutBIdeal, frame_OutBReferenceIdeal, frame_OutC,
  frame_OutCIdeal, frame_OutCReferenceIdeal, frame_OutD, frame_OutDIdeal, frame_OutDReferenceIdeal, frame_OutActA,
  frame_OutActAIdeal, frame_OutActAReferenceIdeal, frame_OutActB, frame_OutActBIdeal, frame_OutActBReferenceIdeal,
  frame_OutActC, frame_OutActCIdeal, frame_OutActCReferenceIdeal, frame_OutActD, frame_OutActDIdeal,
  frame_OutActDReferenceIdeal, frame_OutWeightA, frame_OutWeightAIdeal, frame_OutWeightAReferenceIdeal,
  frame_OutWeightB, frame_OutWeightBIdeal, frame_OutWeightBReferenceIdeal, frame_OutWeightC, frame_OutWeightCIdeal,
  frame_OutWeightCReferenceIdeal, frame_OutWeightD, frame_OutWeightDIdeal, frame_OutWeightDReferenceIdeal,
  frame_NormGrad, frame_NormGradIdeal, frame_NormGradReferenceIdeal, frame_InWeightG, frame_InWeightGIdeal,
  frame_InWeightGReferenceIdeal, frame_InWeightT, frame_InWeightTIdeal, frame_InWeightTReferenceIdeal, frame_Mem,
  frame_MemIdeal, frame_MemReferenceIdeal, frame_MemAct, frame_MemActIdeal, frame_MemActReferenceIdeal,
  frame_MemWeight, frame_MemWeightIdeal, frame_MemWeightReferenceIdeal,
  preserves, algebraic, trivial, algebraic_DownAct, trivial, algebraic_DownWeight, trivial, algebraic_UpAct, trivial,
  algebraic_UpGate, trivial, algebraic_UpValue, trivial, algebraic_Up, trivial, algebraic_Down, trivial,
  algebraic_InA, trivial, algebraic_InB, trivial, algebraic_InC, trivial, algebraic_InD, trivial, algebraic_InActA,
  trivial, algebraic_InActB, trivial, algebraic_InActC, trivial, algebraic_InActD, trivial, algebraic_InWeightQ,
  trivial, algebraic_InWeightV, trivial, algebraic_InWeightF, trivial, algebraic_InWeightI, trivial,
  algebraic_InWeightX, trivial, algebraic_InWeightK, trivial, algebraic_InWeightO, trivial, algebraic_InWeightC,
  trivial, algebraic_OutA, trivial, algebraic_OutB, trivial, algebraic_OutC, trivial, algebraic_OutD, trivial,
  algebraic_OutActA, trivial, algebraic_OutActB, trivial, algebraic_OutActC, trivial, algebraic_OutActD, trivial,
  algebraic_OutWeightA, trivial, algebraic_OutWeightB, trivial, algebraic_OutWeightC, trivial, algebraic_OutWeightD,
  trivial, algebraic_NormGrad, trivial, algebraic_InWeightG, trivial, algebraic_InWeightT, trivial, algebraic_Mem,
  trivial, algebraic_MemAct, trivial, algebraic_MemWeight⟩

end Cert.Proof

end
